-- ==== Defs.lean ====
def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5))).1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5))).2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5))).2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5))).2.2.2 = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5))).1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5))).2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5))).2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5))).2.2.2 = (fun _ => 1#1)

def Pre_Norm3 (m : (ℓ : Loc Cert.Norm3.nD Cert.Norm3.τ Cert.Norm3.sig) → Buf (Elt Bits) ℓ) : Prop :=
  True

def Pre_Norm3Ideal (m : (ℓ : Loc Cert.Norm3Ideal.nD Cert.Norm3Ideal.τ Cert.Norm3Ideal.sig) → Buf (Elt Ideal) ℓ) : Prop :=
  True

def Pre_Norm3Ideal_norm3_finite [hPre_norm3_finite : Cert.Pre_norm3_finite.Facts] (m : (ℓ : Loc Cert.Norm3Ideal.nD Cert.Norm3Ideal.τ Cert.Norm3Ideal.sig) → Buf (Elt Ideal) ℓ) : Prop :=
  ∀ c : Dev Cert.Norm3Ideal.nD,
    (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.2.1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.2.2.1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.2.2.2.1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.2.2.2.2.1 = (fun _ => 1#1)
    ∧ (Cert.Pre_norm3_finite.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3)) (m ((c.tc : Thread Cert.Norm3Ideal.nD Cert.Norm3Ideal.τ).loc Cert.Norm3Ideal.main_arg4)) (m ((c.tc : Thread Cert.Norm3Ideal.nD Cert.Norm3Ideal.τ).loc Cert.Norm3Ideal.main_arg5)) (m ((c.tc : Thread Cert.Norm3Ideal.nD Cert.Norm3Ideal.τ).loc Cert.Norm3Ideal.main_arg6)) (m ((c.tc : Thread Cert.Norm3Ideal.nD Cert.Norm3Ideal.τ).loc Cert.Norm3Ideal.main_arg7))).2.2.2.2.2.2 = (fun _ => 1#1)

def Pre_Norm3RefIdeal (m : (ℓ : Loc Cert.Norm3RefIdeal.nD Cert.Norm3RefIdeal.τ Cert.Norm3RefIdeal.sig) → Buf (Elt Ideal) ℓ) : Prop :=
  True

def Pre_Norm3RefIdeal_norm3_finite [hPre_norm3_finite : Cert.Pre_norm3_finite.Facts] (m : (ℓ : Loc Cert.Norm3RefIdeal.nD Cert.Norm3RefIdeal.τ Cert.Norm3RefIdeal.sig) → Buf (Elt Ideal) ℓ) : Prop :=
  ∀ c : Dev Cert.Norm3RefIdeal.nD,
    (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.2.1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.2.2.1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.2.2.2.1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.2.2.2.2.1 = (fun _ => 1#1)
    ∧ (Cert.Pre_norm3_finite.fn (F := Ideal) (m ((c.tc : Thread Cert.Norm3RefIdeal.nD Cert.Norm3RefIdeal.τ).loc Cert.Norm3RefIdeal.main_arg0)) (m ((c.tc : Thread Cert.Norm3RefIdeal.nD Cert.Norm3RefIdeal.τ).loc Cert.Norm3RefIdeal.main_arg1)) (m ((c.tc : Thread Cert.Norm3RefIdeal.nD Cert.Norm3RefIdeal.τ).loc Cert.Norm3RefIdeal.main_arg2)) (m ((c.tc : Thread Cert.Norm3RefIdeal.nD Cert.Norm3RefIdeal.τ).loc Cert.Norm3RefIdeal.main_arg3)) (m ((c.tc : Thread Cert.Norm3RefIdeal.nD Cert.Norm3RefIdeal.τ).loc Cert.Norm3RefIdeal.main_arg4)) (m ((c.tc : Thread Cert.Norm3RefIdeal.nD Cert.Norm3RefIdeal.τ).loc Cert.Norm3RefIdeal.main_arg5)) (m ((c.tc : Thread Cert.Norm3RefIdeal.nD Cert.Norm3RefIdeal.τ).loc Cert.Norm3RefIdeal.main_arg6)) (m ((c.tc : Thread Cert.Norm3RefIdeal.nD Cert.Norm3RefIdeal.τ).loc Cert.Norm3RefIdeal.main_arg7))).2.2.2.2.2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_norm2_finite [hPre_norm2_finite : Cert.Pre_norm2_finite.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.2.2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)) (m ((c.tc : Thread Cert.Norm2Ideal.nD Cert.Norm2Ideal.τ).loc Cert.Norm2Ideal.main_arg6)) (m ((c.tc : Thread Cert.Norm2Ideal.nD Cert.Norm2Ideal.τ).loc Cert.Norm2Ideal.main_arg7))).2.2.2.2.2.2 = (fun _ => 1#1)

def Pre_Norm2RefIdeal (m : (ℓ : Loc Cert.Norm2RefIdeal.nD Cert.Norm2RefIdeal.τ Cert.Norm2RefIdeal.sig) → Buf (Elt Ideal) ℓ) : Prop :=
  True

def Pre_Norm2RefIdeal_norm2_finite [hPre_norm2_finite : Cert.Pre_norm2_finite.Facts] (m : (ℓ : Loc Cert.Norm2RefIdeal.nD Cert.Norm2RefIdeal.τ Cert.Norm2RefIdeal.sig) → Buf (Elt Ideal) ℓ) : Prop :=
  ∀ c : Dev Cert.Norm2RefIdeal.nD,
    (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.2.2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5)) (m ((c.tc : Thread Cert.Norm2RefIdeal.nD Cert.Norm2RefIdeal.τ).loc Cert.Norm2RefIdeal.main_arg6)) (m ((c.tc : Thread Cert.Norm2RefIdeal.nD Cert.Norm2RefIdeal.τ).loc Cert.Norm2RefIdeal.main_arg7))).2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnfwd_finite [hPre_attnfwd_finite : Cert.Pre_attnfwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_attnfwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnfwd_finite [hPre_attnfwd_finite : Cert.Pre_attnfwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_attnfwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sumgates (m : (ℓ : Loc Cert.Sumgates.nD Cert.Sumgates.τ Cert.Sumgates.sig) → Buf (Elt Bits) ℓ) : Prop :=
  True

def Pre_SumgatesIdeal (m : (ℓ : Loc Cert.SumgatesIdeal.nD Cert.SumgatesIdeal.τ Cert.SumgatesIdeal.sig) → Buf (Elt Ideal) ℓ) : Prop :=
  True

def Pre_SumgatesRefIdeal (m : (ℓ : Loc Cert.SumgatesRefIdeal.nD Cert.SumgatesRefIdeal.τ Cert.SumgatesRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5))
      ∧ r.2.sem = fun _ => 0)

def quiescent_Norm3 [hNorm3 : Cert.Norm3.Facts] : Prop :=
  ∀ (m : (ℓ : Loc Cert.Norm3.nD Cert.Norm3.τ Cert.Norm3.sig) → Buf (Elt Bits) ℓ) (g : Dev Cert.Norm3.nD → PrngReg), Pre_Norm3 m →
    θ_run (Cert.Norm3.defs (F := Bits)) (onTc (τ := Cert.Norm3.τ) (Cert.Norm3.main (F := Bits))) ⟨m, fun _ => 0, g⟩ (fun r => (∀ c : Dev Cert.Norm3.nD,
      r.2.mem ((c.tc : Thread Cert.Norm3.nD Cert.Norm3.τ).loc Cert.Norm3.main_arg0) = m ((c.tc : Thread Cert.Norm3.nD Cert.Norm3.τ).loc Cert.Norm3.main_arg0)
      ∧ r.2.mem ((c.tc : Thread Cert.Norm3.nD Cert.Norm3.τ).loc Cert.Norm3.main_arg1) = m ((c.tc : Thread Cert.Norm3.nD Cert.Norm3.τ).loc Cert.Norm3.main_arg1)
      ∧ r.2.mem ((c.tc : Thread Cert.Norm3.nD Cert.Norm3.τ).loc Cert.Norm3.main_arg2) = m ((c.tc : Thread Cert.Norm3.nD Cert.Norm3.τ).loc Cert.Norm3.main_arg2)
      ∧ r.2.mem ((c.tc : Thread Cert.Norm3.nD Cert.Norm3.τ).loc Cert.Norm3.main_arg3) = m ((c.tc : Thread Cert.Norm3.nD Cert.Norm3.τ).loc Cert.Norm3.main_arg3)
      ∧ r.2.mem ((c.tc : Thread Cert.Norm3.nD Cert.Norm3.τ).loc Cert.Norm3.main_arg4) = m ((c.tc : Thread Cert.Norm3.nD Cert.Norm3.τ).loc Cert.Norm3.main_arg4)
      ∧ r.2.mem ((c.tc : Thread Cert.Norm3.nD Cert.Norm3.τ).loc Cert.Norm3.main_arg5) = m ((c.tc : Thread Cert.Norm3.nD Cert.Norm3.τ).loc Cert.Norm3.main_arg5)
      ∧ r.2.mem ((c.tc : Thread Cert.Norm3.nD Cert.Norm3.τ).loc Cert.Norm3.main_arg6) = m ((c.tc : Thread Cert.Norm3.nD Cert.Norm3.τ).loc Cert.Norm3.main_arg6)
      ∧ r.2.mem ((c.tc : Thread Cert.Norm3.nD Cert.Norm3.τ).loc Cert.Norm3.main_arg7) = m ((c.tc : Thread Cert.Norm3.nD Cert.Norm3.τ).loc Cert.Norm3.main_arg7))
      ∧ r.2.sem = fun _ => 0)

def quiescent_Norm3Ideal [hNorm3Ideal : Cert.Norm3Ideal.Facts] : Prop :=
  ∀ (m : (ℓ : Loc Cert.Norm3Ideal.nD Cert.Norm3Ideal.τ Cert.Norm3Ideal.sig) → Buf (Elt Ideal) ℓ) (g : Dev Cert.Norm3Ideal.nD → PrngReg), Pre_Norm3Ideal m →
    θ_run (Cert.Norm3Ideal.defs (F := Ideal)) (onTc (τ := Cert.Norm3Ideal.τ) (Cert.Norm3Ideal.main (F := Ideal))) ⟨m, fun _ => 0, g⟩ (fun r => (∀ c : Dev Cert.Norm3Ideal.nD,
      r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
      ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
      ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
      ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3)
      ∧ r.2.mem ((c.tc : Thread Cert.Norm3Ideal.nD Cert.Norm3Ideal.τ).loc Cert.Norm3Ideal.main_arg4) = m ((c.tc : Thread Cert.Norm3Ideal.nD Cert.Norm3Ideal.τ).loc Cert.Norm3Ideal.main_arg4)
      ∧ r.2.mem ((c.tc : Thread Cert.Norm3Ideal.nD Cert.Norm3Ideal.τ).loc Cert.Norm3Ideal.main_arg5) = m ((c.tc : Thread Cert.Norm3Ideal.nD Cert.Norm3Ideal.τ).loc Cert.Norm3Ideal.main_arg5)
      ∧ r.2.mem ((c.tc : Thread Cert.Norm3Ideal.nD Cert.Norm3Ideal.τ).loc Cert.Norm3Ideal.main_arg6) = m ((c.tc : Thread Cert.Norm3Ideal.nD Cert.Norm3Ideal.τ).loc Cert.Norm3Ideal.main_arg6)
      ∧ r.2.mem ((c.tc : Thread Cert.Norm3Ideal.nD Cert.Norm3Ideal.τ).loc Cert.Norm3Ideal.main_arg7) = m ((c.tc : Thread Cert.Norm3Ideal.nD Cert.Norm3Ideal.τ).loc Cert.Norm3Ideal.main_arg7))
      ∧ r.2.sem = fun _ => 0)

def quiescent_Norm3Ideal_pre_norm3_finite [hNorm3Ideal : Cert.Norm3Ideal.Facts] [hPre_norm3_finite : Cert.Pre_norm3_finite.Facts] : Prop :=
  ∀ (m : (ℓ : Loc Cert.Norm3Ideal.nD Cert.Norm3Ideal.τ Cert.Norm3Ideal.sig) → Buf (Elt Ideal) ℓ) (g : Dev Cert.Norm3Ideal.nD → PrngReg), Pre_Norm3Ideal_norm3_finite m →
    θ_run (Cert.Norm3Ideal.defs (F := Ideal)) (onTc (τ := Cert.Norm3Ideal.τ) (Cert.Norm3Ideal.main (F := Ideal))) ⟨m, fun _ => 0, g⟩ (fun r => (∀ c : Dev Cert.Norm3Ideal.nD,
      r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
      ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
      ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
      ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3)
      ∧ r.2.mem ((c.tc : Thread Cert.Norm3Ideal.nD Cert.Norm3Ideal.τ).loc Cert.Norm3Ideal.main_arg4) = m ((c.tc : Thread Cert.Norm3Ideal.nD Cert.Norm3Ideal.τ).loc Cert.Norm3Ideal.main_arg4)
      ∧ r.2.mem ((c.tc : Thread Cert.Norm3Ideal.nD Cert.Norm3Ideal.τ).loc Cert.Norm3Ideal.main_arg5) = m ((c.tc : Thread Cert.Norm3Ideal.nD Cert.Norm3Ideal.τ).loc Cert.Norm3Ideal.main_arg5)
      ∧ r.2.mem ((c.tc : Thread Cert.Norm3Ideal.nD Cert.Norm3Ideal.τ).loc Cert.Norm3Ideal.main_arg6) = m ((c.tc : Thread Cert.Norm3Ideal.nD Cert.Norm3Ideal.τ).loc Cert.Norm3Ideal.main_arg6)
      ∧ r.2.mem ((c.tc : Thread Cert.Norm3Ideal.nD Cert.Norm3Ideal.τ).loc Cert.Norm3Ideal.main_arg7) = m ((c.tc : Thread Cert.Norm3Ideal.nD Cert.Norm3Ideal.τ).loc Cert.Norm3Ideal.main_arg7))
      ∧ r.2.sem = fun _ => 0)

def quiescent_Norm3RefIdeal [hNorm3RefIdeal : Cert.Norm3RefIdeal.Facts] : Prop :=
  ∀ (m : (ℓ : Loc Cert.Norm3RefIdeal.nD Cert.Norm3RefIdeal.τ Cert.Norm3RefIdeal.sig) → Buf (Elt Ideal) ℓ) (g : Dev Cert.Norm3RefIdeal.nD → PrngReg), Pre_Norm3RefIdeal m →
    θ_run (Cert.Norm3RefIdeal.defs (F := Ideal)) (onTc (τ := Cert.Norm3RefIdeal.τ) (Cert.Norm3RefIdeal.main (F := Ideal))) ⟨m, fun _ => 0, g⟩ (fun r => (∀ c : Dev Cert.Norm3RefIdeal.nD,
      r.2.mem ((c.tc : Thread Cert.Norm3RefIdeal.nD Cert.Norm3RefIdeal.τ).loc Cert.Norm3RefIdeal.main_arg0) = m ((c.tc : Thread Cert.Norm3RefIdeal.nD Cert.Norm3RefIdeal.τ).loc Cert.Norm3RefIdeal.main_arg0)
      ∧ r.2.mem ((c.tc : Thread Cert.Norm3RefIdeal.nD Cert.Norm3RefIdeal.τ).loc Cert.Norm3RefIdeal.main_arg1) = m ((c.tc : Thread Cert.Norm3RefIdeal.nD Cert.Norm3RefIdeal.τ).loc Cert.Norm3RefIdeal.main_arg1)
      ∧ r.2.mem ((c.tc : Thread Cert.Norm3RefIdeal.nD Cert.Norm3RefIdeal.τ).loc Cert.Norm3RefIdeal.main_arg2) = m ((c.tc : Thread Cert.Norm3RefIdeal.nD Cert.Norm3RefIdeal.τ).loc Cert.Norm3RefIdeal.main_arg2)
      ∧ r.2.mem ((c.tc : Thread Cert.Norm3RefIdeal.nD Cert.Norm3RefIdeal.τ).loc Cert.Norm3RefIdeal.main_arg3) = m ((c.tc : Thread Cert.Norm3RefIdeal.nD Cert.Norm3RefIdeal.τ).loc Cert.Norm3RefIdeal.main_arg3)
      ∧ r.2.mem ((c.tc : Thread Cert.Norm3RefIdeal.nD Cert.Norm3RefIdeal.τ).loc Cert.Norm3RefIdeal.main_arg4) = m ((c.tc : Thread Cert.Norm3RefIdeal.nD Cert.Norm3RefIdeal.τ).loc Cert.Norm3RefIdeal.main_arg4)
      ∧ r.2.mem ((c.tc : Thread Cert.Norm3RefIdeal.nD Cert.Norm3RefIdeal.τ).loc Cert.Norm3RefIdeal.main_arg5) = m ((c.tc : Thread Cert.Norm3RefIdeal.nD Cert.Norm3RefIdeal.τ).loc Cert.Norm3RefIdeal.main_arg5)
      ∧ r.2.mem ((c.tc : Thread Cert.Norm3RefIdeal.nD Cert.Norm3RefIdeal.τ).loc Cert.Norm3RefIdeal.main_arg6) = m ((c.tc : Thread Cert.Norm3RefIdeal.nD Cert.Norm3RefIdeal.τ).loc Cert.Norm3RefIdeal.main_arg6)
      ∧ r.2.mem ((c.tc : Thread Cert.Norm3RefIdeal.nD Cert.Norm3RefIdeal.τ).loc Cert.Norm3RefIdeal.main_arg7) = m ((c.tc : Thread Cert.Norm3RefIdeal.nD Cert.Norm3RefIdeal.τ).loc Cert.Norm3RefIdeal.main_arg7))
      ∧ r.2.sem = fun _ => 0)

def quiescent_Norm3RefIdeal_pre_norm3_finite [hNorm3RefIdeal : Cert.Norm3RefIdeal.Facts] [hPre_norm3_finite : Cert.Pre_norm3_finite.Facts] : Prop :=
  ∀ (m : (ℓ : Loc Cert.Norm3RefIdeal.nD Cert.Norm3RefIdeal.τ Cert.Norm3RefIdeal.sig) → Buf (Elt Ideal) ℓ) (g : Dev Cert.Norm3RefIdeal.nD → PrngReg), Pre_Norm3RefIdeal_norm3_finite m →
    θ_run (Cert.Norm3RefIdeal.defs (F := Ideal)) (onTc (τ := Cert.Norm3RefIdeal.τ) (Cert.Norm3RefIdeal.main (F := Ideal))) ⟨m, fun _ => 0, g⟩ (fun r => (∀ c : Dev Cert.Norm3RefIdeal.nD,
      r.2.mem ((c.tc : Thread Cert.Norm3RefIdeal.nD Cert.Norm3RefIdeal.τ).loc Cert.Norm3RefIdeal.main_arg0) = m ((c.tc : Thread Cert.Norm3RefIdeal.nD Cert.Norm3RefIdeal.τ).loc Cert.Norm3RefIdeal.main_arg0)
      ∧ r.2.mem ((c.tc : Thread Cert.Norm3RefIdeal.nD Cert.Norm3RefIdeal.τ).loc Cert.Norm3RefIdeal.main_arg1) = m ((c.tc : Thread Cert.Norm3RefIdeal.nD Cert.Norm3RefIdeal.τ).loc Cert.Norm3RefIdeal.main_arg1)
      ∧ r.2.mem ((c.tc : Thread Cert.Norm3RefIdeal.nD Cert.Norm3RefIdeal.τ).loc Cert.Norm3RefIdeal.main_arg2) = m ((c.tc : Thread Cert.Norm3RefIdeal.nD Cert.Norm3RefIdeal.τ).loc Cert.Norm3RefIdeal.main_arg2)
      ∧ r.2.mem ((c.tc : Thread Cert.Norm3RefIdeal.nD Cert.Norm3RefIdeal.τ).loc Cert.Norm3RefIdeal.main_arg3) = m ((c.tc : Thread Cert.Norm3RefIdeal.nD Cert.Norm3RefIdeal.τ).loc Cert.Norm3RefIdeal.main_arg3)
      ∧ r.2.mem ((c.tc : Thread Cert.Norm3RefIdeal.nD Cert.Norm3RefIdeal.τ).loc Cert.Norm3RefIdeal.main_arg4) = m ((c.tc : Thread Cert.Norm3RefIdeal.nD Cert.Norm3RefIdeal.τ).loc Cert.Norm3RefIdeal.main_arg4)
      ∧ r.2.mem ((c.tc : Thread Cert.Norm3RefIdeal.nD Cert.Norm3RefIdeal.τ).loc Cert.Norm3RefIdeal.main_arg5) = m ((c.tc : Thread Cert.Norm3RefIdeal.nD Cert.Norm3RefIdeal.τ).loc Cert.Norm3RefIdeal.main_arg5)
      ∧ r.2.mem ((c.tc : Thread Cert.Norm3RefIdeal.nD Cert.Norm3RefIdeal.τ).loc Cert.Norm3RefIdeal.main_arg6) = m ((c.tc : Thread Cert.Norm3RefIdeal.nD Cert.Norm3RefIdeal.τ).loc Cert.Norm3RefIdeal.main_arg6)
      ∧ r.2.mem ((c.tc : Thread Cert.Norm3RefIdeal.nD Cert.Norm3RefIdeal.τ).loc Cert.Norm3RefIdeal.main_arg7) = m ((c.tc : Thread Cert.Norm3RefIdeal.nD Cert.Norm3RefIdeal.τ).loc Cert.Norm3RefIdeal.main_arg7))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5)
      ∧ r.2.mem ((c.tc : Thread Cert.Norm2.nD Cert.Norm2.τ).loc Cert.Norm2.main_arg6) = m ((c.tc : Thread Cert.Norm2.nD Cert.Norm2.τ).loc Cert.Norm2.main_arg6)
      ∧ r.2.mem ((c.tc : Thread Cert.Norm2.nD Cert.Norm2.τ).loc Cert.Norm2.main_arg7) = m ((c.tc : Thread Cert.Norm2.nD Cert.Norm2.τ).loc Cert.Norm2.main_arg7))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5)
      ∧ r.2.mem ((c.tc : Thread Cert.Norm2Ideal.nD Cert.Norm2Ideal.τ).loc Cert.Norm2Ideal.main_arg6) = m ((c.tc : Thread Cert.Norm2Ideal.nD Cert.Norm2Ideal.τ).loc Cert.Norm2Ideal.main_arg6)
      ∧ r.2.mem ((c.tc : Thread Cert.Norm2Ideal.nD Cert.Norm2Ideal.τ).loc Cert.Norm2Ideal.main_arg7) = m ((c.tc : Thread Cert.Norm2Ideal.nD Cert.Norm2Ideal.τ).loc Cert.Norm2Ideal.main_arg7))
      ∧ r.2.sem = fun _ => 0)

def quiescent_Norm2Ideal_pre_norm2_finite [hNorm2Ideal : Cert.Norm2Ideal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_norm2_finite m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5)
      ∧ r.2.mem ((c.tc : Thread Cert.Norm2Ideal.nD Cert.Norm2Ideal.τ).loc Cert.Norm2Ideal.main_arg6) = m ((c.tc : Thread Cert.Norm2Ideal.nD Cert.Norm2Ideal.τ).loc Cert.Norm2Ideal.main_arg6)
      ∧ r.2.mem ((c.tc : Thread Cert.Norm2Ideal.nD Cert.Norm2Ideal.τ).loc Cert.Norm2Ideal.main_arg7) = m ((c.tc : Thread Cert.Norm2Ideal.nD Cert.Norm2Ideal.τ).loc Cert.Norm2Ideal.main_arg7))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5)
      ∧ r.2.mem ((c.tc : Thread Cert.Norm2RefIdeal.nD Cert.Norm2RefIdeal.τ).loc Cert.Norm2RefIdeal.main_arg6) = m ((c.tc : Thread Cert.Norm2RefIdeal.nD Cert.Norm2RefIdeal.τ).loc Cert.Norm2RefIdeal.main_arg6)
      ∧ r.2.mem ((c.tc : Thread Cert.Norm2RefIdeal.nD Cert.Norm2RefIdeal.τ).loc Cert.Norm2RefIdeal.main_arg7) = m ((c.tc : Thread Cert.Norm2RefIdeal.nD Cert.Norm2RefIdeal.τ).loc Cert.Norm2RefIdeal.main_arg7))
      ∧ r.2.sem = fun _ => 0)

def quiescent_Norm2RefIdeal_pre_norm2_finite [hNorm2RefIdeal : Cert.Norm2RefIdeal.Facts] [hPre_norm2_finite : Cert.Pre_norm2_finite.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal_norm2_finite m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5)
      ∧ r.2.mem ((c.tc : Thread Cert.Norm2RefIdeal.nD Cert.Norm2RefIdeal.τ).loc Cert.Norm2RefIdeal.main_arg6) = m ((c.tc : Thread Cert.Norm2RefIdeal.nD Cert.Norm2RefIdeal.τ).loc Cert.Norm2RefIdeal.main_arg6)
      ∧ r.2.mem ((c.tc : Thread Cert.Norm2RefIdeal.nD Cert.Norm2RefIdeal.τ).loc Cert.Norm2RefIdeal.main_arg7) = m ((c.tc : Thread Cert.Norm2RefIdeal.nD Cert.Norm2RefIdeal.τ).loc Cert.Norm2RefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attnfwd_finite [hAttnFwdIdeal : Cert.AttnFwdIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnfwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attnfwd_finite [hAttnFwdRefIdeal : Cert.AttnFwdRefIdeal.Facts] [hPre_attnfwd_finite : Cert.Pre_attnfwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnfwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Sumgates [hSumgates : Cert.Sumgates.Facts] : Prop :=
  ∀ (m : (ℓ : Loc Cert.Sumgates.nD Cert.Sumgates.τ Cert.Sumgates.sig) → Buf (Elt Bits) ℓ) (g : Dev Cert.Sumgates.nD → PrngReg), Pre_Sumgates m →
    θ_run (Cert.Sumgates.defs (F := Bits)) (onTc (τ := Cert.Sumgates.τ) (Cert.Sumgates.main (F := Bits))) ⟨m, fun _ => 0, g⟩ (fun r => (∀ c : Dev Cert.Sumgates.nD,
      r.2.mem ((c.tc : Thread Cert.Sumgates.nD Cert.Sumgates.τ).loc Cert.Sumgates.main_arg0) = m ((c.tc : Thread Cert.Sumgates.nD Cert.Sumgates.τ).loc Cert.Sumgates.main_arg0))
      ∧ r.2.sem = fun _ => 0)

def quiescent_SumgatesIdeal [hSumgatesIdeal : Cert.SumgatesIdeal.Facts] : Prop :=
  ∀ (m : (ℓ : Loc Cert.SumgatesIdeal.nD Cert.SumgatesIdeal.τ Cert.SumgatesIdeal.sig) → Buf (Elt Ideal) ℓ) (g : Dev Cert.SumgatesIdeal.nD → PrngReg), Pre_SumgatesIdeal m →
    θ_run (Cert.SumgatesIdeal.defs (F := Ideal)) (onTc (τ := Cert.SumgatesIdeal.τ) (Cert.SumgatesIdeal.main (F := Ideal))) ⟨m, fun _ => 0, g⟩ (fun r => (∀ c : Dev Cert.SumgatesIdeal.nD,
      r.2.mem ((c.tc : Thread Cert.SumgatesIdeal.nD Cert.SumgatesIdeal.τ).loc Cert.SumgatesIdeal.main_arg0) = m ((c.tc : Thread Cert.SumgatesIdeal.nD Cert.SumgatesIdeal.τ).loc Cert.SumgatesIdeal.main_arg0))
      ∧ r.2.sem = fun _ => 0)

def quiescent_SumgatesRefIdeal [hSumgatesRefIdeal : Cert.SumgatesRefIdeal.Facts] : Prop :=
  ∀ (m : (ℓ : Loc Cert.SumgatesRefIdeal.nD Cert.SumgatesRefIdeal.τ Cert.SumgatesRefIdeal.sig) → Buf (Elt Ideal) ℓ) (g : Dev Cert.SumgatesRefIdeal.nD → PrngReg), Pre_SumgatesRefIdeal m →
    θ_run (Cert.SumgatesRefIdeal.defs (F := Ideal)) (onTc (τ := Cert.SumgatesRefIdeal.τ) (Cert.SumgatesRefIdeal.main (F := Ideal))) ⟨m, fun _ => 0, g⟩ (fun r => (∀ c : Dev Cert.SumgatesRefIdeal.nD,
      r.2.mem ((c.tc : Thread Cert.SumgatesRefIdeal.nD Cert.SumgatesRefIdeal.τ).loc Cert.SumgatesRefIdeal.main_arg0) = m ((c.tc : Thread Cert.SumgatesRefIdeal.nD Cert.SumgatesRefIdeal.τ).loc Cert.SumgatesRefIdeal.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)) →
    ∃ (v0 : (c : Dev Cert.Norm1Ideal.nD) → Buf (Elt Ideal) ((c.tc : Thread Cert.Norm1Ideal.nD Cert.Norm1Ideal.τ).loc Cert.Norm1Ideal.main_v0_0)) (v1 : (c : Dev Cert.Norm1Ideal.nD) → Buf (Elt Ideal) ((c.tc : Thread Cert.Norm1Ideal.nD Cert.Norm1Ideal.τ).loc Cert.Norm1Ideal.main_v0_1)) (v2 : (c : Dev Cert.Norm1Ideal.nD) → Buf (Elt Ideal) ((c.tc : Thread Cert.Norm1Ideal.nD Cert.Norm1Ideal.τ).loc Cert.Norm1Ideal.main_v0_2)) (v3 : (c : Dev Cert.Norm1Ideal.nD) → Buf (Elt Ideal) ((c.tc : Thread Cert.Norm1Ideal.nD Cert.Norm1Ideal.τ).loc Cert.Norm1Ideal.main_v0_3)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0_0) = v0 c
          ∧ r.2.mem ((c.tc : Thread Cert.Norm1Ideal.nD Cert.Norm1Ideal.τ).loc Cert.Norm1Ideal.main_v0_1) = v1 c
          ∧ r.2.mem ((c.tc : Thread Cert.Norm1Ideal.nD Cert.Norm1Ideal.τ).loc Cert.Norm1Ideal.main_v0_2) = v2 c
          ∧ r.2.mem ((c.tc : Thread Cert.Norm1Ideal.nD Cert.Norm1Ideal.τ).loc Cert.Norm1Ideal.main_v0_3) = v3 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v48) = v0 c
          ∧ r.2.mem ((c.tc : Thread Cert.Norm1RefIdeal.nD Cert.Norm1RefIdeal.τ).loc Cert.Norm1RefIdeal.main_v23) = v1 c
          ∧ r.2.mem ((c.tc : Thread Cert.Norm1RefIdeal.nD Cert.Norm1RefIdeal.τ).loc Cert.Norm1RefIdeal.main_v26) = v2 c
          ∧ r.2.mem ((c.tc : Thread Cert.Norm1RefIdeal.nD Cert.Norm1RefIdeal.τ).loc Cert.Norm1RefIdeal.main_v31) = v3 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5))

def preserves_Norm3_Norm3Ideal : Prop :=
  True

def algebraic_Norm3Ideal_Norm3RefIdeal_pre_norm3_finite [hNorm3Ideal : Cert.Norm3Ideal.Facts] [hNorm3RefIdeal : Cert.Norm3RefIdeal.Facts] [hPre_norm3_finite : Cert.Pre_norm3_finite.Facts] : Prop :=
  ∀ (m : (ℓ : Loc Cert.Norm3Ideal.nD Cert.Norm3Ideal.τ Cert.Norm3Ideal.sig) → Buf (Elt Ideal) ℓ) (g : Dev Cert.Norm3Ideal.nD → PrngReg)
    (m' : (ℓ : Loc Cert.Norm3RefIdeal.nD Cert.Norm3RefIdeal.τ Cert.Norm3RefIdeal.sig) → Buf (Elt Ideal) ℓ) (g' : Dev Cert.Norm3RefIdeal.nD → PrngReg), Pre_Norm3Ideal_norm3_finite m →
    (∀ c : Dev Cert.Norm3Ideal.nD,
      m' ((c.tc : Thread Cert.Norm3RefIdeal.nD Cert.Norm3RefIdeal.τ).loc Cert.Norm3RefIdeal.main_arg0) = m ((c.tc : Thread Cert.Norm3Ideal.nD Cert.Norm3Ideal.τ).loc Cert.Norm3Ideal.main_arg0)
      ∧ m' ((c.tc : Thread Cert.Norm3RefIdeal.nD Cert.Norm3RefIdeal.τ).loc Cert.Norm3RefIdeal.main_arg1) = m ((c.tc : Thread Cert.Norm3Ideal.nD Cert.Norm3Ideal.τ).loc Cert.Norm3Ideal.main_arg1)
      ∧ m' ((c.tc : Thread Cert.Norm3RefIdeal.nD Cert.Norm3RefIdeal.τ).loc Cert.Norm3RefIdeal.main_arg2) = m ((c.tc : Thread Cert.Norm3Ideal.nD Cert.Norm3Ideal.τ).loc Cert.Norm3Ideal.main_arg2)
      ∧ m' ((c.tc : Thread Cert.Norm3RefIdeal.nD Cert.Norm3RefIdeal.τ).loc Cert.Norm3RefIdeal.main_arg3) = m ((c.tc : Thread Cert.Norm3Ideal.nD Cert.Norm3Ideal.τ).loc Cert.Norm3Ideal.main_arg3)
      ∧ m' ((c.tc : Thread Cert.Norm3RefIdeal.nD Cert.Norm3RefIdeal.τ).loc Cert.Norm3RefIdeal.main_arg4) = m ((c.tc : Thread Cert.Norm3Ideal.nD Cert.Norm3Ideal.τ).loc Cert.Norm3Ideal.main_arg4)
      ∧ m' ((c.tc : Thread Cert.Norm3RefIdeal.nD Cert.Norm3RefIdeal.τ).loc Cert.Norm3RefIdeal.main_arg5) = m ((c.tc : Thread Cert.Norm3Ideal.nD Cert.Norm3Ideal.τ).loc Cert.Norm3Ideal.main_arg5)
      ∧ m' ((c.tc : Thread Cert.Norm3RefIdeal.nD Cert.Norm3RefIdeal.τ).loc Cert.Norm3RefIdeal.main_arg6) = m ((c.tc : Thread Cert.Norm3Ideal.nD Cert.Norm3Ideal.τ).loc Cert.Norm3Ideal.main_arg6)
      ∧ m' ((c.tc : Thread Cert.Norm3RefIdeal.nD Cert.Norm3RefIdeal.τ).loc Cert.Norm3RefIdeal.main_arg7) = m ((c.tc : Thread Cert.Norm3Ideal.nD Cert.Norm3Ideal.τ).loc Cert.Norm3Ideal.main_arg7)) →
    ∃ (v0 : (c : Dev Cert.Norm3Ideal.nD) → Buf (Elt Ideal) ((c.tc : Thread Cert.Norm3Ideal.nD Cert.Norm3Ideal.τ).loc Cert.Norm3Ideal.main_v4_0)) (v1 : (c : Dev Cert.Norm3Ideal.nD) → Buf (Elt Ideal) ((c.tc : Thread Cert.Norm3Ideal.nD Cert.Norm3Ideal.τ).loc Cert.Norm3Ideal.main_v4_1)) (v2 : (c : Dev Cert.Norm3Ideal.nD) → Buf (Elt Ideal) ((c.tc : Thread Cert.Norm3Ideal.nD Cert.Norm3Ideal.τ).loc Cert.Norm3Ideal.main_v4_2)) (v3 : (c : Dev Cert.Norm3Ideal.nD) → Buf (Elt Ideal) ((c.tc : Thread Cert.Norm3Ideal.nD Cert.Norm3Ideal.τ).loc Cert.Norm3Ideal.main_v4_3)) (v4 : (c : Dev Cert.Norm3Ideal.nD) → Buf (Elt Ideal) ((c.tc : Thread Cert.Norm3Ideal.nD Cert.Norm3Ideal.τ).loc Cert.Norm3Ideal.main_v4_4)) (v5 : (c : Dev Cert.Norm3Ideal.nD) → Buf (Elt Ideal) ((c.tc : Thread Cert.Norm3Ideal.nD Cert.Norm3Ideal.τ).loc Cert.Norm3Ideal.main_v4_5)),
      θ_run (Cert.Norm3Ideal.defs (F := Ideal)) (onTc (τ := Cert.Norm3Ideal.τ) (Cert.Norm3Ideal.main (F := Ideal))) ⟨m, fun _ => 0, g⟩ (fun r => ∀ c : Dev Cert.Norm3Ideal.nD,
          r.2.mem ((c.tc : Thread Cert.Norm3Ideal.nD Cert.Norm3Ideal.τ).loc Cert.Norm3Ideal.main_v4_0) = v0 c
          ∧ r.2.mem ((c.tc : Thread Cert.Norm3Ideal.nD Cert.Norm3Ideal.τ).loc Cert.Norm3Ideal.main_v4_1) = v1 c
          ∧ r.2.mem ((c.tc : Thread Cert.Norm3Ideal.nD Cert.Norm3Ideal.τ).loc Cert.Norm3Ideal.main_v4_2) = v2 c
          ∧ r.2.mem ((c.tc : Thread Cert.Norm3Ideal.nD Cert.Norm3Ideal.τ).loc Cert.Norm3Ideal.main_v4_3) = v3 c
          ∧ r.2.mem ((c.tc : Thread Cert.Norm3Ideal.nD Cert.Norm3Ideal.τ).loc Cert.Norm3Ideal.main_v4_4) = v4 c
          ∧ r.2.mem ((c.tc : Thread Cert.Norm3Ideal.nD Cert.Norm3Ideal.τ).loc Cert.Norm3Ideal.main_v4_5) = v5 c
          ∧ r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
          ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
          ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
          ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3)
          ∧ r.2.mem ((c.tc : Thread Cert.Norm3Ideal.nD Cert.Norm3Ideal.τ).loc Cert.Norm3Ideal.main_arg4) = m ((c.tc : Thread Cert.Norm3Ideal.nD Cert.Norm3Ideal.τ).loc Cert.Norm3Ideal.main_arg4)
          ∧ r.2.mem ((c.tc : Thread Cert.Norm3Ideal.nD Cert.Norm3Ideal.τ).loc Cert.Norm3Ideal.main_arg5) = m ((c.tc : Thread Cert.Norm3Ideal.nD Cert.Norm3Ideal.τ).loc Cert.Norm3Ideal.main_arg5)
          ∧ r.2.mem ((c.tc : Thread Cert.Norm3Ideal.nD Cert.Norm3Ideal.τ).loc Cert.Norm3Ideal.main_arg6) = m ((c.tc : Thread Cert.Norm3Ideal.nD Cert.Norm3Ideal.τ).loc Cert.Norm3Ideal.main_arg6)
          ∧ r.2.mem ((c.tc : Thread Cert.Norm3Ideal.nD Cert.Norm3Ideal.τ).loc Cert.Norm3Ideal.main_arg7) = m ((c.tc : Thread Cert.Norm3Ideal.nD Cert.Norm3Ideal.τ).loc Cert.Norm3Ideal.main_arg7))
      ∧ θ_run (Cert.Norm3RefIdeal.defs (F := Ideal)) (onTc (τ := Cert.Norm3RefIdeal.τ) (Cert.Norm3RefIdeal.main (F := Ideal))) ⟨m', fun _ => 0, g'⟩ (fun r => ∀ c : Dev Cert.Norm3RefIdeal.nD,
          r.2.mem ((c.tc : Thread Cert.Norm3RefIdeal.nD Cert.Norm3RefIdeal.τ).loc Cert.Norm3RefIdeal.main_v51) = v0 c
          ∧ r.2.mem ((c.tc : Thread Cert.Norm3RefIdeal.nD Cert.Norm3RefIdeal.τ).loc Cert.Norm3RefIdeal.main_v58) = v1 c
          ∧ r.2.mem ((c.tc : Thread Cert.Norm3RefIdeal.nD Cert.Norm3RefIdeal.τ).loc Cert.Norm3RefIdeal.main_v26) = v2 c
          ∧ r.2.mem ((c.tc : Thread Cert.Norm3RefIdeal.nD Cert.Norm3RefIdeal.τ).loc Cert.Norm3RefIdeal.main_v29) = v3 c
          ∧ r.2.mem ((c.tc : Thread Cert.Norm3RefIdeal.nD Cert.Norm3RefIdeal.τ).loc Cert.Norm3RefIdeal.main_v34) = v4 c
          ∧ r.2.mem ((c.tc : Thread Cert.Norm3RefIdeal.nD Cert.Norm3RefIdeal.τ).loc Cert.Norm3RefIdeal.main_v57) = v5 c
          ∧ r.2.mem ((c.tc : Thread Cert.Norm3RefIdeal.nD Cert.Norm3RefIdeal.τ).loc Cert.Norm3RefIdeal.main_arg0) = m' ((c.tc : Thread Cert.Norm3RefIdeal.nD Cert.Norm3RefIdeal.τ).loc Cert.Norm3RefIdeal.main_arg0)
          ∧ r.2.mem ((c.tc : Thread Cert.Norm3RefIdeal.nD Cert.Norm3RefIdeal.τ).loc Cert.Norm3RefIdeal.main_arg1) = m' ((c.tc : Thread Cert.Norm3RefIdeal.nD Cert.Norm3RefIdeal.τ).loc Cert.Norm3RefIdeal.main_arg1)
          ∧ r.2.mem ((c.tc : Thread Cert.Norm3RefIdeal.nD Cert.Norm3RefIdeal.τ).loc Cert.Norm3RefIdeal.main_arg2) = m' ((c.tc : Thread Cert.Norm3RefIdeal.nD Cert.Norm3RefIdeal.τ).loc Cert.Norm3RefIdeal.main_arg2)
          ∧ r.2.mem ((c.tc : Thread Cert.Norm3RefIdeal.nD Cert.Norm3RefIdeal.τ).loc Cert.Norm3RefIdeal.main_arg3) = m' ((c.tc : Thread Cert.Norm3RefIdeal.nD Cert.Norm3RefIdeal.τ).loc Cert.Norm3RefIdeal.main_arg3)
          ∧ r.2.mem ((c.tc : Thread Cert.Norm3RefIdeal.nD Cert.Norm3RefIdeal.τ).loc Cert.Norm3RefIdeal.main_arg4) = m' ((c.tc : Thread Cert.Norm3RefIdeal.nD Cert.Norm3RefIdeal.τ).loc Cert.Norm3RefIdeal.main_arg4)
          ∧ r.2.mem ((c.tc : Thread Cert.Norm3RefIdeal.nD Cert.Norm3RefIdeal.τ).loc Cert.Norm3RefIdeal.main_arg5) = m' ((c.tc : Thread Cert.Norm3RefIdeal.nD Cert.Norm3RefIdeal.τ).loc Cert.Norm3RefIdeal.main_arg5)
          ∧ r.2.mem ((c.tc : Thread Cert.Norm3RefIdeal.nD Cert.Norm3RefIdeal.τ).loc Cert.Norm3RefIdeal.main_arg6) = m' ((c.tc : Thread Cert.Norm3RefIdeal.nD Cert.Norm3RefIdeal.τ).loc Cert.Norm3RefIdeal.main_arg6)
          ∧ r.2.mem ((c.tc : Thread Cert.Norm3RefIdeal.nD Cert.Norm3RefIdeal.τ).loc Cert.Norm3RefIdeal.main_arg7) = m' ((c.tc : Thread Cert.Norm3RefIdeal.nD Cert.Norm3RefIdeal.τ).loc Cert.Norm3RefIdeal.main_arg7))

def preserves_Norm2_Norm2Ideal : Prop :=
  True

def algebraic_Norm2Ideal_Norm2RefIdeal_pre_norm2_finite [hNorm2Ideal : Cert.Norm2Ideal.Facts] [hNorm2RefIdeal : Cert.Norm2RefIdeal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal_norm2_finite m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)
      ∧ m' ((c.tc : Thread Cert.Norm2RefIdeal.nD Cert.Norm2RefIdeal.τ).loc Cert.Norm2RefIdeal.main_arg6) = m ((c.tc : Thread Cert.Norm2Ideal.nD Cert.Norm2Ideal.τ).loc Cert.Norm2Ideal.main_arg6)
      ∧ m' ((c.tc : Thread Cert.Norm2RefIdeal.nD Cert.Norm2RefIdeal.τ).loc Cert.Norm2RefIdeal.main_arg7) = m ((c.tc : Thread Cert.Norm2Ideal.nD Cert.Norm2Ideal.τ).loc Cert.Norm2Ideal.main_arg7)) →
    ∃ (v0 : (c : Dev Cert.Norm2Ideal.nD) → Buf (Elt Ideal) ((c.tc : Thread Cert.Norm2Ideal.nD Cert.Norm2Ideal.τ).loc Cert.Norm2Ideal.main_v6_0)) (v1 : (c : Dev Cert.Norm2Ideal.nD) → Buf (Elt Ideal) ((c.tc : Thread Cert.Norm2Ideal.nD Cert.Norm2Ideal.τ).loc Cert.Norm2Ideal.main_v6_1)) (v2 : (c : Dev Cert.Norm2Ideal.nD) → Buf (Elt Ideal) ((c.tc : Thread Cert.Norm2Ideal.nD Cert.Norm2Ideal.τ).loc Cert.Norm2Ideal.main_v6_2)) (v3 : (c : Dev Cert.Norm2Ideal.nD) → Buf (Elt Ideal) ((c.tc : Thread Cert.Norm2Ideal.nD Cert.Norm2Ideal.τ).loc Cert.Norm2Ideal.main_v6_3)) (v4 : (c : Dev Cert.Norm2Ideal.nD) → Buf (Elt Ideal) ((c.tc : Thread Cert.Norm2Ideal.nD Cert.Norm2Ideal.τ).loc Cert.Norm2Ideal.main_v6_4)) (v5 : (c : Dev Cert.Norm2Ideal.nD) → Buf (Elt Ideal) ((c.tc : Thread Cert.Norm2Ideal.nD Cert.Norm2Ideal.τ).loc Cert.Norm2Ideal.main_v6_5)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v6_0) = v0 c
          ∧ r.2.mem ((c.tc : Thread Cert.Norm2Ideal.nD Cert.Norm2Ideal.τ).loc Cert.Norm2Ideal.main_v6_1) = v1 c
          ∧ r.2.mem ((c.tc : Thread Cert.Norm2Ideal.nD Cert.Norm2Ideal.τ).loc Cert.Norm2Ideal.main_v6_2) = v2 c
          ∧ r.2.mem ((c.tc : Thread Cert.Norm2Ideal.nD Cert.Norm2Ideal.τ).loc Cert.Norm2Ideal.main_v6_3) = v3 c
          ∧ r.2.mem ((c.tc : Thread Cert.Norm2Ideal.nD Cert.Norm2Ideal.τ).loc Cert.Norm2Ideal.main_v6_4) = v4 c
          ∧ r.2.mem ((c.tc : Thread Cert.Norm2Ideal.nD Cert.Norm2Ideal.τ).loc Cert.Norm2Ideal.main_v6_5) = v5 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5)
          ∧ r.2.mem ((c.tc : Thread Cert.Norm2Ideal.nD Cert.Norm2Ideal.τ).loc Cert.Norm2Ideal.main_arg6) = m ((c.tc : Thread Cert.Norm2Ideal.nD Cert.Norm2Ideal.τ).loc Cert.Norm2Ideal.main_arg6)
          ∧ r.2.mem ((c.tc : Thread Cert.Norm2Ideal.nD Cert.Norm2Ideal.τ).loc Cert.Norm2Ideal.main_arg7) = m ((c.tc : Thread Cert.Norm2Ideal.nD Cert.Norm2Ideal.τ).loc Cert.Norm2Ideal.main_arg7))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v53) = v0 c
          ∧ r.2.mem ((c.tc : Thread Cert.Norm2RefIdeal.nD Cert.Norm2RefIdeal.τ).loc Cert.Norm2RefIdeal.main_v62) = v1 c
          ∧ r.2.mem ((c.tc : Thread Cert.Norm2RefIdeal.nD Cert.Norm2RefIdeal.τ).loc Cert.Norm2RefIdeal.main_v28) = v2 c
          ∧ r.2.mem ((c.tc : Thread Cert.Norm2RefIdeal.nD Cert.Norm2RefIdeal.τ).loc Cert.Norm2RefIdeal.main_v31) = v3 c
          ∧ r.2.mem ((c.tc : Thread Cert.Norm2RefIdeal.nD Cert.Norm2RefIdeal.τ).loc Cert.Norm2RefIdeal.main_v36) = v4 c
          ∧ r.2.mem ((c.tc : Thread Cert.Norm2RefIdeal.nD Cert.Norm2RefIdeal.τ).loc Cert.Norm2RefIdeal.main_v61) = v5 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5)
          ∧ r.2.mem ((c.tc : Thread Cert.Norm2RefIdeal.nD Cert.Norm2RefIdeal.τ).loc Cert.Norm2RefIdeal.main_arg6) = m' ((c.tc : Thread Cert.Norm2RefIdeal.nD Cert.Norm2RefIdeal.τ).loc Cert.Norm2RefIdeal.main_arg6)
          ∧ r.2.mem ((c.tc : Thread Cert.Norm2RefIdeal.nD Cert.Norm2RefIdeal.τ).loc Cert.Norm2RefIdeal.main_arg7) = m' ((c.tc : Thread Cert.Norm2RefIdeal.nD Cert.Norm2RefIdeal.τ).loc Cert.Norm2RefIdeal.main_arg7))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v61) = v1 c
          ∧ r.2.mem ((c.tc : Thread Cert.LossRefIdeal.nD Cert.LossRefIdeal.τ).loc Cert.LossRefIdeal.main_v62) = v2 c
          ∧ r.2.mem ((c.tc : Thread Cert.LossRefIdeal.nD Cert.LossRefIdeal.τ).loc Cert.LossRefIdeal.main_v37) = v3 c
          ∧ r.2.mem ((c.tc : Thread Cert.LossRefIdeal.nD Cert.LossRefIdeal.τ).loc Cert.LossRefIdeal.main_v60) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)) (v2 : (c : Dev Cert.ConvIdeal.nD) → Buf (Elt Ideal) ((c.tc : Thread Cert.ConvIdeal.nD Cert.ConvIdeal.τ).loc Cert.ConvIdeal.main_v3_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_v3_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v65) = v0 c
          ∧ r.2.mem ((c.tc : Thread Cert.ConvRefIdeal.nD Cert.ConvRefIdeal.τ).loc Cert.ConvRefIdeal.main_v63) = v1 c
          ∧ r.2.mem ((c.tc : Thread Cert.ConvRefIdeal.nD Cert.ConvRefIdeal.τ).loc Cert.ConvRefIdeal.main_v29) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v34_0)) (v1 : (c : Dev Cert.AttnIdeal.nD) → Buf (Elt Ideal) ((c.tc : Thread Cert.AttnIdeal.nD Cert.AttnIdeal.τ).loc Cert.AttnIdeal.main_v34_1)) (v2 : (c : Dev Cert.AttnIdeal.nD) → Buf (Elt Ideal) ((c.tc : Thread Cert.AttnIdeal.nD Cert.AttnIdeal.τ).loc Cert.AttnIdeal.main_v34_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v34_0) = v0 c
          ∧ r.2.mem ((c.tc : Thread Cert.AttnIdeal.nD Cert.AttnIdeal.τ).loc Cert.AttnIdeal.main_v34_1) = v1 c
          ∧ r.2.mem ((c.tc : Thread Cert.AttnIdeal.nD Cert.AttnIdeal.τ).loc Cert.AttnIdeal.main_v34_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_v59) = v1 c
          ∧ r.2.mem ((c.tc : Thread Cert.AttnRefIdeal.nD Cert.AttnRefIdeal.τ).loc Cert.AttnRefIdeal.main_v60) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v12)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v12) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v14) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)) (v3 : (c : Dev Cert.MergeIdeal.nD) → Buf (Elt Ideal) ((c.tc : Thread Cert.MergeIdeal.nD Cert.MergeIdeal.τ).loc Cert.MergeIdeal.main_v11_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_v11_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_v40) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_AttnFwd_AttnFwdIdeal : Prop :=
  True

def algebraic_AttnFwdIdeal_AttnFwdRefIdeal_pre_attnfwd_finite [hAttnFwdIdeal : Cert.AttnFwdIdeal.Facts] [hAttnFwdRefIdeal : Cert.AttnFwdRefIdeal.Facts] [hPre_attnfwd_finite : Cert.Pre_attnfwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnfwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v2_0)) (v1 : (c : Dev Cert.AttnFwdIdeal.nD) → Buf (Elt Ideal) ((c.tc : Thread Cert.AttnFwdIdeal.nD Cert.AttnFwdIdeal.τ).loc Cert.AttnFwdIdeal.main_v2_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2_0) = v0 c
          ∧ r.2.mem ((c.tc : Thread Cert.AttnFwdIdeal.nD Cert.AttnFwdIdeal.τ).loc Cert.AttnFwdIdeal.main_v2_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v31) = v0 c
          ∧ r.2.mem ((c.tc : Thread Cert.AttnFwdRefIdeal.nD Cert.AttnFwdRefIdeal.τ).loc Cert.AttnFwdRefIdeal.main_v52) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v6_0)) (v1 : (c : Dev Cert.SwigluIdeal.nD) → Buf (Elt Ideal) ((c.tc : Thread Cert.SwigluIdeal.nD Cert.SwigluIdeal.τ).loc Cert.SwigluIdeal.main_v6_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v6_0) = v0 c
          ∧ r.2.mem ((c.tc : Thread Cert.SwigluIdeal.nD Cert.SwigluIdeal.τ).loc Cert.SwigluIdeal.main_v6_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_v11) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v6_0)) (v1 : (c : Dev Cert.ResidIdeal.nD) → Buf (Elt Ideal) ((c.tc : Thread Cert.ResidIdeal.nD Cert.ResidIdeal.τ).loc Cert.ResidIdeal.main_v6_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v6_0) = v0 c
          ∧ r.2.mem ((c.tc : Thread Cert.ResidIdeal.nD Cert.ResidIdeal.τ).loc Cert.ResidIdeal.main_v6_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v2) = v0 c
          ∧ r.2.mem ((c.tc : Thread Cert.ResidRefIdeal.nD Cert.ResidRefIdeal.τ).loc Cert.ResidRefIdeal.main_v8) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)) →
    ∃ (v0 : (c : Dev Cert.MixoutIdeal.nD) → Buf (Elt Ideal) ((c.tc : Thread Cert.MixoutIdeal.nD Cert.MixoutIdeal.τ).loc Cert.MixoutIdeal.main_v6_0)) (v1 : (c : Dev Cert.MixoutIdeal.nD) → Buf (Elt Ideal) ((c.tc : Thread Cert.MixoutIdeal.nD Cert.MixoutIdeal.τ).loc Cert.MixoutIdeal.main_v6_1)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v6_0) = v0 c
          ∧ r.2.mem ((c.tc : Thread Cert.MixoutIdeal.nD Cert.MixoutIdeal.τ).loc Cert.MixoutIdeal.main_v6_1) = v1 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v2) = v0 c
          ∧ r.2.mem ((c.tc : Thread Cert.MixoutRefIdeal.nD Cert.MixoutRefIdeal.τ).loc Cert.MixoutRefIdeal.main_v6) = v1 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v3)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v3) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v13) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Sumgates_SumgatesIdeal : Prop :=
  True

def algebraic_SumgatesIdeal_SumgatesRefIdeal [hSumgatesIdeal : Cert.SumgatesIdeal.Facts] [hSumgatesRefIdeal : Cert.SumgatesRefIdeal.Facts] : Prop :=
  ∀ (m : (ℓ : Loc Cert.SumgatesIdeal.nD Cert.SumgatesIdeal.τ Cert.SumgatesIdeal.sig) → Buf (Elt Ideal) ℓ) (g : Dev Cert.SumgatesIdeal.nD → PrngReg)
    (m' : (ℓ : Loc Cert.SumgatesRefIdeal.nD Cert.SumgatesRefIdeal.τ Cert.SumgatesRefIdeal.sig) → Buf (Elt Ideal) ℓ) (g' : Dev Cert.SumgatesRefIdeal.nD → PrngReg), Pre_SumgatesIdeal m →
    (∀ c : Dev Cert.SumgatesIdeal.nD,
      m' ((c.tc : Thread Cert.SumgatesRefIdeal.nD Cert.SumgatesRefIdeal.τ).loc Cert.SumgatesRefIdeal.main_arg0) = m ((c.tc : Thread Cert.SumgatesIdeal.nD Cert.SumgatesIdeal.τ).loc Cert.SumgatesIdeal.main_arg0)) →
    ∃ (v0 : (c : Dev Cert.SumgatesIdeal.nD) → Buf (Elt Ideal) ((c.tc : Thread Cert.SumgatesIdeal.nD Cert.SumgatesIdeal.τ).loc Cert.SumgatesIdeal.main_v0)),
      θ_run (Cert.SumgatesIdeal.defs (F := Ideal)) (onTc (τ := Cert.SumgatesIdeal.τ) (Cert.SumgatesIdeal.main (F := Ideal))) ⟨m, fun _ => 0, g⟩ (fun r => ∀ c : Dev Cert.SumgatesIdeal.nD,
          r.2.mem ((c.tc : Thread Cert.SumgatesIdeal.nD Cert.SumgatesIdeal.τ).loc Cert.SumgatesIdeal.main_v0) = v0 c
          ∧ r.2.mem ((c.tc : Thread Cert.SumgatesIdeal.nD Cert.SumgatesIdeal.τ).loc Cert.SumgatesIdeal.main_arg0) = m ((c.tc : Thread Cert.SumgatesIdeal.nD Cert.SumgatesIdeal.τ).loc Cert.SumgatesIdeal.main_arg0))
      ∧ θ_run (Cert.SumgatesRefIdeal.defs (F := Ideal)) (onTc (τ := Cert.SumgatesRefIdeal.τ) (Cert.SumgatesRefIdeal.main (F := Ideal))) ⟨m', fun _ => 0, g'⟩ (fun r => ∀ c : Dev Cert.SumgatesRefIdeal.nD,
          r.2.mem ((c.tc : Thread Cert.SumgatesRefIdeal.nD Cert.SumgatesRefIdeal.τ).loc Cert.SumgatesRefIdeal.main_v1) = v0 c
          ∧ r.2.mem ((c.tc : Thread Cert.SumgatesRefIdeal.nD Cert.SumgatesRefIdeal.τ).loc Cert.SumgatesRefIdeal.main_arg0) = m' ((c.tc : Thread Cert.SumgatesRefIdeal.nD Cert.SumgatesRefIdeal.τ).loc Cert.SumgatesRefIdeal.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)) →
    ∃ (v0 : (c : Dev Cert.JoinIdeal.nD) → Buf (Elt Ideal) ((c.tc : Thread Cert.JoinIdeal.nD Cert.JoinIdeal.τ).loc Cert.JoinIdeal.main_v8_0)) (v1 : (c : Dev Cert.JoinIdeal.nD) → Buf (Elt Ideal) ((c.tc : Thread Cert.JoinIdeal.nD Cert.JoinIdeal.τ).loc Cert.JoinIdeal.main_v8_1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v8_0) = v0 c
          ∧ r.2.mem ((c.tc : Thread Cert.JoinIdeal.nD Cert.JoinIdeal.τ).loc Cert.JoinIdeal.main_v8_1) = v1 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v20) = v0 c
          ∧ r.2.mem ((c.tc : Thread Cert.JoinRefIdeal.nD Cert.JoinRefIdeal.τ).loc Cert.JoinRefIdeal.main_v22) = v1 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4))

def preserves_Lru_LruIdeal : Prop :=
  True

def Claim : Prop :=
  ∃ (hNorm1 : Cert.Norm1.Facts) (hNorm1Ideal : Cert.Norm1Ideal.Facts) (hNorm1RefIdeal : Cert.Norm1RefIdeal.Facts) (hNorm3 : Cert.Norm3.Facts) (hNorm3Ideal : Cert.Norm3Ideal.Facts) (hNorm3RefIdeal : Cert.Norm3RefIdeal.Facts) (hNorm2 : Cert.Norm2.Facts) (hNorm2Ideal : Cert.Norm2Ideal.Facts) (hNorm2RefIdeal : Cert.Norm2RefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hDact : Cert.Dact.Facts) (hDactIdeal : Cert.DactIdeal.Facts) (hDactRefIdeal : Cert.DactRefIdeal.Facts) (hMerge : Cert.Merge.Facts) (hMergeIdeal : Cert.MergeIdeal.Facts) (hMergeRefIdeal : Cert.MergeRefIdeal.Facts) (hAttnFwd : Cert.AttnFwd.Facts) (hAttnFwdIdeal : Cert.AttnFwdIdeal.Facts) (hAttnFwdRefIdeal : Cert.AttnFwdRefIdeal.Facts) (hNorm : Cert.Norm.Facts) (hNormIdeal : Cert.NormIdeal.Facts) (hNormRefIdeal : Cert.NormRefIdeal.Facts) (hSwiglu : Cert.Swiglu.Facts) (hSwigluIdeal : Cert.SwigluIdeal.Facts) (hSwigluRefIdeal : Cert.SwigluRefIdeal.Facts) (hResid : Cert.Resid.Facts) (hResidIdeal : Cert.ResidIdeal.Facts) (hResidRefIdeal : Cert.ResidRefIdeal.Facts) (hMixout : Cert.Mixout.Facts) (hMixoutIdeal : Cert.MixoutIdeal.Facts) (hMixoutRefIdeal : Cert.MixoutRefIdeal.Facts) (hDwin : Cert.Dwin.Facts) (hDwinIdeal : Cert.DwinIdeal.Facts) (hDwinRefIdeal : Cert.DwinRefIdeal.Facts) (hAdamw : Cert.Adamw.Facts) (hAdamwIdeal : Cert.AdamwIdeal.Facts) (hAdamwRefIdeal : Cert.AdamwRefIdeal.Facts) (hSumgates : Cert.Sumgates.Facts) (hSumgatesIdeal : Cert.SumgatesIdeal.Facts) (hSumgatesRefIdeal : Cert.SumgatesRefIdeal.Facts) (hJoin : Cert.Join.Facts) (hJoinIdeal : Cert.JoinIdeal.Facts) (hJoinRefIdeal : Cert.JoinRefIdeal.Facts) (hLru : Cert.Lru.Facts) (hLruIdeal : Cert.LruIdeal.Facts) (hPre_norm1_finite : Cert.Pre_norm1_finite.Facts) (hPre_norm3_finite : Cert.Pre_norm3_finite.Facts) (hPre_norm2_finite : Cert.Pre_norm2_finite.Facts) (hPre_loss_finite : Cert.Pre_loss_finite.Facts) (hPre_attn_finite : Cert.Pre_attn_finite.Facts) (hPre_dact_finite : Cert.Pre_dact_finite.Facts) (hPre_merge_finite : Cert.Pre_merge_finite.Facts) (hPre_attnfwd_finite : Cert.Pre_attnfwd_finite.Facts),
    quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Norm3 (hNorm3 := hNorm3)
    ∧ quiescent_Norm3Ideal (hNorm3Ideal := hNorm3Ideal)
    ∧ quiescent_Norm3Ideal_pre_norm3_finite (hNorm3Ideal := hNorm3Ideal) (hPre_norm3_finite := hPre_norm3_finite)
    ∧ quiescent_Norm3RefIdeal (hNorm3RefIdeal := hNorm3RefIdeal)
    ∧ quiescent_Norm3RefIdeal_pre_norm3_finite (hNorm3RefIdeal := hNorm3RefIdeal) (hPre_norm3_finite := hPre_norm3_finite)
    ∧ quiescent_Norm2 (hNorm2 := hNorm2)
    ∧ quiescent_Norm2Ideal (hNorm2Ideal := hNorm2Ideal)
    ∧ quiescent_Norm2Ideal_pre_norm2_finite (hNorm2Ideal := hNorm2Ideal) (hPre_norm2_finite := hPre_norm2_finite)
    ∧ quiescent_Norm2RefIdeal (hNorm2RefIdeal := hNorm2RefIdeal)
    ∧ quiescent_Norm2RefIdeal_pre_norm2_finite (hNorm2RefIdeal := hNorm2RefIdeal) (hPre_norm2_finite := hPre_norm2_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_AttnFwd (hAttnFwd := hAttnFwd)
    ∧ quiescent_AttnFwdIdeal (hAttnFwdIdeal := hAttnFwdIdeal)
    ∧ quiescent_AttnFwdIdeal_pre_attnfwd_finite (hAttnFwdIdeal := hAttnFwdIdeal) (hPre_attnfwd_finite := hPre_attnfwd_finite)
    ∧ quiescent_AttnFwdRefIdeal (hAttnFwdRefIdeal := hAttnFwdRefIdeal)
    ∧ quiescent_AttnFwdRefIdeal_pre_attnfwd_finite (hAttnFwdRefIdeal := hAttnFwdRefIdeal) (hPre_attnfwd_finite := hPre_attnfwd_finite)
    ∧ quiescent_Norm (hNorm := hNorm)
    ∧ quiescent_NormIdeal (hNormIdeal := hNormIdeal)
    ∧ quiescent_NormRefIdeal (hNormRefIdeal := hNormRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Resid (hResid := hResid)
    ∧ quiescent_ResidIdeal (hResidIdeal := hResidIdeal)
    ∧ quiescent_ResidRefIdeal (hResidRefIdeal := hResidRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sumgates (hSumgates := hSumgates)
    ∧ quiescent_SumgatesIdeal (hSumgatesIdeal := hSumgatesIdeal)
    ∧ quiescent_SumgatesRefIdeal (hSumgatesRefIdeal := hSumgatesRefIdeal)
    ∧ quiescent_Join (hJoin := hJoin)
    ∧ quiescent_JoinIdeal (hJoinIdeal := hJoinIdeal)
    ∧ quiescent_JoinRefIdeal (hJoinRefIdeal := hJoinRefIdeal)
    ∧ quiescent_Lru (hLru := hLru)
    ∧ quiescent_LruIdeal (hLruIdeal := hLruIdeal)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Norm3_Norm3Ideal
    ∧ algebraic_Norm3Ideal_Norm3RefIdeal_pre_norm3_finite (hNorm3Ideal := hNorm3Ideal) (hNorm3RefIdeal := hNorm3RefIdeal) (hPre_norm3_finite := hPre_norm3_finite)
    ∧ preserves_Norm2_Norm2Ideal
    ∧ algebraic_Norm2Ideal_Norm2RefIdeal_pre_norm2_finite (hNorm2Ideal := hNorm2Ideal) (hNorm2RefIdeal := hNorm2RefIdeal) (hPre_norm2_finite := hPre_norm2_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_AttnFwd_AttnFwdIdeal
    ∧ algebraic_AttnFwdIdeal_AttnFwdRefIdeal_pre_attnfwd_finite (hAttnFwdIdeal := hAttnFwdIdeal) (hAttnFwdRefIdeal := hAttnFwdRefIdeal) (hPre_attnfwd_finite := hPre_attnfwd_finite)
    ∧ preserves_Norm_NormIdeal
    ∧ algebraic_NormIdeal_NormRefIdeal (hNormIdeal := hNormIdeal) (hNormRefIdeal := hNormRefIdeal)
    ∧ preserves_Swiglu_SwigluIdeal
    ∧ algebraic_SwigluIdeal_SwigluRefIdeal (hSwigluIdeal := hSwigluIdeal) (hSwigluRefIdeal := hSwigluRefIdeal)
    ∧ preserves_Resid_ResidIdeal
    ∧ algebraic_ResidIdeal_ResidRefIdeal (hResidIdeal := hResidIdeal) (hResidRefIdeal := hResidRefIdeal)
    ∧ preserves_Mixout_MixoutIdeal
    ∧ algebraic_MixoutIdeal_MixoutRefIdeal (hMixoutIdeal := hMixoutIdeal) (hMixoutRefIdeal := hMixoutRefIdeal)
    ∧ preserves_Dwin_DwinIdeal
    ∧ algebraic_DwinIdeal_DwinRefIdeal (hDwinIdeal := hDwinIdeal) (hDwinRefIdeal := hDwinRefIdeal)
    ∧ preserves_Adamw_AdamwIdeal
    ∧ algebraic_AdamwIdeal_AdamwRefIdeal (hAdamwIdeal := hAdamwIdeal) (hAdamwRefIdeal := hAdamwRefIdeal)
    ∧ preserves_Sumgates_SumgatesIdeal
    ∧ algebraic_SumgatesIdeal_SumgatesRefIdeal (hSumgatesIdeal := hSumgatesIdeal) (hSumgatesRefIdeal := hSumgatesRefIdeal)
    ∧ preserves_Join_JoinIdeal
    ∧ algebraic_JoinIdeal_JoinRefIdeal (hJoinIdeal := hJoinIdeal) (hJoinRefIdeal := hJoinRefIdeal)
    ∧ preserves_Lru_LruIdeal
-- ==== Pre_attn_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_attnfwd_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) : IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_dact_finite.lean ====
abbrev S4096x2048 : Shape := ⟨2, ![4096, 2048]⟩
abbrev S2048x11264 : Shape := ⟨2, ![2048, 11264]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S2048x11264 .f32) (main_arg2 : FVec F S5632x2048 .f32) (main_arg3 : FVec F S4096x2048 .f32) : IVec S4096x2048 1 × IVec S2048x11264 1 × IVec S5632x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_loss_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) : IVec S4096x2048 1 × IVec S4096x2048 1 × IVec S1x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_merge_finite.lean ====
abbrev S4096x1024 : Shape := ⟨2, ![4096, 1024]⟩
abbrev S1024x2048 : Shape := ⟨2, ![1024, 2048]⟩
abbrev S4096x9216 : Shape := ⟨2, ![4096, 9216]⟩
abbrev S2048x2048 : Shape := ⟨2, ![2048, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1024x2048 : S_.BroadcastsInDim S1024x2048 (![] : Fin 0 → Fin S1024x2048.rank)
  bcast_S_S4096x9216 : S_.BroadcastsInDim S4096x9216 (![] : Fin 0 → Fin S4096x9216.rank)
  bcast_S_S2048x2048 : S_.BroadcastsInDim S2048x2048 (![] : Fin 0 → Fin S2048x2048.rank)
  bcast_S_S4096x2048 : S_.BroadcastsInDim S4096x2048 (![] : Fin 0 → Fin S4096x2048.rank)

variable [Facts]

def fn_part1 {F : FTy → Type} [FloatOps F] (main_arg6 : FVec F S4096x2048 .f32) (main_v2 : IVec S4096x1024 1) (main_v5 : IVec S4096x1024 1) (main_v8 : IVec S1024x2048 1) (main_v11 : IVec S1024x2048 1) (main_v14 : IVec S4096x9216 1) (main_v17 : IVec S2048x2048 1) : IVec S4096x1024 1 × IVec S4096x1024 1 × IVec S1024x2048 1 × IVec S1024x2048 1 × IVec S4096x9216 1 × IVec S2048x2048 1 × IVec S4096x2048 1 :=
  let main_v18 : FVec F S4096x2048 .f32 := Host.absf main_arg6
  let main_cst_5 : FVec F S_ .f32 := constant S_ .f32 0x7F800000#32
  let main_v19 : FVec F S4096x2048 .f32 := broadcastInDim S4096x2048 ![] bcast_S_S4096x2048 main_cst_5
  let main_v20 : IVec S4096x2048 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1024x2048 .f32) (main_arg3 : FVec F S1024x2048 .f32) (main_arg4 : FVec F S4096x9216 .f32) (main_arg5 : FVec F S2048x2048 .f32) (main_arg6 : FVec F S4096x2048 .f32) : IVec S4096x1024 1 × IVec S4096x1024 1 × IVec S1024x2048 1 × IVec S1024x2048 1 × IVec S4096x9216 1 × IVec S2048x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S4096x9216 .f32 := Host.absf main_arg4
  let main_cst_3 : FVec F S_ .f32 := constant S_ .f32 0x7F800000#32
  let main_v13 : FVec F S4096x9216 .f32 := broadcastInDim S4096x9216 ![] bcast_S_S4096x9216 main_cst_3
  let main_v14 : IVec S4096x9216 1 := cmpf .olt main_v12 main_v13
  let main_v15 : FVec F S2048x2048 .f32 := Host.absf main_arg5
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  fn_part1 (F := F) main_arg6 main_v2 main_v5 main_v8 main_v11 main_v14 main_v17
-- ==== Pre_norm1_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S1x2048 .f32) (main_arg3 : FVec F S1x2048 .f32) (main_arg4 : FVec F S4096x2048 .f32) (main_arg5 : FVec F S4096x2048 .f32) : IVec S4096x2048 1 × IVec S1x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4096x2048 .f32 := Host.absf main_arg5
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_norm2_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn_part1 {F : FTy → Type} [FloatOps F] (main_arg7 : FVec F S4096x2048 .f32) (main_v2 : IVec S4096x2048 1) (main_v5 : IVec S4096x2048 1) (main_v8 : IVec S1x2048 1) (main_v11 : IVec S1x2048 1) (main_v14 : IVec S1x2048 1) (main_v17 : IVec S4096x2048 1) : IVec S4096x2048 1 × IVec S4096x2048 1 × IVec S1x2048 1 × IVec S1x2048 1 × IVec S1x2048 1 × IVec S4096x2048 1 × IVec S4096x2048 1 :=
  let main_v18 : FVec F S4096x2048 .f32 := Host.absf main_arg7
  let main_cst_5 : FVec F S_ .f32 := constant S_ .f32 0x7F800000#32
  let main_v19 : FVec F S4096x2048 .f32 := broadcastInDim S4096x2048 ![] bcast_S_S4096x2048 main_cst_5
  let main_v20 : IVec S4096x2048 1 := cmpf .olt main_v18 main_v19
  (main_v2, main_v5, main_v8, main_v11, main_v14, main_v17, main_v20)

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S1x2048 .f32) (main_arg6 : FVec F S4096x2048 .f32) (main_arg7 : FVec F S4096x2048 .f32) : IVec S4096x2048 1 × IVec S4096x2048 1 × IVec S1x2048 1 × IVec S1x2048 1 × IVec S1x2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S4096x2048 .f32 := Host.absf main_arg6
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  fn_part1 (F := F) main_arg7 main_v2 main_v5 main_v8 main_v11 main_v14 main_v17
-- ==== Pre_norm3_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn_part1 {F : FTy → Type} [FloatOps F] (main_arg7 : FVec F S4096x2048 .f32) (main_v2 : IVec S4096x2048 1) (main_v5 : IVec S4096x2048 1) (main_v8 : IVec S1x2048 1) (main_v11 : IVec S1x2048 1) (main_v14 : IVec S1x2048 1) (main_v17 : IVec S4096x2048 1) : IVec S4096x2048 1 × IVec S4096x2048 1 × IVec S1x2048 1 × IVec S1x2048 1 × IVec S1x2048 1 × IVec S4096x2048 1 × IVec S4096x2048 1 :=
  let main_v18 : FVec F S4096x2048 .f32 := Host.absf main_arg7
  let main_cst_5 : FVec F S_ .f32 := constant S_ .f32 0x7F800000#32
  let main_v19 : FVec F S4096x2048 .f32 := broadcastInDim S4096x2048 ![] bcast_S_S4096x2048 main_cst_5
  let main_v20 : IVec S4096x2048 1 := cmpf .olt main_v18 main_v19
  (main_v2, main_v5, main_v8, main_v11, main_v14, main_v17, main_v20)

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S1x2048 .f32) (main_arg6 : FVec F S4096x2048 .f32) (main_arg7 : FVec F S4096x2048 .f32) : IVec S4096x2048 1 × IVec S4096x2048 1 × IVec S1x2048 1 × IVec S1x2048 1 × IVec S1x2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S4096x2048 .f32 := Host.absf main_arg6
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  fn_part1 (F := F) main_arg7 main_v2 main_v5 main_v8 main_v11 main_v14 main_v17
-- ==== Norm1.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm1RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm3.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 18
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm3RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Norm2.lean ====
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 21
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S4096x2048, .f32⟩
  | .hbm, ⟨16, _⟩ => ⟨S4096x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm2RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S_ : Shape := ⟨0, ![]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 17
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S1x128, .f32⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S4096x2048, .bf16⟩
  | .hbm, ⟨86, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Conv.lean ====
abbrev S4096x9216 : Shape := ⟨2, ![4096, 9216]⟩
abbrev S4x1024 : Shape := ⟨2, ![4, 1024]⟩
abbrev S1x1024 : Shape := ⟨2, ![1, 1024]⟩
abbrev S4096x1024 : Shape := ⟨2, ![4096, 1024]⟩
abbrev S_ : Shape := ⟨0, ![]⟩
abbrev S4104x1024 : Shape := ⟨2, ![4104, 1024]⟩
abbrev S4104x128 : Shape := ⟨2, ![4104, 128]⟩
abbrev S4x128 : Shape := ⟨2, ![4, 128]⟩
abbrev S4096x128 : Shape := ⟨2, ![4096, 128]⟩
abbrev S1x128 : Shape := ⟨2, ![1, 128]⟩
abbrev S264x128 : Shape := ⟨2, ![264, 128]⟩
abbrev S256x128 : Shape := ⟨2, ![256, 128]⟩
abbrev S128 : Shape := ⟨1, ![128]⟩

abbrev nBuf : Space → Nat
  | .hbm => 14
  | .vmem => 12
  | .smem => 0
  | _ => 0

abbrev bufTy : (tb : Table) → Fin (tcTables nBuf tb) → BufTy
  | .hbm, ⟨0, _⟩ => ⟨S4096x9216, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4104x1024, .f32⟩
  | .hbm, ⟨8, _⟩ => ⟨S_, .i32⟩
  | .hbm, ⟨9, _⟩ => ⟨S_, .f32⟩
  | .hbm, ⟨10, _⟩ => ⟨S4104x1024, .f32⟩
  | .hbm, ⟨11, _⟩ => ⟨S4096x1024, .f32⟩
  | .hbm, ⟨12, _⟩ => ⟨S4x1024, .f32⟩
  | .hbm, ⟨13, _⟩ => ⟨S1x1024, .f32⟩
  | .local _ .vmem, ⟨0, _⟩ => ⟨S4104x128, .f32⟩
  | .local _ .vmem, ⟨1, _⟩ => ⟨S4104x128, .f32⟩
  | .local _ .vmem, ⟨2, _⟩ => ⟨S4104x128, .f32⟩
  | .local _ .vmem, ⟨3, _⟩ => ⟨S4104x128, .f32⟩
  | .local _ .vmem, ⟨4, _⟩ => ⟨S4x128, .f32⟩
  | .local _ .vmem, ⟨5, _⟩ => ⟨S4x128, .f32⟩
  | .local _ .vmem, ⟨6, _⟩ => ⟨S4096x128, .f32⟩
  | .local _ .vmem, ⟨7, _⟩ => ⟨S4096x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v7 : Index := Scalar.indexCast v6
  let c0_5 : Index := 0#32
  ![v7.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v5 : BitVec 32 := Scalar.muli arg7 c256_i32
  let v6 : BitVec 32 := v5
  let v43 : Index := Scalar.indexCast v6
  let c0_10 : Index := 0#32
  ![v43.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4104x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4104x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S4096x9216 : Shape := ⟨2, ![4096, 9216]⟩
abbrev S4x1024 : Shape := ⟨2, ![4, 1024]⟩
abbrev S1x1024 : Shape := ⟨2, ![1, 1024]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S3x1024, .f32⟩
  | .hbm, ⟨7, _⟩ => ⟨S4099x1024, .f32⟩
  | .hbm, ⟨8, _⟩ => ⟨S_, .f32⟩
  | .hbm, ⟨9, _⟩ => ⟨S3x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S4099x1024, .f32⟩
  | .hbm, ⟨46, _⟩ => ⟨S_, .f32⟩
  | .hbm, ⟨47, _⟩ => ⟨S4x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S4099x1024, .f32⟩
  | .hbm, ⟨56, _⟩ => ⟨S4099x1024, .f32⟩
  | .hbm, ⟨57, _⟩ => ⟨S_, .f32⟩
  | .hbm, ⟨58, _⟩ => ⟨S4x1024, .f32⟩
  | .hbm, ⟨59, _⟩ => ⟨S4x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4099x1024, .f32⟩
  | .hbm, ⟨68, _⟩ => ⟨S4099x1024, .f32⟩
  | .hbm, ⟨69, _⟩ => ⟨S_, .f32⟩
  | .hbm, ⟨70, _⟩ => ⟨S4x1024, .f32⟩
  | .hbm, ⟨71, _⟩ => ⟨S4x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S4099x1024, .f32⟩
  | .hbm, ⟨80, _⟩ => ⟨S4099x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S3x1024, .f32⟩
  | .hbm, ⟨85, _⟩ => ⟨S4096x1024, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Attn.lean ====
abbrev S4096x1024 : Shape := ⟨2, ![4096, 1024]⟩
abbrev S4096x3072 : Shape := ⟨2, ![4096, 3072]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 49
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x3072, .f32⟩
  | .hbm, ⟨5, _⟩ => ⟨S4096x3072, .bf16⟩
  | .hbm, ⟨6, _⟩ => ⟨S4096x1024, .bf16⟩
  | .hbm, ⟨7, _⟩ => ⟨S4096x1024, .bf16⟩
  | .hbm, ⟨8, _⟩ => ⟨S4096x8x128, .bf16⟩
  | .hbm, ⟨9, _⟩ => ⟨S8x4096x128, .bf16⟩
  | .hbm, ⟨10, _⟩ => ⟨S4096x1024, .bf16⟩
  | .hbm, ⟨11, _⟩ => ⟨S4096x8x128, .bf16⟩
  | .hbm, ⟨12, _⟩ => ⟨S8x4096x128, .bf16⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S4096x8, .f32⟩
  | .hbm, ⟨44, _⟩ => ⟨S4096x8x128, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S4096x512, .f32⟩
  | .local _ .vmem, ⟨15, _⟩ => ⟨S4096x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_26 : BitVec 32 := 1#32
  ⟨c0_i32_25, v47, c1_i32_26⟩
def k0_mult1 (i : grid0.Coords) (k0_t1 : Fin (k0_t1_loop i).trips) : BitVec 32 :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  v387
def k0_off1 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v389 : Index := Scalar.indexCast v388
  let c0_138 : Index := 0#32
  ![v389.toNat, 0]
def k0_off2 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v392 : Index := Scalar.indexCast v388
  let c128_139 : Index := 128#32
  ![v392.toNat, 128]
def k0_off3 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v395 : Index := Scalar.indexCast v388
  let c256_140 : Index := 256#32
  ![v395.toNat, 256]
def k0_off4 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v398 : Index := Scalar.indexCast v388
  let c384_141 : Index := 384#32
  ![v398.toNat, 384]
@[reducible] def k0_t2_loop (i : grid0.Coords) : Scf.Loop 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let v44 : BitVec 32 := Scalar.addi c0_i32_25 v43
  let c1_i32_27 : BitVec 32 := 1#32
  ⟨v47, v44, c1_i32_27⟩
def k0_mult2 (i : grid0.Coords) (k0_t2 : Fin (k0_t2_loop i).trips) : BitVec 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  v387
def k0_off5 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v389 : Index := Scalar.indexCast v388
  let c0_138 : Index := 0#32
  ![v389.toNat, 0]
def k0_off6 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v392 : Index := Scalar.indexCast v388
  let c128_139 : Index := 128#32
  ![v392.toNat, 128]
def k0_off7 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v395 : Index := Scalar.indexCast v388
  let c256_140 : Index := 256#32
  ![v395.toNat, 256]
def k0_off8 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v398 : Index := Scalar.indexCast v388
  let c384_141 : Index := 384#32
  ![v398.toNat, 384]
def k0_mult3 (i : grid0.Coords) : BitVec 32 :=
  let arg1 : BitVec 32 := BitVec.ofNat 32 (i 1).val
  let c256_i32 : BitVec 32 := 256#32
  let v50 : BitVec 32 := Scalar.muli arg1 c256_i32
  v50
def k0_off9 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v52 : Index := Scalar.indexCast v51
  let c0_28 : Index := 0#32
  ![v52.toNat, 0]
def k0_off10 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v55 : Index := Scalar.indexCast v51
  let c128_29 : Index := 128#32
  ![v55.toNat, 128]
def k0_off11 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v58 : Index := Scalar.indexCast v51
  let c256_30 : Index := 256#32
  ![v58.toNat, 256]
def k0_off12 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v61 : Index := Scalar.indexCast v51
  let c384_31 : Index := 384#32
  ![v61.toNat, 384]
def k0_cond2 (i : grid0.Coords) : BitVec 1 :=
  let arg1 : BitVec 32 := BitVec.ofNat 32 (i 1).val
  let c15_i32 : BitVec 32 := 15#32
  let v384 : BitVec 1 := Scalar.cmpi .eq arg1 c15_i32
  let v385 : BitVec 32 := Scalar.extui v384
  let c0_i32_136 : BitVec 32 := 0#32
  let v386 : BitVec 1 := Scalar.cmpi .ne v385 c0_i32_136
  v386

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4095 : Shape := ⟨3, ![8, 4096, 4095]⟩
abbrev S8x4096x1 : Shape := ⟨3, ![8, 4096, 1]⟩
abbrev S8x128x4096 : Shape := ⟨3, ![8, 128, 4096]⟩

abbrev nBuf : Space → Nat
  | .hbm => 188
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x8x128, .f32⟩
  | 5 => ⟨S8x4096x128, .f32⟩
  | 6 => ⟨S4096x8x128, .f32⟩
  | 7 => ⟨S8x4096x128, .f32⟩
  | 8 => ⟨S4096x8x128, .f32⟩
  | 9 => ⟨S8x4096x128, .f32⟩
  | 10 => ⟨S8x4096x4096, .f32⟩
  | 11 => ⟨S_, .f32⟩
  | 12 => ⟨S8x4096x4096, .f32⟩
  | 13 => ⟨S8x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S8x4096x4096, .f32⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .i1⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .i1⟩
  | 40 => ⟨S_, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .i1⟩
  | 46 => ⟨S_, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x4096x4096, .f32⟩
  | 59 => ⟨S8x4096x4096, .i1⟩
  | 60 => ⟨S_, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S_, .f32⟩
  | 71 => ⟨S_, .f32⟩
  | 72 => ⟨S8x4096x4096, .i1⟩
  | 73 => ⟨S8x4096x4096, .f32⟩
  | 74 => ⟨S8x4096x4096, .f32⟩
  | 75 => ⟨S_, .f32⟩
  | 76 => ⟨S8x4096x4096, .f32⟩
  | 77 => ⟨S_, .f32⟩
  | 78 => ⟨S_, .f32⟩
  | 79 => ⟨S8x4096x4096, .f32⟩
  | 80 => ⟨S8x4096x4095, .f32⟩
  | 81 => ⟨S8x4096x1, .f32⟩
  | 82 => ⟨S_, .f32⟩
  | 83 => ⟨S8x4096x1, .f32⟩
  | 84 => ⟨S8x4096x4096, .f32⟩
  | 85 => ⟨S_, .f32⟩
  | 86 => ⟨S8x4096x1, .f32⟩
  | 87 => ⟨S8x4096x4096, .f32⟩
  | 88 => ⟨S_, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .i1⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .i1⟩
  | 105 => ⟨S_, .f32⟩
  | 106 => ⟨S8x4096x4096, .f32⟩
  | 107 => ⟨S8x4096x4096, .f32⟩
  | 108 => ⟨S_, .f32⟩
  | 109 => ⟨S8x4096x4096, .f32⟩
  | 110 => ⟨S8x4096x4096, .i1⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S8x4096x4096, .f32⟩
  | 124 => ⟨S8x4096x4096, .i1⟩
  | 125 => ⟨S_, .f32⟩
  | 126 => ⟨S8x4096x4096, .f32⟩
  | 127 => ⟨S8x4096x4096, .f32⟩
  | _ => ⟨S4096x1024, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S8x4096x4096, .f32⟩
  | 5 => ⟨S8x4096x4096, .f32⟩
  | 6 => ⟨S8x4096x4096, .f32⟩
  | 7 => ⟨S8x4096x4096, .f32⟩
  | 8 => ⟨S8x4096x4096, .f32⟩
  | 9 => ⟨S_, .f32⟩
  | 10 => ⟨S_, .f32⟩
  | 11 => ⟨S8x4096x4096, .i1⟩
  | 12 => ⟨S8x4096x4096, .f32⟩
  | 13 => ⟨S8x4096x4096, .f32⟩
  | 14 => ⟨S_, .f32⟩
  | 15 => ⟨S8x4096x4096, .f32⟩
  | 16 => ⟨S8x4096x128, .f32⟩
  | 17 => ⟨S4096x8x128, .f32⟩
  | 18 => ⟨S4096x1024, .f32⟩
  | 19 => ⟨S4096x8x128, .f32⟩
  | 20 => ⟨S8x4096x128, .f32⟩
  | 21 => ⟨S8x128x4096, .f32⟩
  | 22 => ⟨S8x4096x128, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4095, .f32⟩
  | 32 => ⟨S8x4096x1, .f32⟩
  | 33 => ⟨S_, .f32⟩
  | 34 => ⟨S8x4096x4096, .f32⟩
  | 35 => ⟨S_, .f32⟩
  | 36 => ⟨S_, .f32⟩
  | 37 => ⟨S8x4096x4096, .f32⟩
  | 38 => ⟨S_, .f32⟩
  | 39 => ⟨S8x4096x4096, .f32⟩
  | 40 => ⟨S8x4096x4096, .f32⟩
  | 41 => ⟨S8x4096x4096, .f32⟩
  | 42 => ⟨S8x4096x4096, .f32⟩
  | 43 => ⟨S8x4096x4096, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .f32⟩
  | 49 => ⟨S8x4096x128, .f32⟩
  | 50 => ⟨S8x4096x128, .f32⟩
  | 51 => ⟨S4096x8x128, .f32⟩
  | 52 => ⟨S4096x1024, .f32⟩
  | 53 => ⟨S4096x8x128, .f32⟩
  | 54 => ⟨S4096x1024, .f32⟩
  | 55 => ⟨S4096x8x128, .f32⟩
  | 56 => ⟨S4096x1024, .f32⟩
  | 57 => ⟨S4096x1024, .bf16⟩
  | 58 => ⟨S4096x1024, .bf16⟩
  | 59 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_1 : Ref sig .tc := ⟨.hbm, 82, rfl⟩
abbrev main_v22 : Ref sig .tc := ⟨.hbm, 83, rfl⟩
abbrev main_v23 : Ref sig .tc := ⟨.hbm, 84, rfl⟩
abbrev main_cst_2 : Ref sig .tc := ⟨.hbm, 85, rfl⟩
abbrev main_v24 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1_0 : Ref sig .tc := ⟨.hbm, 101, rfl⟩
abbrev main_call3_call0_cst_0 : Ref sig .tc := ⟨.hbm, 102, rfl⟩
abbrev main_call3_call0_v13 : Ref sig .tc := ⟨.hbm, 103, rfl⟩
abbrev main_call3_call0_v14 : Ref sig .tc := ⟨.hbm, 104, rfl⟩
abbrev main_call3_call0_cst_1 : Ref sig .tc := ⟨.hbm, 105, rfl⟩
abbrev main_call3_call0_v15 : Ref sig .tc := ⟨.hbm, 106, rfl⟩
abbrev main_call3_call0_v16 : Ref sig .tc := ⟨.hbm, 107, rfl⟩
abbrev main_call3_call0_cst_2 : Ref sig .tc := ⟨.hbm, 108, rfl⟩
abbrev main_call3_call0_v17 : Ref sig .tc := ⟨.hbm, 109, rfl⟩
abbrev main_call3_call0_v18 : Ref sig .tc := ⟨.hbm, 110, rfl⟩
abbrev main_call3_call0_cst_3 : Ref sig .tc := ⟨.hbm, 111, rfl⟩
abbrev main_call3_call0_v19 : Ref sig .tc := ⟨.hbm, 112, rfl⟩
abbrev main_call3_call0_v20 : Ref sig .tc := ⟨.hbm, 113, rfl⟩
abbrev main_call3_call0_v21 : Ref sig .tc := ⟨.hbm, 114, rfl⟩
abbrev main_v25_1 : Ref sig .tc := ⟨.hbm, 115, rfl⟩
abbrev main_call3_call0_cst_4 : Ref sig .tc := ⟨.hbm, 116, rfl⟩
abbrev main_call3_call0_cst_5 : Ref sig .tc := ⟨.hbm, 117, rfl⟩
abbrev main_call3_call0_v23 : Ref sig .tc := ⟨.hbm, 118, rfl⟩
abbrev main_call3_call0_cst_6 : Ref sig .tc := ⟨.hbm, 119, rfl⟩
abbrev main_call3_call0_cst_7 : Ref sig .tc := ⟨.hbm, 120, rfl⟩
abbrev main_call3_call0_v24 : Ref sig .tc := ⟨.hbm, 121, rfl⟩
abbrev main_call3_call0_cst_8 : Ref sig .tc := ⟨.hbm, 122, rfl⟩
abbrev main_call3_call0_v25 : Ref sig .tc := ⟨.hbm, 123, rfl⟩
abbrev main_call3_call0_v26 : Ref sig .tc := ⟨.hbm, 124, rfl⟩
abbrev main_call3_call0_cst_9 : Ref sig .tc := ⟨.hbm, 125, rfl⟩
abbrev main_call3_call0_v27 : Ref sig .tc := ⟨.hbm, 126, rfl⟩
abbrev main_call3_call0_v28 : Ref sig .tc := ⟨.hbm, 127, rfl⟩
abbrev main_call3_call0_v29 : Ref sig .tc := ⟨.hbm, 128, rfl⟩
abbrev main_call3_call0_v30 : Ref sig .tc := ⟨.hbm, 129, rfl⟩
abbrev main_call3_call0_v31 : Ref sig .tc := ⟨.hbm, 130, rfl⟩
abbrev main_call3_call0_cst_10 : Ref sig .tc := ⟨.hbm, 131, rfl⟩
abbrev main_call3_call0_v32 : Ref sig .tc := ⟨.hbm, 132, rfl⟩
abbrev main_v25_2 : Ref sig .tc := ⟨.hbm, 133, rfl⟩
abbrev main_v25_0 : Ref sig .tc := ⟨.hbm, 134, rfl⟩
abbrev main_v26 : Ref sig .tc := ⟨.hbm, 135, rfl⟩
abbrev main_v27 : Ref sig .tc := ⟨.hbm, 136, rfl⟩
abbrev main_cst_3 : Ref sig .tc := ⟨.hbm, 137, rfl⟩
abbrev main_call4_v0 : Ref sig .tc := ⟨.hbm, 138, rfl⟩
abbrev main_v28_1 : Ref sig .tc := ⟨.hbm, 139, rfl⟩
abbrev main_call4_v2 : Ref sig .tc := ⟨.hbm, 140, rfl⟩
abbrev main_v28_0 : Ref sig .tc := ⟨.hbm, 141, rfl⟩
abbrev main_call4_cst : Ref sig .tc := ⟨.hbm, 142, rfl⟩
abbrev main_v28_2 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_call5_cst : Ref sig .tc := ⟨.hbm, 152, rfl⟩
abbrev main_call5_v0 : Ref sig .tc := ⟨.hbm, 153, rfl⟩
abbrev main_v37 : Ref sig .tc := ⟨.hbm, 154, rfl⟩
abbrev main_v38 : Ref sig .tc := ⟨.hbm, 155, rfl⟩
abbrev main_call6_v0 : Ref sig .tc := ⟨.hbm, 156, rfl⟩
abbrev main_call6_v1 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_cst_4 : Ref sig .tc := ⟨.hbm, 161, rfl⟩
abbrev main_v42 : Ref sig .tc := ⟨.hbm, 162, rfl⟩
abbrev main_call7_cst : Ref sig .tc := ⟨.hbm, 163, rfl⟩
abbrev main_call7_v0 : Ref sig .tc := ⟨.hbm, 164, rfl⟩
abbrev main_v43 : Ref sig .tc := ⟨.hbm, 165, rfl⟩
abbrev main_call8_cst : Ref sig .tc := ⟨.hbm, 166, rfl⟩
abbrev main_call8_v0 : Ref sig .tc := ⟨.hbm, 167, rfl⟩
abbrev main_v44 : Ref sig .tc := ⟨.hbm, 168, rfl⟩
abbrev main_call9_v0 : Ref sig .tc := ⟨.hbm, 169, rfl⟩
abbrev main_call9_v1 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_cst_5 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩

abbrev nD : Nat := 1
abbrev τ : Topo := Topo.v7x

variable {F : FTy → Type} [FloatOps F]
-- ==== Dact.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S2x1x4096x5632 : Shape := ⟨4, ![2, 1, 4096, 5632]⟩
abbrev S1x4096x2048 : Shape := ⟨3, ![1, 4096, 2048]⟩
abbrev S1x5632x2048 : Shape := ⟨3, ![1, 5632, 2048]⟩
abbrev S1x512x2048 : Shape := ⟨3, ![1, 512, 2048]⟩
abbrev S1x2816x2048 : Shape := ⟨3, ![1, 2816, 2048]⟩
abbrev S2x1x512x2816 : Shape := ⟨4, ![2, 1, 512, 2816]⟩
abbrev S512x2048 : Shape := ⟨2, ![512, 2048]⟩
abbrev S2816x2048 : Shape := ⟨2, ![2816, 2048]⟩
abbrev S512x2816 : Shape := ⟨2, ![512, 2816]⟩
abbrev S1x1x512x2816 : Shape := ⟨4, ![1, 1, 512, 2816]⟩

abbrev nBuf : Space → Nat
  | .hbm => 17
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x1x4096x5632, .f32⟩
  | .hbm, ⟨11, _⟩ => ⟨S2x1x4096x5632, .bf16⟩
  | .hbm, ⟨12, _⟩ => ⟨S4096x2048, .bf16⟩
  | .hbm, ⟨13, _⟩ => ⟨S1x4096x2048, .bf16⟩
  | .hbm, ⟨14, _⟩ => ⟨S5632x2048, .bf16⟩
  | .hbm, ⟨15, _⟩ => ⟨S1x5632x2048, .bf16⟩
  | .hbm, ⟨16, _⟩ => ⟨S2x1x4096x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2816x2048, .bf16⟩
  | .local _ .vmem, ⟨3, _⟩ => ⟨S2x1x512x2816, .bf16⟩
  | .local _ .vmem, ⟨4, _⟩ => ⟨S2x1x512x2816, .bf16⟩
  | .local _ .vmem, ⟨5, _⟩ => ⟨S2x1x512x2816, .bf16⟩
  | .local _ .vmem, ⟨6, _⟩ => ⟨S2x1x512x2816, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2x1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩
abbrev S2x1x4096x5632 : Shape := ⟨4, ![2, 1, 4096, 5632]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x4096x5632, .f32⟩
  | .hbm, ⟨30, _⟩ => ⟨S1x4096x5632, .f32⟩
  | .hbm, ⟨31, _⟩ => ⟨S2x4096x5632, .f32⟩
  | .hbm, ⟨32, _⟩ => ⟨S2x1x4096x5632, .f32⟩
  | .hbm, ⟨33, _⟩ => ⟨S2x1x4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Merge.lean ====
abbrev S4096x1024 : Shape := ⟨2, ![4096, 1024]⟩
abbrev S1024x2048 : Shape := ⟨2, ![1024, 2048]⟩
abbrev S4096x9216 : Shape := ⟨2, ![4096, 9216]⟩
abbrev S2048x2048 : Shape := ⟨2, ![2048, 2048]⟩
abbrev S4096x2048 : Shape := ⟨2, ![4096, 2048]⟩
abbrev S1x4096x2048 : Shape := ⟨3, ![1, 4096, 2048]⟩
abbrev S1x4096x9216 : Shape := ⟨3, ![1, 4096, 9216]⟩
abbrev S1x2048x2048 : Shape := ⟨3, ![1, 2048, 2048]⟩
abbrev S1x512x2048 : Shape := ⟨3, ![1, 512, 2048]⟩
abbrev S1x1024x2048 : Shape := ⟨3, ![1, 1024, 2048]⟩
abbrev S1x512x1024 : Shape := ⟨3, ![1, 512, 1024]⟩
abbrev S512x2048 : Shape := ⟨2, ![512, 2048]⟩
abbrev S512x1024 : Shape := ⟨2, ![512, 1024]⟩

abbrev nBuf : Space → Nat
  | .hbm => 22
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x9216, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S1x4096x2048, .bf16⟩
  | .hbm, ⟨10, _⟩ => ⟨S4096x2048, .f32⟩
  | .hbm, ⟨11, _⟩ => ⟨S4096x2048, .bf16⟩
  | .hbm, ⟨12, _⟩ => ⟨S1x4096x2048, .bf16⟩
  | .hbm, ⟨13, _⟩ => ⟨S1x4096x9216, .f32⟩
  | .hbm, ⟨14, _⟩ => ⟨S4096x2048, .bf16⟩
  | .hbm, ⟨15, _⟩ => ⟨S1x4096x2048, .bf16⟩
  | .hbm, ⟨16, _⟩ => ⟨S2048x2048, .bf16⟩
  | .hbm, ⟨17, _⟩ => ⟨S1x2048x2048, .bf16⟩
  | .hbm, ⟨18, _⟩ => ⟨S1x4096x2048, .bf16⟩
  | .hbm, ⟨19, _⟩ => ⟨S1x4096x2048, .bf16⟩
  | .hbm, ⟨20, _⟩ => ⟨S1x4096x2048, .bf16⟩
  | .hbm, ⟨21, _⟩ => ⟨S1x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32_4 : BitVec 32 := 5#32
  let v18 : BitVec 32 := Scalar.addi arg0 c5_i32_4
  let c5_i32_5 : BitVec 32 := 5#32
  let v19 : BitVec 32 := Scalar.addi arg0 c5_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c7_i32_4 : BitVec 32 := 7#32
  let v18 : BitVec 32 := Scalar.addi arg0 c7_i32_4
  let c7_i32_5 : BitVec 32 := 7#32
  let v19 : BitVec 32 := Scalar.addi arg0 c7_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MergeRefIdeal.lean ====
abbrev S4096x1024 : Shape := ⟨2, ![4096, 1024]⟩
abbrev S1024x2048 : Shape := ⟨2, ![1024, 2048]⟩
abbrev S4096x9216 : Shape := ⟨2, ![4096, 9216]⟩
abbrev S2048x2048 : Shape := ⟨2, ![2048, 2048]⟩
abbrev S4096x2048 : Shape := ⟨2, ![4096, 2048]⟩
abbrev S_ : Shape := ⟨0, ![]⟩
abbrev S1x4096x2048 : Shape := ⟨3, ![1, 4096, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x9216, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S1x4096x2048, .bf16⟩
  | .hbm, ⟨48, _⟩ => ⟨S4096x2048, .bf16⟩
  | .hbm, ⟨49, _⟩ => ⟨S1x4096x2048, .bf16⟩
  | .hbm, ⟨50, _⟩ => ⟨S4096x2048, .bf16⟩
  | .hbm, ⟨51, _⟩ => ⟨S1x4096x2048, .bf16⟩
  | .hbm, ⟨52, _⟩ => ⟨S4096x2048, .bf16⟩
  | .hbm, ⟨53, _⟩ => ⟨S1x4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== AttnFwd.lean ====
abbrev S4096x1024 : Shape := ⟨2, ![4096, 1024]⟩
abbrev S4096x3072 : Shape := ⟨2, ![4096, 3072]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x3072, .f32⟩
  | .hbm, ⟨4, _⟩ => ⟨S4096x3072, .bf16⟩
  | .hbm, ⟨5, _⟩ => ⟨S4096x1024, .bf16⟩
  | .hbm, ⟨6, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v23 : BitVec 32 := Scalar.muli arg1 c256_i32
  v23
def k0_off1 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v25 : Index := Scalar.indexCast v24
  let c0_11 : Index := 0#32
  ![v25.toNat, 0]
def k0_off2 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v31 : Index := Scalar.indexCast v24
  let c128_14 : Index := 128#32
  ![v31.toNat, 128]
def k0_off3 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v37 : Index := Scalar.indexCast v24
  let c256_17 : Index := 256#32
  ![v37.toNat, 256]
def k0_off4 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v43 : Index := Scalar.indexCast v24
  let c384_20 : Index := 384#32
  ![v43.toNat, 384]
@[reducible] def k0_t1_loop (i : grid0.Coords) : Scf.Loop 32 :=
  let c0_i32 : BitVec 32 := 0#32
  let arg1 : BitVec 32 := BitVec.ofNat 32 (i 1).val
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_67 : BitVec 32 := 1#32
  ⟨c0_i32, v201, c1_i32_67⟩
def k0_mult2 (i : grid0.Coords) (k0_t1 : Fin (k0_t1_loop i).trips) : BitVec 32 :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  v226
def k0_off5 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v228 : Index := Scalar.indexCast v227
  let c0_87 : Index := 0#32
  ![v228.toNat, 0]
def k0_off6 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v234 : Index := Scalar.indexCast v227
  let c128_90 : Index := 128#32
  ![v234.toNat, 128]
def k0_off7 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v240 : Index := Scalar.indexCast v227
  let c256_93 : Index := 256#32
  ![v240.toNat, 256]
def k0_off8 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v246 : Index := Scalar.indexCast v227
  let c384_96 : Index := 384#32
  ![v246.toNat, 384]
@[reducible] def k0_t2_loop (i : grid0.Coords) : Scf.Loop 32 :=
  let c0_i32 : BitVec 32 := 0#32
  let arg1 : BitVec 32 := BitVec.ofNat 32 (i 1).val
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let v198 : BitVec 32 := Scalar.addi c0_i32 v197
  let c1_i32_68 : BitVec 32 := 1#32
  ⟨v201, v198, c1_i32_68⟩
def k0_mult3 (i : grid0.Coords) (k0_t2 : Fin (k0_t2_loop i).trips) : BitVec 32 :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  v226
def k0_off9 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v228 : Index := Scalar.indexCast v227
  let c0_87 : Index := 0#32
  ![v228.toNat, 0]
def k0_off10 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v234 : Index := Scalar.indexCast v227
  let c128_90 : Index := 128#32
  ![v234.toNat, 128]
def k0_off11 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v240 : Index := Scalar.indexCast v227
  let c256_93 : Index := 256#32
  ![v240.toNat, 256]
def k0_off12 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v246 : Index := Scalar.indexCast v227
  let c384_96 : Index := 384#32
  ![v246.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4095 : Shape := ⟨3, ![8, 4096, 4095]⟩
abbrev S8x4096x1 : Shape := ⟨3, ![8, 4096, 1]⟩
abbrev S8x4096 : Shape := ⟨2, ![8, 4096]⟩
abbrev S4096x8 : Shape := ⟨2, ![4096, 8]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8x128, .f32⟩
  | .hbm, ⟨4, _⟩ => ⟨S8x4096x128, .f32⟩
  | .hbm, ⟨5, _⟩ => ⟨S4096x8x128, .f32⟩
  | .hbm, ⟨6, _⟩ => ⟨S8x4096x128, .f32⟩
  | .hbm, ⟨7, _⟩ => ⟨S4096x8x128, .f32⟩
  | .hbm, ⟨8, _⟩ => ⟨S8x4096x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4095, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .i1⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S_, .f32⟩
  | .hbm, ⟨70, _⟩ => ⟨S8x4096x4096, .i1⟩
  | .hbm, ⟨71, _⟩ => ⟨S8x4096x4096, .f32⟩
  | .hbm, ⟨72, _⟩ => ⟨S8x4096x4096, .f32⟩
  | .hbm, ⟨73, _⟩ => ⟨S8x4096x128, .f32⟩
  | .hbm, ⟨74, _⟩ => ⟨S4096x8x128, .f32⟩
  | .hbm, ⟨75, _⟩ => ⟨S4096x1024, .f32⟩
  | .hbm, ⟨76, _⟩ => ⟨S4096x1024, .bf16⟩
  | .hbm, ⟨77, _⟩ => ⟨S4096x8x128, .f32⟩
  | .hbm, ⟨78, _⟩ => ⟨S8x4096x128, .f32⟩
  | .hbm, ⟨79, _⟩ => ⟨S4096x8x128, .f32⟩
  | .hbm, ⟨80, _⟩ => ⟨S8x4096x128, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S4096, .i32⟩
  | .hbm, ⟨86, _⟩ => ⟨S1x4096, .i32⟩
  | .hbm, ⟨87, _⟩ => ⟨S4096, .i32⟩
  | .hbm, ⟨88, _⟩ => ⟨S4096x1, .i32⟩
  | .hbm, ⟨89, _⟩ => ⟨S4096x4096, .i32⟩
  | .hbm, ⟨90, _⟩ => ⟨S4096x4096, .i32⟩
  | .hbm, ⟨91, _⟩ => ⟨S4096x4096, .i1⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S8x4096x4096, .i1⟩
  | .hbm, ⟨100, _⟩ => ⟨S8x4096x4096, .f32⟩
  | .hbm, ⟨101, _⟩ => ⟨S8x4096x4096, .f32⟩
  | .hbm, ⟨102, _⟩ => ⟨S8x4096x4096, .f32⟩
  | .hbm, ⟨103, _⟩ => ⟨S8x4096x4096, .f32⟩
  | .hbm, ⟨104, _⟩ => ⟨S8x4096x4096, .f32⟩
  | .hbm, ⟨105, _⟩ => ⟨S8x4096x4096, .f32⟩
  | .hbm, ⟨106, _⟩ => ⟨S8x4096x4096, .f32⟩
  | .hbm, ⟨107, _⟩ => ⟨S8x4096x4096, .f32⟩
  | .hbm, ⟨108, _⟩ => ⟨S8x4096x4096, .f32⟩
  | .hbm, ⟨109, _⟩ => ⟨S_, .f32⟩
  | .hbm, ⟨110, _⟩ => ⟨S_, .f32⟩
  | .hbm, ⟨111, _⟩ => ⟨S8x4096x4096, .i1⟩
  | .hbm, ⟨112, _⟩ => ⟨S8x4096x4096, .f32⟩
  | .hbm, ⟨113, _⟩ => ⟨S8x4096x4096, .f32⟩
  | .hbm, ⟨114, _⟩ => ⟨S_, .f32⟩
  | .hbm, ⟨115, _⟩ => ⟨S8x4096, .f32⟩
  | .hbm, ⟨116, _⟩ => ⟨S4096x8, .f32⟩
  | .hbm, ⟨117, _⟩ => ⟨S4096x8x128, .f32⟩
  | .hbm, ⟨118, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_3 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_call5_v0 : Ref sig .tc := ⟨.hbm, 93, rfl⟩
abbrev main_call5_call0_cst : Ref sig .tc := ⟨.hbm, 94, rfl⟩
abbrev main_call5_call0_v0 : Ref sig .tc := ⟨.hbm, 95, rfl⟩
abbrev main_call5_call0_v1 : Ref sig .tc := ⟨.hbm, 96, rfl⟩
abbrev main_call5_call0_v2 : Ref sig .tc := ⟨.hbm, 97, rfl⟩
abbrev main_call5_call0_v3 : Ref sig .tc := ⟨.hbm, 98, rfl⟩
abbrev main_call5_call0_v4 : Ref sig .tc := ⟨.hbm, 99, rfl⟩
abbrev main_call5_call0_v5 : Ref sig .tc := ⟨.hbm, 100, rfl⟩
abbrev main_call5_call0_v6 : Ref sig .tc := ⟨.hbm, 101, rfl⟩
abbrev main_call5_call0_v7 : Ref sig .tc := ⟨.hbm, 102, rfl⟩
abbrev main_call5_call0_v8 : Ref sig .tc := ⟨.hbm, 103, rfl⟩
abbrev main_call5_call0_v9 : Ref sig .tc := ⟨.hbm, 104, rfl⟩
abbrev main_call5_call0_v10 : Ref sig .tc := ⟨.hbm, 105, rfl⟩
abbrev main_call5_call0_v11 : Ref sig .tc := ⟨.hbm, 106, rfl⟩
abbrev main_call5_v1 : Ref sig .tc := ⟨.hbm, 107, rfl⟩
abbrev main_v47 : Ref sig .tc := ⟨.hbm, 108, rfl⟩
abbrev main_cst_4 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v48 : Ref sig .tc := ⟨.hbm, 113, rfl⟩
abbrev main_cst_5 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Swiglu.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1x4096x2048 : Shape := ⟨3, ![1, 4096, 2048]⟩
abbrev S2x4x2048x1408 : Shape := ⟨4, ![2, 4, 2048, 1408]⟩
abbrev S2x1x4096x5632 : Shape := ⟨4, ![2, 1, 4096, 5632]⟩
abbrev S1x4096x5632 : Shape := ⟨3, ![1, 4096, 5632]⟩
abbrev S1x512x2048 : Shape := ⟨3, ![1, 512, 2048]⟩
abbrev S2x1x2048x1408 : Shape := ⟨4, ![2, 1, 2048, 1408]⟩
abbrev S2x1x512x1408 : Shape := ⟨4, ![2, 1, 512, 1408]⟩
abbrev S1x512x1408 : Shape := ⟨3, ![1, 512, 1408]⟩
abbrev S2048x2816 : Shape := ⟨2, ![2048, 2816]⟩
abbrev S1x1x2048x1408 : Shape := ⟨4, ![1, 1, 2048, 1408]⟩
abbrev S2048x1408 : Shape := ⟨2, ![2048, 1408]⟩
abbrev S512x2048 : Shape := ⟨2, ![512, 2048]⟩
abbrev S512x2816 : Shape := ⟨2, ![512, 2816]⟩
abbrev S512x1408 : Shape := ⟨2, ![512, 1408]⟩
abbrev S1x1x512x1408 : Shape := ⟨4, ![1, 1, 512, 1408]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .bf16⟩
  | .hbm, ⟨6, _⟩ => ⟨S1x4096x2048, .bf16⟩
  | .hbm, ⟨7, _⟩ => ⟨S2x4x2048x1408, .bf16⟩
  | .hbm, ⟨8, _⟩ => ⟨S2x1x4096x5632, .bf16⟩
  | .hbm, ⟨9, _⟩ => ⟨S1x4096x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S2x1x2048x1408, .bf16⟩
  | .local _ .vmem, ⟨3, _⟩ => ⟨S2x1x512x1408, .bf16⟩
  | .local _ .vmem, ⟨4, _⟩ => ⟨S2x1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S2048x2816, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2x1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwigluRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S2x1x4096x5632 : Shape := ⟨4, ![2, 1, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | .hbm, ⟨8, _⟩ => ⟨S2x1x4096x5632, .f32⟩
  | .hbm, ⟨9, _⟩ => ⟨S2x1x4096x5632, .bf16⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x4096x5632, .f32⟩
  | .hbm, ⟨21, _⟩ => ⟨S1x4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Resid.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x4096x5632 : Shape := ⟨3, ![1, 4096, 5632]⟩
abbrev S8x704x2048 : Shape := ⟨3, ![8, 704, 2048]⟩
abbrev S1x5632x2048 : Shape := ⟨3, ![1, 5632, 2048]⟩
abbrev S1x4096x2048 : Shape := ⟨3, ![1, 4096, 2048]⟩
abbrev S1x512x5632 : Shape := ⟨3, ![1, 512, 5632]⟩
abbrev S1x5632x1024 : Shape := ⟨3, ![1, 5632, 1024]⟩
abbrev S1x512x1024 : Shape := ⟨3, ![1, 512, 1024]⟩
abbrev S1x1024 : Shape := ⟨2, ![1, 1024]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S4096x5632, .bf16⟩
  | .hbm, ⟨5, _⟩ => ⟨S1x4096x5632, .bf16⟩
  | .hbm, ⟨6, _⟩ => ⟨S5632x2048, .bf16⟩
  | .hbm, ⟨7, _⟩ => ⟨S8x704x2048, .bf16⟩
  | .hbm, ⟨8, _⟩ => ⟨S1x5632x2048, .bf16⟩
  | .hbm, ⟨9, _⟩ => ⟨S1x4096x2048, .f32⟩
  | .hbm, ⟨10, _⟩ => ⟨S1x4096x2048, .bf16⟩
  | .hbm, ⟨11, _⟩ => ⟨S1x4096x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S1x5632x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ResidRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x4096x2048 : Shape := ⟨3, ![1, 4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x4096x2048, .f32⟩
  | .hbm, ⟨6, _⟩ => ⟨S1x4096x2048, .bf16⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S1x4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Mixout.lean ====
abbrev S4096x2048 : Shape := ⟨2, ![4096, 2048]⟩
abbrev S2048x2048 : Shape := ⟨2, ![2048, 2048]⟩
abbrev S1x2048 : Shape := ⟨2, ![1, 2048]⟩
abbrev S8x256x2048 : Shape := ⟨3, ![8, 256, 2048]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S1x1024 : Shape := ⟨2, ![1, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S2048x2048, .bf16⟩
  | .hbm, ⟨5, _⟩ => ⟨S8x256x2048, .bf16⟩
  | .hbm, ⟨6, _⟩ => ⟨S4096x2048, .bf16⟩
  | .hbm, ⟨7, _⟩ => ⟨S1x4096x2048, .bf16⟩
  | .hbm, ⟨8, _⟩ => ⟨S1x2048x2048, .bf16⟩
  | .hbm, ⟨9, _⟩ => ⟨S1x4096x2048, .f32⟩
  | .hbm, ⟨10, _⟩ => ⟨S1x4096x2048, .bf16⟩
  | .hbm, ⟨11, _⟩ => ⟨S1x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixoutRefIdeal.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x4096x2048, .f32⟩
  | .hbm, ⟨6, _⟩ => ⟨S1x4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dwin.lean ====
abbrev S4096x2048 : Shape := ⟨2, ![4096, 2048]⟩
abbrev S2x4096x5632 : Shape := ⟨3, ![2, 4096, 5632]⟩
abbrev S1x4096x2048 : Shape := ⟨3, ![1, 4096, 2048]⟩
abbrev S4x2x2048x1408 : Shape := ⟨4, ![4, 2, 2048, 1408]⟩
abbrev S1x4096x512 : Shape := ⟨3, ![1, 4096, 512]⟩
abbrev S1x4096x2816 : Shape := ⟨3, ![1, 4096, 2816]⟩
abbrev S1x2x512x1408 : Shape := ⟨4, ![1, 2, 512, 1408]⟩
abbrev S4096x512 : Shape := ⟨2, ![4096, 512]⟩
abbrev S4096x2816 : Shape := ⟨2, ![4096, 2816]⟩
abbrev S512x2816 : Shape := ⟨2, ![512, 2816]⟩
abbrev S512x1408 : Shape := ⟨2, ![512, 1408]⟩
abbrev S1x1x512x1408 : Shape := ⟨4, ![1, 1, 512, 1408]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x4096x5632, .f32⟩
  | .hbm, ⟨2, _⟩ => ⟨S4096x2048, .bf16⟩
  | .hbm, ⟨3, _⟩ => ⟨S1x4096x2048, .bf16⟩
  | .hbm, ⟨4, _⟩ => ⟨S2x4096x5632, .bf16⟩
  | .hbm, ⟨5, _⟩ => ⟨S4x2x2048x1408, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x2816, .bf16⟩
  | .local _ .vmem, ⟨3, _⟩ => ⟨S1x2x512x1408, .bf16⟩
  | .local _ .vmem, ⟨4, _⟩ => ⟨S1x2x512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2048x4x2x1408 : Shape := ⟨4, ![2048, 4, 2, 1408]⟩
abbrev S4x2x2048x1408 : Shape := ⟨4, ![4, 2, 2048, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x5632, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S4096x5632, .f32⟩
  | .hbm, ⟨9, _⟩ => ⟨S1x4096x5632, .f32⟩
  | .hbm, ⟨10, _⟩ => ⟨S4096x5632, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x4x2x1408, .f32⟩
  | .hbm, ⟨15, _⟩ => ⟨S4x2x2048x1408, .f32⟩
  | .hbm, ⟨16, _⟩ => ⟨S4x2x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Adamw.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Sumgates.lean ====
abbrev S8x2048x128 : Shape := ⟨3, ![8, 2048, 128]⟩
abbrev S2048x128 : Shape := ⟨2, ![2048, 128]⟩
abbrev S1x2048x128 : Shape := ⟨3, ![1, 2048, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2048x128, .bf16⟩
  | .hbm, ⟨1, _⟩ => ⟨S2048x128, .f32⟩
  | .local _ .vmem, ⟨0, _⟩ => ⟨S8x2048x128, .bf16⟩
  | .local _ .vmem, ⟨1, _⟩ => ⟨S2048x128, .f32⟩
  | _, _ => ⟨S8x2048x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumgatesRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .f32⟩
  | .hbm, ⟨2, _⟩ => ⟨S_, .f32⟩
  | .hbm, ⟨3, _⟩ => ⟨S2048x128, .f32⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Join.lean ====
abbrev S4096x1024 : Shape := ⟨2, ![4096, 1024]⟩
abbrev S1024x2048 : Shape := ⟨2, ![1024, 2048]⟩
abbrev S4096x9216 : Shape := ⟨2, ![4096, 9216]⟩
abbrev S4096x2048 : Shape := ⟨2, ![4096, 2048]⟩
abbrev S1x4096x2048 : Shape := ⟨3, ![1, 4096, 2048]⟩
abbrev S1x1024x2048 : Shape := ⟨3, ![1, 1024, 2048]⟩
abbrev S1x4096x9216 : Shape := ⟨3, ![1, 4096, 9216]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x9216, .f32⟩
  | .hbm, ⟨5, _⟩ => ⟨S4096x2048, .f32⟩
  | .hbm, ⟨6, _⟩ => ⟨S4096x2048, .bf16⟩
  | .hbm, ⟨7, _⟩ => ⟨S1x4096x2048, .bf16⟩
  | .hbm, ⟨8, _⟩ => ⟨S1024x2048, .bf16⟩
  | .hbm, ⟨9, _⟩ => ⟨S1x1024x2048, .bf16⟩
  | .hbm, ⟨10, _⟩ => ⟨S1x4096x9216, .f32⟩
  | .hbm, ⟨11, _⟩ => ⟨S4096x1024, .bf16⟩
  | .hbm, ⟨12, _⟩ => ⟨S1x4096x1024, .bf16⟩
  | .hbm, ⟨13, _⟩ => ⟨S1x4096x2048, .bf16⟩
  | .hbm, ⟨14, _⟩ => ⟨S1x4096x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32_4 : BitVec 32 := 5#32
  let v18 : BitVec 32 := Scalar.addi arg0 c5_i32_4
  let c5_i32_5 : BitVec 32 := 5#32
  let v19 : BitVec 32 := Scalar.addi arg0 c5_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c7_i32_4 : BitVec 32 := 7#32
  let v18 : BitVec 32 := Scalar.addi arg0 c7_i32_4
  let c7_i32_5 : BitVec 32 := 7#32
  let v19 : BitVec 32 := Scalar.addi arg0 c7_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== JoinRefIdeal.lean ====
abbrev S4096x1024 : Shape := ⟨2, ![4096, 1024]⟩
abbrev S1024x2048 : Shape := ⟨2, ![1024, 2048]⟩
abbrev S4096x9216 : Shape := ⟨2, ![4096, 9216]⟩
abbrev S4096x2048 : Shape := ⟨2, ![4096, 2048]⟩
abbrev S_ : Shape := ⟨0, ![]⟩
abbrev S1x4096x2048 : Shape := ⟨3, ![1, 4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x2048, .f32⟩
  | .hbm, ⟨4, _⟩ => ⟨S4096x9216, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x4096x2048, .f32⟩
  | .hbm, ⟨29, _⟩ => ⟨S1x4096x2048, .bf16⟩
  | .hbm, ⟨30, _⟩ => ⟨S1x4096x2048, .f32⟩
  | .hbm, ⟨31, _⟩ => ⟨S1x4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Lru.lean ====
abbrev S4096x9216 : Shape := ⟨2, ![4096, 9216]⟩
abbrev S4x1024 : Shape := ⟨2, ![4, 1024]⟩
abbrev S1x1024 : Shape := ⟨2, ![1, 1024]⟩
abbrev S8x128x128 : Shape := ⟨3, ![8, 128, 128]⟩
abbrev S4096x1024 : Shape := ⟨2, ![4096, 1024]⟩
abbrev S_ : Shape := ⟨0, ![]⟩
abbrev S4104x1024 : Shape := ⟨2, ![4104, 1024]⟩
abbrev S4104x128 : Shape := ⟨2, ![4104, 128]⟩
abbrev S4096x128 : Shape := ⟨2, ![4096, 128]⟩
abbrev S4x128 : Shape := ⟨2, ![4, 128]⟩
abbrev S1x128 : Shape := ⟨2, ![1, 128]⟩
abbrev S1x128x128 : Shape := ⟨3, ![1, 128, 128]⟩
abbrev S256x128 : Shape := ⟨2, ![256, 128]⟩
abbrev S264x128 : Shape := ⟨2, ![264, 128]⟩
abbrev S128x128 : Shape := ⟨2, ![128, 128]⟩
abbrev S128 : Shape := ⟨1, ![128]⟩

abbrev nBuf : Space → Nat
  | .hbm => 24
  | .vmem => 60
  | .smem => 0
  | _ => 0

abbrev bufTy : (tb : Table) → Fin (tcTables nBuf tb) → BufTy
  | .hbm, ⟨0, _⟩ => ⟨S4096x9216, .f32⟩
  | .hbm, ⟨1, _⟩ => ⟨S4x1024, .f32⟩
  | .hbm, ⟨2, _⟩ => ⟨S1x1024, .f32⟩
  | .hbm, ⟨3, _⟩ => ⟨S8x128x128, .f32⟩
  | .hbm, ⟨4, _⟩ => ⟨S1x1024, .f32⟩
  | .hbm, ⟨5, _⟩ => ⟨S8x128x128, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .i32⟩
  | .hbm, ⟨11, _⟩ => ⟨S_, .f32⟩
  | .hbm, ⟨12, _⟩ => ⟨S4104x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S8x128x128, .f32⟩
  | .hbm, ⟨20, _⟩ => ⟨S8x128x128, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S4104x128, .f32⟩
  | .local _ .vmem, ⟨1, _⟩ => ⟨S4104x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .bf16⟩
  | .local _ .vmem, ⟨25, _⟩ => ⟨S4096x128, .bf16⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | .local _ .vmem, ⟨36, _⟩ => ⟨S1x128x128, .f32⟩
  | .local _ .vmem, ⟨37, _⟩ => ⟨S1x128x128, .f32⟩
  | .local _ .vmem, ⟨38, _⟩ => ⟨S1x128, .f32⟩
  | .local _ .vmem, ⟨39, _⟩ => ⟨S1x128, .f32⟩
  | .local _ .vmem, ⟨40, _⟩ => ⟨S1x128x128, .f32⟩
  | .local _ .vmem, ⟨41, _⟩ => ⟨S1x128x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S4096x128, .f32⟩
  | .local _ .vmem, ⟨47, _⟩ => ⟨S4096x128, .f32⟩
  | .local _ .vmem, ⟨48, _⟩ => ⟨S4096x128, .f32⟩
  | .local _ .vmem, ⟨49, _⟩ => ⟨S4096x128, .f32⟩
  | .local _ .vmem, ⟨50, _⟩ => ⟨S1x128x128, .f32⟩
  | .local _ .vmem, ⟨51, _⟩ => ⟨S1x128x128, .f32⟩
  | .local _ .vmem, ⟨52, _⟩ => ⟨S1x128x128, .f32⟩
  | .local _ .vmem, ⟨53, _⟩ => ⟨S1x128x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg11_1 : Ref sig .tc := ⟨.vmem, 49, rfl⟩
abbrev cc1_stg12_0 : Ref sig .tc := ⟨.vmem, 50, rfl⟩
abbrev cc1_stg12_1 : Ref sig .tc := ⟨.vmem, 51, rfl⟩
abbrev cc1_stg13_0 : Ref sig .tc := ⟨.vmem, 52, rfl⟩
abbrev cc1_stg13_1 : Ref sig .tc := ⟨.vmem, 53, rfl⟩
abbrev cc1_stg14_0 : Ref sig .tc := ⟨.vmem, 54, rfl⟩
abbrev cc1_stg14_1 : Ref sig .tc := ⟨.vmem, 55, rfl⟩
abbrev cc1_stg15_0 : Ref sig .tc := ⟨.vmem, 56, rfl⟩
abbrev cc1_stg15_1 : Ref sig .tc := ⟨.vmem, 57, rfl⟩
abbrev cc1_stg16_0 : Ref sig .tc := ⟨.vmem, 58, rfl⟩
abbrev cc1_stg16_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47
abbrev cc1_sem11_0 : DmaSem sig := 48
abbrev cc1_sem11_1 : DmaSem sig := 49
abbrev cc1_sem12_0 : DmaSem sig := 50
abbrev cc1_sem12_1 : DmaSem sig := 51
abbrev cc1_sem13_0 : DmaSem sig := 52
abbrev cc1_sem13_1 : DmaSem sig := 53
abbrev cc1_sem14_0 : DmaSem sig := 54
abbrev cc1_sem14_1 : DmaSem sig := 55
abbrev cc1_sem15_0 : DmaSem sig := 56
abbrev cc1_sem15_1 : DmaSem sig := 57
abbrev cc1_sem16_0 : DmaSem sig := 58
abbrev cc1_sem16_1 : DmaSem sig := 59

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v4 : BitVec 32 := Scalar.muli arg14 c256_i32
  v4
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v4 : BitVec 32 := Scalar.muli arg14 c256_i32
  let v5 : BitVec 32 := v4
  let v6 : Index := Scalar.indexCast v5
  let c0 : Index := 0#32
  ![v6.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v4 : BitVec 32 := Scalar.muli arg14 c256_i32
  let v5 : BitVec 32 := v4
  let v201 : Index := Scalar.indexCast v5
  let c0_65 : Index := 0#32
  ![v201.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4104x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

@[reducible] def k1_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k1_mult1 (k1_t1 : Fin k1_t1_loop.trips) : BitVec 32 :=
  let c15_i32 : BitVec 32 := 15#32
  let c0_i32 : BitVec 32 := 0#32
  let c1_i32 : BitVec 32 := 1#32
  let arg18 : BitVec 32 := Scf.iv c0_i32 c1_i32 k1_t1
  let v35 : BitVec 32 := Scalar.subi c15_i32 arg18
  let c256_i32 : BitVec 32 := 256#32
  let v36 : BitVec 32 := Scalar.muli v35 c256_i32
  v36
def k1_off1 (k1_t1 : Fin k1_t1_loop.trips) : Fin 2 → Nat :=
  let c15_i32 : BitVec 32 := 15#32
  let c0_i32 : BitVec 32 := 0#32
  let c1_i32 : BitVec 32 := 1#32
  let arg18 : BitVec 32 := Scf.iv c0_i32 c1_i32 k1_t1
  let v35 : BitVec 32 := Scalar.subi c15_i32 arg18
  let c256_i32 : BitVec 32 := 256#32
  let v36 : BitVec 32 := Scalar.muli v35 c256_i32
  let v37 : BitVec 32 := v36
  let v38 : Index := Scalar.indexCast v37
  let c0_29 : Index := 0#32
  ![v38.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== Proof.AdamwMath.lean ====
/- One step of AdamW on a shard of a weight, written once over the extended reals: the sum of the devices' parts of the
   gradient, the two moments and the step. -/
module

public import Idealize.ShloMosaic.Lib.Pipeline.ValueKit
public import Idealize.ShloMosaic.Lib.Pointwise
public import Idealize.ShloMosaic.PureOps.Ideal.Laws

@[expose] public section

noncomputable section

namespace Cert.AdamwMath

open Idealize.ShloMosaic

/-- A shard of the weight, or of one of its moments. -/
abbrev Shard := Shape.Idx ⟨2, ![2048, 1408]⟩ → EReal

/-- The eight devices' parts of the shard's gradient. -/
abbrev Parts := Shape.Idx ⟨3, ![8, 2048, 1408]⟩ → EReal

/-- The gradient: the sum of the parts. -/
def grad (p : Parts) (a : Fin 2048) (n : Fin 1408) : EReal := ∑ d : Fin 8, p (ix3 d a n)

/-- The first moment after the step. -/
def first (p : Parts) (m : Shard) (a : Fin 2048) (n : Fin 1408) : EReal :=
  Ideal.ofBits .f32 0x3F666666#32 * m (ix2 a n) + Ideal.ofBits .f32 0x3DCCCCCD#32 * grad p a n

/-- The second moment after the step. -/
def second (p : Parts) (v : Shard) (a : Fin 2048) (n : Fin 1408) : EReal :=
  Ideal.ofBits .f32 0x3F7FBE77#32 * v (ix2 a n) + Ideal.ofBits .f32 0x3A83126F#32 * (grad p a n * grad p a n)

/-- The step: the moments without their bias, and the decay of the weight. -/
def step (p : Parts) (w m v : Shard) (a : Fin 2048) (n : Fin 1408) : EReal :=
  Ideal.ofBits .f32 0xBA83126F#32 *
    (Ideal.div (Ideal.div (first p m a n) (Ideal.ofBits .f32 0x3F26BD02#32))
        (Ideal.sqrt (Ideal.div (second p v a n) (Ideal.ofBits .f32 0x3C231ACC#32)) + Ideal.ofBits .f32 0x322BCC77#32)
      + Ideal.ofBits .f32 0x3C23D70A#32 * w (ix2 a n))

end Cert.AdamwMath

end
-- ==== Proof.AdamwRef.lean ====
/- What the reference of the AdamW step computes. -/
module

public import proofs.«01_k».proof.Proof.AdamwMath
public import proofs.«01_k».proof.Proof.Gen.AdamwRefIdeal.Run

@[expose] public section

set_option maxRecDepth 16384

noncomputable section

namespace Cert.AdamwRefIdeal.Eqn

open Cert.AdamwRefIdeal Cert.AdamwRefIdeal.Gen Cert.AdamwRefIdeal.Value
open Idealize.ShloMosaic Idealize.ShloMosaic.TcCoe Idealize.SL.Sem
open Cert.AdamwMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = (fun j => grad (m ((c.tc : Thread nD τ).loc main_arg0)) (j 0) (j 1))
      ∧ r.2.mem ((c.tc : Thread nD τ).loc main_v25) = (fun j => step (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v6) = (fun j => first (m ((c.tc : Thread nD τ).loc main_arg0)) (m ((c.tc : Thread nD τ).loc main_arg2)) (j 0) (j 1))
      ∧ r.2.mem ((c.tc : Thread nD τ).loc main_v12) = (fun j => second (m ((c.tc : Thread nD τ).loc main_arg0)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run m ρ)
  obtain ⟨h0, h1, h2, h3, hk⟩ := hr c
  refine ⟨h0.trans (funext fun j => ?_), h1.trans (funext fun j => ?_), h2.trans (funext fun j => ?_), h3.trans (funext fun j => ?_), hk⟩
  all_goals
    idx_vars j
    pointwise []
    rfl

end Cert.AdamwRefIdeal.Eqn

end
-- ==== Proof.AdamwKernel.lean ====
/- What the kernel of the AdamW step computes: a tile of rows at a time, the parts added one after another. -/
module

public import proofs.«01_k».proof.Proof.AdamwMath
public import proofs.«01_k».proof.Proof.Gen.AdamwIdeal.Value

@[expose] public section

set_option maxRecDepth 16384

noncomputable section

namespace Cert.AdamwIdeal.Eqn

open Cert.AdamwIdeal Cert.AdamwIdeal.Gen
open Idealize.ShloMosaic Idealize.ShloMosaic.TcCoe Idealize.SL.Sem
open Cert.AdamwMath

variable (m : (ℓ : Loc nD τ sig) → Buf (Elt Ideal) ℓ)

/-- Every window's block index at a point of the grid. -/
theorem idx_val : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The array's row that is row `a` of tile `t`. -/
def rowOf (t : Fin cfg0.N) (a : Fin 128) : Fin 2048 :=
  ⟨t.val * 128 + a.val, by
    have : t.val < 16 := lt_of_lt_of_eq t.isLt N_0
    omega⟩

/-- The blocks at coordinates. -/
theorem blk_p (c : Dev nD) (t : Fin cfg0.N) (d : Fin 8) (a : Fin 128) (n : Fin 1408) :
    iblk m c 0 t (ix3 d a n) = m ((c.tc : Thread nD τ).loc main_arg0) (ix3 d (rowOf t a) n) := by
  blk_point [iblk, V, idx_val t]; rfl
theorem blk_w (c : Dev nD) (t : Fin cfg0.N) (a : Fin 128) (n : Fin 1408) :
    iblk m c 1 t (ix2 a n) = m ((c.tc : Thread nD τ).loc main_arg1) (ix2 (rowOf t a) n) := by
  blk_point [iblk, V, idx_val t]; rfl
theorem blk_m (c : Dev nD) (t : Fin cfg0.N) (a : Fin 128) (n : Fin 1408) :
    iblk m c 2 t (ix2 a n) = m ((c.tc : Thread nD τ).loc main_arg2) (ix2 (rowOf t a) n) := by
  blk_point [iblk, V, idx_val t]; rfl
theorem blk_v (c : Dev nD) (t : Fin cfg0.N) (a : Fin 128) (n : Fin 1408) :
    iblk m c 3 t (ix2 a n) = m ((c.tc : Thread nD τ).loc main_arg3) (ix2 (rowOf t a) n) := by
  blk_point [iblk, V, idx_val t]; rfl

/-- The gradient after the last tile. -/
theorem final_4 (c : Dev nD) : (dats m 0 c).arrAt 4 (cfgs 0).N =
    fun j => grad (m ((c.tc : Thread nD τ).loc main_arg0)) (j 0) (j 1) := by
  refine (dats m 0 c).arrAt_eq_of_covers 4 _ (by decide +kernel) fun t hf y => ?_
  blk_simp; rw [after0_4]; frame_out
  have e : ((View.whole main_v0_0).slice (win0_4.rect t)).emb y = ix2 (rowOf t (y 0)) (y 1) := by
    blk_ext! [idx_val t]
    all_goals rfl
  rw [e]
  idx_vars y
  pointwise [k0_pay5, k0_pay4]
  simp only [blk_p, blk_w, blk_m, blk_v]
  simp only [grad, Fin.sum_univ_eight]

/-- The step after the last tile. -/
theorem final_5 (c : Dev nD) : (dats m 0 c).arrAt 5 (cfgs 0).N =
    fun j => step (m ((c.tc : Thread nD τ).loc main_arg0)) (m ((c.tc : Thread nD τ).loc main_arg1)) (m ((c.tc : Thread nD τ).loc main_arg2)) (m ((c.tc : Thread nD τ).loc main_arg3)) (j 0) (j 1) := by
  refine (dats m 0 c).arrAt_eq_of_covers 5 _ (by decide +kernel) fun t hf y => ?_
  blk_simp; rw [after0_5]; frame_out
  have e : ((View.whole main_v0_1).slice (win0_5.rect t)).emb y = ix2 (rowOf t (y 0)) (y 1) := by
    blk_ext! [idx_val t]
    all_goals rfl
  rw [e]
  idx_vars y
  pointwise [k0_pay3, k0_pay2, k0_pay1, k0_pay5, k0_pay4]
  simp only [blk_p, blk_w, blk_m, blk_v]
  simp only [step, first, second, grad, Fin.sum_univ_eight]

/-- The first moment after the last tile. -/
theorem final_6 (c : Dev nD) : (dats m 0 c).arrAt 6 (cfgs 0).N =
    fun j => first (m ((c.tc : Thread nD τ).loc main_arg0)) (m ((c.tc : Thread nD τ).loc main_arg2)) (j 0) (j 1) := by
  refine (dats m 0 c).arrAt_eq_of_covers 6 _ (by decide +kernel) fun t hf y => ?_
  blk_simp; rw [after0_6]; frame_out
  have e : ((View.whole main_v0_2).slice (win0_6.rect t)).emb y = ix2 (rowOf t (y 0)) (y 1) := by
    blk_ext! [idx_val t]
    all_goals rfl
  rw [e]
  idx_vars y
  pointwise [k0_pay1, k0_pay5, k0_pay4]
  simp only [blk_p, blk_w, blk_m, blk_v]
  simp only [first, grad, Fin.sum_univ_eight]

/-- The second moment after the last tile. -/
theorem final_7 (c : Dev nD) : (dats m 0 c).arrAt 7 (cfgs 0).N =
    fun j => second (m ((c.tc : Thread nD τ).loc main_arg0)) (m ((c.tc : Thread nD τ).loc main_arg3)) (j 0) (j 1) := by
  refine (dats m 0 c).arrAt_eq_of_covers 7 _ (by decide +kernel) fun t hf y => ?_
  blk_simp; rw [after0_7]; frame_out
  have e : ((View.whole main_v0_3).slice (win0_7.rect t)).emb y = ix2 (rowOf t (y 0)) (y 1) := by
    blk_ext! [idx_val t]
    all_goals rfl
  rw [e]
  idx_vars y
  pointwise [k0_pay2, k0_pay5, k0_pay4]
  simp only [blk_p, blk_w, blk_m, blk_v]
  simp only [second, grad, Fin.sum_univ_eight]

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = (fun j => grad (m ((c.tc : Thread nD τ).loc main_arg0)) (j 0) (j 1))
      ∧ r.2.mem ((c.tc : Thread nD τ).loc main_v0_1) = (fun j => step (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v0_2) = (fun j => first (m ((c.tc : Thread nD τ).loc main_arg0)) (m ((c.tc : Thread nD τ).loc main_arg2)) (j 0) (j 1))
      ∧ r.2.mem ((c.tc : Thread nD τ).loc main_v0_3) = (fun j => second (m ((c.tc : Thread nD τ).loc main_arg0)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.AdamwIdeal.Value.run_blocks m ρ)
  have := hr c
  rw [final_4, final_5, final_6, final_7] at this
  exact this

end Cert.AdamwIdeal.Eqn

end
-- ==== Proof.AdamwClaim.lean ====
/- The AdamW step on a shard of a weight: the kernel and the reference compute one function of any arguments. -/
module

public import proofs.«01_k».proof.Defs
public import proofs.«01_k».proof.Proof.AdamwRef
public import proofs.«01_k».proof.Proof.AdamwKernel
public import Idealize.ShloMosaic.Adequacy

@[expose] public section

noncomputable section

namespace Cert.AdamwClaim

open Idealize.ShloMosaic Idealize.ShloMosaic.TcCoe Idealize.SL.Sem
open Cert.AdamwIdeal

/-- The reference runs, faults nowhere and leaves its arguments alone. -/
theorem frame_ref : Cert.quiescent_AdamwRefIdeal := by
  intro m ρ _
  exact (θ_run _ _ _).mono (fun r h => ⟨fun c => (h c).2.2.2.2, sem_eq_zero_of_no_sems (by decide) r.2⟩)
    (Cert.AdamwRefIdeal.Value.run (F := Ideal) m ρ)

/-- The value claim. -/
theorem algebraic : Cert.algebraic_AdamwIdeal_AdamwRefIdeal := by
  intro m g m' g' hpre heq
  refine ⟨_, _, _, _, Eqn.run_value m g, (θ_run _ _ _).mono (fun r hr c => ?_) (Cert.AdamwRefIdeal.Eqn.run_value m' g')⟩
  obtain ⟨h0, h1, h2, h3, hk⟩ := hr c
  refine ⟨h0.trans ?_, h1.trans ?_, h2.trans ?_, h3.trans ?_, hk⟩
  · rw [(heq c).1]
    rfl
  · rw [(heq c).1, (heq c).2.1, (heq c).2.2.1, (heq c).2.2.2]
    rfl
  · rw [(heq c).1, (heq c).2.2.1]
    rfl
  · rw [(heq c).1, (heq c).2.2.2]
    rfl

end Cert.AdamwClaim

end
-- ==== Proof.RealLift.lean ====
/- Extended reals that happen to be real numbers: how a finite array is lifted to a real one, and how each
   operation of the programs acts on lifted values. -/
module

public import Idealize.ShloMosaic.Lib.Pipeline.ValueKit
public import Idealize.ShloMosaic.Lib.Pointwise
public import Idealize.ShloMosaic.PureOps.Ideal.Laws

@[expose] public section

noncomputable section

namespace Cert.RealLift

open Idealize.ShloMosaic

/-- A sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The f32 word of infinity is the top of the extended reals. -/
theorem ofBits_inf : Ideal.ofBits .f32 0x7F800000#32 = (⊤ : EReal) := by
  simp [Ideal.ofBits, Ideal.ieee]

/-- An extended real whose absolute value compares below infinity is a real number. -/
theorem real_of_abs_lt {x : EReal} (h : Ideal.cmp .olt (max x (-x)) ⊤ = 1#1) : ((x.toReal : ℝ) : EReal) = x := by
  have hlt : max x (-x) < ⊤ := by
    by_contra hc
    simp [Ideal.cmp, hc] at h
  refine EReal.coe_toReal ?_ ?_
  · rintro rfl; simp at hlt
  · rintro rfl; simp at hlt

/-- An array of extended reals whose absolute values all compare below infinity is a real array. -/
theorem exists_real {s : Shape} {φ : FTy} (x : FVec Ideal s φ) (b : BitVec φ.bits) (hb : Ideal.ofBits φ b = (⊤ : EReal))
    (h : ∀ i, cmpf (F := Ideal) .olt (Host.absf x) (fun _ => Ideal.ofBits φ b) i = 1#1) :
    ∃ X : s.Idx → ℝ, x = fun i => ((X i : ℝ) : EReal) :=
  ⟨fun i => (x i).toReal, funext fun i => (real_of_abs_lt (by
    have := h i
    rw [hb] at this
    exact this)).symm⟩

end Cert.RealLift

end
-- ==== Proof.AttnMath.lean ====
/- The stick-breaking attention's gradient over the reals, one tile of queries against one tile of keys. -/
module

public import proofs.«01_k».proof.Proof.RealLift

@[expose] public section

noncomputable section

namespace Cert.AttnMath

open Idealize.ShloMosaic

/-- The score scale, the real number its f32 word is. -/
def scale : ℝ := 11863283 / 134217728

theorem ofBits_scale : Ideal.ofBits .f32 0x3DB504F3#32 = ((scale : ℝ) : EReal) := by
  simp [Ideal.ofBits, Ideal.ieee, -EReal.coe_mul, scale]; norm_num

/-- The greater of two reals, taken in the extended reals. -/
theorem coe_max (a b : ℝ) : max (a : EReal) (b : EReal) = ((max a b : ℝ) : EReal) :=
  (EReal.coe_strictMono.monotone.map_max).symm

/-- `log (1 + exp z)`, written so that the exponential's argument is never positive. -/
def softplus (z : ℝ) : ℝ := max z 0 + Real.log (1 + Real.exp (-|z|))

theorem exp_softplus (z : ℝ) : Real.exp (softplus z) = 1 + Real.exp z := by
  have h : 0 < 1 + Real.exp (-|z|) := by positivity
  unfold softplus
  rw [Real.exp_add, Real.exp_log h]
  rcases le_total 0 z with hz | hz
  · rw [max_eq_left hz, abs_of_nonneg hz, mul_add, ← Real.exp_add]; simp [add_comm]
  · rw [max_eq_right hz, abs_of_nonpos hz]; simp

/-- The logarithm of a positive real in the extended reals. -/
theorem log_pos {r : ℝ} (h : 0 < r) : Ideal.log (r : EReal) = ((Real.log r : ℝ) : EReal) := by
  rw [Ideal.log_coe, if_neg h.not_ge]

theorem softplus_neg (z : ℝ) : softplus (-z) = softplus z - z := by
  unfold softplus
  rw [abs_neg]
  have : max (-z) 0 = max z 0 - z := by
    rcases le_total z 0 with h | h
    · rw [max_eq_left (by linarith), max_eq_right h]; ring
    · rw [max_eq_right (by linarith), max_eq_left h]; ring
  rw [this]; ring

theorem softplus_coe (z : ℝ) :
    max (z : EReal) 0 + Ideal.log (1 + Ideal.exp (0 - max (z : EReal) (-(z : EReal)))) = ((softplus z : ℝ) : EReal) := by
  have h : 0 < 1 + Real.exp (0 - max z (-z)) := by positivity
  rw [← EReal.coe_zero, ← EReal.coe_one, ← EReal.coe_neg, coe_max, coe_max, ← EReal.coe_sub, Ideal.exp_coe, ← EReal.coe_add,
    log_pos h, ← EReal.coe_add, zero_sub]
  rfl

/-- One head's queries, keys, values and output gradients of a pair of tiles, with what the tiles of keys before left:
    `tot` the whole row's log-keep total, `cl` the part of it before the tile, `cg` the part before of the weights'
    gradient sum, `keep` whether the key comes before the query. -/
structure Tile where
  q : Fin 256 → Fin 128 → ℝ
  k : Fin 256 → Fin 128 → ℝ
  v : Fin 256 → Fin 128 → ℝ
  dy : Fin 256 → Fin 128 → ℝ
  tot : Fin 256 → ℝ
  cl : Fin 256 → ℝ
  cg : Fin 256 → ℝ
  keep : Fin 256 → Fin 256 → Prop

open Classical in
/-- A masked entry. -/
def Tile.mask (T : Tile) (f : Fin 256 → Fin 256 → ℝ) (r s : Fin 256) : ℝ := if T.keep r s then f r s else 0

namespace Tile

variable (T : Tile)

def z (r s : Fin 256) : ℝ := (∑ d, T.q r d * T.k s d) * scale
def logKeep : Fin 256 → Fin 256 → ℝ := T.mask fun r s => -softplus (T.z r s)
def w : Fin 256 → Fin 256 → ℝ := T.mask fun r s =>
  Real.exp (T.z r s - softplus (T.z r s) + (T.tot r - T.cl r - ∑ s', if s' ≤ s then T.logKeep r s' else 0))
def g (r s : Fin 256) : ℝ := (∑ d, T.dy r d * T.v s d) * T.w r s
def dz : Fin 256 → Fin 256 → ℝ := T.mask fun r s =>
  (T.g r s * Real.exp (-softplus (T.z r s))
    - Real.exp (T.z r s - softplus (T.z r s)) * (T.cg r + ∑ s', if s' < s then T.g r s' else 0)) * scale

end Tile

/-- One head's queries, keys, values, output gradients and log-keep totals, row by row. -/
structure Rows where
  q : ℕ → Fin 128 → ℝ
  k : ℕ → Fin 128 → ℝ
  v : ℕ → Fin 128 → ℝ
  dy : ℕ → Fin 128 → ℝ
  tot : ℕ → ℝ

namespace Rows

variable (R : Rows)

/-- The score of query `t` against key `s`. -/
def z (t s : ℕ) : ℝ := (∑ d, R.q t d * R.k s d) * scale
/-- The logarithm of what query `t` leaves after key `s`. -/
def logKeep (t s : ℕ) : ℝ := if s < t then -softplus (R.z t s) else 0
/-- The weight of key `s` for query `t`: what it takes of what the keys after it leave. -/
def w (t s : ℕ) : ℝ :=
  if s < t then Real.exp (R.z t s - softplus (R.z t s) + (R.tot t - ∑ s' ∈ Finset.range (s + 1), R.logKeep t s')) else 0
/-- The weight times its gradient. -/
def g (t s : ℕ) : ℝ := (∑ d, R.dy t d * R.v s d) * R.w t s
/-- The score's gradient. -/
def dz (t s : ℕ) : ℝ :=
  if s < t then
    (R.g t s * Real.exp (-softplus (R.z t s))
      - Real.exp (R.z t s - softplus (R.z t s)) * ∑ s' ∈ Finset.range s, R.g t s') * scale
  else 0

/-- Tile `i` of the queries against tile `j` of the keys. -/
def tile (i j : ℕ) : Tile where
  q r := R.q (256 * i + r.val)
  k s := R.k (256 * j + s.val)
  v s := R.v (256 * j + s.val)
  dy r := R.dy (256 * i + r.val)
  tot r := R.tot (256 * i + r.val)
  cl r := ∑ s ∈ Finset.range (256 * j), R.logKeep (256 * i + r.val) s
  cg r := ∑ s ∈ Finset.range (256 * j), R.g (256 * i + r.val) s
  keep r s := 256 * j + s.val < 256 * i + r.val

end Rows

/-- A sum over the first entries of a tile is a sum over a range. -/
theorem sum_fin_ite (n : ℕ) (hn : n ≤ 256) (p : Fin 256 → Prop) [∀ s, Decidable (p s)] (hp : ∀ s, p s ↔ s.val < n) (f : ℕ → ℝ) :
    (∑ s : Fin 256, if p s then f s.val else 0) = ∑ s ∈ Finset.range n, f s := by
  have h1 : (∑ s : Fin 256, if p s then f s.val else 0) = ∑ s : Fin 256, (fun m => if m < n then f m else 0) s.val :=
    Finset.sum_congr rfl fun s _ => by simp only [hp]
  rw [h1, Fin.sum_univ_eq_sum_range (fun m => if m < n then f m else 0) 256, ← Finset.sum_filter]
  congr 1
  ext m
  simp only [Finset.mem_filter, Finset.mem_range]
  omega

/-- The sum over the tiles before and this tile. -/
theorem sum_range_tile (j : ℕ) (f : ℕ → ℝ) :
    (∑ s ∈ Finset.range (256 * (j + 1)), f s)
      = (∑ s ∈ Finset.range (256 * j), f s) + ∑ s : Fin 256, f (256 * j + s.val) := by
  rw [show 256 * (j + 1) = 256 * j + 256 by ring, Finset.sum_range_add,
    Fin.sum_univ_eq_sum_range (fun m => f (256 * j + m))]

namespace Rows

variable (R : Rows) (i j : ℕ) (r s : Fin 256)

theorem tile_z : (R.tile i j).z r s = R.z (256 * i + r.val) (256 * j + s.val) := rfl

theorem tile_logKeep : (R.tile i j).logKeep r s = R.logKeep (256 * i + r.val) (256 * j + s.val) := by
  classical
  simp only [Tile.logKeep, Tile.mask, logKeep, tile_z]
  exact if_congr Iff.rfl rfl rfl

theorem tile_w : (R.tile i j).w r s = R.w (256 * i + r.val) (256 * j + s.val) := by
  classical
  simp only [Tile.w, Tile.mask, w, tile_z, tile_logKeep]
  refine if_congr Iff.rfl ?_ rfl
  rw [sum_fin_ite (s.val + 1) (by omega) (fun s' => s' ≤ s) (fun s' => by rw [Fin.le_def]; omega)
    (fun m => R.logKeep (256 * i + r.val) (256 * j + m)), add_assoc (256 * j),
    Finset.sum_range_add _ (256 * j), ← sub_sub]
  rfl

theorem tile_g : (R.tile i j).g r s = R.g (256 * i + r.val) (256 * j + s.val) := by
  simp only [Tile.g, g, tile_w]
  rfl

theorem tile_dz : (R.tile i j).dz r s = R.dz (256 * i + r.val) (256 * j + s.val) := by
  classical
  simp only [Tile.dz, Tile.mask, dz, tile_z, tile_g]
  refine if_congr Iff.rfl ?_ rfl
  rw [sum_fin_ite s.val (by omega) (fun s' => s' < s) (fun s' => Fin.lt_def)
    (fun m => R.g (256 * i + r.val) (256 * j + m)), Finset.sum_range_add]
  rfl

/-- Below the diagonal every key comes before every query. -/
theorem tile_mask_lt (h : j < i) (f : Fin 256 → Fin 256 → ℝ) : (R.tile i j).mask f r s = f r s := by
  classical
  rw [Tile.mask, if_pos]
  show 256 * j + s.val < 256 * i + r.val
  omega

/-- On the diagonal the key comes before the query where its row does. -/
theorem tile_mask_diag (f : Fin 256 → Fin 256 → ℝ) : (R.tile i i).mask f r s = if s < r then f r s else 0 := by
  classical
  rw [Tile.mask]
  exact if_congr (by show 256 * i + s.val < 256 * i + r.val ↔ s < r; rw [Fin.lt_def]; omega) rfl rfl

/-- A key not before the query gets no weight. -/
theorem w_of_le {t s : ℕ} (h : t ≤ s) : R.w t s = 0 := if_neg (by omega)

theorem dz_of_le {t s : ℕ} (h : t ≤ s) : R.dz t s = 0 := if_neg (by omega)

end Rows

/-- Column `d` of head `h`. -/
def colOf (h : Fin 8) (d : Fin 128) : Fin 1024 := ⟨128 * h.val + d.val, by omega⟩

/-- A row of head `h` of a whole array, zero past its end. -/
def headRow (x : Fin 4096 → Fin 1024 → ℝ) (h : Fin 8) (t : ℕ) (d : Fin 128) : ℝ :=
  if ht : t < 4096 then x ⟨t, ht⟩ (colOf h d) else 0

theorem headRow_val (x : Fin 4096 → Fin 1024 → ℝ) (h : Fin 8) (t : Fin 4096) (d : Fin 128) :
    headRow x h t.val d = x t (colOf h d) := by
  simp only [headRow, t.isLt, dite_true]

/-- Head `h`'s rows of four arrays, a query's total the sum over every key. -/
def rowsOf (q k v dy : Fin 4096 → Fin 1024 → ℝ) (h : Fin 8) : Rows where
  q := headRow q h
  k := headRow k h
  v := headRow v h
  dy := headRow dy h
  tot t := ∑ s ∈ Finset.range 4096, Rows.logKeep ⟨headRow q h, headRow k h, headRow v h, headRow dy h, fun _ => 0⟩ t s

theorem rowsOf_tot (q k v dy : Fin 4096 → Fin 1024 → ℝ) (h : Fin 8) (t : ℕ) :
    (rowsOf q k v dy h).tot t = ∑ s ∈ Finset.range 4096, (rowsOf q k v dy h).logKeep t s := by
  unfold rowsOf
  dsimp only
  exact Finset.sum_congr rfl fun s _ => rfl

/-- The head and the column inside it of an array's column. -/
def headOf (x : Fin 1024) : Fin 8 := ⟨x.val / 128, by omega⟩
def inHead (x : Fin 1024) : Fin 128 := ⟨x.val % 128, by omega⟩

/-- The gradients of a query, of a key and of a value. -/
def gradQ (q k v dy : Fin 4096 → Fin 1024 → ℝ) (t : Fin 4096) (x : Fin 1024) : ℝ :=
  ∑ s ∈ Finset.range 4096, (rowsOf q k v dy (headOf x)).dz t.val s * (rowsOf q k v dy (headOf x)).k s (inHead x)
def gradK (q k v dy : Fin 4096 → Fin 1024 → ℝ) (s : Fin 4096) (x : Fin 1024) : ℝ :=
  ∑ t ∈ Finset.range 4096, (rowsOf q k v dy (headOf x)).dz t s.val * (rowsOf q k v dy (headOf x)).q t (inHead x)
def gradV (q k v dy : Fin 4096 → Fin 1024 → ℝ) (s : Fin 4096) (x : Fin 1024) : ℝ :=
  ∑ t ∈ Finset.range 4096, (rowsOf q k v dy (headOf x)).w t s.val * (rowsOf q k v dy (headOf x)).dy t (inHead x)

theorem headOf_colOf (h : Fin 8) (d : Fin 128) : headOf (colOf h d) = h := Fin.ext (by simp only [headOf, colOf]; omega)
theorem inHead_colOf (h : Fin 8) (d : Fin 128) : inHead (colOf h d) = d := Fin.ext (by simp only [inHead, colOf]; omega)

end Cert.AttnMath

end
-- ==== Proof.Cumsum.lean ====
/- A running sum along the last of three axes, forwards and backwards, as the host states it: one window as long as the axis. -/
module

public import proofs.«01_k».proof.Proof.RealLift

@[expose] public section

set_option maxRecDepth 16384

noncomputable section

namespace Cert.Cumsum

open Idealize.ShloMosaic Idealize.ShloMosaic.TcCoe
open Cert.RealLift

/-- Adding a list up from the left. -/
theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The indices of a window one row thick. -/
theorem sum_window {N : ℕ} (g : (⟨3, ![1, 1, N]⟩ : Shape).Idx → EReal) : ∑ i, g i = ∑ n : Fin N, g (ix3 0 0 n) := by
  symm
  refine Fintype.sum_bijective (fun n : Fin N => (ix3 0 0 n : (⟨3, ![1, 1, N]⟩ : Shape).Idx)) ⟨fun a b h => ?_, fun i => ⟨i 2, ?_⟩⟩ _ _ fun _ => rfl
  · exact congrFun h 2
  · funext a
    fin_cases a
    · exact Subsingleton.elim (α := Fin 1) _ _
    · exact Subsingleton.elim (α := Fin 1) _ _
    · rfl

/-- Whether a place of the window lies in the array, the array's indices shifted down by the padding. -/
def Reaches {A B N : ℕ} (L : ℕ) (a : Fin A) (b : Fin B) (c : Fin N) (i : (⟨3, ![1, 1, N]⟩ : Shape).Idx) : Prop :=
  ∀ k : Fin 3, ![0, 0, L] k ≤ ((ix3 a b c : (⟨3, ![A, B, N]⟩ : Shape).Idx) k).val * ![1, 1, 1] k + (i k).val
    ∧ ((ix3 a b c : (⟨3, ![A, B, N]⟩ : Shape).Idx) k).val * ![1, 1, 1] k + (i k).val - ![0, 0, L] k < (⟨3, ![A, B, N]⟩ : Shape).size k

open Classical in
/-- What the window reaches at a place. -/
def reached {A B N : ℕ} (x : (⟨3, ![A, B, N]⟩ : Shape).Idx → EReal) (L : ℕ) (a : Fin A) (b : Fin B) (c : Fin N)
    (i : (⟨3, ![1, 1, N]⟩ : Shape).Idx) : EReal :=
  if hin : Reaches L a b c i then
    x (fun k => ⟨((ix3 a b c : (⟨3, ![A, B, N]⟩ : Shape).Idx) k).val * ![1, 1, 1] k + (i k).val - ![0, 0, L] k, (hin k).2⟩)
  else 0

/-- The window's sum at an index: the elements the window reaches. -/
theorem window_at {A B N L H : ℕ} {u : Shape} (x : (⟨3, ![A, B, N]⟩ : Shape).Idx → EReal) (init : u.Idx → EReal) (hu : 0 < u.numel)
    (h0 : init (Shape.Idx.first hu) = 0)
    (h : (⟨3, ![A, B, N]⟩ : Shape).ReduceWindows ![1, 1, N] ![1, 1, 1] ![0, 0, L] ![0, 0, H] ⟨3, ![A, B, N]⟩) (a : Fin A) (b : Fin B) (c : Fin N) :
    Host.reduceWindow (· + ·) ![1, 1, N] ![1, 1, 1] ![0, 0, L] ![0, 0, H] x init h hu (ix3 a b c)
      = ∑ n : Fin N, if hn : L ≤ c.val + n.val ∧ c.val + n.val - L < N then x (ix3 a b ⟨c.val + n.val - L, hn.2⟩) else 0 := by
  unfold Host.reduceWindow
  dsimp only
  rw [foldl_add, h0, zero_add, ← Fin.sum_univ_def]
  refine (Finset.sum_congr rfl fun n _ => ?_).trans ((Equiv.sum_comp (Shape.rowMajor ⟨3, ![1, 1, N]⟩).symm (reached x L a b c)).trans ?_)
  · unfold reached
    by_cases hin : Reaches (A := A) (B := B) L a b c ((Shape.rowMajor ⟨3, ![1, 1, N]⟩).symm n)
    · refine (dif_pos hin).trans ?_
      rw [dif_pos hin]
      rfl
    · refine (dif_neg hin).trans ?_
      rw [dif_neg hin]
  rw [sum_window]
  refine Finset.sum_congr rfl fun n _ => ?_
  unfold reached
  by_cases hn : L ≤ c.val + n.val ∧ c.val + n.val - L < N
  · rw [dif_pos hn, dif_pos]
    · refine congrArg x (funext fun k => Fin.ext ?_)
      fin_cases k
      · show a.val * 1 + 0 - 0 = a.val; omega
      · show b.val * 1 + 0 - 0 = b.val; omega
      · show c.val * 1 + n.val - L = c.val + n.val - L; omega
    · intro k
      fin_cases k
      · show 0 ≤ a.val * 1 + 0 ∧ a.val * 1 + 0 - 0 < A; have := a.isLt; omega
      · show 0 ≤ b.val * 1 + 0 ∧ b.val * 1 + 0 - 0 < B; have := b.isLt; omega
      · show L ≤ c.val * 1 + n.val ∧ c.val * 1 + n.val - L < N; omega
  · rw [dif_neg hn, dif_neg]
    intro hk
    have h2 : L ≤ c.val * 1 + n.val ∧ c.val * 1 + n.val - L < N := hk 2
    exact hn (by omega)

/-- The sum over the rest of the row. -/
theorem suffix_at {A B N H : ℕ} {u : Shape} (x : (⟨3, ![A, B, N]⟩ : Shape).Idx → EReal) (f : ℕ → ℝ) (init : u.Idx → EReal) (hu : 0 < u.numel)
    (h0 : init (Shape.Idx.first hu) = 0)
    (h : (⟨3, ![A, B, N]⟩ : Shape).ReduceWindows ![1, 1, N] ![1, 1, 1] ![0, 0, 0] ![0, 0, H] ⟨3, ![A, B, N]⟩) (a : Fin A) (b : Fin B) (c : Fin N)
    (hx : ∀ n : Fin N, x (ix3 a b n) = ((f n.val : ℝ) : EReal)) :
    Host.reduceWindow (· + ·) ![1, 1, N] ![1, 1, 1] ![0, 0, 0] ![0, 0, H] x init h hu (ix3 a b c)
      = ((∑ n ∈ Finset.range N, f n - ∑ n ∈ Finset.range c.val, f n : ℝ) : EReal) := by
  rw [window_at x init hu h0 h a b c]
  have e : ∀ n : Fin N, (if hn : 0 ≤ c.val + n.val ∧ c.val + n.val - 0 < N then x (ix3 a b ⟨c.val + n.val - 0, hn.2⟩) else 0)
      = (((if c.val + n.val < N then f (c.val + n.val) else 0 : ℝ)) : EReal) := fun n => by
    by_cases hn : c.val + n.val < N
    · rw [dif_pos ⟨Nat.zero_le _, hn⟩, if_pos hn, hx]; rfl
    · rw [dif_neg (by omega), if_neg hn]; rfl
  rw [Finset.sum_congr rfl fun n _ => e n, coe_sum]
  congr 1
  rw [← Finset.sum_range_add_sum_Ico f (le_of_lt c.isLt), add_sub_cancel_left, Finset.sum_Ico_eq_sum_range,
    Fin.sum_univ_eq_sum_range (fun n => if c.val + n < N then f (c.val + n) else 0) N]
  symm
  rw [← Finset.sum_filter]
  refine Finset.sum_congr (Finset.ext fun n => ?_) fun _ _ => rfl
  simp only [Finset.mem_range, Finset.mem_filter]
  omega

/-- The sum over the row so far. -/
theorem prefix_at {A B N L : ℕ} (hL : L + 1 = N) {u : Shape} (x : (⟨3, ![A, B, N]⟩ : Shape).Idx → EReal) (f : ℕ → ℝ) (init : u.Idx → EReal) (hu : 0 < u.numel)
    (h0 : init (Shape.Idx.first hu) = 0)
    (h : (⟨3, ![A, B, N]⟩ : Shape).ReduceWindows ![1, 1, N] ![1, 1, 1] ![0, 0, L] ![0, 0, 0] ⟨3, ![A, B, N]⟩) (a : Fin A) (b : Fin B) (c : Fin N)
    (hx : ∀ n : Fin N, x (ix3 a b n) = ((f n.val : ℝ) : EReal)) :
    Host.reduceWindow (· + ·) ![1, 1, N] ![1, 1, 1] ![0, 0, L] ![0, 0, 0] x init h hu (ix3 a b c)
      = ((∑ n ∈ Finset.range (c.val + 1), f n : ℝ) : EReal) := by
  rw [window_at x init hu h0 h a b c]
  have e : ∀ n : Fin N, (if hn : L ≤ c.val + n.val ∧ c.val + n.val - L < N then x (ix3 a b ⟨c.val + n.val - L, hn.2⟩) else 0)
      = (((if L ≤ c.val + n.val then f (c.val + n.val - L) else 0 : ℝ)) : EReal) := fun n => by
    by_cases hn : L ≤ c.val + n.val
    · rw [dif_pos ⟨hn, by omega⟩, if_pos hn, hx]
    · rw [dif_neg (by omega), if_neg hn]; rfl
  rw [Finset.sum_congr rfl fun n _ => e n, coe_sum]
  congr 1
  rw [Fin.sum_univ_eq_sum_range (fun n => if L ≤ c.val + n then f (c.val + n - L) else 0) N, ← Finset.sum_filter]
  refine Finset.sum_nbij' (fun n => c.val + n - L) (fun n => n + L - c.val) ?_ ?_ ?_ ?_ ?_ <;>
    simp only [Finset.mem_filter, Finset.mem_range] <;> intro n hn
  · omega
  · have := c.isLt; omega
  · omega
  · have := c.isLt; omega
  · trivial

/-- The host sum over the rest of the row. -/
theorem suffix_add {A B N H : ℕ} {u : Shape} (x : FVec Ideal ⟨3, ![A, B, N]⟩ .f32) (f : ℕ → ℝ) (init : FVec Ideal u .f32)
    (h : (⟨3, ![A, B, N]⟩ : Shape).ReduceWindows ![1, 1, N] ![1, 1, 1] ![0, 0, 0] ![0, 0, H] ⟨3, ![A, B, N]⟩) (hu : 0 < u.numel)
    (h0 : init (Shape.Idx.first hu) = (0 : EReal)) (a : Fin A) (b : Fin B) (c : Fin N)
    (hx : ∀ n : Fin N, x (ix3 a b n) = ((f n.val : ℝ) : EReal)) :
    Host.reduceWindowAdd ![1, 1, N] ![1, 1, 1] ![0, 0, 0] ![0, 0, H] x init h hu (ix3 a b c) = ((∑ n ∈ Finset.range N, f n - ∑ n ∈ Finset.range c.val, f n : ℝ) : EReal) :=
  suffix_at x f (fun _ : (⟨0, ![]⟩ : Shape).Idx => init (Shape.Idx.first hu)) (by decide) h0 h a b c hx

/-- The host sum over the row so far. -/
theorem prefix_add {A B N L : ℕ} (hL : L + 1 = N) {u : Shape} (x : FVec Ideal ⟨3, ![A, B, N]⟩ .f32) (f : ℕ → ℝ) (init : FVec Ideal u .f32)
    (h : (⟨3, ![A, B, N]⟩ : Shape).ReduceWindows ![1, 1, N] ![1, 1, 1] ![0, 0, L] ![0, 0, 0] ⟨3, ![A, B, N]⟩) (hu : 0 < u.numel)
    (h0 : init (Shape.Idx.first hu) = (0 : EReal)) (a : Fin A) (b : Fin B) (c : Fin N)
    (hx : ∀ n : Fin N, x (ix3 a b n) = ((f n.val : ℝ) : EReal)) :
    Host.reduceWindowAdd ![1, 1, N] ![1, 1, 1] ![0, 0, L] ![0, 0, 0] x init h hu (ix3 a b c) = ((∑ n ∈ Finset.range (c.val + 1), f n : ℝ) : EReal) :=
  prefix_at hL x f (fun _ : (⟨0, ![]⟩ : Shape).Idx => init (Shape.Idx.first hu)) (by decide) h0 h a b c hx

end Cert.Cumsum

end
-- ==== Proof.AttnRef.lean ====
/- What the attention's reference computes on real arguments: the gradients of the queries, the keys and the values. -/
module

public import proofs.«01_k».proof.Proof.AttnMath
public import proofs.«01_k».proof.Proof.Cumsum
public import proofs.«01_k».proof.Proof.Gen.AttnRefIdeal.Run

@[expose] public section

set_option maxRecDepth 16384

noncomputable section

namespace Cert.AttnRefIdeal.Eqn

open Cert.AttnRefIdeal Cert.AttnRefIdeal.Value
open Idealize.ShloMosaic Idealize.ShloMosaic.TcCoe Idealize.SL.Sem
open Cert.AttnMath Cert.RealLift Cert.Cumsum

variable (V0 : Valuation τ sig (Elt Ideal)) (q k v dy : Fin 4096 → Fin 1024 → ℝ)

/-- The arguments hold the named real arrays. -/
structure Given : Prop where
  q : V0 (Proc.devRef .tc main_arg0) = fun j => ((q (j 0) (j 1) : ℝ) : EReal)
  k : V0 (Proc.devRef .tc main_arg1) = fun j => ((k (j 0) (j 1) : ℝ) : EReal)
  v : V0 (Proc.devRef .tc main_arg2) = fun j => ((v (j 0) (j 1) : ℝ) : EReal)
  dy : V0 (Proc.devRef .tc main_arg3) = fun j => ((dy (j 0) (j 1) : ℝ) : EReal)

variable {V0 q k v dy}

theorem heads_q (H : Given V0 q k v dy) (h : Fin 8) (t : Fin 4096) (d : Fin 128) :
    res_main_v1 V0 (ix3 h t d) = (((rowsOf q k v dy h).q t.val d : ℝ) : EReal) := by
  unfold res_main_v1; rw [H.q]
  pointwise []
  refine congrArg _ ((congrArg (q t) (Fin.ext ?_)).trans (headRow_val q h t d).symm)
  simp only [colOf]; omega

theorem heads_k (H : Given V0 q k v dy) (h : Fin 8) (t : Fin 4096) (d : Fin 128) :
    res_main_v3 V0 (ix3 h t d) = (((rowsOf q k v dy h).k t.val d : ℝ) : EReal) := by
  unfold res_main_v3; rw [H.k]
  pointwise []
  refine congrArg _ ((congrArg (k t) (Fin.ext ?_)).trans (headRow_val k h t d).symm)
  simp only [colOf]; omega

theorem heads_v (H : Given V0 q k v dy) (h : Fin 8) (t : Fin 4096) (d : Fin 128) :
    res_main_v5 V0 (ix3 h t d) = (((rowsOf q k v dy h).v t.val d : ℝ) : EReal) := by
  unfold res_main_v5; rw [H.v]
  pointwise []
  refine congrArg _ ((congrArg (v t) (Fin.ext ?_)).trans (headRow_val v h t d).symm)
  simp only [colOf]; omega

theorem heads_dy (H : Given V0 q k v dy) (h : Fin 8) (t : Fin 4096) (d : Fin 128) :
    res_main_v33 V0 (ix3 h t d) = (((rowsOf q k v dy h).dy t.val d : ℝ) : EReal) := by
  unfold res_main_v33; rw [H.dy]
  pointwise []
  refine congrArg _ ((congrArg (dy t) (Fin.ext ?_)).trans (headRow_val dy h t d).symm)
  simp only [colOf]; omega

theorem before_at (t s : Fin 4096) : res_main_v15 V0 (ix2 t s) = if s.val < t.val then 1#1 else 0#1 := by
  unfold res_main_v15
  pointwise []
  have hs : (BitVec.ofNat 32 s.val).toInt = s.val := by
    have := s.isLt
    rw [BitVec.toInt_eq_toNat_of_lt] <;> simp <;> omega
  have ht : (BitVec.ofNat 32 t.val).toInt = t.val := by
    have := t.isLt
    rw [BitVec.toInt_eq_toNat_of_lt] <;> simp <;> omega
  by_cases h : s.val < t.val <;> simp [IntOp.cmpi, BitVec.slt_eq_decide, hs, ht, h]

theorem mask_at (h : Fin 8) (t s : Fin 4096) : res_main_v18_1 V0 (ix3 h t s) = if s.val < t.val then 1#1 else 0#1 := by
  refine Eq.trans ?_ (before_at (V0 := V0) t s)
  unfold res_main_v18_1
  pointwise []

theorem mask_at' (h : Fin 8) (t s : Fin 4096) : res_main_v28_1 V0 (ix3 h t s) = if s.val < t.val then 1#1 else 0#1 := by
  refine Eq.trans ?_ (before_at (V0 := V0) t s)
  unfold res_main_v28_1
  pointwise []

theorem score_at (H : Given V0 q k v dy) (h : Fin 8) (t s : Fin 4096) :
    res_main_v8 V0 (ix3 h t s) = (((rowsOf q k v dy h).z t.val s.val : ℝ) : EReal) := by
  unfold res_main_v8
  pointwise []
  simp only [heads_q H, heads_k H, ofBits_scale, ← EReal.coe_mul, coe_sum]
  rfl

/-- The overflow-safe spelling of `log (1 + exp z)`, guarded against an undefined argument. -/
theorem guarded (z : ℝ) : (if (z : EReal) ≠ (z : EReal) then (z : EReal)
    else max (z : EReal) 0 + Ideal.log1p (Ideal.exp (-FloatOps.absf (F := Ideal) (φ := .f32) (z : EReal)))) = ((softplus z : ℝ) : EReal) := by
  rw [if_neg (fun h => h rfl), ← softplus_coe, zero_sub]
  rfl

theorem plus_at (H : Given V0 q k v dy) (h : Fin 8) (t s : Fin 4096) :
    res_main_call0_v1_0 V0 (ix3 h t s) = ((softplus ((rowsOf q k v dy h).z t.val s.val) : ℝ) : EReal) := by
  unfold res_main_call0_v1_0 res_main_call0_call0_v3 res_main_call0_v0 res_main_call0_call0_cst
  pointwise []
  rw [score_at H, ← EReal.coe_neg, ← EReal.coe_neg, neg_neg]
  exact guarded _

theorem minus_at (H : Given V0 q k v dy) (h : Fin 8) (t s : Fin 4096) :
    res_main_call3_v1_0 V0 (ix3 h t s) = ((softplus (-(rowsOf q k v dy h).z t.val s.val) : ℝ) : EReal) := by
  unfold res_main_call3_v1_0 res_main_call3_call0_v3 res_main_call3_v0 res_main_call3_call0_cst
  pointwise []
  rw [score_at H, ← EReal.coe_neg]
  exact guarded _

/-- What a query leaves after a key and the keys behind it. -/
theorem left_at (H : Given V0 q k v dy) (h : Fin 8) (t s : Fin 4096) :
    res_main_v19 V0 (ix3 h t s) = ((∑ n ∈ Finset.range 4096, (rowsOf q k v dy h).logKeep t.val n
      - ∑ n ∈ Finset.range s.val, (rowsOf q k v dy h).logKeep t.val n : ℝ) : EReal) := by
  unfold res_main_v19
  refine suffix_add _ (fun n => (rowsOf q k v dy h).logKeep t.val n) _ _ _ (by pointwise []) h t s fun n => ?_
  dsimp only [id]
  pointwise []
  rw [mask_at, plus_at H]
  unfold Rows.logKeep
  by_cases hs : n.val < t.val
  · rw [if_pos hs, if_pos hs]
    rfl
  · rw [if_neg hs, if_neg hs]
    rfl

/-- A weight before its mask. -/
theorem weight_at (H : Given V0 q k v dy) (h : Fin 8) (t s : Fin 4096) :
    res_main_v27 V0 (ix3 h t s) = ((Real.exp ((rowsOf q k v dy h).z t.val s.val - softplus ((rowsOf q k v dy h).z t.val s.val)
      + ((rowsOf q k v dy h).tot t.val - ∑ n ∈ Finset.range (s.val + 1), (rowsOf q k v dy h).logKeep t.val n)) : ℝ) : EReal) := by
  unfold res_main_v27
  pointwise []
  rw [minus_at H, rowsOf_tot]
  have e : (if hs : s.val < 4095 then (res_main_v19 V0 (ix3 h t ⟨1 + s.val, by omega⟩) : EReal) else (0 : EReal))
      = ((∑ n ∈ Finset.range 4096, (rowsOf q k v dy h).logKeep t.val n
        - ∑ n ∈ Finset.range (s.val + 1), (rowsOf q k v dy h).logKeep t.val n : ℝ) : EReal) := by
    by_cases hs : s.val < 4095
    · rw [dif_pos hs, left_at H]
      dsimp only
      rw [Nat.add_comm 1 s.val]
    · rw [dif_neg hs, show s.val + 1 = 4096 by omega, sub_self]
      rfl
  refine (congrArg (fun x => Ideal.exp (-((softplus (-(rowsOf q k v dy h).z t.val s.val) : ℝ) : EReal) + x)) e).trans ?_
  rw [← EReal.coe_neg, ← EReal.coe_add, Ideal.exp_coe, softplus_neg, neg_sub]

theorem masked_at (H : Given V0 q k v dy) (h : Fin 8) (t s : Fin 4096) :
    res_main_v28_0 V0 (ix3 h t s) = (((rowsOf q k v dy h).w t.val s.val : ℝ) : EReal) := by
  unfold res_main_v28_0
  dsimp only [id]
  pointwise []
  rw [mask_at', weight_at H]
  unfold Rows.w
  by_cases hs : s.val < t.val
  · rw [if_pos hs, if_pos hs]
    rfl
  · rw [if_neg hs, if_neg hs]
    rfl

/-- The weight's gradient times the weight. -/
theorem grad_at (H : Given V0 q k v dy) (h : Fin 8) (t s : Fin 4096) :
    res_main_v38 V0 (ix3 h t s) = (((rowsOf q k v dy h).g t.val s.val : ℝ) : EReal) := by
  unfold res_main_v38
  pointwise []
  rw [mask_at', weight_at H]
  simp only [heads_dy H, heads_v H, ← EReal.coe_mul, coe_sum]
  unfold Rows.g Rows.w
  by_cases hs : s.val < t.val
  · rw [if_pos hs, if_pos hs]
    rfl
  · rw [if_neg hs, if_neg hs, mul_zero]
    rfl

/-- The derivative of `log (1 + exp x)`, guarded against infinities. -/
theorem slope (X Y : EReal) (x y : ℝ) (hX : X = (x : EReal)) (hY : Y = (y : EReal)) [Decidable (X = Ideal.ofBits .f32 2139095040#32)]
    [Decidable (Y = Ideal.ofBits .f32 2139095040#32)] :
    Ideal.exp ((if X = Ideal.ofBits .f32 2139095040#32 then 0 else X) - if Y = Ideal.ofBits .f32 2139095040#32 then 0 else Y)
      = ((Real.exp (x - y) : ℝ) : EReal) := by
  have e : Ideal.ofBits .f32 2139095040#32 = ⊤ := ofBits_inf
  rw [if_neg (by rw [hX, e]; exact EReal.coe_ne_top x), if_neg (by rw [hY, e]; exact EReal.coe_ne_top y), hX, hY, ← EReal.coe_sub, Ideal.exp_coe]

theorem neg_at (H : Given V0 q k v dy) (h : Fin 8) (t s : Fin 4096) :
    res_main_call3_v0 V0 (ix3 h t s) = ((-(rowsOf q k v dy h).z t.val s.val : ℝ) : EReal) := by
  unfold res_main_call3_v0
  pointwise []
  rw [score_at H, EReal.coe_neg]

theorem neg_neg_at (H : Given V0 q k v dy) (h : Fin 8) (t s : Fin 4096) :
    res_main_call0_v0 V0 (ix3 h t s) = (((rowsOf q k v dy h).z t.val s.val : ℝ) : EReal) := by
  unfold res_main_call0_v0
  pointwise []
  rw [score_at H, neg_neg]

/-- The two parts of a score's gradient. -/
theorem parts (g z P c : ℝ) : (-(-((g : ℝ) : EReal) * ((Real.exp (-z - softplus (-z)) : ℝ) : EReal))
    + -(-(-((P : ℝ) : EReal) * ((Real.exp (z - softplus z) : ℝ) : EReal)))) * (c : EReal)
    = (((g * Real.exp (-softplus z) - Real.exp (z - softplus z) * P) * c : ℝ) : EReal) := by
  simp only [← EReal.coe_neg, ← EReal.coe_mul, ← EReal.coe_add]
  rw [softplus_neg, show -z - (softplus z - z) = -softplus z by ring]
  congr 1
  ring

/-- The gradients of a query's weights over the keys before a key. -/
theorem behind_at (H : Given V0 q k v dy) (h : Fin 8) (t s : Fin 4096) :
    Host.reduceWindowAdd (F := Ideal) (φ := .f32) ![1, 1, 4096] ![1, 1, 1] ![0, 0, 4095] ![0, 0, 0]
      (pad S8x4096x4096 ![0, 0, 1] ![0, 0, 0] ![0, 0, 0]
        (extractStridedSlice S8x4096x4095 ![0, 0, 0] (res_main_v38 V0) Gen.slices_S8x4096x4096_S8x4096x4095_0_0_0)
        (constant S_ FTy.f32 0#32) Gen.pads_S8x4096x4095_S8x4096x4096_000_000_100 Gen.h_S_)
      (broadcastInDim S_ ![] Gen.bcast_S_S_ (constant S_ FTy.f32 0#32))
      Gen.reduceWindows_S8x4096x4096_S8x4096x4096_w1s1p0_0_w1s1p0_0_w4096s1p4095_0 Gen.h_S_ (ix3 h t s)
      = ((∑ n ∈ Finset.range s.val, (rowsOf q k v dy h).g t.val n : ℝ) : EReal) := by
  refine (prefix_add (by norm_num) _ (fun n => if n = 0 then 0 else (rowsOf q k v dy h).g t.val (n - 1)) _ _ _ (by pointwise []) h t s fun n => ?_).trans ?_
  · pointwise []
    by_cases hn : n.val = 0
    · rw [dif_neg (by omega), if_pos hn]
      rfl
    · rw [dif_pos (by have := n.isLt; omega), if_neg hn]
      exact grad_at H h t ⟨n.val - 1, by omega⟩
  · rw [Finset.sum_range_succ']
    simp

/-- A score's gradient. -/
theorem slope_at (H : Given V0 q k v dy) (h : Fin 8) (t s : Fin 4096) :
    res_main_v49 V0 (ix3 h t s) = (((rowsOf q k v dy h).dz t.val s.val : ℝ) : EReal) := by
  unfold res_main_v49
  pointwise []
  rw [slope _ _ _ _ (neg_at H h t s) (minus_at H h t s), slope _ _ _ _ (neg_neg_at H h t s) (plus_at H h t s), grad_at H, mask_at, behind_at H,
    ofBits_scale]
  unfold Rows.dz
  by_cases hs : s.val < t.val
  · rw [if_pos hs, if_pos hs]
    exact parts _ _ _ _
  · have hg : (rowsOf q k v dy h).g t.val s.val = 0 := by unfold Rows.g; rw [Rows.w_of_le _ (by omega), mul_zero]
    rw [if_neg hs, if_neg hs, hg]
    refine (parts 0 ((rowsOf q k v dy h).z t.val s.val) 0 scale).trans ?_
    simp

variable (m : (ℓ : Loc nD τ sig) → Buf (Elt Ideal) ℓ)

/-- The reference's three results. -/
theorem run_real (Q K W DY : Dev nD → Fin 4096 → Fin 1024 → ℝ) (ρ : Dev nD → PrngReg)
    (H : ∀ c : Dev nD, Given (StableHlo.launchContents m c) (Q c) (K c) (W c) (DY c)) :
    θ_run defs (onTc (τ := τ) (main (F := Ideal))) ⟨m, fun _ => 0, ρ⟩ fun r => ∀ c : Dev nD,
      r.2.mem ((c.tc : Thread nD τ).loc main_v58) = (fun j => ((gradQ (Q c) (K c) (W c) (DY c) (j 0) (j 1) : ℝ) : EReal))
      ∧ r.2.mem ((c.tc : Thread nD τ).loc main_v59) = (fun j => ((gradK (Q c) (K c) (W c) (DY c) (j 0) (j 1) : ℝ) : EReal))
      ∧ r.2.mem ((c.tc : Thread nD τ).loc main_v60) = (fun j => ((gradV (Q c) (K c) (W c) (DY c) (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h0, h1, h2, h3⟩ := h c
  refine ⟨h0.trans (funext fun j => ?_), h1.trans (funext fun j => ?_), h2.trans (funext fun j => ?_), h3⟩
  · idx_vars j
    pointwise []
    simp only [slope_at (H c), heads_k (H c), ← EReal.coe_mul, coe_sum]
    unfold gradQ
    rw [Finset.sum_range]
    rfl
  · idx_vars j
    pointwise []
    simp only [slope_at (H c), heads_q (H c), ← EReal.coe_mul, coe_sum]
    unfold gradK
    rw [Finset.sum_range]
    rfl
  · idx_vars j
    pointwise []
    simp only [masked_at (H c), heads_dy (H c), ← EReal.coe_mul, coe_sum]
    unfold gradV
    rw [Finset.sum_range]
    refine congrArg _ (Finset.sum_congr rfl fun s _ => mul_comm _ _)

end Cert.AttnRefIdeal.Eqn

end
-- ==== Proof.AttnBlock.lean ====
/- One head's arithmetic on a pair of tiles as the attention's backward kernel writes it, stated once for the
   four heads, the tiles below the diagonal and the diagonal tile, and its value on real arguments. -/
module

public import proofs.«01_k».proof.Proof.AttnMath
public import proofs.«01_k».proof.Proof.Gen.AttnIdeal.Skeleton

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

section Ops

variable {F : FTy → Type} [FloatOps F]

/-- One head's operands on a pair of tiles: the mask applied to scores, the two triangles of ones, the tiles and the carries. -/
structure Head (F : FTy → Type) where
  mask : FVec F S256x256 .f32 → FVec F S256x256 .f32
  upto : FVec F S256x256 .bf16
  before : FVec F S256x256 .bf16
  q : FVec F S256x128 .bf16
  k : FVec F S256x128 .bf16
  v : FVec F S256x128 .bf16
  dy : FVec F S256x128 .bf16
  tot : FVec F S256x1 .f32
  cl : FVec F S256x1 .f32
  cg : FVec F S256x1 .f32

def zeros : FVec F S256x256 .f32 := broadcast S256x256 (Scalar.ofBits .f32 0x00000000#32)
def scales : FVec F S256x256 .f32 := broadcast S256x256 (Scalar.ofBits .f32 0x3DB504F3#32)
def zeroTile : FVec F S256x128 .f32 := constant S256x128 .f32 0x00000000#32

/-- The two-part product of an f32 tile with a triangle of ones. -/
def splitDot (x : FVec F S256x256 .f32) (tri : FVec F S256x256 .bf16) : FVec F S256x256 .f32 :=
  addf (matmul dot_S256x256_S256x256_S256x256_1_0_0_1_n_n none (truncf .bf16 x bitsLt_bf16_f32) tri
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

/-- Row sums as a column. -/
def rowSums (x : FVec F S256x256 .f32) : FVec F S256x1 .f32 :=
  shapeCast S256x1 (multiReduction .add [1] S256 x 0x00000000#32 reduces_S256x256_S256 (.inl rfl) rfl) shapeCasts_S256_S256x1

namespace Head

variable (H : Head F)

def z : FVec F S256x256 .f32 :=
  mulf (matmul dot_S256x128_S256x128_S256x256_1_1_0_0_n_n none H.q H.k (constant S256x256 .f32 0x00000000#32)) scales
def sp : FVec F S256x256 .f32 :=
  addf (maximumf H.z zeros)
    (log (addf (broadcast S256x256 (Scalar.ofBits .f32 0x3F800000#32)) (exp (subf zeros (absf H.z)))))
def logKeep : FVec F S256x256 .f32 := H.mask (subf zeros H.sp)
def w : FVec F S256x256 .f32 :=
  H.mask (exp (addf (subf H.z H.sp)
    (subf (broadcastTo S256x256 (subf H.tot H.cl) broadcasts_S256x1_S256x256) (splitDot H.logKeep H.upto))))
def g : FVec F S256x256 .f32 :=
  mulf (matmul dot_S256x128_S256x128_S256x256_1_1_0_0_n_n none H.dy H.v (constant S256x256 .f32 0x00000000#32)) H.w
def dz : FVec F S256x256 .bf16 :=
  truncf .bf16 (H.mask (mulf (subf (mulf H.g (exp (subf zeros H.sp)))
    (mulf (exp (subf H.z H.sp))
      (addf (broadcastTo S256x256 H.cg broadcasts_S256x1_S256x256) (splitDot H.g H.before)))) scales)) bitsLt_bf16_f32

/-- The query gradient's next partial sum. -/
def dq (a : FVec F S256x128 .f32) : FVec F S256x128 .f32 :=
  addf a (matmul dot_S256x256_S256x128_S256x128_1_0_0_1_n_n none H.dz H.k zeroTile)
/-- The next log-keep carry. -/
def clNext : FVec F S256x1 .f32 := addf H.cl (rowSums H.logKeep)
/-- The next weight-gradient carry. -/
def cgNext : FVec F S256x1 .f32 := addf H.cg (rowSums H.g)
/-- The key gradient's next partial sum. -/
def dk (a : FVec F S256x128 .f32) : FVec F S256x128 .f32 :=
  shapeCast S256x128 (addf a (matmul dot_S256x256_S256x128_S256x128_0_0_1_1_n_n none H.dz H.q zeroTile))
    shapeCasts_S256x128_S256x128
/-- The value gradient's next partial sum. -/
def dv (a : FVec F S256x128 .f32) : FVec F S256x128 .f32 :=
  shapeCast S256x128 (addf a (matmul dot_S256x256_S256x128_S256x128_0_0_1_1_n_n none
      (truncf .bf16 H.w bitsLt_bf16_f32) H.dy zeroTile))
    shapeCasts_S256x128_S256x128

end Head

end Ops

section Values

/-- The operands of a head hold the named reals. -/
structure Real (H : Head Ideal) (T : Tile) : Prop where
  mask : ∀ (x : FVec Ideal S256x256 .f32) (y : Fin 256 → Fin 256 → ℝ), (∀ r s : Fin 256, x (ix2 r s) = ((y r s : ℝ) : EReal)) →
    ∀ r s : Fin 256, H.mask x (ix2 r s) = ((T.mask y r s : ℝ) : EReal)
  upto : ∀ r s : Fin 256, H.upto (ix2 r s) = (((if r ≤ s then 1 else 0 : ℝ)) : EReal)
  before : ∀ r s : Fin 256, H.before (ix2 r s) = (((if r < s then 1 else 0 : ℝ)) : EReal)
  q : ∀ (r : Fin 256) (d : Fin 128), H.q (ix2 r d) = ((T.q r d : ℝ) : EReal)
  k : ∀ (r : Fin 256) (d : Fin 128), H.k (ix2 r d) = ((T.k r d : ℝ) : EReal)
  v : ∀ (r : Fin 256) (d : Fin 128), H.v (ix2 r d) = ((T.v r d : ℝ) : EReal)
  dy : ∀ (r : Fin 256) (d : Fin 128), H.dy (ix2 r d) = ((T.dy r d : ℝ) : EReal)
  tot : ∀ r : Fin 256, H.tot (ix2 r 0) = ((T.tot r : ℝ) : EReal)
  cl : ∀ r : Fin 256, H.cl (ix2 r 0) = ((T.cl r : ℝ) : EReal)
  cg : ∀ r : Fin 256, H.cg (ix2 r 0) = ((T.cg r : ℝ) : EReal)

/-- The product with a triangle of ones sums the entries the triangle keeps. -/
theorem splitDot_real (x : FVec Ideal S256x256 .f32) (tri : FVec Ideal S256x256 .bf16) (y : Fin 256 → Fin 256 → ℝ)
    (p : Fin 256 → Fin 256 → Prop) [∀ r s, Decidable (p r s)]
    (hx : ∀ r s : Fin 256, x (ix2 r s) = ((y r s : ℝ) : EReal))
    (ht : ∀ r s : Fin 256, tri (ix2 r s) = (((if p r s then 1 else 0 : ℝ)) : EReal)) (r s : Fin 256) :
    splitDot x tri (ix2 r s) = ((∑ k, if p k s then y r k else 0 : ℝ) : EReal) := by
  pointwise [splitDot]
  simp only [hx, ht, ← EReal.coe_sub, ← EReal.coe_mul, coe_sum, ← EReal.coe_add, ← EReal.coe_zero, sub_self, zero_mul,
    Finset.sum_const_zero, add_zero, zero_add, mul_ite, mul_one, mul_zero, ite_self]

theorem rowSums_real (x : FVec Ideal S256x256 .f32) (y : Fin 256 → Fin 256 → ℝ)
    (hx : ∀ r s : Fin 256, x (ix2 r s) = ((y r s : ℝ) : EReal)) (r : Fin 256) :
    rowSums x (ix2 r 0) = ((∑ s, y r s : ℝ) : EReal) := by
  pointwise [rowSums]
  simp only [hx, coe_sum]

variable {H : Head Ideal} {T : Tile}

theorem z_real (h : Real H T) (r s : Fin 256) : H.z (ix2 r s) = ((T.z r s : ℝ) : EReal) := by
  pointwise [Head.z, scales]
  simp only [h.q, h.k, Scalar.ofBits, ofBits_scale, ← EReal.coe_mul, coe_sum, ← EReal.coe_zero, ← EReal.coe_add, zero_add]
  rfl

theorem sp_real (h : Real H T) (r s : Fin 256) : H.sp (ix2 r s) = ((softplus (T.z r s) : ℝ) : EReal) := by
  pointwise [Head.sp, zeros]
  rw [z_real h]
  exact softplus_coe _

theorem logKeep_real (h : Real H T) (r s : Fin 256) : H.logKeep (ix2 r s) = ((T.logKeep r s : ℝ) : EReal) := by
  refine h.mask _ _ (fun r s => ?_) r s
  pointwise [zeros]
  rw [sp_real h, ← EReal.coe_zero, ← EReal.coe_sub, zero_sub]

theorem w_real (h : Real H T) (r s : Fin 256) : H.w (ix2 r s) = ((T.w r s : ℝ) : EReal) := by
  refine h.mask _ _ (fun r s => ?_) r s
  have hs := splitDot_real H.logKeep H.upto T.logKeep (fun r s => r ≤ s) (logKeep_real h) h.upto r s
  pointwise []
  rw [hs, z_real h, sp_real h, h.tot, h.cl]
  simp only [← EReal.coe_sub, ← EReal.coe_add, Ideal.exp_coe]

theorem g_real (h : Real H T) (r s : Fin 256) : H.g (ix2 r s) = ((T.g r s : ℝ) : EReal) := by
  pointwise [Head.g]
  simp only [h.dy, h.v, w_real h, ← EReal.coe_mul, coe_sum, ← EReal.coe_zero, ← EReal.coe_add, zero_add]
  rfl

theorem dz_real (h : Real H T) (r s : Fin 256) : H.dz (ix2 r s) = ((T.dz r s : ℝ) : EReal) := by
  unfold Head.dz
  refine h.mask _ _ (fun r s => ?_) r s
  have hs := splitDot_real H.g H.before T.g (fun r s => r < s) (g_real h) h.before r s
  pointwise [zeros, scales]
  rw [hs, z_real h, sp_real h, h.cg, g_real h]
  simp only [Scalar.ofBits, ofBits_scale, ← EReal.coe_zero, ← EReal.coe_sub, ← EReal.coe_add, ← EReal.coe_mul, Ideal.exp_coe,
    zero_sub]

theorem dq_real (h : Real H T) (a : FVec Ideal S256x128 .f32) (r : Fin 256) (d : Fin 128) (y : ℝ)
    (ha : a (ix2 r d) = ((y : ℝ) : EReal)) :
    H.dq a (ix2 r d) = ((y + ∑ s, T.dz r s * T.k s d : ℝ) : EReal) := by
  pointwise [Head.dq, zeroTile]
  simp only [ha, dz_real h, h.k, ← EReal.coe_mul, coe_sum, ← EReal.coe_zero, ← EReal.coe_add, zero_add]

theorem clNext_real (h : Real H T) (r : Fin 256) :
    H.clNext (ix2 r 0) = ((T.cl r + ∑ s, T.logKeep r s : ℝ) : EReal) := by
  have hs := rowSums_real H.logKeep T.logKeep (logKeep_real h) r
  pointwise [Head.clNext]
  rw [hs, h.cl, ← EReal.coe_add]

theorem cgNext_real (h : Real H T) (r : Fin 256) :
    H.cgNext (ix2 r 0) = ((T.cg r + ∑ s, T.g r s : ℝ) : EReal) := by
  have hs := rowSums_real H.g T.g (g_real h) r
  pointwise [Head.cgNext]
  rw [hs, h.cg, ← EReal.coe_add]

theorem dk_real (h : Real H T) (a : FVec Ideal S256x128 .f32) (s : Fin 256) (d : Fin 128) (y : ℝ)
    (ha : a (ix2 s d) = ((y : ℝ) : EReal)) :
    H.dk a (ix2 s d) = ((y + ∑ r, T.dz r s * T.q r d : ℝ) : EReal) := by
  pointwise [Head.dk, zeroTile]
  simp only [ha, dz_real h, h.q, ← EReal.coe_mul, coe_sum, ← EReal.coe_zero, ← EReal.coe_add, zero_add]

theorem dv_real (h : Real H T) (a : FVec Ideal S256x128 .f32) (s : Fin 256) (d : Fin 128) (y : ℝ)
    (ha : a (ix2 s d) = ((y : ℝ) : EReal)) :
    H.dv a (ix2 s d) = ((y + ∑ r, T.w r s * T.dy r d : ℝ) : EReal) := by
  pointwise [Head.dv, zeroTile]
  simp only [ha, w_real h, h.dy, ← EReal.coe_mul, coe_sum, ← EReal.coe_zero, ← EReal.coe_add, zero_add]

end Values

end Cert.AttnIdeal.Eqn

end
-- ==== Proof.AttnTrip.lean ====
/- The attention's backward kernel, one trip of its loop over the key tiles before the diagonal: each head's arithmetic. -/
module

public import proofs.«01_k».proof.Proof.AttnBlock
public import proofs.«01_k».proof.Proof.Gen.AttnIdeal.Loops

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

variable {F : FTy → Type} [FloatOps F]

/-- What the loop carries: each head's query gradient, log-keep sum and weight-gradient sum. -/
abbrev Carry (F : FTy → Type) : Type :=
  FVec F S256x128 .f32 × FVec F S256x1 .f32 × FVec F S256x1 .f32 × FVec F S256x128 .f32 × FVec F S256x1 .f32 × FVec F S256x1 .f32
    × FVec F S256x128 .f32 × FVec F S256x1 .f32 × FVec F S256x1 .f32 × FVec F S256x128 .f32 × FVec F S256x1 .f32 × FVec F S256x1 .f32

def Carry.dq (a : Carry F) : Fin 4 → FVec F S256x128 .f32 := ![a.1, a.2.2.2.1, a.2.2.2.2.2.2.1, a.2.2.2.2.2.2.2.2.2.1]
def Carry.cl (a : Carry F) : Fin 4 → FVec F S256x1 .f32 := ![a.2.1, a.2.2.2.2.1, a.2.2.2.2.2.2.2.1, a.2.2.2.2.2.2.2.2.2.2.1]
def Carry.cg (a : Carry F) : Fin 4 → FVec F S256x1 .f32 := ![a.2.2.1, a.2.2.2.2.2.1, a.2.2.2.2.2.2.2.2.1, a.2.2.2.2.2.2.2.2.2.2.2]

/-- What the loop is run with: the program's buffers and the vectors loaded before it. -/
structure Args (F : FTy → Type) where
  c : Dev nD
  i : grid0.Coords
  a2 : Memref sig .tc .vmem S256x512 .bf16
  h2 : a2.IsWhole
  a3 : Memref sig .tc .vmem S4096x512 .bf16
  h3 : a3.IsWhole
  a4 : Memref sig .tc .vmem S4096x512 .bf16
  h4 : a4.IsWhole
  a5 : Memref sig .tc .vmem S256x512 .bf16
  h5 : a5.IsWhole
  a6 : Memref sig .tc .vmem S256x512 .f32
  h6 : a6.IsWhole
  a7 : Memref sig .tc .vmem S256x512 .bf16
  h7 : a7.IsWhole
  a8 : Memref sig .tc .vmem S4096x512 .bf16
  h8 : a8.IsWhole
  a9 : Memref sig .tc .vmem S4096x512 .bf16
  h9 : a9.IsWhole
  a10 : Memref sig .tc .vmem S4096x512 .f32
  h10 : a10.IsWhole
  a11 : Memref sig .tc .vmem S4096x512 .f32
  h11 : a11.IsWhole
  a1 : BitVec 32
  upto : FVec F S256x256 .bf16
  before : FVec F S256x256 .bf16
  q : Fin 4 → FVec F S256x128 .bf16
  dy : Fin 4 → FVec F S256x128 .bf16
  t0 : FVec F S256x1 .f32
  t1 : FVec F S256x1 .f32
  t2 : Vec F S256x1 .f32
  t3 : Vec F S256x1 .f32
  X3 : BufTy.Contents (Elt F) a3.view.ty
  X4 : BufTy.Contents (Elt F) a4.view.ty

namespace Args

variable (A : Args F)

/-- The log-keep totals, head by head. -/
def tot : Fin 4 → FVec F S256x1 .f32 := ![A.t0, A.t1, k0_pay134 A.t2, k0_pay135 A.t3]

/-- The state after `n` trips. -/
def st (G10 : BufTy.Contents (Elt F) A.a10.view.ty) (G11 : BufTy.Contents (Elt F) A.a11.view.ty) (init : Carry F) (n : ℕ) :=
  st_k0_t1 (F := F) Variants.none A.c none A.i A.a2 A.h2 A.a3 A.h3 A.a4 A.h4 A.a5 A.h5 A.a6 A.h6 A.a7 A.h7 A.a8 A.h8 A.a9 A.h9
    A.a10 A.h10 A.a11 A.h11 A.a1 A.upto A.before (A.q 0) (A.q 1) (A.q 2) (A.q 3) (A.dy 0) (A.dy 1) (A.dy 2) (A.dy 3)
    A.t0 A.t1 A.t2 A.t3 A.X3 A.X4 G10 G11 init n

/-- One trip: what it carries on and the pieces it stores. -/
def trip (k : Fin (k0_t1_loop A.i).trips) :=
  trip_k0_t1 (F := F) Variants.none A.c none A.i A.a2 A.h2 A.a3 A.h3 A.a4 A.h4 A.a5 A.h5 A.a6 A.h6 A.a7 A.h7 A.a8 A.h8 A.a9 A.h9
    A.a10 A.h10 A.a11 A.h11 A.a1 A.upto A.before (A.q 0) (A.q 1) (A.q 2) (A.q 3) (A.dy 0) (A.dy 1) (A.dy 2) (A.dy 3)
    A.t0 A.t1 A.t2 A.t3 A.X3 A.X4 k

/-- What a buffer holds in the trip's rows, in each head's columns. -/
def ofRect {Val : EltTy → Type} {e : EltTy} {a : Memref sig .tc .vmem S4096x512 e} (f : BufTy.Contents Val a.view.ty)
    (k : Fin (k0_t1_loop A.i).trips) : Fin 4 → (S256x128.Idx → Val e) := ![
  a.view.readAt Val (Rect.unit (s := S4096x512) (k0_off1 A.i k) S256x128.size (k0_off1_inb A.i k)).toLoadRect f,
  a.view.readAt Val (Rect.unit (s := S4096x512) (k0_off2 A.i k) S256x128.size (k0_off2_inb A.i k)).toLoadRect f,
  a.view.readAt Val (Rect.unit (s := S4096x512) (k0_off3 A.i k) S256x128.size (k0_off3_inb A.i k)).toLoadRect f,
  a.view.readAt Val (Rect.unit (s := S4096x512) (k0_off4 A.i k) S256x128.size (k0_off4_inb A.i k)).toLoadRect f]

/-- A head's operands in a trip. -/
def head (k : Fin (k0_t1_loop A.i).trips) (acc : Carry F) (h : Fin 4) : Head F where
  mask := id
  upto := A.upto
  before := A.before
  q := A.q h
  k := shapeCast S256x128 (A.ofRect (a := A.a3) A.X3 k h) shapeCasts_S256x128_S256x128
  v := shapeCast S256x128 (A.ofRect (a := A.a4) A.X4 k h) shapeCasts_S256x128_S256x128
  dy := A.dy h
  tot := A.tot h
  cl := acc.cl h
  cg := acc.cg h

theorem trip_dq (k : Fin (k0_t1_loop A.i).trips) (acc : Carry F) (f : BufTy.Contents (Elt F) A.a10.view.ty)
    (g : BufTy.Contents (Elt F) A.a11.view.ty) (h : Fin 4) :
    Carry.dq ((A.trip k).1 acc f g) h = (A.head k acc h).dq (acc.dq h) := by
  fin_cases h <;> (unfold trip trip_k0_t1; rfl)

theorem trip_cl (k : Fin (k0_t1_loop A.i).trips) (acc : Carry F) (f : BufTy.Contents (Elt F) A.a10.view.ty)
    (g : BufTy.Contents (Elt F) A.a11.view.ty) (h : Fin 4) :
    Carry.cl ((A.trip k).1 acc f g) h = (A.head k acc h).clNext := by
  fin_cases h <;> (unfold trip trip_k0_t1; rfl)

theorem trip_cg (k : Fin (k0_t1_loop A.i).trips) (acc : Carry F) (f : BufTy.Contents (Elt F) A.a10.view.ty)
    (g : BufTy.Contents (Elt F) A.a11.view.ty) (h : Fin 4) :
    Carry.cg ((A.trip k).1 acc f g) h = (A.head k acc h).cgNext := by
  fin_cases h <;> (unfold trip trip_k0_t1; rfl)

/-- The pieces a trip stores in the key-gradient scratch, given each head's new rows. -/
def pieces (k : Fin (k0_t1_loop A.i).trips) (w : Fin 4 → FVec F S256x128 .f32) : List (View.Piece (Elt F) S4096x512 .f32) := [
  ⟨Rect.unit (s := S4096x512) (k0_off4 A.i k) S256x128.size (k0_off4_inb A.i k), w 3⟩,
  ⟨Rect.unit (s := S4096x512) (k0_off3 A.i k) S256x128.size (k0_off3_inb A.i k), w 2⟩,
  ⟨Rect.unit (s := S4096x512) (k0_off2 A.i k) S256x128.size (k0_off2_inb A.i k), w 1⟩,
  ⟨Rect.unit (s := S4096x512) (k0_off1 A.i k) S256x128.size (k0_off1_inb A.i k), w 0⟩]

theorem trip_dk (k : Fin (k0_t1_loop A.i).trips) (acc : Carry F) (f : BufTy.Contents (Elt F) A.a10.view.ty)
    (g : BufTy.Contents (Elt F) A.a11.view.ty) :
    (A.trip k).2.1 acc f g = A.pieces k fun h => (A.head k acc h).dk (A.ofRect (a := A.a10) f k h) := by
  unfold trip trip_k0_t1; rfl

theorem trip_dv (k : Fin (k0_t1_loop A.i).trips) (acc : Carry F) (f : BufTy.Contents (Elt F) A.a10.view.ty)
    (g : BufTy.Contents (Elt F) A.a11.view.ty) :
    (A.trip k).2.2.1 acc f g = A.pieces k fun h => (A.head k acc h).dv (A.ofRect (a := A.a11) g k h) := by
  unfold trip trip_k0_t1; rfl

end Args

end Cert.AttnIdeal.Eqn

end
-- ==== Proof.AttnStore.lean ====
/- Four stores side by side, one per head: what the buffer holds after them. -/
module

public import proofs.«01_k».proof.AttnIdeal
public import Idealize.ShloMosaic.Lib.WritesUnit
public import Idealize.ShloMosaic.Lib.Pointwise

@[expose] public section

set_option maxRecDepth 16384

noncomputable section

namespace Cert.AttnIdeal.Eqn

open Cert.AttnIdeal
open Idealize.ShloMosaic Idealize.ShloMosaic.TcCoe Idealize.SL.Sem

/-- Column `d` of head `h`. -/
def col (h : Fin 4) (d : Fin 128) : Fin 512 := ⟨128 * h.val + d.val, by omega⟩

@[simp] theorem col_val (h : Fin 4) (d : Fin 128) : (col h d).val = 128 * h.val + d.val := rfl

theorem exists_col (c : Fin 512) : ∃ h d, c = col h d :=
  ⟨⟨c.val / 128, by omega⟩, ⟨c.val % 128, by omega⟩, Fin.ext (by simp; omega)⟩

section

variable {sig : RefSig} {κ : Kind} {sp : Space} {Val : EltTy → Type} {e : EltTy} {N : ℕ}
  (v : View sig κ sp (⟨2, ![N, 512]⟩ : Shape) e) (f : v.ty.Contents Val)

/-- A load of a head's columns in 256 rows. -/
theorem readAt_head (o : ℕ) (h : Fin 4) {off : Fin 2 → ℕ} (hoff : off = ![o, 128 * h.val])
    (inb : ∀ a, off a + S256x128.size a ≤ (⟨2, ![N, 512]⟩ : Shape).size a) (r : Fin 256) (d : Fin 128) (s : Fin N)
    (hs : s.val = o + r.val) :
    v.readAt Val (Rect.unit (s := ⟨2, ![N, 512]⟩) off S256x128.size inb).toLoadRect f (ix2 r d) = v.read Val f (ix2 s (col h d)) := by
  subst hoff
  refine congrArg (v.read Val f) (funext fun a => Fin.ext ?_)
  fin_cases a
  · show o + 1 * r.val = s.val; omega
  · show 128 * h.val + 1 * d.val = 128 * h.val + d.val; omega

/-- The four heads' stores into the rows from `o` on, the last head's newest. -/
def stores (off : Fin 4 → Fin 2 → ℕ) (inb : ∀ h a, off h a + S256x128.size a ≤ (⟨2, ![N, 512]⟩ : Shape).size a)
    (w : Fin 4 → S256x128.Idx → Val e) (L : List (View.Piece Val (⟨2, ![N, 512]⟩ : Shape) e)) :
    List (View.Piece Val (⟨2, ![N, 512]⟩ : Shape) e) :=
  ⟨Rect.unit (s := ⟨2, ![N, 512]⟩) (off 3) S256x128.size (inb 3), w 3⟩ ::
  ⟨Rect.unit (s := ⟨2, ![N, 512]⟩) (off 2) S256x128.size (inb 2), w 2⟩ ::
  ⟨Rect.unit (s := ⟨2, ![N, 512]⟩) (off 1) S256x128.size (inb 1), w 1⟩ ::
  ⟨Rect.unit (s := ⟨2, ![N, 512]⟩) (off 0) S256x128.size (inb 0), w 0⟩ :: L

variable {o : ℕ}

/-- Another head's columns keep what they held. -/
theorem read_cons_ne {h h' : Fin 4} (hne : h ≠ h') {off : Fin 2 → ℕ} (hoff : off = ![o, 128 * h'.val])
    (inb : ∀ a, off a + S256x128.size a ≤ (⟨2, ![N, 512]⟩ : Shape).size a) (w : S256x128.Idx → Val e)
    (L : List (View.Piece Val (⟨2, ![N, 512]⟩ : Shape) e)) (s : Fin N) (d : Fin 128) :
    v.read Val (v.writes Val f (⟨Rect.unit (s := ⟨2, ![N, 512]⟩) off S256x128.size inb, w⟩ :: L)) (ix2 s (col h d))
      = v.read Val (v.writes Val f L) (ix2 s (col h d)) := by
  refine View.read_writes_cons_unit_of_not_mem v f inb w L _ hoff 1 ?_
  show 128 * h.val + d.val < 128 * h'.val ∨ 128 * h'.val + 128 ≤ 128 * h.val + d.val
  have := Fin.val_ne_of_ne hne
  omega

/-- A head's own columns, in the rows stored. -/
theorem read_cons_self {h : Fin 4} {off : Fin 2 → ℕ} (hoff : off = ![o, 128 * h.val])
    (inb : ∀ a, off a + S256x128.size a ≤ (⟨2, ![N, 512]⟩ : Shape).size a) (w : S256x128.Idx → Val e)
    (L : List (View.Piece Val (⟨2, ![N, 512]⟩ : Shape) e)) (s : Fin N) (d : Fin 128) (r : Fin 256) (hs : s.val = o + r.val) :
    v.read Val (v.writes Val f (⟨Rect.unit (s := ⟨2, ![N, 512]⟩) off S256x128.size inb, w⟩ :: L)) (ix2 s (col h d)) = w (ix2 r d) := by
  refine View.read_writes_cons_unit_of_mem v f inb w L _ (ix2 r d) hoff fun a => ?_
  fin_cases a
  · exact hs
  · rfl

/-- Rows the store does not reach keep what they held. -/
theorem read_cons_row {h' : Fin 4} {off : Fin 2 → ℕ} (hoff : off = ![o, 128 * h'.val])
    (inb : ∀ a, off a + S256x128.size a ≤ (⟨2, ![N, 512]⟩ : Shape).size a) (w : S256x128.Idx → Val e)
    (L : List (View.Piece Val (⟨2, ![N, 512]⟩ : Shape) e)) (s : Fin N) (c : Fin 512) (hs : s.val < o ∨ o + 256 ≤ s.val) :
    v.read Val (v.writes Val f (⟨Rect.unit (s := ⟨2, ![N, 512]⟩) off S256x128.size inb, w⟩ :: L)) (ix2 s c)
      = v.read Val (v.writes Val f L) (ix2 s c) :=
  View.read_writes_cons_unit_of_not_mem v f inb w L _ hoff 0 hs

variable {off : Fin 4 → Fin 2 → ℕ} (hoff : ∀ h, off h = ![o, 128 * h.val])
  (inb : ∀ h a, off h a + S256x128.size a ≤ (⟨2, ![N, 512]⟩ : Shape).size a) (w : Fin 4 → S256x128.Idx → Val e)
  (L : List (View.Piece Val (⟨2, ![N, 512]⟩ : Shape) e))

include hoff

theorem read_stores_of_mem (s : Fin N) (h : Fin 4) (d : Fin 128) (r : Fin 256) (hs : s.val = o + r.val) :
    v.read Val (v.writes Val f (stores off inb w L)) (ix2 s (col h d)) = w h (ix2 r d) := by
  unfold stores
  fin_cases h
  · rw [read_cons_ne v f (h' := 3) (by decide) (hoff 3), read_cons_ne v f (h' := 2) (by decide) (hoff 2),
      read_cons_ne v f (h' := 1) (by decide) (hoff 1)]
    exact read_cons_self v f (h := 0) (hoff 0) _ _ _ _ _ _ hs
  · rw [read_cons_ne v f (h' := 3) (by decide) (hoff 3), read_cons_ne v f (h' := 2) (by decide) (hoff 2)]
    exact read_cons_self v f (h := 1) (hoff 1) _ _ _ _ _ _ hs
  · rw [read_cons_ne v f (h' := 3) (by decide) (hoff 3)]
    exact read_cons_self v f (h := 2) (hoff 2) _ _ _ _ _ _ hs
  · exact read_cons_self v f (h := 3) (hoff 3) _ _ _ _ _ _ hs

theorem read_stores_of_not_mem (s : Fin N) (c : Fin 512) (hs : s.val < o ∨ o + 256 ≤ s.val) :
    v.read Val (v.writes Val f (stores off inb w L)) (ix2 s c) = v.read Val (v.writes Val f L) (ix2 s c) := by
  unfold stores
  rw [read_cons_row v f (hoff 3) _ _ _ _ _ hs, read_cons_row v f (hoff 2) _ _ _ _ _ hs, read_cons_row v f (hoff 1) _ _ _ _ _ hs,
    read_cons_row v f (hoff 0) _ _ _ _ _ hs]

end

end Cert.AttnIdeal.Eqn

end
-- ==== Proof.AttnLoop.lean ====
/- The attention's backward kernel, its loop over the key tiles before the diagonal: what it carries and what it leaves
   in the two scratch buffers, on real arguments. -/
module

public import proofs.«01_k».proof.Proof.AttnTrip
public import proofs.«01_k».proof.Proof.AttnStore

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

theorem start_val (n : ℕ) (hn : n < 16) : (Scalar.indexCast (Scalar.muli (Scf.iv 0#32 1#32 n) 256#32)).toNat = 256 * n := by
  simp [Scf.iv, Scalar.muli, Scalar.indexCast, IntOp.muli, BitVec.toNat_mul]
  omega

section

variable {F : FTy → Type} [FloatOps F] (A : Args F) (k : Fin (k0_t1_loop A.i).trips)

/-- Where each head's columns of the trip's rows start. -/
def Args.off : Fin 4 → Fin 2 → ℕ := ![k0_off1 A.i k, k0_off2 A.i k, k0_off3 A.i k, k0_off4 A.i k]

theorem Args.off_inb : ∀ h a, A.off k h a + S256x128.size a ≤ S4096x512.size a := by
  intro h
  fin_cases h
  exacts [k0_off1_inb A.i k, k0_off2_inb A.i k, k0_off3_inb A.i k, k0_off4_inb A.i k]

theorem Args.off_eq (hk : k.val < 16) (h : Fin 4) : A.off k h = ![256 * k.val, 128 * h.val] := by
  have hs := start_val k.val hk
  fin_cases h <;> exact congrArg (fun n => ![n, _]) hs

theorem Args.pieces_eq (w : Fin 4 → FVec F S256x128 .f32) (L : List (View.Piece (Elt F) S4096x512 .f32)) :
    A.pieces k w ++ L = stores (A.off k) (A.off_inb k) w L := rfl

theorem Args.ofRect_at {e : EltTy} {a : Memref sig .tc .vmem S4096x512 e} (f : BufTy.Contents (Elt F) a.view.ty)
    (hk : k.val < 16) (h : Fin 4) (r : Fin 256) (d : Fin 128) :
    A.ofRect (a := a) f k h (ix2 r d) = a.view.read (Elt F) f (ix2 ⟨256 * k.val + r.val, by omega⟩ (col h d)) := by
  have e := A.off_eq k hk
  fin_cases h
  · exact readAt_head (N := 4096) a.view f (256 * k.val) 0 (e 0) _ r d _ rfl
  · exact readAt_head (N := 4096) a.view f (256 * k.val) 1 (e 1) _ r d _ rfl
  · exact readAt_head (N := 4096) a.view f (256 * k.val) 2 (e 2) _ r d _ rfl
  · exact readAt_head (N := 4096) a.view f (256 * k.val) 3 (e 3) _ r d _ rfl

end

/-- The loop's operands at tile `i` of the queries hold the named reals. -/
structure Holds (A : Args Ideal) (R : Fin 4 → Rows) (i : ℕ) : Prop where
  lt : i < 16
  trips : (k0_t1_loop A.i).trips = i
  upto : ∀ r s : Fin 256, A.upto (ix2 r s) = (((if r ≤ s then 1 else 0 : ℝ)) : EReal)
  before : ∀ r s : Fin 256, A.before (ix2 r s) = (((if r < s then 1 else 0 : ℝ)) : EReal)
  q : ∀ (h : Fin 4) (r : Fin 256) (d : Fin 128), A.q h (ix2 r d) = (((R h).q (256 * i + r.val) d : ℝ) : EReal)
  dy : ∀ (h : Fin 4) (r : Fin 256) (d : Fin 128), A.dy h (ix2 r d) = (((R h).dy (256 * i + r.val) d : ℝ) : EReal)
  tot : ∀ (h : Fin 4) (r : Fin 256), A.tot h (ix2 r 0) = (((R h).tot (256 * i + r.val) : ℝ) : EReal)
  k : ∀ (h : Fin 4) (s : Fin 4096) (d : Fin 128), A.a3.view.read (Elt Ideal) A.X3 (ix2 s (col h d)) = (((R h).k s.val d : ℝ) : EReal)
  v : ∀ (h : Fin 4) (s : Fin 4096) (d : Fin 128), A.a4.view.read (Elt Ideal) A.X4 (ix2 s (col h d)) = (((R h).v s.val d : ℝ) : EReal)

/-- The carries of tile `i` of the queries after the first `n` tiles of keys. -/
structure Carried (R : Fin 4 → Rows) (i n : ℕ) (a : Carry Ideal) : Prop where
  dq : ∀ (h : Fin 4) (r : Fin 256) (d : Fin 128),
    a.dq h (ix2 r d) = ((∑ s ∈ Finset.range (256 * n), (R h).dz (256 * i + r.val) s * (R h).k s d : ℝ) : EReal)
  cl : ∀ (h : Fin 4) (r : Fin 256), a.cl h (ix2 r 0) = ((∑ s ∈ Finset.range (256 * n), (R h).logKeep (256 * i + r.val) s : ℝ) : EReal)
  cg : ∀ (h : Fin 4) (r : Fin 256), a.cg h (ix2 r 0) = ((∑ s ∈ Finset.range (256 * n), (R h).g (256 * i + r.val) s : ℝ) : EReal)

/-- A scratch buffer whose rows before key tile `m` hold the sums of `f h t s d` over the query tiles before `i + 1`, and
    whose other rows over the query tiles before `i`. -/
def SumAt (f : Fin 4 → ℕ → ℕ → Fin 128 → ℝ) (i m : ℕ) (X : S4096x512.Idx → EReal) : Prop :=
  ∀ (h : Fin 4) (s : Fin 4096) (d : Fin 128),
    X (ix2 s (col h d)) = ((∑ x ∈ Finset.range (256 * if s.val < 256 * m then i + 1 else i), f h x s.val d : ℝ) : EReal)

/-- What a query-key pair gives the key's gradient, and the value's. -/
def dkTerm (R : Fin 4 → Rows) (h : Fin 4) (t s : ℕ) (d : Fin 128) : ℝ := (R h).dz t s * (R h).q t d
def dvTerm (R : Fin 4 → Rows) (h : Fin 4) (t s : ℕ) (d : Fin 128) : ℝ := (R h).w t s * (R h).dy t d

/-- Storing tile `n`'s new sums in all four heads' columns. -/
theorem sumAt_stores {κ : Kind} {sp : Space} (v : View sig κ sp S4096x512 .f32) (G : v.ty.Contents (Elt Ideal))
    {f : Fin 4 → ℕ → ℕ → Fin 128 → ℝ} {i n : ℕ} (hn : n < 16) (L : List (View.Piece (Elt Ideal) S4096x512 .f32))
    {off : Fin 4 → Fin 2 → ℕ} (hoff : ∀ h, off h = ![256 * n, 128 * h.val])
    (inb : ∀ h a, off h a + S256x128.size a ≤ S4096x512.size a) (w : Fin 4 → FVec Ideal S256x128 .f32)
    (hw : ∀ (h : Fin 4) (r : Fin 256) (d : Fin 128), w h (ix2 r d)
      = (((∑ x ∈ Finset.range (256 * i), f h x (256 * n + r.val) d) + ∑ x : Fin 256, f h (256 * i + x.val) (256 * n + r.val) d : ℝ) : EReal))
    (hL : SumAt f i n (v.read (Elt Ideal) (v.writes (Elt Ideal) G L))) :
    SumAt f i (n + 1) (v.read (Elt Ideal) (v.writes (Elt Ideal) G (stores (N := 4096) off inb w L))) := by
  intro h s d
  by_cases hs : 256 * n ≤ s.val ∧ s.val < 256 * n + 256
  · have e : s.val = 256 * n + (s.val - 256 * n) := by omega
    rw [read_stores_of_mem (N := 4096) v G hoff inb w L s h d ⟨s.val - 256 * n, by omega⟩ e, hw, if_pos (by omega), sum_range_tile]
    simp only [← e]
  · rw [read_stores_of_not_mem (N := 4096) v G hoff inb w L s _ (by omega), hL]
    exact congrArg _ (by congr 3; exact if_congr (by omega) rfl rfl)

variable {A : Args Ideal} {R : Fin 4 → Rows} {i : ℕ}

/-- A head's operands in trip `k`. -/
theorem head_real (H : Holds A R i) (k : Fin (k0_t1_loop A.i).trips) {a : Carry Ideal} (ha : Carried R i k.val a) (h : Fin 4) :
    Real (A.head k a h) ((R h).tile i k.val) := by
  have hk : k.val < i := lt_of_lt_of_eq k.isLt H.trips
  have hk' : k.val < 16 := hk.trans H.lt
  refine ⟨fun x y hx r s => ?_, H.upto, H.before, H.q h, fun s d => ?_, fun s d => ?_, H.dy h, H.tot h, ha.cl h, ha.cg h⟩
  · rw [Rows.tile_mask_lt _ _ _ _ _ hk]; exact hx r s
  · unfold Args.head
    pointwise []
    rw [A.ofRect_at k _ hk', H.k]
    rfl
  · unfold Args.head
    pointwise []
    rw [A.ofRect_at k _ hk', H.v]
    rfl

/-- What the loop has carried and stored after `n` trips. -/
theorem loop_real (H : Holds A R i) (G10 : BufTy.Contents (Elt Ideal) A.a10.view.ty) (G11 : BufTy.Contents (Elt Ideal) A.a11.view.ty)
    (init : Carry Ideal) (hi : Carried R i 0 init)
    (h10 : SumAt (dkTerm R) i 0 (A.a10.view.read (Elt Ideal) G10)) (h11 : SumAt (dvTerm R) i 0 (A.a11.view.read (Elt Ideal) G11)) (n : ℕ) (hn : n ≤ i) :
    Carried R i n (A.st G10 G11 init n).1
      ∧ SumAt (dkTerm R) i n (A.a10.view.read (Elt Ideal) (A.a10.view.writes (Elt Ideal) G10 (A.st G10 G11 init n).2.1))
      ∧ SumAt (dvTerm R) i n (A.a11.view.read (Elt Ideal) (A.a11.view.writes (Elt Ideal) G11 (A.st G10 G11 init n).2.2)) := by
  induction n with
  | zero =>
    exact ⟨hi, h10, h11⟩
  | succ n ih =>
    obtain ⟨hc, hk, hv⟩ := ih (by omega)
    have hn16 : n < 16 := by have := H.lt; omega
    have hlt : n < (k0_t1_loop A.i).trips := by rw [H.trips]; omega
    have hst : A.st G10 G11 init (n + 1)
        = ((A.trip ⟨n, hlt⟩).1 (A.st G10 G11 init n).1 (A.a10.view.writes (Elt Ideal) G10 (A.st G10 G11 init n).2.1)
              (A.a11.view.writes (Elt Ideal) G11 (A.st G10 G11 init n).2.2),
            (A.trip ⟨n, hlt⟩).2.1 (A.st G10 G11 init n).1 (A.a10.view.writes (Elt Ideal) G10 (A.st G10 G11 init n).2.1)
              (A.a11.view.writes (Elt Ideal) G11 (A.st G10 G11 init n).2.2) ++ (A.st G10 G11 init n).2.1,
            (A.trip ⟨n, hlt⟩).2.2.1 (A.st G10 G11 init n).1 (A.a10.view.writes (Elt Ideal) G10 (A.st G10 G11 init n).2.1)
              (A.a11.view.writes (Elt Ideal) G11 (A.st G10 G11 init n).2.2) ++ (A.st G10 G11 init n).2.2) :=
      st_k0_t1_succ (F := Ideal) _ _ _ _ _ _ _ _ _ _ _ _ _ _ _ _ _ _ _ _ _ _ _ _ _ _ _ _ _ _ _ _ _ _ _ _ _ _ _ _ _ _ _ _ ⟨n, hlt⟩
    rw [hst]
    generalize A.st G10 G11 init n = S at hc hk hv ⊢
    have hr := head_real H ⟨n, hlt⟩ hc
    refine ⟨⟨fun h r d => ?_, fun h r => ?_, fun h r => ?_⟩, ?_, ?_⟩
    · dsimp only
      rw [A.trip_dq, dq_real (hr h) _ _ _ _ (hc.dq h r d), sum_range_tile]
      simp only [Rows.tile_dz]
      rfl
    · dsimp only
      rw [A.trip_cl, clNext_real (hr h), sum_range_tile]
      simp only [Rows.tile_logKeep]
      rfl
    · dsimp only
      rw [A.trip_cg, cgNext_real (hr h), sum_range_tile]
      simp only [Rows.tile_g]
      rfl
    · dsimp only
      rw [A.trip_dk, A.pieces_eq]
      refine sumAt_stores _ _ hn16 _ (A.off_eq _ hn16) _ _ (fun h r d => ?_) hk
      refine (dk_real (hr h) _ r d _ ((A.ofRect_at _ _ hn16 h r d).trans (hk h _ d))).trans ?_
      rw [if_neg (by simp)]
      simp only [Rows.tile_dz]
      rfl
    · dsimp only
      rw [A.trip_dv, A.pieces_eq]
      refine sumAt_stores _ _ hn16 _ (A.off_eq _ hn16) _ _ (fun h r d => ?_) hv
      refine (dv_real (hr h) _ r d _ ((A.ofRect_at _ _ hn16 h r d).trans (hv h _ d))).trans ?_
      rw [if_neg (by simp)]
      simp only [Rows.tile_w]
      rfl

end Cert.AttnIdeal.Eqn

end
-- ==== Proof.AttnDiag.lean ====
/- The attention's backward kernel, one grid point: the loop over the key tiles before the diagonal, then the diagonal
   tile, as one term for the three kinds of point. -/
module

public import proofs.«01_k».proof.Proof.AttnLoop
public import proofs.«01_k».proof.Proof.Gen.AttnIdeal.Frame

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

section

variable {κ : Kind} {sp : Space} {Val : EltTy → Type} {e : EltTy} {N : ℕ}
  (v : View sig κ sp (⟨2, ![N, 512]⟩ : Shape) e) (f : v.ty.Contents Val)

/-- A piece of 256 rows and 128 columns. -/
def piece (off : Fin 2 → ℕ) (inb : ∀ a, off a + S256x128.size a ≤ (⟨2, ![N, 512]⟩ : Shape).size a) (w : S256x128.Idx → Val e) :
    View.Piece Val (⟨2, ![N, 512]⟩ : Shape) e :=
  ⟨Rect.unit (s := ⟨2, ![N, 512]⟩) off S256x128.size inb, w⟩

/-- What such a piece's load reads. -/
def held (off : Fin 2 → ℕ) (inb : ∀ a, off a + S256x128.size a ≤ (⟨2, ![N, 512]⟩ : Shape).size a)
    (L : List (View.Piece Val (⟨2, ![N, 512]⟩ : Shape) e)) : S256x128.Idx → Val e :=
  v.readAt Val (Rect.unit (s := ⟨2, ![N, 512]⟩) off S256x128.size inb).toLoadRect (v.writes Val f L)

variable (off : Fin 4 → Fin 2 → ℕ) (inb : ∀ h a, off h a + S256x128.size a ≤ (⟨2, ![N, 512]⟩ : Shape).size a)
  (p : Fin 4 → (S256x128.Idx → Val e) → S256x128.Idx → Val e) (L : List (View.Piece Val (⟨2, ![N, 512]⟩ : Shape) e))

/-- What each head finds in its columns, after the stores of the heads before it. -/
def found : Fin 4 → S256x128.Idx → Val e :=
  let w0 := held v f (off 0) (inb 0) L
  let L0 := piece (off 0) (inb 0) (p 0 w0) :: L
  let w1 := held v f (off 1) (inb 1) L0
  let L1 := piece (off 1) (inb 1) (p 1 w1) :: L0
  let w2 := held v f (off 2) (inb 2) L1
  let L2 := piece (off 2) (inb 2) (p 2 w2) :: L1
  ![w0, w1, w2, held v f (off 3) (inb 3) L2]

/-- The four heads' stores, each computed from what its columns hold. -/
def updates : List (View.Piece Val (⟨2, ![N, 512]⟩ : Shape) e) := stores off inb (fun h => p h (found v f off inb p L h)) L

/-- The other heads' stores change nothing in a head's columns. -/
theorem found_at {o : ℕ} (hoff : ∀ h, off h = ![o, 128 * h.val]) (h : Fin 4) (r : Fin 256) (d : Fin 128) (s : Fin N)
    (hs : s.val = o + r.val) : found v f off inb p L h (ix2 r d) = v.read Val (v.writes Val f L) (ix2 s (col h d)) := by
  have e : ∀ (h : Fin 4) (L' : List (View.Piece Val (⟨2, ![N, 512]⟩ : Shape) e)),
      held v f (off h) (inb h) L' (ix2 r d) = v.read Val (v.writes Val f L') (ix2 s (col h d)) :=
    fun h L' => readAt_head v _ o h (hoff h) _ r d s hs
  fin_cases h
  · exact e 0 L
  · exact (e 1 _).trans (read_cons_ne v f (by decide) (hoff 0) _ _ _ _ _)
  · exact ((e 2 _).trans (read_cons_ne v f (by decide) (hoff 1) _ _ _ _ _)).trans (read_cons_ne v f (by decide) (hoff 0) _ _ _ _ _)
  · exact (((e 3 _).trans (read_cons_ne v f (by decide) (hoff 2) _ _ _ _ _)).trans
      (read_cons_ne v f (by decide) (hoff 1) _ _ _ _ _)).trans (read_cons_ne v f (by decide) (hoff 0) _ _ _ _ _)

end

/-- What one grid point is run with: its buffers and the blocks it reads. -/
structure Bufs (F : FTy → Type) where
  c : Dev nD
  i : grid0.Coords
  a2 : Memref sig .tc .vmem S256x512 .bf16
  h2 : a2.IsWhole
  a3 : Memref sig .tc .vmem S4096x512 .bf16
  h3 : a3.IsWhole
  a4 : Memref sig .tc .vmem S4096x512 .bf16
  h4 : a4.IsWhole
  a5 : Memref sig .tc .vmem S256x512 .bf16
  h5 : a5.IsWhole
  a6 : Memref sig .tc .vmem S256x512 .f32
  h6 : a6.IsWhole
  a7 : Memref sig .tc .vmem S256x512 .bf16
  h7 : a7.IsWhole
  a8 : Memref sig .tc .vmem S4096x512 .bf16
  h8 : a8.IsWhole
  a9 : Memref sig .tc .vmem S4096x512 .bf16
  h9 : a9.IsWhole
  a10 : Memref sig .tc .vmem S4096x512 .f32
  h10 : a10.IsWhole
  a11 : Memref sig .tc .vmem S4096x512 .f32
  h11 : a11.IsWhole
  x0 : Vec F S256x512 .bf16
  x1 : Vec F S4096x512 .bf16
  x2 : Vec F S4096x512 .bf16
  x3 : Vec F S256x512 .bf16
  x4 : Vec F S256x512 .f32

/-- The carries at the loop's start. -/
def carry0 {F : FTy → Type} [FloatOps F] : Carry F :=
  (k0_pay137, k0_pay136, k0_pay136, k0_pay138, k0_pay136, k0_pay136, k0_pay139, k0_pay136, k0_pay136, k0_pay140, k0_pay136, k0_pay136)

namespace Bufs

variable {F : FTy → Type} [FloatOps F] (B : Bufs F)

/-- A tile of 256 rows, head by head. -/
def heads {e : EltTy} (a : Memref sig .tc .vmem S256x512 e) (f : BufTy.Contents (Elt F) a.view.ty) : Fin 4 → S256x128.Idx → Elt F e := ![
  a.view.readAt (Elt F) (Rect.unit (s := S256x512) ![0, 0] S256x128.size inb_S256x512_S256x128_0_0).toLoadRect f,
  a.view.readAt (Elt F) (Rect.unit (s := S256x512) ![0, 128] S256x128.size inb_S256x512_S256x128_0_128).toLoadRect f,
  a.view.readAt (Elt F) (Rect.unit (s := S256x512) ![0, 256] S256x128.size inb_S256x512_S256x128_0_256).toLoadRect f,
  a.view.readAt (Elt F) (Rect.unit (s := S256x512) ![0, 384] S256x128.size inb_S256x512_S256x128_0_384).toLoadRect f]

/-- The loop's operands. -/
def args : Args F where
  c := B.c
  i := B.i
  a2 := B.a2
  h2 := B.h2
  a3 := B.a3
  h3 := B.h3
  a4 := B.a4
  h4 := B.h4
  a5 := B.a5
  h5 := B.h5
  a6 := B.a6
  h6 := B.h6
  a7 := B.a7
  h7 := B.h7
  a8 := B.a8
  h8 := B.h8
  a9 := B.a9
  h9 := B.h9
  a10 := B.a10
  h10 := B.h10
  a11 := B.a11
  h11 := B.h11
  a1 := BitVec.ofNat 32 (B.i 1).val
  upto := k0_pay121
  before := k0_pay122
  q := fun h => shapeCast S256x128 (heads B.a2 (B.h2.unread B.x0) h) shapeCasts_S256x128_S256x128
  dy := fun h => shapeCast S256x128 (heads B.a5 (B.h5.unread B.x3) h) shapeCasts_S256x128_S256x128
  t0 := k0_pay132 (B.a6.view.readAt (Elt F) (Rect.unit (s := S256x512) ![0, 0] S256x1.size inb_S256x512_S256x1_0_0).toLoadRect (B.h6.unread B.x4))
  t1 := k0_pay133 (B.a6.view.readAt (Elt F) (Rect.unit (s := S256x512) ![0, 128] S256x1.size inb_S256x512_S256x1_0_128).toLoadRect (B.h6.unread B.x4))
  t2 := B.a6.view.readAt (Elt F) (Rect.unit (s := S256x512) ![0, 256] S256x1.size inb_S256x512_S256x1_0_256).toLoadRect (B.h6.unread B.x4)
  t3 := B.a6.view.readAt (Elt F) (Rect.unit (s := S256x512) ![0, 384] S256x1.size inb_S256x512_S256x1_0_384).toLoadRect (B.h6.unread B.x4)
  X3 := B.h3.unread B.x1
  X4 := B.h4.unread B.x2

/-- The loop over the key tiles before the diagonal. -/
def loop (G10 : BufTy.Contents (Elt F) B.a10.view.ty) (G11 : BufTy.Contents (Elt F) B.a11.view.ty) :=
  B.args.st G10 G11 carry0 (k0_t1_loop B.i).trips

/-- The loop's remainder, which the printed program runs no times. -/
def rest (G10 : BufTy.Contents (Elt F) B.a10.view.ty) (G11 : BufTy.Contents (Elt F) B.a11.view.ty) (acc : Carry F) :=
  st_k0_t2 (F := F) Variants.none B.c none B.i B.a2 B.h2 B.a3 B.h3 B.a4 B.h4 B.a5 B.h5 B.a6 B.h6 B.a7 B.h7 B.a8 B.h8 B.a9 B.h9
    B.a10 B.h10 B.a11 B.h11 B.args.a1 k0_pay121 k0_pay122 (B.args.q 0) (B.args.q 1) (B.args.q 2) (B.args.q 3)
    (B.args.dy 0) (B.args.dy 1) (B.args.dy 2) (B.args.dy 3) B.args.t0 B.args.t1 B.args.t2 B.args.t3 (kernelRun0_B.sl.v47 B.i)
    B.args.X3 B.args.X4 G10 G11 acc (k0_t2_loop B.i).trips

theorem rest_eq (h : (k0_t2_loop B.i).trips = 0) (G10 : BufTy.Contents (Elt F) B.a10.view.ty) (G11 : BufTy.Contents (Elt F) B.a11.view.ty)
    (acc : Carry F) : B.rest G10 G11 acc = (acc, [], []) := by
  unfold rest
  rw [h]
  rfl

/-- Where each head's columns of the diagonal's rows start. -/
def off : Fin 4 → Fin 2 → ℕ := ![k0_off9 B.i, k0_off10 B.i, k0_off11 B.i, k0_off12 B.i]

theorem off_inb : ∀ h a, B.off h a + S256x128.size a ≤ S4096x512.size a := by
  intro h
  fin_cases h
  exacts [k0_off9_inb B.i, k0_off10_inb B.i, k0_off11_inb B.i, k0_off12_inb B.i]

/-- What a buffer holds in the diagonal's rows, in each head's columns. -/
def ofRect {Val : EltTy → Type} {e : EltTy} (a : Memref sig .tc .vmem S4096x512 e) (f : BufTy.Contents Val a.view.ty) :
    Fin 4 → (S256x128.Idx → Val e) := ![
  a.view.readAt Val (Rect.unit (s := S4096x512) (k0_off9 B.i) S256x128.size (k0_off9_inb B.i)).toLoadRect f,
  a.view.readAt Val (Rect.unit (s := S4096x512) (k0_off10 B.i) S256x128.size (k0_off10_inb B.i)).toLoadRect f,
  a.view.readAt Val (Rect.unit (s := S4096x512) (k0_off11 B.i) S256x128.size (k0_off11_inb B.i)).toLoadRect f,
  a.view.readAt Val (Rect.unit (s := S4096x512) (k0_off12 B.i) S256x128.size (k0_off12_inb B.i)).toLoadRect f]

/-- A head's operands on the diagonal. -/
def diag (acc : Carry F) (h : Fin 4) : Head F where
  mask := fun x => select k0_pay123 x zeros
  upto := k0_pay121
  before := k0_pay122
  q := B.args.q h
  k := shapeCast S256x128 (B.ofRect B.a3 (B.h3.unread B.x1) h) shapeCasts_S256x128_S256x128
  v := shapeCast S256x128 (B.ofRect B.a4 (B.h4.unread B.x2) h) shapeCasts_S256x128_S256x128
  dy := B.args.dy h
  tot := B.args.tot h
  cl := acc.cl h
  cg := acc.cg h

def dkNew (acc : Carry F) (h : Fin 4) (w : FVec F S256x128 .f32) : FVec F S256x128 .f32 := (B.diag acc h).dk w
def dvNew (acc : Carry F) (h : Fin 4) (w : FVec F S256x128 .f32) : FVec F S256x128 .f32 := (B.diag acc h).dv w

/-- The query gradient's columns. -/
def colOff : Fin 4 → Fin 2 → ℕ := ![![0, 0], ![0, 128], ![0, 256], ![0, 384]]

theorem colOff_inb : ∀ h a, colOff h a + S256x128.size a ≤ S256x512.size a := by
  intro h
  fin_cases h
  exacts [inb_S256x512_S256x128_0_0, inb_S256x512_S256x128_0_128, inb_S256x512_S256x128_0_256, inb_S256x512_S256x128_0_384]

/-- The stores of the query gradient's tile. -/
def dqPieces (acc : Carry F) : List (View.Piece (Elt F) S256x512 .bf16) :=
  stores (N := 256) (Val := Elt F) (e := .bf16) colOff colOff_inb (fun h => truncf .bf16 ((B.diag acc h).dq (acc.dq h)) bitsLt_bf16_f32) []

def dkPieces (G : BufTy.Contents (Elt F) B.a10.view.ty) (acc : Carry F) (L : List (View.Piece (Elt F) S4096x512 .f32)) :
    List (View.Piece (Elt F) S4096x512 .f32) := updates (N := 4096) B.a10.view G B.off B.off_inb (B.dkNew acc) L

def dvPieces (G : BufTy.Contents (Elt F) B.a11.view.ty) (acc : Carry F) (L : List (View.Piece (Elt F) S4096x512 .f32)) :
    List (View.Piece (Elt F) S4096x512 .f32) := updates (N := 4096) B.a11.view G B.off B.off_inb (B.dvNew acc) L

set_option maxHeartbeats 2000000

section B

variable (xs0 xs1 : Vec F S4096x512 .f32)

def loopB := B.loop (B.h10.unread xs0) (B.h11.unread xs1)

def restB := B.rest (B.a10.view.writes (Elt F) (B.h10.unread xs0) (B.loopB xs0 xs1).2.1)
  (B.a11.view.writes (Elt F) (B.h11.unread xs1) (B.loopB xs0 xs1).2.2) (B.loopB xs0 xs1).1

/-- A point in the middle of a group of heads. -/
def runB (hc0 : ¬cond0_0 B.i) (hc1 : ¬cond0_1 B.i) :=
  kernelRun0_B (F := F) B.c B.i B.a2 B.h2 B.a3 B.h3 B.a4 B.h4 B.a5 B.h5 B.a6 B.h6 B.a7 B.h7 B.a8 B.h8 B.a9 B.h9 B.a10 B.h10 B.a11 B.h11
    hc0 hc1 B.x0 B.x1 B.x2 B.x3 B.x4 xs0 xs1

/-- The last point of a group of heads. -/
def runC (hc0 : ¬cond0_0 B.i) (hc1 : cond0_1 B.i) :=
  kernelRun0_C (F := F) B.c B.i B.a2 B.h2 B.a3 B.h3 B.a4 B.h4 B.a5 B.h5 B.a6 B.h6 B.a7 B.h7 B.a8 B.h8 B.a9 B.h9 B.a10 B.h10 B.a11 B.h11
    hc0 hc1 B.x0 B.x1 B.x2 B.x3 B.x4 xs0 xs1

/-- The three lists of stores of a point that finds the scratch buffers filled. -/
def piecesB : List (View.Piece (Elt F) S256x512 .bf16) × List (View.Piece (Elt F) S4096x512 .f32) × List (View.Piece (Elt F) S4096x512 .f32) :=
  (B.dqPieces (B.loopB xs0 xs1).1, B.dkPieces (B.h10.unread xs0) (B.loopB xs0 xs1).1 (B.loopB xs0 xs1).2.1,
    B.dvPieces (B.h11.unread xs1) (B.loopB xs0 xs1).1 (B.loopB xs0 xs1).2.2)

theorem piecesB_eq (h : (k0_t2_loop B.i).trips = 0) :
    (B.dqPieces (B.restB xs0 xs1).1, B.dkPieces (B.h10.unread xs0) (B.restB xs0 xs1).1 ((B.restB xs0 xs1).2.1 ++ (B.loopB xs0 xs1).2.1),
      B.dvPieces (B.h11.unread xs1) (B.restB xs0 xs1).1 ((B.restB xs0 xs1).2.2 ++ (B.loopB xs0 xs1).2.2)) = B.piecesB xs0 xs1 := by
  rw [restB, B.rest_eq h]
  rfl

theorem runB_eq (hc0 : ¬cond0_0 B.i) (hc1 : ¬cond0_1 B.i) (h : (k0_t2_loop B.i).trips = 0) :
    ((B.runB xs0 xs1 hc0 hc1).1, (B.runB xs0 xs1 hc0 hc1).2.2.2.1, (B.runB xs0 xs1 hc0 hc1).2.2.2.2.1) = B.piecesB xs0 xs1 := by
  rw [← B.piecesB_eq xs0 xs1 h]
  sl_kernel_rfl

theorem runC_eq (hc0 : ¬cond0_0 B.i) (hc1 : cond0_1 B.i) (h : (k0_t2_loop B.i).trips = 0) :
    ((B.runC xs0 xs1 hc0 hc1).1, (B.runC xs0 xs1 hc0 hc1).2.2.2.1, (B.runC xs0 xs1 hc0 hc1).2.2.2.2.1) = B.piecesB xs0 xs1 := by
  rw [← B.piecesB_eq xs0 xs1 h]
  sl_kernel_rfl

/-- The last point's copy of a scratch buffer into its output. -/
def copied (f : FVec F S4096x512 .f32) : List (View.Piece (Elt F) S4096x512 .bf16) :=
  [⟨Rect.unit (s := S4096x512) ![0, 0] S4096x512.size inb_S4096x512_S4096x512_0_0, truncf .bf16 f bitsLt_bf16_f32⟩]

def whole (a : Memref sig .tc .vmem S4096x512 .f32) (f : BufTy.Contents (Elt F) a.view.ty) : FVec F S4096x512 .f32 :=
  a.view.readAt (Elt F) (Rect.unit (s := S4096x512) ![0, 0] S4096x512.size inb_S4096x512_S4096x512_0_0).toLoadRect f

theorem runC_out (hc0 : ¬cond0_0 B.i) (hc1 : cond0_1 B.i) (h : (k0_t2_loop B.i).trips = 0) :
    (B.runC xs0 xs1 hc0 hc1).2.1 = copied (whole B.a10 (B.a10.view.writes (Elt F) (B.h10.unread xs0) (B.piecesB xs0 xs1).2.1))
      ∧ (B.runC xs0 xs1 hc0 hc1).2.2.1 = copied (whole B.a11 (B.a11.view.writes (Elt F) (B.h11.unread xs1) (B.piecesB xs0 xs1).2.2)) := by
  rw [← B.piecesB_eq xs0 xs1 h]
  exact ⟨by sl_kernel_rfl, by sl_kernel_rfl⟩

end B

section A

/-- The scratch buffers' clearing at a group's first point. -/
def cleared (Z : FVec F S4096x512 .f32) : List (View.Piece (Elt F) S4096x512 .f32) :=
  [⟨Rect.unit (s := S4096x512) ![0, 0] S4096x512.size inb_S4096x512_S4096x512_0_0, Z⟩]

def loopA := B.loop (B.a10.view.writes (Elt F) B.a10.view.junk (cleared k0_pay119)) (B.a11.view.writes (Elt F) B.a11.view.junk (cleared k0_pay120))

def restA := B.rest (B.a10.view.writes (Elt F) B.a10.view.junk (B.loopA.2.1 ++ cleared k0_pay119))
  (B.a11.view.writes (Elt F) B.a11.view.junk (B.loopA.2.2 ++ cleared k0_pay120)) B.loopA.1

/-- The first point of a group of heads. -/
def runA (hc0 : cond0_0 B.i) (hc1 : ¬cond0_1 B.i) :=
  kernelRun0_A (F := F) B.c B.i B.a2 B.h2 B.a3 B.h3 B.a4 B.h4 B.a5 B.h5 B.a6 B.h6 B.a7 B.h7 B.a8 B.h8 B.a9 B.h9 B.a10 B.h10 B.a11 B.h11
    hc0 hc1 B.x0 B.x1 B.x2 B.x3 B.x4

/-- Its three lists of stores. -/
def piecesA : List (View.Piece (Elt F) S256x512 .bf16) × List (View.Piece (Elt F) S4096x512 .f32) × List (View.Piece (Elt F) S4096x512 .f32) :=
  (B.dqPieces B.loopA.1, B.dkPieces B.a10.view.junk B.loopA.1 (B.loopA.2.1 ++ cleared k0_pay119),
    B.dvPieces B.a11.view.junk B.loopA.1 (B.loopA.2.2 ++ cleared k0_pay120))

theorem piecesA_eq (h : (k0_t2_loop B.i).trips = 0) :
    (B.dqPieces B.restA.1, B.dkPieces B.a10.view.junk B.restA.1 (B.restA.2.1 ++ (B.loopA.2.1 ++ cleared k0_pay119)),
      B.dvPieces B.a11.view.junk B.restA.1 (B.restA.2.2 ++ (B.loopA.2.2 ++ cleared k0_pay120))) = B.piecesA := by
  rw [restA, B.rest_eq h]
  rfl

theorem runA_eq (hc0 : cond0_0 B.i) (hc1 : ¬cond0_1 B.i) (h : (k0_t2_loop B.i).trips = 0) :
    ((B.runA hc0 hc1).1, (B.runA hc0 hc1).2.2.2.1, (B.runA hc0 hc1).2.2.2.2.1) = B.piecesA := by
  rw [← B.piecesA_eq h]
  sl_kernel_rfl

end A

end Bufs

end Cert.AttnIdeal.Eqn

end
-- ==== Proof.AttnPoint.lean ====
/- The attention's backward kernel, one grid point on real arguments: the query gradient's tile and the two scratch
   buffers' sums. -/
module

public import proofs.«01_k».proof.Proof.AttnDiag

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

/-- Comparing two positions below 256 as 32-bit numbers. -/
theorem toInt_small (n : Fin 256) : (BitVec.ofNat 32 n.val).toInt = n.val := by
  have := n.isLt
  rw [BitVec.toInt_eq_toNat_of_lt] <;> simp <;> omega

/-- The signed comparisons as bits. -/
theorem slt_small (r s : Fin 256) : IntOp.cmpi .slt (BitVec.ofNat 32 r.val) (BitVec.ofNat 32 s.val) = if r < s then 1#1 else 0#1 := by
  by_cases h : r < s <;> simp [IntOp.cmpi, BitVec.slt_eq_decide, toInt_small, h, Fin.lt_def.symm]

theorem sle_small (r s : Fin 256) : IntOp.cmpi .sle (BitVec.ofNat 32 r.val) (BitVec.ofNat 32 s.val) = if r ≤ s then 1#1 else 0#1 := by
  by_cases h : r ≤ s <;> simp [IntOp.cmpi, BitVec.sle_eq_decide, toInt_small, h, Fin.le_def.symm]

/-- A bit as a real. -/
theorem bit_real (p : Prop) [Decidable p] :
    (FloatOps.sitofp (F := Ideal) FTy.f32 (BitVec.setWidth 32 (if p then 1#1 else 0#1)) : EReal) = (((if p then 1 else 0 : ℝ)) : EReal) := by
  by_cases h : p <;> simp [h, FloatOps.sitofp]

theorem upto_real (r s : Fin 256) : (k0_pay121 (F := Ideal)) (ix2 r s) = (((if r ≤ s then 1 else 0 : ℝ)) : EReal) := by
  pointwise [k0_pay121]
  rw [sle_small]
  exact bit_real _

theorem before_real (r s : Fin 256) : (k0_pay122 (F := Ideal)) (ix2 r s) = (((if r < s then 1 else 0 : ℝ)) : EReal) := by
  pointwise [k0_pay122]
  rw [slt_small]
  exact bit_real _

theorem causal_at (r s : Fin 256) : k0_pay123 (ix2 r s) = if s < r then 1#1 else 0#1 := by
  pointwise [k0_pay123]
  exact slt_small s r

variable {B : Bufs Ideal} {R : Fin 4 → Rows} {i : ℕ}

/-- A grid point's blocks hold the named reals, for tile `i` of the queries. -/
structure Held (B : Bufs Ideal) (R : Fin 4 → Rows) (i : ℕ) : Prop where
  lt : i < 16
  trips : (k0_t1_loop B.i).trips = i
  none : (k0_t2_loop B.i).trips = 0
  off : ∀ h, B.off h = ![256 * i, 128 * h.val]
  q : ∀ (h : Fin 4) (r : Fin 256) (d : Fin 128), B.x0 (ix2 r (col h d)) = (((R h).q (256 * i + r.val) d : ℝ) : EReal)
  k : ∀ (h : Fin 4) (s : Fin 4096) (d : Fin 128), B.x1 (ix2 s (col h d)) = (((R h).k s.val d : ℝ) : EReal)
  v : ∀ (h : Fin 4) (s : Fin 4096) (d : Fin 128), B.x2 (ix2 s (col h d)) = (((R h).v s.val d : ℝ) : EReal)
  dy : ∀ (h : Fin 4) (r : Fin 256) (d : Fin 128), B.x3 (ix2 r (col h d)) = (((R h).dy (256 * i + r.val) d : ℝ) : EReal)
  tot : ∀ (h : Fin 4) (r : Fin 256), B.x4 (ix2 r (col h 0)) = (((R h).tot (256 * i + r.val) : ℝ) : EReal)

theorem colOff_eq (h : Fin 4) : Bufs.colOff h = ![0, 128 * h.val] := by fin_cases h <;> rfl

theorem heads_at {e : EltTy} (a : Memref sig .tc .vmem S256x512 e) (f : BufTy.Contents (Elt Ideal) a.view.ty) (h : Fin 4) (r : Fin 256)
    (d : Fin 128) : Bufs.heads a f h (ix2 r d) = a.view.read (Elt Ideal) f (ix2 r (col h d)) := by
  have e : r.val = 0 + r.val := by omega
  fin_cases h
  · exact readAt_head (N := 256) a.view f 0 0 (colOff_eq 0) _ r d r e
  · exact readAt_head (N := 256) a.view f 0 1 (colOff_eq 1) _ r d r e
  · exact readAt_head (N := 256) a.view f 0 2 (colOff_eq 2) _ r d r e
  · exact readAt_head (N := 256) a.view f 0 3 (colOff_eq 3) _ r d r e

/-- A load of one column. -/
theorem column_at {e : EltTy} (v : View sig .tc .vmem S256x512 e) (f : v.ty.Contents (Elt Ideal)) (o : ℕ) (x : Fin 512) (hx : x.val = o)
    (inb : ∀ a, (![0, o] : Fin 2 → ℕ) a + S256x1.size a ≤ S256x512.size a) (r : Fin 256) (y : Fin 1) :
    v.readAt (Elt Ideal) (Rect.unit (s := S256x512) ![0, o] S256x1.size inb).toLoadRect f (ix2 r y) = v.read (Elt Ideal) f (ix2 r x) := by
  refine congrArg (v.read (Elt Ideal) f) (funext fun a => Fin.ext ?_)
  fin_cases a
  · show 0 + 1 * r.val = r.val; omega
  · show o + 1 * y.val = x.val; omega

theorem Held.heads_q (H : Held B R i) (h : Fin 4) (r : Fin 256) (d : Fin 128) :
    B.args.q h (ix2 r d) = (((R h).q (256 * i + r.val) d : ℝ) : EReal) := by
  refine Eq.trans ?_ (H.q h r d)
  unfold Bufs.args
  pointwise []
  rw [heads_at, Memref.IsWhole.read_unread]

theorem Held.heads_dy (H : Held B R i) (h : Fin 4) (r : Fin 256) (d : Fin 128) :
    B.args.dy h (ix2 r d) = (((R h).dy (256 * i + r.val) d : ℝ) : EReal) := by
  refine Eq.trans ?_ (H.dy h r d)
  unfold Bufs.args
  pointwise []
  rw [heads_at, Memref.IsWhole.read_unread]

theorem Held.column (H : Held B R i) (o : ℕ) (x : Fin 512) (hx : x.val = o)
    (inb : ∀ a, (![0, o] : Fin 2 → ℕ) a + S256x1.size a ≤ S256x512.size a) (r : Fin 256) :
    shapeCast S256x1 (B.a6.view.readAt (Elt Ideal) (Rect.unit (s := S256x512) ![0, o] S256x1.size inb).toLoadRect (B.h6.unread B.x4))
      shapeCasts_S256x1_S256x1 (ix2 r 0) = B.x4 (ix2 r x) := by
  pointwise []
  rw [column_at _ _ o x hx, Memref.IsWhole.read_unread]

theorem Held.heads_tot (H : Held B R i) (h : Fin 4) (r : Fin 256) :
    B.args.tot h (ix2 r 0) = (((R h).tot (256 * i + r.val) : ℝ) : EReal) := by
  refine Eq.trans ?_ (H.tot h r)
  fin_cases h
  · exact H.column 0 (col 0 0) rfl _ r
  · exact H.column 128 (col 1 0) rfl _ r
  · exact H.column 256 (col 2 0) rfl _ r
  · exact H.column 384 (col 3 0) rfl _ r

theorem Held.holds (H : Held B R i) : Holds B.args R i :=
  ⟨H.lt, H.trips, upto_real, before_real, H.heads_q, H.heads_dy, H.heads_tot,
    fun h s d => (congrFun (B.h3.read_unread B.x1) _).trans (H.k h s d),
    fun h s d => (congrFun (B.h4.read_unread B.x2) _).trans (H.v h s d)⟩

theorem Held.ofRect_at (H : Held B R i) {e : EltTy} (a : Memref sig .tc .vmem S4096x512 e) (f : BufTy.Contents (Elt Ideal) a.view.ty)
    (h : Fin 4) (r : Fin 256) (d : Fin 128) :
    B.ofRect a f h (ix2 r d) = a.view.read (Elt Ideal) f (ix2 ⟨256 * i + r.val, by have := H.lt; omega⟩ (col h d)) := by
  fin_cases h
  · exact readAt_head (N := 4096) a.view f (256 * i) 0 (H.off 0) _ r d _ rfl
  · exact readAt_head (N := 4096) a.view f (256 * i) 1 (H.off 1) _ r d _ rfl
  · exact readAt_head (N := 4096) a.view f (256 * i) 2 (H.off 2) _ r d _ rfl
  · exact readAt_head (N := 4096) a.view f (256 * i) 3 (H.off 3) _ r d _ rfl

/-- A head's operands on the diagonal. -/
theorem diag_real (H : Held B R i) {a : Carry Ideal} (ha : Carried R i i a) (h : Fin 4) :
    Real (B.diag a h) ((R h).tile i i) := by
  have K := H.holds
  refine ⟨fun x y hx r s => ?_, K.upto, K.before, K.q h, fun s d => ?_, fun s d => ?_, K.dy h, K.tot h, ha.cl h, ha.cg h⟩
  · rw [Rows.tile_mask_diag]
    unfold Bufs.diag
    pointwise [zeros]
    rw [causal_at, hx]
    by_cases hsr : s < r
    · rw [if_pos hsr, if_pos hsr]; rfl
    · rw [if_neg hsr, if_neg hsr]; rfl
  · unfold Bufs.diag
    pointwise []
    rw [H.ofRect_at, Memref.IsWhole.read_unread, H.k]
    rfl
  · unfold Bufs.diag
    pointwise []
    rw [H.ofRect_at, Memref.IsWhole.read_unread, H.v]
    rfl

/-- The carries at the loop's start. -/
theorem carried0 (R : Fin 4 → Rows) (i : ℕ) : Carried R i 0 (carry0 (F := Ideal)) := by
  refine ⟨fun h r d => ?_, fun h r => ?_, fun h r => ?_⟩ <;> fin_cases h <;>
    (simp only [Nat.mul_zero, Finset.range_zero, Finset.sum_empty, EReal.coe_zero]; exact Ideal.ofBits_zero_f32)

/-- A tile's rows from `256 (i + 1)` on get nothing from the first `i + 1` tiles of queries. -/
theorem sumAt_next {f : Fin 4 → ℕ → ℕ → Fin 128 → ℝ} (hf : ∀ h t s d, t ≤ s → f h t s d = 0) {i : ℕ} {X : S4096x512.Idx → EReal}
    (h : SumAt f i (i + 1) X) : SumAt f (i + 1) 0 X := by
  intro h' s d
  rw [h h' s d, if_neg (show ¬ s.val < 256 * 0 by omega)]
  by_cases hs : s.val < 256 * (i + 1)
  · rw [if_pos hs]
  · rw [if_neg hs]
    refine congrArg _ ?_
    rw [Finset.sum_eq_zero fun x hx => hf _ _ _ _ (by have := Finset.mem_range.1 hx; omega),
      Finset.sum_eq_zero fun x hx => hf _ _ _ _ (by have := Finset.mem_range.1 hx; omega)]

theorem dkTerm_of_le (R : Fin 4 → Rows) (h : Fin 4) (t s : ℕ) (d : Fin 128) (hts : t ≤ s) : dkTerm R h t s d = 0 := by
  rw [dkTerm, Rows.dz_of_le _ hts, zero_mul]

theorem dvTerm_of_le (R : Fin 4 → Rows) (h : Fin 4) (t s : ℕ) (d : Fin 128) (hts : t ≤ s) : dvTerm R h t s d = 0 := by
  rw [dvTerm, Rows.w_of_le _ hts, zero_mul]

/-- The query gradient's tile after the diagonal. -/
theorem dq_point (H : Held B R i) {a : Carry Ideal} (ha : Carried R i i a) {κ : Kind} {sp : Space} (v : View sig κ sp S256x512 .bf16)
    (G : v.ty.Contents (Elt Ideal)) (h : Fin 4) (r : Fin 256) (d : Fin 128) :
    v.read (Elt Ideal) (v.writes (Elt Ideal) G (B.dqPieces a)) (ix2 r (col h d))
      = ((∑ s ∈ Finset.range (256 * (i + 1)), (R h).dz (256 * i + r.val) s * (R h).k s d : ℝ) : EReal) := by
  unfold Bufs.dqPieces
  rw [read_stores_of_mem (N := 256) v G colOff_eq _ _ _ r h d r (by simp)]
  pointwise []
  rw [dq_real (diag_real H ha h) _ _ _ _ (ha.dq h r d), sum_range_tile]
  simp only [Rows.tile_dz]
  rfl

/-- The scratch buffers after the diagonal. -/
theorem dk_point (H : Held B R i) {a : Carry Ideal} (ha : Carried R i i a) (G : BufTy.Contents (Elt Ideal) B.a10.view.ty)
    (L : List (View.Piece (Elt Ideal) S4096x512 .f32)) (hL : SumAt (dkTerm R) i i (B.a10.view.read (Elt Ideal) (B.a10.view.writes (Elt Ideal) G L))) :
    SumAt (dkTerm R) (i + 1) 0 (B.a10.view.read (Elt Ideal) (B.a10.view.writes (Elt Ideal) G (B.dkPieces G a L))) := by
  unfold Bufs.dkPieces updates
  refine sumAt_next (dkTerm_of_le R) (sumAt_stores _ _ H.lt _ H.off _ _ (fun h r d => ?_) hL)
  have hi : 256 * i + r.val < 4096 := by have := H.lt; omega
  have hf := (found_at (N := 4096) _ G B.off B.off_inb (B.dkNew a) L H.off h r d ⟨256 * i + r.val, hi⟩ rfl).trans (hL h _ d)
  refine (dk_real (diag_real H ha h) _ r d _ hf).trans ?_
  rw [if_neg (by simp)]
  simp only [Rows.tile_dz]
  rfl

theorem dv_point (H : Held B R i) {a : Carry Ideal} (ha : Carried R i i a) (G : BufTy.Contents (Elt Ideal) B.a11.view.ty)
    (L : List (View.Piece (Elt Ideal) S4096x512 .f32)) (hL : SumAt (dvTerm R) i i (B.a11.view.read (Elt Ideal) (B.a11.view.writes (Elt Ideal) G L))) :
    SumAt (dvTerm R) (i + 1) 0 (B.a11.view.read (Elt Ideal) (B.a11.view.writes (Elt Ideal) G (B.dvPieces G a L))) := by
  unfold Bufs.dvPieces updates
  refine sumAt_next (dvTerm_of_le R) (sumAt_stores _ _ H.lt _ H.off _ _ (fun h r d => ?_) hL)
  have hi : 256 * i + r.val < 4096 := by have := H.lt; omega
  have hf := (found_at (N := 4096) _ G B.off B.off_inb (B.dvNew a) L H.off h r d ⟨256 * i + r.val, hi⟩ rfl).trans (hL h _ d)
  refine (dv_real (diag_real H ha h) _ r d _ hf).trans ?_
  rw [if_neg (by simp)]
  simp only [Rows.tile_w]
  rfl

/-- What a point leaves: the query gradient's tile, and both scratch buffers one tile of queries further. -/
structure Left (B : Bufs Ideal) (R : Fin 4 → Rows) (i : ℕ) (G10 : BufTy.Contents (Elt Ideal) B.a10.view.ty)
    (G11 : BufTy.Contents (Elt Ideal) B.a11.view.ty)
    (P : List (View.Piece (Elt Ideal) S256x512 .bf16) × List (View.Piece (Elt Ideal) S4096x512 .f32) × List (View.Piece (Elt Ideal) S4096x512 .f32)) : Prop where
  dq : ∀ {κ : Kind} {sp : Space} (v : View sig κ sp S256x512 .bf16) (G : v.ty.Contents (Elt Ideal)) (h : Fin 4) (r : Fin 256) (d : Fin 128),
    v.read (Elt Ideal) (v.writes (Elt Ideal) G P.1) (ix2 r (col h d))
      = ((∑ s ∈ Finset.range (256 * (i + 1)), (R h).dz (256 * i + r.val) s * (R h).k s d : ℝ) : EReal)
  dk : SumAt (dkTerm R) (i + 1) 0 (B.a10.view.read (Elt Ideal) (B.a10.view.writes (Elt Ideal) G10 P.2.1))
  dv : SumAt (dvTerm R) (i + 1) 0 (B.a11.view.read (Elt Ideal) (B.a11.view.writes (Elt Ideal) G11 P.2.2))

theorem piecesB_left (H : Held B R i) (xs0 xs1 : Vec Ideal S4096x512 .f32) (h0 : SumAt (dkTerm R) i 0 xs0) (h1 : SumAt (dvTerm R) i 0 xs1) :
    Left B R i (B.h10.unread xs0) (B.h11.unread xs1) (B.piecesB xs0 xs1) := by
  obtain ⟨hc, hk, hv⟩ := loop_real H.holds (B.h10.unread xs0) (B.h11.unread xs1) carry0 (carried0 R i)
    (by rw [show B.args.a10.view.read _ _ = xs0 from B.h10.read_unread xs0]; exact h0)
    (by rw [show B.args.a11.view.read _ _ = xs1 from B.h11.read_unread xs1]; exact h1) i le_rfl
  have e : B.loopB xs0 xs1 = B.args.st (B.h10.unread xs0) (B.h11.unread xs1) carry0 i := by rw [Bufs.loopB, Bufs.loop, H.trips]
  rw [← e] at hc hk hv
  exact ⟨fun v G h r d => dq_point H hc v G h r d, dk_point H hc _ _ hk, dv_point H hc _ _ hv⟩

/-- A cleared scratch buffer holds zeros. -/
theorem cleared_at {κ : Kind} {sp : Space} (v : View sig κ sp S4096x512 .f32) (G : v.ty.Contents (Elt Ideal)) (Z : FVec Ideal S4096x512 .f32)
    (hZ : ∀ x, Z x = 0) (f : Fin 4 → ℕ → ℕ → Fin 128 → ℝ) {i : ℕ} (hi : i = 0) :
    SumAt f i 0 (v.read (Elt Ideal) (v.writes (Elt Ideal) G (Bufs.cleared Z))) := by
  subst hi
  intro h s d
  rw [if_neg (by omega)]
  simp only [Nat.mul_zero, Finset.range_zero, Finset.sum_empty, EReal.coe_zero]
  refine (View.read_writes_cons_unit_of_mem v G _ Z [] _ (ix2 s (col h d)) rfl fun a => ?_).trans (hZ _)
  fin_cases a <;> exact (Nat.zero_add _).symm

theorem pay119_zero (x : S4096x512.Idx) : (k0_pay119 (F := Ideal)) x = 0 := by
  idx_vars x
  pointwise [k0_pay119]

theorem pay120_zero (x : S4096x512.Idx) : (k0_pay120 (F := Ideal)) x = 0 := by
  idx_vars x
  pointwise [k0_pay120]

theorem loopA_eq (H : Held B R i) : B.loopA = B.args.st (B.a10.view.writes (Elt Ideal) B.a10.view.junk (Bufs.cleared k0_pay119))
    (B.a11.view.writes (Elt Ideal) B.a11.view.junk (Bufs.cleared k0_pay120)) carry0 i := by
  rw [Bufs.loopA, Bufs.loop, H.trips]

theorem loopA_real (H : Held B R i) (hi : i = 0) :
    Carried R i i B.loopA.1
      ∧ SumAt (dkTerm R) i i (B.a10.view.read (Elt Ideal) (B.a10.view.writes (Elt Ideal) B.a10.view.junk (B.loopA.2.1 ++ Bufs.cleared k0_pay119)))
      ∧ SumAt (dvTerm R) i i (B.a11.view.read (Elt Ideal) (B.a11.view.writes (Elt Ideal) B.a11.view.junk (B.loopA.2.2 ++ Bufs.cleared k0_pay120))) := by
  have h10 := cleared_at B.a10.view B.a10.view.junk k0_pay119 pay119_zero (dkTerm R) hi
  have h11 := cleared_at B.a11.view B.a11.view.junk k0_pay120 pay120_zero (dvTerm R) hi
  rw [View.writes_append, View.writes_append, loopA_eq H]
  exact loop_real H.holds _ _ carry0 (carried0 R i) h10 h11 i le_rfl

theorem piecesA_left (H : Held B R i) (hi : i = 0) : Left B R i B.a10.view.junk B.a11.view.junk B.piecesA :=
  ⟨fun v G h r d => dq_point H (loopA_real H hi).1 v G h r d, dk_point H (loopA_real H hi).1 _ _ (loopA_real H hi).2.1,
    dv_point H (loopA_real H hi).1 _ _ (loopA_real H hi).2.2⟩

end Cert.AttnIdeal.Eqn

end
-- ==== Proof.AttnEntry.lean ====
/- The attention's backward kernel, the arrays its call reads: the packed queries, keys and values, and every row's log-keep
   total. -/
module

public import proofs.«01_k».proof.Proof.AttnPoint
public import proofs.«01_k».proof.Proof.Gen.AttnIdeal.Value

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

section

variable {F : FTy → Type} [FloatOps F] (a b v : FVec F S4096x1024 .f32)

/-- Queries, keys and values side by side. -/
def packed : FVec F S4096x3072 .bf16 :=
  truncf .bf16 (concatenate S4096x3072 1 [⟨S4096x1024, a⟩, ⟨S4096x1024, b⟩, ⟨S4096x1024, v⟩]
    concatenates_S4096x1024_S4096x1024_S4096x1024_S4096x3072_d1) bitsLt_bf16_f32

variable (x : FVec F S4096x3072 .bf16)

/-- The queries, a head at a time. -/
def headsQ : FVec F S8x4096x128 .bf16 :=
  transpose S8x4096x128 [1, 0, 2] (shapeCast S4096x8x128 (extractStridedSlice S4096x1024 ![0, 0] x slices_S4096x3072_S4096x1024_0_0)
    shapeCasts_S4096x1024_S4096x8x128) transposes_S4096x8x128_S8x4096x128_1_0_2

/-- The keys, a head at a time. -/
def headsK : FVec F S8x4096x128 .bf16 :=
  transpose S8x4096x128 [1, 0, 2] (shapeCast S4096x8x128 (extractStridedSlice S4096x1024 ![0, 1024] x slices_S4096x3072_S4096x1024_0_1024)
    shapeCasts_S4096x1024_S4096x8x128) transposes_S4096x8x128_S8x4096x128_1_0_2

/-- The scores. -/
def scores : FVec F S8x4096x4096 .f32 :=
  mulf (Host.dotGeneral dot_S8x4096x128_S8x4096x128_S8x4096x4096_2_2_1_1_0_0 none (headsQ x) (headsK x))
    (broadcastInDim S8x4096x4096 ![] bcast_S_S8x4096x4096 (constant S_ .f32 0x3DB504F3#32))

/-- Whether a key comes before a query. -/
def earlier : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- `log (1 + exp z)` of every score, spelt so that it does not overflow. -/
def plus (z : FVec F S8x4096x4096 .f32) : FVec F S8x4096x4096 .f32 :=
  addf (maximumf z (broadcastInDim S8x4096x4096 ![] bcast_S_S8x4096x4096 (constant S_ .f32 0x00000000#32)))
    (Host.log (addf (broadcastInDim S8x4096x4096 ![] bcast_S_S8x4096x4096 (constant S_ .f32 0x3F800000#32))
      (Host.exp (Host.negf (Host.absf z)))))

/-- What each query leaves after each key, as a logarithm. -/
def left : FVec F S8x4096x4096 .f32 :=
  select (broadcastInDim S8x4096x4096 ![1, 2] bcast_S4096x4096_S8x4096x4096_1_2 earlier) (Host.negf (plus (scores x)))
    (broadcastInDim S8x4096x4096 ![] bcast_S_S8x4096x4096 (constant S_ .f32 0x00000000#32))

/-- Every row's total, a head's repeated over its columns. -/
def totals : FVec F S4096x1024 .f32 :=
  shapeCast S4096x1024 (broadcastInDim S4096x8x128 ![0, 1] bcast_S4096x8_S4096x8x128_0_1
    (transpose S4096x8 [1, 0] (Host.reduceAdd (left x) (constant S_ .f32 0x00000000#32) reducesTo_S8x4096x4096_S8x4096_d2 h_S_)
      transposes_S8x4096_S4096x8_1_0)) shapeCasts_S4096x8x128_S4096x1024

end

section

variable (m : (ℓ : Loc nD τ sig) → Buf (Elt Ideal) ℓ)

theorem entry_packed (c : Dev nD) : (V m c main_v1 : S4096x3072.Idx → EReal)
    = packed (F := Ideal) (m ((c.tc : Thread nD τ).loc main_arg0)) (m ((c.tc : Thread nD τ).loc main_arg1))
        (m ((c.tc : Thread nD τ).loc main_arg2)) := by
  unfold_abbrev_sides
  simp only [List.flatten_cons, List.flatten_nil, List.append_nil, List.cons_append, List.nil_append]
  after_results_simp
  rfl

theorem entry_dy (c : Dev nD) : (V m c main_v2 : S4096x1024.Idx → EReal)
    = truncf (F := Ideal) .bf16 (m ((c.tc : Thread nD τ).loc main_arg3)) bitsLt_bf16_f32 := by
  unfold_abbrev_sides
  simp only [List.flatten_cons, List.flatten_nil, List.append_nil, List.cons_append, List.nil_append]
  after_results_simp

theorem entry_totals (c : Dev nD) : (V m c main_v33 : S4096x1024.Idx → EReal)
    = totals (F := Ideal) (packed (F := Ideal) (m ((c.tc : Thread nD τ).loc main_arg0)) (m ((c.tc : Thread nD τ).loc main_arg1))
        (m ((c.tc : Thread nD τ).loc main_arg2))) := by
  unfold_abbrev_sides
  simp only [List.flatten_cons, List.flatten_nil, List.append_nil, List.cons_append, List.nil_append]
  after_results_simp
  rfl

end

theorem packed_q (a b v : FVec Ideal S4096x1024 .f32) (s : Fin 4096) (x : Fin 1024) :
    packed a b v (ix2 s ⟨x.val, by omega⟩) = a (ix2 s x) := by
  pointwise [packed]

theorem packed_k (a b v : FVec Ideal S4096x1024 .f32) (s : Fin 4096) (x : Fin 1024) :
    packed a b v (ix2 s ⟨1024 + x.val, by omega⟩) = b (ix2 s x) := by
  pointwise [packed]

theorem packed_v (a b v : FVec Ideal S4096x1024 .f32) (s : Fin 4096) (x : Fin 1024) :
    packed a b v (ix2 s ⟨2048 + x.val, by omega⟩) = v (ix2 s x) := by
  pointwise [packed]
  rw [dif_neg (by omega), dif_neg (by omega)]
  exact congrArg (fun y => v (ix2 s y)) (Fin.ext (by dsimp only; omega))

theorem headsQ_at (x : FVec Ideal S4096x3072 .bf16) (h : Fin 8) (t : Fin 4096) (d : Fin 128) :
    headsQ x (ix3 h t d) = x (ix2 t ⟨(colOf h d).val, by omega⟩) := by
  pointwise [headsQ]
  exact congrArg (fun y => x (ix2 t y)) (Fin.ext (by simp only [colOf]; omega))

theorem headsK_at (x : FVec Ideal S4096x3072 .bf16) (h : Fin 8) (s : Fin 4096) (d : Fin 128) :
    headsK x (ix3 h s d) = x (ix2 s ⟨1024 + (colOf h d).val, by omega⟩) := by
  pointwise [headsK]
  exact congrArg (fun y => x (ix2 s y)) (Fin.ext (by simp only [colOf]; omega))

theorem earlier_at (t s : Fin 4096) : earlier (ix2 t s) = if s.val < t.val then 1#1 else 0#1 := by
  pointwise [earlier]
  have hs : (BitVec.ofNat 32 s.val).toInt = s.val := by
    have := s.isLt
    rw [BitVec.toInt_eq_toNat_of_lt] <;> simp <;> omega
  have ht : (BitVec.ofNat 32 t.val).toInt = t.val := by
    have := t.isLt
    rw [BitVec.toInt_eq_toNat_of_lt] <;> simp <;> omega
  by_cases h : s.val < t.val <;> simp [IntOp.cmpi, BitVec.slt_eq_decide, hs, ht, h]

theorem plus_at (z : FVec Ideal S8x4096x4096 .f32) (j : S8x4096x4096.Idx) (r : ℝ) (hr : z j = (r : EReal)) :
    plus z j = ((softplus r : ℝ) : EReal) := by
  pointwise [plus]
  rw [hr, ← softplus_coe, zero_sub]
  rfl

theorem scores_at (q k v : Fin 4096 → Fin 1024 → ℝ) (a b e : FVec Ideal S4096x1024 .f32)
    (ha : ∀ t x, a (ix2 t x) = ((q t x : ℝ) : EReal)) (hb : ∀ t x, b (ix2 t x) = ((k t x : ℝ) : EReal)) (dy : Fin 4096 → Fin 1024 → ℝ)
    (h : Fin 8) (t s : Fin 4096) :
    scores (packed a b e) (ix3 h t s) = (((rowsOf q k v dy h).z t.val s.val : ℝ) : EReal) := by
  pointwise [scores]
  simp only [headsQ_at, headsK_at, packed_q, packed_k, ha, hb, ofBits_scale, ← EReal.coe_mul, coe_sum]
  unfold rowsOf Rows.z
  dsimp only
  simp only [headRow_val]

theorem left_at (q k v : Fin 4096 → Fin 1024 → ℝ) (a b e : FVec Ideal S4096x1024 .f32)
    (ha : ∀ t x, a (ix2 t x) = ((q t x : ℝ) : EReal)) (hb : ∀ t x, b (ix2 t x) = ((k t x : ℝ) : EReal)) (dy : Fin 4096 → Fin 1024 → ℝ)
    (h : Fin 8) (t s : Fin 4096) :
    left (packed a b e) (ix3 h t s) = (((rowsOf q k v dy h).logKeep t.val s.val : ℝ) : EReal) := by
  pointwise [left]
  rw [earlier_at, plus_at _ _ _ (scores_at q k v a b e ha hb dy h t s)]
  unfold Rows.logKeep
  by_cases hs : s.val < t.val
  · rw [if_pos hs, if_pos hs]
    rfl
  · rw [if_neg hs, if_neg hs]
    rfl

theorem totals_at (q k v : Fin 4096 → Fin 1024 → ℝ) (a b e : FVec Ideal S4096x1024 .f32)
    (ha : ∀ t x, a (ix2 t x) = ((q t x : ℝ) : EReal)) (hb : ∀ t x, b (ix2 t x) = ((k t x : ℝ) : EReal)) (dy : Fin 4096 → Fin 1024 → ℝ)
    (h : Fin 8) (t : Fin 4096) (d : Fin 128) :
    totals (packed a b e) (ix2 t (colOf h d)) = (((rowsOf q k v dy h).tot t.val : ℝ) : EReal) := by
  pointwise [totals]
  have hh : (⟨(colOf h d).val / 128, by have := (colOf h d).isLt; omega⟩ : Fin 8) = h :=
    Fin.ext (by simp only [colOf]; omega)
  simp only [hh, left_at q k v a b e ha hb dy h t, coe_sum]
  rw [rowsOf_tot, Finset.sum_range]

end Cert.AttnIdeal.Eqn

end
-- ==== Proof.AttnKernel.lean ====
/- The attention's backward kernel, what its call leaves on real arguments: the gradients of the queries, the keys and the
   values, a group of four heads at a time and a tile of 256 queries at a time. -/
module

public import proofs.«01_k».proof.Proof.AttnEntry

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

variable (m : (ℓ : Loc nD τ sig) → Buf (Elt Ideal) ℓ) (Q K W DY : Dev nD → Fin 4096 → Fin 1024 → ℝ)

/-- The arguments hold the named real arrays. -/
structure Given : Prop where
  q : ∀ c : Dev nD, m ((c.tc : Thread nD τ).loc main_arg0) = fun j => ((Q c (j 0) (j 1) : ℝ) : EReal)
  k : ∀ c : Dev nD, m ((c.tc : Thread nD τ).loc main_arg1) = fun j => ((K c (j 0) (j 1) : ℝ) : EReal)
  v : ∀ c : Dev nD, m ((c.tc : Thread nD τ).loc main_arg2) = fun j => ((W c (j 0) (j 1) : ℝ) : EReal)
  dy : ∀ c : Dev nD, m ((c.tc : Thread nD τ).loc main_arg3) = fun j => ((DY c (j 0) (j 1) : ℝ) : EReal)

/-- Every window's block index at a point of the grid. -/
theorem idx_val : ∀ t : Fin cfg0.N, win0_0.index t = ![t.val % 16, t.val / 16]
    ∧ win0_1.index t = ![0, 2 + t.val / 16]
    ∧ win0_2.index t = ![0, 4 + t.val / 16]
    ∧ win0_3.index t = ![t.val % 16, t.val / 16]
    ∧ win0_4.index t = ![t.val % 16, t.val / 16]
    ∧ win0_5.index t = ![t.val % 16, t.val / 16]
    ∧ win0_6.index t = ![0, t.val / 16]
    ∧ win0_7.index t = ![0, t.val / 16] :=
  (by decide +kernel : ∀ t : Fin grid0.N, _)

/-- The counted loop runs once for every earlier tile of keys, its companion never. -/
theorem trips_val : ∀ t : Fin cfg0.N, (k0_t1_loop (grid0.coords t)).trips = t.val % 16 ∧ (k0_t2_loop (grid0.coords t)).trips = 0
    ∧ k0_off9 (grid0.coords t) = ![256 * (t.val % 16), 0] ∧ k0_off10 (grid0.coords t) = ![256 * (t.val % 16), 128]
    ∧ k0_off11 (grid0.coords t) = ![256 * (t.val % 16), 256] ∧ k0_off12 (grid0.coords t) = ![256 * (t.val % 16), 384] :=
  (by decide +kernel : ∀ t : Fin grid0.N, _)

theorem point_lt (t : Fin cfg0.N) : t.val < 32 := lt_of_lt_of_eq t.isLt N_0

/-- The head a point's group puts at place `h`. -/
def headAt (t : Fin cfg0.N) (h : Fin 4) : Fin 8 := ⟨4 * (t.val / 16) + h.val, by have := point_lt t; omega⟩

/-- The array's row that is row `r` of the point's tile. -/
def rowAt (t : Fin cfg0.N) (r : Fin 256) : Fin 4096 := ⟨256 * (t.val % 16) + r.val, by have := point_lt t; omega⟩

/-- What a point works on. -/
def bufs (c : Dev nD) (t : Fin cfg0.N) : Bufs Ideal :=
  ⟨c, grid0.coords t, ms0_0 t, hs0_0 t, ms0_1 t, hs0_1 t, ms0_2 t, hs0_2 t, ms0_3 t, hs0_3 t, ms0_4 t, hs0_4 t, ms0_5 t, hs0_5 t,
    ms0_6 t, hs0_6 t, ms0_7 t, hs0_7 t, scM0_0, Memref.isWhole_whole _, scM0_1, Memref.isWhole_whole _,
    iblk m c 0 t, iblk m c 1 t, iblk m c 2 t, iblk m c 3 t, iblk m c 4 t⟩

variable {m Q K W DY}

/-- The four heads' rows at a point. -/
def heads4 (Q K W DY : Dev nD → Fin 4096 → Fin 1024 → ℝ) (c : Dev nD) (t : Fin cfg0.N) (h : Fin 4) : Rows :=
  rowsOf (Q c) (K c) (W c) (DY c) (headAt t h)

theorem blk_q (H : Given m Q K W DY) (c : Dev nD) (t : Fin cfg0.N) (h : Fin 4) (r : Fin 256) (d : Fin 128) :
    iblk m c 0 t (ix2 r (col h d)) = ((Q c (rowAt t r) (colOf (headAt t h) d) : ℝ) : EReal) := by
  refine Eq.trans ?_ (congrFun (H.q c) (ix2 (rowAt t r) (colOf (headAt t h) d)))
  refine Eq.trans ?_ (packed_q _ (m ((c.tc : Thread nD τ).loc main_arg1)) (m ((c.tc : Thread nD τ).loc main_arg2)) _ _)
  rw [← entry_packed]
  blk_point [iblk, idx_val t]
  all_goals simp only [col, colOf, rowAt, headAt]
  all_goals omega

theorem blk_k (H : Given m Q K W DY) (c : Dev nD) (t : Fin cfg0.N) (h : Fin 4) (s : Fin 4096) (d : Fin 128) :
    iblk m c 1 t (ix2 s (col h d)) = ((K c s (colOf (headAt t h) d) : ℝ) : EReal) := by
  refine Eq.trans ?_ (congrFun (H.k c) (ix2 s (colOf (headAt t h) d)))
  refine Eq.trans ?_ (packed_k (m ((c.tc : Thread nD τ).loc main_arg0)) _ (m ((c.tc : Thread nD τ).loc main_arg2)) _ _)
  rw [← entry_packed]
  blk_point [iblk, idx_val t]
  all_goals simp only [col, colOf, rowAt, headAt]
  all_goals omega

theorem blk_v (H : Given m Q K W DY) (c : Dev nD) (t : Fin cfg0.N) (h : Fin 4) (s : Fin 4096) (d : Fin 128) :
    iblk m c 2 t (ix2 s (col h d)) = ((W c s (colOf (headAt t h) d) : ℝ) : EReal) := by
  refine Eq.trans ?_ (congrFun (H.v c) (ix2 s (colOf (headAt t h) d)))
  refine Eq.trans ?_ (packed_v (m ((c.tc : Thread nD τ).loc main_arg0)) (m ((c.tc : Thread nD τ).loc main_arg1)) _ _ _)
  rw [← entry_packed]
  blk_point [iblk, idx_val t]
  all_goals simp only [col, colOf, rowAt, headAt]
  all_goals omega

theorem blk_dy (H : Given m Q K W DY) (c : Dev nD) (t : Fin cfg0.N) (h : Fin 4) (r : Fin 256) (d : Fin 128) :
    iblk m c 3 t (ix2 r (col h d)) = ((DY c (rowAt t r) (colOf (headAt t h) d) : ℝ) : EReal) := by
  refine Eq.trans ?_ (congrFun (H.dy c) (ix2 (rowAt t r) (colOf (headAt t h) d)))
  refine Eq.trans ?_ (congrFun (entry_dy m c) (ix2 (rowAt t r) (colOf (headAt t h) d)))
  blk_point [iblk, idx_val t]
  all_goals simp only [col, colOf, rowAt, headAt]
  all_goals omega

theorem blk_tot (H : Given m Q K W DY) (c : Dev nD) (t : Fin cfg0.N) (h : Fin 4) (r : Fin 256) (d : Fin 128) :
    iblk m c 4 t (ix2 r (col h d)) = (((heads4 Q K W DY c t h).tot (256 * (t.val % 16) + r.val) : ℝ) : EReal) := by
  refine Eq.trans ?_ (totals_at (Q c) (K c) (W c) _ _ (m ((c.tc : Thread nD τ).loc main_arg2)) (fun t x => congrFun (H.q c) (ix2 t x))
    (fun t x => congrFun (H.k c) (ix2 t x)) (DY c) (headAt t h) (rowAt t r) d)
  rw [← entry_totals]
  blk_point [iblk, idx_val t]
  all_goals simp only [col, colOf, rowAt, headAt]
  all_goals omega

/-- A point's buffers hold its tile of queries and its heads' keys and values. -/
theorem bufs_q (c : Dev nD) (t : Fin cfg0.N) : (bufs m c t).x0 = iblk m c 0 t := rfl
theorem bufs_k (c : Dev nD) (t : Fin cfg0.N) : (bufs m c t).x1 = iblk m c 1 t := rfl
theorem bufs_v (c : Dev nD) (t : Fin cfg0.N) : (bufs m c t).x2 = iblk m c 2 t := rfl
theorem bufs_dy (c : Dev nD) (t : Fin cfg0.N) : (bufs m c t).x3 = iblk m c 3 t := rfl
theorem bufs_tot (c : Dev nD) (t : Fin cfg0.N) : (bufs m c t).x4 = iblk m c 4 t := rfl
theorem bufs_i (c : Dev nD) (t : Fin cfg0.N) : (bufs m c t).i = grid0.coords t := rfl

theorem point_off (c : Dev nD) (t : Fin cfg0.N) (h : Fin 4) : (bufs m c t).off h = ![256 * (t.val % 16), 128 * h.val] := by
  unfold Bufs.off
  rw [bufs_i]
  obtain ⟨e0, e1, e2, e3⟩ := (trips_val t).2.2
  rw [e0, e1, e2, e3]
  fin_cases h <;> rfl

theorem point_held (H : Given m Q K W DY) (c : Dev nD) (t : Fin cfg0.N) : Held (bufs m c t) (heads4 Q K W DY c t) (t.val % 16) := by
  constructor
  · exact Nat.mod_lt _ (by norm_num)
  · rw [bufs_i]; exact (trips_val t).1
  · rw [bufs_i]; exact (trips_val t).2.1
  · exact point_off c t
  · intro h r d
    rw [bufs_q, blk_q H]
    exact congrArg _ (headRow_val (Q c) (headAt t h) (rowAt t r) d).symm
  · intro h s d
    rw [bufs_k, blk_k H]
    exact congrArg _ (headRow_val (K c) (headAt t h) s d).symm
  · intro h s d
    rw [bufs_v, blk_v H]
    exact congrArg _ (headRow_val (W c) (headAt t h) s d).symm
  · intro h r d
    rw [bufs_dy, blk_dy H]
    exact congrArg _ (headRow_val (DY c) (headAt t h) (rowAt t r) d).symm
  · intro h r
    rw [bufs_tot]
    exact blk_tot H c t h r 0

end Cert.AttnIdeal.Eqn

end
-- ==== Proof.AttnAfter.lean ====
/- The attention's backward kernel, point after point: the query gradient's tile and the two running sums. -/
module

public import proofs.«01_k».proof.Proof.AttnKernel

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

variable (m : (ℓ : Loc nD τ sig) → Buf (Elt Ideal) ℓ) {Q K W DY : Dev nD → Fin 4096 → Fin 1024 → ℝ}

/-- What a point leaves, in terms of the lists of its stores: the tile of the query gradient and the two scratch buffers. -/
def Leaves (c : Dev nD) (t : Fin cfg0.N) (G0 G1 : BufTy.Contents (Elt Ideal) scM0_0.view.ty)
    (P : List (View.Piece (Elt Ideal) S256x512 .bf16) × List (View.Piece (Elt Ideal) S4096x512 .f32) × List (View.Piece (Elt Ideal) S4096x512 .f32)) : Prop :=
  (outsAt0 m c t.val t.isLt).1 = VO0_5.read (Elt Ideal) (VO0_5.writes (Elt Ideal) VO0_5.junk P.1)
    ∧ (outsAt0 m c t.val t.isLt).2.2.2.1 = scM0_0.view.read (Elt Ideal) (scM0_0.view.writes (Elt Ideal) G0 P.2.1)
    ∧ (outsAt0 m c t.val t.isLt).2.2.2.2 = scM0_1.view.read (Elt Ideal) (scM0_1.view.writes (Elt Ideal) G1 P.2.2)

theorem first_leaves (c : Dev nD) (t : Fin cfg0.N) (h0 : t.val % 16 = 0) (h1 : ¬t.val % 16 = 15) :
    Leaves m c t scM0_0.view.junk scM0_1.view.junk (bufs m c t).piecesA := by
  have a : Leaves m c t scM0_0.view.junk scM0_1.view.junk
      (((bufs m c t).runA ((hcond0_0 t).mpr h0) (fun h => h1 ((hcond0_1 t).mp h))).1,
        ((bufs m c t).runA ((hcond0_0 t).mpr h0) (fun h => h1 ((hcond0_1 t).mp h))).2.2.2.1,
        ((bufs m c t).runA ((hcond0_0 t).mpr h0) (fun h => h1 ((hcond0_1 t).mp h))).2.2.2.2.1) := by
    refine ⟨?_, ?_, ?_⟩
    · rw [outsAt0_A m c t h0 h1]; sl_kernel_rfl
    · rw [outsAt0_A m c t h0 h1]; sl_kernel_rfl
    · rw [outsAt0_A m c t h0 h1]; sl_kernel_rfl
  have e := Bufs.runA_eq (bufs m c t) ((hcond0_0 t).mpr h0) (fun h => h1 ((hcond0_1 t).mp h)) (trips_val t).2.1
  exact (congrArg (Leaves m c t scM0_0.view.junk scM0_1.view.junk) e).mp a

/-- What a later point finds in the scratch buffers. -/
def found0 (c : Dev nD) (t : Fin cfg0.N) : Vec Ideal S4096x512 .f32 :=
  (outsAt0 m c (t.val - 1) (Nat.lt_of_le_of_lt (Nat.sub_le _ _) t.isLt)).2.2.2.1
def found1 (c : Dev nD) (t : Fin cfg0.N) : Vec Ideal S4096x512 .f32 :=
  (outsAt0 m c (t.val - 1) (Nat.lt_of_le_of_lt (Nat.sub_le _ _) t.isLt)).2.2.2.2

/-- A point between the first and the last of its group. -/
theorem middle_leaves (c : Dev nD) (t : Fin cfg0.N) (h0 : ¬t.val % 16 = 0) (h1 : ¬t.val % 16 = 15) :
    Leaves m c t ((bufs m c t).h10.unread (found0 m c t)) ((bufs m c t).h11.unread (found1 m c t))
      ((bufs m c t).piecesB (found0 m c t) (found1 m c t)) := by
  have a : Leaves m c t ((bufs m c t).h10.unread (found0 m c t)) ((bufs m c t).h11.unread (found1 m c t))
      (((bufs m c t).runB (found0 m c t) (found1 m c t) (fun h => h0 ((hcond0_0 t).mp h)) (fun h => h1 ((hcond0_1 t).mp h))).1,
        ((bufs m c t).runB (found0 m c t) (found1 m c t) (fun h => h0 ((hcond0_0 t).mp h)) (fun h => h1 ((hcond0_1 t).mp h))).2.2.2.1,
        ((bufs m c t).runB (found0 m c t) (found1 m c t) (fun h => h0 ((hcond0_0 t).mp h)) (fun h => h1 ((hcond0_1 t).mp h))).2.2.2.2.1) := by
    refine ⟨?_, ?_, ?_⟩
    · rw [outsAt0_B m c t h0 h1]; sl_kernel_rfl
    · rw [outsAt0_B m c t h0 h1]; sl_kernel_rfl
    · rw [outsAt0_B m c t h0 h1]; sl_kernel_rfl
  have e := Bufs.runB_eq (bufs m c t) (found0 m c t) (found1 m c t) (fun h => h0 ((hcond0_0 t).mp h)) (fun h => h1 ((hcond0_1 t).mp h)) (trips_val t).2.1
  exact (congrArg (Leaves m c t ((bufs m c t).h10.unread (found0 m c t)) ((bufs m c t).h11.unread (found1 m c t))) e).mp a

set_option maxHeartbeats 1000000 in
/-- The last point of a group. -/
theorem last_leaves (c : Dev nD) (t : Fin cfg0.N) (h0 : ¬t.val % 16 = 0) (h1 : t.val % 16 = 15) :
    Leaves m c t ((bufs m c t).h10.unread (found0 m c t)) ((bufs m c t).h11.unread (found1 m c t))
      ((bufs m c t).piecesB (found0 m c t) (found1 m c t)) := by
  have a : Leaves m c t ((bufs m c t).h10.unread (found0 m c t)) ((bufs m c t).h11.unread (found1 m c t))
      (((bufs m c t).runC (found0 m c t) (found1 m c t) (fun h => h0 ((hcond0_0 t).mp h)) ((hcond0_1 t).mpr h1)).1,
        ((bufs m c t).runC (found0 m c t) (found1 m c t) (fun h => h0 ((hcond0_0 t).mp h)) ((hcond0_1 t).mpr h1)).2.2.2.1,
        ((bufs m c t).runC (found0 m c t) (found1 m c t) (fun h => h0 ((hcond0_0 t).mp h)) ((hcond0_1 t).mpr h1)).2.2.2.2.1) := by
    refine ⟨?_, ?_, ?_⟩
    · rw [outsAt0_C m c t h0 h1]; sl_kernel_rfl
    · rw [outsAt0_C m c t h0 h1]; sl_kernel_rfl
    · rw [outsAt0_C m c t h0 h1]; sl_kernel_rfl
  have e := Bufs.runC_eq (bufs m c t) (found0 m c t) (found1 m c t) (fun h => h0 ((hcond0_0 t).mp h)) ((hcond0_1 t).mpr h1) (trips_val t).2.1
  exact (congrArg (Leaves m c t ((bufs m c t).h10.unread (found0 m c t)) ((bufs m c t).h11.unread (found1 m c t))) e).mp a

/-- A whole buffer copied out reads back as it was. -/
theorem read_copied {κ : Kind} {sp : Space} (v : View sig κ sp S4096x512 .bf16) (G : v.ty.Contents (Elt Ideal)) (f : FVec Ideal S4096x512 .f32)
    (s : Fin 4096) (x : Fin 512) : v.read (Elt Ideal) (v.writes (Elt Ideal) G (Bufs.copied f)) (ix2 s x) = f (ix2 s x) := by
  refine (View.read_writes_cons_unit_of_mem v G inb_S4096x512_S4096x512_0_0 (truncf .bf16 f bitsLt_bf16_f32) [] (ix2 s x) (ix2 s x) rfl fun a => ?_).trans ?_
  · fin_cases a
    · show s.val = 0 + s.val; omega
    · show x.val = 0 + x.val; omega
  · pointwise []

theorem whole_at (a : Memref sig .tc .vmem S4096x512 .f32) (f : BufTy.Contents (Elt Ideal) a.view.ty) (s : Fin 4096) (x : Fin 512) :
    Bufs.whole a f (ix2 s x) = a.view.read (Elt Ideal) f (ix2 s x) := by
  refine congrArg (a.view.read (Elt Ideal) f) (funext fun b => Fin.ext ?_)
  fin_cases b
  · show 0 + 1 * s.val = s.val; omega
  · show 0 + 1 * x.val = x.val; omega

/-- The last point of a group copies the two scratch buffers out. -/
theorem last_out (c : Dev nD) (t : Fin cfg0.N) (h0 : ¬t.val % 16 = 0) (h1 : t.val % 16 = 15) :
    (outsAt0 m c t.val t.isLt).2.1 = VO0_6.read (Elt Ideal) (VO0_6.writes (Elt Ideal) VO0_6.junk (Bufs.copied (Bufs.whole scM0_0
        (scM0_0.view.writes (Elt Ideal) ((bufs m c t).h10.unread (found0 m c t)) ((bufs m c t).piecesB (found0 m c t) (found1 m c t)).2.1))))
      ∧ (outsAt0 m c t.val t.isLt).2.2.1 = VO0_7.read (Elt Ideal) (VO0_7.writes (Elt Ideal) VO0_7.junk (Bufs.copied (Bufs.whole scM0_1
        (scM0_1.view.writes (Elt Ideal) ((bufs m c t).h11.unread (found1 m c t)) ((bufs m c t).piecesB (found0 m c t) (found1 m c t)).2.2)))) := by
  obtain ⟨o0, o1⟩ := Bufs.runC_out (bufs m c t) (found0 m c t) (found1 m c t) (fun h => h0 ((hcond0_0 t).mp h)) ((hcond0_1 t).mpr h1) (trips_val t).2.1
  have a : (outsAt0 m c t.val t.isLt).2.1 = VO0_6.read (Elt Ideal) (VO0_6.writes (Elt Ideal) VO0_6.junk
      ((bufs m c t).runC (found0 m c t) (found1 m c t) (fun h => h0 ((hcond0_0 t).mp h)) ((hcond0_1 t).mpr h1)).2.1) := by
    rw [outsAt0_C m c t h0 h1]; sl_kernel_rfl
  have b : (outsAt0 m c t.val t.isLt).2.2.1 = VO0_7.read (Elt Ideal) (VO0_7.writes (Elt Ideal) VO0_7.junk
      ((bufs m c t).runC (found0 m c t) (found1 m c t) (fun h => h0 ((hcond0_0 t).mp h)) ((hcond0_1 t).mpr h1)).2.2.1) := by
    rw [outsAt0_C m c t h0 h1]; sl_kernel_rfl
  rw [o0] at a
  rw [o1] at b
  exact ⟨a, b⟩

theorem last_copies (c : Dev nD) (t : Fin cfg0.N) (h0 : ¬t.val % 16 = 0) (h1 : t.val % 16 = 15) (s : Fin 4096) (x : Fin 512) :
    (outsAt0 m c t.val t.isLt).2.1 (ix2 s x) = (outsAt0 m c t.val t.isLt).2.2.2.1 (ix2 s x)
      ∧ (outsAt0 m c t.val t.isLt).2.2.1 (ix2 s x) = (outsAt0 m c t.val t.isLt).2.2.2.2 (ix2 s x) := by
  obtain ⟨a, b⟩ := last_out m c t h0 h1
  obtain ⟨-, d, e⟩ := last_leaves m c t h0 h1
  rw [a, b, d, e, read_copied, read_copied, whole_at, whole_at]
  exact ⟨rfl, rfl⟩

end Cert.AttnIdeal.Eqn

end
-- ==== Proof.AttnKernelSum.lean ====
/- The attention's backward kernel, what its call leaves on real arguments: the gradients of the queries, the keys and the
   values. -/
module

public import proofs.«01_k».proof.Proof.AttnAfter

@[expose] public section

set_option maxRecDepth 16384

noncomputable section

namespace Cert.AttnIdeal.Eqn

open Cert.AttnIdeal Cert.AttnIdeal.Gen
open Idealize.ShloMosaic Idealize.ShloMosaic.TcCoe Idealize.SL.Sem
open Cert.AttnMath Cert.RealLift

variable {m : (ℓ : Loc nD τ sig) → Buf (Elt Ideal) ℓ} {Q K W DY : Dev nD → Fin 4096 → Fin 1024 → ℝ}

/-- What the call's first output and the scratch buffers hold after a point. -/
structure After (m : (ℓ : Loc nD τ sig) → Buf (Elt Ideal) ℓ) (Q K W DY : Dev nD → Fin 4096 → Fin 1024 → ℝ) (c : Dev nD) (t : Fin cfg0.N) : Prop where
  dq : ∀ (h : Fin 4) (r : Fin 256) (d : Fin 128), (outsAt0 m c t.val t.isLt).1 (ix2 r (col h d))
    = ((∑ s ∈ Finset.range (256 * (t.val % 16 + 1)), (heads4 Q K W DY c t h).dz (256 * (t.val % 16) + r.val) s
        * (heads4 Q K W DY c t h).k s d : ℝ) : EReal)
  dk : SumAt (dkTerm (heads4 Q K W DY c t)) (t.val % 16 + 1) 0 (outsAt0 m c t.val t.isLt).2.2.2.1
  dv : SumAt (dvTerm (heads4 Q K W DY c t)) (t.val % 16 + 1) 0 (outsAt0 m c t.val t.isLt).2.2.2.2

/-- The stores' sums are the point's. -/
theorem after_of (c : Dev nD) (t : Fin cfg0.N) {G0 : BufTy.Contents (Elt Ideal) scM0_0.view.ty} {G1 : BufTy.Contents (Elt Ideal) scM0_1.view.ty}
    {P : List (View.Piece (Elt Ideal) S256x512 .bf16) × List (View.Piece (Elt Ideal) S4096x512 .f32) × List (View.Piece (Elt Ideal) S4096x512 .f32)}
    (a : Leaves m c t G0 G1 P) (L : Left (bufs m c t) (heads4 Q K W DY c t) (t.val % 16) G0 G1 P) : After m Q K W DY c t := by
  obtain ⟨a0, a1, a2⟩ := a
  refine ⟨fun h r d => ?_, ?_, ?_⟩
  · rw [a0]; exact L.dq VO0_5 VO0_5.junk h r d
  · rw [a1]; exact L.dk
  · rw [a2]; exact L.dv

/-- The point before. -/
def prev (t : Fin cfg0.N) : Fin cfg0.N := ⟨t.val - 1, Nat.lt_of_le_of_lt (Nat.sub_le _ _) t.isLt⟩

theorem heads4_prev (c : Dev nD) (t : Fin cfg0.N) (h0 : ¬t.val % 16 = 0) : heads4 Q K W DY c (prev t) = heads4 Q K W DY c t := by
  funext h
  unfold heads4
  refine congrArg (rowsOf (Q c) (K c) (W c) (DY c)) (Fin.ext ?_)
  simp only [headAt, prev]
  omega

/-- A later point of a group. -/
theorem after_next (H : Given m Q K W DY) (c : Dev nD) (t : Fin cfg0.N) (h0 : ¬t.val % 16 = 0) (P : After m Q K W DY c (prev t)) :
    After m Q K W DY c t := by
  have hp : (prev t).val % 16 + 1 = t.val % 16 := by simp only [prev]; omega
  obtain ⟨-, P0, P1⟩ := P
  rw [heads4_prev c t h0, hp] at P0 P1
  have L := piecesB_left (point_held H c t) (found0 m c t) (found1 m c t) P0 P1
  by_cases h1 : t.val % 16 = 15
  · exact after_of c t (last_leaves m c t h0 h1) L
  · exact after_of c t (middle_leaves m c t h0 h1) L

/-- Every point. -/
theorem after_all (H : Given m Q K W DY) (c : Dev nD) (t : Fin cfg0.N) : After m Q K W DY c t := by
  obtain ⟨n, hn⟩ := t
  induction n with
  | zero => exact after_of c ⟨0, hn⟩ (first_leaves m c ⟨0, hn⟩ (Nat.zero_mod 16) (by norm_num)) (piecesA_left (point_held H c ⟨0, hn⟩) (Nat.zero_mod 16))
  | succ n ih =>
    by_cases h0 : (n + 1) % 16 = 0
    · exact after_of c ⟨n + 1, hn⟩ (first_leaves m c ⟨n + 1, hn⟩ h0 (show ¬(n + 1) % 16 = 15 by omega)) (piecesA_left (point_held H c ⟨n + 1, hn⟩) h0)
    · exact after_next H c ⟨n + 1, hn⟩ h0 (ih (Nat.lt_of_succ_lt hn))

theorem emb_q (t : Fin cfg0.N) (h : Fin 4) (r : Fin 256) (d : Fin 128) :
    ((View.whole main_v34_0).slice (win0_5.rect t)).emb (ix2 r (col h d)) = ix2 (rowAt t r) (colOf (headAt t h) d) := by
  blk_ext! [idx_val t]
  all_goals simp only [col, colOf, rowAt, headAt]
  all_goals omega

theorem emb_k (t : Fin cfg0.N) (h : Fin 4) (s : Fin 4096) (d : Fin 128) :
    ((View.whole main_v34_1).slice (win0_6.rect t)).emb (ix2 s (col h d)) = ix2 s (colOf (headAt t h) d) := by
  blk_ext! [idx_val t]
  all_goals simp only [col, colOf, headAt]
  all_goals omega

theorem emb_v (t : Fin cfg0.N) (h : Fin 4) (s : Fin 4096) (d : Fin 128) :
    ((View.whole main_v34_2).slice (win0_7.rect t)).emb (ix2 s (col h d)) = ix2 s (colOf (headAt t h) d) := by
  blk_ext! [idx_val t]
  all_goals simp only [col, colOf, headAt]
  all_goals omega

/-- Keys after a query's own tile add nothing. -/
theorem dq_all (R : Rows) (i : ℕ) (hi : i < 16) (r : Fin 256) (d : Fin 128) :
    ∑ s ∈ Finset.range (256 * (i + 1)), R.dz (256 * i + r.val) s * R.k s d = ∑ s ∈ Finset.range 4096, R.dz (256 * i + r.val) s * R.k s d := by
  refine Finset.sum_subset (fun s hs => Finset.mem_range.mpr (by have := Finset.mem_range.mp hs; omega)) fun s _ hs => ?_
  rw [Rows.dz_of_le _ (by have := Finset.mem_range.not.mp hs; have := r.isLt; omega), zero_mul]

theorem final_5 (H : Given m Q K W DY) (c : Dev nD) : (dats m 0 c).arrAt 5 (cfgs 0).N =
    fun j => ((gradQ (Q c) (K c) (W c) (DY c) (j 0) (j 1) : ℝ) : EReal) := by
  refine (dats m 0 c).arrAt_eq_of_covers 5 _ (by decide +kernel) fun t hf y => ?_
  blk_simp; rw [after0_5]
  idx_vars y
  obtain ⟨h, d, rfl⟩ := exists_col y1
  rw [emb_q, (after_all H c t).dq h y0 d, dq_all _ _ (Nat.mod_lt _ (by norm_num))]
  unfold gradQ
  rw [show (ix2 (rowAt t y0) (colOf (headAt t h) d) : S4096x1024.Idx) 1 = colOf (headAt t h) d from rfl, headOf_colOf, inHead_colOf]
  rfl

theorem final_6 (H : Given m Q K W DY) (c : Dev nD) : (dats m 0 c).arrAt 6 (cfgs 0).N =
    fun j => ((gradK (Q c) (K c) (W c) (DY c) (j 0) (j 1) : ℝ) : EReal) := by
  refine (dats m 0 c).arrAt_eq_of_covers 6 _ (by decide +kernel) fun t hf y => ?_
  have h1 : t.val % 16 = 15 := (flush0_6 t).mp hf
  blk_simp; rw [after0_6]
  idx_vars y
  obtain ⟨h, d, rfl⟩ := exists_col y1
  rw [emb_k, (last_copies m c t (by omega) h1 y0 (col h d)).1, (after_all H c t).dk h y0 d]
  unfold gradK
  rw [show (ix2 y0 (colOf (headAt t h) d) : S4096x1024.Idx) 1 = colOf (headAt t h) d from rfl, headOf_colOf, inHead_colOf, h1,
    if_neg (show ¬y0.val < 256 * 0 by omega)]
  rfl

theorem final_7 (H : Given m Q K W DY) (c : Dev nD) : (dats m 0 c).arrAt 7 (cfgs 0).N =
    fun j => ((gradV (Q c) (K c) (W c) (DY c) (j 0) (j 1) : ℝ) : EReal) := by
  refine (dats m 0 c).arrAt_eq_of_covers 7 _ (by decide +kernel) fun t hf y => ?_
  have h1 : t.val % 16 = 15 := (flush0_7 t).mp hf
  blk_simp; rw [after0_7]
  idx_vars y
  obtain ⟨h, d, rfl⟩ := exists_col y1
  rw [emb_v, (last_copies m c t (by omega) h1 y0 (col h d)).2, (after_all H c t).dv h y0 d]
  unfold gradV
  rw [show (ix2 y0 (colOf (headAt t h) d) : S4096x1024.Idx) 1 = colOf (headAt t h) d from rfl, headOf_colOf, inHead_colOf, h1,
    if_neg (show ¬y0.val < 256 * 0 by omega)]
  rfl

/-- The kernel's three results. -/
theorem run_real (ρ : Dev nD → PrngReg) (H : Given m Q K W DY) :
    θ_run defs (onTc (τ := τ) (main (F := Ideal))) ⟨m, fun _ => 0, ρ⟩ fun r => ∀ c : Dev nD,
      r.2.mem ((c.tc : Thread nD τ).loc main_v34_0) = (fun j => ((gradQ (Q c) (K c) (W c) (DY c) (j 0) (j 1) : ℝ) : EReal))
      ∧ r.2.mem ((c.tc : Thread nD τ).loc main_v34_1) = (fun j => ((gradK (Q c) (K c) (W c) (DY c) (j 0) (j 1) : ℝ) : EReal))
      ∧ r.2.mem ((c.tc : Thread nD τ).loc main_v34_2) = (fun j => ((gradV (Q c) (K c) (W c) (DY c) (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.AttnIdeal.Value.run_blocks m ρ)
  have := hr c
  rw [final_5 H, final_6 H, final_7 H] at this
  exact this

end Cert.AttnIdeal.Eqn

end
-- ==== Proof.AttnClaim.lean ====
/- The attention's gradients: the kernel and the reference compute one function of finite arguments. -/
module

public import proofs.«01_k».proof.Defs
public import proofs.«01_k».proof.Proof.AttnRef
public import proofs.«01_k».proof.Proof.AttnKernelSum
public import proofs.«01_k».proof.Proof.Gen.Pre_attn_finite
public import Idealize.ShloMosaic.Adequacy

@[expose] public section

noncomputable section

namespace Cert.AttnClaim

open Idealize.ShloMosaic Idealize.ShloMosaic.TcCoe Idealize.SL.Sem
open Cert.AttnIdeal Cert.RealLift

/-- The reference runs, faults nowhere and leaves its arguments alone. -/
theorem frame_ref : Cert.quiescent_AttnRefIdeal := by
  intro m ρ _
  exact (θ_run _ _ _).mono (fun r h => ⟨fun c => (h c).2.2.2, sem_eq_zero_of_no_sems (by decide) r.2⟩)
    (Cert.AttnRefIdeal.Value.run (F := Ideal) m ρ)

/-- A real array, read by row and column. -/
theorem by_rows {x : S4096x1024.Idx → EReal} (y : S4096x1024.Idx → ℝ) (h : x = fun i => ((y i : ℝ) : EReal)) :
    x = fun j => (((fun t s => y (ix2 t s)) (j 0) (j 1) : ℝ) : EReal) :=
  h.trans (funext fun j => congrArg (fun i => ((y i : ℝ) : EReal)) (eq_ix2 j))

/-- Finite arguments are real arrays. -/
theorem given_of_finite (m : (ℓ : Loc nD τ sig) → Buf (Elt Ideal) ℓ) (h : Cert.Pre_AttnIdeal_attn_finite m) :
    ∃ Q K W DY, Cert.AttnIdeal.Eqn.Given m Q K W DY := by
  choose Q hQ using fun c : Dev nD => exists_real (m ((c.tc : Thread nD τ).loc main_arg0)) _ ofBits_inf fun i => congrFun (h c).1 i
  choose K hK using fun c : Dev nD => exists_real (m ((c.tc : Thread nD τ).loc main_arg1)) _ ofBits_inf fun i => congrFun (h c).2.1 i
  choose W hW using fun c : Dev nD => exists_real (m ((c.tc : Thread nD τ).loc main_arg2)) _ ofBits_inf fun i => congrFun (h c).2.2.1 i
  choose DY hDY using fun c : Dev nD => exists_real (m ((c.tc : Thread nD τ).loc main_arg3)) _ ofBits_inf fun i => congrFun (h c).2.2.2 i
  exact ⟨fun c t s => Q c (ix2 t s), fun c t s => K c (ix2 t s), fun c t s => W c (ix2 t s), fun c t s => DY c (ix2 t s),
    fun c => by_rows _ (hQ c), fun c => by_rows _ (hK c), fun c => by_rows _ (hW c), fun c => by_rows _ (hDY c)⟩

/-- The value claim. -/
theorem algebraic : Cert.algebraic_AttnIdeal_AttnRefIdeal_pre_attn_finite := by
  intro m g m' g' hpre heq
  obtain ⟨Q, K, W, DY, h⟩ := given_of_finite m hpre
  exact ⟨_, _, _, Eqn.run_real g h, Cert.AttnRefIdeal.Eqn.run_real m' Q K W DY g' fun c =>
    ⟨(heq c).1.trans (h.q c), (heq c).2.1.trans (h.k c), (heq c).2.2.1.trans (h.v c), (heq c).2.2.2.trans (h.dy c)⟩⟩

end Cert.AttnClaim

end
-- ==== Proof.AttnFwdMath.lean ====
/- The attention's forward pass on real arrays: the output and every row's log-keep total. -/
module

public import proofs.«01_k».proof.Proof.AttnMath

@[expose] public section

noncomputable section

namespace Cert.AttnMath

/-- Head `h`'s rows of the queries, the keys and the values; there is no gradient yet. -/
def fwdRows (q k v : Fin 4096 → Fin 1024 → ℝ) (h : Fin 8) : Rows := rowsOf q k v (fun _ _ => 0) h

/-- A query's output: the values of the keys before it, each taken with its weight. -/
def outY (q k v : Fin 4096 → Fin 1024 → ℝ) (t : Fin 4096) (x : Fin 1024) : ℝ :=
  ∑ s ∈ Finset.range 4096, (fwdRows q k v (headOf x)).w t.val s * (fwdRows q k v (headOf x)).v s (inHead x)

/-- A query's log-keep total, the same over the columns of a head. -/
def outTot (q k v : Fin 4096 → Fin 1024 → ℝ) (t : Fin 4096) (x : Fin 1024) : ℝ := (fwdRows q k v (headOf x)).tot t.val

/-- Keys after a query's own tile add nothing. -/
theorem out_all (R : Rows) (i : ℕ) (hi : i < 16) (r : Fin 256) (d : Fin 128) :
    ∑ s ∈ Finset.range (256 * (i + 1)), R.w (256 * i + r.val) s * R.v s d = ∑ s ∈ Finset.range 4096, R.w (256 * i + r.val) s * R.v s d := by
  refine Finset.sum_subset (fun s hs => Finset.mem_range.mpr (by have := Finset.mem_range.mp hs; omega)) fun s _ hs => ?_
  rw [Rows.w_of_le _ (by have := Finset.mem_range.not.mp hs; have := r.isLt; omega), zero_mul]

end Cert.AttnMath

end
-- ==== Proof.AttnFwdRef.lean ====
/- What the attention's forward reference computes on real arguments: the output and the log-keep totals. -/
module

public import proofs.«01_k».proof.Proof.AttnFwdMath
public import proofs.«01_k».proof.Proof.Cumsum
public import proofs.«01_k».proof.Proof.Gen.AttnFwdRefIdeal.Run

@[expose] public section

set_option maxRecDepth 16384

noncomputable section

namespace Cert.AttnFwdRefIdeal.Eqn

open Cert.AttnFwdRefIdeal Cert.AttnFwdRefIdeal.Value Cert.AttnFwdRefIdeal.Gen
open Idealize.ShloMosaic Idealize.ShloMosaic.TcCoe Idealize.SL.Sem
open Cert.AttnMath Cert.RealLift Cert.Cumsum

section

variable {F : FTy → Type} [FloatOps F] (a b v : FVec F S4096x1024 .f32) (x : FVec F S8x4096x4096 .f32)

/-- An array, a head at a time. -/
def heads : FVec F S8x4096x128 .f32 :=
  transpose S8x4096x128 [1, 0, 2] (shapeCast S4096x8x128 a shapeCasts_S4096x1024_S4096x8x128) transposes_S4096x8x128_S8x4096x128_1_0_2

/-- A score array filled with zeros. -/
def zero : FVec F S8x4096x4096 .f32 := broadcastInDim S8x4096x4096 ![] bcast_S_S8x4096x4096 (constant S_ .f32 0x00000000#32)

/-- The scores. -/
def scores : FVec F S8x4096x4096 .f32 :=
  mulf (Host.dotGeneral dot_S8x4096x128_S8x4096x128_S8x4096x4096_2_2_1_1_0_0 none (heads a) (heads b))
    (broadcastInDim S8x4096x4096 ![] bcast_S_S8x4096x4096 (constant S_ .f32 0x3DB504F3#32))

/-- Whether a key comes before a query, for every head. -/
def earlier : IVec S8x4096x4096 1 :=
  broadcastInDim S8x4096x4096 ![1, 2] bcast_S4096x4096_S8x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- `log (1 + exp x)`, spelt so that it does not overflow. -/
def plus : FVec F S8x4096x4096 .f32 :=
  select (cmpf .une (subf x zero) (subf x zero)) (addf x zero)
    (addf (maximumf x zero) (Host.log1p (Host.exp (Host.negf (Host.absf (subf x zero))))))

/-- What each query leaves after each key, as a logarithm. -/
def left : FVec F S8x4096x4096 .f32 :=
  select earlier (Host.negf (plus (Host.negf (Host.negf x))))
    (broadcastInDim S8x4096x4096 ![] bcast_S_S8x4096x4096 (id (constant S_ .f32 0x00000000#32)))

/-- What each query leaves after a key and the keys behind it, as a logarithm. -/
def ahead : FVec F S8x4096x4096 .f32 :=
  Host.reduceWindowAdd ![1, 1, 4096] ![1, 1, 1] ![0, 0, 0] ![0, 0, 4095] (left x)
    (broadcastInDim S_ ![] bcast_S_S_ (constant S_ .f32 0x00000000#32))
    reduceWindows_S8x4096x4096_S8x4096x4096_w1s1p0_0_w1s1p0_0_w4096s1p0_4095 h_S_

/-- The weights before the mask. -/
def weights : FVec F S8x4096x4096 .f32 :=
  Host.exp (addf (Host.negf (plus (Host.negf x)))
    (concatenate S8x4096x4096 2 [⟨S8x4096x4095, extractStridedSlice S8x4096x4095 ![0, 0, 1] (ahead x) slices_S8x4096x4096_S8x4096x4095_0_0_1⟩,
      ⟨S8x4096x1, broadcastInDim S8x4096x1 ![] bcast_S_S8x4096x1 (constant S_ .f32 0x00000000#32)⟩]
      concatenates_S8x4096x4095_S8x4096x1_S8x4096x4096_d2))

/-- The weights. -/
def masked : FVec F S8x4096x4096 .f32 :=
  select earlier (weights x) (broadcastInDim S8x4096x4096 ![] bcast_S_S8x4096x4096 (id (constant S_ .f32 0x00000000#32)))

/-- The output. -/
def output : FVec F S4096x1024 .bf16 :=
  truncf .bf16 (shapeCast S4096x1024 (transpose S4096x8x128 [1, 0, 2]
    (Host.dotGeneral dot_S8x4096x4096_S8x4096x128_S8x4096x128_2_1_1_2_0_0 none (masked (scores a b)) (heads v))
    transposes_S8x4096x128_S4096x8x128_1_0_2) shapeCasts_S4096x8x128_S4096x1024) bitsLt_bf16_f32

/-- Every row's total, a head's repeated over its columns. -/
def totals : FVec F S4096x1024 .f32 :=
  shapeCast S4096x1024 (broadcastInDim S4096x8x128 ![0, 1] bcast_S4096x8_S4096x8x128_0_1
    (transpose S4096x8 [1, 0] (Host.reduceAdd (left (scores a b)) (constant S_ .f32 0x00000000#32) reducesTo_S8x4096x4096_S8x4096_d2 h_S_)
      transposes_S8x4096_S4096x8_1_0)) shapeCasts_S4096x8x128_S4096x1024

end

theorem heads_at (x : Fin 4096 → Fin 1024 → ℝ) (a : FVec Ideal S4096x1024 .f32) (ha : ∀ t y, a (ix2 t y) = ((x t y : ℝ) : EReal))
    (h : Fin 8) (t : Fin 4096) (d : Fin 128) : heads a (ix3 h t d) = ((headRow x h t.val d : ℝ) : EReal) := by
  pointwise [heads]
  rw [ha]
  refine congrArg _ ((congrArg (x t) (Fin.ext ?_)).trans (headRow_val x h t d).symm)
  simp only [colOf]; omega

theorem earlier_at (h : Fin 8) (t s : Fin 4096) : earlier (ix3 h t s) = if s.val < t.val then 1#1 else 0#1 := by
  pointwise [earlier]
  have hs : (BitVec.ofNat 32 s.val).toInt = s.val := by
    have := s.isLt
    rw [BitVec.toInt_eq_toNat_of_lt] <;> simp <;> omega
  have ht : (BitVec.ofNat 32 t.val).toInt = t.val := by
    have := t.isLt
    rw [BitVec.toInt_eq_toNat_of_lt] <;> simp <;> omega
  by_cases h : s.val < t.val <;> simp [IntOp.cmpi, BitVec.slt_eq_decide, hs, ht, h]

/-- The spelling's guard never holds of a real. -/
theorem guarded (z : ℝ) : (if (z : EReal) ≠ (z : EReal) then (z : EReal)
    else max (z : EReal) 0 + Ideal.log1p (Ideal.exp (-FloatOps.absf (F := Ideal) (φ := .f32) (z : EReal)))) = ((softplus z : ℝ) : EReal) := by
  rw [if_neg (fun h => h rfl), ← softplus_coe, zero_sub]
  rfl

theorem plus_at (x : FVec Ideal S8x4096x4096 .f32) (j : S8x4096x4096.Idx) (r : ℝ) (hr : x j = (r : EReal)) :
    plus x j = ((softplus r : ℝ) : EReal) := by
  pointwise [plus, zero]
  rw [hr]
  exact guarded _

section

variable (q k v : Fin 4096 → Fin 1024 → ℝ) (a b e : FVec Ideal S4096x1024 .f32)
  (ha : ∀ t x, a (ix2 t x) = ((q t x : ℝ) : EReal)) (hb : ∀ t x, b (ix2 t x) = ((k t x : ℝ) : EReal)) (he : ∀ t x, e (ix2 t x) = ((v t x : ℝ) : EReal))
  (h : Fin 8) (t s : Fin 4096)

include ha hb

theorem scores_at : scores a b (ix3 h t s) = (((fwdRows q k v h).z t.val s.val : ℝ) : EReal) := by
  pointwise [scores]
  simp only [heads_at q a ha, heads_at k b hb, ofBits_scale, ← EReal.coe_mul, coe_sum]
  rfl

theorem left_at : left (scores a b) (ix3 h t s) = (((fwdRows q k v h).logKeep t.val s.val : ℝ) : EReal) := by
  have hz : Host.negf (Host.negf (scores a b)) (ix3 h t s) = (((fwdRows q k v h).z t.val s.val : ℝ) : EReal) := by
    pointwise []
    rw [scores_at q k v a b ha hb, neg_neg]
  unfold left
  dsimp only [id]
  pointwise []
  rw [earlier_at, plus_at _ _ _ hz]
  unfold Rows.logKeep
  by_cases hs : s.val < t.val
  · rw [if_pos hs, if_pos hs]
    rfl
  · rw [if_neg hs, if_neg hs]
    rfl

theorem ahead_at : ahead (scores a b) (ix3 h t s) = ((∑ n ∈ Finset.range 4096, (fwdRows q k v h).logKeep t.val n
    - ∑ n ∈ Finset.range s.val, (fwdRows q k v h).logKeep t.val n : ℝ) : EReal) := by
  unfold ahead
  exact suffix_add _ (fun n => (fwdRows q k v h).logKeep t.val n) _ _ _ (by pointwise []) h t s fun n => left_at q k v a b ha hb h t n

/-- A weight before its mask. -/
theorem weights_at : weights (scores a b) (ix3 h t s)
    = ((Real.exp ((fwdRows q k v h).z t.val s.val - softplus ((fwdRows q k v h).z t.val s.val)
      + ((fwdRows q k v h).tot t.val - ∑ n ∈ Finset.range (s.val + 1), (fwdRows q k v h).logKeep t.val n)) : ℝ) : EReal) := by
  have hz : Host.negf (scores a b) (ix3 h t s) = ((-(fwdRows q k v h).z t.val s.val : ℝ) : EReal) := by
    pointwise []
    rw [scores_at q k v a b ha hb, EReal.coe_neg]
  pointwise [weights]
  rw [plus_at _ _ _ hz, show (fwdRows q k v h).tot t.val = _ from rowsOf_tot _ _ _ _ _ _]
  have e : (if hs : s.val < 4095 then (ahead (scores a b) (ix3 h t ⟨1 + s.val, by omega⟩) : EReal) else (0 : EReal))
      = ((∑ n ∈ Finset.range 4096, (fwdRows q k v h).logKeep t.val n
        - ∑ n ∈ Finset.range (s.val + 1), (fwdRows q k v h).logKeep t.val n : ℝ) : EReal) := by
    by_cases hs : s.val < 4095
    · rw [dif_pos hs, ahead_at q k v a b ha hb]
      dsimp only
      rw [Nat.add_comm 1 s.val]
    · rw [dif_neg hs, show s.val + 1 = 4096 by omega, sub_self]
      rfl
  refine (congrArg (fun x => Ideal.exp (-((softplus (-(fwdRows q k v h).z t.val s.val) : ℝ) : EReal) + x)) e).trans ?_
  rw [← EReal.coe_neg, ← EReal.coe_add, Ideal.exp_coe, softplus_neg, neg_sub]
  rfl

theorem masked_at : masked (scores a b) (ix3 h t s) = (((fwdRows q k v h).w t.val s.val : ℝ) : EReal) := by
  unfold masked
  dsimp only [id]
  pointwise []
  rw [earlier_at, weights_at q k v a b ha hb]
  unfold Rows.w
  by_cases hs : s.val < t.val
  · rw [if_pos hs, if_pos hs]
    rfl
  · rw [if_neg hs, if_neg hs]
    rfl

theorem totals_at (x : Fin 1024) : totals a b (ix2 t x) = ((outTot q k v t x : ℝ) : EReal) := by
  pointwise [totals]
  simp only [left_at q k v a b ha hb, coe_sum]
  unfold outTot
  rw [show (fwdRows q k v (headOf x)).tot t.val = _ from rowsOf_tot _ _ _ _ _ _, Finset.sum_range]
  rfl

include he

theorem output_at (x : Fin 1024) : output a b e (ix2 t x) = ((outY q k v t x : ℝ) : EReal) := by
  pointwise [output]
  simp only [masked_at q k v a b ha hb, heads_at v e he, ← EReal.coe_mul, coe_sum]
  unfold outY
  rw [Finset.sum_range]
  rfl

end

variable (m : (ℓ : Loc nD τ sig) → Buf (Elt Ideal) ℓ) (Q K W : Dev nD → Fin 4096 → Fin 1024 → ℝ)

/-- The arguments hold the named real arrays. -/
structure Given : Prop where
  q : ∀ c : Dev nD, m ((c.tc : Thread nD τ).loc main_arg0) = fun j => ((Q c (j 0) (j 1) : ℝ) : EReal)
  k : ∀ c : Dev nD, m ((c.tc : Thread nD τ).loc main_arg1) = fun j => ((K c (j 0) (j 1) : ℝ) : EReal)
  v : ∀ c : Dev nD, m ((c.tc : Thread nD τ).loc main_arg2) = fun j => ((W c (j 0) (j 1) : ℝ) : EReal)

variable {m Q K W}

/-- The run's first result is the output named above. -/
theorem res_eq (c : Dev nD) : res_main_v31 m c = output (F := Ideal) (m ((c.tc : Thread nD τ).loc main_arg0))
    (m ((c.tc : Thread nD τ).loc main_arg1)) (m ((c.tc : Thread nD τ).loc main_arg2)) := by
  unfold res_main_v31
  rfl

/-- The reference's two results. -/
theorem run_real (ρ : Dev nD → PrngReg) (H : Given m Q K W) :
    θ_run defs (onTc (τ := τ) (main (F := Ideal))) ⟨m, fun _ => 0, ρ⟩ fun r => ∀ c : Dev nD,
      r.2.mem ((c.tc : Thread nD τ).loc main_v31) = (fun j => ((outY (Q c) (K c) (W c) (j 0) (j 1) : ℝ) : EReal))
      ∧ r.2.mem ((c.tc : Thread nD τ).loc main_v52) = (fun j => ((outTot (Q c) (K c) (W c) (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run m ρ)
  obtain ⟨h0, h1, h2⟩ := h c
  have hq := fun t x => congrFun (H.q c) (ix2 t x)
  have hk := fun t x => congrFun (H.k c) (ix2 t x)
  have hv := fun t x => congrFun (H.v c) (ix2 t x)
  refine ⟨(h0.trans (res_eq c)).trans (funext fun j => ?_), (h1.trans (show _ = totals (F := Ideal) (m ((c.tc : Thread nD τ).loc main_arg0))
    (m ((c.tc : Thread nD τ).loc main_arg1)) from rfl)).trans (funext fun j => ?_), h2⟩
  · idx_vars j
    exact output_at (Q c) (K c) (W c) _ _ _ hq hk hv j0 j1
  · idx_vars j
    exact totals_at (Q c) (K c) (W c) _ _ hq hk j0 j1

end Cert.AttnFwdRefIdeal.Eqn

end
-- ==== Proof.AttnFwdBlock.lean ====
/- One head's arithmetic on a pair of tiles as the attention's forward kernel writes it, stated once for the four heads,
   the diagonal tile and the tiles before it, and its value on real arguments. -/
module

public import proofs.«01_k».proof.Proof.AttnMath
public import proofs.«01_k».proof.Proof.Gen.AttnFwdIdeal.Skeleton

@[expose] public section

set_option maxRecDepth 16384

noncomputable section

namespace Cert.AttnMath

/-- What the log-keeps of the keys behind a tile add up to. -/
def Tile.behind (T : Tile) (r : Fin 256) : ℝ := T.tot r - T.cl r - ∑ s, T.logKeep r s

/-- A tile's log-keeps up to a key and after it. -/
theorem sum_upto_after (f : Fin 256 → ℝ) (s : Fin 256) :
    ∑ x, f x = (∑ x, if x ≤ s then f x else 0) + ∑ x, if s < x then f x else 0 := by
  rw [← Finset.sum_add_distrib]
  refine Finset.sum_congr rfl fun x _ => ?_
  by_cases h : x ≤ s
  · rw [if_pos h, if_neg (not_lt.mpr h), add_zero]
  · rw [if_neg h, if_pos (not_le.mp h), zero_add]

/-- The weights, from what the keys after a key keep. -/
theorem Tile.w_after (T : Tile) : T.w = T.mask fun r s =>
    Real.exp (T.z r s - softplus (T.z r s) + (∑ x, if s < x then T.logKeep r x else 0) + T.behind r) := by
  unfold Tile.w
  congr 1
  funext r s
  refine congrArg Real.exp ?_
  rw [Tile.behind, sum_upto_after (T.logKeep r) s]
  ring

end Cert.AttnMath

namespace Cert.AttnFwdIdeal.Eqn

open Cert.AttnFwdIdeal Cert.AttnFwdIdeal.Gen
open Idealize.ShloMosaic Idealize.ShloMosaic.TcCoe Idealize.SL.Sem
open Cert.AttnMath Cert.RealLift

section Ops

variable {F : FTy → Type} [FloatOps F]

/-- One head's operands on a pair of tiles: the mask applied to scores, the triangle of ones, the tiles and what the
    keys behind keep. -/
structure Head (F : FTy → Type) where
  mask : FVec F S256x256 .f32 → FVec F S256x256 .f32
  after : FVec F S256x256 .bf16
  q : FVec F S256x128 .bf16
  k : FVec F S256x128 .bf16
  v : FVec F S256x128 .bf16
  l : FVec F S256x1 .f32

def zeros : FVec F S256x256 .f32 := broadcast S256x256 (Scalar.ofBits .f32 0x00000000#32)
def scales : FVec F S256x256 .f32 := broadcast S256x256 (Scalar.ofBits .f32 0x3DB504F3#32)

/-- The two-part product of an f32 tile with a triangle of ones. -/
def splitDot (x : FVec F S256x256 .f32) (tri : FVec F S256x256 .bf16) : FVec F S256x256 .f32 :=
  addf (matmul dot_S256x256_S256x256_S256x256_1_0_0_1_n_n none (truncf .bf16 x bitsLt_bf16_f32) tri
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

namespace Head

variable (H : Head F)

def z : FVec F S256x256 .f32 :=
  mulf (matmul dot_S256x128_S256x128_S256x256_1_1_0_0_n_n none H.q H.k (constant S256x256 .f32 0x00000000#32)) scales
def sp : FVec F S256x256 .f32 :=
  addf (maximumf H.z zeros)
    (log (addf (broadcast S256x256 (Scalar.ofBits .f32 0x3F800000#32)) (exp (subf zeros (absf H.z)))))
def logKeep : FVec F S256x256 .f32 := H.mask (subf zeros H.sp)
def w : FVec F S256x256 .f32 :=
  H.mask (exp (addf (addf (subf H.z H.sp) (splitDot H.logKeep H.after)) (broadcastTo S256x256 H.l broadcasts_S256x1_S256x256)))

/-- The output's next partial sum. -/
def oNext (a : FVec F S256x128 .f32) : FVec F S256x128 .f32 :=
  addf a (matmul dot_S256x256_S256x128_S256x128_1_0_0_1_n_n none (truncf .bf16 H.w bitsLt_bf16_f32) H.v
    (constant S256x128 .f32 0x00000000#32))
/-- The next log-keep sum. -/
def lNext : FVec F S256x1 .f32 :=
  addf H.l (shapeCast S256x1 (multiReduction .add [1] S256 H.logKeep 0x00000000#32 reduces_S256x256_S256 (.inl rfl) rfl)
    shapeCasts_S256_S256x1)

end Head

end Ops

section Values

/-- The operands of a head hold the named reals. -/
structure Real (H : Head Ideal) (T : Tile) : Prop where
  mask : ∀ (x : FVec Ideal S256x256 .f32) (y : Fin 256 → Fin 256 → ℝ), (∀ r s : Fin 256, x (ix2 r s) = ((y r s : ℝ) : EReal)) →
    ∀ r s : Fin 256, H.mask x (ix2 r s) = ((T.mask y r s : ℝ) : EReal)
  after : ∀ r s : Fin 256, H.after (ix2 r s) = (((if s < r then 1 else 0 : ℝ)) : EReal)
  q : ∀ (r : Fin 256) (d : Fin 128), H.q (ix2 r d) = ((T.q r d : ℝ) : EReal)
  k : ∀ (r : Fin 256) (d : Fin 128), H.k (ix2 r d) = ((T.k r d : ℝ) : EReal)
  v : ∀ (r : Fin 256) (d : Fin 128), H.v (ix2 r d) = ((T.v r d : ℝ) : EReal)
  l : ∀ r : Fin 256, H.l (ix2 r 0) = ((T.behind r : ℝ) : EReal)

/-- The product with the triangle of ones sums the entries after a column. -/
theorem splitDot_real (x : FVec Ideal S256x256 .f32) (tri : FVec Ideal S256x256 .bf16) (y : Fin 256 → Fin 256 → ℝ)
    (hx : ∀ r s : Fin 256, x (ix2 r s) = ((y r s : ℝ) : EReal))
    (ht : ∀ r s : Fin 256, tri (ix2 r s) = (((if s < r then 1 else 0 : ℝ)) : EReal)) (r s : Fin 256) :
    splitDot x tri (ix2 r s) = ((∑ k, if s < k then y r k else 0 : ℝ) : EReal) := by
  pointwise [splitDot]
  simp only [hx, ht, ← EReal.coe_sub, ← EReal.coe_mul, coe_sum, ← EReal.coe_add, ← EReal.coe_zero, sub_self, zero_mul,
    Finset.sum_const_zero, add_zero, zero_add, mul_ite, mul_one, mul_zero, ite_self]

variable {H : Head Ideal} {T : Tile}

theorem z_real (h : Real H T) (r s : Fin 256) : H.z (ix2 r s) = ((T.z r s : ℝ) : EReal) := by
  pointwise [Head.z, scales]
  simp only [h.q, h.k, Scalar.ofBits, ofBits_scale, ← EReal.coe_mul, coe_sum, ← EReal.coe_zero, ← EReal.coe_add, zero_add]
  rfl

theorem sp_real (h : Real H T) (r s : Fin 256) : H.sp (ix2 r s) = ((softplus (T.z r s) : ℝ) : EReal) := by
  pointwise [Head.sp, zeros]
  rw [z_real h]
  exact softplus_coe _

theorem logKeep_real (h : Real H T) (r s : Fin 256) : H.logKeep (ix2 r s) = ((T.logKeep r s : ℝ) : EReal) := by
  refine h.mask _ _ (fun r s => ?_) r s
  pointwise [zeros]
  rw [sp_real h, ← EReal.coe_zero, ← EReal.coe_sub, zero_sub]

theorem w_real (h : Real H T) (r s : Fin 256) : H.w (ix2 r s) = ((T.w r s : ℝ) : EReal) := by
  rw [Tile.w_after]
  refine h.mask _ _ (fun r s => ?_) r s
  have hs := splitDot_real H.logKeep H.after T.logKeep (logKeep_real h) h.after r s
  pointwise []
  rw [hs, z_real h, sp_real h, h.l]
  simp only [← EReal.coe_sub, ← EReal.coe_add, Ideal.exp_coe]

theorem oNext_real (h : Real H T) (a : FVec Ideal S256x128 .f32) (r : Fin 256) (d : Fin 128) (y : ℝ)
    (ha : a (ix2 r d) = ((y : ℝ) : EReal)) :
    H.oNext a (ix2 r d) = ((y + ∑ s, T.w r s * T.v s d : ℝ) : EReal) := by
  pointwise [Head.oNext]
  simp only [ha, w_real h, h.v, ← EReal.coe_mul, coe_sum, ← EReal.coe_zero, ← EReal.coe_add, zero_add]

theorem lNext_real (h : Real H T) (r : Fin 256) :
    H.lNext (ix2 r 0) = ((T.behind r + ∑ s, T.logKeep r s : ℝ) : EReal) := by
  pointwise [Head.lNext]
  simp only [logKeep_real h, h.l, coe_sum, ← EReal.coe_add]

end Values

end Cert.AttnFwdIdeal.Eqn

end
-- ==== Proof.AttnFwdTrip.lean ====
/- The attention's forward kernel, one trip of its loop over the key tiles before the diagonal: each head's arithmetic. -/
module

public import proofs.«01_k».proof.Proof.AttnFwdBlock
public import proofs.«01_k».proof.Proof.Gen.AttnFwdIdeal.Loops

@[expose] public section

set_option maxRecDepth 16384

noncomputable section

namespace Cert.AttnFwdIdeal.Eqn

open Cert.AttnFwdIdeal Cert.AttnFwdIdeal.Gen
open Idealize.ShloMosaic Idealize.ShloMosaic.TcCoe Idealize.SL.Sem
open Cert.AttnMath Cert.RealLift

variable {F : FTy → Type} [FloatOps F]

/-- What the loop carries: each head's output and log-keep sum. -/
abbrev Carry (F : FTy → Type) : Type :=
  FVec F S256x128 .f32 × FVec F S256x1 .f32 × FVec F S256x128 .f32 × FVec F S256x1 .f32
    × FVec F S256x128 .f32 × FVec F S256x1 .f32 × FVec F S256x128 .f32 × FVec F S256x1 .f32

def Carry.o (a : Carry F) : Fin 4 → FVec F S256x128 .f32 := ![a.1, a.2.2.1, a.2.2.2.2.1, a.2.2.2.2.2.2.1]
def Carry.l (a : Carry F) : Fin 4 → FVec F S256x1 .f32 := ![a.2.1, a.2.2.2.1, a.2.2.2.2.2.1, a.2.2.2.2.2.2.2]

/-- What the loop is run with: the program's buffers and the vectors at hand before it. Past the keys' and the values'
    contents, those the loop's body does not read. -/
structure Args (F : FTy → Type) where
  c : Dev nD
  i : grid0.Coords
  a2 : Memref sig .tc .vmem S256x512 .bf16
  h2 : a2.IsWhole
  a3 : Memref sig .tc .vmem S4096x512 .bf16
  h3 : a3.IsWhole
  a4 : Memref sig .tc .vmem S4096x512 .bf16
  h4 : a4.IsWhole
  a5 : Memref sig .tc .vmem S256x512 .bf16
  h5 : a5.IsWhole
  a6 : Memref sig .tc .vmem S256x512 .f32
  h6 : a6.IsWhole
  a1 : BitVec 32
  after : FVec F S256x256 .bf16
  q : Fin 4 → FVec F S256x128 .bf16
  X3 : BufTy.Contents (Elt F) a3.view.ty
  X4 : BufTy.Contents (Elt F) a4.view.ty
  zl : Fin 4 → FVec F S256x1 .f32
  zo : Fin 4 → FVec F S256x128 .f32
  row : BitVec 32
  keep : Fin 4 → FVec F S256x256 .f32
  wt : Fin 4 → FVec F S256x256 .f32
  out : Fin 4 → FVec F S256x128 .f32

namespace Args

variable (A : Args F)

/-- The carries after `n` trips. -/
def st (init : Carry F) (n : ℕ) : Carry F :=
  st_k0_t1 (F := F) Variants.none A.c none A.i A.a2 A.h2 A.a3 A.h3 A.a4 A.h4 A.a5 A.h5 A.a6 A.h6 A.a1 A.after (A.q 0) (A.q 1) (A.q 2) (A.q 3)
    (A.zl 0) (A.zl 1) (A.zo 2) (A.zl 2) (A.zo 3) (A.zl 3) A.row (A.keep 0) (A.keep 1) (A.keep 2) (A.keep 3) (A.wt 2) (A.wt 3)
    (A.out 0) (A.out 1) A.X3 A.X4 init n

/-- One trip's carries. -/
def trip (k : Fin (k0_t1_loop A.i).trips) (acc : Carry F) : Carry F :=
  (trip_k0_t1 (F := F) Variants.none A.c none A.i A.a2 A.h2 A.a3 A.h3 A.a4 A.h4 A.a5 A.h5 A.a6 A.h6 A.a1 A.after (A.q 0) (A.q 1) (A.q 2) (A.q 3)
    (A.zl 0) (A.zl 1) (A.zo 2) (A.zl 2) (A.zo 3) (A.zl 3) A.row (A.keep 0) (A.keep 1) (A.keep 2) (A.keep 3) (A.wt 2) (A.wt 3)
    (A.out 0) (A.out 1) A.X3 A.X4 k).1 acc

/-- What a buffer holds in the trip's rows, in each head's columns. -/
def ofRect {Val : EltTy → Type} {e : EltTy} {a : Memref sig .tc .vmem S4096x512 e} (f : BufTy.Contents Val a.view.ty)
    (k : Fin (k0_t1_loop A.i).trips) : Fin 4 → (S256x128.Idx → Val e) := ![
  a.view.readAt Val (Rect.unit (s := S4096x512) (k0_off5 A.i k) S256x128.size (k0_off5_inb A.i k)).toLoadRect f,
  a.view.readAt Val (Rect.unit (s := S4096x512) (k0_off6 A.i k) S256x128.size (k0_off6_inb A.i k)).toLoadRect f,
  a.view.readAt Val (Rect.unit (s := S4096x512) (k0_off7 A.i k) S256x128.size (k0_off7_inb A.i k)).toLoadRect f,
  a.view.readAt Val (Rect.unit (s := S4096x512) (k0_off8 A.i k) S256x128.size (k0_off8_inb A.i k)).toLoadRect f]

/-- A head's operands in a trip. -/
def head (k : Fin (k0_t1_loop A.i).trips) (acc : Carry F) (h : Fin 4) : Head F where
  mask := id
  after := A.after
  q := A.q h
  k := shapeCast S256x128 (A.ofRect (a := A.a3) A.X3 k h) shapeCasts_S256x128_S256x128
  v := shapeCast S256x128 (A.ofRect (a := A.a4) A.X4 k h) shapeCasts_S256x128_S256x128
  l := acc.l h

theorem trip_o (k : Fin (k0_t1_loop A.i).trips) (acc : Carry F) (h : Fin 4) :
    (A.trip k acc).o h = (A.head k acc h).oNext (acc.o h) := by
  fin_cases h <;> (unfold trip trip_k0_t1; rfl)

theorem trip_l (k : Fin (k0_t1_loop A.i).trips) (acc : Carry F) (h : Fin 4) :
    (A.trip k acc).l h = (A.head k acc h).lNext := by
  fin_cases h <;> (unfold trip trip_k0_t1; rfl)

end Args

end Cert.AttnFwdIdeal.Eqn

end
-- ==== Proof.AttnFwdLoop.lean ====
/- The attention's forward kernel, its loop on real arguments: from the diagonal back to the first tile of keys. -/
module

public import proofs.«01_k».proof.Proof.AttnFwdTrip
public import proofs.«01_k».proof.Proof.AttnStore

@[expose] public section

set_option maxRecDepth 16384

noncomputable section

namespace Cert.AttnFwdIdeal.Eqn

open Cert.AttnFwdIdeal Cert.AttnFwdIdeal.Gen
open Idealize.ShloMosaic Idealize.ShloMosaic.TcCoe Idealize.SL.Sem
open Cert.AttnMath Cert.RealLift
open Cert.AttnIdeal.Eqn (col exists_col readAt_head stores read_stores_of_mem)

/-- The first row of the tile a trip reads: the loop goes backwards. -/
theorem start_val : ∀ i n : Fin 16, n < i →
    (Scalar.indexCast (Scalar.muli (Scalar.subi (Scalar.subi (BitVec.ofNat 32 i.val) 1#32) (Scf.iv 0#32 1#32 n.val)) 256#32)).toNat
      = 256 * (i.val - 1 - n.val) := by decide +kernel

section

variable {F : FTy → Type} [FloatOps F] (A : Args F) (k : Fin (k0_t1_loop A.i).trips)

/-- Where each head's columns of the trip's rows start. -/
def Args.off : Fin 4 → Fin 2 → ℕ := ![k0_off5 A.i k, k0_off6 A.i k, k0_off7 A.i k, k0_off8 A.i k]

theorem Args.off_eq (hi : (A.i 1).val < 16) (hk : k.val < (A.i 1).val) (h : Fin 4) :
    A.off k h = ![256 * ((A.i 1).val - 1 - k.val), 128 * h.val] := by
  have hs := start_val ⟨(A.i 1).val, hi⟩ ⟨k.val, hk.trans hi⟩ hk
  fin_cases h <;> exact congrArg (fun n => ![n, _]) hs

theorem Args.ofRect_at {e : EltTy} {a : Memref sig .tc .vmem S4096x512 e} (f : BufTy.Contents (Elt F) a.view.ty)
    (hi : (A.i 1).val < 16) (hk : k.val < (A.i 1).val) (h : Fin 4) (r : Fin 256) (d : Fin 128) :
    A.ofRect (a := a) f k h (ix2 r d)
      = a.view.read (Elt F) f (ix2 ⟨256 * ((A.i 1).val - 1 - k.val) + r.val, by omega⟩ (col h d)) := by
  have e := A.off_eq k hi hk
  fin_cases h
  · exact readAt_head (N := 4096) a.view f _ 0 (e 0) _ r d _ rfl
  · exact readAt_head (N := 4096) a.view f _ 1 (e 1) _ r d _ rfl
  · exact readAt_head (N := 4096) a.view f _ 2 (e 2) _ r d _ rfl
  · exact readAt_head (N := 4096) a.view f _ 3 (e 3) _ r d _ rfl

end

/-- The loop's operands at tile `i` of the queries hold the named reals. -/
structure Holds (A : Args Ideal) (R : Fin 4 → Rows) (i : ℕ) : Prop where
  lt : i < 16
  trips : (k0_t1_loop A.i).trips = i
  row : (A.i 1).val = i
  after : ∀ r s : Fin 256, A.after (ix2 r s) = (((if s < r then 1 else 0 : ℝ)) : EReal)
  q : ∀ (h : Fin 4) (r : Fin 256) (d : Fin 128), A.q h (ix2 r d) = (((R h).q (256 * i + r.val) d : ℝ) : EReal)
  k : ∀ (h : Fin 4) (s : Fin 4096) (d : Fin 128), A.a3.view.read (Elt Ideal) A.X3 (ix2 s (col h d)) = (((R h).k s.val d : ℝ) : EReal)
  v : ∀ (h : Fin 4) (s : Fin 4096) (d : Fin 128), A.a4.view.read (Elt Ideal) A.X4 (ix2 s (col h d)) = (((R h).v s.val d : ℝ) : EReal)

/-- The carries of tile `i` of the queries with the first `n` tiles of keys still to come. -/
structure Carried (R : Fin 4 → Rows) (i n : ℕ) (a : Carry Ideal) : Prop where
  o : ∀ (h : Fin 4) (r : Fin 256) (d : Fin 128), a.o h (ix2 r d)
    = (((∑ s ∈ Finset.range (256 * (i + 1)), (R h).w (256 * i + r.val) s * (R h).v s d)
        - ∑ s ∈ Finset.range (256 * n), (R h).w (256 * i + r.val) s * (R h).v s d : ℝ) : EReal)
  l : ∀ (h : Fin 4) (r : Fin 256), a.l h (ix2 r 0)
    = (((R h).tot (256 * i + r.val) - ∑ s ∈ Finset.range (256 * n), (R h).logKeep (256 * i + r.val) s : ℝ) : EReal)

/-- What the keys behind a tile keep. -/
theorem behind_tile (R : Rows) (i j : ℕ) (r : Fin 256) :
    (R.tile i j).behind r = R.tot (256 * i + r.val) - ∑ s ∈ Finset.range (256 * (j + 1)), R.logKeep (256 * i + r.val) s := by
  rw [Tile.behind, sum_range_tile, ← sub_sub]
  simp only [Rows.tile_logKeep]
  rfl

variable {A : Args Ideal} {R : Fin 4 → Rows} {i : ℕ}

/-- A tile's step, given the head's operands. -/
theorem carried_step {j : ℕ} {a b : Carry Ideal} (ha : Carried R i (j + 1) a) {H : Fin 4 → Head Ideal}
    (hH : ∀ h, Real (H h) ((R h).tile i j)) (ho : ∀ h, b.o h = (H h).oNext (a.o h)) (hl : ∀ h, b.l h = (H h).lNext) : Carried R i j b := by
  refine ⟨fun h r d => ?_, fun h r => ?_⟩
  · rw [ho, oNext_real (hH h) _ _ _ _ (ha.o h r d), sum_range_tile j]
    simp only [Rows.tile_w]
    refine congrArg _ ?_
    rw [← sub_sub, sub_add]
    exact sub_eq_self.mpr (sub_self _)
  · rw [hl, lNext_real (hH h), behind_tile, sum_range_tile]
    simp only [Rows.tile_logKeep]
    refine congrArg _ ?_
    ring

/-- A head's operands in trip `k`. -/
theorem head_real (H : Holds A R i) (k : Fin (k0_t1_loop A.i).trips) {a : Carry Ideal} (ha : Carried R i (i - 1 - k.val + 1) a) (h : Fin 4) :
    Real (A.head k a h) ((R h).tile i (i - 1 - k.val)) := by
  have hk : k.val < i := lt_of_lt_of_eq k.isLt H.trips
  have hi : (A.i 1).val < 16 := lt_of_eq_of_lt H.row H.lt
  have hk' : k.val < (A.i 1).val := lt_of_lt_of_eq hk H.row.symm
  refine ⟨fun x y hx r s => ?_, H.after, H.q h, fun s d => ?_, fun s d => ?_, fun r => (ha.l h r).trans ?_⟩
  · rw [Rows.tile_mask_lt _ _ _ _ _ (by omega)]; exact hx r s
  · unfold Args.head
    pointwise []
    rw [A.ofRect_at k _ hi hk', H.k]
    simp only [H.row]
    rfl
  · unfold Args.head
    pointwise []
    rw [A.ofRect_at k _ hi hk', H.v]
    simp only [H.row]
    rfl
  · rw [behind_tile]

/-- What the loop has carried after `n` trips. -/
theorem loop_real (H : Holds A R i) (init : Carry Ideal) (hi : Carried R i i init) (n : ℕ) (hn : n ≤ i) :
    Carried R i (i - n) (A.st init n) := by
  induction n with
  | zero => exact hi
  | succ n ih =>
    have hc := ih (by omega)
    have hlt : n < (k0_t1_loop A.i).trips := by rw [H.trips]; omega
    have hst : A.st init (n + 1) = A.trip ⟨n, hlt⟩ (A.st init n) :=
      st_k0_t1_succ (F := Ideal) _ _ _ _ _ _ _ _ _ _ _ _ _ _ _ _ _ _ _ _ _ _ _ _ _ _ _ _ _ _ _ _ _ _ _ _ _ _ ⟨n, hlt⟩
    rw [hst]
    generalize A.st init n = S at hc ⊢
    rw [show i - n = i - 1 - n + 1 by omega] at hc
    rw [show i - (n + 1) = i - 1 - n by omega]
    exact carried_step hc (fun h => head_real H ⟨n, hlt⟩ hc h) (fun h => A.trip_o _ _ h) (fun h => A.trip_l _ _ h)

end Cert.AttnFwdIdeal.Eqn

end
-- ==== Proof.AttnFwdPoint.lean ====
/- The attention's forward kernel, one grid point: the diagonal tile, the loop over the key tiles before it, and the stores. -/
module

public import proofs.«01_k».proof.Proof.AttnFwdLoop
public import proofs.«01_k».proof.Proof.Gen.AttnFwdIdeal.Frame.RunA

@[expose] public section

set_option maxRecDepth 16384

noncomputable section

namespace Cert.AttnFwdIdeal.Eqn

open Cert.AttnFwdIdeal Cert.AttnFwdIdeal.Gen
open Idealize.ShloMosaic Idealize.ShloMosaic.TcCoe Idealize.SL.Sem
open Cert.AttnMath Cert.RealLift
open Cert.AttnIdeal.Eqn (col exists_col readAt_head stores read_stores_of_mem)

/-- What one grid point is run with: its buffers and the blocks it reads. -/
structure Bufs (F : FTy → Type) where
  c : Dev nD
  i : grid0.Coords
  a2 : Memref sig .tc .vmem S256x512 .bf16
  h2 : a2.IsWhole
  a3 : Memref sig .tc .vmem S4096x512 .bf16
  h3 : a3.IsWhole
  a4 : Memref sig .tc .vmem S4096x512 .bf16
  h4 : a4.IsWhole
  a5 : Memref sig .tc .vmem S256x512 .bf16
  h5 : a5.IsWhole
  a6 : Memref sig .tc .vmem S256x512 .f32
  h6 : a6.IsWhole
  x0 : Vec F S256x512 .bf16
  x1 : Vec F S4096x512 .bf16
  x2 : Vec F S4096x512 .bf16

/-- Nothing added up yet. -/
def noRows {F : FTy → Type} [FloatOps F] : FVec F S256x128 .f32 := broadcast S256x128 (Scalar.ofBits .f32 0x00000000#32)
def noSum {F : FTy → Type} [FloatOps F] : FVec F S256x1 .f32 := broadcast S256x1 (Scalar.ofBits .f32 0x00000000#32)

namespace Bufs

variable {F : FTy → Type} [FloatOps F] (B : Bufs F)

/-- The tile of queries, head by head. -/
def heads : Fin 4 → S256x128.Idx → Elt F .bf16 := ![
  B.a2.view.readAt (Elt F) (Rect.unit (s := S256x512) ![0, 0] S256x128.size inb_S256x512_S256x128_0_0).toLoadRect (B.h2.unread B.x0),
  B.a2.view.readAt (Elt F) (Rect.unit (s := S256x512) ![0, 128] S256x128.size inb_S256x512_S256x128_0_128).toLoadRect (B.h2.unread B.x0),
  B.a2.view.readAt (Elt F) (Rect.unit (s := S256x512) ![0, 256] S256x128.size inb_S256x512_S256x128_0_256).toLoadRect (B.h2.unread B.x0),
  B.a2.view.readAt (Elt F) (Rect.unit (s := S256x512) ![0, 384] S256x128.size inb_S256x512_S256x128_0_384).toLoadRect (B.h2.unread B.x0)]

/-- What a buffer holds in the diagonal's rows, in each head's columns. -/
def ofRect {Val : EltTy → Type} {e : EltTy} (a : Memref sig .tc .vmem S4096x512 e) (f : BufTy.Contents Val a.view.ty) :
    Fin 4 → (S256x128.Idx → Val e) := ![
  a.view.readAt Val (Rect.unit (s := S4096x512) (k0_off1 B.i) S256x128.size (k0_off1_inb B.i)).toLoadRect f,
  a.view.readAt Val (Rect.unit (s := S4096x512) (k0_off2 B.i) S256x128.size (k0_off2_inb B.i)).toLoadRect f,
  a.view.readAt Val (Rect.unit (s := S4096x512) (k0_off3 B.i) S256x128.size (k0_off3_inb B.i)).toLoadRect f,
  a.view.readAt Val (Rect.unit (s := S4096x512) (k0_off4 B.i) S256x128.size (k0_off4_inb B.i)).toLoadRect f]

/-- Where each head's columns of the diagonal's rows start. -/
def off : Fin 4 → Fin 2 → ℕ := ![k0_off1 B.i, k0_off2 B.i, k0_off3 B.i, k0_off4 B.i]

/-- A head's operands on the diagonal. -/
def diag (h : Fin 4) : Head F where
  mask := fun x => select k0_pay49 x zeros
  after := k0_pay48
  q := shapeCast S256x128 (B.heads h) shapeCasts_S256x128_S256x128
  k := shapeCast S256x128 (B.ofRect B.a3 (B.h3.unread B.x1) h) shapeCasts_S256x128_S256x128
  v := shapeCast S256x128 (B.ofRect B.a4 (B.h4.unread B.x2) h) shapeCasts_S256x128_S256x128
  l := noSum

/-- The loop's operands. -/
def args : Args F where
  c := B.c
  i := B.i
  a2 := B.a2
  h2 := B.h2
  a3 := B.a3
  h3 := B.h3
  a4 := B.a4
  h4 := B.h4
  a5 := B.a5
  h5 := B.h5
  a6 := B.a6
  h6 := B.h6
  a1 := BitVec.ofNat 32 (B.i 1).val
  after := k0_pay48
  q := fun h => shapeCast S256x128 (B.heads h) shapeCasts_S256x128_S256x128
  X3 := B.h3.unread B.x1
  X4 := B.h4.unread B.x2
  zl := fun _ => noSum
  zo := fun _ => noRows
  row := Scalar.muli (BitVec.ofNat 32 (B.i 1).val) 256#32
  keep := fun h => (B.diag h).logKeep
  wt := fun h => (B.diag h).w
  out := fun h => (B.diag h).oNext noRows

/-- The carries after the diagonal. -/
def carry0 : Carry F :=
  ((B.diag 0).oNext noRows, (B.diag 0).lNext, (B.diag 1).oNext noRows, (B.diag 1).lNext,
    (B.diag 2).oNext noRows, (B.diag 2).lNext, (B.diag 3).oNext noRows, (B.diag 3).lNext)

/-- The loop over the key tiles before the diagonal. -/
def loop : Carry F := B.args.st B.carry0 (k0_t1_loop B.i).trips

/-- The number of trips as the loop's remainder is given it. -/
def upTo : BitVec 32 := Scalar.addi 0#32 (Scalar.muli (Scalar.divsi (Scalar.subi (BitVec.ofNat 32 (B.i 1).val) 0#32) 1#32) 1#32)

/-- The loop's remainder, which the printed program runs no times. -/
def rest (acc : Carry F) : Carry F :=
  st_k0_t2 (F := F) Variants.none B.c none B.i B.a2 B.h2 B.a3 B.h3 B.a4 B.h4 B.a5 B.h5 B.a6 B.h6 B.args.a1 B.args.after
    (B.args.q 0) (B.args.q 1) (B.args.q 2) (B.args.q 3)
    (B.args.zl 0) (B.args.zl 1) (B.args.zo 2) (B.args.zl 2) (B.args.zo 3) (B.args.zl 3) B.args.row (B.args.keep 0) (B.args.keep 1)
    (B.args.keep 2) (B.args.keep 3) (B.args.wt 2) (B.args.wt 3) (B.args.out 0) (B.args.out 1) B.upTo B.args.X3 B.args.X4 acc
    (k0_t2_loop B.i).trips

theorem rest_eq (h : (k0_t2_loop B.i).trips = 0) (acc : Carry F) : B.rest acc = acc := by
  unfold rest
  rw [h]
  rfl

/-- An output tile's columns. -/
def colOff : Fin 4 → Fin 2 → ℕ := ![![0, 0], ![0, 128], ![0, 256], ![0, 384]]

theorem colOff_inb : ∀ h a, colOff h a + S256x128.size a ≤ S256x512.size a := by
  intro h
  fin_cases h
  exacts [inb_S256x512_S256x128_0_0, inb_S256x512_S256x128_0_128, inb_S256x512_S256x128_0_256, inb_S256x512_S256x128_0_384]

/-- The stores of the output's tile and of the totals'. -/
def pieces (acc : Carry F) : List (View.Piece (Elt F) S256x512 .bf16) × List (View.Piece (Elt F) S256x512 .f32) :=
  (stores (N := 256) (Val := Elt F) (e := .bf16) colOff colOff_inb (fun h => truncf .bf16 (acc.o h) bitsLt_bf16_f32) [],
    stores (N := 256) (Val := Elt F) (e := .f32) colOff colOff_inb
      (fun h => broadcastTo S256x128 (shapeCast S256x1 (acc.l h) shapeCasts_S256x1_S256x1) broadcasts_S256x1_S256x128) [])

def run :=
  kernelRun0_A (F := F) B.c B.i B.a2 B.h2 B.a3 B.h3 B.a4 B.h4 B.a5 B.h5 B.a6 B.h6 B.x0 B.x1 B.x2

set_option maxHeartbeats 2000000 in
theorem run_eq (h : (k0_t2_loop B.i).trips = 0) : (B.run.1, B.run.2.1) = pieces B.loop := by
  have e : pieces (B.rest B.loop) = pieces B.loop := congrArg pieces (B.rest_eq h _)
  rw [← e]
  sl_kernel_rfl

end Bufs

/-- Comparing two positions below 256 as 32-bit numbers. -/
theorem toInt_small (n : Fin 256) : (BitVec.ofNat 32 n.val).toInt = n.val := by
  have := n.isLt
  rw [BitVec.toInt_eq_toNat_of_lt] <;> simp <;> omega

/-- The signed comparisons as bits. -/
theorem slt_small (r s : Fin 256) : IntOp.cmpi .slt (BitVec.ofNat 32 r.val) (BitVec.ofNat 32 s.val) = if r < s then 1#1 else 0#1 := by
  by_cases h : r < s <;> simp [IntOp.cmpi, BitVec.slt_eq_decide, toInt_small, h, Fin.lt_def.symm]

theorem sgt_small (r s : Fin 256) : IntOp.cmpi .sgt (BitVec.ofNat 32 r.val) (BitVec.ofNat 32 s.val) = if s < r then 1#1 else 0#1 := by
  by_cases h : s < r <;> simp [IntOp.cmpi, BitVec.slt_eq_decide, toInt_small, h, Fin.lt_def.symm]

/-- A bit as a real. -/
theorem bit_real (p : Prop) [Decidable p] :
    (FloatOps.sitofp (F := Ideal) FTy.f32 (BitVec.setWidth 32 (if p then 1#1 else 0#1)) : EReal) = (((if p then 1 else 0 : ℝ)) : EReal) := by
  by_cases h : p <;> simp [h, FloatOps.sitofp]

theorem after_real (r s : Fin 256) : (k0_pay48 (F := Ideal)) (ix2 r s) = (((if s < r then 1 else 0 : ℝ)) : EReal) := by
  pointwise [k0_pay48]
  rw [sgt_small]
  exact bit_real _

theorem causal_at (r s : Fin 256) : k0_pay49 (ix2 r s) = if s < r then 1#1 else 0#1 := by
  pointwise [k0_pay49]
  exact slt_small s r

variable {B : Bufs Ideal} {R : Fin 4 → Rows} {i : ℕ}

/-- A grid point's blocks hold the named reals, for tile `i` of the queries. -/
structure Held (B : Bufs Ideal) (R : Fin 4 → Rows) (i : ℕ) : Prop where
  lt : i < 16
  trips : (k0_t1_loop B.i).trips = i
  none : (k0_t2_loop B.i).trips = 0
  row : (B.i 1).val = i
  off : ∀ h, B.off h = ![256 * i, 128 * h.val]
  q : ∀ (h : Fin 4) (r : Fin 256) (d : Fin 128), B.x0 (ix2 r (col h d)) = (((R h).q (256 * i + r.val) d : ℝ) : EReal)
  k : ∀ (h : Fin 4) (s : Fin 4096) (d : Fin 128), B.x1 (ix2 s (col h d)) = (((R h).k s.val d : ℝ) : EReal)
  v : ∀ (h : Fin 4) (s : Fin 4096) (d : Fin 128), B.x2 (ix2 s (col h d)) = (((R h).v s.val d : ℝ) : EReal)
  tot : ∀ (h : Fin 4) (t : ℕ), (R h).tot t = ∑ s ∈ Finset.range 4096, (R h).logKeep t s

theorem colOff_eq (h : Fin 4) : Bufs.colOff h = ![0, 128 * h.val] := by fin_cases h <;> rfl

theorem Held.heads_at (H : Held B R i) (h : Fin 4) (r : Fin 256) (d : Fin 128) : B.heads h (ix2 r d) = B.x0 (ix2 r (col h d)) := by
  have e : r.val = 0 + r.val := by omega
  refine Eq.trans ?_ (congrFun (B.h2.read_unread B.x0) _)
  fin_cases h
  · exact readAt_head (N := 256) B.a2.view _ 0 0 (colOff_eq 0) _ r d r e
  · exact readAt_head (N := 256) B.a2.view _ 0 1 (colOff_eq 1) _ r d r e
  · exact readAt_head (N := 256) B.a2.view _ 0 2 (colOff_eq 2) _ r d r e
  · exact readAt_head (N := 256) B.a2.view _ 0 3 (colOff_eq 3) _ r d r e

theorem Held.heads_q (H : Held B R i) (h : Fin 4) (r : Fin 256) (d : Fin 128) :
    B.args.q h (ix2 r d) = (((R h).q (256 * i + r.val) d : ℝ) : EReal) := by
  refine Eq.trans ?_ (H.q h r d)
  unfold Bufs.args
  pointwise []
  rw [H.heads_at]

theorem Held.holds (H : Held B R i) : Holds B.args R i :=
  ⟨H.lt, H.trips, H.row, after_real, H.heads_q,
    fun h s d => (congrFun (B.h3.read_unread B.x1) _).trans (H.k h s d),
    fun h s d => (congrFun (B.h4.read_unread B.x2) _).trans (H.v h s d)⟩

theorem Held.ofRect_at (H : Held B R i) {e : EltTy} (a : Memref sig .tc .vmem S4096x512 e) (f : BufTy.Contents (Elt Ideal) a.view.ty)
    (h : Fin 4) (r : Fin 256) (d : Fin 128) :
    B.ofRect a f h (ix2 r d) = a.view.read (Elt Ideal) f (ix2 ⟨256 * i + r.val, by have := H.lt; omega⟩ (col h d)) := by
  fin_cases h
  · exact readAt_head (N := 4096) a.view f (256 * i) 0 (H.off 0) _ r d _ rfl
  · exact readAt_head (N := 4096) a.view f (256 * i) 1 (H.off 1) _ r d _ rfl
  · exact readAt_head (N := 4096) a.view f (256 * i) 2 (H.off 2) _ r d _ rfl
  · exact readAt_head (N := 4096) a.view f (256 * i) 3 (H.off 3) _ r d _ rfl

/-- Keys from a query's own position on keep everything. -/
theorem sum_logKeep (R : Rows) {t n : ℕ} (hn : t ≤ n) (hN : n ≤ 4096) :
    ∑ s ∈ Finset.range 4096, R.logKeep t s = ∑ s ∈ Finset.range n, R.logKeep t s :=
  (Finset.sum_subset (fun s hs => Finset.mem_range.mpr ((Finset.mem_range.mp hs).trans_le hN)) fun s _ hs =>
    if_neg (by have := Finset.mem_range.not.mp hs; omega)).symm

/-- Nothing lies behind the diagonal. -/
theorem Held.behind (H : Held B R i) (h : Fin 4) (r : Fin 256) : ((R h).tile i i).behind r = 0 := by
  have := H.lt
  rw [behind_tile, H.tot, sum_logKeep _ (n := 256 * (i + 1)) (by omega) (by omega), sub_self]

/-- A head's operands on the diagonal. -/
theorem diag_real (H : Held B R i) (h : Fin 4) : Real (B.diag h) ((R h).tile i i) := by
  refine ⟨fun x y hx r s => ?_, after_real, fun r d => H.heads_q h r d, fun s d => ?_, fun s d => ?_, fun r => ?_⟩
  · rw [Rows.tile_mask_diag]
    unfold Bufs.diag
    pointwise [zeros]
    rw [causal_at, hx]
    by_cases hsr : s < r
    · rw [if_pos hsr, if_pos hsr]; rfl
    · rw [if_neg hsr, if_neg hsr]; rfl
  · unfold Bufs.diag
    pointwise []
    rw [H.ofRect_at, Memref.IsWhole.read_unread, H.k]
    rfl
  · unfold Bufs.diag
    pointwise []
    rw [H.ofRect_at, Memref.IsWhole.read_unread, H.v]
    rfl
  · rw [H.behind]
    exact Ideal.ofBits_zero_f32

/-- The carries after the diagonal. -/
theorem Held.carried0 (H : Held B R i) : Carried R i i B.carry0 := by
  refine carried_step (a := (noRows, noSum, noRows, noSum, noRows, noSum, noRows, noSum)) ⟨fun h r d => ?_, fun h r => ?_⟩ (diag_real H)
    (fun h => ?_) (fun h => ?_)
  · rw [sub_self]
    fin_cases h <;> exact Ideal.ofBits_zero_f32
  · rw [← behind_tile, H.behind]
    fin_cases h <;> exact Ideal.ofBits_zero_f32
  · fin_cases h <;> rfl
  · fin_cases h <;> rfl

/-- The carries after the loop. -/
theorem Held.carried (H : Held B R i) : Carried R i 0 B.loop := by
  have := loop_real H.holds B.carry0 H.carried0 i le_rfl
  rw [Nat.sub_self] at this
  unfold Bufs.loop
  rw [H.trips]
  exact this

/-- The output's tile. -/
theorem Held.o_at (H : Held B R i) {κ : Kind} {sp : Space} (v : View sig κ sp S256x512 .bf16) (G : v.ty.Contents (Elt Ideal))
    (h : Fin 4) (r : Fin 256) (d : Fin 128) :
    v.read (Elt Ideal) (v.writes (Elt Ideal) G B.run.1) (ix2 r (col h d))
      = ((∑ s ∈ Finset.range (256 * (i + 1)), (R h).w (256 * i + r.val) s * (R h).v s d : ℝ) : EReal) := by
  rw [show B.run.1 = (Bufs.pieces B.loop).1 from congrArg Prod.fst (B.run_eq H.none)]
  unfold Bufs.pieces
  rw [read_stores_of_mem (N := 256) v G colOff_eq _ _ _ r h d r (by omega)]
  refine (H.carried.o h r d).trans ?_
  rw [Nat.mul_zero, Finset.range_zero, Finset.sum_empty, sub_zero]

/-- The totals' tile. -/
theorem Held.l_at (H : Held B R i) {κ : Kind} {sp : Space} (v : View sig κ sp S256x512 .f32) (G : v.ty.Contents (Elt Ideal))
    (h : Fin 4) (r : Fin 256) (d : Fin 128) :
    v.read (Elt Ideal) (v.writes (Elt Ideal) G B.run.2.1) (ix2 r (col h d)) = (((R h).tot (256 * i + r.val) : ℝ) : EReal) := by
  rw [show B.run.2.1 = (Bufs.pieces B.loop).2 from congrArg Prod.snd (B.run_eq H.none)]
  unfold Bufs.pieces
  rw [read_stores_of_mem (N := 256) v G colOff_eq _ _ _ r h d r (by omega)]
  pointwise []
  refine (H.carried.l h r).trans ?_
  rw [Nat.mul_zero, Finset.range_zero, Finset.sum_empty, sub_zero]

end Cert.AttnFwdIdeal.Eqn

end
-- ==== Proof.AttnFwdKernel.lean ====
/- The attention's forward kernel, what its call leaves on real arguments: the output and the log-keep totals, a group of
   four heads at a time and a tile of 256 queries at a time. -/
module

public import proofs.«01_k».proof.Proof.AttnFwdPoint
public import proofs.«01_k».proof.Proof.AttnFwdMath
public import proofs.«01_k».proof.Proof.Gen.AttnFwdIdeal.Value

@[expose] public section

set_option maxRecDepth 16384

noncomputable section

namespace Cert.AttnFwdIdeal.Eqn

open Cert.AttnFwdIdeal Cert.AttnFwdIdeal.Gen
open Idealize.ShloMosaic Idealize.ShloMosaic.TcCoe Idealize.SL.Sem
open Cert.AttnMath Cert.RealLift
open Cert.AttnIdeal.Eqn (col exists_col)

/-- The three arrays the call reads as one, side by side. -/
def packed {F : FTy → Type} [FloatOps F] (a b v : FVec F S4096x1024 .f32) : FVec F S4096x3072 .bf16 :=
  truncf .bf16 (concatenate S4096x3072 1 [⟨S4096x1024, a⟩, ⟨S4096x1024, b⟩, ⟨S4096x1024, v⟩]
    concatenates_S4096x1024_S4096x1024_S4096x1024_S4096x3072_d1) bitsLt_bf16_f32

variable (m : (ℓ : Loc nD τ sig) → Buf (Elt Ideal) ℓ) (Q K W : Dev nD → Fin 4096 → Fin 1024 → ℝ)

theorem entry_packed (c : Dev nD) : (V m c main_v1 : S4096x3072.Idx → EReal)
    = packed (F := Ideal) (m ((c.tc : Thread nD τ).loc main_arg0)) (m ((c.tc : Thread nD τ).loc main_arg1))
        (m ((c.tc : Thread nD τ).loc main_arg2)) := by
  unfold_abbrev_sides
  try simp only [List.flatten_cons, List.flatten_nil, List.append_nil, List.cons_append, List.nil_append]
  after_results_simp
  rfl

/-- The packed array's first third, its second and its last, on any row. -/
theorem packed_at (a b v : FVec Ideal S4096x1024 .f32) (s : Fin 4096) (x : Fin 1024) :
    packed a b v (ix2 s ⟨x.val, by omega⟩) = a (ix2 s x) ∧ packed a b v (ix2 s ⟨1024 + x.val, by omega⟩) = b (ix2 s x)
      ∧ packed a b v (ix2 s ⟨2048 + x.val, by omega⟩) = v (ix2 s x) := by
  refine ⟨by pointwise [packed], by pointwise [packed], ?_⟩
  pointwise [packed]
  rw [dif_neg (by omega), dif_neg (by omega)]
  exact congrArg (fun y => v (ix2 s y)) (Fin.ext (by dsimp only; omega))

/-- The arguments hold the named real arrays. -/
structure Given : Prop where
  q : ∀ c : Dev nD, m ((c.tc : Thread nD τ).loc main_arg0) = fun j => ((Q c (j 0) (j 1) : ℝ) : EReal)
  k : ∀ c : Dev nD, m ((c.tc : Thread nD τ).loc main_arg1) = fun j => ((K c (j 0) (j 1) : ℝ) : EReal)
  v : ∀ c : Dev nD, m ((c.tc : Thread nD τ).loc main_arg2) = fun j => ((W c (j 0) (j 1) : ℝ) : EReal)

/-- Every window's block index at a point of the grid. -/
theorem idx_val : ∀ t : Fin cfg0.N, win0_0.index t = ![t.val % 16, t.val / 16]
    ∧ win0_1.index t = ![0, 2 + t.val / 16]
    ∧ win0_2.index t = ![0, 4 + t.val / 16]
    ∧ win0_3.index t = ![t.val % 16, t.val / 16]
    ∧ win0_4.index t = ![t.val % 16, t.val / 16] :=
  (by decide +kernel : ∀ t : Fin grid0.N, _)

/-- The counted loop runs once for every earlier tile of keys, its companion never. -/
theorem trips_val : ∀ t : Fin cfg0.N, (k0_t1_loop (grid0.coords t)).trips = t.val % 16 ∧ (k0_t2_loop (grid0.coords t)).trips = 0
    ∧ ((grid0.coords t) 1).val = t.val % 16
    ∧ k0_off1 (grid0.coords t) = ![256 * (t.val % 16), 0] ∧ k0_off2 (grid0.coords t) = ![256 * (t.val % 16), 128]
    ∧ k0_off3 (grid0.coords t) = ![256 * (t.val % 16), 256] ∧ k0_off4 (grid0.coords t) = ![256 * (t.val % 16), 384] :=
  (by decide +kernel : ∀ t : Fin grid0.N, _)

theorem point_lt (t : Fin cfg0.N) : t.val < 32 := lt_of_lt_of_eq t.isLt N_0

/-- The head a point's group puts at place `h`. -/
def headAt (t : Fin cfg0.N) (h : Fin 4) : Fin 8 := ⟨4 * (t.val / 16) + h.val, by have := point_lt t; omega⟩

/-- The array's row that is row `r` of the point's tile. -/
def rowAt (t : Fin cfg0.N) (r : Fin 256) : Fin 4096 := ⟨256 * (t.val % 16) + r.val, by have := point_lt t; omega⟩

/-- What a point works on. -/
def bufs (c : Dev nD) (t : Fin cfg0.N) : Bufs Ideal :=
  ⟨c, grid0.coords t, ms0_0 t, hs0_0 t, ms0_1 t, hs0_1 t, ms0_2 t, hs0_2 t, ms0_3 t, hs0_3 t, ms0_4 t, hs0_4 t,
    iblk m c 0 t, iblk m c 1 t, iblk m c 2 t⟩

variable {m Q K W}

/-- The four heads' rows at a point. -/
def heads4 (Q K W : Dev nD → Fin 4096 → Fin 1024 → ℝ) (c : Dev nD) (t : Fin cfg0.N) (h : Fin 4) : Rows :=
  fwdRows (Q c) (K c) (W c) (headAt t h)

theorem blk_q (H : Given m Q K W) (c : Dev nD) (t : Fin cfg0.N) (h : Fin 4) (r : Fin 256) (d : Fin 128) :
    iblk m c 0 t (ix2 r (col h d)) = ((Q c (rowAt t r) (colOf (headAt t h) d) : ℝ) : EReal) := by
  refine Eq.trans ?_ (congrFun (H.q c) (ix2 (rowAt t r) (colOf (headAt t h) d)))
  refine Eq.trans ?_ (packed_at _ (m ((c.tc : Thread nD τ).loc main_arg1)) (m ((c.tc : Thread nD τ).loc main_arg2)) _ _).1
  rw [← entry_packed]
  blk_point [iblk, idx_val t]
  all_goals simp only [col, colOf, rowAt, headAt]
  all_goals omega

theorem blk_k (H : Given m Q K W) (c : Dev nD) (t : Fin cfg0.N) (h : Fin 4) (s : Fin 4096) (d : Fin 128) :
    iblk m c 1 t (ix2 s (col h d)) = ((K c s (colOf (headAt t h) d) : ℝ) : EReal) := by
  refine Eq.trans ?_ (congrFun (H.k c) (ix2 s (colOf (headAt t h) d)))
  refine Eq.trans ?_ (packed_at (m ((c.tc : Thread nD τ).loc main_arg0)) _ (m ((c.tc : Thread nD τ).loc main_arg2)) _ _).2.1
  rw [← entry_packed]
  blk_point [iblk, idx_val t]
  all_goals simp only [col, colOf, rowAt, headAt]
  all_goals omega

theorem blk_v (H : Given m Q K W) (c : Dev nD) (t : Fin cfg0.N) (h : Fin 4) (s : Fin 4096) (d : Fin 128) :
    iblk m c 2 t (ix2 s (col h d)) = ((W c s (colOf (headAt t h) d) : ℝ) : EReal) := by
  refine Eq.trans ?_ (congrFun (H.v c) (ix2 s (colOf (headAt t h) d)))
  refine Eq.trans ?_ (packed_at (m ((c.tc : Thread nD τ).loc main_arg0)) (m ((c.tc : Thread nD τ).loc main_arg1)) _ _ _).2.2
  rw [← entry_packed]
  blk_point [iblk, idx_val t]
  all_goals simp only [col, colOf, rowAt, headAt]
  all_goals omega

/-- A point's buffers hold its tile of queries and its heads' keys and values. -/
theorem bufs_q (c : Dev nD) (t : Fin cfg0.N) : (bufs m c t).x0 = iblk m c 0 t := rfl
theorem bufs_k (c : Dev nD) (t : Fin cfg0.N) : (bufs m c t).x1 = iblk m c 1 t := rfl
theorem bufs_v (c : Dev nD) (t : Fin cfg0.N) : (bufs m c t).x2 = iblk m c 2 t := rfl
theorem bufs_i (c : Dev nD) (t : Fin cfg0.N) : (bufs m c t).i = grid0.coords t := rfl

theorem point_off (c : Dev nD) (t : Fin cfg0.N) (h : Fin 4) : (bufs m c t).off h = ![256 * (t.val % 16), 128 * h.val] := by
  unfold Bufs.off
  rw [bufs_i]
  obtain ⟨e0, e1, e2, e3⟩ := (trips_val t).2.2.2
  rw [e0, e1, e2, e3]
  fin_cases h <;> rfl

theorem point_held (H : Given m Q K W) (c : Dev nD) (t : Fin cfg0.N) : Held (bufs m c t) (heads4 Q K W c t) (t.val % 16) := by
  constructor
  · exact Nat.mod_lt _ (by norm_num)
  · rw [bufs_i]; exact (trips_val t).1
  · rw [bufs_i]; exact (trips_val t).2.1
  · rw [bufs_i]; exact (trips_val t).2.2.1
  · exact point_off c t
  · intro h r d
    rw [bufs_q, blk_q H]
    exact congrArg _ (headRow_val (Q c) (headAt t h) (rowAt t r) d).symm
  · intro h s d
    rw [bufs_k, blk_k H]
    exact congrArg _ (headRow_val (K c) (headAt t h) s d).symm
  · intro h s d
    rw [bufs_v, blk_v H]
    exact congrArg _ (headRow_val (W c) (headAt t h) s d).symm
  · exact fun h s => rowsOf_tot _ _ _ _ _ s

/-- Where a point's blocks of the two results lie. -/
theorem emb_3 (t : Fin cfg0.N) (h : Fin 4) (r : Fin 256) (d : Fin 128) :
    ((View.whole main_v2_0).slice (win0_3.rect t)).emb (ix2 r (col h d)) = ix2 (rowAt t r) (colOf (headAt t h) d) := by
  blk_ext! [idx_val t]
  all_goals simp only [col, colOf, rowAt, headAt]
  all_goals omega

theorem emb_4 (t : Fin cfg0.N) (h : Fin 4) (r : Fin 256) (d : Fin 128) :
    ((View.whole main_v2_1).slice (win0_4.rect t)).emb (ix2 r (col h d)) = ix2 (rowAt t r) (colOf (headAt t h) d) := by
  blk_ext! [idx_val t]
  all_goals simp only [col, colOf, rowAt, headAt]
  all_goals omega

/-- What a point leaves is what its stores write. -/
theorem outs_y (c : Dev nD) (t : Fin cfg0.N) : (outsAt0 m c t).1
    = VO0_3.read (Elt Ideal) (VO0_3.writes (Elt Ideal) VO0_3.junk (bufs m c t).run.1) := by
  sl_kernel_rfl

theorem outs_tot (c : Dev nD) (t : Fin cfg0.N) : (outsAt0 m c t).2
    = VO0_4.read (Elt Ideal) (VO0_4.writes (Elt Ideal) VO0_4.junk (bufs m c t).run.2.1) := by
  sl_kernel_rfl

/-- A point leaves its tile of the output. -/
theorem block_y (H : Given m Q K W) (c : Dev nD) (t : Fin cfg0.N) (h : Fin 4) (r : Fin 256) (d : Fin 128) :
    (outsAt0 m c t).1 (ix2 r (col h d))
      = ((∑ s ∈ Finset.range (256 * (t.val % 16 + 1)), (heads4 Q K W c t h).w (256 * (t.val % 16) + r.val) s * (heads4 Q K W c t h).v s d : ℝ) : EReal) := by
  rw [outs_y]
  exact (point_held H c t).o_at VO0_3 VO0_3.junk h r d

/-- A point leaves its queries' log-keep totals. -/
theorem block_tot (H : Given m Q K W) (c : Dev nD) (t : Fin cfg0.N) (h : Fin 4) (r : Fin 256) (d : Fin 128) :
    (outsAt0 m c t).2 (ix2 r (col h d)) = (((heads4 Q K W c t h).tot (256 * (t.val % 16) + r.val) : ℝ) : EReal) := by
  rw [outs_tot]
  exact (point_held H c t).l_at VO0_4 VO0_4.junk h r d

theorem final_3 (H : Given m Q K W) (c : Dev nD) : (dats m 0 c).arrAt 3 (cfgs 0).N =
    fun j => ((outY (Q c) (K c) (W c) (j 0) (j 1) : ℝ) : EReal) := by
  refine (dats m 0 c).arrAt_eq_of_covers 3 _ (by decide +kernel) fun t hf y => ?_
  blk_simp; rw [after0_3]
  idx_vars y
  obtain ⟨h, d, rfl⟩ := exists_col y1
  rw [emb_3, block_y H c t h y0 d, out_all _ _ (Nat.mod_lt _ (by norm_num))]
  unfold outY
  rw [show (ix2 (rowAt t y0) (colOf (headAt t h) d) : S4096x1024.Idx) 1 = colOf (headAt t h) d from rfl, headOf_colOf, inHead_colOf]
  rfl

theorem final_4 (H : Given m Q K W) (c : Dev nD) : (dats m 0 c).arrAt 4 (cfgs 0).N =
    fun j => ((outTot (Q c) (K c) (W c) (j 0) (j 1) : ℝ) : EReal) := by
  refine (dats m 0 c).arrAt_eq_of_covers 4 _ (by decide +kernel) fun t hf y => ?_
  blk_simp; rw [after0_4]
  idx_vars y
  obtain ⟨h, d, rfl⟩ := exists_col y1
  rw [emb_4, block_tot H c t h y0 d]
  unfold outTot
  rw [show (ix2 (rowAt t y0) (colOf (headAt t h) d) : S4096x1024.Idx) 1 = colOf (headAt t h) d from rfl, headOf_colOf]
  rfl

/-- The kernel's two results. -/
theorem run_real (ρ : Dev nD → PrngReg) (H : Given m Q K W) :
    θ_run defs (onTc (τ := τ) (main (F := Ideal))) ⟨m, fun _ => 0, ρ⟩ fun r => ∀ c : Dev nD,
      r.2.mem ((c.tc : Thread nD τ).loc main_v2_0) = (fun j => ((outY (Q c) (K c) (W c) (j 0) (j 1) : ℝ) : EReal))
      ∧ r.2.mem ((c.tc : Thread nD τ).loc main_v2_1) = (fun j => ((outTot (Q c) (K c) (W c) (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r hr c => ?_) (Cert.AttnFwdIdeal.Value.run_blocks m ρ)
  have := hr c
  rw [final_3 H, final_4 H] at this
  exact this

end Cert.AttnFwdIdeal.Eqn

end
-- ==== Proof.AttnFwdClaim.lean ====
/- The attention's forward pass: the kernel and the reference compute one function of finite arguments. -/
module

public import proofs.«01_k».proof.Defs
public import proofs.«01_k».proof.Proof.AttnFwdRef
public import proofs.«01_k».proof.Proof.AttnFwdKernel
public import proofs.«01_k».proof.Proof.Gen.Pre_attnfwd_finite
public import Idealize.ShloMosaic.Adequacy

@[expose] public section

noncomputable section

namespace Cert.AttnFwdClaim

open Idealize.ShloMosaic Idealize.ShloMosaic.TcCoe Idealize.SL.Sem
open Cert.AttnFwdIdeal Cert.RealLift

/-- The reference runs, faults nowhere and leaves its arguments alone. -/
theorem frame_ref : Cert.quiescent_AttnFwdRefIdeal := by
  intro m ρ _
  exact (θ_run _ _ _).mono (fun r h => ⟨fun c => (h c).2.2, sem_eq_zero_of_no_sems (by decide) r.2⟩)
    (Cert.AttnFwdRefIdeal.Value.run (F := Ideal) m ρ)

/-- A real array, read by row and column. -/
theorem by_rows {x : S4096x1024.Idx → EReal} (y : S4096x1024.Idx → ℝ) (h : x = fun i => ((y i : ℝ) : EReal)) :
    x = fun j => (((fun t s => y (ix2 t s)) (j 0) (j 1) : ℝ) : EReal) :=
  h.trans (funext fun j => congrArg (fun i => ((y i : ℝ) : EReal)) (eq_ix2 j))

/-- Finite arguments are real arrays. -/
theorem given_of_finite (m : (ℓ : Loc nD τ sig) → Buf (Elt Ideal) ℓ) (h : Cert.Pre_AttnFwdIdeal_attnfwd_finite m) :
    ∃ Q K W, Cert.AttnFwdIdeal.Eqn.Given m Q K W := by
  choose Q hQ using fun c : Dev nD => exists_real (m ((c.tc : Thread nD τ).loc main_arg0)) _ ofBits_inf fun i => congrFun (h c).1 i
  choose K hK using fun c : Dev nD => exists_real (m ((c.tc : Thread nD τ).loc main_arg1)) _ ofBits_inf fun i => congrFun (h c).2.1 i
  choose W hW using fun c : Dev nD => exists_real (m ((c.tc : Thread nD τ).loc main_arg2)) _ ofBits_inf fun i => congrFun (h c).2.2 i
  exact ⟨fun c t s => Q c (ix2 t s), fun c t s => K c (ix2 t s), fun c t s => W c (ix2 t s),
    fun c => by_rows _ (hQ c), fun c => by_rows _ (hK c), fun c => by_rows _ (hW c)⟩

/-- The value claim. -/
theorem algebraic : Cert.algebraic_AttnFwdIdeal_AttnFwdRefIdeal_pre_attnfwd_finite := by
  intro m g m' g' hpre heq
  obtain ⟨Q, K, W, h⟩ := given_of_finite m hpre
  exact ⟨_, _, Eqn.run_real g h, Cert.AttnFwdRefIdeal.Eqn.run_real g' ⟨fun c => (heq c).1.trans (h.q c),
    fun c => (heq c).2.1.trans (h.k c), fun c => (heq c).2.2.trans (h.v c)⟩⟩

end Cert.AttnFwdClaim

end
-- ==== Proof.ConvMath.lean ====
/- The gradient of a causal convolution along the rows with four taps, over the extended reals. -/
module

public import proofs.«01_k».proof.Proof.RealLift

@[expose] public section

noncomputable section

namespace Cert.ConvMath

/-- The entry `d` rows further on, zero past the last row. -/
def later (g : Fin 4096 → Fin 1024 → EReal) (d s : ℕ) (b : Fin 1024) : EReal :=
  if h : s + d < 4096 then g ⟨s + d, h⟩ b else 0

/-- The entry `d` rows before, zero before the first row. -/
def past (x : Fin 4096 → Fin 1024 → EReal) (d : ℕ) (s : Fin 4096) (b : Fin 1024) : EReal :=
  if h : d ≤ s.val then x ⟨s.val - d, by omega⟩ b else 0

/-- The gradient of the input: each row got into the next three rows too. -/
def gradX (g : Fin 4096 → Fin 1024 → EReal) (w : Fin 4 → Fin 1024 → EReal) (s : Fin 4096) (b : Fin 1024) : EReal :=
  w 3 b * g s b + w 2 b * later g 1 s.val b + w 1 b * later g 2 s.val b + w 0 b * later g 3 s.val b

/-- The gradient of one tap. -/
def gradW (g x : Fin 4096 → Fin 1024 → EReal) (k : Fin 4) (b : Fin 1024) : EReal :=
  ∑ s, g s b * past x (3 - k.val) s b

/-- The gradient of the bias. -/
def gradB (g : Fin 4096 → Fin 1024 → EReal) (b : Fin 1024) : EReal := ∑ s, g s b

end Cert.ConvMath

end
-- ==== Proof.ConvRef.lean ====
/- What the reference of the convolution's gradient computes. -/
module

public import proofs.«01_k».proof.Proof.ConvMath
public import proofs.«01_k».proof.Proof.Gen.ConvRefIdeal.Run

@[expose] public section

set_option maxRecDepth 16384

noncomputable section

namespace Cert.ConvRefIdeal.Eqn

open Cert.ConvRefIdeal Cert.ConvRefIdeal.Gen Cert.ConvRefIdeal.Value
open Idealize.ShloMosaic Idealize.ShloMosaic.TcCoe Idealize.SL.Sem
open Cert.ConvMath Cert.RealLift

variable (m : (ℓ : Loc nD τ sig) → Buf (Elt Ideal) ℓ) (ρ : Dev nD → PrngReg)

/-- The sum over all rows, the first three apart. -/
theorem sum_split (f : Fin 4096 → EReal) (u : Fin 3 → EReal) (v : Fin 4093 → EReal)
    (hu : ∀ q : Fin 3, u q = f ⟨q.val, by omega⟩) (hv : ∀ q : Fin 4093, v q = f ⟨3 + q.val, by omega⟩) :
    ∑ q, u q + ∑ q, v q = ∑ s, f s := by
  have h := Fin.sum_univ_add (a := 3) (b := 4093) f
  refine Eq.trans ?_ h.symm
  exact congrArg₂ (· + ·) (Finset.sum_congr rfl fun q _ => hu q) (Finset.sum_congr rfl fun q _ => hv q)

/-- A row of the input with three zero rows in front. -/
theorem tap_past (x : Fin 4096 → Fin 1024 → EReal) (k d : ℕ) (hk : k + d = 3) (s : Fin 4096) (b : Fin 1024) :
    (if h : k + s.val < 3 then 0 else x ⟨k + s.val - 3, by omega⟩ b) = past x d s b := by
  by_cases h : d ≤ s.val
  · rw [past, dif_pos h, dif_neg (by omega)]
    exact congrArg (x · b) (Fin.ext (show k + s.val - 3 = s.val - d by omega))
  · rw [past, dif_neg h, dif_pos (by omega)]

/-- The reference's three results: the gradients of the input, of the taps and of the bias. -/
theorem run_value (X G : Dev nD → Fin 4096 → Fin 1024 → EReal) (W : Dev nD → Fin 4 → Fin 1024 → EReal)
    (hX : ∀ c s b, (m ((c.tc : Thread nD τ).loc main_arg0) : S4096x9216.Idx → EReal) (ix2 s ⟨3072 + b.val, by omega⟩) = X c s b)
    (hW : ∀ c : Dev nD, m ((c.tc : Thread nD τ).loc main_arg1) = fun j => W c (j 0) (j 1))
    (hG : ∀ c : Dev nD, m ((c.tc : Thread nD τ).loc main_arg3) = fun j => G c (j 0) (j 1)) :
    θ_run defs (onTc (τ := τ) (main (F := Ideal))) ⟨m, fun _ => 0, ρ⟩ fun r => ∀ c : Dev nD,
      r.2.mem ((c.tc : Thread nD τ).loc main_v65) = (fun j => gradX (G c) (W c) (j 0) (j 1))
      ∧ r.2.mem ((c.tc : Thread nD τ).loc main_v63) = (fun j => gradW (G c) (X c) (j 0) (j 1))
      ∧ r.2.mem ((c.tc : Thread nD τ).loc main_v29) = (fun j => gradB (G c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h0, h1, h2, h3⟩ := h c
  refine ⟨h0.trans (funext fun j => ?_), h1.trans (funext fun j => ?_), h2.trans (funext fun j => ?_), h3⟩
  · rw [hW, hG]
    clear h0 h1 h2 h3 h
    idx_vars j
    pointwise []
    have e1 : (if h : 2 ≤ 3 + j0.val ∧ 3 + j0.val - 2 < 4096 then W c 2 j1 * G c ⟨3 + j0.val - 2, h.2⟩ j1 else 0) = W c 2 j1 * later (G c) 1 j0.val j1 := by
      by_cases h : j0.val + 1 < 4096
      · rw [later, dif_pos h, dif_pos ⟨by omega, by omega⟩]
        exact congrArg (fun q => W c 2 j1 * G c q j1) (Fin.ext (show 3 + j0.val - 2 = j0.val + 1 by omega))
      · rw [later, dif_neg h, dif_neg (by omega), mul_zero]
    have e2 : (if h : 1 ≤ 3 + j0.val ∧ 3 + j0.val - 1 < 4096 then W c 1 j1 * G c ⟨3 + j0.val - 1, h.2⟩ j1 else 0) = W c 1 j1 * later (G c) 2 j0.val j1 := by
      by_cases h : j0.val + 2 < 4096
      · rw [later, dif_pos h, dif_pos ⟨by omega, by omega⟩]
        exact congrArg (fun q => W c 1 j1 * G c q j1) (Fin.ext (show 3 + j0.val - 1 = j0.val + 2 by omega))
      · rw [later, dif_neg h, dif_neg (by omega), mul_zero]
    have e3 : (if h : 3 + j0.val < 4096 then W c 0 j1 * G c ⟨3 + j0.val, h⟩ j1 else 0) = W c 0 j1 * later (G c) 3 j0.val j1 := by
      by_cases h : j0.val + 3 < 4096
      · rw [later, dif_pos h, dif_pos (by omega)]
        exact congrArg (fun q => W c 0 j1 * G c q j1) (Fin.ext (show 3 + j0.val = j0.val + 3 by omega))
      · rw [later, dif_neg h, dif_neg (by omega), mul_zero]
    rw [e1, e2, e3]
    rfl
  · rw [hG]
    clear h0 h1 h2 h3 h
    idx_vars j
    pointwise []
    simp only [hX]
    fin_cases j0
    · rw [dif_neg (by simp), dif_neg (by simp), dif_neg (by simp), dif_pos (by simp), zero_add, zero_add, zero_add]
      exact (sum_split fun s : Fin 4096 => G c s j1 * past (X c) 3 s j1) _ _ (fun q => by
          rw [past, dif_neg (show ¬ 3 ≤ q.val by omega)]) (fun q => by
          rw [past, dif_pos (show 3 ≤ 3 + q.val by omega)]
          exact congrArg (fun z => G c ⟨3 + q.val, _⟩ j1 * X c z j1) (Fin.ext (show q.val = 3 + q.val - 3 by omega)))
    · rw [dif_neg (by simp), dif_neg (by simp), dif_pos (by simp), dif_neg (by simp), zero_add, zero_add, add_zero]
      refine Finset.sum_congr rfl fun s _ => congrArg (G c s j1 * ·) ?_
      exact tap_past (X c) 1 2 rfl s j1
    · rw [dif_neg (by simp), dif_pos (by simp), dif_neg (by simp), dif_neg (by simp), zero_add, add_zero, add_zero]
      refine Finset.sum_congr rfl fun s _ => congrArg (G c s j1 * ·) ?_
      exact tap_past (X c) 2 1 rfl s j1
    · rw [dif_pos (by simp), dif_neg (by simp), dif_neg (by simp), dif_neg (by simp), add_zero, add_zero, add_zero]
      refine Finset.sum_congr rfl fun s _ => congrArg (G c s j1 * ·) ?_
      have e : past (X c) 0 s j1 = X c s j1 := dif_pos (Nat.zero_le s.val)
      exact e.symm
  · rw [hG]
    clear h0 h1 h2 h3 h
    idx_vars j
    pointwise []
    rfl

end Cert.ConvRefIdeal.Eqn

end
-- ==== Proof.ConvLoop.lean ====
/- The convolution's backward kernel, one column block: what its loop over the row tiles leaves in the three outputs, over any
   element type. -/
module

public import proofs.«01_k».proof.Proof.Gen.ConvIdeal.Frame.Runs
public import proofs.«01_k».proof.Proof.Gen.ConvIdeal.Loops
public import proofs.«01_k».proof.Proof.RealLift
public import Idealize.ShloMosaic.Lib.WritesUnit

@[expose] public section

set_option maxRecDepth 16384

noncomputable section

namespace Cert.ConvIdeal.Eqn

open Cert.ConvIdeal Cert.ConvIdeal.Gen
open Idealize.ShloMosaic Idealize.ShloMosaic.TcCoe Idealize.SL.Sem

variable {F : FTy → Type} [FloatOps F]

/-- Rows `256 n` to `256 n + 263` of a padded column block. -/
def win (x : Vec F S4104x128 .f32) (n : ℕ) : Vec F S264x128 .f32 :=
  fun j => x (ix2 ⟨(256 * n + (j 0).val) % 4104, Nat.mod_lt _ (by norm_num)⟩ (j 1))

/-- One row of the four taps. -/
def row (k : Fin 4) (v : Vec F S4x128 .f32) : Vec F S1x128 .f32 := fun j => v (ix2 k (j 1))

/-- The taps' sums after one more tile. -/
def taps (x y : Vec F S264x128 .f32) (v : Vec F S4x128 .f32) : Vec F S4x128 .f32 := fun j =>
  (![k0_pay6 (k0_pay11 x) (k0_pay13 y) (row 0 v), k0_pay5 (k0_pay10 x) (k0_pay13 y) (row 1 v),
     k0_pay4 (k0_pay9 x) (k0_pay13 y) (row 2 v), k0_pay3 (k0_pay15 (row 3 v)) (k0_pay16 x y)] : Fin 4 → FVec F S1x128 .f32) (j 0) (ix2 0 (j 1))

/-- The taps' sums over the first `n` tiles. -/
def cw (x0 x1 : Vec F S4104x128 .f32) : ℕ → Vec F S4x128 .f32
  | 0 => k0_pay1
  | n + 1 => taps (win x0 n) (win x1 n) (cw x0 x1 n)

/-- The bias's sums over the first `n` tiles. -/
def cb (x1 : Vec F S4104x128 .f32) : ℕ → Vec F S1x128 .f32
  | 0 => k0_pay2
  | n + 1 => k0_pay7 (k0_pay13 (win x1 n)) (cb x1 n)

/-- The input's gradient. -/
def dx (x1 : Vec F S4104x128 .f32) (x2 : Vec F S4x128 .f32) : Vec F S4096x128 .f32 :=
  fun j => k0_pay14 x2 (win x1 ((j 0).val / 256)) (ix2 ⟨(j 0).val % 256, Nat.mod_lt _ (by norm_num)⟩ (j 1))

theorem start_val (n : ℕ) (hn : n < 16) : (Scalar.indexCast (Scalar.muli (Scf.iv 0#32 1#32 n) 256#32)).toNat = 256 * n := by
  simp [Scf.iv, Scalar.muli, Scalar.indexCast, IntOp.muli, BitVec.toNat_mul]
  omega

theorem trips_eq : k0_t1_loop.trips = 16 := by decide

theorem off1_eq (k : Fin k0_t1_loop.trips) : k0_off1 k = ![256 * k.val, 0] :=
  congrArg (fun n => ![n, _]) (start_val k.val (lt_of_lt_of_eq k.isLt trips_eq))
theorem off2_eq (k : Fin k0_t1_loop.trips) : k0_off2 k = ![256 * k.val, 0] :=
  congrArg (fun n => ![n, _]) (start_val k.val (lt_of_lt_of_eq k.isLt trips_eq))

/-- The buffers of one grid point and what the three inputs hold. -/
structure Bufs (F : FTy → Type) where
  c : Dev nD
  i : grid0.Coords
  a1 : Memref sig .tc .vmem S4104x128 .f32
  h1 : a1.IsWhole
  a2 : Memref sig .tc .vmem S4104x128 .f32
  h2 : a2.IsWhole
  a3 : Memref sig .tc .vmem S4x128 .f32
  h3 : a3.IsWhole
  a4 : Memref sig .tc .vmem S4096x128 .f32
  h4 : a4.IsWhole
  a5 : Memref sig .tc .vmem S4x128 .f32
  h5 : a5.IsWhole
  a6 : Memref sig .tc .vmem S1x128 .f32
  h6 : a6.IsWhole
  x0 : Vec F S4104x128 .f32
  x1 : Vec F S4104x128 .f32
  x2 : Vec F S4x128 .f32

namespace Bufs

variable (B : Bufs F)

/-- The stores of the first `n` trips. -/
def pb (G4 : BufTy.Contents (Elt F) B.a4.view.ty) (G5 : BufTy.Contents (Elt F) B.a5.view.ty) (G6 : BufTy.Contents (Elt F) B.a6.view.ty) (n : ℕ) :=
  pb_k0_t1 (F := F) Variants.none B.c none B.i B.a1 B.h1 B.a2 B.h2 B.a3 B.h3 B.a4 B.h4 B.a5 B.h5 B.a6 B.h6
    (B.h1.unread B.x0) (B.h2.unread B.x1) (B.h3.unread B.x2) G4 G5 G6 n

/-- One trip's stores. -/
def trip (k : Fin k0_t1_loop.trips) :=
  trip_k0_t1 (F := F) Variants.none B.c none B.i B.a1 B.h1 B.a2 B.h2 B.a3 B.h3 B.a4 B.h4 B.a5 B.h5 B.a6 B.h6
    (B.h1.unread B.x0) (B.h2.unread B.x1) (B.h3.unread B.x2) k

variable (k : Fin k0_t1_loop.trips)

/-- A tile's rows of a padded block, with its halo. -/
theorem load_win (a : Memref sig .tc .vmem S4104x128 .f32) (h : a.IsWhole) (x : Vec F S4104x128 .f32) :
    a.view.readAt (Elt F) (Rect.unit (s := S4104x128) (k0_off1 k) S264x128.size (k0_off1_inb k)).toLoadRect (h.unread x) = win x k.val := by
  have e := off1_eq k
  have hk := lt_of_lt_of_eq k.isLt trips_eq
  funext j
  show a.view.read (Elt F) (h.unread x) _ = _
  rw [h.read_unread]
  refine congrArg x (funext fun q => Fin.ext ?_)
  have hj : (j 0).val < 264 := (j 0).isLt
  fin_cases q
  · refine (congrArg (· + 1 * (j 0).val) (congrFun e 0)).trans ?_
    show 256 * k.val + 1 * (j 0).val = (256 * k.val + (j 0).val) % 4104
    omega
  · refine (congrArg (· + 1 * (j 1).val) (congrFun e 1)).trans ?_
    show 0 + 1 * (j 1).val = (j 1).val
    omega

/-- A tap's row of the sums. -/
theorem load_row (a : Memref sig .tc .vmem S4x128 .f32) (f : BufTy.Contents (Elt F) a.view.ty) (r : Fin 4) (o : Fin 2 → ℕ)
    (ho : o = ![r.val, 0]) (inb : ∀ q, o q + S1x128.size q ≤ S4x128.size q) :
    a.view.readAt (Elt F) (Rect.unit (s := S4x128) o S1x128.size inb).toLoadRect f = row r (a.view.read (Elt F) f) := by
  subst ho
  funext j
  show a.view.read (Elt F) f _ = _
  refine congrArg (a.view.read (Elt F) f) (funext fun q => Fin.ext ?_)
  have hj : (j 0).val < 1 := (j 0).isLt
  fin_cases q
  · show r.val + 1 * (j 0).val = r.val; omega
  · show 0 + 1 * (j 1).val = (j 1).val; omega

/-- A load of a whole buffer. -/
theorem load_all {s : Shape} {e : EltTy} (a : Memref sig .tc .vmem s e) (f : BufTy.Contents (Elt F) a.view.ty) (o : Fin s.rank → ℕ)
    (ho : ∀ q, o q = 0) (inb : ∀ q, o q + s.size q ≤ s.size q) :
    a.view.readAt (Elt F) (Rect.unit (s := s) o s.size inb).toLoadRect f = a.view.read (Elt F) f := by
  funext j
  refine congrArg (a.view.read (Elt F) f) (funext fun q => Fin.ext ?_)
  show o q + 1 * (j q).val = (j q).val
  rw [ho q]; omega

variable (f : BufTy.Contents (Elt F) B.a4.view.ty) (g : BufTy.Contents (Elt F) B.a5.view.ty) (h : BufTy.Contents (Elt F) B.a6.view.ty)

theorem trip_dx : (B.trip k).1 f g h = [⟨Rect.unit (s := S4096x128) (k0_off2 k) S256x128.size (k0_off2_inb k), k0_pay14 B.x2 (win B.x1 k.val)⟩] := by
  have e3 := load_all (F := F) B.a3 (B.h3.unread B.x2) ![0, 0] (by intro q; fin_cases q <;> rfl) inb_S4x128_S4x128_0_0
  rw [B.h3.read_unread] at e3
  have e2 := load_win k B.a2 B.h2 B.x1
  rw [← e2]
  conv_rhs => rw [← e3]
  unfold trip trip_k0_t1
  rfl

theorem trip_cw : (B.trip k).2.1 f g h = [
    ⟨Rect.unit (s := S4x128) ![0, 0] S1x128.size inb_S4x128_S1x128_0_0, k0_pay6 (k0_pay11 (win B.x0 k.val)) (k0_pay13 (win B.x1 k.val)) (row 0 (B.a5.view.read (Elt F) g))⟩,
    ⟨Rect.unit (s := S4x128) ![1, 0] S1x128.size inb_S4x128_S1x128_1_0, k0_pay5 (k0_pay10 (win B.x0 k.val)) (k0_pay13 (win B.x1 k.val)) (row 1 (B.a5.view.read (Elt F) g))⟩,
    ⟨Rect.unit (s := S4x128) ![2, 0] S1x128.size inb_S4x128_S1x128_2_0, k0_pay4 (k0_pay9 (win B.x0 k.val)) (k0_pay13 (win B.x1 k.val)) (row 2 (B.a5.view.read (Elt F) g))⟩,
    ⟨Rect.unit (s := S4x128) ![3, 0] S1x128.size inb_S4x128_S1x128_3_0, k0_pay3 (k0_pay15 (row 3 (B.a5.view.read (Elt F) g))) (k0_pay16 (win B.x0 k.val) (win B.x1 k.val))⟩] := by
  rw [← load_win k B.a1 B.h1 B.x0, ← load_win k B.a2 B.h2 B.x1, ← load_row B.a5 g 0 ![0, 0] rfl inb_S4x128_S1x128_0_0,
    ← load_row B.a5 g 1 ![1, 0] rfl inb_S4x128_S1x128_1_0, ← load_row B.a5 g 2 ![2, 0] rfl inb_S4x128_S1x128_2_0,
    ← load_row B.a5 g 3 ![3, 0] rfl inb_S4x128_S1x128_3_0]
  unfold trip trip_k0_t1
  rfl

theorem trip_cb : (B.trip k).2.2.1 f g h = [
    ⟨Rect.unit (s := S1x128) ![0, 0] S1x128.size inb_S1x128_S1x128_0_0, k0_pay7 (k0_pay13 (win B.x1 k.val)) (B.a6.view.read (Elt F) h)⟩] := by
  rw [← load_win k B.a2 B.h2 B.x1, ← load_all B.a6 h ![0, 0] (by intro q; fin_cases q <;> rfl) inb_S1x128_S1x128_0_0]
  unfold trip trip_k0_t1
  rfl

/-- Storing all four rows. -/
theorem read_rows {κ : Kind} {sp : Space} (v : View sig κ sp S4x128 .f32) (G : v.ty.Contents (Elt F)) (w : Fin 4 → FVec F S1x128 .f32)
    (L : List (View.Piece (Elt F) S4x128 .f32)) :
    v.read (Elt F) (v.writes (Elt F) G (⟨Rect.unit (s := S4x128) ![0, 0] S1x128.size inb_S4x128_S1x128_0_0, w 0⟩
      :: ⟨Rect.unit (s := S4x128) ![1, 0] S1x128.size inb_S4x128_S1x128_1_0, w 1⟩
      :: ⟨Rect.unit (s := S4x128) ![2, 0] S1x128.size inb_S4x128_S1x128_2_0, w 2⟩
      :: ⟨Rect.unit (s := S4x128) ![3, 0] S1x128.size inb_S4x128_S1x128_3_0, w 3⟩ :: L)) = fun j => w (j 0) (ix2 0 (j 1)) := by
  funext j
  obtain ⟨k, l, rfl⟩ : ∃ (k : Fin 4) (l : Fin 128), j = ix2 k l := ⟨j 0, j 1, by funext q; fin_cases q <;> rfl⟩
  show _ = w k (ix2 0 l)
  have skip : ∀ (n : Fin 4) (o : Fin 2 → ℕ) (inb) (u : FVec F S1x128 .f32) (M : List (View.Piece (Elt F) S4x128 .f32)), o = ![n.val, 0] → k ≠ n →
      v.read (Elt F) (v.writes (Elt F) G (⟨Rect.unit (s := S4x128) o S1x128.size inb, u⟩ :: M)) (ix2 k l) = v.read (Elt F) (v.writes (Elt F) G M) (ix2 k l) := by
    intro n o inb u M ho hk
    refine View.read_writes_cons_unit_of_not_mem v G inb u M _ ho 0 ?_
    have := Fin.val_ne_of_ne hk
    show k.val < n.val ∨ n.val + 1 ≤ k.val
    omega
  have hit : ∀ (o : Fin 2 → ℕ) (inb) (u : FVec F S1x128 .f32) (M : List (View.Piece (Elt F) S4x128 .f32)), o = ![k.val, 0] →
      v.read (Elt F) (v.writes (Elt F) G (⟨Rect.unit (s := S4x128) o S1x128.size inb, u⟩ :: M)) (ix2 k l) = u (ix2 0 l) := by
    intro o inb u M ho
    refine View.read_writes_cons_unit_of_mem v G inb u M _ (ix2 0 l) ho fun a => ?_
    fin_cases a
    · rfl
    · show l.val = 0 + l.val; omega
  fin_cases k
  · exact hit _ _ _ _ rfl
  · exact (skip 0 _ _ _ _ rfl (by decide)).trans (hit _ _ _ _ rfl)
  · exact (skip 0 _ _ _ _ rfl (by decide)).trans ((skip 1 _ _ _ _ rfl (by decide)).trans (hit _ _ _ _ rfl))
  · exact (skip 0 _ _ _ _ rfl (by decide)).trans ((skip 1 _ _ _ _ rfl (by decide)).trans ((skip 2 _ _ _ _ rfl (by decide)).trans (hit _ _ _ _ rfl)))

/-- Storing the bias's row. -/
theorem read_all {κ : Kind} {sp : Space} (v : View sig κ sp S1x128 .f32) (G : v.ty.Contents (Elt F)) (w : FVec F S1x128 .f32)
    (L : List (View.Piece (Elt F) S1x128 .f32)) :
    v.read (Elt F) (v.writes (Elt F) G (⟨Rect.unit (s := S1x128) ![0, 0] S1x128.size inb_S1x128_S1x128_0_0, w⟩ :: L)) = w := by
  funext j
  refine View.read_writes_cons_unit_of_mem v G inb_S1x128_S1x128_0_0 w L j j rfl fun a => ?_
  fin_cases a
  · show (j 0).val = 0 + (j 0).val; omega
  · show (j 1).val = 0 + (j 1).val; omega

/-- What the three outputs hold after `n` trips. -/
theorem loop_at (G4 : BufTy.Contents (Elt F) B.a4.view.ty) (G5 : BufTy.Contents (Elt F) B.a5.view.ty) (G6 : BufTy.Contents (Elt F) B.a6.view.ty)
    (h5 : B.a5.view.read (Elt F) G5 = cw B.x0 B.x1 0) (h6 : B.a6.view.read (Elt F) G6 = cb B.x1 0) (n : ℕ) (hn : n ≤ 16) :
    (∀ (s : Fin 4096) (l : Fin 128), s.val < 256 * n →
        B.a4.view.read (Elt F) (B.a4.view.writes (Elt F) G4 (B.pb G4 G5 G6 n).1) (ix2 s l) = dx B.x1 B.x2 (ix2 s l))
      ∧ B.a5.view.read (Elt F) (B.a5.view.writes (Elt F) G5 (B.pb G4 G5 G6 n).2.1) = cw B.x0 B.x1 n
      ∧ B.a6.view.read (Elt F) (B.a6.view.writes (Elt F) G6 (B.pb G4 G5 G6 n).2.2) = cb B.x1 n := by
  induction n with
  | zero => exact ⟨fun s l h => absurd h (by omega), h5, h6⟩
  | succ n ih =>
    obtain ⟨i4, i5, i6⟩ := ih (by omega)
    have hlt : n < k0_t1_loop.trips := by rw [trips_eq]; omega
    have hst : B.pb G4 G5 G6 (n + 1)
        = ((B.trip ⟨n, hlt⟩).1 (B.a4.view.writes (Elt F) G4 (B.pb G4 G5 G6 n).1) (B.a5.view.writes (Elt F) G5 (B.pb G4 G5 G6 n).2.1)
              (B.a6.view.writes (Elt F) G6 (B.pb G4 G5 G6 n).2.2) ++ (B.pb G4 G5 G6 n).1,
            (B.trip ⟨n, hlt⟩).2.1 (B.a4.view.writes (Elt F) G4 (B.pb G4 G5 G6 n).1) (B.a5.view.writes (Elt F) G5 (B.pb G4 G5 G6 n).2.1)
              (B.a6.view.writes (Elt F) G6 (B.pb G4 G5 G6 n).2.2) ++ (B.pb G4 G5 G6 n).2.1,
            (B.trip ⟨n, hlt⟩).2.2.1 (B.a4.view.writes (Elt F) G4 (B.pb G4 G5 G6 n).1) (B.a5.view.writes (Elt F) G5 (B.pb G4 G5 G6 n).2.1)
              (B.a6.view.writes (Elt F) G6 (B.pb G4 G5 G6 n).2.2) ++ (B.pb G4 G5 G6 n).2.2) :=
      pb_k0_t1_succ (F := F) _ _ _ _ _ _ _ _ _ _ _ _ _ _ _ _ _ _ _ _ _ _ ⟨n, hlt⟩
    rw [hst]
    generalize B.pb G4 G5 G6 n = S at i4 i5 i6 ⊢
    refine ⟨fun s l hs => ?_, ?_, ?_⟩
    · dsimp only
      rw [trip_dx]
      by_cases hc : 256 * n ≤ s.val
      · refine (View.read_writes_cons_unit_of_mem _ _ _ _ _ _ (ix2 ⟨s.val - 256 * n, by omega⟩ l) (off2_eq _) fun a => ?_).trans ?_
        · fin_cases a
          · show s.val = 256 * n + (s.val - 256 * n); omega
          · show l.val = 0 + l.val; omega
        · have e1 : s.val / 256 = n := by omega
          have e2 : s.val % 256 = s.val - 256 * n := by omega
          show _ = k0_pay14 B.x2 (win B.x1 (s.val / 256)) (ix2 ⟨s.val % 256, _⟩ l)
          simp only [e1, e2]
      · refine (View.read_writes_cons_unit_of_not_mem _ _ _ _ _ _ (off2_eq _) 0 (Or.inl ?_)).trans (i4 s l (by omega))
        show s.val < 256 * n
        omega
    · dsimp only
      rw [trip_cw, i5]
      exact read_rows B.a5.view G5 ![k0_pay6 (k0_pay11 (win B.x0 n)) (k0_pay13 (win B.x1 n)) (row 0 (cw B.x0 B.x1 n)),
        k0_pay5 (k0_pay10 (win B.x0 n)) (k0_pay13 (win B.x1 n)) (row 1 (cw B.x0 B.x1 n)),
        k0_pay4 (k0_pay9 (win B.x0 n)) (k0_pay13 (win B.x1 n)) (row 2 (cw B.x0 B.x1 n)),
        k0_pay3 (k0_pay15 (row 3 (cw B.x0 B.x1 n))) (k0_pay16 (win B.x0 n) (win B.x1 n))] S.2.1
    · dsimp only
      rw [trip_cb, i6]
      exact read_all B.a6.view G6 _ S.2.2

end Bufs

end Cert.ConvIdeal.Eqn

end
-- ==== Proof.ConvFrame.lean ====
/- The convolution's backward kernel: one grid point's run, and the run of the whole program, over any element type. -/
module

public import proofs.«01_k».proof.Proof.ConvLoop
public import Idealize.ShloMosaic.Lib.Claim

@[expose] public section

set_option maxRecDepth 16384

noncomputable section

namespace Cert.ConvIdeal.Eqn

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the frame's logic. -/
local notation "𝕄" => MT nD τ sig Unit (Elt F) ℕ (UR sig nD τ) ℕ

set_option maxHeartbeats 1000000 in
/-- One grid point: the inputs stay, the outputs hold the three gradients' blocks. -/
theorem body_run (c : Dev nD) (i : grid0.Coords) (arg1 : Memref sig .tc .vmem S4104x128 .f32) (harg1 : arg1.IsWhole)
    (arg2 : Memref sig .tc .vmem S4104x128 .f32) (harg2 : arg2.IsWhole) (arg3 : Memref sig .tc .vmem S4x128 .f32) (harg3 : arg3.IsWhole)
    (arg4 : Memref sig .tc .vmem S4096x128 .f32) (harg4 : arg4.IsWhole) (arg5 : Memref sig .tc .vmem S4x128 .f32) (harg5 : arg5.IsWhole)
    (arg6 : Memref sig .tc .vmem S1x128 .f32) (harg6 : arg6.IsWhole)
    (x0 : Vec F S4104x128 .f32) (x1 : Vec F S4104x128 .f32) (x2 : Vec F S4x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (dx x1 x2) ∗ owns (c : Thread nD τ) arg5 fullShare (cw x0 x1 16)
            ∗ owns (c : Thread nD τ) arg6 fullShare (cb x1 16)) -∗ K ⟨⟩))
      ⊢ wp frame (wpE (defs₀ (F := F)) Variants.none c none) E (cc0_conv_bwd i arg1 harg1 arg2 harg2 arg3 harg3 arg4 harg4 arg5 harg5 arg6 harg6) K := by
  simp only [cc0_conv_bwd_eq_skeleton]; unfold cc0_conv_bwd_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  iapply Hk
  have hL := Bufs.loop_at (⟨c, i, arg1, harg1, arg2, harg2, arg3, harg3, arg4, harg4, arg5, harg5, arg6, harg6, x0, x1, x2⟩ : Bufs F) f3
    (arg5.view.writes (Elt F) arg5.view.junk [⟨Rect.unit (s := S4x128) ![0, 0] S4x128.size inb_S4x128_S4x128_0_0, k0_pay1⟩])
    (arg6.view.writes (Elt F) arg6.view.junk [⟨Rect.unit (s := S1x128) ![0, 0] S1x128.size inb_S1x128_S1x128_0_0, k0_pay2⟩])
    (by funext j
        refine View.read_writes_cons_unit_of_mem arg5.view _ inb_S4x128_S4x128_0_0 _ _ j j rfl fun a => ?_
        fin_cases a <;> simp)
    (Bufs.read_all arg6.view _ _ _) 16 le_rfl
  obtain ⟨h4, h5, h6⟩ := hL
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    funext j
    obtain ⟨s, l, rfl⟩ : ∃ (s : Fin 4096) (l : Fin 128), j = ix2 s l := ⟨j 0, j 1, by funext q; fin_cases q <;> rfl⟩
    exact h4 s l (by omega)
  isplitl [H4]
  · iexists _; isplitr
    swap; · iexact H4
    ipureintro
    rw [View.writes_append]
    exact h5
  iexists _; isplitr
  swap; · iexact H5
  ipureintro
  rw [View.writes_append]
  exact h6

variable (m : (ℓ : Loc nD τ sig) → Buf (Elt F) ℓ) (ρ : Dev nD → PrngReg)

/-- What the run computes: the arrays as the region finds them, and after each point the inputs' blocks and the gradients'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dx (iblk m c 1 t) (iblk m c 2 t)
    | ⟨4, _⟩ => cw (iblk m c 0 t) (iblk m c 1 t) 16
    | ⟨5, _⟩ => cb (iblk m c 1 t) 16
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = dx (iblk m c 1 t) (iblk m c 2 t) := by dsimp only [dats]
theorem after_4 (c : Dev nD) (t : Fin cfg0.N) : (dats m 0 c).after 4 t = cw (iblk m c 0 t) (iblk m c 1 t) 16 := by dsimp only [dats]
theorem after_5 (c : Dev nD) (t : Fin cfg0.N) : (dats m 0 c).after 5 t = cb (iblk m c 1 t) 16 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body at a grid point, between the contents the windows hold before and after it. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body the pipeline calls at a point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run, its counters at zero at the end. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program's run leaves its arguments alone. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_quiet m ρ))

/-- The frame: the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

/-- The program's run, each result named by what the points wrote back. -/
theorem run_blocks : θ_run defs (onTc (τ := τ) (main (F := F))) ⟨m, fun _ => 0, ρ⟩ fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_v3_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 3, (h.1.1 c).1 4, (h.1.1 c).1 5, h.2 c⟩) (θ_run_and (run_quiet m ρ) (unchanged m ρ))

end Cert.ConvIdeal.Eqn

end
-- ==== Proof.ConvKernel.lean ====
/- What the convolution's gradient kernel computes: each column block's sums over sixteen tiles of rows, and the four shifted rows of the input's gradient. -/
module

public import proofs.«01_k».proof.Proof.ConvMath
public import proofs.«01_k».proof.Proof.ConvFrame

@[expose] public section

set_option maxRecDepth 16384

noncomputable section

namespace Cert.ConvIdeal.Eqn

open Cert.ConvIdeal Cert.ConvIdeal.Gen
open Idealize.ShloMosaic Idealize.ShloMosaic.TcCoe Idealize.SL.Sem
open Cert.ConvMath Cert.RealLift

/-- A column of a padded block. -/
def col (x : Vec Ideal S4104x128 .f32) (l : Fin 128) (r : ℕ) : EReal :=
  (x : S4104x128.Idx → EReal) (ix2 ⟨r % 4104, Nat.mod_lt _ (by norm_num)⟩ l)

theorem win_apply (x : Vec Ideal S4104x128 .f32) (n : ℕ) (r : Fin 264) (l : Fin 128) (q : ℕ) (hq : q = 256 * n + r.val) :
    (win x n : S264x128.Idx → EReal) (ix2 r l) = col x l q := by subst hq; rfl

/-- The sum over the tiles' rows, one more tile. -/
theorem sum_tile (f : ℕ → EReal) (n : ℕ) :
    ∑ s ∈ Finset.range (256 * (n + 1)), f s = ∑ s ∈ Finset.range (256 * n), f s + ∑ r : Fin 256, f (256 * n + r.val) := by
  rw [Nat.mul_succ, Finset.sum_range_add, Finset.sum_range (n := 256)]

/-- The taps' sums. -/
theorem cw_apply (x0 x1 : Vec Ideal S4104x128 .f32) (n : ℕ) (k : Fin 4) (l : Fin 128) :
    (cw x0 x1 n : S4x128.Idx → EReal) (ix2 k l) = ∑ s ∈ Finset.range (256 * n), col x1 l s * col x0 l (s + (5 + k.val)) := by
  induction n with
  | zero =>
    show (k0_pay1 (F := Ideal) : S4x128.Idx → EReal) (ix2 k l) = _
    pointwise [k0_pay1]
    simp
  | succ n ih =>
    rw [sum_tile, ← ih]
    show (taps (win x0 n) (win x1 n) (cw x0 x1 n) : S4x128.Idx → EReal) (ix2 k l) = _
    have hw := fun (k : Fin 4) (r : Fin 256) (q : Fin 264) (hq : q.val = r.val + (5 + k.val)) =>
      win_apply x0 n q l (256 * n + r.val + (5 + k.val)) (by omega)
    have hg := fun (r : Fin 256) => win_apply x1 n ⟨r.val, by omega⟩ l (256 * n + r.val) rfl
    fin_cases k
    · show (k0_pay6 (k0_pay11 (win x0 n)) (k0_pay13 (win x1 n)) (row 0 (cw x0 x1 n)) : S1x128.Idx → EReal) (ix2 0 l) = _
      pointwise [k0_pay6, k0_pay11, k0_pay13, k0_pay8, k0_pay12]
      refine congrArg _ (Finset.sum_congr rfl fun r _ => ?_)
      exact congrArg₂ (· * ·) (hg r) (hw 0 r _ (show _ % 264 = _ by have := r.isLt; simp; omega))
    · show (k0_pay5 (k0_pay10 (win x0 n)) (k0_pay13 (win x1 n)) (row 1 (cw x0 x1 n)) : S1x128.Idx → EReal) (ix2 0 l) = _
      pointwise [k0_pay5, k0_pay10, k0_pay13, k0_pay8, k0_pay12]
      refine congrArg _ (Finset.sum_congr rfl fun r _ => ?_)
      exact congrArg₂ (· * ·) (hg r) (hw 1 r _ (show _ % 264 = _ by have := r.isLt; simp; omega))
    · show (k0_pay4 (k0_pay9 (win x0 n)) (k0_pay13 (win x1 n)) (row 2 (cw x0 x1 n)) : S1x128.Idx → EReal) (ix2 0 l) = _
      pointwise [k0_pay4, k0_pay9, k0_pay13, k0_pay8, k0_pay12]
      refine congrArg _ (Finset.sum_congr rfl fun r _ => ?_)
      exact congrArg₂ (· * ·) (hg r) (hw 2 r _ (show _ % 264 = _ by have := r.isLt; simp; omega))
    · show (k0_pay3 (k0_pay15 (row 3 (cw x0 x1 n))) (k0_pay16 (win x0 n) (win x1 n)) : S1x128.Idx → EReal) (ix2 0 l) = _
      pointwise [k0_pay3, k0_pay15, k0_pay16, k0_pay13, k0_pay8, k0_pay12]
      refine congrArg _ (Finset.sum_congr rfl fun r _ => ?_)
      exact congrArg₂ (· * ·) (hg r) (hw 3 r _ (show _ + _ = _ by simp; omega))

/-- The bias's sums. -/
theorem cb_apply (x1 : Vec Ideal S4104x128 .f32) (n : ℕ) (l : Fin 128) :
    (cb x1 n : S1x128.Idx → EReal) (ix2 0 l) = ∑ s ∈ Finset.range (256 * n), col x1 l s := by
  induction n with
  | zero =>
    show (k0_pay2 (F := Ideal) : S1x128.Idx → EReal) (ix2 0 l) = _
    pointwise [k0_pay2]
    simp
  | succ n ih =>
    rw [sum_tile, ← ih]
    show (k0_pay7 (k0_pay13 (win x1 n)) (cb x1 n) : S1x128.Idx → EReal) (ix2 0 l) = _
    pointwise [k0_pay7, k0_pay13, k0_pay12]
    refine congrArg _ (Finset.sum_congr rfl fun r _ => ?_)
    exact win_apply x1 n ⟨r.val, by omega⟩ l (256 * n + r.val) rfl

/-- The input's gradient. -/
theorem dx_apply (x1 : Vec Ideal S4104x128 .f32) (x2 : Vec Ideal S4x128 .f32) (s : Fin 4096) (l : Fin 128) :
    (dx x1 x2 : S4096x128.Idx → EReal) (ix2 s l) =
      (x2 : S4x128.Idx → EReal) (ix2 3 l) * col x1 l s.val + (x2 : S4x128.Idx → EReal) (ix2 2 l) * col x1 l (s.val + 1)
      + (x2 : S4x128.Idx → EReal) (ix2 1 l) * col x1 l (s.val + 2) + (x2 : S4x128.Idx → EReal) (ix2 0 l) * col x1 l (s.val + 3) := by
  have hs := s.isLt
  have hw := fun (d : ℕ) (q : Fin 264) (hq : q.val = s.val % 256 + d) => win_apply x1 (s.val / 256) q l (s.val + d) (by omega)
  show (k0_pay14 x2 (win x1 (s.val / 256)) : S256x128.Idx → EReal) (ix2 ⟨s.val % 256, Nat.mod_lt _ (by norm_num)⟩ l) = _
  pointwise [k0_pay14, k0_pay12, k0_pay13]
  rw [hw 0 _ (by simp), hw 1 _ (by simp; omega), hw 2 _ (by simp; omega), hw 3 _ (by simp; omega)]
  rfl

variable (m : (ℓ : Loc nD τ sig) → Buf (Elt Ideal) ℓ)

/-- What the arguments hold: the projection's conv columns, the taps and the cotangent. -/
structure Holds (X G : Dev nD → Fin 4096 → Fin 1024 → EReal) (W : Dev nD → Fin 4 → Fin 1024 → EReal) : Prop where
  x : ∀ c s b, (m ((c.tc : Thread nD τ).loc main_arg0) : S4096x9216.Idx → EReal) (ix2 s ⟨3072 + b.val, by omega⟩) = X c s b
  w : ∀ c : Dev nD, m ((c.tc : Thread nD τ).loc main_arg1) = fun j => W c (j 0) (j 1)
  g : ∀ c : Dev nD, m ((c.tc : Thread nD τ).loc main_arg3) = fun j => G c (j 0) (j 1)

variable {m}
variable {X G : Dev nD → Fin 4096 → Fin 1024 → EReal} {W : Dev nD → Fin 4 → Fin 1024 → EReal}

theorem sitofp_zero : FloatOps.sitofp (F := Ideal) FTy.f32 (0#32 : BitVec 32) = (0 : EReal) := by
  simp [FloatOps.sitofp]

/-- The padded input of the convolution: eight zero rows in front. -/
theorem entry_0 (h : Holds m X G W) (c : Dev nD) (r : Fin 4104) (b : Fin 1024) : (V m c main_v1 : S4104x1024.Idx → EReal) (ix2 r b) =
    if h : 8 ≤ r.val then X c ⟨r.val - 8, by omega⟩ b else 0 := by
  have e : (V m c main_v1 : S4104x1024.Idx → EReal) = pad S4104x1024 ![8, 0] ![0, 0] ![0, 0]
      (extractStridedSlice S4096x1024 ![0, 3072] (m ((c.tc : Thread nD τ).loc main_arg0)) slices_S4096x9216_S4096x1024_0_3072)
      (sitofp (F := Ideal) FTy.f32 (constantI S_ 32 0#32)) pads_S4096x1024_S4104x1024_800_000 h_S_ := by
    unfold_abbrev_sides; try simp only [List.flatten_cons, List.flatten_nil, List.append_nil, List.cons_append, List.nil_append]
    after_results_simp
    rfl
  rw [e]
  pointwise []
  simp only [h.x, sitofp_zero]
  by_cases q : 8 ≤ r.val
  · rw [dif_pos q, dif_pos ⟨q, by omega⟩]
  · rw [dif_neg q, dif_neg fun w => q w.1]

/-- The padded cotangent: eight zero rows at the end. -/
theorem entry_1 (h : Holds m X G W) (c : Dev nD) (r : Fin 4104) (b : Fin 1024) : (V m c main_v2 : S4104x1024.Idx → EReal) (ix2 r b) =
    if h : r.val < 4096 then G c ⟨r.val, h⟩ b else 0 := by
  have e : (V m c main_v2 : S4104x1024.Idx → EReal) = pad S4104x1024 ![0, 0] ![8, 0] ![0, 0]
      (fun j : S4096x1024.Idx => G c (j 0) (j 1)) (sitofp (F := Ideal) FTy.f32 (constantI S_ 32 0#32)) pads_S4096x1024_S4104x1024_080_000 h_S_ := by
    unfold_abbrev_sides; try simp only [List.flatten_cons, List.flatten_nil, List.append_nil, List.cons_append, List.nil_append]
    after_results_simp
    rw [h.g]
    rfl
  rw [e]
  pointwise []
  simp only [sitofp_zero]

/-- A column of a grid point's block. -/
def colOf (t : Fin cfg0.N) (l : Fin 128) : Fin 1024 := ⟨128 * t.val + l.val, by have := lt_of_lt_of_eq t.isLt N_0; omega⟩

theorem idx_val : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] := by decide

theorem blk_x (h : Holds m X G W) (c : Dev nD) (t : Fin cfg0.N) (l : Fin 128) (r : ℕ) (hr : r < 4104) :
    col (iblk m c 0 t) l r = if h : 8 ≤ r then X c ⟨r - 8, by omega⟩ (colOf t l) else 0 := by
  refine Eq.trans ?_ (entry_0 h c ⟨r, hr⟩ (colOf t l))
  unfold col
  blk_point [iblk, idx_val t]
  all_goals simp only [colOf]
  all_goals omega

theorem blk_g (h : Holds m X G W) (c : Dev nD) (t : Fin cfg0.N) (l : Fin 128) (r : ℕ) (hr : r < 4104) :
    col (iblk m c 1 t) l r = if h : r < 4096 then G c ⟨r, h⟩ (colOf t l) else 0 := by
  refine Eq.trans ?_ (entry_1 h c ⟨r, hr⟩ (colOf t l))
  unfold col
  blk_point [iblk, idx_val t]
  all_goals simp only [colOf]
  all_goals omega

theorem blk_w (h : Holds m X G W) (c : Dev nD) (t : Fin cfg0.N) (k : Fin 4) (l : Fin 128) :
    (iblk m c 2 t : S4x128.Idx → EReal) (ix2 k l) = W c k (colOf t l) := by
  refine Eq.trans ?_ (congrFun (h.w c) (ix2 k (colOf t l)))
  blk_point [iblk, V, idx_val t]
  all_goals simp only [colOf]
  all_goals omega

theorem blk_later (h : Holds m X G W) (c : Dev nD) (t : Fin cfg0.N) (l : Fin 128) (s : Fin 4096) (d : ℕ) (hd : d ≤ 8 - 1) :
    col (iblk m c 1 t) l (s.val + d) = later (G c) d s.val (colOf t l) := by
  rw [blk_g h c t l _ (by omega)]; rfl

theorem blk_past (h : Holds m X G W) (c : Dev nD) (t : Fin cfg0.N) (l : Fin 128) (s : Fin 4096) (k : Fin 4) :
    col (iblk m c 0 t) l (s.val + (5 + k.val)) = past (X c) (3 - k.val) s (colOf t l) := by
  rw [blk_x h c t l _ (by omega)]
  by_cases h : 3 - k.val ≤ s.val
  · rw [past, dif_pos h, dif_pos (by omega)]
    exact congrArg (X c · (colOf t l)) (Fin.ext (show s.val + (5 + k.val) - 8 = s.val - (3 - k.val) by omega))
  · rw [past, dif_neg h, dif_neg (by omega)]

theorem final_3 (h : Holds m X G W) (c : Dev nD) : (dats m 0 c).arrAt 3 (cfgs 0).N = fun j => gradX (G c) (W c) (j 0) (j 1) := by
  refine (dats m 0 c).arrAt_eq_of_covers 3 _ (by decide +kernel) fun t hf y => ?_
  blk_simp; rw [after_3]
  have e : ((View.whole main_v3_0).slice (win0_3.rect t)).emb y = ix2 (y 0) (colOf t (y 1)) := by
    blk_ext! [idx_val t]
    all_goals simp only [colOf]
    all_goals omega
  rw [e]
  idx_vars y
  refine (dx_apply _ _ y0 y1).trans ?_
  rw [blk_w h, blk_w h, blk_w h, blk_w h, blk_later h c t y1 y0 1 (by norm_num), blk_later h c t y1 y0 2 (by norm_num),
    blk_later h c t y1 y0 3 (by norm_num), blk_g h c t y1 _ (by omega), dif_pos y0.isLt]
  rfl

theorem final_4 (h : Holds m X G W) (c : Dev nD) : (dats m 0 c).arrAt 4 (cfgs 0).N = fun j => gradW (G c) (X c) (j 0) (j 1) := by
  refine (dats m 0 c).arrAt_eq_of_covers 4 _ (by decide +kernel) fun t hf y => ?_
  blk_simp; rw [after_4]
  have e : ((View.whole main_v3_1).slice (win0_4.rect t)).emb y = ix2 (y 0) (colOf t (y 1)) := by
    blk_ext! [idx_val t]
    all_goals simp only [colOf]
    all_goals omega
  rw [e]
  idx_vars y
  refine (cw_apply _ _ 16 y0 y1).trans ((Finset.sum_range _).trans (Finset.sum_congr rfl fun s _ => ?_))
  exact congrArg₂ (· * ·) ((blk_g h c t y1 _ (by have := s.isLt; omega)).trans (dif_pos s.isLt)) (blk_past h c t y1 s y0)

theorem final_5 (h : Holds m X G W) (c : Dev nD) : (dats m 0 c).arrAt 5 (cfgs 0).N = fun j => gradB (G c) (j 1) := by
  refine (dats m 0 c).arrAt_eq_of_covers 5 _ (by decide +kernel) fun t hf y => ?_
  blk_simp; rw [after_5]
  have e : ((View.whole main_v3_2).slice (win0_5.rect t)).emb y = ix2 (y 0) (colOf t (y 1)) := by
    blk_ext! [idx_val t]
    all_goals simp only [colOf]
    all_goals omega
  rw [e]
  idx_vars y
  refine (congrArg _ (congrArg (ix2 · y1) (Fin.ext (by omega) : y0 = 0))).trans ((cb_apply _ 16 y1).trans ((Finset.sum_range _).trans (Finset.sum_congr rfl fun s _ => ?_)))
  exact (blk_g h c t y1 _ (by have := s.isLt; omega)).trans (dif_pos s.isLt)

/-- The kernel's three results. -/
theorem run_value (ρ : Dev nD → PrngReg) (h : Holds m X G W) :
    θ_run defs (onTc (τ := τ) (main (F := Ideal))) ⟨m, fun _ => 0, ρ⟩ fun r => ∀ c : Dev nD,
      r.2.mem ((c.tc : Thread nD τ).loc main_v3_0) = (fun j => gradX (G c) (W c) (j 0) (j 1))
      ∧ r.2.mem ((c.tc : Thread nD τ).loc main_v3_1) = (fun j => gradW (G c) (X c) (j 0) (j 1))
      ∧ r.2.mem ((c.tc : Thread nD τ).loc main_v3_2) = (fun j => gradB (G c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r q c => ⟨(q c).1.trans (final_3 h c), (q c).2.1.trans (final_4 h c), (q c).2.2.1.trans (final_5 h c), (q c).2.2.2⟩)
    (run_blocks m ρ)

end Cert.ConvIdeal.Eqn

end
-- ==== Proof.ConvClaim.lean ====
/- The convolution's gradient: the kernel's frame for both of its programs, and the kernel and the reference compute one function. -/
module

public import proofs.«01_k».proof.Defs
public import proofs.«01_k».proof.Proof.ConvRef
public import proofs.«01_k».proof.Proof.ConvKernel
public import proofs.«01_k».proof.Proof.Gen.Conv
public import Idealize.ShloMosaic.Adequacy

@[expose] public section

set_option maxRecDepth 16384

noncomputable section

namespace Cert.ConvClaim

open Idealize.ShloMosaic Idealize.ShloMosaic.TcCoe Idealize.SL.Sem
open Cert.ConvIdeal

variable {F : FTy → Type} [FloatOps F]

/-- The kernel and its ideal program are one text. -/
theorem defs_eq : Cert.Conv.defs (F := F) = Cert.ConvIdeal.defs (F := F) := by sl_kernel_rfl
theorem main_eq : Cert.Conv.main (F := F) = Cert.ConvIdeal.main (F := F) := by sl_kernel_rfl

/-- The kernel's frame, from the one run proved over any floats. -/
theorem frame_kernel : Cert.quiescent_Conv := by
  intro m ρ _
  have h := Cert.ConvIdeal.Eqn.frame_all (F := Bits) m ρ
  rw [← defs_eq, ← main_eq] at h
  exact h

/-- The ideal program's frame. -/
theorem frame_ideal : Cert.quiescent_ConvIdeal := fun m ρ _ => Cert.ConvIdeal.Eqn.frame_all m ρ

/-- The reference runs, faults nowhere and leaves its arguments alone. -/
theorem frame_ref : Cert.quiescent_ConvRefIdeal := by
  intro m ρ _
  exact (θ_run _ _ _).mono (fun r h => ⟨fun c => (h c).2.2.2, sem_eq_zero_of_no_sems (by decide) r.2⟩)
    (Cert.ConvRefIdeal.Value.run (F := Ideal) m ρ)

/-- The value claim, of all arguments. -/
theorem algebraic : Cert.algebraic_ConvIdeal_ConvRefIdeal := by
  intro m g m' g' hpre heq
  have h : Cert.ConvIdeal.Eqn.Holds m
      (fun c s b => (m ((c.tc : Thread nD τ).loc main_arg0) : S4096x9216.Idx → EReal) (ix2 s ⟨3072 + b.val, by omega⟩))
      (fun c s b => (m ((c.tc : Thread nD τ).loc main_arg3) : S4096x1024.Idx → EReal) (ix2 s b))
      (fun c k b => (m ((c.tc : Thread nD τ).loc main_arg1) : S4x1024.Idx → EReal) (ix2 k b)) :=
    ⟨fun _ _ _ => rfl, fun c => funext fun j => by idx_vars j, fun c => funext fun j => by idx_vars j⟩
  exact ⟨_, _, _, Eqn.run_value g h, Cert.ConvRefIdeal.Eqn.run_value m' g' _ _ _
    (fun c s b => (congrFun (heq c).1 _).trans (h.x c s b)) (fun c => (heq c).2.1.trans (h.w c)) (fun c => (heq c).2.2.2.trans (h.g c))⟩

end Cert.ConvClaim

end
-- ==== Proof.GateMath.lean ====
/- The gradients of the two gates, the feed-forward's swiglu and the merge of the two mixers, over the reals. -/
module

public import proofs.«01_k».proof.Proof.RealLift

@[expose] public section

noncomputable section

namespace Cert.GateMath

open Idealize.ShloMosaic Cert.RealLift

/-- A matrix of reals. -/
abbrev Mat (a b : ℕ) := Shape.Idx ⟨2, ![a, b]⟩ → ℝ

/-- The logistic function. -/
def sg (x : ℝ) : ℝ := 1 / (1 + Real.exp (-x))

theorem one_add_exp_ne (x : ℝ) : 1 + Real.exp (-x) ≠ 0 := by positivity

/-- The logistic function as both programs spell it. -/
theorem logistic_at (x : ℝ) : Ideal.div 1 (1 + ((Real.exp (-x) : ℝ) : EReal)) = ((sg x : ℝ) : EReal) := by
  rw [← EReal.coe_one, ← EReal.coe_add, EReal.coe_one, Ideal.div_coe (one_add_exp_ne x), one_mul]; rfl

/-- One device's finite arguments of the feed-forward's gate: its input, the two weights, the cotangent of its output. -/
structure FfnArgs where
  y : Mat 4096 2048
  w : Mat 2048 11264
  wo : Mat 5632 2048
  dout : Mat 4096 2048

variable (A : FfnArgs)

/-- The gate and the value it gates: the two halves of one product. -/
def pre (a : Fin 4096) (n : Fin 11264) : ℝ := ∑ k : Fin 2048, A.y (ix2 a k) * A.w (ix2 k n)
def gate (a : Fin 4096) (n : Fin 5632) : ℝ := pre A a ⟨n.val, by omega⟩
def up (a : Fin 4096) (n : Fin 5632) : ℝ := pre A a ⟨5632 + n.val, by omega⟩

/-- The cotangent of the gated values. -/
def dact (a : Fin 4096) (n : Fin 5632) : ℝ := ∑ k : Fin 2048, A.dout (ix2 a k) * A.wo (ix2 n k)

/-- The gradient of the gate (in `silu`'s closed form) and of the gated value. -/
def gradGate (a : Fin 4096) (n : Fin 5632) : ℝ :=
  dact A a n * up A a n * sg (gate A a n) * (1 + gate A a n * (1 - sg (gate A a n)))
def gradUp (a : Fin 4096) (n : Fin 5632) : ℝ := dact A a n * gate A a n * sg (gate A a n)

/-- Both, stacked. -/
def gradBoth (e : Fin 2) (a : Fin 4096) (n : Fin 5632) : ℝ := if e.val < 1 then gradGate A a n else gradUp A a n

/-- One device's finite arguments of the merge: the two mixers' outputs and branch weights, the projection that holds the
    two gates, the output weight, the cotangent of its output. -/
structure MergeArgs where
  ya : Mat 4096 1024
  yl : Mat 4096 1024
  wa : Mat 1024 2048
  wl : Mat 1024 2048
  proj : Mat 4096 9216
  wo : Mat 2048 2048
  dout : Mat 4096 2048

variable (B : MergeArgs)

/-- A branch's values. -/
def branch (y : Mat 4096 1024) (w : Mat 1024 2048) (a : Fin 4096) (n : Fin 2048) : ℝ := ∑ k : Fin 1024, y (ix2 a k) * w (ix2 k n)

/-- The two gates: columns of the projection. -/
def gateA (a : Fin 4096) (n : Fin 2048) : ℝ := B.proj (ix2 a ⟨5120 + n.val, by omega⟩)
def gateL (a : Fin 4096) (n : Fin 2048) : ℝ := B.proj (ix2 a ⟨7168 + n.val, by omega⟩)

/-- The cotangent of the merged values. -/
def dmerged (a : Fin 4096) (n : Fin 2048) : ℝ := ∑ k : Fin 2048, B.dout (ix2 a k) * B.wo (ix2 n k)

/-- The gradients of the branches and of their gates. -/
def gradYa (a : Fin 4096) (n : Fin 2048) : ℝ := dmerged B a n * sg (gateA B a n)
def gradYl (a : Fin 4096) (n : Fin 2048) : ℝ := dmerged B a n * sg (gateL B a n)
def gradGa (a : Fin 4096) (n : Fin 2048) : ℝ :=
  dmerged B a n * branch B.ya B.wa a n * sg (gateA B a n) * (1 - sg (gateA B a n))
def gradGl (a : Fin 4096) (n : Fin 2048) : ℝ :=
  dmerged B a n * branch B.yl B.wl a n * sg (gateL B a n) * (1 - sg (gateL B a n))

end Cert.GateMath

end
-- ==== Proof.DactRef.lean ====
/- What the reference of the feed-forward gate's gradient computes on finite arguments. -/
module

public import proofs.«01_k».proof.Proof.GateMath
public import proofs.«01_k».proof.Proof.Gen.DactRefIdeal.Run

@[expose] public section

set_option maxRecDepth 16384

noncomputable section

namespace Cert.DactRefIdeal.Eqn

open Cert.DactRefIdeal Cert.DactRefIdeal.Gen Cert.DactRefIdeal.Value
open Idealize.ShloMosaic Idealize.ShloMosaic.TcCoe Idealize.SL.Sem
open Cert.GateMath Cert.RealLift

variable (m : (ℓ : Loc nD τ sig) → Buf (Elt Ideal) ℓ) (ρ : Dev nD → PrngReg)

/-- The arguments hold the named real arrays. -/
structure Holds (A : Dev nD → FfnArgs) : Prop where
  y : ∀ c : Dev nD, m ((c.tc : Thread nD τ).loc main_arg0) = fun i => (((A c).y i : ℝ) : EReal)
  w : ∀ c : Dev nD, m ((c.tc : Thread nD τ).loc main_arg1) = fun i => (((A c).w i : ℝ) : EReal)
  wo : ∀ c : Dev nD, m ((c.tc : Thread nD τ).loc main_arg2) = fun i => (((A c).wo i : ℝ) : EReal)
  dout : ∀ c : Dev nD, m ((c.tc : Thread nD τ).loc main_arg3) = fun i => (((A c).dout i : ℝ) : EReal)

variable {m} {A : Dev nD → FfnArgs}

/-- The three products at one place, as the reference spells them. -/
theorem gate_at (A : FfnArgs) (a : Fin 4096) (n : Fin 5632) (p : n.val < 11264) :
    ∑ k : Fin 2048, A.y (ix2 a k) * A.w (ix2 k ⟨n.val, p⟩) = gate A a n := rfl
theorem up_at (A : FfnArgs) (a : Fin 4096) (n : Fin 5632) (p : 5632 + n.val < 11264) :
    ∑ k : Fin 2048, A.y (ix2 a k) * A.w (ix2 k ⟨5632 + n.val, p⟩) = up A a n := rfl
theorem dact_at (A : FfnArgs) (a : Fin 4096) (n : Fin 5632) :
    ∑ k : Fin 2048, A.dout (ix2 a k) * A.wo (ix2 n k) = dact A a n := rfl

/-- The reference's result, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v14) = (fun j => ((gradBoth (A c) (j 0) (j 2) (j 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run m ρ)
  obtain ⟨h0, h1⟩ := hr c
  refine ⟨h0.trans (funext fun j => ?_), h1⟩
  rw [h.y, h.w, h.wo, h.dout]
  idx_vars j
  pointwise []
  simp only [← EReal.coe_neg, Ideal.exp_coe, ← EReal.coe_mul, coe_sum, gate_at, up_at, dact_at, logistic_at]
  simp only [← EReal.coe_one, ← EReal.coe_mul, ← EReal.coe_sub, ← EReal.coe_add]
  unfold gradBoth
  split
  · refine congrArg _ ?_
    rw [gradGate]; ring
  · refine congrArg _ ?_
    rw [gradUp]; ring

end Cert.DactRefIdeal.Eqn

end
-- ==== Proof.DactKernel.lean ====
/- What the kernel of the feed-forward gate's gradient computes on finite arguments: the product with the output weight,
   then the gate's derivative, one tile at a time. -/
module

public import proofs.«01_k».proof.Proof.GateMath
public import proofs.«01_k».proof.Proof.Gen.DactIdeal.Value

@[expose] public section

set_option maxRecDepth 16384

noncomputable section

namespace Cert.DactIdeal.Eqn

open Cert.DactIdeal Cert.DactIdeal.Gen
open Idealize.ShloMosaic Idealize.ShloMosaic.TcCoe Idealize.SL.Sem
open Cert.GateMath Cert.RealLift

variable (m : (ℓ : Loc nD τ sig) → Buf (Elt Ideal) ℓ) (A : Dev nD → FfnArgs)

/-- The arguments hold the named real arrays. -/
structure Holds : Prop where
  y : ∀ c : Dev nD, m ((c.tc : Thread nD τ).loc main_arg0) = fun i => (((A c).y i : ℝ) : EReal)
  w : ∀ c : Dev nD, m ((c.tc : Thread nD τ).loc main_arg1) = fun i => (((A c).w i : ℝ) : EReal)
  wo : ∀ c : Dev nD, m ((c.tc : Thread nD τ).loc main_arg2) = fun i => (((A c).wo i : ℝ) : EReal)
  dout : ∀ c : Dev nD, m ((c.tc : Thread nD τ).loc main_arg3) = fun i => (((A c).dout i : ℝ) : EReal)

/-- The stacked gate and gated value the kernel is handed. -/
theorem entry_gu (c : Dev nD) : (V m c main_v7 : S2x1x4096x5632.Idx → EReal) =
    truncf (F := Ideal) .bf16 (broadcastInDim S2x1x4096x5632 ![0, 2, 3] bcast_S2x4096x5632_S2x1x4096x5632_0_2_3
      (concatenate S2x4096x5632 0 [⟨S1x4096x5632, (broadcastInDim S1x4096x5632 ![1, 2] bcast_S4096x5632_S1x4096x5632_1_2
        (extractStridedSlice S4096x5632 ![0, 0] (Host.dotGeneral (F := Ideal) (φ₁ := .f32) (φ₂ := .f32) dot_S4096x2048_S2048x11264_S4096x11264_1_0_0_1_n_n none (m ((c.tc : Thread nD τ).loc main_arg0)) (m ((c.tc : Thread nD τ).loc main_arg1))) slices_S4096x11264_S4096x5632_0_0))⟩,
       ⟨S1x4096x5632, (broadcastInDim S1x4096x5632 ![1, 2] bcast_S4096x5632_S1x4096x5632_1_2
        (extractStridedSlice S4096x5632 ![0, 5632] (Host.dotGeneral (F := Ideal) (φ₁ := .f32) (φ₂ := .f32) dot_S4096x2048_S2048x11264_S4096x11264_1_0_0_1_n_n none (m ((c.tc : Thread nD τ).loc main_arg0)) (m ((c.tc : Thread nD τ).loc main_arg1))) slices_S4096x11264_S4096x5632_0_5632))⟩] concatenates_S1x4096x5632_S1x4096x5632_S2x4096x5632_d0)) bitsLt_bf16_f32 := by
  unfold_abbrev_sides
  try simp only [List.flatten_cons, List.flatten_nil, List.append_nil, List.cons_append, List.nil_append]
  after_results_simp
  rfl

theorem entry_do (c : Dev nD) : (V m c main_v9 : S1x4096x2048.Idx → EReal) =
    broadcastInDim S1x4096x2048 ![1, 2] bcast_S4096x2048_S1x4096x2048_1_2
      (truncf (F := Ideal) .bf16 (m ((c.tc : Thread nD τ).loc main_arg3)) bitsLt_bf16_f32) := by
  unfold_abbrev_sides
  try simp only [List.flatten_cons, List.flatten_nil, List.append_nil, List.cons_append, List.nil_append]
  after_results_simp

theorem entry_wo (c : Dev nD) : (V m c main_v11 : S1x5632x2048.Idx → EReal) =
    shapeCast S1x5632x2048
      (truncf (F := Ideal) .bf16 (m ((c.tc : Thread nD τ).loc main_arg2)) bitsLt_bf16_f32) shapeCasts_S5632x2048_S1x5632x2048 := by
  unfold_abbrev_sides
  try simp only [List.flatten_cons, List.flatten_nil, List.append_nil, List.cons_append, List.nil_append]
  after_results_simp
  rfl

/-- Every window's block index at a point of the grid. -/
theorem idx_val : ∀ t : Fin cfg0.N, win0_0.index t = ![0, t.val % 8, 0]
    ∧ win0_1.index t = ![0, t.val / 8, 0]
    ∧ win0_2.index t = ![0, 0, t.val % 8, t.val / 8]
    ∧ win0_3.index t = ![0, 0, t.val % 8, t.val / 8] :=
  (by decide +kernel : ∀ t : Fin grid0.N, _)

variable {m A}

/-- The array's row and column that are row `a` and column `n` of tile `t`. -/
def rowOf (t : Fin cfg0.N) (a : Fin 512) : Fin 4096 := ⟨t.val % 8 * 512 + a.val, by omega⟩
def colOf (t : Fin cfg0.N) (n : Fin 2816) : Fin 5632 :=
  ⟨t.val / 8 * 2816 + n.val, by
    have : t.val < 16 := lt_of_lt_of_eq t.isLt N_0
    omega⟩

/-- The stacked halves at one place. -/
theorem gu_at (h : Holds m A) (c : Dev nD) (e : Fin 2) (a : Fin 4096) (n : Fin 5632) :
    (V m c main_v7 : S2x1x4096x5632.Idx → EReal) (ix4 e 0 a n) =
      (((if e.val < 1 then gate (A c) a n else up (A c) a n : ℝ)) : EReal) := by
  rw [entry_gu, h.y, h.w]
  pointwise []
  split
  all_goals simp only [← EReal.coe_mul, coe_sum]
  all_goals rfl

theorem blk_g (h : Holds m A) (c : Dev nD) (t : Fin cfg0.N) (e : Fin 2) (a : Fin 512) (n : Fin 2816) :
    iblk m c 2 t (ix4 e 0 a n) =
      (((if e.val < 1 then gate (A c) (rowOf t a) (colOf t n) else up (A c) (rowOf t a) (colOf t n) : ℝ)) : EReal) := by
  refine Eq.trans ?_ (gu_at h c e (rowOf t a) (colOf t n))
  blk_point [iblk, idx_val t]
  all_goals rfl

theorem blk_do (h : Holds m A) (c : Dev nD) (t : Fin cfg0.N) (a : Fin 512) (k : Fin 2048) :
    iblk m c 0 t (ix3 0 a k) = (((A c).dout (ix2 (rowOf t a) k) : ℝ) : EReal) := by
  have e : (V m c main_v9 : S1x4096x2048.Idx → EReal) (ix3 0 (rowOf t a) k) = (((A c).dout (ix2 (rowOf t a) k) : ℝ) : EReal) := by
    rw [entry_do, h.dout]
    pointwise []
  refine Eq.trans ?_ e
  blk_point [iblk, idx_val t]
  all_goals rfl

theorem wo_at (h : Holds m A) (c : Dev nD) (n : Fin 5632) (k : Fin 2048) :
    (V m c main_v11 : S1x5632x2048.Idx → EReal) (ix3 0 n k) = (((A c).wo (ix2 n k) : ℝ) : EReal) := by
  rw [entry_wo, h.wo, shapeCast_addUnit_apply]
  exact congrArg (fun i => (((A c).wo i : ℝ) : EReal)) (funext fun q => by fin_cases q <;> rfl)

theorem blk_wo (h : Holds m A) (c : Dev nD) (t : Fin cfg0.N) (n : Fin 2816) (k : Fin 2048) :
    iblk m c 1 t (ix3 0 n k) = (((A c).wo (ix2 (colOf t n) k) : ℝ) : EReal) := by
  refine Eq.trans ?_ (wo_at h c (colOf t n) k)
  blk_point [iblk, idx_val t]
  all_goals rfl

/-- The product a tile starts from. -/
theorem dact_at (h : Holds m A) (c : Dev nD) (t : Fin cfg0.N) (a : Fin 512) (n : Fin 2816) :
    k0_pay2 (F := Ideal) (iblk m c 0 t) (iblk m c 1 t) (ix2 a n) = ((dact (A c) (rowOf t a) (colOf t n) : ℝ) : EReal) := by
  pointwise [k0_pay2]
  simp only [blk_do h, blk_wo h, ← EReal.coe_mul, coe_sum]
  rfl

/-- A gate's logistic. -/
theorem sg_at (x : FVec Ideal S1x1x512x2816 .bf16) (a : Fin 512) (n : Fin 2816) (r : ℝ) (hx : x (ix4 0 0 a n) = (r : EReal)) :
    k0_pay4 (F := Ideal) x (ix2 a n) = ((sg r : ℝ) : EReal) := by
  pointwise [k0_pay4, k0_pay3]
  rw [hx, zero_sub, ← EReal.coe_neg, Ideal.exp_coe, logistic_at]

/-- The two stores' values at one place of the tile. -/
theorem gate_at (h : Holds m A) (c : Dev nD) (t : Fin cfg0.N) (g u : FVec Ideal S1x1x512x2816 .bf16) (a : Fin 512) (n : Fin 2816)
    (hg : g (ix4 0 0 a n) = ((gate (A c) (rowOf t a) (colOf t n) : ℝ) : EReal))
    (hu : u (ix4 0 0 a n) = ((up (A c) (rowOf t a) (colOf t n) : ℝ) : EReal)) :
    k0_pay5 (F := Ideal) (iblk m c 0 t) (iblk m c 1 t) g u (ix4 0 0 a n) =
      ((gradGate (A c) (rowOf t a) (colOf t n) : ℝ) : EReal) := by
  pointwise [k0_pay5, k0_pay3]
  rw [dact_at h, sg_at g a n _ hg, hg, hu]
  simp only [← EReal.coe_one, ← EReal.coe_mul, ← EReal.coe_sub, ← EReal.coe_add]
  rfl

theorem up_at (h : Holds m A) (c : Dev nD) (t : Fin cfg0.N) (g : FVec Ideal S1x1x512x2816 .bf16) (a : Fin 512) (n : Fin 2816)
    (hg : g (ix4 0 0 a n) = ((gate (A c) (rowOf t a) (colOf t n) : ℝ) : EReal)) :
    k0_pay1 (k0_pay6 (F := Ideal) (iblk m c 0 t) (iblk m c 1 t) g) (ix4 0 0 a n) =
      ((gradUp (A c) (rowOf t a) (colOf t n) : ℝ) : EReal) := by
  pointwise [k0_pay1, k0_pay6, k0_pay3]
  rw [dact_at h, sg_at g a n _ hg, hg]
  simp only [← EReal.coe_mul]
  rfl

/-- The two halves of the input block, as the body loads them. -/
theorem load_gate (h : Holds m A) (c : Dev nD) (t : Fin cfg0.N) (a : Fin 512) (n : Fin 2816) :
    View.ld (iblk m c 2 t) r0_2 (ix4 0 0 a n) = ((gate (A c) (rowOf t a) (colOf t n) : ℝ) : EReal) := by
  refine (View.ld_unit_apply_of _ _ _ _ _ (ix4 0 0 a n) ?_).trans ((blk_g h c t 0 a n).trans (by simp))
  intro q; fin_cases q <;> simp [ix4]

theorem load_up (h : Holds m A) (c : Dev nD) (t : Fin cfg0.N) (a : Fin 512) (n : Fin 2816) :
    View.ld (iblk m c 2 t) r0_3 (ix4 0 0 a n) = ((up (A c) (rowOf t a) (colOf t n) : ℝ) : EReal) := by
  refine (View.ld_unit_apply_of _ _ _ _ _ (ix4 1 0 a n) ?_).trans ((blk_g h c t 1 a n).trans (by simp))
  intro q; fin_cases q <;> simp [ix4]

/-- What the two stores leave in the block. -/
theorem point (h : Holds m A) (c : Dev nD) (t : Fin cfg0.N) (y : S2x1x512x2816.Idx) :
    out0_3 (F := Ideal) (iblk m c 0 t) (iblk m c 1 t) (iblk m c 2 t) y =
      ((gradBoth (A c) (y 0) (rowOf t (y 2)) (colOf t (y 3)) : ℝ) : EReal) := by
  unfold out0_3
  canon_tiles x hh
  · rw [View.ld_unit_lit _ _ (by decide), View.ld_unit_lit _ _ (by decide)]
    idx_vars x
    obtain rfl : x0 = 0 := by omega
    obtain rfl : x1 = 0 := by omega
    refine (up_at h c t _ x2 x3 (load_gate h c t x2 x3)).trans (congrArg _ (Eq.symm ((if_neg (by simp [hh0])).trans ?_)))
    exact congrArg₂ (gradUp (A c)) (congrArg (rowOf t) (Fin.ext hh2)) (congrArg (colOf t) (Fin.ext hh3))
  · rw [View.ld_unit_lit _ _ (by decide), View.ld_unit_lit _ _ (by decide)]
    idx_vars x
    obtain rfl : x0 = 0 := by omega
    obtain rfl : x1 = 0 := by omega
    refine (gate_at h c t _ _ x2 x3 (load_gate h c t x2 x3) (load_up h c t x2 x3)).trans (congrArg _ (Eq.symm ((if_pos (by simp [hh0])).trans ?_)))
    exact congrArg₂ (gradGate (A c)) (congrArg (rowOf t) (Fin.ext hh2)) (congrArg (colOf t) (Fin.ext hh3))

/-- The gradients after the last tile. -/
theorem final_3 (h : Holds m A) (c : Dev nD) : (dats m 0 c).arrAt 3 (cfgs 0).N =
    fun j => ((gradBoth (A c) (j 0) (j 2) (j 3) : ℝ) : EReal) := by
  refine (dats m 0 c).arrAt_eq_of_covers 3 _ (by decide +kernel) fun t hf y => ?_
  blk_simp; rw [after0_3]
  refine (point h c t y).trans ?_
  have e : ((View.whole main_v12).slice (win0_3.rect t)).emb y = ix4 (y 0) 0 (rowOf t (y 2)) (colOf t (y 3)) := by
    blk_ext! [idx_val t]
    all_goals rfl
  rw [e]
  rfl

/-- The kernel's result, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v12) = (fun j => ((gradBoth (A c) (j 0) (j 2) (j 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.DactIdeal.Value.run_blocks m ρ)
  have := hr c
  rw [final_3 h] at this
  exact this

end Cert.DactIdeal.Eqn

end
-- ==== Proof.DactClaim.lean ====
/- The gradient of the feed-forward's gate: the kernel and the reference compute one function of finite arguments. -/
module

public import proofs.«01_k».proof.Defs
public import proofs.«01_k».proof.Proof.DactRef
public import proofs.«01_k».proof.Proof.DactKernel
public import proofs.«01_k».proof.Proof.Gen.Pre_dact_finite
public import Idealize.ShloMosaic.Adequacy

@[expose] public section

noncomputable section

namespace Cert.DactClaim

open Idealize.ShloMosaic Idealize.ShloMosaic.TcCoe Idealize.SL.Sem
open Cert.DactIdeal Cert.RealLift Cert.GateMath

/-- The reference runs, faults nowhere and leaves its arguments alone. -/
theorem frame_ref : Cert.quiescent_DactRefIdeal := by
  intro m ρ _
  exact (θ_run _ _ _).mono (fun r h => ⟨fun c => (h c).2, sem_eq_zero_of_no_sems (by decide) r.2⟩)
    (Cert.DactRefIdeal.Value.run (F := Ideal) m ρ)

/-- Finite arguments are real arrays. -/
theorem holds_of_finite (m : (ℓ : Loc nD τ sig) → Buf (Elt Ideal) ℓ) (h : Cert.Pre_DactIdeal_dact_finite m) :
    ∃ A, Cert.DactIdeal.Eqn.Holds m A := by
  choose Y h_y using fun c : Dev nD => exists_real (m ((c.tc : Thread nD τ).loc main_arg0)) _ ofBits_inf fun i => congrFun (h c).1 i
  choose W h_w using fun c : Dev nD => exists_real (m ((c.tc : Thread nD τ).loc main_arg1)) _ ofBits_inf fun i => congrFun (h c).2.1 i
  choose WO h_wo using fun c : Dev nD => exists_real (m ((c.tc : Thread nD τ).loc main_arg2)) _ ofBits_inf fun i => congrFun (h c).2.2.1 i
  choose D h_d using fun c : Dev nD => exists_real (m ((c.tc : Thread nD τ).loc main_arg3)) _ ofBits_inf fun i => congrFun (h c).2.2.2 i
  exact ⟨fun c => ⟨Y c, W c, WO c, D c⟩, h_y, h_w, h_wo, h_d⟩

/-- The value claim. -/
theorem algebraic : Cert.algebraic_DactIdeal_DactRefIdeal_pre_dact_finite := by
  intro m g m' g' hpre heq
  obtain ⟨A, h⟩ := holds_of_finite m hpre
  exact ⟨_, Eqn.run_real g h, Cert.DactRefIdeal.Eqn.run_real (A := A) g'
    { y := fun c => (heq c).1.trans (h.y c), w := fun c => (heq c).2.1.trans (h.w c),
      wo := fun c => (heq c).2.2.1.trans (h.wo c), dout := fun c => (heq c).2.2.2.trans (h.dout c) }⟩

end Cert.DactClaim

end
-- ==== Proof.FwdMath.lean ====
/- The values of the forward pass's calls, written once over the extended reals: the modulated norm, the swiglu, the residual
   sum, the gated merge. -/
module

public import Idealize.ShloMosaic.Lib.Pipeline.ValueKit
public import Idealize.ShloMosaic.Lib.Pointwise
public import Idealize.ShloMosaic.PureOps.Ideal.Laws

@[expose] public section

noncomputable section

namespace Cert.FwdMath

open Idealize.ShloMosaic

/-- A matrix. -/
abbrev Mat (a b : ℕ) := Shape.Idx ⟨2, ![a, b]⟩ → EReal

/-- The product of two matrices at a place. -/
def prod {a k n : ℕ} (x : Mat a k) (w : Mat k n) (i : Fin a) (j : Fin n) : EReal := ∑ l : Fin k, x (ix2 i l) * w (ix2 l j)

/-- The logistic function. -/
def logistic (x : EReal) : EReal := Ideal.div 1 (1 + Ideal.exp (-x))

/-- The norm of a row, scaled and shifted. -/
def modulated (x : Mat 4096 2048) (nw sc sh : Mat 1 2048) (a : Fin 4096) (n : Fin 2048) : EReal :=
  x (ix2 a n) * Ideal.rsqrt (Ideal.div (∑ k : Fin 2048, x (ix2 a k) * x (ix2 a k)) (Ideal.ofBits .f32 0x45000000#32)
    + Ideal.ofBits .f32 0x358637BD#32) * nw (ix2 0 n) * (1 + sc (ix2 0 n)) + sh (ix2 0 n)

/-- The residual sum: half the gated output of the feed-forward, added to what went around it. -/
def residual (act : Mat 4096 5632) (w : Mat 5632 2048) (res : Mat 4096 2048) (g : Mat 1 2048) (a : Fin 4096) (n : Fin 2048) : EReal :=
  res (ix2 a n) + Ideal.ofBits .f32 0x3F000000#32 * g (ix2 0 n) * prod act w a n

/-- The residual sum around the mixer: the whole gated output. -/
def added (act : Mat 4096 2048) (w : Mat 2048 2048) (res : Mat 4096 2048) (g : Mat 1 2048) (a : Fin 4096) (n : Fin 2048) : EReal :=
  res (ix2 a n) + g (ix2 0 n) * prod act w a n

/-- The gradient of the feed-forward's first weight, columns `1408 (2 q + p) + n` of it: the columns' gradient is the gate's in the
    first half of the tiles and the gated value's in the second. -/
def weightGrad (y : Mat 4096 2048) (d : (⟨3, ![2, 4096, 5632]⟩ : Shape).Idx → EReal) (q : Fin 4) (p : Fin 2) (i : Fin 2048) (n : Fin 1408) :
    EReal :=
  ∑ k : Fin 4096, y (ix2 k i) * d (ix3 ⟨q.val / 2, by omega⟩ k ⟨q.val % 2 * 2816 + p.val * 1408 + n.val, by omega⟩)

/-- The gate's product and the gated value's: the two halves of one product's columns. -/
def gateOf (y : Mat 4096 2048) (w : Mat 2048 11264) (a : Fin 4096) (n : Fin 5632) : EReal := prod y w a ⟨n.val, by omega⟩
def upOf (y : Mat 4096 2048) (w : Mat 2048 11264) (a : Fin 4096) (n : Fin 5632) : EReal := prod y w a ⟨5632 + n.val, by omega⟩

/-- Both, stacked. -/
def halves (y : Mat 4096 2048) (w : Mat 2048 11264) (e : Fin 2) (a : Fin 4096) (n : Fin 5632) : EReal :=
  if e.val < 1 then gateOf y w a n else upOf y w a n

/-- The swiglu. -/
def swiglu (y : Mat 4096 2048) (w : Mat 2048 11264) (a : Fin 4096) (n : Fin 5632) : EReal :=
  gateOf y w a n * logistic (gateOf y w a n) * upOf y w a n

/-- The merge of the two mixers' branches under their gates, columns of the projection. -/
def merged (ya yl : Mat 4096 1024) (wa wl : Mat 1024 2048) (proj : Mat 4096 9216) (a : Fin 4096) (n : Fin 2048) : EReal :=
  logistic (proj (ix2 a ⟨5120 + n.val, by omega⟩)) * prod ya wa a n
    + logistic (proj (ix2 a ⟨7168 + n.val, by omega⟩)) * prod yl wl a n

end Cert.FwdMath

end
-- ==== Proof.DwinRef.lean ====
/- What the reference of the weight gradient computes. -/
module

public import proofs.«01_k».proof.Proof.FwdMath
public import proofs.«01_k».proof.Proof.Gen.DwinRefIdeal.Run

@[expose] public section

set_option maxRecDepth 16384

noncomputable section

namespace Cert.DwinRefIdeal.Eqn

open Cert.DwinRefIdeal Cert.DwinRefIdeal.Gen Cert.DwinRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v13) = (fun j => weightGrad (m ((c.tc : Thread nD τ).loc main_arg0)) (m ((c.tc : Thread nD τ).loc main_arg1)) (j 0) (j 1) (j 2) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (run m ρ)
  obtain ⟨h0, hk⟩ := hr c
  refine ⟨h0.trans (funext fun j => ?_), hk⟩
  idx_vars j
  pointwise []
  refine Finset.sum_congr rfl fun k _ => (mul_comm _ _).trans (congrArg₂ (fun u v : EReal => u * v) rfl ?_)
  split
  all_goals
    refine congrArg (m ((c.tc : Thread nD τ).loc main_arg1)) (congrArg₂ (fun e n => ix3 e k n) (Fin.ext ?_) (Fin.ext ?_))
    all_goals simp
    all_goals omega

end Cert.DwinRefIdeal.Eqn

end
-- ==== Proof.DwinKernel.lean ====
/- What the kernel of the weight gradient computes: a tile of columns of both at a time, its two blocks stored side by side. -/
module

public import proofs.«01_k».proof.Proof.FwdMath
public import proofs.«01_k».proof.Proof.Gen.DwinIdeal.Value

@[expose] public section

set_option maxRecDepth 16384

noncomputable section

namespace Cert.DwinIdeal.Eqn

open Cert.DwinIdeal Cert.DwinIdeal.Gen
open Idealize.ShloMosaic Idealize.ShloMosaic.TcCoe Idealize.SL.Sem
open Cert.FwdMath

variable (m : (ℓ : Loc nD τ sig) → Buf (Elt Ideal) ℓ)

/-- The rows and the outputs' gradients the kernel is handed. -/
theorem entry_y (c : Dev nD) : (V m c main_v1 : S1x4096x2048.Idx → EReal) =
    broadcastInDim S1x4096x2048 ![1, 2] bcast_S4096x2048_S1x4096x2048_1_2 (truncf (F := Ideal) .bf16 (m ((c.tc : Thread nD τ).loc main_arg0)) bitsLt_bf16_f32) := by
  unfold_abbrev_sides
  try simp only [List.flatten_cons, List.flatten_nil, List.append_nil, List.cons_append, List.nil_append]
  after_results_simp
  try rfl

theorem entry_d (c : Dev nD) : (V m c main_v2 : S2x4096x5632.Idx → EReal) = truncf (F := Ideal) .bf16 (m ((c.tc : Thread nD τ).loc main_arg1)) bitsLt_bf16_f32 := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, 0, t.val % 4]
    ∧ win0_1.index t = ![t.val / 8, 0, t.val / 4 % 2]
    ∧ win0_2.index t = ![t.val / 4, 0, t.val % 4, 0] :=
  (by decide +kernel : ∀ t : Fin grid0.N, _)

/-- The tile of columns of a point, and the row that is row `a` of its tile of rows. -/
def tileOf (t : Fin cfg0.N) : Fin 4 := ⟨t.val / 4, by
  have : t.val < 16 := lt_of_lt_of_eq t.isLt N_0
  omega⟩
def rowOf (t : Fin cfg0.N) (a : Fin 512) : Fin 2048 := ⟨t.val % 4 * 512 + a.val, by omega⟩

/-- The blocks at coordinates. -/
theorem blk_y (c : Dev nD) (t : Fin cfg0.N) (k : Fin 4096) (a : Fin 512) :
    iblk m c 0 t (ix3 0 k a) = m ((c.tc : Thread nD τ).loc main_arg0) (ix2 k (rowOf t a)) := by
  have e : (V m c main_v1 : S1x4096x2048.Idx → EReal) (ix3 0 k (rowOf t a)) = m ((c.tc : Thread nD τ).loc main_arg0) (ix2 k (rowOf t a)) := by
    rw [entry_y]
    pointwise []
  refine Eq.trans ?_ e
  blk_point [iblk, idx_val t]
  all_goals rfl
theorem blk_d (c : Dev nD) (t : Fin cfg0.N) (k : Fin 4096) (n : Fin 2816) :
    iblk m c 1 t (ix3 0 k n) = m ((c.tc : Thread nD τ).loc main_arg1) (ix3 ⟨(tileOf t).val / 2, by omega⟩ k ⟨(tileOf t).val % 2 * 2816 + n.val, by omega⟩) := by
  have e : (V m c main_v2 : S2x4096x5632.Idx → EReal) (ix3 ⟨(tileOf t).val / 2, by omega⟩ k ⟨(tileOf t).val % 2 * 2816 + n.val, by omega⟩) =
      m ((c.tc : Thread nD τ).loc main_arg1) (ix3 ⟨(tileOf t).val / 2, by omega⟩ k ⟨(tileOf t).val % 2 * 2816 + n.val, by omega⟩) := by
    rw [entry_d]
    pointwise []
  refine Eq.trans ?_ e
  blk_point [iblk, idx_val t]
  all_goals first | rfl | (simp only [tileOf]; omega)

/-- The two stores' payloads. -/
theorem first_at (c : Dev nD) (t : Fin cfg0.N) (a : Fin 512) (n : Fin 1408) :
    k0_pay2 (iblk m c 0 t) (iblk m c 1 t) (ix4 0 0 a n) = weightGrad (m ((c.tc : Thread nD τ).loc main_arg0)) (m ((c.tc : Thread nD τ).loc main_arg1)) (tileOf t) 0 (rowOf t a) n := by
  pointwise [k0_pay2, k0_pay1]
  simp only [blk_y, blk_d]
  refine Finset.sum_congr rfl fun k _ => congrArg₂ (fun u v : EReal => u * v) rfl (congrArg (m ((c.tc : Thread nD τ).loc main_arg1)) ?_)
  refine congrArg (ix3 _ k) (Fin.ext ?_)
  simp
theorem second_at (c : Dev nD) (t : Fin cfg0.N) (a : Fin 512) (n : Fin 1408) :
    k0_pay3 (iblk m c 0 t) (iblk m c 1 t) (ix4 0 0 a n) = weightGrad (m ((c.tc : Thread nD τ).loc main_arg0)) (m ((c.tc : Thread nD τ).loc main_arg1)) (tileOf t) 1 (rowOf t a) n := by
  pointwise [k0_pay3, k0_pay1]
  simp only [blk_y, blk_d]
  refine Finset.sum_congr rfl fun k _ => congrArg₂ (fun u v : EReal => u * v) rfl (congrArg (m ((c.tc : Thread nD τ).loc main_arg1)) ?_)
  refine congrArg (ix3 _ k) (Fin.ext ?_)
  simp [add_assoc]

/-- What the two stores leave in the block. -/
theorem point (c : Dev nD) (t : Fin cfg0.N) (y : S1x2x512x1408.Idx) :
    View.canon (Val := Elt Ideal) (s := S1x2x512x1408) (e := .bf16)
      [⟨Rect.unit ![0, 1, 0, 0] ![1, 1, 512, 1408] inb_S1x2x512x1408_S1x1x512x1408_0_1_0_0, k0_pay3 (iblk m c 0 t) (iblk m c 1 t)⟩,
        ⟨Rect.unit ![0, 0, 0, 0] ![1, 1, 512, 1408] inb_S1x2x512x1408_S1x1x512x1408_0_0_0_0, k0_pay2 (iblk m c 0 t) (iblk m c 1 t)⟩] y =
      weightGrad (m ((c.tc : Thread nD τ).loc main_arg0)) (m ((c.tc : Thread nD τ).loc main_arg1)) (tileOf t) (y 1) (rowOf t (y 2)) (y 3) := by
  canon_tiles x hh
  all_goals
    idx_vars x
    obtain rfl : x0 = 0 := by omega
    obtain rfl : x1 = 0 := by omega
    obtain rfl : y 2 = x2 := Fin.ext hh2
    obtain rfl : y 3 = x3 := Fin.ext hh3
  · exact (second_at m c t _ _).trans (congrArg (fun p => weightGrad (m ((c.tc : Thread nD τ).loc main_arg0)) (m ((c.tc : Thread nD τ).loc main_arg1)) (tileOf t) p (rowOf t (y 2)) (y 3)) (Fin.ext hh1.symm))
  · exact (first_at m c t _ _).trans (congrArg (fun p => weightGrad (m ((c.tc : Thread nD τ).loc main_arg0)) (m ((c.tc : Thread nD τ).loc main_arg1)) (tileOf t) p (rowOf t (y 2)) (y 3)) (Fin.ext hh1.symm))

/-- The gradient after the last tile. -/
theorem final_2 (c : Dev nD) : (dats m 0 c).arrAt 2 (cfgs 0).N =
    (fun j => weightGrad (m ((c.tc : Thread nD τ).loc main_arg0)) (m ((c.tc : Thread nD τ).loc main_arg1)) (j 0) (j 1) (j 2) (j 3)) := by
  refine (dats m 0 c).arrAt_eq_of_covers 2 _ (by decide +kernel) fun t hf y => ?_
  blk_simp; rw [after0_2]; frame_out
  refine (point m c t y).trans ?_
  have e : ((View.whole main_v3).slice (win0_2.rect t)).emb y = ix4 (tileOf t) (y 1) (rowOf t (y 2)) (y 3) := by
    blk_ext! [idx_val t]
    all_goals rfl
  rw [e]
  rfl

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v3) = (fun j => weightGrad (m ((c.tc : Thread nD τ).loc main_arg0)) (m ((c.tc : Thread nD τ).loc main_arg1)) (j 0) (j 1) (j 2) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r hr c => ?_) (Cert.DwinIdeal.Value.run_blocks m ρ)
  have := hr c
  rw [final_2] at this
  exact this

end Cert.DwinIdeal.Eqn

end
-- ==== Proof.DwinClaim.lean ====
/- The gradient of the feed-forward's first weight: the kernel and the reference compute one function of any arguments. -/
module

public import proofs.«01_k».proof.Defs
public import proofs.«01_k».proof.Proof.DwinRef
public import proofs.«01_k».proof.Proof.DwinKernel
public import Idealize.ShloMosaic.Adequacy

@[expose] public section

noncomputable section

namespace Cert.DwinClaim

open Idealize.ShloMosaic Idealize.ShloMosaic.TcCoe Idealize.SL.Sem
open Cert.DwinIdeal

/-- The reference runs, faults nowhere and leaves its arguments alone. -/
theorem frame_ref : Cert.quiescent_DwinRefIdeal := by
  intro m ρ _
  exact (θ_run _ _ _).mono (fun r h => ⟨fun c => (h c).2, sem_eq_zero_of_no_sems (by decide) r.2⟩)
    (Cert.DwinRefIdeal.Value.run (F := Ideal) m ρ)

/-- The value claim. -/
theorem algebraic : Cert.algebraic_DwinIdeal_DwinRefIdeal := by
  intro m g m' g' hpre heq
  refine ⟨_, Eqn.run_value m g, (θ_run _ _ _).mono (fun r hr c => ?_) (Cert.DwinRefIdeal.Eqn.run_value m' g')⟩
  obtain ⟨h0, hk⟩ := hr c
  refine ⟨h0.trans ?_, hk⟩
  · rw [(heq c).1, (heq c).2]
    rfl

end Cert.DwinClaim

end
-- ==== Proof.JoinRef.lean ====
/- What the reference of the gated merge computes. -/
module

public import proofs.«01_k».proof.Proof.FwdMath
public import proofs.«01_k».proof.Proof.Gen.JoinRefIdeal.Run

@[expose] public section

set_option maxRecDepth 16384

noncomputable section

namespace Cert.JoinRefIdeal.Eqn

open Cert.JoinRefIdeal Cert.JoinRefIdeal.Gen Cert.JoinRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v20) = (fun j => prod (m ((c.tc : Thread nD τ).loc main_arg1)) (m ((c.tc : Thread nD τ).loc main_arg3)) (j 1) (j 2))
      ∧ r.2.mem ((c.tc : Thread nD τ).loc main_v22) = (fun j => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (run m ρ)
  obtain ⟨h0, h1, hk⟩ := hr c
  refine ⟨h0.trans (funext fun j => ?_), h1.trans (funext fun j => ?_), hk⟩
  all_goals
    idx_vars j
    pointwise []
    rfl

end Cert.JoinRefIdeal.Eqn

end
-- ==== Proof.JoinKernel.lean ====
/- What the kernel of the gated merge computes: the product with the branch weight, then the merge, one tile at a time. -/
module

public import proofs.«01_k».proof.Proof.FwdMath
public import proofs.«01_k».proof.Proof.Gen.JoinIdeal.Value

@[expose] public section

set_option maxRecDepth 16384

noncomputable section

namespace Cert.JoinIdeal.Eqn

open Cert.JoinIdeal Cert.JoinIdeal.Gen
open Idealize.ShloMosaic Idealize.ShloMosaic.TcCoe Idealize.SL.Sem
open Cert.FwdMath

variable (m : (ℓ : Loc nD τ sig) → Buf (Elt Ideal) ℓ)

/-- The first branch, the second's rows and weight, and the projection the kernel is handed. -/
theorem entry_ya (c : Dev nD) : (V m c main_v2 : S1x4096x2048.Idx → EReal) =
    broadcastInDim S1x4096x2048 ![1, 2] bcast_S4096x2048_S1x4096x2048_1_2 (truncf (F := Ideal) .bf16 (Host.dotGeneral (F := Ideal) (φ₁ := .f32) (φ₂ := .f32) dot_S4096x1024_S1024x2048_S4096x2048_1_0_0_1_n_n none (m ((c.tc : Thread nD τ).loc main_arg0)) (m ((c.tc : Thread nD τ).loc main_arg2))) bitsLt_bf16_f32) := by
  unfold_abbrev_sides
  try simp only [List.flatten_cons, List.flatten_nil, List.append_nil, List.cons_append, List.nil_append]
  after_results_simp
  try rfl

theorem entry_w (c : Dev nD) : (V m c main_v4 : S1x1024x2048.Idx → EReal) =
    broadcastInDim S1x1024x2048 ![1, 2] bcast_S1024x2048_S1x1024x2048_1_2 (truncf (F := Ideal) .bf16 (m ((c.tc : Thread nD τ).loc main_arg3)) bitsLt_bf16_f32) := by
  unfold_abbrev_sides
  try simp only [List.flatten_cons, List.flatten_nil, List.append_nil, List.cons_append, List.nil_append]
  after_results_simp
  try rfl

theorem entry_proj (c : Dev nD) : (V m c main_v5 : S1x4096x9216.Idx → EReal) =
    broadcastInDim S1x4096x9216 ![1, 2] bcast_S4096x9216_S1x4096x9216_1_2 (m ((c.tc : Thread nD τ).loc main_arg4)) := by
  unfold_abbrev_sides
  try simp only [List.flatten_cons, List.flatten_nil, List.append_nil, List.cons_append, List.nil_append]
  after_results_simp
  try rfl

theorem entry_yl (c : Dev nD) : (V m c main_v7 : S1x4096x1024.Idx → EReal) =
    broadcastInDim S1x4096x1024 ![1, 2] bcast_S4096x1024_S1x4096x1024_1_2 (truncf (F := Ideal) .bf16 (m ((c.tc : Thread nD τ).loc main_arg1)) bitsLt_bf16_f32) := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, t.val % 4, 0]
    ∧ win0_1.index t = ![0, 0, t.val / 4]
    ∧ win0_2.index t = ![0, t.val % 4, t.val / 4]
    ∧ win0_3.index t = ![0, t.val % 4, t.val / 4 + 5]
    ∧ win0_4.index t = ![0, t.val % 4, t.val / 4 + 7]
    ∧ win0_5.index t = ![0, t.val % 4, t.val / 4]
    ∧ win0_6.index t = ![0, t.val % 4, t.val / 4] :=
  (by decide +kernel : ∀ t : Fin grid0.N, _)

/-- The array's row and column that are row `a` and column `n` of tile `t`. -/
def rowOf (t : Fin cfg0.N) (a : Fin 1024) : Fin 4096 := ⟨t.val % 4 * 1024 + a.val, by omega⟩
def colOf (t : Fin cfg0.N) (n : Fin 1024) : Fin 2048 :=
  ⟨t.val / 4 * 1024 + n.val, by
    have : t.val < 8 := lt_of_lt_of_eq t.isLt N_0
    omega⟩

/-- The blocks at coordinates: the second branch's rows. -/
theorem blk_yl (c : Dev nD) (t : Fin cfg0.N) (a k : Fin 1024) :
    iblk m c 0 t (ix3 0 a k) = m ((c.tc : Thread nD τ).loc main_arg1) (ix2 (rowOf t a) k) := by
  have e : (V m c main_v7 : S1x4096x1024.Idx → EReal) (ix3 0 (rowOf t a) k) = m ((c.tc : Thread nD τ).loc main_arg1) (ix2 (rowOf t a) k) := by
    rw [entry_yl]
    pointwise []
  refine Eq.trans ?_ e
  blk_point [iblk, idx_val t]
  all_goals first | rfl | (simp only [rowOf, colOf]; omega)

/-- Its weight's. -/
theorem blk_w (c : Dev nD) (t : Fin cfg0.N) (k n : Fin 1024) :
    iblk m c 1 t (ix3 0 k n) = m ((c.tc : Thread nD τ).loc main_arg3) (ix2 k (colOf t n)) := by
  have e : (V m c main_v4 : S1x1024x2048.Idx → EReal) (ix3 0 k (colOf t n)) = m ((c.tc : Thread nD τ).loc main_arg3) (ix2 k (colOf t n)) := by
    rw [entry_w]
    pointwise []
  refine Eq.trans ?_ e
  blk_point [iblk, idx_val t]
  all_goals first | rfl | (simp only [rowOf, colOf]; omega)

/-- The first branch's. -/
theorem blk_ya (c : Dev nD) (t : Fin cfg0.N) (a n : Fin 1024) :
    iblk m c 2 t (ix3 0 a n) = prod (m ((c.tc : Thread nD τ).loc main_arg0)) (m ((c.tc : Thread nD τ).loc main_arg2)) (rowOf t a) (colOf t n) := by
  have e : (V m c main_v2 : S1x4096x2048.Idx → EReal) (ix3 0 (rowOf t a) (colOf t n)) = prod (m ((c.tc : Thread nD τ).loc main_arg0)) (m ((c.tc : Thread nD τ).loc main_arg2)) (rowOf t a) (colOf t n) := by
    rw [entry_ya]
    pointwise []
    rfl
  refine Eq.trans ?_ e
  blk_point [iblk, idx_val t]
  all_goals first | rfl | (simp only [rowOf, colOf]; omega)

/-- A gate's. -/
theorem blk_ga (c : Dev nD) (t : Fin cfg0.N) (a n : Fin 1024) :
    iblk m c 3 t (ix3 0 a n) = m ((c.tc : Thread nD τ).loc main_arg4) (ix2 (rowOf t a) ⟨5120 + (colOf t n).val, by omega⟩) := by
  have e : (V m c main_v5 : S1x4096x9216.Idx → EReal) (ix3 0 (rowOf t a) ⟨5120 + (colOf t n).val, by omega⟩) = m ((c.tc : Thread nD τ).loc main_arg4) (ix2 (rowOf t a) ⟨5120 + (colOf t n).val, by omega⟩) := by
    rw [entry_proj]
    pointwise []
  refine Eq.trans ?_ e
  blk_point [iblk, idx_val t]
  all_goals first | rfl | (simp only [rowOf, colOf]; omega)

/-- A gate's. -/
theorem blk_gl (c : Dev nD) (t : Fin cfg0.N) (a n : Fin 1024) :
    iblk m c 4 t (ix3 0 a n) = m ((c.tc : Thread nD τ).loc main_arg4) (ix2 (rowOf t a) ⟨7168 + (colOf t n).val, by omega⟩) := by
  have e : (V m c main_v5 : S1x4096x9216.Idx → EReal) (ix3 0 (rowOf t a) ⟨7168 + (colOf t n).val, by omega⟩) = m ((c.tc : Thread nD τ).loc main_arg4) (ix2 (rowOf t a) ⟨7168 + (colOf t n).val, by omega⟩) := by
    rw [entry_proj]
    pointwise []
  refine Eq.trans ?_ e
  blk_point [iblk, idx_val t]
  all_goals first | rfl | (simp only [rowOf, colOf]; omega)

/-- The second branch after the last tile. -/
theorem final_5 (c : Dev nD) : (dats m 0 c).arrAt 5 (cfgs 0).N =
    (fun j => prod (m ((c.tc : Thread nD τ).loc main_arg1)) (m ((c.tc : Thread nD τ).loc main_arg3)) (j 1) (j 2)) := by
  refine (dats m 0 c).arrAt_eq_of_covers 5 _ (by decide +kernel) fun t hf y => ?_
  blk_simp; rw [after0_5]; frame_out
  have e : ((View.whole main_v8_0).slice (win0_5.rect t)).emb y = ix3 0 (rowOf t (y 1)) (colOf t (y 2)) := by
    blk_ext! [idx_val t]
    all_goals rfl
  rw [e]
  idx_vars y
  pointwise [k0_pay3, k0_pay2]
  simp only [blk_yl, blk_w, blk_ya, blk_ga, blk_gl, zero_sub]
  rfl

/-- The merge after the last tile. -/
theorem final_6 (c : Dev nD) : (dats m 0 c).arrAt 6 (cfgs 0).N =
    (fun j => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 1) (j 2)) := by
  refine (dats m 0 c).arrAt_eq_of_covers 6 _ (by decide +kernel) fun t hf y => ?_
  blk_simp; rw [after0_6]; frame_out
  have e : ((View.whole main_v8_1).slice (win0_6.rect t)).emb y = ix3 0 (rowOf t (y 1)) (colOf t (y 2)) := by
    blk_ext! [idx_val t]
    all_goals rfl
  rw [e]
  idx_vars y
  pointwise [k0_pay1, k0_pay2, k0_pay4, k0_pay5]
  simp only [blk_yl, blk_w, blk_ya, blk_ga, blk_gl, zero_sub]
  rfl

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v8_0) = (fun j => prod (m ((c.tc : Thread nD τ).loc main_arg1)) (m ((c.tc : Thread nD τ).loc main_arg3)) (j 1) (j 2))
      ∧ r.2.mem ((c.tc : Thread nD τ).loc main_v8_1) = (fun j => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r hr c => ?_) (Cert.JoinIdeal.Value.run_blocks m ρ)
  have := hr c
  rw [final_5, final_6] at this
  exact this

end Cert.JoinIdeal.Eqn

end
-- ==== Proof.JoinClaim.lean ====
/- The merge of the two mixers: the kernel and the reference compute one function of any arguments. -/
module

public import proofs.«01_k».proof.Defs
public import proofs.«01_k».proof.Proof.JoinRef
public import proofs.«01_k».proof.Proof.JoinKernel
public import Idealize.ShloMosaic.Adequacy

@[expose] public section

noncomputable section

namespace Cert.JoinClaim

open Idealize.ShloMosaic Idealize.ShloMosaic.TcCoe Idealize.SL.Sem
open Cert.JoinIdeal

/-- The reference runs, faults nowhere and leaves its arguments alone. -/
theorem frame_ref : Cert.quiescent_JoinRefIdeal := by
  intro m ρ _
  exact (θ_run _ _ _).mono (fun r h => ⟨fun c => (h c).2.2, sem_eq_zero_of_no_sems (by decide) r.2⟩)
    (Cert.JoinRefIdeal.Value.run (F := Ideal) m ρ)

/-- The value claim. -/
theorem algebraic : Cert.algebraic_JoinIdeal_JoinRefIdeal := by
  intro m g m' g' hpre heq
  refine ⟨_, _, Eqn.run_value m g, (θ_run _ _ _).mono (fun r hr c => ?_) (Cert.JoinRefIdeal.Eqn.run_value m' g')⟩
  obtain ⟨h0, h1, hk⟩ := hr c
  refine ⟨h0.trans ?_, h1.trans ?_, hk⟩
  · rw [(heq c).2.1, (heq c).2.2.2.1]
    rfl
  · rw [(heq c).1, (heq c).2.1, (heq c).2.2.1, (heq c).2.2.2.1, (heq c).2.2.2.2]
    rfl

end Cert.JoinClaim

end
-- ==== Proof.NormMath.lean ====
/- The gradient of an RMS norm over the reals: the form the kernel computes a row with, and the form the chain rule gives. -/
module

public import proofs.«01_k».proof.Proof.RealLift

@[expose] public section

noncomputable section

namespace Cert.NormMath

open Idealize.ShloMosaic

/-- The norm's epsilon, the real number its f32 word is. -/
def eps : ℝ := 8796093 / 8796093022208

theorem eps_pos : 0 < eps := by norm_num [eps]

theorem ofBits_eps : Ideal.ofBits .f32 0x358637BD#32 = ((eps : ℝ) : EReal) := by
  simp [Ideal.ofBits, Ideal.ieee, -EReal.coe_mul, eps]; norm_num

theorem ofBits_width : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

variable {n : ℕ}

/-- The mean square of a row plus epsilon. -/
def msq (x : Fin n → ℝ) : ℝ := (∑ k, x k * x k) * (1 / 2048) + eps

theorem msq_pos (x : Fin n → ℝ) : 0 < msq x := by
  have : 0 ≤ ∑ k, x k * x k := Finset.sum_nonneg fun k _ => mul_self_nonneg _
  unfold msq
  have := eps_pos
  positivity

/-- The reciprocal root of the mean square. -/
def rinv (x : Fin n → ℝ) : ℝ := (Real.sqrt (msq x))⁻¹

theorem rinv_sq (x : Fin n → ℝ) : rinv x * rinv x * msq x = 1 := by
  have h := Real.mul_self_sqrt (msq_pos x).le
  have h0 : Real.sqrt (msq x) ≠ 0 := (Real.sqrt_pos.2 (msq_pos x)).ne'
  unfold rinv
  rw [← mul_inv, h, inv_mul_cancel₀ (msq_pos x).ne']

/-- The reciprocal root of a positive real, in the extended reals. -/
theorem rsqrt_msq (x : Fin n → ℝ) : Ideal.rsqrt ((msq x : ℝ) : EReal) = ((rinv x : ℝ) : EReal) := by
  rw [Ideal.rsqrt_coe, if_neg (msq_pos x).le.not_gt, if_neg (msq_pos x).ne']; rfl

/-- The norm's input gradient at column `b`, from the gradient `g` of the normalised row: the kernel's form. -/
def dxKernel (x g : Fin n → ℝ) (b : Fin n) : ℝ :=
  rinv x * (g b - x b * rinv x * ((∑ k, g k * (x k * rinv x)) * (1 / 2048)))

/-- The part of the gradient that the mean square carries, at column `b`: the chain rule's form. -/
def meanPart (x g : Fin n → ℝ) : ℝ := (∑ k, x k * g k) * (-(1 / 2) * (rinv x * (1 / msq x))) * (1 / 2048)

/-- The two forms agree. -/
theorem dx_eq (x g : Fin n → ℝ) (b : Fin n) :
    dxKernel x g b = g b * rinv x + x b * meanPart x g + meanPart x g * x b := by
  have hs : ∑ k, g k * (x k * rinv x) = (∑ k, x k * g k) * rinv x := by
    rw [Finset.sum_mul]; exact Finset.sum_congr rfl fun k _ => by ring
  have hm : 1 / msq x = rinv x * rinv x := by
    rw [div_eq_iff (msq_pos x).ne', rinv_sq]
  unfold dxKernel meanPart
  rw [hs, hm]
  ring

/-- The mean square as the programs spell it, under the reciprocal root. -/
theorem rsqrt_row (x : Fin n → ℝ) :
    Ideal.rsqrt (((∑ k, x k * x k) * (1 / 2048) + eps : ℝ) : EReal) = ((rinv x : ℝ) : EReal) := rsqrt_msq x

/-- A division by the mean square as the programs spell it. -/
theorem div_row (x : Fin n → ℝ) (y : EReal) :
    Ideal.div y (((∑ k, x k * x k) * (1 / 2048) + eps : ℝ) : EReal) = y * ((1 / msq x : ℝ) : EReal) :=
  Ideal.div_coe (msq_pos x).ne' y

/-- A division by the width of a row. -/
theorem div_width (y : EReal) : Ideal.div y ((2048 : ℝ) : EReal) = y * ((1 / 2048 : ℝ) : EReal) :=
  Ideal.div_coe (by norm_num) y

/-! ### The four gradients as arrays, over the 4096 × 2048 block of one device -/

variable (X DY : Shape.Idx ⟨2, ![4096, 2048]⟩ → ℝ) (NW SC : Shape.Idx ⟨2, ![1, 2048]⟩ → ℝ)

/-- Row `a` of an array. -/
def row (X : Shape.Idx ⟨2, ![4096, 2048]⟩ → ℝ) (a : Fin 4096) : Fin 2048 → ℝ := fun k => X (ix2 a k)

/-- The gradient that reaches the normalised row `a`. -/
def gRow (a : Fin 4096) : Fin 2048 → ℝ := fun k => DY (ix2 a k) * (1 + SC (ix2 0 k)) * NW (ix2 0 k)

/-- The norm's input gradient in the chain rule's form. -/
def gradX (a : Fin 4096) (b : Fin 2048) : ℝ :=
  gRow DY NW SC a b * rinv (row X a) + row X a b * meanPart (row X a) (gRow DY NW SC a)
    + meanPart (row X a) (gRow DY NW SC a) * row X a b

/-- The gradient of the shift. -/
def gradShift (b : Fin 2048) : ℝ := ∑ a, DY (ix2 a b)

/-- The gradient of the scale. -/
def gradScale (b : Fin 2048) : ℝ := ∑ a, row X a b * rinv (row X a) * NW (ix2 0 b) * DY (ix2 a b)

/-- The gradient of the norm's weight. -/
def gradWeight (b : Fin 2048) : ℝ := ∑ a, row X a b * rinv (row X a) * (DY (ix2 a b) * (1 + SC (ix2 0 b)))

end Cert.NormMath

end
-- ==== Proof.BelowMath.lean ====
/- The gradient of an RMS norm together with the gated residual sum below it, over the reals: what the arguments are
   called, the sum itself, and the six gradients. -/
module

public import proofs.«01_k».proof.Proof.NormMath

@[expose] public section

noncomputable section

namespace Cert.BelowMath

open Idealize.ShloMosaic Cert.NormMath

/-- A block of rows, and a row of weights. -/
abbrev Rows := Shape.Idx ⟨2, ![4096, 2048]⟩ → ℝ
abbrev Weights := Shape.Idx ⟨2, ![1, 2048]⟩ → ℝ

/-- One device's finite arguments: the residual, the branch's output, the two cotangents, the norm's weight, the scale
    and the branch's gate. -/
structure Args where
  res : Rows
  o : Rows
  dh : Rows
  dy : Rows
  nw : Weights
  sc : Weights
  g : Weights

variable (s : ℝ) (A : Args)

/-- The residual sum below the norm, its gate scaled by `s`. -/
def hid : Rows := fun i => A.res i + s * A.g (ix2 0 (i 1)) * A.o i

/-- The gradient that reaches the residual sum. -/
def total (a : Fin 4096) (b : Fin 2048) : ℝ := A.dh (ix2 a b) + gradX (hid s A) A.dy A.nw A.sc a b

/-- The gradient of the branch's output. -/
def gradO (a : Fin 4096) (b : Fin 2048) : ℝ := total s A a b * (s * A.g (ix2 0 b))

/-- The gradient of the branch's gate. -/
def gradG (b : Fin 2048) : ℝ := ∑ a, total s A a b * A.o (ix2 a b) * s

/-- The gradient of the scale and of the norm's weight. -/
def gradSc (b : Fin 2048) : ℝ := gradScale (hid s A) A.dy A.nw b
def gradNw (b : Fin 2048) : ℝ := gradWeight (hid s A) A.dy A.sc b

end Cert.BelowMath

end
-- ==== Proof.LossMath.lean ====
/- The loss, and its gradient through the last RMS norm and the gated residual sum below it, over the reals. -/
module

public import proofs.«01_k».proof.Proof.BelowMath

@[expose] public section

noncomputable section

namespace Cert.LossMath

open Idealize.ShloMosaic Cert.NormMath Cert.BelowMath

theorem ofBits_two : Ideal.ofBits .f32 0x40000000#32 = ((2 : ℝ) : EReal) := by
  simp [Ideal.ofBits, Ideal.ieee, -EReal.coe_mul]; norm_num

theorem ofBits_inv_width : Ideal.ofBits .f32 0x3A000000#32 = ((1 / 2048 : ℝ) : EReal) := by
  simp [Ideal.ofBits, Ideal.ieee, -EReal.coe_mul]; norm_num

/-- One device's finite arguments: the residual, the branch's output, the targets, the norm's weight and the branch's
    gate. -/
structure LossArgs where
  res : Rows
  o : Rows
  target : Rows
  nw : Weights
  g : Weights

variable (A : LossArgs)

/-- Row `a` of the residual sum the last norm reads. -/
def last (a : Fin 4096) : Fin 2048 → ℝ := fun k => A.res (ix2 a k) + 1 / 2 * A.g (ix2 0 k) * A.o (ix2 a k)

/-- The error of the normalised row against its target. -/
def err (a : Fin 4096) (k : Fin 2048) : ℝ := last A a k * rinv (last A a) * A.nw (ix2 0 k) - A.target (ix2 a k)

/-- The loss: half the sum over the rows of the mean squared error. -/
def loss : ℝ := 1 / 2 * ∑ a, (∑ k, err A a k * err A a k) * (1 / 2048)

/-- The gradient that reaches the norm's output, and with the weight the normalised row. -/
def errGrad (a : Fin 4096) (k : Fin 2048) : ℝ := err A a k * (1 / 2048)
def rowGrad (a : Fin 4096) : Fin 2048 → ℝ := fun k => errGrad A a k * A.nw (ix2 0 k)

/-- The gradient of the residual sum, in the chain rule's form. -/
def gradLast (a : Fin 4096) (b : Fin 2048) : ℝ :=
  rowGrad A a b * rinv (last A a) + last A a b * meanPart (last A a) (rowGrad A a)
    + meanPart (last A a) (rowGrad A a) * last A a b

/-- The gradient of the branch's output, of the norm's weight and of the branch's gate. -/
def gradOut (a : Fin 4096) (b : Fin 2048) : ℝ := gradLast A a b * (1 / 2 * A.g (ix2 0 b))
def gradNorm (b : Fin 2048) : ℝ := ∑ a, errGrad A a b * (last A a b * rinv (last A a))
def gradGate (b : Fin 2048) : ℝ := ∑ a, gradLast A a b * A.o (ix2 a b) * (1 / 2)

end Cert.LossMath

end
-- ==== Proof.LossRef.lean ====
/- What the reference of the loss and its gradient computes on finite arguments. -/
module

public import proofs.«01_k».proof.Proof.LossMath
public import proofs.«01_k».proof.Proof.Gen.LossRefIdeal.Run

@[expose] public section

set_option maxRecDepth 16384

noncomputable section

namespace Cert.LossRefIdeal.Eqn

open Cert.LossRefIdeal Cert.LossRefIdeal.Gen Cert.LossRefIdeal.Value
open Idealize.ShloMosaic Idealize.ShloMosaic.TcCoe Idealize.SL.Sem
open Cert.NormMath Cert.LossMath Cert.RealLift

variable (m : (ℓ : Loc nD τ sig) → Buf (Elt Ideal) ℓ) (ρ : Dev nD → PrngReg)

/-- The residual sum and the error at one place, as the reference spells them. -/
theorem last_at (A : LossArgs) (a : Fin 4096) (k : Fin 2048) :
    A.res (ix2 a k) + 1 / 2 * A.g (ix2 0 k) * A.o (ix2 a k) = last A a k := rfl
theorem err_at (A : LossArgs) (a : Fin 4096) (k : Fin 2048) :
    last A a k * rinv (last A a) * A.nw (ix2 0 k) - A.target (ix2 a k) = err A a k := rfl

/-- The square's two and the loss's half cancel. -/
theorem errGrad_at (A : LossArgs) (a : Fin 4096) (k : Fin 2048) :
    1 / 2 * (1 / 2048) * (2 * err A a k) = errGrad A a k := by rw [errGrad]; ring

/-- The arguments hold the named real arrays. -/
structure Holds (A : Dev nD → LossArgs) : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  target : ∀ c : Dev nD, m ((c.tc : Thread nD τ).loc main_arg4) = fun i => (((A c).target i : ℝ) : EReal)

variable {m} {A : Dev nD → LossArgs}

/-- The gradient of the residual sum. -/
theorem total_at (h : Holds m A) (c : Dev nD) (a : Fin 4096) (b : Fin 2048) :
    (res_main_v53 m c : S4096x2048.Idx → EReal) (ix2 a b) = ((gradLast (A c) a b : ℝ) : EReal) := by
  unfold res_main_v53
  rw [h.res, h.o, h.g, h.nw, h.target]
  pointwise []
  simp only [ofBits_width, ofBits_eps, ofBits_neg_half, ofBits_half, ofBits_two, ← EReal.coe_one, ← EReal.coe_mul, coe_sum,
    div_width, ← EReal.coe_add, ← EReal.coe_sub, last_at, rsqrt_row (last (A c) _), div_row (last (A c) _), err_at,
    errGrad_at, Fin.sum_univ_one]
  rfl

/-- The branch output's and the gate's gradients, folded back over the residual sum's. -/
theorem fold_o (c : Dev nD) : (res_main_v61 m c : S4096x2048.Idx → EReal) = truncf (F := Ideal) .bf16 (mulf (φ := .f32)
    (broadcastInDim S4096x2048 ![0, 1] bcast_S1x2048_S4096x2048_0_1 (mulf (φ := .f32) (broadcastInDim S1x2048 ![] bcast_S_S1x2048 (constant S_ .f32 0x3F000000#32)) (m ((c.tc : Thread nD τ).loc main_arg2))))
    (res_main_v53 m c : S4096x2048.Idx → EReal)) bitsLt_bf16_f32 := by
  unfold res_main_v61 res_main_v53; rfl

theorem fold_g (c : Dev nD) : (res_main_v60 m c : S1x2048.Idx → EReal) = mulf (F := Ideal) (φ := .f32) (broadcastInDim S1x2048 ![] bcast_S_S1x2048 (constant S_ .f32 0x3F000000#32)) (shapeCast S1x2048 (Host.reduceAdd (F := Ideal)
    (mulf (φ := .f32) (res_main_v53 m c : S4096x2048.Idx → EReal)
      (m ((c.tc : Thread nD τ).loc main_arg1)))
    (constant S_ .f32 0x00000000#32) reducesTo_S4096x2048_S2048_d0 h_S_) shapeCasts_S2048_S1x2048) := by
  unfold res_main_v60 res_main_v53; rfl

/-- The reference's five results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v53) = (fun j => ((gradLast (A c) (j 0) (j 1) : ℝ) : EReal))
      ∧ r.2.mem ((c.tc : Thread nD τ).loc main_v61) = (fun j => ((gradOut (A c) (j 0) (j 1) : ℝ) : EReal))
      ∧ r.2.mem ((c.tc : Thread nD τ).loc main_v62) = (fun _ => ((loss (A c) : ℝ) : EReal))
      ∧ r.2.mem ((c.tc : Thread nD τ).loc main_v37) = (fun j => ((gradNorm (A c) (j 1) : ℝ) : EReal))
      ∧ r.2.mem ((c.tc : Thread nD τ).loc main_v60) = (fun j => ((gradGate (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (run m ρ)
  obtain ⟨h0, h1, h2, h3, h4, h5⟩ := hr c
  refine ⟨h0.trans (funext fun j => ?_), h1.trans (funext fun j => ?_), h2.trans (funext fun j => ?_),
    h3.trans (funext fun j => ?_), h4.trans (funext fun j => ?_), h5⟩
  · idx_vars j
    exact total_at h c j0 j1
  · refine (congrFun (fold_o c) j).trans ?_
    rw [h.g]
    idx_vars j
    pointwise []
    simp only [total_at h c, ofBits_half, ← EReal.coe_mul]
    refine congrArg _ ?_
    simp only [gradOut]
    show _ = gradLast _ j0 j1 * _
    ring
  · rw [h.res, h.o, h.g, h.nw, h.target]
    idx_vars j
    pointwise []
    simp only [ofBits_width, ofBits_eps, ofBits_half, ← EReal.coe_mul, coe_sum,
      div_width, ← EReal.coe_add, ← EReal.coe_sub, last_at, rsqrt_row (last (A c) _), err_at]
    rfl
  · rw [h.res, h.o, h.g, h.nw, h.target]
    idx_vars j
    pointwise []
    simp only [ofBits_width, ofBits_eps, ofBits_half, ofBits_two, ← EReal.coe_one, ← EReal.coe_mul, coe_sum,
      div_width, ← EReal.coe_add, ← EReal.coe_sub, last_at, rsqrt_row (last (A c) _), err_at, errGrad_at]
    refine congrArg _ (?_ : _ = ∑ a, errGrad (A c) a j1 * (last (A c) a j1 * rinv (last (A c) a)))
    exact Finset.sum_congr rfl fun a _ => mul_comm _ _
  · refine (congrFun (fold_g c) j).trans ?_
    rw [h.o]
    idx_vars j
    pointwise []
    simp only [total_at h c, ofBits_half, ← EReal.coe_mul, coe_sum]
    refine congrArg _ (?_ : _ = ∑ a, gradLast (A c) a j1 * (A c).o (ix2 a j1) * (1 / 2))
    rw [← Finset.sum_mul]
    exact mul_comm _ _

end Cert.LossRefIdeal.Eqn

end
-- ==== Proof.LossKernel.lean ====
/- What the kernel of the loss and its gradient computes on finite arguments: a tile of rows at a time, the loss and the
   two column sums carried from tile to tile. -/
module

public import proofs.«01_k».proof.Proof.LossMath
public import proofs.«01_k».proof.Proof.Gen.LossIdeal.Value

@[expose] public section

set_option maxRecDepth 16384

noncomputable section

namespace Cert.LossIdeal.Eqn

open Cert.LossIdeal Cert.LossIdeal.Gen
open Idealize.ShloMosaic Idealize.ShloMosaic.TcCoe Idealize.SL.Sem
open Cert.NormMath Cert.LossMath Cert.RealLift

variable (m : (ℓ : Loc nD τ sig) → Buf (Elt Ideal) ℓ) (A : Dev nD → LossArgs)

/-- The arguments hold the named real arrays. -/
structure Holds : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  target : ∀ c : Dev nD, m ((c.tc : Thread nD τ).loc main_arg4) = fun i => (((A c).target i : ℝ) : EReal)

/-- The residual sum the kernel is handed. -/
theorem entry_h (c : Dev nD) : (V m c main_v4 : S4096x2048.Idx → EReal) =
    addf (F := Ideal) (φ := .f32) (m ((c.tc : Thread nD τ).loc main_arg0)) (mulf (broadcastInDim S4096x2048 ![0, 1] bcast_S1x2048_S4096x2048_0_1 (mulf (broadcastInDim S1x2048 ![] bcast_S_S1x2048 (constant S_ .f32 0x3F000000#32)) (m ((c.tc : Thread nD τ).loc main_arg2)))) (m ((c.tc : Thread nD τ).loc main_arg1))) := by
  unfold_abbrev_sides
  try simp only [List.flatten_cons, List.flatten_nil, List.append_nil, List.cons_append, List.nil_append]
  after_results_simp

theorem entry_o (c : Dev nD) : (V m c main_v5 : S4096x2048.Idx → EReal)
    = truncf (F := Ideal) .bf16 (m ((c.tc : Thread nD τ).loc main_arg1)) bitsLt_bf16_f32 := by
  unfold_abbrev_sides
  try simp only [List.flatten_cons, List.flatten_nil, List.append_nil, List.cons_append, List.nil_append]
  after_results_simp

/-- Every window's block index at a point of the grid. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0] :=
  (by decide +kernel : ∀ t : Fin grid0.N, _)

variable {m A}

/-- The array's row that is row `a` of tile `t`. -/
def rowOf (t : Fin cfg0.N) (a : Fin 256) : Fin 4096 :=
  ⟨t.val * 256 + a.val, by
    have : t.val < 16 := lt_of_lt_of_eq t.isLt N_0
    omega⟩

theorem blk_h (h : Holds m A) (c : Dev nD) (t : Fin cfg0.N) (a : Fin 256) (k : Fin 2048) :
    iblk m c 0 t (ix2 a k) = ((last (A c) (rowOf t a) k : ℝ) : EReal) := by
  have e : (V m c main_v4 : S4096x2048.Idx → EReal) (ix2 (rowOf t a) k) = ((last (A c) (rowOf t a) k : ℝ) : EReal) := by
    rw [entry_h, h.res, h.o, h.g]
    pointwise []
    simp only [ofBits_half, ← EReal.coe_mul, ← EReal.coe_add]
    rfl
  refine Eq.trans ?_ e
  blk_point [iblk, idx_val t]; rfl

theorem blk_target (h : Holds m A) (c : Dev nD) (t : Fin cfg0.N) (a : Fin 256) (k : Fin 2048) :
    iblk m c 1 t (ix2 a k) = (((A c).target (ix2 (rowOf t a) k) : ℝ) : EReal) := by
  refine Eq.trans ?_ (congrFun (h.target c) (ix2 (rowOf t a) k))
  blk_point [iblk, V, idx_val t]; rfl

theorem blk_o (h : Holds m A) (c : Dev nD) (t : Fin cfg0.N) (a : Fin 256) (k : Fin 2048) :
    iblk m c 2 t (ix2 a k) = (((A c).o (ix2 (rowOf t a) k) : ℝ) : EReal) := by
  have e : (V m c main_v5 : S4096x2048.Idx → EReal) (ix2 (rowOf t a) k) = (((A c).o (ix2 (rowOf t a) k) : ℝ) : EReal) := by
    rw [entry_o, h.o]
    pointwise []
  refine Eq.trans ?_ e
  blk_point [iblk, idx_val t]; rfl

theorem blk_nw (h : Holds m A) (c : Dev nD) (t : Fin cfg0.N) (k : Fin 2048) :
    iblk m c 3 t (ix2 0 k) = (((A c).nw (ix2 0 k) : ℝ) : EReal) := by
  refine Eq.trans ?_ (congrFun (h.nw c) (ix2 0 k))
  blk_point [iblk, V, idx_val t]

theorem blk_g (h : Holds m A) (c : Dev nD) (t : Fin cfg0.N) (k : Fin 2048) :
    iblk m c 4 t (ix2 0 k) = (((A c).g (ix2 0 k) : ℝ) : EReal) := by
  refine Eq.trans ?_ (congrFun (h.g c) (ix2 0 k))
  blk_point [iblk, V, idx_val t]

/-- A row of the normalised tile. -/
theorem xhat_at (h : Holds m A) (c : Dev nD) (t : Fin cfg0.N) (a : Fin 256) (k : Fin 2048) :
    k0_pay5 (F := Ideal) (iblk m c 0 t) (ix2 a k) =
      ((last (A c) (rowOf t a) k * rinv (last (A c) (rowOf t a)) : ℝ) : EReal) := by
  pointwise [k0_pay5, k0_pay4, k0_pay2]
  simp only [blk_h h, ofBits_width, ofBits_eps, ← EReal.coe_mul, coe_sum, div_width, ← EReal.coe_add,
    rsqrt_row (last (A c) (rowOf t a))]

/-- A row of the errors. -/
theorem err_at (h : Holds m A) (c : Dev nD) (t : Fin cfg0.N) (a : Fin 256) (k : Fin 2048) :
    k0_pay6 (F := Ideal) (iblk m c 0 t) (iblk m c 1 t) (iblk m c 3 t) (ix2 a k) =
      ((err (A c) (rowOf t a) k : ℝ) : EReal) := by
  pointwise [k0_pay6]
  rw [xhat_at h, blk_nw h, blk_target h, ← EReal.coe_mul, ← EReal.coe_sub]
  rfl

/-- A row of the gradient of the residual sum. -/
theorem tile_at (h : Holds m A) (c : Dev nD) (t : Fin cfg0.N) (a : Fin 256) (k : Fin 2048) :
    k0_pay8 (F := Ideal) (iblk m c 0 t) (iblk m c 1 t) (iblk m c 3 t) (ix2 a k) =
      ((gradLast (A c) (rowOf t a) k : ℝ) : EReal) := by
  pointwise [k0_pay8, k0_pay7, k0_pay4, k0_pay2]
  simp only [xhat_at h, err_at h, blk_nw h, blk_h h, ofBits_inv_width, ofBits_width, ofBits_eps, ← EReal.coe_mul, coe_sum,
    div_width, ← EReal.coe_add, rsqrt_row (last (A c) (rowOf t a)), ← EReal.coe_sub]
  exact congrArg _ (dx_eq (last (A c) (rowOf t a)) (rowGrad (A c) (rowOf t a)) k)

theorem emb_dx (t : Fin cfg0.N) (a : Fin 256) (k : Fin 2048) :
    ((View.whole main_v6_0).slice (win0_5.rect t)).emb (ix2 a k) = ix2 (rowOf t a) k := by
  blk_ext! [idx_val t]; rfl

theorem emb_do (t : Fin cfg0.N) (a : Fin 256) (k : Fin 2048) :
    ((View.whole main_v6_1).slice (win0_6.rect t)).emb (ix2 a k) = ix2 (rowOf t a) k := by
  blk_ext! [idx_val t]; rfl

theorem tile_dx (h : Holds m A) (c : Dev nD) (t : Fin cfg0.N) (y : S256x2048.Idx) :
    k0_pay8 (F := Ideal) (iblk m c 0 t) (iblk m c 1 t) (iblk m c 3 t) y =
      ((gradLast (A c) (((View.whole main_v6_0).slice (win0_5.rect t)).emb y 0)
          (((View.whole main_v6_0).slice (win0_5.rect t)).emb y 1) : ℝ) : EReal) := by
  idx_vars y
  rw [tile_at h, emb_dx]; rfl

theorem tile_do (h : Holds m A) (c : Dev nD) (t : Fin cfg0.N) (y : S256x2048.Idx) :
    k0_pay11 (F := Ideal) (iblk m c 4 t) (k0_pay8 (F := Ideal) (iblk m c 0 t) (iblk m c 1 t) (iblk m c 3 t)) y =
      ((gradOut (A c) (((View.whole main_v6_1).slice (win0_6.rect t)).emb y 0)
          (((View.whole main_v6_1).slice (win0_6.rect t)).emb y 1) : ℝ) : EReal) := by
  idx_vars y
  rw [emb_do]
  pointwise [k0_pay11]
  rw [tile_at h, blk_g h]
  simp only [ofBits_half, ← EReal.coe_mul]
  rfl

/-- The residual sum's gradient after the last tile. -/
theorem final_5 (h : Holds m A) (c : Dev nD) : (dats m 0 c).arrAt 5 (cfgs 0).N =
    fun j => ((gradLast (A c) (j 0) (j 1) : ℝ) : EReal) := by
  refine (dats m 0 c).arrAt_eq_of_covers 5 _ (by decide +kernel) fun t hf y => ?_
  blk_simp; rw [after0_5]
  by_cases h0 : t.val % 16 = 0
  · rw [outsAt0_A m c t h0]; dsimp only; frame_out; exact tile_dx h c t y
  · rw [outsAt0_B m c t h0]; dsimp only; frame_out; exact tile_dx h c t y

/-- The branch output's gradient after the last tile. -/
theorem final_6 (h : Holds m A) (c : Dev nD) : (dats m 0 c).arrAt 6 (cfgs 0).N =
    fun j => ((gradOut (A c) (j 0) (j 1) : ℝ) : EReal) := by
  refine (dats m 0 c).arrAt_eq_of_covers 6 _ (by decide +kernel) fun t hf y => ?_
  blk_simp; rw [after0_6]
  by_cases h0 : t.val % 16 = 0
  · rw [outsAt0_A m c t h0]; dsimp only; frame_out; exact tile_do h c t y
  · rw [outsAt0_B m c t h0]; dsimp only; frame_out; exact tile_do h c t y

/-! A carried sum starts at zero … -/

theorem zero_7 (j : S1x128.Idx) : k0_pay12 (F := Ideal) j = 0 := by pointwise! [k0_pay12]
theorem zero_8 (j : S1x2048.Idx) : k0_pay13 (F := Ideal) j = 0 := by pointwise! [k0_pay13]
theorem zero_9 (j : S1x2048.Idx) : k0_pay14 (F := Ideal) j = 0 := by pointwise! [k0_pay14]

/-! … and each tile adds its own part. -/

theorem step_7 (p : FVec Ideal S1 .f32) (v : FVec Ideal S1x128 .f32) (j : S1x128.Idx) :
    k0_pay15 p v j = v j + k0_pay15 p (fun _ => 0) j := by pointwise [k0_pay15]
theorem step_8 (p q : FVec Ideal S256x2048 .f32) (v : FVec Ideal S1x2048 .f32) (j : S1x2048.Idx) :
    k0_pay16 p q v j = v j + k0_pay16 p q (fun _ => 0) j := by pointwise [k0_pay16]
theorem step_9 (p v : FVec Ideal S1x2048 .f32) (j : S1x2048.Idx) : k0_pay1 p (k0_pay17 v) j = v j + p j := by
  pointwise [k0_pay1, k0_pay17]

/-- The loss, in every lane, after the last tile. -/
theorem final_7 (h : Holds m A) (c : Dev nD) : (dats m 0 c).arrAt 7 (cfgs 0).N = fun _ => ((loss (A c) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [step_7, zero_7])
    (fun t h j => by rw [outsAt0_B m c t h]; frame_out; rw [step_7])
    (le_of_eq N_0) t0_15 rfl j, zero_add]
  idx_vars j
  pointwise [k0_pay15, k0_pay9]
  simp only [err_at h, ofBits_half, ofBits_width, ← EReal.coe_mul, coe_sum, div_width]
  refine congrArg _ ?_
  rw [loss, Finset.mul_sum]
  simp only [Finset.mul_sum]
  exact Fin.sum_mul_add_congr fun s k hl => rfl

/-- The norm weight's gradient after the last tile. -/
theorem final_8 (h : Holds m A) (c : Dev nD) : (dats m 0 c).arrAt 8 (cfgs 0).N =
    fun j => ((gradNorm (A c) (j 1) : ℝ) : EReal) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0) _
    (fun t h j => by rw [outsAt0_A m c t h]; frame_out; rw [step_8, zero_8])
    (fun t h j => by rw [outsAt0_B m c t h]; frame_out; rw [step_8])
    (le_of_eq N_0) t0_15 rfl j, zero_add]
  idx_vars j
  pointwise [k0_pay16, k0_pay7]
  rw [gradNorm, ← coe_sum]
  refine Fin.sum_mul_add_congr fun s k hl => ?_
  rw [xhat_at h, err_at h, ofBits_inv_width, ← EReal.coe_mul, ← EReal.coe_mul]
  refine congrArg _ (?_ : _ = errGrad (A c) (rowOf s k) j1 * (last (A c) (rowOf s k) j1 * rinv (last (A c) (rowOf s k))))
  simp only [errGrad]

/-- The gate's gradient after the last tile. -/
theorem final_9 (h : Holds m A) (c : Dev nD) : (dats m 0 c).arrAt 9 (cfgs 0).N =
    fun j => ((gradGate (A c) (j 1) : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0) _
    (fun t h j => by rw [outsAt0_A m c t h]; frame_out; rw [step_9, zero_9])
    (fun t h j => by rw [outsAt0_B m c t h]; frame_out; rw [step_9])
    (le_of_eq N_0) t0_15 rfl j, zero_add]
  idx_vars j
  pointwise [k0_pay10, k0_pay3]
  rw [gradGate, ← coe_sum]
  refine Fin.sum_mul_add_congr fun s k hl => ?_
  rw [tile_at h, blk_o h]
  simp only [ofBits_half, ← EReal.coe_mul]
  rfl

/-- The kernel's five results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v6_0) = (fun j => ((gradLast (A c) (j 0) (j 1) : ℝ) : EReal))
      ∧ r.2.mem ((c.tc : Thread nD τ).loc main_v6_1) = (fun j => ((gradOut (A c) (j 0) (j 1) : ℝ) : EReal))
      ∧ r.2.mem ((c.tc : Thread nD τ).loc main_v6_2) = (fun _ => ((loss (A c) : ℝ) : EReal))
      ∧ r.2.mem ((c.tc : Thread nD τ).loc main_v6_3) = (fun j => ((gradNorm (A c) (j 1) : ℝ) : EReal))
      ∧ r.2.mem ((c.tc : Thread nD τ).loc main_v6_4) = (fun j => ((gradGate (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r hr c => ?_) (Cert.LossIdeal.Value.run_blocks m ρ)
  have := hr c
  rw [final_5 h, final_6 h, final_7 h, final_8 h, final_9 h] at this
  exact this

end Cert.LossIdeal.Eqn

end
-- ==== Proof.LossClaim.lean ====
/- The loss and its gradient: the kernel and the reference compute one function of finite arguments. -/
module

public import proofs.«01_k».proof.Defs
public import proofs.«01_k».proof.Proof.LossRef
public import proofs.«01_k».proof.Proof.LossKernel
public import proofs.«01_k».proof.Proof.Gen.Pre_loss_finite
public import Idealize.ShloMosaic.Adequacy

@[expose] public section

noncomputable section

namespace Cert.LossClaim

open Idealize.ShloMosaic Idealize.ShloMosaic.TcCoe Idealize.SL.Sem
open Cert.LossIdeal Cert.RealLift Cert.LossMath

/-- The reference runs, faults nowhere and leaves its arguments alone. -/
theorem frame_ref : Cert.quiescent_LossRefIdeal := by
  intro m ρ _
  exact (θ_run _ _ _).mono (fun r h => ⟨fun c => (h c).2.2.2.2.2, sem_eq_zero_of_no_sems (by decide) r.2⟩)
    (Cert.LossRefIdeal.Value.run (F := Ideal) m ρ)

/-- Finite arguments are real arrays. -/
theorem holds_of_finite (m : (ℓ : Loc nD τ sig) → Buf (Elt Ideal) ℓ) (h : Cert.Pre_LossIdeal_loss_finite m) :
    ∃ A, Cert.LossIdeal.Eqn.Holds m A := by
  choose RES h_res using fun c : Dev nD => exists_real (m ((c.tc : Thread nD τ).loc main_arg0)) _ ofBits_inf fun i => congrFun (h c).1 i
  choose O h_o using fun c : Dev nD => exists_real (m ((c.tc : Thread nD τ).loc main_arg1)) _ ofBits_inf fun i => congrFun (h c).2.1 i
  choose G h_g using fun c : Dev nD => exists_real (m ((c.tc : Thread nD τ).loc main_arg2)) _ ofBits_inf fun i => congrFun (h c).2.2.1 i
  choose NW h_nw using fun c : Dev nD => exists_real (m ((c.tc : Thread nD τ).loc main_arg3)) _ ofBits_inf fun i => congrFun (h c).2.2.2.1 i
  choose TG h_tg using fun c : Dev nD => exists_real (m ((c.tc : Thread nD τ).loc main_arg4)) _ ofBits_inf fun i => congrFun (h c).2.2.2.2 i
  exact ⟨fun c => ⟨RES c, O c, TG c, NW c, G c⟩, h_res, h_o, h_g, h_nw, h_tg⟩

/-- The value claim. -/
theorem algebraic : Cert.algebraic_LossIdeal_LossRefIdeal_pre_loss_finite := by
  intro m g m' g' hpre heq
  obtain ⟨A, h⟩ := holds_of_finite m hpre
  exact ⟨_, _, _, _, _, Eqn.run_real g h, Cert.LossRefIdeal.Eqn.run_real (A := A) g'
    { res := fun c => (heq c).1.trans (h.res c), o := fun c => (heq c).2.1.trans (h.o c), g := fun c => (heq c).2.2.1.trans (h.g c), nw := fun c => (heq c).2.2.2.1.trans (h.nw c), target := fun c => (heq c).2.2.2.2.trans (h.target c) }⟩

end Cert.LossClaim

end
-- ==== Proof.LruDefs.lean ====
/- The gated recurrence's two kernels: what each leaves of one column block, over any element type. -/
module

public import proofs.«01_k».proof.Proof.Gen.LruIdeal.Skeleton
public import proofs.«01_k».proof.Proof.RealLift

@[expose] public section

set_option maxRecDepth 16384

noncomputable section

namespace Cert.LruIdeal.Eqn

open Cert.LruIdeal Cert.LruIdeal.Gen
open Idealize.ShloMosaic Idealize.ShloMosaic.TcCoe Idealize.SL.Sem

variable {F : FTy → Type} [FloatOps F]

/-- The row numbers of a tile. -/
def io : IVec S256x128 32 := iota .tc S256x128 32 [0] iota_S256x128_d0_w32

/-- Rows `256 n` to `256 n + 263` of a padded column block. -/
def win (x : Vec F S4104x128 .f32) (n : ℕ) : Vec F S264x128 .f32 :=
  fun j => x (ix2 ⟨(256 * n + (j 0).val) % 4104, Nat.mod_lt _ (by decide)⟩ (j 1))

/-- Rows `256 n` to `256 n + 255` of a column block. -/
def tile {e : EltTy} (x : Vec F S4096x128 e) (n : ℕ) : Vec F S256x128 e :=
  fun j => x (ix2 ⟨(256 * n + (j 0).val) % 4096, Nat.mod_lt _ (by decide)⟩ (j 1))

/-- A column block from its tiles. -/
def glue {e : EltTy} (f : ℕ → Vec F S256x128 e) : Vec F S4096x128 e :=
  fun j => f ((j 0).val / 256) (ix2 ⟨(j 0).val % 256, Nat.mod_lt _ (by decide)⟩ (j 1))

/-- What one trip of the forward kernel reads: a window of the padded input, and the taps, weights, biases and parameter
    whole. -/
structure FTrip (F : FTy → Type) where
  x : Vec F S264x128 .f32
  cw : Vec F S4x128 .f32
  cb : Vec F S1x128 .f32
  wr : Vec F S1x128x128 .f32
  br : Vec F S1x128 .f32
  wi : Vec F S1x128x128 .f32
  bi : Vec F S1x128 .f32
  lam : Vec F S1x128 .f32

namespace FTrip

variable (T : FTrip F) (p : FVec F S1x128 .f32)

/-- The convolved input. -/
def xc : FVec F S256x128 .f32 := k0_pay4 T.x T.cw T.cb
/-- The recurrence gate. -/
def ra : FVec F S256x128 .f32 := k0_pay8 T.xc (k0_pay5 T.wr) T.br
/-- The input gate. -/
def ri : FVec F S256x128 .f32 := k0_pay9 T.xc (k0_pay6 T.wi) T.bi
/-- The decays. -/
def dec : FVec F S256x128 .f32 :=
  k0_pay19 T.ra (k0_pay11 T.lam) (k0_pay12 T.lam) (k0_pay14 T.lam) (k0_pay15 T.lam) (k0_pay16 T.lam) (k0_pay17 T.lam)
    (Scalar.ofBits .f32 0x3F800000#32)
/-- The partial sums after one doubling. -/
def b1 : FVec F S256x128 .f32 :=
  k0_pay21 io T.xc T.ra T.ri (k0_pay11 T.lam) (k0_pay12 T.lam) (k0_pay14 T.lam) (k0_pay15 T.lam) (k0_pay16 T.lam) (k0_pay17 T.lam)
    (Scalar.ofBits .f32 0x3F800000#32)
/-- The partial products after five doublings. -/
def c5 : FVec F S256x128 .f32 := k0_pay30 io T.dec (k0_pay20 io)
/-- The partial sums after five doublings. -/
def b5 : FVec F S256x128 .f32 := k0_pay32 io T.dec (k0_pay20 io) T.b1
/-- The states; `p` is the state before the tile. -/
def h : FVec F S256x128 .f32 := k0_pay33 io p T.c5 (k0_pay31 io) T.b5
/-- The states one row earlier. -/
def hp : FVec F S256x128 .f32 := k0_pay34 io p T.c5 (k0_pay31 io) T.b5
/-- The gated states. -/
def y (g : Vec F S256x128 .f32) : FVec F S256x128 .bf16 := k0_pay2 (T.h p) g (k0_pay35 g)
/-- The last row's state. -/
def next : FVec F S1x128 .f32 := k0_pay3 (T.h p)

end FTrip

/-- What the forward kernel reads of one column block: the padded input, the gate, the taps and their bias, the two
    gates' weights and biases, and the decay's parameter. -/
structure Fwd (F : FTy → Type) where
  x : Vec F S4104x128 .f32
  gr : Vec F S4096x128 .f32
  cw : Vec F S4x128 .f32
  cb : Vec F S1x128 .f32
  wr : Vec F S1x128x128 .f32
  br : Vec F S1x128 .f32
  wi : Vec F S1x128x128 .f32
  bi : Vec F S1x128 .f32
  lam : Vec F S1x128 .f32

namespace Fwd

variable (I : Fwd F) (n : ℕ)

/-- What the trip of tile `n` reads of the column arrays, with the weights, biases and parameters whole. -/
def trip : FTrip F := ⟨win I.x n, I.cw, I.cb, I.wr, I.br, I.wi, I.bi, I.lam⟩
/-- The state before tile `n`. -/
def carry : ℕ → FVec F S1x128 .f32
  | 0 => k0_pay1
  | n + 1 => (I.trip n).next (carry n)
/-- The states. -/
def h : Vec F S4096x128 .f32 := glue fun n => (I.trip n).h (I.carry n)
/-- The states one row earlier. -/
def hp : Vec F S4096x128 .f32 := glue fun n => (I.trip n).hp (I.carry n)
/-- The convolved input. -/
def xcs : Vec F S4096x128 .f32 := glue fun n => (I.trip n).xc
/-- The gated states. -/
def y : Vec F S4096x128 .bf16 := glue fun n => (I.trip n).y (I.carry n) (tile I.gr n)

end Fwd

/-- What the backward kernel reads of one column block: the cotangent, the gate, the states, the states one row earlier, the
    convolved input, the two gates' weights and biases, and the decay's parameter. -/
structure Bwd (F : FTy → Type) where
  dy : Vec F S4096x128 .f32
  gr : Vec F S4096x128 .f32
  h : Vec F S4096x128 .f32
  hp : Vec F S4096x128 .f32
  xc : Vec F S4096x128 .f32
  wr : Vec F S1x128x128 .f32
  br : Vec F S1x128 .f32
  wi : Vec F S1x128x128 .f32
  bi : Vec F S1x128 .f32
  lam : Vec F S1x128 .f32

/-- What one trip of the backward kernel reads: a tile of each column array, and the weights, biases and parameter whole. -/
structure Trip (F : FTy → Type) where
  dy : Vec F S256x128 .f32
  gr : Vec F S256x128 .f32
  h : Vec F S256x128 .f32
  hp : Vec F S256x128 .f32
  xc : Vec F S256x128 .f32
  wr : Vec F S1x128x128 .f32
  br : Vec F S1x128 .f32
  wi : Vec F S1x128x128 .f32
  bi : Vec F S1x128 .f32
  lam : Vec F S1x128 .f32

namespace Trip

variable (T : Trip F) (p : FVec F S1x128 .f32 × FVec F S1x128 .f32)

/-- The convolved input. -/
def xt : FVec F S256x128 .f32 := k1_pay3 T.xc
/-- The recurrence gate. -/
def ra : FVec F S256x128 .f32 := k1_pay14 T.xt T.wr T.br
/-- The input gate. -/
def ri : FVec F S256x128 .f32 := k1_pay15 T.xt T.wi T.bi
/-- The decays. -/
def dec : FVec F S256x128 .f32 := k1_pay18 T.lam T.ra (Scalar.ofBits .f32 0x00000000#32)
/-- The decay's parameter's soft plus. -/
def sp : FVec F S1x128 .f32 := k1_pay16 T.lam (Scalar.ofBits .f32 0x00000000#32)
/-- The input's scale. -/
def mul : FVec F S256x128 .f32 :=
  k1_pay22 (k1_pay19 T.lam T.ra (Scalar.ofBits .f32 0x00000000#32)) (k1_pay20 T.lam T.ra (Scalar.ofBits .f32 0x00000000#32)) k1_pay21
/-- The gate's gradient. -/
def dgr : FVec F S256x128 .f32 := k1_pay10 T.dy (k1_pay2 T.h) (k1_pay6 T.gr) (k1_pay7 T.gr) (k1_pay8 T.gr) k1_pay9
/-- The partial sums after three doublings; `p` is the cotangent and the decay of the row after the tile. -/
def b3 : FVec F S256x128 .f32 := k1_pay29 io p.2 T.dy (k1_pay5 T.gr) T.dec
/-- The partial products after three doublings. -/
def c3 : FVec F S256x128 .f32 := k1_pay30 io p.2 T.dec
/-- The partial sums after all doublings. -/
def b8 : FVec F S256x128 .f32 := k1_pay40 io (T.b3 p) (T.c3 p)
/-- The partial products after all doublings. -/
def c8 : FVec F S256x128 .f32 := k1_pay41 io (T.c3 p)
/-- The states' cotangents. -/
def adj : FVec F S256x128 .f32 := k1_pay42 p.1 (T.b8 p) (T.c8 p)
/-- The convolved input's cotangent through the input's product. -/
def dxm : FVec F S256x128 .f32 := k1_pay43 p.1 T.mul (T.b8 p) (T.c8 p)
/-- The recurrence gate's preactivation's cotangent. -/
def dra : FVec F S256x128 .f32 := k1_pay45 p.1 T.xt T.ra T.ri T.sp T.dec T.mul (T.b8 p) (T.c8 p) T.hp
/-- The input gate's preactivation's cotangent. -/
def dri : FVec F S256x128 .f32 := k1_pay46 p.1 T.xt T.ri T.mul (T.b8 p) (T.c8 p)
/-- The convolved input's gradient. -/
def dxc : FVec F S256x128 .f32 := k1_pay55 (k1_pay11 T.wr) (k1_pay12 T.wi) T.ri (T.dxm p) (T.dra p) (T.dri p)
/-- The first row's cotangent and decay. -/
def next : FVec F S1x128 .f32 × FVec F S1x128 .f32 := (k1_pay56 (T.adj p), k1_pay57 T.dec)
/-- The decay's parameter's sum with one more tile. -/
def lamS (s : Vec F S1x128 .f32) : Vec F S1x128 .f32 := k1_pay47 p.1 T.xt T.ra T.ri T.dec T.mul (T.b8 p) (T.c8 p) T.hp s
/-- The recurrence gate's bias's sum with one more tile. -/
def brS (s : Vec F S1x128 .f32) : Vec F S1x128 .f32 := k1_pay48 p.1 T.xt T.ra T.ri T.sp T.dec T.mul (T.b8 p) (T.c8 p) T.hp s
/-- The input gate's bias's sum with one more tile. -/
def biS (s : Vec F S1x128 .f32) : Vec F S1x128 .f32 := k1_pay49 (T.dri p) s
/-- The recurrence gate's weight's sum with one more tile. -/
def wrS (s : Vec F S1x128x128 .f32) : Vec F S1x128x128 .f32 := k1_pay53 T.xt (T.dra p) s
/-- The input gate's weight's sum with one more tile. -/
def wiS (s : Vec F S1x128x128 .f32) : Vec F S1x128x128 .f32 := k1_pay54 T.xt (T.dri p) s

end Trip

namespace Bwd

variable (I : Bwd F)

/-- What the trip of tile `k` reads. -/
def trip (k : ℕ) : Trip F :=
  ⟨tile I.dy k, tile I.gr k, tile I.h k, tile I.hp k, tile I.xc k, I.wr, I.br, I.wi, I.bi, I.lam⟩
/-- The first row's cotangent and decay after `n` trips, the last tile first. -/
def carry : ℕ → FVec F S1x128 .f32 × FVec F S1x128 .f32
  | 0 => (k1_pay63, k1_pay64)
  | n + 1 => (I.trip (15 - n)).next (carry n)
/-- The decay's parameter's sums over the first `n` trips. -/
def lamS : ℕ → Vec F S1x128 .f32
  | 0 => k1_pay62
  | n + 1 => (I.trip (15 - n)).lamS (I.carry n) (lamS n)
/-- The recurrence gate's bias's sums over the first `n` trips. -/
def brS : ℕ → Vec F S1x128 .f32
  | 0 => k1_pay60
  | n + 1 => (I.trip (15 - n)).brS (I.carry n) (brS n)
/-- The input gate's bias's sums over the first `n` trips. -/
def biS : ℕ → Vec F S1x128 .f32
  | 0 => k1_pay61
  | n + 1 => (I.trip (15 - n)).biS (I.carry n) (biS n)
/-- The recurrence gate's weight's sums over the first `n` trips. -/
def wrS : ℕ → Vec F S1x128x128 .f32
  | 0 => k1_pay58
  | n + 1 => (I.trip (15 - n)).wrS (I.carry n) (wrS n)
/-- The input gate's weight's sums over the first `n` trips. -/
def wiS : ℕ → Vec F S1x128x128 .f32
  | 0 => k1_pay59
  | n + 1 => (I.trip (15 - n)).wiS (I.carry n) (wiS n)
/-- The gate's gradient. -/
def dgr : Vec F S4096x128 .f32 := glue fun k => (I.trip k).dgr
/-- The convolved input's gradient. -/
def dxc : Vec F S4096x128 .f32 := glue fun k => (I.trip k).dxc (I.carry (15 - k))
/-- The decay's parameter's gradient. -/
def dlam : Vec F S1x128 .f32 := k1_pay1 (k1_pay65 (I.lamS 16)) (k1_pay66 I.lam) k1_pay67

end Bwd

end Cert.LruIdeal.Eqn

end
-- ==== Proof.LruLoad.lean ====
/- The gated recurrence's two kernels: what a load of a tile reads and what a store of a tile leaves. -/
module

public import proofs.«01_k».proof.Proof.LruDefs
public import Idealize.ShloMosaic.Lib.WritesUnit

@[expose] public section

set_option maxRecDepth 16384

noncomputable section

namespace Cert.LruIdeal.Eqn

open Cert.LruIdeal Cert.LruIdeal.Gen
open Idealize.ShloMosaic Idealize.ShloMosaic.TcCoe Idealize.SL.Sem

variable {F : FTy → Type} [FloatOps F]

theorem up_val (n : ℕ) (hn : n < 16) : (Scalar.indexCast (Scalar.muli (Scf.iv 0#32 1#32 n) 256#32)).toNat = 256 * n := by
  simp [Scf.iv, Scalar.muli, Scalar.indexCast, IntOp.muli, BitVec.toNat_mul]
  omega

theorem down_val (n : ℕ) (hn : n < 16) :
    (Scalar.indexCast (Scalar.muli (Scalar.subi 15#32 (Scf.iv 0#32 1#32 n)) 256#32)).toNat = 256 * (15 - n) := by
  revert hn
  revert n
  decide

theorem up_trips : k0_t1_loop.trips = 16 := by decide
theorem down_trips : k1_t1_loop.trips = 16 := by decide

theorem up1_eq (k : Fin k0_t1_loop.trips) : k0_off1 k = ![256 * k.val, 0] :=
  congrArg (fun n => ![n, _]) (up_val k.val (lt_of_lt_of_eq k.isLt up_trips))
theorem up2_eq (k : Fin k0_t1_loop.trips) : k0_off2 k = ![256 * k.val, 0] :=
  congrArg (fun n => ![n, _]) (up_val k.val (lt_of_lt_of_eq k.isLt up_trips))
theorem down_eq (k : Fin k1_t1_loop.trips) : k1_off1 k = ![256 * (15 - k.val), 0] :=
  congrArg (fun n => ![n, _]) (down_val k.val (lt_of_lt_of_eq k.isLt down_trips))

/-- A tile's rows of a padded block, with its halo. -/
theorem load_win (a : Memref sig .tc .vmem S4104x128 .f32) (h : a.IsWhole) (x : Vec F S4104x128 .f32) (k : ℕ) (hk : k < 16) (o : Fin 2 → ℕ)
    (ho : o = ![256 * k, 0]) (inb : ∀ q, o q + S264x128.size q ≤ S4104x128.size q) :
    a.view.readAt (Elt F) (Rect.unit (s := S4104x128) o S264x128.size inb).toLoadRect (h.unread x) = win x k := by
  funext j
  show a.view.read (Elt F) (h.unread x) _ = _
  rw [h.read_unread]
  refine congrArg x (funext fun q => Fin.ext ?_)
  have hj : (j 0).val < 264 := (j 0).isLt
  fin_cases q
  · refine (congrArg (· + 1 * (j 0).val) (congrFun ho 0)).trans ?_
    show 256 * k + 1 * (j 0).val = (256 * k + (j 0).val) % 4104
    omega
  · refine (congrArg (· + 1 * (j 1).val) (congrFun ho 1)).trans ?_
    show 0 + 1 * (j 1).val = (j 1).val
    omega

/-- A tile's rows. -/
theorem load_tile {e : EltTy} (a : Memref sig .tc .vmem S4096x128 e) (h : a.IsWhole) (x : Vec F S4096x128 e) (k : ℕ) (hk : k < 16) (o : Fin 2 → ℕ)
    (ho : o = ![256 * k, 0]) (inb : ∀ q, o q + S256x128.size q ≤ S4096x128.size q) :
    a.view.readAt (Elt F) (Rect.unit (s := S4096x128) o S256x128.size inb).toLoadRect (h.unread x) = tile x k := by
  funext j
  show a.view.read (Elt F) (h.unread x) _ = _
  rw [h.read_unread]
  refine congrArg x (funext fun q => Fin.ext ?_)
  have hj : (j 0).val < 256 := (j 0).isLt
  fin_cases q
  · refine (congrArg (· + 1 * (j 0).val) (congrFun ho 0)).trans ?_
    show 256 * k + 1 * (j 0).val = (256 * k + (j 0).val) % 4096
    omega
  · refine (congrArg (· + 1 * (j 1).val) (congrFun ho 1)).trans ?_
    show 0 + 1 * (j 1).val = (j 1).val
    omega

/-- A load of a whole buffer. -/
theorem load_all {s : Shape} {e : EltTy} (a : Memref sig .tc .vmem s e) (f : BufTy.Contents (Elt F) a.view.ty) (o : Fin s.rank → ℕ)
    (ho : ∀ q, o q = 0) (inb : ∀ q, o q + s.size q ≤ s.size q) :
    a.view.readAt (Elt F) (Rect.unit (s := s) o s.size inb).toLoadRect f = a.view.read (Elt F) f := by
  funext j
  refine congrArg (a.view.read (Elt F) f) (funext fun q => Fin.ext ?_)
  show o q + 1 * (j q).val = (j q).val
  rw [ho q]; omega

/-- A store of a whole buffer. -/
theorem store_all {s : Shape} {e : EltTy} {κ : Kind} {sp : Space} (v : View sig κ sp s e) (f : v.ty.Contents (Elt F)) (o : Fin s.rank → ℕ)
    (ho : ∀ q, o q = 0) (inb : ∀ q, o q + s.size q ≤ s.size q) (w : Vec F s e) (L : List (View.Piece (Elt F) s e)) :
    v.read (Elt F) (v.writes (Elt F) f (⟨Rect.unit (s := s) o s.size inb, w⟩ :: L)) = w := by
  funext j
  refine View.read_writes_cons_unit_of_mem v f inb w L j j rfl fun a => ?_
  rw [ho a]; omega

/-- The rows of a view that `P` picks hold the array `x`. -/
def Holds {e : EltTy} {κ : Kind} {sp : Space} (v : View sig κ sp S4096x128 e) (P : ℕ → Prop) (x : Vec F S4096x128 e) (f : v.ty.Contents (Elt F)) : Prop :=
  ∀ (s : Fin 4096) (l : Fin 128), P s.val → v.read (Elt F) f (ix2 s l) = x (ix2 s l)

/-- All the rows. -/
theorem Holds.all {e : EltTy} {κ : Kind} {sp : Space} {v : View sig κ sp S4096x128 e} {x : Vec F S4096x128 e} {f : v.ty.Contents (Elt F)} {P : ℕ → Prop}
    (h : Holds v P x f) (hP : ∀ s, s < 4096 → P s := by intro s hs; first | exact hs | exact Nat.zero_le _) : v.read (Elt F) f = x := by
  funext j
  obtain ⟨s, l, rfl⟩ : ∃ (s : Fin 4096) (l : Fin 128), j = ix2 s l := ⟨j 0, j 1, by funext q; fin_cases q <;> rfl⟩
  exact h s l (hP s.val s.isLt)

/-- A store of one more tile. -/
theorem store_tile {e : EltTy} {κ : Kind} {sp : Space} (v : View sig κ sp S4096x128 e) (f : v.ty.Contents (Elt F)) (g : ℕ → Vec F S256x128 e) (k : ℕ)
    (o : Fin 2 → ℕ) (ho : o = ![256 * k, 0]) (inb : ∀ q, o q + S256x128.size q ≤ S4096x128.size q) (P Q : ℕ → Prop)
    (hQ : ∀ s, Q s → s / 256 ≠ k → P s) (w : Vec F S256x128 e) (hw : w = g k) (hf : Holds v P (glue g) f) :
    Holds v Q (glue g) (v.writes (Elt F) f [⟨Rect.unit (s := S4096x128) o S256x128.size inb, w⟩]) := by
  subst hw
  intro s l hs
  by_cases hk : s.val / 256 = k
  · refine (View.read_writes_cons_unit_of_mem _ _ _ _ _ _ (ix2 ⟨s.val % 256, Nat.mod_lt _ (by decide)⟩ l) ho fun a => ?_).trans ?_
    · fin_cases a
      · show s.val = 256 * k + s.val % 256; omega
      · show l.val = 0 + l.val; omega
    · show _ = g (s.val / 256) (ix2 ⟨s.val % 256, _⟩ l)
      rw [hk]
  · refine (View.read_writes_cons_unit_of_not_mem _ _ _ _ _ _ ho 0 ?_).trans (hf s l (hQ _ hs hk))
    show s.val < 256 * k ∨ 256 * k + 256 ≤ s.val
    omega

end Cert.LruIdeal.Eqn

end
-- ==== Proof.LruFwd.lean ====
/- The gated recurrence's forward kernel: one grid point's run, over any element type. -/
module

public import proofs.«01_k».proof.Proof.LruLoad
public import Idealize.ShloMosaic.Lib.Exec
public import Idealize.ShloMosaic.Lib.Tactic
public import Idealize.ShloMosaic.Lib.Pipeline.Kit

@[expose] public section

set_option maxRecDepth 16384

noncomputable section

namespace Cert.LruIdeal.Eqn

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the frame's logic. -/
local notation "𝕄" => MT nD τ sig Unit (Elt F) ℕ (UR sig nD τ) ℕ

/-- A buffer of a grid point at some contents of which `P` holds. -/
abbrev At (c : Dev nD) {s : Shape} {e : EltTy} (a : Memref sig .tc .vmem s e) (P : a.view.ty.Contents (Elt F) → Prop) : sProp 𝕄 :=
  iprop(∃ f, (a.view.loc (c : Thread nD τ) ↦[a.view.set]{fullShare} f) ∗ ⌜P f⌝)

/-- A buffer of a grid point that is only read. -/
abbrev In (c : Dev nD) {s : Shape} {e : EltTy} (a : Memref sig .tc .vmem s e) (h : a.IsWhole) (x : Vec F s e) : sProp 𝕄 :=
  iprop(a.view.loc (c : Thread nD τ) ↦[a.view.set]{fullShare} h.unread x)

/-- A trip's inputs are the loads' values. -/
theorem ftrip_loads (I : Fwd F) (k : ℕ) {x : Vec F S264x128 .f32} {cw : Vec F S4x128 .f32} {cb : Vec F S1x128 .f32} {wr : Vec F S1x128x128 .f32}
    {br : Vec F S1x128 .f32} {wi : Vec F S1x128x128 .f32} {bi lam : Vec F S1x128 .f32} (hx : x = win I.x k) (hcw : cw = I.cw) (hcb : cb = I.cb)
    (hwr : wr = I.wr) (hbr : br = I.br) (hwi : wi = I.wi) (hbi : bi = I.bi) (hlam : lam = I.lam) :
    (⟨x, cw, cb, wr, br, wi, bi, lam⟩ : FTrip F) = I.trip k := by
  subst hx hcw hcb hwr hbr hwi hbi hlam; rfl

/-- The kernel's row numbers and a whole buffer's offsets are zero. -/
theorem zero2 : ∀ q : Fin 2, (![0, 0] : Fin 2 → ℕ) q = 0 := by decide
theorem zero3 : ∀ q : Fin 3, (![0, 0, 0] : Fin 3 → ℕ) q = 0 := by decide

set_option maxHeartbeats 1000000 in
/-- One grid point: the inputs stay, the outputs hold the states' blocks. -/
theorem fwd_run (c : Dev nD) (i : grid0.Coords) (arg1 : Memref sig .tc .vmem S4104x128 .f32) (harg1 : arg1.IsWhole)
    (arg2 : Memref sig .tc .vmem S4096x128 .f32) (harg2 : arg2.IsWhole) (arg3 : Memref sig .tc .vmem S4x128 .f32) (harg3 : arg3.IsWhole)
    (arg4 : Memref sig .tc .vmem S1x128 .f32) (harg4 : arg4.IsWhole) (arg5 : Memref sig .tc .vmem S1x128x128 .f32) (harg5 : arg5.IsWhole)
    (arg6 : Memref sig .tc .vmem S1x128 .f32) (harg6 : arg6.IsWhole) (arg7 : Memref sig .tc .vmem S1x128x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S4096x128 .f32) (harg10 : arg10.IsWhole) (arg11 : Memref sig .tc .vmem S4096x128 .f32) (harg11 : arg11.IsWhole)
    (arg12 : Memref sig .tc .vmem S4096x128 .f32) (harg12 : arg12.IsWhole) (arg13 : Memref sig .tc .vmem S4096x128 .bf16) (harg13 : arg13.IsWhole)
    (I : Fwd F) (E : Set ℕ) (K : PUnit → sProp 𝕄) :
    iprop(owns (c : Thread nD τ) arg1 fullShare I.x ∗ owns (c : Thread nD τ) arg2 fullShare I.gr ∗ owns (c : Thread nD τ) arg3 fullShare I.cw
        ∗ owns (c : Thread nD τ) arg4 fullShare I.cb ∗ owns (c : Thread nD τ) arg5 fullShare I.wr ∗ owns (c : Thread nD τ) arg6 fullShare I.br
        ∗ owns (c : Thread nD τ) arg7 fullShare I.wi ∗ owns (c : Thread nD τ) arg8 fullShare I.bi ∗ owns (c : Thread nD τ) arg9 fullShare I.lam
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare I.x ∗ owns (c : Thread nD τ) arg2 fullShare I.gr ∗ owns (c : Thread nD τ) arg3 fullShare I.cw
            ∗ owns (c : Thread nD τ) arg4 fullShare I.cb ∗ owns (c : Thread nD τ) arg5 fullShare I.wr ∗ owns (c : Thread nD τ) arg6 fullShare I.br
            ∗ owns (c : Thread nD τ) arg7 fullShare I.wi ∗ owns (c : Thread nD τ) arg8 fullShare I.bi ∗ owns (c : Thread nD τ) arg9 fullShare I.lam
            ∗ owns (c : Thread nD τ) arg10 fullShare I.h ∗ owns (c : Thread nD τ) arg11 fullShare I.hp
            ∗ owns (c : Thread nD τ) arg12 fullShare I.xcs ∗ owns (c : Thread nD τ) arg13 fullShare I.y) -∗ K ⟨⟩))
      ⊢ wp frame (wpE (defs₀ (F := F)) Variants.none c none) E
          (cc0_lru_fwd i arg1 harg1 arg2 harg2 arg3 harg3 arg4 harg4 arg5 harg5 arg6 harg6 arg7 harg7 arg8 harg8 arg9 harg9 arg10 harg10 arg11 harg11
            arg12 harg12 arg13 harg13) K := by
  simp only [cc0_lru_fwd_eq_skeleton]; unfold cc0_lru_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec
  sl_for (fun n (a : FVec F S1x128 .f32) => iprop(In c arg1 harg1 I.x ∗ In c arg2 harg2 I.gr ∗ In c arg3 harg3 I.cw ∗ In c arg4 harg4 I.cb
      ∗ In c arg5 harg5 I.wr ∗ In c arg6 harg6 I.br ∗ In c arg7 harg7 I.wi ∗ In c arg8 harg8 I.bi ∗ In c arg9 harg9 I.lam
      ∗ At c arg10 (Holds arg10.view (· < 256 * n) I.h) ∗ At c arg11 (Holds arg11.view (· < 256 * n) I.hp)
      ∗ At c arg12 (Holds arg12.view (· < 256 * n) I.xcs) ∗ At c arg13 (Holds arg13.view (· < 256 * n) I.y) ∗ ⌜a = I.carry n⌝))
    $$ [H1 H2 H3 H4 H5 H6 H7 H8 H9 H10 H11 H12 H13]
  · intro k a
    have hk : k.val < 16 := lt_of_lt_of_eq k.isLt up_trips
    iintro ⟨H1, H2, H3, H4, H5, H6, H7, H8, H9, ⟨%f10, H10, %h10⟩, ⟨%f11, H11, %h11⟩, ⟨%f12, H12, %h12⟩, ⟨%f13, H13, %h13⟩, %ha⟩
    subst ha
    sl_exec
    sl_step
    have up : ∀ s, s < 256 * (k.val + 1) → s / 256 ≠ k.val → s < 256 * k.val := by omega
    have hT := ftrip_loads I k.val (load_win arg1 harg1 I.x k.val hk _ (up1_eq k) (k0_off1_inb k))
      ((load_all (F := F) arg3 (harg3.unread I.cw) _ zero2 inb_S4x128_S4x128_0_0).trans (harg3.read_unread I.cw))
      ((load_all (F := F) arg4 (harg4.unread I.cb) _ zero2 inb_S1x128_S1x128_0_0).trans (harg4.read_unread I.cb))
      ((load_all (F := F) arg5 (harg5.unread I.wr) _ zero3 inb_S1x128x128_S1x128x128_0_0_0).trans (harg5.read_unread I.wr))
      ((load_all (F := F) arg6 (harg6.unread I.br) _ zero2 inb_S1x128_S1x128_0_0).trans (harg6.read_unread I.br))
      ((load_all (F := F) arg7 (harg7.unread I.wi) _ zero3 inb_S1x128x128_S1x128x128_0_0_0).trans (harg7.read_unread I.wi))
      ((load_all (F := F) arg8 (harg8.unread I.bi) _ zero2 inb_S1x128_S1x128_0_0).trans (harg8.read_unread I.bi))
      ((load_all (F := F) arg9 (harg9.unread I.lam) _ zero2 inb_S1x128_S1x128_0_0).trans (harg9.read_unread I.lam))
    have hg := load_tile arg2 harg2 I.gr k.val hk _ (up2_eq k) (k0_off2_inb k)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro
      refine store_tile _ _ _ k.val _ (up2_eq k) (k0_off2_inb k) _ _ up _ (Eq.trans ?_ (congrArg (FTrip.h · (I.carry k.val)) hT)) h10
      sl_kernel_rfl
    isplitl [H11]
    · iexists _; isplitl [H11]; · iexact H11
      ipureintro
      refine store_tile _ _ _ k.val _ (up2_eq k) (k0_off2_inb k) _ _ up _ (Eq.trans ?_ (congrArg (FTrip.hp · (I.carry k.val)) hT)) h11
      sl_kernel_rfl
    isplitl [H12]
    · iexists _; isplitl [H12]; · iexact H12
      ipureintro
      refine store_tile _ _ _ k.val _ (up2_eq k) (k0_off2_inb k) _ _ up _ (Eq.trans ?_ (congrArg FTrip.xc hT)) h12
      sl_kernel_rfl
    isplitl [H13]
    · iexists _; isplitl [H13]; · iexact H13
      ipureintro
      refine store_tile _ _ _ k.val _ (up2_eq k) (k0_off2_inb k) _ _ up _
        (Eq.trans ?_ (congr (congrArg (FTrip.y · (I.carry k.val)) hT) hg)) h13
      sl_kernel_rfl
    ipureintro
    refine Eq.trans ?_ (congrArg (FTrip.next · (I.carry k.val)) hT)
    sl_kernel_rfl
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; isplitl [H10]; · iexact H10
                     ipureintro; exact fun s l h => absurd h (by omega)
    isplitl [H11]; · iexists _; isplitl [H11]; · iexact H11
                     ipureintro; exact fun s l h => absurd h (by omega)
    isplitl [H12]; · iexists _; isplitl [H12]; · iexact H12
                     ipureintro; exact fun s l h => absurd h (by omega)
    isplitl [H13]; · iexists _; isplitl [H13]; · iexact H13
                     ipureintro; exact fun s l h => absurd h (by omega)
    ipureintro; rfl
  · iintro %a ⟨H1, H2, H3, H4, H5, H6, H7, H8, H9, ⟨%g10, H10, %h10⟩, ⟨%g11, H11, %h11⟩, ⟨%g12, H12, %h12⟩, ⟨%g13, H13, %h13⟩, -⟩
    sl_exec
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr
                     swap; · iexact H10
                     ipureintro; exact Holds.all h10
    isplitl [H11]; · iexists _; isplitr
                     swap; · iexact H11
                     ipureintro; exact Holds.all h11
    isplitl [H12]; · iexists _; isplitr
                     swap; · iexact H12
                     ipureintro; exact Holds.all h12
    iexists _; isplitr
    swap; · iexact H13
    ipureintro; exact Holds.all h13

end Cert.LruIdeal.Eqn

end
-- ==== Proof.LruBwd.lean ====
/- The gated recurrence's backward kernel: one grid point's run, over any element type. -/
module

public import proofs.«01_k».proof.Proof.LruFwd
public import Idealize.ShloMosaic.Lib.Exec
public import Idealize.ShloMosaic.Lib.Tactic
public import Idealize.ShloMosaic.Lib.Pipeline.Kit

@[expose] public section

set_option maxRecDepth 16384

noncomputable section

namespace Cert.LruIdeal.Eqn

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the frame's logic. -/
local notation "𝕄" => MT nD τ sig Unit (Elt F) ℕ (UR sig nD τ) ℕ

/-- A trip's loads. -/
theorem trip_loads (I : Bwd F) (k : ℕ) {dy' : Vec F S256x128 .f32} {gr' : Vec F S256x128 .f32} {h' : Vec F S256x128 .f32} {hp' : Vec F S256x128 .f32} {xc' : Vec F S256x128 .f32}
    {wr' : Vec F S1x128x128 .f32} {br' : Vec F S1x128 .f32} {wi' : Vec F S1x128x128 .f32} {bi' : Vec F S1x128 .f32} {lam' : Vec F S1x128 .f32}
    (hdy : dy' = tile I.dy k) (hgr : gr' = tile I.gr k) (hh : h' = tile I.h k) (hhp : hp' = tile I.hp k) (hxc : xc' = tile I.xc k)
    (hwr : wr' = I.wr) (hbr : br' = I.br) (hwi : wi' = I.wi) (hbi : bi' = I.bi) (hlam : lam' = I.lam) :
    (⟨dy', gr', h', hp', xc', wr', br', wi', bi', lam'⟩ : Trip F) = I.trip k := by
  subst hdy hgr hh hhp hxc hwr hbr hwi hbi hlam; rfl

/-- The recurrence gate's weight's sum over one more trip. -/
theorem wrS_step (I : Bwd F) (n : ℕ) {T : Trip F} {s : Vec F S1x128x128 .f32} (hT : T = I.trip (15 - n)) (hs : s = I.wrS n) :
    T.wrS (I.carry n) s = I.wrS (n + 1) := by
  subst hT hs; rfl

/-- The input gate's weight's sum over one more trip. -/
theorem wiS_step (I : Bwd F) (n : ℕ) {T : Trip F} {s : Vec F S1x128x128 .f32} (hT : T = I.trip (15 - n)) (hs : s = I.wiS n) :
    T.wiS (I.carry n) s = I.wiS (n + 1) := by
  subst hT hs; rfl

/-- The recurrence gate's bias's sum over one more trip. -/
theorem brS_step (I : Bwd F) (n : ℕ) {T : Trip F} {s : Vec F S1x128 .f32} (hT : T = I.trip (15 - n)) (hs : s = I.brS n) :
    T.brS (I.carry n) s = I.brS (n + 1) := by
  subst hT hs; rfl

/-- The input gate's bias's sum over one more trip. -/
theorem biS_step (I : Bwd F) (n : ℕ) {T : Trip F} {s : Vec F S1x128 .f32} (hT : T = I.trip (15 - n)) (hs : s = I.biS n) :
    T.biS (I.carry n) s = I.biS (n + 1) := by
  subst hT hs; rfl

/-- The decay's parameter's sum over one more trip. -/
theorem lamS_step (I : Bwd F) (n : ℕ) {T : Trip F} {s : Vec F S1x128 .f32} (hT : T = I.trip (15 - n)) (hs : s = I.lamS n) :
    T.lamS (I.carry n) s = I.lamS (n + 1) := by
  subst hT hs; rfl

set_option maxHeartbeats 2000000 in
/-- One grid point: the inputs stay, the outputs hold the gradients' blocks. -/
theorem bwd_run (c : Dev nD) (i : grid1.Coords) (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x128x128 .f32) (harg6 : arg6.IsWhole)
    (arg7 : Memref sig .tc .vmem S1x128 .f32) (harg7 : arg7.IsWhole) (arg8 : Memref sig .tc .vmem S1x128x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S4096x128 .f32) (harg11 : arg11.IsWhole) (arg12 : Memref sig .tc .vmem S4096x128 .f32) (harg12 : arg12.IsWhole)
    (arg13 : Memref sig .tc .vmem S1x128x128 .f32) (harg13 : arg13.IsWhole) (arg14 : Memref sig .tc .vmem S1x128x128 .f32) (harg14 : arg14.IsWhole)
    (arg15 : Memref sig .tc .vmem S1x128 .f32) (harg15 : arg15.IsWhole) (arg16 : Memref sig .tc .vmem S1x128 .f32) (harg16 : arg16.IsWhole)
    (arg17 : Memref sig .tc .vmem S1x128 .f32) (harg17 : arg17.IsWhole)
    (I : Bwd F) (E : Set ℕ) (K : PUnit → sProp 𝕄) :
    iprop(owns (c : Thread nD τ) arg1 fullShare I.dy ∗ owns (c : Thread nD τ) arg2 fullShare I.gr ∗ owns (c : Thread nD τ) arg3 fullShare I.h
        ∗ owns (c : Thread nD τ) arg4 fullShare I.hp ∗ owns (c : Thread nD τ) arg5 fullShare I.xc ∗ owns (c : Thread nD τ) arg6 fullShare I.wr
        ∗ owns (c : Thread nD τ) arg7 fullShare I.br ∗ owns (c : Thread nD τ) arg8 fullShare I.wi ∗ owns (c : Thread nD τ) arg9 fullShare I.bi
        ∗ owns (c : Thread nD τ) arg10 fullShare I.lam
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d)
        ∗ (iprop(owns (c : Thread nD τ) arg1 fullShare I.dy ∗ owns (c : Thread nD τ) arg2 fullShare I.gr ∗ owns (c : Thread nD τ) arg3 fullShare I.h
            ∗ owns (c : Thread nD τ) arg4 fullShare I.hp ∗ owns (c : Thread nD τ) arg5 fullShare I.xc ∗ owns (c : Thread nD τ) arg6 fullShare I.wr
            ∗ owns (c : Thread nD τ) arg7 fullShare I.br ∗ owns (c : Thread nD τ) arg8 fullShare I.wi ∗ owns (c : Thread nD τ) arg9 fullShare I.bi
            ∗ owns (c : Thread nD τ) arg10 fullShare I.lam
            ∗ owns (c : Thread nD τ) arg11 fullShare I.dgr ∗ owns (c : Thread nD τ) arg12 fullShare I.dxc
            ∗ owns (c : Thread nD τ) arg13 fullShare (I.wrS 16) ∗ owns (c : Thread nD τ) arg14 fullShare (I.wiS 16)
            ∗ owns (c : Thread nD τ) arg15 fullShare (I.brS 16) ∗ owns (c : Thread nD τ) arg16 fullShare (I.biS 16)
            ∗ owns (c : Thread nD τ) arg17 fullShare I.dlam) -∗ K ⟨⟩))
      ⊢ wp frame (wpE (defs₀ (F := F)) Variants.none c none) E
          (cc1_lru_bwd i arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17) K := by
  simp only [cc1_lru_bwd_eq_skeleton]; unfold cc1_lru_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩,
    ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec
  sl_for (fun n (a : FVec F S1x128 .f32 × FVec F S1x128 .f32) => iprop(In c arg1 harg1 I.dy ∗ In c arg2 harg2 I.gr ∗ In c arg3 harg3 I.h ∗ In c arg4 harg4 I.hp ∗ In c arg5 harg5 I.xc ∗ In c arg6 harg6 I.wr
      ∗ In c arg7 harg7 I.br ∗ In c arg8 harg8 I.wi ∗ In c arg9 harg9 I.bi ∗ In c arg10 harg10 I.lam
      ∗ At c arg11 (Holds arg11.view (256 * (16 - n) ≤ ·) I.dgr) ∗ At c arg12 (Holds arg12.view (256 * (16 - n) ≤ ·) I.dxc)
      ∗ At c arg13 (fun f => arg13.view.read (Elt F) f = I.wrS n) ∗ At c arg14 (fun f => arg14.view.read (Elt F) f = I.wiS n)
      ∗ At c arg15 (fun f => arg15.view.read (Elt F) f = I.brS n) ∗ At c arg16 (fun f => arg16.view.read (Elt F) f = I.biS n)
      ∗ At c arg17 (fun f => arg17.view.read (Elt F) f = I.lamS n) ∗ ⌜a = I.carry n⌝))
    $$ [H1 H2 H3 H4 H5 H6 H7 H8 H9 H10 H11 H12 H13 H14 H15 H16 H17]
  · intro k a
    have hk : k.val < 16 := lt_of_lt_of_eq k.isLt down_trips
    have hk' : 15 - k.val < 16 := by omega
    iintro ⟨H1, H2, H3, H4, H5, H6, H7, H8, H9, H10,
      ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, %ha⟩
    subst ha
    sl_exec
    sl_step
    have down : ∀ s, 256 * (16 - (k.val + 1)) ≤ s → s / 256 ≠ 15 - k.val → 256 * (16 - k.val) ≤ s := by omega
    have hT := trip_loads I (15 - k.val)
      (load_tile arg1 harg1 I.dy (15 - k.val) hk' _ (down_eq k) (k1_off1_inb k))
      (load_tile arg2 harg2 I.gr (15 - k.val) hk' _ (down_eq k) (k1_off1_inb k))
      (load_tile arg3 harg3 I.h (15 - k.val) hk' _ (down_eq k) (k1_off1_inb k))
      (load_tile arg4 harg4 I.hp (15 - k.val) hk' _ (down_eq k) (k1_off1_inb k))
      (load_tile arg5 harg5 I.xc (15 - k.val) hk' _ (down_eq k) (k1_off1_inb k))
      ((load_all (F := F) arg6 (harg6.unread I.wr) _ zero3 inb_S1x128x128_S1x128x128_0_0_0).trans (harg6.read_unread I.wr))
      ((load_all (F := F) arg7 (harg7.unread I.br) _ zero2 inb_S1x128_S1x128_0_0).trans (harg7.read_unread I.br))
      ((load_all (F := F) arg8 (harg8.unread I.wi) _ zero3 inb_S1x128x128_S1x128x128_0_0_0).trans (harg8.read_unread I.wi))
      ((load_all (F := F) arg9 (harg9.unread I.bi) _ zero2 inb_S1x128_S1x128_0_0).trans (harg9.read_unread I.bi))
      ((load_all (F := F) arg10 (harg10.unread I.lam) _ zero2 inb_S1x128_S1x128_0_0).trans (harg10.read_unread I.lam))
    have hq : (I.trip (15 - k.val)).dxc (I.carry k.val) = (I.trip (15 - k.val)).dxc (I.carry (15 - (15 - k.val))) := by
      rw [show 15 - (15 - k.val) = k.val by omega]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitl [H11]; · iexact H11
      ipureintro
      refine store_tile _ _ _ (15 - k.val) _ (down_eq k) (k1_off1_inb k) _ _ down _ (Eq.trans ?_ (congrArg Trip.dgr hT)) h11
      sl_kernel_rfl
    isplitl [H12]
    · iexists _; isplitl [H12]; · iexact H12
      ipureintro
      refine store_tile _ _ _ (15 - k.val) _ (down_eq k) (k1_off1_inb k) _ _ down _ (Eq.trans ?_ ((congrArg (Trip.dxc · (I.carry k.val)) hT).trans hq)) h12
      sl_kernel_rfl
    isplitl [H13]
    · iexists _; isplitl [H13]; · iexact H13
      ipureintro
      refine (store_all _ _ _ zero3 inb_S1x128x128_S1x128x128_0_0_0 _ _).trans (Eq.trans ?_ (wrS_step I k.val hT ((load_all arg13 f13 _ zero3 inb_S1x128x128_S1x128x128_0_0_0).trans h13)))
      sl_kernel_rfl
    isplitl [H14]
    · iexists _; isplitl [H14]; · iexact H14
      ipureintro
      refine (store_all _ _ _ zero3 inb_S1x128x128_S1x128x128_0_0_0 _ _).trans (Eq.trans ?_ (wiS_step I k.val hT ((load_all arg14 f14 _ zero3 inb_S1x128x128_S1x128x128_0_0_0).trans h14)))
      sl_kernel_rfl
    isplitl [H15]
    · iexists _; isplitl [H15]; · iexact H15
      ipureintro
      refine (store_all _ _ _ zero2 inb_S1x128_S1x128_0_0 _ _).trans (Eq.trans ?_ (brS_step I k.val hT ((load_all arg15 f15 _ zero2 inb_S1x128_S1x128_0_0).trans h15)))
      sl_kernel_rfl
    isplitl [H16]
    · iexists _; isplitl [H16]; · iexact H16
      ipureintro
      refine (store_all _ _ _ zero2 inb_S1x128_S1x128_0_0 _ _).trans (Eq.trans ?_ (biS_step I k.val hT ((load_all arg16 f16 _ zero2 inb_S1x128_S1x128_0_0).trans h16)))
      sl_kernel_rfl
    isplitl [H17]
    · iexists _; isplitl [H17]; · iexact H17
      ipureintro
      refine (store_all _ _ _ zero2 inb_S1x128_S1x128_0_0 _ _).trans (Eq.trans ?_ (lamS_step I k.val hT ((load_all arg17 f17 _ zero2 inb_S1x128_S1x128_0_0).trans h17)))
      sl_kernel_rfl
    ipureintro
    refine Eq.trans ?_ (congrArg (Trip.next · (I.carry k.val)) hT)
    sl_kernel_rfl
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; isplitl [H11]; · iexact H11
                     ipureintro; exact fun s l h => absurd h (by omega)
    isplitl [H12]; · iexists _; isplitl [H12]; · iexact H12
                     ipureintro; exact fun s l h => absurd h (by omega)
    isplitl [H13]; · iexists _; isplitl [H13]; · iexact H13
                     ipureintro; exact store_all _ _ _ zero3 inb_S1x128x128_S1x128x128_0_0_0 _ _
    isplitl [H14]; · iexists _; isplitl [H14]; · iexact H14
                     ipureintro; exact store_all _ _ _ zero3 inb_S1x128x128_S1x128x128_0_0_0 _ _
    isplitl [H15]; · iexists _; isplitl [H15]; · iexact H15
                     ipureintro; exact store_all _ _ _ zero2 inb_S1x128_S1x128_0_0 _ _
    isplitl [H16]; · iexists _; isplitl [H16]; · iexact H16
                     ipureintro; exact store_all _ _ _ zero2 inb_S1x128_S1x128_0_0 _ _
    isplitl [H17]; · iexists _; isplitl [H17]; · iexact H17
                     ipureintro; exact store_all _ _ _ zero2 inb_S1x128_S1x128_0_0 _ _
    ipureintro; rfl
  · iintro %a ⟨H1, H2, H3, H4, H5, H6, H7, H8, H9, H10,
      ⟨%g11, H11, %h11⟩, ⟨%g12, H12, %h12⟩, ⟨%g13, H13, %h13⟩, ⟨%g14, H14, %h14⟩, ⟨%g15, H15, %h15⟩, ⟨%g16, H16, %h16⟩, ⟨%g17, H17, %h17⟩, -⟩
    sl_exec
    sl_step
    iapply Hk
    isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]; · iexists _; isplitr
                     swap; · iexact H11
                     ipureintro; exact Holds.all h11
    isplitl [H12]; · iexists _; isplitr
                     swap; · iexact H12
                     ipureintro; exact Holds.all h12
    isplitl [H13]; · iexists _; isplitr
                     swap; · iexact H13
                     ipureintro; exact h13.trans (congrArg I.wrS down_trips)
    isplitl [H14]; · iexists _; isplitr
                     swap; · iexact H14
                     ipureintro; exact h14.trans (congrArg I.wiS down_trips)
    isplitl [H15]; · iexists _; isplitr
                     swap; · iexact H15
                     ipureintro; exact h15.trans (congrArg I.brS down_trips)
    isplitl [H16]; · iexists _; isplitr
                     swap; · iexact H16
                     ipureintro; exact h16.trans (congrArg I.biS down_trips)
    iexists _; isplitr
    swap; · iexact H17
    ipureintro
    exact (store_all _ _ _ zero2 inb_S1x128_S1x128_0_0 _ _).trans
      (congr (congrArg k1_pay1 (congrArg k1_pay65 ((load_all arg17 g17 _ zero2 inb_S1x128_S1x128_0_0).trans (h17.trans (congrArg I.lamS down_trips)))))
        (congrArg k1_pay66 ((load_all arg10 _ _ zero2 inb_S1x128_S1x128_0_0).trans (harg10.read_unread I.lam))) ▸ rfl)

end Cert.LruIdeal.Eqn

end
-- ==== Proof.LruFrame.lean ====
/- The recurrence's two kernels in one program: the proof data of both, and the frame of the whole, over any element type. -/
module

public import proofs.«01_k».proof.Proof.LruBwd
public import proofs.«01_k».proof.Proof.Gen.LruIdeal.Points
public import proofs.«01_k».proof.Proof.Gen.LruIdeal.Regions
public import Idealize.ShloMosaic.Lib.Pipeline.RegionArraysS
public import Idealize.ShloMosaic.Lib.Pipeline.Frame
public import Idealize.ShloMosaic.Lib.Claim

@[expose] public section

set_option maxRecDepth 16384

noncomputable section

namespace Cert.LruIdeal.Eqn

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the frame's logic. -/
local notation "𝕄" => MT nD τ sig Unit (Elt F) ℕ (UR sig nD τ) ℕ

variable (m : (ℓ : Loc nD τ sig) → Buf (Elt F) ℓ) (ρ : Dev nD → PrngReg)

/-! ## The forward kernel -/

/-- An input's block at a point. -/
def iblk0 (c : Dev nD) (w : Fin cfg0.W) (t : Fin cfg0.N) : ((cfg0.win w).xblock (cfg0.grid.coords t)).Idx → Elt F (cfg0.win w).elt :=
  ((cfg0.win w).blk t).view.read (Elt F) (V2 m c (Pipeline.arrRef spec0 w))

/-- The inputs' blocks at a point. -/
def in0 (c : Dev nD) (t : Fin cfg0.N) : Fwd F :=
  ⟨iblk0 m c 0 t, iblk0 m c 1 t, iblk0 m c 2 t, iblk0 m c 3 t, iblk0 m c 4 t, iblk0 m c 5 t, iblk0 m c 6 t, iblk0 m c 7 t, iblk0 m c 8 t⟩

/-- What the forward run computes: the arrays as it finds them, and after each point the inputs' blocks and its results'. -/
def dat0 (c : Dev nD) : Dat τ (Elt F) Unit ℕ (UR sig nD τ) ℕ cfg0 c where
  A w := V2 m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => iblk0 m c 5 t
    | ⟨6, _⟩ => iblk0 m c 6 t
    | ⟨7, _⟩ => iblk0 m c 7 t
    | ⟨8, _⟩ => iblk0 m c 8 t
    | ⟨9, _⟩ => (in0 m c t).h
    | ⟨10, _⟩ => (in0 m c t).hp
    | ⟨11, _⟩ => (in0 m c t).xcs
    | ⟨12, _⟩ => (in0 m c t).y
  Φ _ := Pipeline.ΦA spec0 c
  q _ := fullShare
  owed _ := 0

theorem A0_eq (c : Dev nD) (w : Fin cfg0.W) : (dat0 m c).A w = V2 m c (Pipeline.arrRef spec0 w) := by dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = iblk0 m c 5 t := by dsimp only [dat0]
theorem after0_6 (c : Dev nD) (t : Fin cfg0.N) : (dat0 m c).after 6 t = iblk0 m c 6 t := by dsimp only [dat0]
theorem after0_7 (c : Dev nD) (t : Fin cfg0.N) : (dat0 m c).after 7 t = iblk0 m c 7 t := by dsimp only [dat0]
theorem after0_8 (c : Dev nD) (t : Fin cfg0.N) : (dat0 m c).after 8 t = iblk0 m c 8 t := by dsimp only [dat0]
theorem after0_9 (c : Dev nD) (t : Fin cfg0.N) : (dat0 m c).after 9 t = (in0 m c t).h := by dsimp only [dat0]
theorem after0_10 (c : Dev nD) (t : Fin cfg0.N) : (dat0 m c).after 10 t = (in0 m c t).hp := by dsimp only [dat0]
theorem after0_11 (c : Dev nD) (t : Fin cfg0.N) : (dat0 m c).after 11 t = (in0 m c t).xcs := by dsimp only [dat0]
theorem after0_12 (c : Dev nD) (t : Fin cfg0.N) : (dat0 m c).after 12 t = (in0 m c t).y := by dsimp only [dat0]

/-- An input window holds its block at every point. -/
theorem before0_in (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dat0 m c).after w t) = iblk0 m c w t) (t : Fin cfg0.N) (d) :
    (dat0 m c).before w t d = (dat0 m c).fetched w t d :=
  (dat0 m c).before_in_eq_fetched w hw hlive hclip (fun t => by rw [hafter]; unfold Dat.blockOf iblk0; rw [A0_eq]) t d

theorem before0_0 (c : Dev nD) (t : Fin cfg0.N) (d) : (dat0 m c).before 0 t d = iblk0 m c 0 t :=
  (before0_in m c 0 rfl (fun _ => rfl) (fun _ _ _ => rfl) (fun t => by rw [after0_0]) t d).trans
    (by unfold Dat.fetched Dat.blockOf iblk0; rw [A0_eq]; try rfl)
theorem before0_1 (c : Dev nD) (t : Fin cfg0.N) (d) : (dat0 m c).before 1 t d = iblk0 m c 1 t :=
  (before0_in m c 1 rfl (fun _ => rfl) (fun _ _ _ => rfl) (fun t => by rw [after0_1]) t d).trans
    (by unfold Dat.fetched Dat.blockOf iblk0; rw [A0_eq]; try rfl)
theorem before0_2 (c : Dev nD) (t : Fin cfg0.N) (d) : (dat0 m c).before 2 t d = iblk0 m c 2 t :=
  (before0_in m c 2 rfl (fun _ => rfl) (fun _ _ _ => rfl) (fun t => by rw [after0_2]) t d).trans
    (by unfold Dat.fetched Dat.blockOf iblk0; rw [A0_eq]; try rfl)
theorem before0_3 (c : Dev nD) (t : Fin cfg0.N) (d) : (dat0 m c).before 3 t d = iblk0 m c 3 t :=
  (before0_in m c 3 rfl (fun _ => rfl) (fun _ _ _ => rfl) (fun t => by rw [after0_3]) t d).trans
    (by unfold Dat.fetched Dat.blockOf iblk0; rw [A0_eq]; try rfl)
theorem before0_4 (c : Dev nD) (t : Fin cfg0.N) (d) : (dat0 m c).before 4 t d = iblk0 m c 4 t :=
  (before0_in m c 4 rfl (fun _ => rfl) (fun _ _ _ => rfl) (fun t => by rw [after0_4]) t d).trans
    (by unfold Dat.fetched Dat.blockOf iblk0; rw [A0_eq]; try rfl)
theorem before0_5 (c : Dev nD) (t : Fin cfg0.N) (d) : (dat0 m c).before 5 t d = iblk0 m c 5 t :=
  (before0_in m c 5 rfl (fun _ => rfl) (fun _ _ _ => rfl) (fun t => by rw [after0_5]) t d).trans
    (by unfold Dat.fetched Dat.blockOf iblk0; rw [A0_eq]; try rfl)
theorem before0_6 (c : Dev nD) (t : Fin cfg0.N) (d) : (dat0 m c).before 6 t d = iblk0 m c 6 t :=
  (before0_in m c 6 rfl (fun _ => rfl) (fun _ _ _ => rfl) (fun t => by rw [after0_6]) t d).trans
    (by unfold Dat.fetched Dat.blockOf iblk0; rw [A0_eq]; try rfl)
theorem before0_7 (c : Dev nD) (t : Fin cfg0.N) (d) : (dat0 m c).before 7 t d = iblk0 m c 7 t :=
  (before0_in m c 7 rfl (fun _ => rfl) (fun _ _ _ => rfl) (fun t => by rw [after0_7]) t d).trans
    (by unfold Dat.fetched Dat.blockOf iblk0; rw [A0_eq]; try rfl)
theorem before0_8 (c : Dev nD) (t : Fin cfg0.N) (d) : (dat0 m c).before 8 t d = iblk0 m c 8 t :=
  (before0_in m c 8 rfl (fun _ => rfl) (fun _ _ _ => rfl) (fun t => by rw [after0_8]) t d).trans
    (by unfold Dat.fetched Dat.blockOf iblk0; rw [A0_eq]; try rfl)

set_option maxHeartbeats 1000000 in
/-- The forward body at a grid point, between the contents the windows hold before and after it. -/
theorem sound0 (c : Dev nD) (t : Fin cfg0.N) :
    iprop((dat0 m c).Φ t.castSucc ∗ (dat0 m c).owesAt () t.castSucc
      ∗ (∃ d, owns (c : Thread nD τ) (st0_0 t) fullShare ((dat0 m c).before 0 t d))
      ∗ (∃ d, owns (c : Thread nD τ) (st0_1 t) fullShare ((dat0 m c).before 1 t d))
      ∗ (∃ d, owns (c : Thread nD τ) (st0_2 t) fullShare ((dat0 m c).before 2 t d))
      ∗ (∃ d, owns (c : Thread nD τ) (st0_3 t) fullShare ((dat0 m c).before 3 t d))
      ∗ (∃ d, owns (c : Thread nD τ) (st0_4 t) fullShare ((dat0 m c).before 4 t d))
      ∗ (∃ d, owns (c : Thread nD τ) (st0_5 t) fullShare ((dat0 m c).before 5 t d))
      ∗ (∃ d, owns (c : Thread nD τ) (st0_6 t) fullShare ((dat0 m c).before 6 t d))
      ∗ (∃ d, owns (c : Thread nD τ) (st0_7 t) fullShare ((dat0 m c).before 7 t d))
      ∗ (∃ d, owns (c : Thread nD τ) (st0_8 t) fullShare ((dat0 m c).before 8 t d))
      ∗ (∃ d, owns (c : Thread nD τ) (st0_9 t) fullShare ((dat0 m c).before 9 t d))
      ∗ (∃ d, owns (c : Thread nD τ) (st0_10 t) fullShare ((dat0 m c).before 10 t d))
      ∗ (∃ d, owns (c : Thread nD τ) (st0_11 t) fullShare ((dat0 m c).before 11 t d))
      ∗ (∃ d, owns (c : Thread nD τ) (st0_12 t) fullShare ((dat0 m c).before 12 t d)))
    ⊢ wp frame (wpE (defs₀ (F := F)) Variants.none c none) Set.univ (bodyAt0 t) (fun _ =>
      iprop((dat0 m c).Φ t.succ ∗ (dat0 m c).owesAt () t.succ
        ∗ owns (c : Thread nD τ) (st0_0 t) fullShare ((dat0 m c).after 0 t)
        ∗ owns (c : Thread nD τ) (st0_1 t) fullShare ((dat0 m c).after 1 t)
        ∗ owns (c : Thread nD τ) (st0_2 t) fullShare ((dat0 m c).after 2 t)
        ∗ owns (c : Thread nD τ) (st0_3 t) fullShare ((dat0 m c).after 3 t)
        ∗ owns (c : Thread nD τ) (st0_4 t) fullShare ((dat0 m c).after 4 t)
        ∗ owns (c : Thread nD τ) (st0_5 t) fullShare ((dat0 m c).after 5 t)
        ∗ owns (c : Thread nD τ) (st0_6 t) fullShare ((dat0 m c).after 6 t)
        ∗ owns (c : Thread nD τ) (st0_7 t) fullShare ((dat0 m c).after 7 t)
        ∗ owns (c : Thread nD τ) (st0_8 t) fullShare ((dat0 m c).after 8 t)
        ∗ owns (c : Thread nD τ) (st0_9 t) fullShare ((dat0 m c).after 9 t)
        ∗ owns (c : Thread nD τ) (st0_10 t) fullShare ((dat0 m c).after 10 t)
        ∗ owns (c : Thread nD τ) (st0_11 t) fullShare ((dat0 m c).after 11 t)
        ∗ owns (c : Thread nD τ) (st0_12 t) fullShare ((dat0 m c).after 12 t))) := by
  unfold bodyAt0
  simp only [before0_0, before0_1, before0_2, before0_3, before0_4, before0_5, before0_6, before0_7, before0_8]
  rw [show (dat0 m c).Φ t.succ = (dat0 m c).Φ t.castSucc from rfl,
    show (dat0 m c).owesAt () t.succ = (dat0 m c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (fwd_run c (grid0.coords t) _ _ _ _ _ _ _ _ _ _ _ _ _ _ _ _ _ _ _ _ _ _ _ _ _ _ (in0 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the pipeline calls at a point. -/
theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) m c) (defs₀ (F := F)) Variants.none () Set.univ := fun t => by
  rw [bigSep_W0, bigSep_W0, row0]
  exact triple_restated (sound0 m c t) rfl .rfl fun _ => .rfl

/-- What the forward kernel leaves. -/
def outs0 : Outs (F := F) := fun _ r c => Pipeline.afterRegion (dat0 m c) (V2 m c) r

/-! ## The backward kernel -/

/-- An input's block at a point. -/
def iblk1 (c : Dev nD) (w : Fin cfg1.W) (t : Fin cfg1.N) : ((cfg1.win w).xblock (cfg1.grid.coords t)).Idx → Elt F (cfg1.win w).elt :=
  ((cfg1.win w).blk t).view.read (Elt F) (V3 m (outs0 m) c (Pipeline.arrRef spec1 w))

/-- The inputs' blocks at a point. -/
def in1 (c : Dev nD) (t : Fin cfg1.N) : Bwd F :=
  ⟨iblk1 m c 0 t, iblk1 m c 1 t, iblk1 m c 2 t, iblk1 m c 3 t, iblk1 m c 4 t, iblk1 m c 5 t, iblk1 m c 6 t, iblk1 m c 7 t, iblk1 m c 8 t, iblk1 m c 9 t⟩

/-- What the backward run computes: the arrays as it finds them, and after each point the inputs' blocks and its results'. -/
def dat1 (c : Dev nD) : Dat τ (Elt F) Unit ℕ (UR sig nD τ) ℕ cfg1 c where
  A w := V3 m (outs0 m) c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => iblk1 m c 7 t
    | ⟨8, _⟩ => iblk1 m c 8 t
    | ⟨9, _⟩ => iblk1 m c 9 t
    | ⟨10, _⟩ => (in1 m c t).dgr
    | ⟨11, _⟩ => (in1 m c t).dxc
    | ⟨12, _⟩ => (in1 m c t).wrS 16
    | ⟨13, _⟩ => (in1 m c t).wiS 16
    | ⟨14, _⟩ => (in1 m c t).brS 16
    | ⟨15, _⟩ => (in1 m c t).biS 16
    | ⟨16, _⟩ => (in1 m c t).dlam
    | ⟨_ + 17, h⟩ => absurd h (Nat.not_lt.2 (Nat.le_add_left _ _))
  Φ _ := Pipeline.ΦA spec1 c
  q _ := fullShare
  owed _ := 0

theorem A1_eq (c : Dev nD) (w : Fin cfg1.W) : (dat1 m c).A w = V3 m (outs0 m) c (Pipeline.arrRef spec1 w) := by dsimp only [dat1]

theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
theorem after1_5 (c : Dev nD) (t : Fin cfg1.N) : (dat1 m c).after 5 t = iblk1 m c 5 t := by dsimp only [dat1]
theorem after1_6 (c : Dev nD) (t : Fin cfg1.N) : (dat1 m c).after 6 t = iblk1 m c 6 t := by dsimp only [dat1]
theorem after1_7 (c : Dev nD) (t : Fin cfg1.N) : (dat1 m c).after 7 t = iblk1 m c 7 t := by dsimp only [dat1]
theorem after1_8 (c : Dev nD) (t : Fin cfg1.N) : (dat1 m c).after 8 t = iblk1 m c 8 t := by dsimp only [dat1]
theorem after1_9 (c : Dev nD) (t : Fin cfg1.N) : (dat1 m c).after 9 t = iblk1 m c 9 t := by dsimp only [dat1]
theorem after1_10 (c : Dev nD) (t : Fin cfg1.N) : (dat1 m c).after 10 t = (in1 m c t).dgr := by dsimp only [dat1]
theorem after1_11 (c : Dev nD) (t : Fin cfg1.N) : (dat1 m c).after 11 t = (in1 m c t).dxc := by dsimp only [dat1]
theorem after1_12 (c : Dev nD) (t : Fin cfg1.N) : (dat1 m c).after 12 t = (in1 m c t).wrS 16 := by dsimp only [dat1]
theorem after1_13 (c : Dev nD) (t : Fin cfg1.N) : (dat1 m c).after 13 t = (in1 m c t).wiS 16 := by dsimp only [dat1]
theorem after1_14 (c : Dev nD) (t : Fin cfg1.N) : (dat1 m c).after 14 t = (in1 m c t).brS 16 := by dsimp only [dat1]
theorem after1_15 (c : Dev nD) (t : Fin cfg1.N) : (dat1 m c).after 15 t = (in1 m c t).biS 16 := by dsimp only [dat1]
theorem after1_16 (c : Dev nD) (t : Fin cfg1.N) : (dat1 m c).after 16 t = (in1 m c t).dlam := by dsimp only [dat1]

/-- An input window holds its block at every point. -/
theorem before1_in (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hafter : ∀ t, (cfg1.win w).cut (cfg1.grid.coords t) ((dat1 m c).after w t) = iblk1 m c w t) (t : Fin cfg1.N) (d) :
    (dat1 m c).before w t d = (dat1 m c).fetched w t d :=
  (dat1 m c).before_in_eq_fetched w hw hlive hclip (fun t => by rw [hafter]; unfold Dat.blockOf iblk1; rw [A1_eq]) t d

theorem before1_0 (c : Dev nD) (t : Fin cfg1.N) (d) : (dat1 m c).before 0 t d = iblk1 m c 0 t :=
  (before1_in m c 0 rfl (fun _ => rfl) (fun _ _ _ => rfl) (fun t => by rw [after1_0]) t d).trans
    (by unfold Dat.fetched Dat.blockOf iblk1; rw [A1_eq]; try rfl)
theorem before1_1 (c : Dev nD) (t : Fin cfg1.N) (d) : (dat1 m c).before 1 t d = iblk1 m c 1 t :=
  (before1_in m c 1 rfl (fun _ => rfl) (fun _ _ _ => rfl) (fun t => by rw [after1_1]) t d).trans
    (by unfold Dat.fetched Dat.blockOf iblk1; rw [A1_eq]; try rfl)
theorem before1_2 (c : Dev nD) (t : Fin cfg1.N) (d) : (dat1 m c).before 2 t d = iblk1 m c 2 t :=
  (before1_in m c 2 rfl (fun _ => rfl) (fun _ _ _ => rfl) (fun t => by rw [after1_2]) t d).trans
    (by unfold Dat.fetched Dat.blockOf iblk1; rw [A1_eq]; try rfl)
theorem before1_3 (c : Dev nD) (t : Fin cfg1.N) (d) : (dat1 m c).before 3 t d = iblk1 m c 3 t :=
  (before1_in m c 3 rfl (fun _ => rfl) (fun _ _ _ => rfl) (fun t => by rw [after1_3]) t d).trans
    (by unfold Dat.fetched Dat.blockOf iblk1; rw [A1_eq]; try rfl)
theorem before1_4 (c : Dev nD) (t : Fin cfg1.N) (d) : (dat1 m c).before 4 t d = iblk1 m c 4 t :=
  (before1_in m c 4 rfl (fun _ => rfl) (fun _ _ _ => rfl) (fun t => by rw [after1_4]) t d).trans
    (by unfold Dat.fetched Dat.blockOf iblk1; rw [A1_eq]; try rfl)
theorem before1_5 (c : Dev nD) (t : Fin cfg1.N) (d) : (dat1 m c).before 5 t d = iblk1 m c 5 t :=
  (before1_in m c 5 rfl (fun _ => rfl) (fun _ _ _ => rfl) (fun t => by rw [after1_5]) t d).trans
    (by unfold Dat.fetched Dat.blockOf iblk1; rw [A1_eq]; try rfl)
theorem before1_6 (c : Dev nD) (t : Fin cfg1.N) (d) : (dat1 m c).before 6 t d = iblk1 m c 6 t :=
  (before1_in m c 6 rfl (fun _ => rfl) (fun _ _ _ => rfl) (fun t => by rw [after1_6]) t d).trans
    (by unfold Dat.fetched Dat.blockOf iblk1; rw [A1_eq]; try rfl)
theorem before1_7 (c : Dev nD) (t : Fin cfg1.N) (d) : (dat1 m c).before 7 t d = iblk1 m c 7 t :=
  (before1_in m c 7 rfl (fun _ => rfl) (fun _ _ _ => rfl) (fun t => by rw [after1_7]) t d).trans
    (by unfold Dat.fetched Dat.blockOf iblk1; rw [A1_eq]; try rfl)
theorem before1_8 (c : Dev nD) (t : Fin cfg1.N) (d) : (dat1 m c).before 8 t d = iblk1 m c 8 t :=
  (before1_in m c 8 rfl (fun _ => rfl) (fun _ _ _ => rfl) (fun t => by rw [after1_8]) t d).trans
    (by unfold Dat.fetched Dat.blockOf iblk1; rw [A1_eq]; try rfl)
theorem before1_9 (c : Dev nD) (t : Fin cfg1.N) (d) : (dat1 m c).before 9 t d = iblk1 m c 9 t :=
  (before1_in m c 9 rfl (fun _ => rfl) (fun _ _ _ => rfl) (fun t => by rw [after1_9]) t d).trans
    (by unfold Dat.fetched Dat.blockOf iblk1; rw [A1_eq]; try rfl)

set_option maxHeartbeats 1000000 in
/-- The backward body at a grid point, between the contents the windows hold before and after it. -/
theorem sound1 (c : Dev nD) (t : Fin cfg1.N) :
    iprop((dat1 m c).Φ t.castSucc ∗ (dat1 m c).owesAt () t.castSucc
      ∗ (∃ d, owns (c : Thread nD τ) (st1_0 t) fullShare ((dat1 m c).before 0 t d))
      ∗ (∃ d, owns (c : Thread nD τ) (st1_1 t) fullShare ((dat1 m c).before 1 t d))
      ∗ (∃ d, owns (c : Thread nD τ) (st1_2 t) fullShare ((dat1 m c).before 2 t d))
      ∗ (∃ d, owns (c : Thread nD τ) (st1_3 t) fullShare ((dat1 m c).before 3 t d))
      ∗ (∃ d, owns (c : Thread nD τ) (st1_4 t) fullShare ((dat1 m c).before 4 t d))
      ∗ (∃ d, owns (c : Thread nD τ) (st1_5 t) fullShare ((dat1 m c).before 5 t d))
      ∗ (∃ d, owns (c : Thread nD τ) (st1_6 t) fullShare ((dat1 m c).before 6 t d))
      ∗ (∃ d, owns (c : Thread nD τ) (st1_7 t) fullShare ((dat1 m c).before 7 t d))
      ∗ (∃ d, owns (c : Thread nD τ) (st1_8 t) fullShare ((dat1 m c).before 8 t d))
      ∗ (∃ d, owns (c : Thread nD τ) (st1_9 t) fullShare ((dat1 m c).before 9 t d))
      ∗ (∃ d, owns (c : Thread nD τ) (st1_10 t) fullShare ((dat1 m c).before 10 t d))
      ∗ (∃ d, owns (c : Thread nD τ) (st1_11 t) fullShare ((dat1 m c).before 11 t d))
      ∗ (∃ d, owns (c : Thread nD τ) (st1_12 t) fullShare ((dat1 m c).before 12 t d))
      ∗ (∃ d, owns (c : Thread nD τ) (st1_13 t) fullShare ((dat1 m c).before 13 t d))
      ∗ (∃ d, owns (c : Thread nD τ) (st1_14 t) fullShare ((dat1 m c).before 14 t d))
      ∗ (∃ d, owns (c : Thread nD τ) (st1_15 t) fullShare ((dat1 m c).before 15 t d))
      ∗ (∃ d, owns (c : Thread nD τ) (st1_16 t) fullShare ((dat1 m c).before 16 t d)))
    ⊢ wp frame (wpE (defs₀ (F := F)) Variants.none c none) Set.univ (bodyAt1 t) (fun _ =>
      iprop((dat1 m c).Φ t.succ ∗ (dat1 m c).owesAt () t.succ
        ∗ owns (c : Thread nD τ) (st1_0 t) fullShare ((dat1 m c).after 0 t)
        ∗ owns (c : Thread nD τ) (st1_1 t) fullShare ((dat1 m c).after 1 t)
        ∗ owns (c : Thread nD τ) (st1_2 t) fullShare ((dat1 m c).after 2 t)
        ∗ owns (c : Thread nD τ) (st1_3 t) fullShare ((dat1 m c).after 3 t)
        ∗ owns (c : Thread nD τ) (st1_4 t) fullShare ((dat1 m c).after 4 t)
        ∗ owns (c : Thread nD τ) (st1_5 t) fullShare ((dat1 m c).after 5 t)
        ∗ owns (c : Thread nD τ) (st1_6 t) fullShare ((dat1 m c).after 6 t)
        ∗ owns (c : Thread nD τ) (st1_7 t) fullShare ((dat1 m c).after 7 t)
        ∗ owns (c : Thread nD τ) (st1_8 t) fullShare ((dat1 m c).after 8 t)
        ∗ owns (c : Thread nD τ) (st1_9 t) fullShare ((dat1 m c).after 9 t)
        ∗ owns (c : Thread nD τ) (st1_10 t) fullShare ((dat1 m c).after 10 t)
        ∗ owns (c : Thread nD τ) (st1_11 t) fullShare ((dat1 m c).after 11 t)
        ∗ owns (c : Thread nD τ) (st1_12 t) fullShare ((dat1 m c).after 12 t)
        ∗ owns (c : Thread nD τ) (st1_13 t) fullShare ((dat1 m c).after 13 t)
        ∗ owns (c : Thread nD τ) (st1_14 t) fullShare ((dat1 m c).after 14 t)
        ∗ owns (c : Thread nD τ) (st1_15 t) fullShare ((dat1 m c).after 15 t)
        ∗ owns (c : Thread nD τ) (st1_16 t) fullShare ((dat1 m c).after 16 t))) := by
  unfold bodyAt1
  simp only [before1_0, before1_1, before1_2, before1_3, before1_4, before1_5, before1_6, before1_7, before1_8, before1_9]
  rw [show (dat1 m c).Φ t.succ = (dat1 m c).Φ t.castSucc from rfl,
    show (dat1 m c).owesAt () t.succ = (dat1 m c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (bwd_run c (grid1.coords t) _ _ _ _ _ _ _ _ _ _ _ _ _ _ _ _ _ _ _ _ _ _ _ _ _ _ _ _ _ _ _ _ _ _ (in1 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body the pipeline calls at a point. -/
theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) m c) (defs₀ (F := F)) Variants.none () Set.univ := fun t => by
  rw [bigSep_W1, bigSep_W1, row1]
  exact triple_restated (sound1 m c t) rfl .rfl fun _ => .rfl

/-- What the two kernels leave. -/
def outs : Outs (F := F)
  | 3, r, c => outs0 m 3 r c
  | _, r, c => Pipeline.afterRegion (dat1 m c) (V3 m (outs0 m) c) r

/-! ## The whole program -/

/-- A reference of the core's memory outside its scopes. -/
theorem uc_ref {b : DevRef τ sig} (hb : b ∈ Pipeline.ucRefs τ sig) : ∃ r : Ref sig .tc, b = Proc.devRef .tc r := by
  obtain ⟨r, -, rfl⟩ := Finset.mem_map.mp (Finset.mem_filter.mp hb).1
  exact ⟨r, rfl⟩

/-- After the forward kernel the memory is as the chain of items states it. -/
theorem left0 (c : Dev nD) (b : DevRef τ sig) (hb : b ∈ Pipeline.ucRefs τ sig) : Pipeline.afterRegion (dat0 m c) (V2 m c) b = V3 m (outs m) c b := by
  obtain ⟨r, rfl⟩ := uc_ref hb
  by_cases hr : r ∈ ([main_v2_0, main_v2_1, main_v2_2, main_v2_3] : List (Ref sig .tc))
  · simp only [List.mem_cons, List.mem_nil_iff, or_false] at hr
    rcases hr with rfl | rfl | rfl | rfl <;>
      (unfold V3; repeat (first | rw [Function.update_self] | rw [Function.update_of_ne (StableHlo.devRef_ne_of_ne (by decide))])) <;> rfl
  · rw [V3_of m (outs m) c r hr]
    refine Pipeline.afterRegion_keeps (dat0 m c) (V2 m c) winFacts0.arr_inj (A0_eq m c) r fun w e => ?_
    have hw : ∀ w : Fin cfg0.W, (cfg0.win w).isOut = true → Pipeline.arrRef spec0 w ∈ ([main_v2_0, main_v2_1, main_v2_2, main_v2_3] : List (Ref sig .tc)) := by decide
    by_contra hne
    exact hr (e ▸ hw w (by simpa using hne))

/-- After the backward kernel the memory is as the chain of items states it. -/
theorem left1 (c : Dev nD) (b : DevRef τ sig) (hb : b ∈ Pipeline.ucRefs τ sig) :
    Pipeline.afterRegion (dat1 m c) (V3 m (outs0 m) c) b = V4 m (outs m) c b := by
  obtain ⟨r, rfl⟩ := uc_ref hb
  by_cases hr : r ∈ ([main_v3_0, main_v3_1, main_v3_2, main_v3_3, main_v3_4, main_v3_5, main_v3_6] : List (Ref sig .tc))
  · simp only [List.mem_cons, List.mem_nil_iff, or_false] at hr
    rcases hr with rfl | rfl | rfl | rfl | rfl | rfl | rfl <;>
      (unfold V4; repeat (first | rw [Function.update_self] | rw [Function.update_of_ne (StableHlo.devRef_ne_of_ne (by decide))])) <;> rfl
  · rw [V4_of m (outs m) c r hr]
    refine Pipeline.afterRegion_keeps (dat1 m c) (V3 m (outs0 m) c) winFacts1.arr_inj (A1_eq m c) r fun w e => ?_
    have hw : ∀ w : Fin cfg1.W, (cfg1.win w).isOut = true →
        Pipeline.arrRef spec1 w ∈ ([main_v3_0, main_v3_1, main_v3_2, main_v3_3, main_v3_4, main_v3_5, main_v3_6] : List (Ref sig .tc)) := by decide
    by_contra hne
    exact hr (e ▸ hw w (by simpa using hne))

/-- The two kernels' proof data. -/
def pdats : (p : Fin 2) → (c : Dev nD) → Dat τ (Elt F) Unit ℕ (UR sig nD τ) ℕ (cfgs p) c
  | 0 => dat0 m
  | 1 => dat1 m

/-- The levels: every cell of the core at one level. -/
abbrev Lv : GSem nD τ sig → Finset Unit := fun g => if g.1.2 = .tc then Finset.univ else ∅
abbrev lv0 : GSem nD τ sig → Unit → ℕ := fun _ _ => 0

/-- What rides beside the memory: the core owes nothing, and its generator's register. -/
abbrev Rest (_ : Fin 3) (c : Dev nD) : sProp 𝕄 :=
  iprop((∃ W, owes (c : Thread nD τ) (0 : CellTallies nD τ sig Unit) W) ∗ (∃ r, prngReg c r) ∗ emp)

theorem cut (p : Fin 2) : Pipeline.LevelCut (pcfgs (F := F)) adm () Lv lv0 p 0 fun _ => 0 where
  hι c w s := by
    show () ∈ Lv _
    unfold Lv
    rw [if_pos rfl]
    exact Finset.mem_univ _
  hιb _ _ _ := le_rfl
  hD _ _ _ h := absurd h (by simp)

set_option backward.isDefEq.respectTransparency.types false in
/-- The forward kernel's segment. -/
def reg0 : Pipeline.RegionSeg (pcfgs (F := F)) adm (pdats m) () defs₀ Variants.none Lv lv0 0 :=
  Pipeline.RegionSeg.ofHeldIn (pcfgs (F := F)) adm (pdats m) () defs₀ Variants.none Lv lv0 0 0 (Pipeline.ucRefs τ sig)
    (fun c => iprop(∃ r, prngReg c r)) (fun c => iprop(∃ r, prngReg c r)) launch0.toP rfl (fun c => (obligation0 m c).loose)
    (fun _ _ => rfl) (fun _ => rfl) (fun c => (dat0 m c).share_full fun _ => rfl) (fun _ => .rfl) (fun _ => .rfl) (fun _ => 0) (cut 0)
    (fun _ => iprop(emp)) (V2 m) (fun c w => A0_eq m c w)

set_option backward.isDefEq.respectTransparency.types false in
/-- The backward kernel's segment. -/
def reg1 : Pipeline.RegionSeg (pcfgs (F := F)) adm (pdats m) () defs₀ Variants.none Lv lv0 1 :=
  Pipeline.RegionSeg.ofHeldIn (pcfgs (F := F)) adm (pdats m) () defs₀ Variants.none Lv lv0 1 0 (Pipeline.ucRefs τ sig)
    (fun c => iprop(∃ r, prngReg c r)) (fun c => iprop(∃ r, prngReg c r)) launch1.toP rfl (fun c => (obligation1 m c).loose)
    (fun _ _ => rfl) (fun _ => rfl) (fun c => (dat1 m c).share_full fun _ => rfl) (fun _ => .rfl) (fun _ => .rfl) (fun _ => 0) (cut 1)
    (fun _ => iprop(emp)) (V3 m (outs0 m)) (fun c w => A1_eq m c w)

set_option backward.isDefEq.respectTransparency.types false in
/-- The segment's entry, -/
theorem enter0 (c : Dev nD) : iprop(StableHlo.held (c : Thread nD τ) (Pipeline.ucRefs τ sig) (V2 m c) ∗ Rest 0 c) ⊢ (reg0 m).pre c := by
  unfold reg0
  have hS : Pipeline.arrRefs (τ := τ) (pcfgs (F := F) 0).spec ⊆ Pipeline.ucRefs τ sig := Pipeline.arrRefs_sub_ucRefs spec0 winFacts0.arr_unscoped
  refine BIBase.Entails.trans ?_ (Pipeline.RegionSeg.ofHeldIn_pre hS c)
  exact .rfl
set_option backward.isDefEq.respectTransparency.types false in
/-- and its exit. -/
theorem leave0 (c : Dev nD) : (reg0 m).post c ⊢
    iprop(StableHlo.held (c : Thread nD τ) (Pipeline.ucRefs τ sig) (Pipeline.afterRegion (dat0 m c) (V2 m c)) ∗ Rest 0 c) := by
  unfold reg0
  have hS : Pipeline.arrRefs (τ := τ) (pcfgs (F := F) 0).spec ⊆ Pipeline.ucRefs τ sig := Pipeline.arrRefs_sub_ucRefs spec0 winFacts0.arr_unscoped
  exact Pipeline.RegionSeg.ofHeldIn_post hS c

set_option backward.isDefEq.respectTransparency.types false in
/-- The segment's entry, -/
theorem enter1 (c : Dev nD) : iprop(StableHlo.held (c : Thread nD τ) (Pipeline.ucRefs τ sig) (V3 m (outs0 m) c) ∗ Rest 0 c) ⊢ (reg1 m).pre c := by
  unfold reg1
  have hS : Pipeline.arrRefs (τ := τ) (pcfgs (F := F) 1).spec ⊆ Pipeline.ucRefs τ sig := Pipeline.arrRefs_sub_ucRefs spec1 winFacts1.arr_unscoped
  refine BIBase.Entails.trans ?_ (Pipeline.RegionSeg.ofHeldIn_pre hS c)
  exact .rfl
set_option backward.isDefEq.respectTransparency.types false in
/-- and its exit. -/
theorem leave1 (c : Dev nD) : (reg1 m).post c ⊢
    iprop(StableHlo.held (c : Thread nD τ) (Pipeline.ucRefs τ sig) (Pipeline.afterRegion (dat1 m c) (V3 m (outs0 m) c)) ∗ Rest 0 c) := by
  unfold reg1
  have hS : Pipeline.arrRefs (τ := τ) (pcfgs (F := F) 1).spec ⊆ Pipeline.ucRefs τ sig := Pipeline.arrRefs_sub_ucRefs spec1 winFacts1.arr_unscoped
  exact Pipeline.RegionSeg.ofHeldIn_post hS c

set_option backward.isDefEq.respectTransparency.types false in
set_option maxHeartbeats 1000000 in
/-- The frame: the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine frame_cond m (emb₁ : Emb (UR sig nD τ) 𝕄) () Variants.none Lv lv0 (fun g h => if_neg h) ρ (outs m) (pdats m)
    0 (fun _ => iprop(emp)) (initOf (Pipeline.cells cfgs cellOf_inj) (Pipeline.launchToks cfgs cellOf_inj)) ?_ Rest ?_ ?_
    (reg0 m) ?_ ?_ (reg1 m) ?_ ?_
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach Lv lv0 fun c => ?_
    iintro ⟨⟨-, HO, -, HP, -⟩, -⟩
    imodintro
    isplitl [HO]; · iexists ∅; iexact HO
    isplitl [HP]; · iexists _; iexact HP
    iempintro
  · intro c
    iintro ⟨HO, -, -⟩
    iexact HO
  · exact enter0 m
  · exact fun c => (leave0 m c).trans (sep_mono (Entails.of_eq (StableHlo.held_congr (c.tc : Thread nD τ) (left0 m c))) .rfl)
  · exact enter1 m
  · exact fun c => (leave1 m c).trans (sep_mono (Entails.of_eq (StableHlo.held_congr (c.tc : Thread nD τ) (left1 m c))) .rfl)

end Cert.LruIdeal.Eqn

end
-- ==== Proof.LruClaim.lean ====
/- The recurrence's gradients: the kernel's frame for both of its programs. -/
module

public import proofs.«01_k».proof.Defs
public import proofs.«01_k».proof.Proof.LruFrame
public import proofs.«01_k».proof.Proof.Gen.Lru
public import Idealize.ShloMosaic.Adequacy

@[expose] public section

set_option maxRecDepth 16384

noncomputable section

namespace Cert.LruClaim

open Idealize.ShloMosaic Idealize.ShloMosaic.TcCoe Idealize.SL.Sem
open Cert.LruIdeal

/-- The kernel's frame: the kernel and its ideal program are one text, so it is the one run proved over any floats. -/
theorem frame_kernel : Cert.quiescent_Lru := by
  intro m ρ _
  refine Eq.mp ?_ (Cert.LruIdeal.Eqn.frame_all (F := Bits) m ρ)
  sl_kernel_rfl

/-- The ideal program's frame. -/
theorem frame_ideal : Cert.quiescent_LruIdeal := fun m ρ _ => Cert.LruIdeal.Eqn.frame_all m ρ

end Cert.LruClaim

end
-- ==== Proof.MergeRef.lean ====
/- What the reference of the merge's gradient computes on finite arguments. -/
module

public import proofs.«01_k».proof.Proof.GateMath
public import proofs.«01_k».proof.Proof.Gen.MergeRefIdeal.Run

@[expose] public section

set_option maxRecDepth 16384

noncomputable section

namespace Cert.MergeRefIdeal.Eqn

open Cert.MergeRefIdeal Cert.MergeRefIdeal.Gen Cert.MergeRefIdeal.Value
open Idealize.ShloMosaic Idealize.ShloMosaic.TcCoe Idealize.SL.Sem
open Cert.GateMath Cert.RealLift

variable (m : (ℓ : Loc nD τ sig) → Buf (Elt Ideal) ℓ) (ρ : Dev nD → PrngReg)

/-- The arguments hold the named real arrays. -/
structure Holds (A : Dev nD → MergeArgs) : Prop where
  ya : ∀ c : Dev nD, m ((c.tc : Thread nD τ).loc main_arg0) = fun i => (((A c).ya i : ℝ) : EReal)
  yl : ∀ c : Dev nD, m ((c.tc : Thread nD τ).loc main_arg1) = fun i => (((A c).yl i : ℝ) : EReal)
  wa : ∀ c : Dev nD, m ((c.tc : Thread nD τ).loc main_arg2) = fun i => (((A c).wa i : ℝ) : EReal)
  wl : ∀ c : Dev nD, m ((c.tc : Thread nD τ).loc main_arg3) = fun i => (((A c).wl i : ℝ) : EReal)
  proj : ∀ c : Dev nD, m ((c.tc : Thread nD τ).loc main_arg4) = fun i => (((A c).proj i : ℝ) : EReal)
  wo : ∀ c : Dev nD, m ((c.tc : Thread nD τ).loc main_arg5) = fun i => (((A c).wo i : ℝ) : EReal)
  dout : ∀ c : Dev nD, m ((c.tc : Thread nD τ).loc main_arg6) = fun i => (((A c).dout i : ℝ) : EReal)

variable {m} {A : Dev nD → MergeArgs}

/-- The products and the gates at one place, as the reference spells them. -/
theorem branch_at (y : Mat 4096 1024) (w : Mat 1024 2048) (a : Fin 4096) (n : Fin 2048) :
    ∑ k : Fin 1024, y (ix2 a k) * w (ix2 k n) = branch y w a n := rfl
theorem dm_at (B : MergeArgs) (a : Fin 4096) (n : Fin 2048) :
    ∑ k : Fin 2048, B.dout (ix2 a k) * B.wo (ix2 n k) = dmerged B a n := rfl
theorem ga_at (B : MergeArgs) (a : Fin 4096) (n : Fin 2048) (p : 5120 + n.val < 9216) :
    B.proj (ix2 a ⟨5120 + n.val, p⟩) = gateA B a n := rfl
theorem gl_at (B : MergeArgs) (a : Fin 4096) (n : Fin 2048) (p : 7168 + n.val < 9216) :
    B.proj (ix2 a ⟨7168 + n.val, p⟩) = gateL B a n := rfl

/-- The reference's four results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v34) = (fun j => ((gradYa (A c) (j 1) (j 2) : ℝ) : EReal))
      ∧ r.2.mem ((c.tc : Thread nD τ).loc main_v36) = (fun j => ((gradYl (A c) (j 1) (j 2) : ℝ) : EReal))
      ∧ r.2.mem ((c.tc : Thread nD τ).loc main_v38) = (fun j => ((gradGa (A c) (j 1) (j 2) : ℝ) : EReal))
      ∧ r.2.mem ((c.tc : Thread nD τ).loc main_v40) = (fun j => ((gradGl (A c) (j 1) (j 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ?_) (run m ρ)
  obtain ⟨h0, h1, h2, h3, h4⟩ := hr c
  refine ⟨h0.trans (funext fun j => ?_), h1.trans (funext fun j => ?_), h2.trans (funext fun j => ?_),
    h3.trans (funext fun j => ?_), h4⟩
  all_goals
    simp only [h.ya, h.yl, h.wa, h.wl, h.proj, h.wo, h.dout]
    idx_vars j
    pointwise []
    simp only [← EReal.coe_neg, Ideal.exp_coe, ← EReal.coe_mul, coe_sum, branch_at, dm_at, ga_at, gl_at, logistic_at]
    try simp only [← EReal.coe_one, ← EReal.coe_mul, ← EReal.coe_sub]
    refine congrArg _ ?_
    simp only [gradYa, gradYl, gradGa, gradGl]
    ring

end Cert.MergeRefIdeal.Eqn

end
-- ==== Proof.MergeKernel.lean ====
/- What the kernel of the merge's gradient computes on finite arguments: the product with the output weight, then the gates'
   derivatives, one tile at a time. -/
module

public import proofs.«01_k».proof.Proof.GateMath
public import proofs.«01_k».proof.Proof.Gen.MergeIdeal.Value

@[expose] public section

set_option maxRecDepth 16384

noncomputable section

namespace Cert.MergeIdeal.Eqn

open Cert.MergeIdeal Cert.MergeIdeal.Gen
open Idealize.ShloMosaic Idealize.ShloMosaic.TcCoe Idealize.SL.Sem
open Cert.GateMath Cert.RealLift

variable (m : (ℓ : Loc nD τ sig) → Buf (Elt Ideal) ℓ) (A : Dev nD → MergeArgs)

/-- The arguments hold the named real arrays. -/
structure Holds : Prop where
  ya : ∀ c : Dev nD, m ((c.tc : Thread nD τ).loc main_arg0) = fun i => (((A c).ya i : ℝ) : EReal)
  yl : ∀ c : Dev nD, m ((c.tc : Thread nD τ).loc main_arg1) = fun i => (((A c).yl i : ℝ) : EReal)
  wa : ∀ c : Dev nD, m ((c.tc : Thread nD τ).loc main_arg2) = fun i => (((A c).wa i : ℝ) : EReal)
  wl : ∀ c : Dev nD, m ((c.tc : Thread nD τ).loc main_arg3) = fun i => (((A c).wl i : ℝ) : EReal)
  proj : ∀ c : Dev nD, m ((c.tc : Thread nD τ).loc main_arg4) = fun i => (((A c).proj i : ℝ) : EReal)
  wo : ∀ c : Dev nD, m ((c.tc : Thread nD τ).loc main_arg5) = fun i => (((A c).wo i : ℝ) : EReal)
  dout : ∀ c : Dev nD, m ((c.tc : Thread nD τ).loc main_arg6) = fun i => (((A c).dout i : ℝ) : EReal)

/-- The two branches, the projection, the cotangent and the weight the kernel is handed. -/
theorem entry_ya (c : Dev nD) : (V m c main_v2 : S1x4096x2048.Idx → EReal) =
    broadcastInDim S1x4096x2048 ![1, 2] bcast_S4096x2048_S1x4096x2048_1_2 (truncf (F := Ideal) .bf16 (Host.dotGeneral (F := Ideal) (φ₁ := .f32) (φ₂ := .f32) dot_S4096x1024_S1024x2048_S4096x2048_1_0_0_1_n_n none (m ((c.tc : Thread nD τ).loc main_arg0)) (m ((c.tc : Thread nD τ).loc main_arg2))) bitsLt_bf16_f32) := by
  unfold_abbrev_sides
  try simp only [List.flatten_cons, List.flatten_nil, List.append_nil, List.cons_append, List.nil_append]
  after_results_simp
  try rfl

/-- The second branch. -/
theorem entry_yl (c : Dev nD) : (V m c main_v5 : S1x4096x2048.Idx → EReal) =
    broadcastInDim S1x4096x2048 ![1, 2] bcast_S4096x2048_S1x4096x2048_1_2 (truncf (F := Ideal) .bf16 (Host.dotGeneral (F := Ideal) (φ₁ := .f32) (φ₂ := .f32) dot_S4096x1024_S1024x2048_S4096x2048_1_0_0_1_n_n none (m ((c.tc : Thread nD τ).loc main_arg1)) (m ((c.tc : Thread nD τ).loc main_arg3))) bitsLt_bf16_f32) := by
  unfold_abbrev_sides
  try simp only [List.flatten_cons, List.flatten_nil, List.append_nil, List.cons_append, List.nil_append]
  after_results_simp
  try rfl

/-- The projection. -/
theorem entry_proj (c : Dev nD) : (V m c main_v6 : S1x4096x9216.Idx → EReal) =
    broadcastInDim S1x4096x9216 ![1, 2] bcast_S4096x9216_S1x4096x9216_1_2 (m ((c.tc : Thread nD τ).loc main_arg4)) := by
  unfold_abbrev_sides
  try simp only [List.flatten_cons, List.flatten_nil, List.append_nil, List.cons_append, List.nil_append]
  after_results_simp
  try rfl

/-- The cotangent. -/
theorem entry_do (c : Dev nD) : (V m c main_v8 : S1x4096x2048.Idx → EReal) =
    broadcastInDim S1x4096x2048 ![1, 2] bcast_S4096x2048_S1x4096x2048_1_2 (truncf (F := Ideal) .bf16 (m ((c.tc : Thread nD τ).loc main_arg6)) bitsLt_bf16_f32) := by
  unfold_abbrev_sides
  try simp only [List.flatten_cons, List.flatten_nil, List.append_nil, List.cons_append, List.nil_append]
  after_results_simp
  try rfl

/-- The weight. -/
theorem entry_wo (c : Dev nD) : (V m c main_v10 : S1x2048x2048.Idx → EReal) =
    shapeCast S1x2048x2048 (truncf (F := Ideal) .bf16 (m ((c.tc : Thread nD τ).loc main_arg5)) bitsLt_bf16_f32) shapeCasts_S2048x2048_S1x2048x2048 := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, t.val % 8, 0]
    ∧ win0_1.index t = ![0, t.val / 8, 0]
    ∧ win0_2.index t = ![0, t.val % 8, t.val / 8]
    ∧ win0_3.index t = ![0, t.val % 8, t.val / 8]
    ∧ win0_4.index t = ![0, t.val % 8, t.val / 8 + 5]
    ∧ win0_5.index t = ![0, t.val % 8, t.val / 8 + 7]
    ∧ win0_6.index t = ![0, t.val % 8, t.val / 8]
    ∧ win0_7.index t = ![0, t.val % 8, t.val / 8]
    ∧ win0_8.index t = ![0, t.val % 8, t.val / 8]
    ∧ win0_9.index t = ![0, t.val % 8, t.val / 8] :=
  (by decide +kernel : ∀ t : Fin grid0.N, _)

variable {m A}

/-- The array's row and column that are row `a` and column `n` of tile `t`. -/
def rowOf (t : Fin cfg0.N) (a : Fin 512) : Fin 4096 := ⟨t.val % 8 * 512 + a.val, by omega⟩
def colOf (t : Fin cfg0.N) (n : Fin 1024) : Fin 2048 :=
  ⟨t.val / 8 * 1024 + n.val, by
    have : t.val < 16 := lt_of_lt_of_eq t.isLt N_0
    omega⟩

/-- The blocks at coordinates. -/
theorem blk_do (h : Holds m A) (c : Dev nD) (t : Fin cfg0.N) (a : Fin 512) (k : Fin 2048) :
    iblk m c 0 t (ix3 0 a k) = (((A c).dout (ix2 (rowOf t a) k) : ℝ) : EReal) := by
  have e : (V m c main_v8 : S1x4096x2048.Idx → EReal) (ix3 0 (rowOf t a) k) = (((A c).dout (ix2 (rowOf t a) k) : ℝ) : EReal) := by
    rw [entry_do, h.dout]
    pointwise []
  refine Eq.trans ?_ e
  blk_point [iblk, idx_val t]
  all_goals first | rfl | (simp only [rowOf, colOf]; omega)

/-- The weight's block. -/
theorem blk_wo (h : Holds m A) (c : Dev nD) (t : Fin cfg0.N) (n : Fin 1024) (k : Fin 2048) :
    iblk m c 1 t (ix3 0 n k) = (((A c).wo (ix2 (colOf t n) k) : ℝ) : EReal) := by
  have e : (V m c main_v10 : S1x2048x2048.Idx → EReal) (ix3 0 (colOf t n) k) = (((A c).wo (ix2 (colOf t n) k) : ℝ) : EReal) := by
    rw [entry_wo, h.wo, shapeCast_addUnit_apply]
    exact congrArg (fun i => (((A c).wo i : ℝ) : EReal)) (funext fun q => by fin_cases q <;> rfl)
  refine Eq.trans ?_ e
  blk_point [iblk, idx_val t]
  all_goals first | rfl | (simp only [rowOf, colOf]; omega)

/-- A branch's block. -/
theorem blk_ya (h : Holds m A) (c : Dev nD) (t : Fin cfg0.N) (a : Fin 512) (n : Fin 1024) :
    iblk m c 2 t (ix3 0 a n) = ((branch (A c).ya (A c).wa (rowOf t a) (colOf t n) : ℝ) : EReal) := by
  have e : (V m c main_v2 : S1x4096x2048.Idx → EReal) (ix3 0 (rowOf t a) (colOf t n)) = ((branch (A c).ya (A c).wa (rowOf t a) (colOf t n) : ℝ) : EReal) := by
    rw [entry_ya, h.ya, h.wa]
    pointwise []
    simp only [← EReal.coe_mul, coe_sum]
    rfl
  refine Eq.trans ?_ e
  blk_point [iblk, idx_val t]
  all_goals first | rfl | (simp only [rowOf, colOf]; omega)

/-- A branch's block. -/
theorem blk_yl (h : Holds m A) (c : Dev nD) (t : Fin cfg0.N) (a : Fin 512) (n : Fin 1024) :
    iblk m c 3 t (ix3 0 a n) = ((branch (A c).yl (A c).wl (rowOf t a) (colOf t n) : ℝ) : EReal) := by
  have e : (V m c main_v5 : S1x4096x2048.Idx → EReal) (ix3 0 (rowOf t a) (colOf t n)) = ((branch (A c).yl (A c).wl (rowOf t a) (colOf t n) : ℝ) : EReal) := by
    rw [entry_yl, h.yl, h.wl]
    pointwise []
    simp only [← EReal.coe_mul, coe_sum]
    rfl
  refine Eq.trans ?_ e
  blk_point [iblk, idx_val t]
  all_goals first | rfl | (simp only [rowOf, colOf]; omega)

/-- A gate's block. -/
theorem blk_ga (h : Holds m A) (c : Dev nD) (t : Fin cfg0.N) (a : Fin 512) (n : Fin 1024) :
    iblk m c 4 t (ix3 0 a n) = ((gateA (A c) (rowOf t a) (colOf t n) : ℝ) : EReal) := by
  have e : (V m c main_v6 : S1x4096x9216.Idx → EReal) (ix3 0 (rowOf t a) ⟨5120 + (colOf t n).val, by omega⟩) = ((gateA (A c) (rowOf t a) (colOf t n) : ℝ) : EReal) := by
    rw [entry_proj, h.proj]
    pointwise []
    rfl
  refine Eq.trans ?_ e
  blk_point [iblk, idx_val t]
  all_goals first | rfl | (simp only [rowOf, colOf]; omega)

/-- A gate's block. -/
theorem blk_gl (h : Holds m A) (c : Dev nD) (t : Fin cfg0.N) (a : Fin 512) (n : Fin 1024) :
    iblk m c 5 t (ix3 0 a n) = ((gateL (A c) (rowOf t a) (colOf t n) : ℝ) : EReal) := by
  have e : (V m c main_v6 : S1x4096x9216.Idx → EReal) (ix3 0 (rowOf t a) ⟨7168 + (colOf t n).val, by omega⟩) = ((gateL (A c) (rowOf t a) (colOf t n) : ℝ) : EReal) := by
    rw [entry_proj, h.proj]
    pointwise []
    rfl
  refine Eq.trans ?_ e
  blk_point [iblk, idx_val t]
  all_goals first | rfl | (simp only [rowOf, colOf]; omega)

/-- The product a tile starts from. -/
theorem dm_at (h : Holds m A) (c : Dev nD) (t : Fin cfg0.N) (a : Fin 512) (n : Fin 1024) :
    k0_pay5 (F := Ideal) (iblk m c 0 t) (iblk m c 1 t) (ix2 a n) = ((dmerged (A c) (rowOf t a) (colOf t n) : ℝ) : EReal) := by
  pointwise [k0_pay5]
  simp only [blk_do h, blk_wo h, ← EReal.coe_mul, coe_sum]
  rfl

/-- The same product and the second gate's logistic, as the later stores name them. -/
theorem dm_at' (h : Holds m A) (c : Dev nD) (t : Fin cfg0.N) (a : Fin 512) (n : Fin 1024) :
    k0_pay11 (F := Ideal) (iblk m c 0 t) (iblk m c 1 t) (iblk m c 2 t) (iblk m c 3 t) (iblk m c 4 t) (iblk m c 5 t) (ix2 a n) =
      ((dmerged (A c) (rowOf t a) (colOf t n) : ℝ) : EReal) := by
  unfold k0_pay11
  rw [View.ld_unit_lit _ _ (by decide), View.ld_unit_lit _ _ (by decide), dm_at h]

/-- The two gates' logistics. -/
theorem sa_at (h : Holds m A) (c : Dev nD) (t : Fin cfg0.N) (a : Fin 512) (n : Fin 1024) :
    k0_pay8 (F := Ideal) (iblk m c 4 t) (ix2 a n) = ((sg (gateA (A c) (rowOf t a) (colOf t n)) : ℝ) : EReal) := by
  pointwise [k0_pay8]
  rw [blk_ga h, zero_sub, ← EReal.coe_neg, Ideal.exp_coe, logistic_at]

theorem sl_at (h : Holds m A) (c : Dev nD) (t : Fin cfg0.N) (a : Fin 512) (n : Fin 1024) :
    k0_pay9 (F := Ideal) (iblk m c 5 t) (ix2 a n) = ((sg (gateL (A c) (rowOf t a) (colOf t n)) : ℝ) : EReal) := by
  pointwise [k0_pay9]
  rw [blk_gl h, zero_sub, ← EReal.coe_neg, Ideal.exp_coe, logistic_at]

theorem sl_at' (h : Holds m A) (c : Dev nD) (t : Fin cfg0.N) (a : Fin 512) (n : Fin 1024) :
    k0_pay12 (F := Ideal) (iblk m c 0 t) (iblk m c 1 t) (iblk m c 2 t) (iblk m c 3 t) (iblk m c 4 t) (iblk m c 5 t) (ix2 a n) =
      ((sg (gateL (A c) (rowOf t a) (colOf t n)) : ℝ) : EReal) := by
  unfold k0_pay12
  rw [View.ld_unit_lit _ _ (by decide), sl_at h]

/-- The result of window 6 after the last tile. -/
theorem final_6 (h : Holds m A) (c : Dev nD) : (dats m 0 c).arrAt 6 (cfgs 0).N =
    fun j => ((gradYa (A c) (j 1) (j 2) : ℝ) : EReal) := by
  refine (dats m 0 c).arrAt_eq_of_covers 6 _ (by decide +kernel) fun t hf y => ?_
  blk_simp; rw [after0_6]; frame_out
  have e : ((View.whole main_v11_0).slice (win0_6.rect t)).emb y = ix3 0 (rowOf t (y 1)) (colOf t (y 2)) := by
    blk_ext! [idx_val t]
    all_goals rfl
  rw [e]
  idx_vars y
  pointwise [k0_pay1, k0_pay10]
  simp only [dm_at h, dm_at' h, sa_at h, sl_at' h, blk_ya h, blk_yl h, ← EReal.coe_one, ← EReal.coe_mul, ← EReal.coe_sub]
  rfl

/-- The result of window 7 after the last tile. -/
theorem final_7 (h : Holds m A) (c : Dev nD) : (dats m 0 c).arrAt 7 (cfgs 0).N =
    fun j => ((gradYl (A c) (j 1) (j 2) : ℝ) : EReal) := by
  refine (dats m 0 c).arrAt_eq_of_covers 7 _ (by decide +kernel) fun t hf y => ?_
  blk_simp; rw [after0_7]; frame_out
  have e : ((View.whole main_v11_1).slice (win0_7.rect t)).emb y = ix3 0 (rowOf t (y 1)) (colOf t (y 2)) := by
    blk_ext! [idx_val t]
    all_goals rfl
  rw [e]
  idx_vars y
  pointwise [k0_pay2]
  simp only [dm_at h, dm_at' h, sa_at h, sl_at' h, blk_ya h, blk_yl h, ← EReal.coe_one, ← EReal.coe_mul, ← EReal.coe_sub]
  rfl

/-- The result of window 8 after the last tile. -/
theorem final_8 (h : Holds m A) (c : Dev nD) : (dats m 0 c).arrAt 8 (cfgs 0).N =
    fun j => ((gradGa (A c) (j 1) (j 2) : ℝ) : EReal) := by
  refine (dats m 0 c).arrAt_eq_of_covers 8 _ (by decide +kernel) fun t hf y => ?_
  blk_simp; rw [after0_8]; frame_out
  have e : ((View.whole main_v11_2).slice (win0_8.rect t)).emb y = ix3 0 (rowOf t (y 1)) (colOf t (y 2)) := by
    blk_ext! [idx_val t]
    all_goals rfl
  rw [e]
  idx_vars y
  pointwise [k0_pay3, k0_pay6]
  simp only [dm_at h, dm_at' h, sa_at h, sl_at' h, blk_ya h, blk_yl h, ← EReal.coe_one, ← EReal.coe_mul, ← EReal.coe_sub]
  rfl

/-- The result of window 9 after the last tile. -/
theorem final_9 (h : Holds m A) (c : Dev nD) : (dats m 0 c).arrAt 9 (cfgs 0).N =
    fun j => ((gradGl (A c) (j 1) (j 2) : ℝ) : EReal) := by
  refine (dats m 0 c).arrAt_eq_of_covers 9 _ (by decide +kernel) fun t hf y => ?_
  blk_simp; rw [after0_9]; frame_out
  have e : ((View.whole main_v11_3).slice (win0_9.rect t)).emb y = ix3 0 (rowOf t (y 1)) (colOf t (y 2)) := by
    blk_ext! [idx_val t]
    all_goals rfl
  rw [e]
  idx_vars y
  pointwise [k0_pay4, k0_pay7]
  simp only [dm_at h, dm_at' h, sa_at h, sl_at' h, blk_ya h, blk_yl h, ← EReal.coe_one, ← EReal.coe_mul, ← EReal.coe_sub]
  rfl

/-- The kernel's four results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v11_0) = (fun j => ((gradYa (A c) (j 1) (j 2) : ℝ) : EReal))
      ∧ r.2.mem ((c.tc : Thread nD τ).loc main_v11_1) = (fun j => ((gradYl (A c) (j 1) (j 2) : ℝ) : EReal))
      ∧ r.2.mem ((c.tc : Thread nD τ).loc main_v11_2) = (fun j => ((gradGa (A c) (j 1) (j 2) : ℝ) : EReal))
      ∧ r.2.mem ((c.tc : Thread nD τ).loc main_v11_3) = (fun j => ((gradGl (A c) (j 1) (j 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r hr c => ?_) (Cert.MergeIdeal.Value.run_blocks m ρ)
  have := hr c
  rw [final_6 h, final_7 h, final_8 h, final_9 h] at this
  exact this

end Cert.MergeIdeal.Eqn

end
-- ==== Proof.MergeClaim.lean ====
/- The gradient of the gated merge: the kernel and the reference compute one function of finite arguments. -/
module

public import proofs.«01_k».proof.Defs
public import proofs.«01_k».proof.Proof.MergeRef
public import proofs.«01_k».proof.Proof.MergeKernel
public import proofs.«01_k».proof.Proof.Gen.Pre_merge_finite
public import Idealize.ShloMosaic.Adequacy

@[expose] public section

noncomputable section

namespace Cert.MergeClaim

open Idealize.ShloMosaic Idealize.ShloMosaic.TcCoe Idealize.SL.Sem
open Cert.MergeIdeal Cert.RealLift Cert.GateMath

/-- The reference runs, faults nowhere and leaves its arguments alone. -/
theorem frame_ref : Cert.quiescent_MergeRefIdeal := by
  intro m ρ _
  exact (θ_run _ _ _).mono (fun r h => ⟨fun c => (h c).2.2.2.2, sem_eq_zero_of_no_sems (by decide) r.2⟩)
    (Cert.MergeRefIdeal.Value.run (F := Ideal) m ρ)

/-- Finite arguments are real arrays. -/
theorem holds_of_finite (m : (ℓ : Loc nD τ sig) → Buf (Elt Ideal) ℓ) (h : Cert.Pre_MergeIdeal_merge_finite m) :
    ∃ A, Cert.MergeIdeal.Eqn.Holds m A := by
  choose X0 h0 using fun c : Dev nD => exists_real (m ((c.tc : Thread nD τ).loc main_arg0)) _ ofBits_inf fun i => congrFun (h c).1 i
  choose X1 h1 using fun c : Dev nD => exists_real (m ((c.tc : Thread nD τ).loc main_arg1)) _ ofBits_inf fun i => congrFun (h c).2.1 i
  choose X2 h2 using fun c : Dev nD => exists_real (m ((c.tc : Thread nD τ).loc main_arg2)) _ ofBits_inf fun i => congrFun (h c).2.2.1 i
  choose X3 h3 using fun c : Dev nD => exists_real (m ((c.tc : Thread nD τ).loc main_arg3)) _ ofBits_inf fun i => congrFun (h c).2.2.2.1 i
  choose X4 h4 using fun c : Dev nD => exists_real (m ((c.tc : Thread nD τ).loc main_arg4)) _ ofBits_inf fun i => congrFun (h c).2.2.2.2.1 i
  choose X5 h5 using fun c : Dev nD => exists_real (m ((c.tc : Thread nD τ).loc main_arg5)) _ ofBits_inf fun i => congrFun (h c).2.2.2.2.2.1 i
  choose X6 h6 using fun c : Dev nD => exists_real (m ((c.tc : Thread nD τ).loc main_arg6)) _ ofBits_inf fun i => congrFun (h c).2.2.2.2.2.2 i
  exact ⟨fun c => ⟨X0 c, X1 c, X2 c, X3 c, X4 c, X5 c, X6 c⟩, h0, h1, h2, h3, h4, h5, h6⟩

/-- The value claim. -/
theorem algebraic : Cert.algebraic_MergeIdeal_MergeRefIdeal_pre_merge_finite := by
  intro m g m' g' hpre heq
  obtain ⟨A, h⟩ := holds_of_finite m hpre
  exact ⟨_, _, _, _, Eqn.run_real g h, Cert.MergeRefIdeal.Eqn.run_real (A := A) g'
    { ya := fun c => (heq c).1.trans (h.ya c), yl := fun c => (heq c).2.1.trans (h.yl c), wa := fun c => (heq c).2.2.1.trans (h.wa c), wl := fun c => (heq c).2.2.2.1.trans (h.wl c), proj := fun c => (heq c).2.2.2.2.1.trans (h.proj c), wo := fun c => (heq c).2.2.2.2.2.1.trans (h.wo c), dout := fun c => (heq c).2.2.2.2.2.2.trans (h.dout c) }⟩

end Cert.MergeClaim

end
-- ==== Proof.MixoutRef.lean ====
/- What the reference of the full-step residual sum computes. -/
module

public import proofs.«01_k».proof.Proof.FwdMath
public import proofs.«01_k».proof.Proof.Gen.MixoutRefIdeal.Run

@[expose] public section

set_option maxRecDepth 16384

noncomputable section

namespace Cert.MixoutRefIdeal.Eqn

open Cert.MixoutRefIdeal Cert.MixoutRefIdeal.Gen Cert.MixoutRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v2) = (fun j => prod (m ((c.tc : Thread nD τ).loc main_arg0)) (m ((c.tc : Thread nD τ).loc main_arg1)) (j 1) (j 2))
      ∧ r.2.mem ((c.tc : Thread nD τ).loc main_v6) = (fun j => added (m ((c.tc : Thread nD τ).loc main_arg0)) (m ((c.tc : Thread nD τ).loc main_arg1)) (m ((c.tc : Thread nD τ).loc main_arg2)) (m ((c.tc : Thread nD τ).loc main_arg3)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run m ρ)
  obtain ⟨h0, h1, hk⟩ := hr c
  refine ⟨h0.trans (funext fun j => ?_), h1.trans (funext fun j => ?_), hk⟩
  all_goals
    idx_vars j
    pointwise []
    rfl

end Cert.MixoutRefIdeal.Eqn

end
-- ==== Proof.MixoutKernel.lean ====
/- What the kernel of the full-step residual sum computes: the product with the output weight, then the sum, one tile at a time. -/
module

public import proofs.«01_k».proof.Proof.FwdMath
public import proofs.«01_k».proof.Proof.Gen.MixoutIdeal.Value

@[expose] public section

set_option maxRecDepth 16384

noncomputable section

namespace Cert.MixoutIdeal.Eqn

open Cert.MixoutIdeal Cert.MixoutIdeal.Gen
open Idealize.ShloMosaic Idealize.ShloMosaic.TcCoe Idealize.SL.Sem
open Cert.FwdMath

variable (m : (ℓ : Loc nD τ sig) → Buf (Elt Ideal) ℓ)

/-- The rows, the weight and the residual the kernel is handed. -/
theorem entry_act (c : Dev nD) : (V m c main_v3 : S1x4096x2048.Idx → EReal) =
    broadcastInDim S1x4096x2048 ![1, 2] bcast_S4096x2048_S1x4096x2048_1_2 (truncf (F := Ideal) .bf16 (m ((c.tc : Thread nD τ).loc main_arg0)) bitsLt_bf16_f32) := by
  unfold_abbrev_sides
  try simp only [List.flatten_cons, List.flatten_nil, List.append_nil, List.cons_append, List.nil_append]
  after_results_simp
  try rfl

theorem entry_w (c : Dev nD) : (V m c main_v4 : S1x2048x2048.Idx → EReal) =
    shapeCast S1x2048x2048 (shapeCast S8x256x2048 (truncf (F := Ideal) .bf16 (m ((c.tc : Thread nD τ).loc main_arg1)) bitsLt_bf16_f32) shapeCasts_S2048x2048_S8x256x2048)
      shapeCasts_S8x256x2048_S1x2048x2048 := by
  unfold_abbrev_sides
  try simp only [List.flatten_cons, List.flatten_nil, List.append_nil, List.cons_append, List.nil_append]
  after_results_simp
  try rfl

theorem entry_res (c : Dev nD) : (V m c main_v5 : S1x4096x2048.Idx → EReal) =
    broadcastInDim S1x4096x2048 ![1, 2] bcast_S4096x2048_S1x4096x2048_1_2 (m ((c.tc : Thread nD τ).loc main_arg2)) := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, t.val % 8, 0]
    ∧ win0_1.index t = ![0, 0, t.val / 8]
    ∧ win0_2.index t = ![0, t.val % 8, t.val / 8]
    ∧ win0_3.index t = ![0, t.val / 8]
    ∧ win0_4.index t = ![0, t.val % 8, t.val / 8]
    ∧ win0_5.index t = ![0, t.val % 8, t.val / 8] :=
  (by decide +kernel : ∀ t : Fin grid0.N, _)

/-- The array's row and column that are row `a` and column `n` of tile `t`. -/
def rowOf (t : Fin cfg0.N) (a : Fin 512) : Fin 4096 := ⟨t.val % 8 * 512 + a.val, by omega⟩
def colOf (t : Fin cfg0.N) (n : Fin 1024) : Fin 2048 :=
  ⟨t.val / 8 * 1024 + n.val, by
    have : t.val < 16 := lt_of_lt_of_eq t.isLt N_0
    omega⟩

/-- The weight at coordinates. -/
theorem w_at (c : Dev nD) (k : Fin 2048) (n : Fin 2048) :
    (V m c main_v4 : S1x2048x2048.Idx → EReal) (ix3 0 k n) = m ((c.tc : Thread nD τ).loc main_arg1) (ix2 k n) := by
  rw [entry_w, shapeCast_comp, shapeCast_addUnit_apply]
  refine congrArg (m ((c.tc : Thread nD τ).loc main_arg1)) (funext fun q => ?_)
  fin_cases q <;> rfl

/-- The blocks at coordinates: a tile of rows. -/
theorem blk_act (c : Dev nD) (t : Fin cfg0.N) (a : Fin 512) (k : Fin 2048) :
    iblk m c 0 t (ix3 0 a k) = m ((c.tc : Thread nD τ).loc main_arg0) (ix2 (rowOf t a) k) := by
  have e : (V m c main_v3 : S1x4096x2048.Idx → EReal) (ix3 0 (rowOf t a) k) = m ((c.tc : Thread nD τ).loc main_arg0) (ix2 (rowOf t a) k) := by
    rw [entry_act]
    pointwise []
  refine Eq.trans ?_ e
  blk_point [iblk, idx_val t]
  all_goals first | rfl | (simp only [rowOf, colOf]; omega)

/-- Any weight's block at coordinates. -/
theorem read_w (f : S1x2048x2048.Idx → EReal) (t : Fin cfg0.N) (k : Fin 2048) (n : Fin 1024) :
    ((cfg0.win 1).blk t).view.read (Elt Ideal) f (ix3 0 k n) = f (ix3 0 k (colOf t n)) := by
  refine congrArg f ?_
  blk_ext! [idx_val t]
  all_goals rfl

/-- The weight's. -/
theorem blk_w (c : Dev nD) (t : Fin cfg0.N) (k : Fin 2048) (n : Fin 1024) :
    iblk m c 1 t (ix3 0 k n) = m ((c.tc : Thread nD τ).loc main_arg1) (ix2 k (colOf t n)) := by
  refine Eq.trans ?_ (w_at m c k (colOf t n))
  unfold iblk
  exact read_w (V m c main_v4) t k n

/-- The residual's. -/
theorem blk_res (c : Dev nD) (t : Fin cfg0.N) (a : Fin 512) (n : Fin 1024) :
    iblk m c 2 t (ix3 0 a n) = m ((c.tc : Thread nD τ).loc main_arg2) (ix2 (rowOf t a) (colOf t n)) := by
  have e : (V m c main_v5 : S1x4096x2048.Idx → EReal) (ix3 0 (rowOf t a) (colOf t n)) = m ((c.tc : Thread nD τ).loc main_arg2) (ix2 (rowOf t a) (colOf t n)) := by
    rw [entry_res]
    pointwise []
  refine Eq.trans ?_ e
  blk_point [iblk, idx_val t]
  all_goals first | rfl | (simp only [rowOf, colOf]; omega)

/-- The gate's. -/
theorem blk_g (c : Dev nD) (t : Fin cfg0.N) (n : Fin 1024) :
    iblk m c 3 t (ix2 0 n) = m ((c.tc : Thread nD τ).loc main_arg3) (ix2 0 (colOf t n)) := by
  blk_point [iblk, V, idx_val t]
  all_goals first | rfl | (simp only [rowOf, colOf]; omega)

/-- The product after the last tile. -/
theorem final_4 (c : Dev nD) : (dats m 0 c).arrAt 4 (cfgs 0).N =
    (fun j => prod (m ((c.tc : Thread nD τ).loc main_arg0)) (m ((c.tc : Thread nD τ).loc main_arg1)) (j 1) (j 2)) := by
  refine (dats m 0 c).arrAt_eq_of_covers 4 _ (by decide +kernel) fun t hf y => ?_
  blk_simp; rw [after0_4]; frame_out
  have e : ((View.whole main_v6_0).slice (win0_4.rect t)).emb y = ix3 0 (rowOf t (y 1)) (colOf t (y 2)) := by
    blk_ext! [idx_val t]
    all_goals rfl
  rw [e]
  idx_vars y
  pointwise [k0_pay2, k0_pay1]
  simp only [blk_act, blk_w, blk_res, blk_g]
  rfl

/-- The sum after the last tile. -/
theorem final_5 (c : Dev nD) : (dats m 0 c).arrAt 5 (cfgs 0).N =
    (fun j => added (m ((c.tc : Thread nD τ).loc main_arg0)) (m ((c.tc : Thread nD τ).loc main_arg1)) (m ((c.tc : Thread nD τ).loc main_arg2)) (m ((c.tc : Thread nD τ).loc main_arg3)) (j 1) (j 2)) := by
  refine (dats m 0 c).arrAt_eq_of_covers 5 _ (by decide +kernel) fun t hf y => ?_
  blk_simp; rw [after0_5]; frame_out
  have e : ((View.whole main_v6_1).slice (win0_5.rect t)).emb y = ix3 0 (rowOf t (y 1)) (colOf t (y 2)) := by
    blk_ext! [idx_val t]
    all_goals rfl
  rw [e]
  idx_vars y
  pointwise [k0_pay3, k0_pay1]
  simp only [blk_act, blk_w, blk_res, blk_g]
  rfl

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v6_0) = (fun j => prod (m ((c.tc : Thread nD τ).loc main_arg0)) (m ((c.tc : Thread nD τ).loc main_arg1)) (j 1) (j 2))
      ∧ r.2.mem ((c.tc : Thread nD τ).loc main_v6_1) = (fun j => added (m ((c.tc : Thread nD τ).loc main_arg0)) (m ((c.tc : Thread nD τ).loc main_arg1)) (m ((c.tc : Thread nD τ).loc main_arg2)) (m ((c.tc : Thread nD τ).loc main_arg3)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.MixoutIdeal.Value.run_blocks m ρ)
  have := hr c
  rw [final_4, final_5] at this
  exact this

end Cert.MixoutIdeal.Eqn

end
-- ==== Proof.MixoutClaim.lean ====
/- The residual sum around the mixer: the kernel and the reference compute one function of any arguments. -/
module

public import proofs.«01_k».proof.Defs
public import proofs.«01_k».proof.Proof.MixoutRef
public import proofs.«01_k».proof.Proof.MixoutKernel
public import Idealize.ShloMosaic.Adequacy

@[expose] public section

noncomputable section

namespace Cert.MixoutClaim

open Idealize.ShloMosaic Idealize.ShloMosaic.TcCoe Idealize.SL.Sem
open Cert.MixoutIdeal

/-- The reference runs, faults nowhere and leaves its arguments alone. -/
theorem frame_ref : Cert.quiescent_MixoutRefIdeal := by
  intro m ρ _
  exact (θ_run _ _ _).mono (fun r h => ⟨fun c => (h c).2.2, sem_eq_zero_of_no_sems (by decide) r.2⟩)
    (Cert.MixoutRefIdeal.Value.run (F := Ideal) m ρ)

/-- The value claim. -/
theorem algebraic : Cert.algebraic_MixoutIdeal_MixoutRefIdeal := by
  intro m g m' g' hpre heq
  refine ⟨_, _, Eqn.run_value m g, (θ_run _ _ _).mono (fun r hr c => ?_) (Cert.MixoutRefIdeal.Eqn.run_value m' g')⟩
  obtain ⟨h0, h1, hk⟩ := hr c
  refine ⟨h0.trans ?_, h1.trans ?_, hk⟩
  · rw [(heq c).1, (heq c).2.1]
    rfl
  · rw [(heq c).1, (heq c).2.1, (heq c).2.2.1, (heq c).2.2.2]
    rfl

end Cert.MixoutClaim

end
-- ==== Proof.Norm1Ref.lean ====
/- What the reference of the first norm's gradient computes on finite arguments. -/
module

public import proofs.«01_k».proof.Proof.NormMath
public import proofs.«01_k».proof.Proof.Gen.Norm1RefIdeal.Run

@[expose] public section

set_option maxRecDepth 16384

noncomputable section

namespace Cert.Norm1RefIdeal.Eqn

open Cert.Norm1RefIdeal Cert.Norm1RefIdeal.Gen Cert.Norm1RefIdeal.Value
open Idealize.ShloMosaic Idealize.ShloMosaic.TcCoe Idealize.SL.Sem
open Cert.NormMath Cert.RealLift

variable (m : (ℓ : Loc nD τ sig) → Buf (Elt Ideal) ℓ) (ρ : Dev nD → PrngReg)

/-- The reference's four results, in reals: the input gradient with the gradient of the path around the norm in
    front, then the shift's, the scale's and the weight's. -/
theorem run_real (X DY : Dev nD → S4096x2048.Idx → ℝ) (DH : Dev nD → S4096x2048.Idx → EReal)
    (NW SC : Dev nD → S1x2048.Idx → ℝ)
    (hX : ∀ c : Dev nD, m ((c.tc : Thread nD τ).loc main_arg0) = fun i => ((X c i : ℝ) : EReal))
    (hNW : ∀ c : Dev nD, m ((c.tc : Thread nD τ).loc main_arg1) = fun i => ((NW c i : ℝ) : EReal))
    (hSC : ∀ c : Dev nD, m ((c.tc : Thread nD τ).loc main_arg2) = fun i => ((SC c i : ℝ) : EReal))
    (hDH : ∀ c : Dev nD, m ((c.tc : Thread nD τ).loc main_arg4) = DH c)
    (hDY : ∀ c : Dev nD, m ((c.tc : Thread nD τ).loc main_arg5) = fun i => ((DY c i : ℝ) : EReal)) :
    θ_run defs (onTc (τ := τ) (main (F := Ideal))) ⟨m, fun _ => 0, ρ⟩ fun r => ∀ c : Dev nD,
      r.2.mem ((c.tc : Thread nD τ).loc main_v48) =
          (fun j => DH c j + ((gradX (X c) (DY c) (NW c) (SC c) (j 0) (j 1) : ℝ) : EReal))
      ∧ r.2.mem ((c.tc : Thread nD τ).loc main_v23) = (fun j => ((gradShift (DY c) (j 1) : ℝ) : EReal))
      ∧ r.2.mem ((c.tc : Thread nD τ).loc main_v26) = (fun j => ((gradScale (X c) (DY c) (NW c) (j 1) : ℝ) : EReal))
      ∧ r.2.mem ((c.tc : Thread nD τ).loc main_v31) = (fun j => ((gradWeight (X c) (DY c) (SC c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, h3, h4⟩ := h c
  refine ⟨h0.trans (funext fun j => ?_), h1.trans (funext fun j => ?_), h2.trans (funext fun j => ?_),
    h3.trans (funext fun j => ?_), h4⟩
  · unfold res_main_v48
    rw [hX, hNW, hSC, hDH, hDY]
    idx_vars j
    pointwise []
    simp only [ofBits_width, ofBits_eps, ofBits_neg_half, ← EReal.coe_one, ← EReal.coe_mul, coe_sum, div_width,
      ← EReal.coe_add, rsqrt_row (fun k => X c (ix2 j0 k)), div_row (fun k => X c (ix2 j0 k)), Fin.sum_univ_one, add_assoc]
    clear h0 h1 h2 h3 h4 h
    simp only [gradX, add_assoc]
    rfl
  · rw [hDY]
    idx_vars j
    pointwise []
    simp only [coe_sum]
    rfl
  · rw [hX, hNW, hDY]
    idx_vars j
    pointwise []
    simp only [ofBits_width, ofBits_eps, ← EReal.coe_one, ← EReal.coe_mul, coe_sum, div_width,
      ← EReal.coe_add, rsqrt_row (fun k => X c (ix2 _ k))]
    rfl
  · rw [hX, hSC, hDY]
    idx_vars j
    pointwise []
    simp only [ofBits_width, ofBits_eps, ← EReal.coe_one, ← EReal.coe_mul, coe_sum, div_width,
      ← EReal.coe_add, rsqrt_row (fun k => X c (ix2 _ k))]
    rfl

end Cert.Norm1RefIdeal.Eqn

end
-- ==== Proof.Norm1Kernel.lean ====
/- What the kernel of the first norm's gradient computes on finite arguments: a tile of rows at a time, the three
   column sums carried from tile to tile. -/
module

public import proofs.«01_k».proof.Proof.NormMath
public import proofs.«01_k».proof.Proof.Gen.Norm1Ideal.Value

@[expose] public section

set_option maxRecDepth 16384

noncomputable section

namespace Cert.Norm1Ideal.Eqn

open Cert.Norm1Ideal Cert.Norm1Ideal.Gen
open Idealize.ShloMosaic Idealize.ShloMosaic.TcCoe Idealize.SL.Sem
open Cert.NormMath Cert.RealLift

variable (m : (ℓ : Loc nD τ sig) → Buf (Elt Ideal) ℓ)
  (X DY : Dev nD → S4096x2048.Idx → ℝ) (DH : Dev nD → S4096x2048.Idx → EReal) (NW SC : Dev nD → S1x2048.Idx → ℝ)

/-- The arguments hold the named arrays, all but the gradient around the norm real. -/
structure Holds : Prop where
  x : ∀ c : Dev nD, m ((c.tc : Thread nD τ).loc main_arg0) = fun i => ((X c i : ℝ) : EReal)
  nw : ∀ c : Dev nD, m ((c.tc : Thread nD τ).loc main_arg1) = fun i => ((NW c i : ℝ) : EReal)
  sc : ∀ c : Dev nD, m ((c.tc : Thread nD τ).loc main_arg2) = fun i => ((SC c i : ℝ) : EReal)
  dh : ∀ c : Dev nD, m ((c.tc : Thread nD τ).loc main_arg4) = DH c
  dy : ∀ c : Dev nD, m ((c.tc : Thread nD τ).loc main_arg5) = fun i => ((DY c i : ℝ) : EReal)

/-- Every window's block index at a point of the grid. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, _)

/-- One tile's rows of the input gradient. -/
theorem pay_dx (x dy dh : S256x2048.Idx → EReal) (nw sc : S1x2048.Idx → EReal) (j0 : Fin 256) (j1 : Fin 2048)
    (x' g : Fin 2048 → ℝ) (hx : ∀ k, x (ix2 j0 k) = ((x' k : ℝ) : EReal))
    (hg : ∀ k, dy (ix2 j0 k) * (nw (ix2 0 k) * (1 + sc (ix2 0 k))) = ((g k : ℝ) : EReal)) :
    k0_pay9 (F := Ideal) dy x dh nw sc (ix2 j0 j1) = dh (ix2 j0 j1) + ((dxKernel x' g j1 : ℝ) : EReal) := by
  pointwise [k0_pay9, k0_pay8, k0_pay7]
  simp only [hg, hx, ofBits_width, ofBits_eps, ← EReal.coe_mul, coe_sum, div_width, ← EReal.coe_add, rsqrt_row x',
    ← EReal.coe_sub]
  rfl

/-- A row of the normalised tile. -/
theorem pay_xhat (x : S256x2048.Idx → EReal) (j0 : Fin 256) (j1 : Fin 2048)
    (x' : Fin 2048 → ℝ) (hx : ∀ k, x (ix2 j0 k) = ((x' k : ℝ) : EReal)) :
    k0_pay8 (F := Ideal) x (ix2 j0 j1) = ((x' j1 * rinv x' : ℝ) : EReal) := by
  pointwise [k0_pay8, k0_pay7]
  simp only [hx, ofBits_width, ofBits_eps, ← EReal.coe_mul, coe_sum, div_width, ← EReal.coe_add, rsqrt_row x']

variable {m X DY DH NW SC}

/-- The array's row that is row `a` of tile `t`. -/
def rowOf (t : Fin cfg0.N) (a : Fin 256) : Fin 4096 :=
  ⟨t.val * 256 + a.val, by
    have : t.val < 16 := lt_of_lt_of_eq t.isLt N_0
    omega⟩

theorem blk_dy (h : Holds m X DY DH NW SC) (c : Dev nD) (t : Fin cfg0.N) (a : Fin 256) (k : Fin 2048) :
    iblk m c 0 t (ix2 a k) = ((DY c (ix2 (rowOf t a) k) : ℝ) : EReal) := by
  refine Eq.trans ?_ (congrFun (h.dy c) (ix2 (rowOf t a) k))
  blk_point [iblk, V, idx_val t]; rfl

theorem blk_x (h : Holds m X DY DH NW SC) (c : Dev nD) (t : Fin cfg0.N) (a : Fin 256) (k : Fin 2048) :
    iblk m c 1 t (ix2 a k) = ((row (X c) (rowOf t a) k : ℝ) : EReal) := by
  refine Eq.trans ?_ (congrFun (h.x c) (ix2 (rowOf t a) k))
  blk_point [iblk, V, idx_val t]; rfl

theorem blk_dh (h : Holds m X DY DH NW SC) (c : Dev nD) (t : Fin cfg0.N) (a : Fin 256) (k : Fin 2048) :
    iblk m c 2 t (ix2 a k) = DH c (ix2 (rowOf t a) k) := by
  refine Eq.trans ?_ (congrFun (h.dh c) (ix2 (rowOf t a) k))
  blk_point [iblk, V, idx_val t]; rfl

theorem blk_nw (h : Holds m X DY DH NW SC) (c : Dev nD) (t : Fin cfg0.N) (k : Fin 2048) :
    iblk m c 3 t (ix2 0 k) = ((NW c (ix2 0 k) : ℝ) : EReal) := by
  refine Eq.trans ?_ (congrFun (h.nw c) (ix2 0 k))
  blk_point [iblk, V, idx_val t]

theorem blk_sc (h : Holds m X DY DH NW SC) (c : Dev nD) (t : Fin cfg0.N) (k : Fin 2048) :
    iblk m c 4 t (ix2 0 k) = ((SC c (ix2 0 k) : ℝ) : EReal) := by
  refine Eq.trans ?_ (congrFun (h.sc c) (ix2 0 k))
  blk_point [iblk, V, idx_val t]

theorem emb_dx (t : Fin cfg0.N) (a : Fin 256) (k : Fin 2048) :
    ((View.whole main_v0_0).slice (win0_5.rect t)).emb (ix2 a k) = ix2 (rowOf t a) k := by
  blk_ext! [idx_val t]; rfl

/-- The rows of a tile of the input gradient are the chain rule's. -/
theorem tile_dx (h : Holds m X DY DH NW SC) (c : Dev nD) (t : Fin cfg0.N) (y : S256x2048.Idx) :
    k0_pay9 (F := Ideal) (iblk m c 0 t) (iblk m c 1 t) (iblk m c 2 t) (iblk m c 3 t) (iblk m c 4 t) y =
    DH c (((View.whole main_v0_0).slice (win0_5.rect t)).emb y) +
      ((gradX (X c) (DY c) (NW c) (SC c) (((View.whole main_v0_0).slice (win0_5.rect t)).emb y 0)
          (((View.whole main_v0_0).slice (win0_5.rect t)).emb y 1) : ℝ) : EReal) := by
  idx_vars y
  rw [pay_dx _ _ _ _ _ _ _ (row (X c) (rowOf t y0)) (gRow (DY c) (NW c) (SC c) (rowOf t y0)) (blk_x h c t y0)
      (fun k => ?_), blk_dh h, emb_dx, dx_eq]
  · rfl
  · rw [blk_dy h, blk_nw h, blk_sc h]
    simp only [← EReal.coe_one, ← EReal.coe_mul, ← EReal.coe_add, gRow]
    congr 1; ring

/-- The input gradient's array after the last tile. -/
theorem final_5 (h : Holds m X DY DH NW SC) (c : Dev nD) : (dats m 0 c).arrAt 5 (cfgs 0).N =
    fun j => DH c j + ((gradX (X c) (DY c) (NW c) (SC c) (j 0) (j 1) : ℝ) : EReal) := by
  refine (dats m 0 c).arrAt_eq_of_covers 5 _ (by decide +kernel) fun t hf y => ?_
  blk_simp; rw [after0_5]
  by_cases h0 : t.val % 16 = 0
  · rw [outsAt0_A m c t h0]; dsimp only; frame_out; exact tile_dx h c t y
  · rw [outsAt0_B m c t h0]; dsimp only; frame_out; exact tile_dx h c t y

/-! A carried sum starts at zero … -/

theorem zero_6 (j : S1x2048.Idx) : k0_pay1 (F := Ideal) j = 0 := by pointwise! [k0_pay1]
theorem zero_7 (j : S1x2048.Idx) : k0_pay2 (F := Ideal) j = 0 := by pointwise! [k0_pay2]
theorem zero_8 (j : S1x2048.Idx) : k0_pay3 (F := Ideal) j = 0 := by pointwise! [k0_pay3]

/-! … and each tile adds its own part. -/

theorem step_6 (p v : FVec Ideal S1x2048 .f32) (j : S1x2048.Idx) : k0_pay4 p v j = v j + p j := by pointwise [k0_pay4]
theorem step_7 (p v : FVec Ideal S1x2048 .f32) (j : S1x2048.Idx) : k0_pay5 p v j = v j + p j := by pointwise [k0_pay5]
theorem step_8 (sc : FVec Ideal S1x2048 .f32) (q : FVec Ideal S256x2048 .f32) (o v : FVec Ideal S1x2048 .f32)
    (j : S1x2048.Idx) : k0_pay6 sc q o v j = v j + k0_pay6 sc q o (fun _ => 0) j := by pointwise [k0_pay6]

/-- The shift's gradient after the last tile. -/
theorem final_6 (h : Holds m X DY DH NW SC) (c : Dev nD) : (dats m 0 c).arrAt 6 (cfgs 0).N =
    fun j => ((gradShift (DY c) (j 1) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [outsAt0_A m c t h]; frame_out; rw [step_6, zero_6])
    (fun t h j => by rw [outsAt0_B m c t h]; frame_out; rw [step_6])
    (le_of_eq N_0) t0_15 rfl j, zero_add]
  idx_vars j
  pointwise [k0_pay10]
  rw [gradShift, ← coe_sum]
  exact Fin.sum_mul_add_congr fun s k hl => blk_dy h c s k j1

/-- The scale's gradient after the last tile. -/
theorem final_7 (h : Holds m X DY DH NW SC) (c : Dev nD) : (dats m 0 c).arrAt 7 (cfgs 0).N =
    fun j => ((gradScale (X c) (DY c) (NW c) (j 1) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [step_7, zero_7])
    (fun t h j => by rw [outsAt0_B m c t h]; frame_out; rw [step_7])
    (le_of_eq N_0) t0_15 rfl j, zero_add]
  idx_vars j
  pointwise [k0_pay11]
  rw [gradScale, ← coe_sum]
  refine Fin.sum_mul_add_congr fun s k hl => ?_
  rw [pay_xhat _ _ _ _ (blk_x h c s k), blk_dy h, blk_nw h, ← EReal.coe_mul, ← EReal.coe_mul]
  refine congrArg _ (?_ : _ = row (X c) (rowOf s k) j1 * rinv (row (X c) (rowOf s k)) * NW c (ix2 0 j1)
    * DY c (ix2 (rowOf s k) j1))
  ring

/-- The weight's gradient after the last tile. -/
theorem final_8 (h : Holds m X DY DH NW SC) (c : Dev nD) : (dats m 0 c).arrAt 8 (cfgs 0).N =
    fun j => ((gradWeight (X c) (DY c) (SC c) (j 1) : ℝ) : EReal) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [step_8, zero_8])
    (fun t h j => by rw [outsAt0_B m c t h]; frame_out; rw [step_8])
    (le_of_eq N_0) t0_15 rfl j, zero_add]
  idx_vars j
  pointwise [k0_pay6, k0_pay12, k0_pay13]
  rw [gradWeight, ← coe_sum]
  refine Fin.sum_mul_add_congr fun s k hl => ?_
  rw [pay_xhat _ _ _ _ (blk_x h c s k), blk_dy h, blk_sc h, ← EReal.coe_one, ← EReal.coe_add, ← EReal.coe_mul,
    ← EReal.coe_mul]
  refine congrArg _ (?_ : _ = row (X c) (rowOf s k) j1 * rinv (row (X c) (rowOf s k))
    * (DY c (ix2 (rowOf s k) j1) * (1 + SC c (ix2 0 j1))))
  ring

/-- The kernel's four results, in reals. -/
theorem run_real (ρ : Dev nD → PrngReg) (h : Holds m X DY DH NW SC) :
    θ_run defs (onTc (τ := τ) (main (F := Ideal))) ⟨m, fun _ => 0, ρ⟩ fun r => ∀ c : Dev nD,
      r.2.mem ((c.tc : Thread nD τ).loc main_v0_0) =
          (fun j => DH c j + ((gradX (X c) (DY c) (NW c) (SC c) (j 0) (j 1) : ℝ) : EReal))
      ∧ r.2.mem ((c.tc : Thread nD τ).loc main_v0_1) = (fun j => ((gradShift (DY c) (j 1) : ℝ) : EReal))
      ∧ r.2.mem ((c.tc : Thread nD τ).loc main_v0_2) = (fun j => ((gradScale (X c) (DY c) (NW c) (j 1) : ℝ) : EReal))
      ∧ r.2.mem ((c.tc : Thread nD τ).loc main_v0_3) = (fun j => ((gradWeight (X c) (DY c) (SC c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r hr c => ?_) (Cert.Norm1Ideal.Value.run_blocks m ρ)
  have := hr c
  rw [final_5 h, final_6 h, final_7 h, final_8 h] at this
  exact this

end Cert.Norm1Ideal.Eqn

end
-- ==== Proof.Norm1Claim.lean ====
/- The first norm's gradient: the kernel and the reference compute one function of finite arguments. -/
module

public import proofs.«01_k».proof.Defs
public import proofs.«01_k».proof.Proof.Norm1Ref
public import proofs.«01_k».proof.Proof.Norm1Kernel
public import proofs.«01_k».proof.Proof.Gen.Pre_norm1_finite
public import Idealize.ShloMosaic.Adequacy

@[expose] public section

noncomputable section

namespace Cert.Norm1Claim

open Idealize.ShloMosaic Idealize.ShloMosaic.TcCoe Idealize.SL.Sem
open Cert.Norm1Ideal Cert.RealLift

/-- The reference runs, faults nowhere and leaves its arguments alone. -/
theorem frame_ref : Cert.quiescent_Norm1RefIdeal := by
  intro m ρ _
  exact (θ_run _ _ _).mono (fun r h => ⟨fun c => (h c).2.2.2.2, sem_eq_zero_of_no_sems (by decide) r.2⟩)
    (Cert.Norm1RefIdeal.Value.run (F := Ideal) m ρ)

/-- Finite arguments are real arrays. -/
theorem holds_of_finite (m : (ℓ : Loc nD τ sig) → Buf (Elt Ideal) ℓ) (h : Cert.Pre_Norm1Ideal_norm1_finite m) :
    ∃ X DY DH NW SC, Cert.Norm1Ideal.Eqn.Holds m X DY DH NW SC := by
  choose X hX using fun c : Dev nD => exists_real (m ((c.tc : Thread nD τ).loc main_arg0)) _ ofBits_inf fun i => congrFun (h c).1 i
  choose NW hNW using fun c : Dev nD => exists_real (m ((c.tc : Thread nD τ).loc main_arg1)) _ ofBits_inf fun i => congrFun (h c).2.1 i
  choose SC hSC using fun c : Dev nD => exists_real (m ((c.tc : Thread nD τ).loc main_arg2)) _ ofBits_inf fun i => congrFun (h c).2.2.1 i
  choose DY hDY using fun c : Dev nD => exists_real (m ((c.tc : Thread nD τ).loc main_arg5)) _ ofBits_inf fun i => congrFun (h c).2.2.2 i
  exact ⟨X, DY, fun c => m ((c.tc : Thread nD τ).loc main_arg4), NW, SC, hX, hNW, hSC, fun _ => rfl, hDY⟩

/-- The value claim. -/
theorem algebraic : Cert.algebraic_Norm1Ideal_Norm1RefIdeal_pre_norm1_finite := by
  intro m g m' g' hpre heq
  obtain ⟨X, DY, DH, NW, SC, h⟩ := holds_of_finite m hpre
  exact ⟨_, _, _, _, Eqn.run_real g h, Cert.Norm1RefIdeal.Eqn.run_real m' g' X DY DH NW SC
    (fun c => (heq c).1.trans (h.x c)) (fun c => (heq c).2.1.trans (h.nw c)) (fun c => (heq c).2.2.1.trans (h.sc c))
    (fun c => (heq c).2.2.2.2.1.trans (h.dh c)) (fun c => (heq c).2.2.2.2.2.trans (h.dy c))⟩

end Cert.Norm1Claim

end
-- ==== Proof.Norm2Ref.lean ====
/- What the reference of the second norm's gradient computes on finite arguments. -/
module

public import proofs.«01_k».proof.Proof.BelowMath
public import proofs.«01_k».proof.Proof.Gen.Norm2RefIdeal.Run

@[expose] public section

set_option maxRecDepth 16384

noncomputable section

namespace Cert.Norm2RefIdeal.Eqn

open Cert.Norm2RefIdeal Cert.Norm2RefIdeal.Gen Cert.Norm2RefIdeal.Value
open Idealize.ShloMosaic Idealize.ShloMosaic.TcCoe Idealize.SL.Sem
open Cert.NormMath Cert.BelowMath Cert.RealLift

variable (m : (ℓ : Loc nD τ sig) → Buf (Elt Ideal) ℓ) (ρ : Dev nD → PrngReg)

/-- The factor on the branch's gate. -/
def half : ℝ := (1 / 2)

/-- The residual sum at one place, as the reference spells it. -/
theorem hid_at (A : Args) (a : Fin 4096) (k : Fin 2048) :
    A.res (ix2 a k) + 1 / 2 * A.g (ix2 0 k) * A.o (ix2 a k) = row (hid half A) a k := by
  simp [row, hid, half]

/-- The arguments hold the named real arrays. -/
structure Holds (A : Dev nD → Args) : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  sc : ∀ c : Dev nD, m ((c.tc : Thread nD τ).loc main_arg4) = fun i => (((A c).sc i : ℝ) : EReal)
  dh : ∀ c : Dev nD, m ((c.tc : Thread nD τ).loc main_arg6) = fun i => (((A c).dh i : ℝ) : EReal)
  dy : ∀ c : Dev nD, m ((c.tc : Thread nD τ).loc main_arg7) = fun i => (((A c).dy i : ℝ) : EReal)

variable {m} {A : Dev nD → Args}

/-- The gradient that reaches the residual sum. -/
theorem total_at (h : Holds m A) (c : Dev nD) (a : Fin 4096) (b : Fin 2048) :
    (res_main_v53 m c : S4096x2048.Idx → EReal) (ix2 a b) = ((total half (A c) a b : ℝ) : EReal) := by
  unfold res_main_v53
  rw [h.res, h.o, h.g, h.nw, h.sc, h.dh, h.dy]
  pointwise []
  simp only [ofBits_width, ofBits_eps, ofBits_neg_half, ofBits_half, ← EReal.coe_one, ← EReal.coe_mul, coe_sum, div_width,
    ← EReal.coe_add, hid_at, rsqrt_row (row (hid half (A c)) a), div_row (row (hid half (A c)) a), Fin.sum_univ_one]
  refine congrArg _ ?_
  simp only [total, gradX, add_assoc]
  rfl

/-- The branch output's and the gate's gradients, folded back over the residual sum's. -/
theorem fold_o (c : Dev nD) : (res_main_v62 m c : S4096x2048.Idx → EReal) = truncf (F := Ideal) .bf16 (mulf (φ := .f32)
    (broadcastInDim S4096x2048 ![0, 1] bcast_S1x2048_S4096x2048_0_1 (mulf (φ := .f32) (broadcastInDim S1x2048 ![] bcast_S_S1x2048 (constant S_ .f32 0x3F000000#32)) (m ((c.tc : Thread nD τ).loc main_arg2))))
    (shapeCast S4096x2048 (res_main_v53 m c : S4096x2048.Idx → EReal) shapeCasts_S4096x2048_S4096x2048)) bitsLt_bf16_f32 := by
  unfold res_main_v62 res_main_v53; rfl

theorem fold_g (c : Dev nD) : (res_main_v61 m c : S1x2048.Idx → EReal) = mulf (F := Ideal) (φ := .f32) (broadcastInDim S1x2048 ![] bcast_S_S1x2048 (constant S_ .f32 0x3F000000#32)) (shapeCast S1x2048 (Host.reduceAdd (F := Ideal)
    (mulf (φ := .f32) (shapeCast S4096x2048 (res_main_v53 m c : S4096x2048.Idx → EReal) shapeCasts_S4096x2048_S4096x2048)
      (m ((c.tc : Thread nD τ).loc main_arg1)))
    (constant S_ .f32 0x00000000#32) reducesTo_S4096x2048_S2048_d0 h_S_) shapeCasts_S2048_S1x2048) := by
  unfold res_main_v61 res_main_v53; rfl

/-- The reference's six results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v53) = (fun j => ((total half (A c) (j 0) (j 1) : ℝ) : EReal))
      ∧ r.2.mem ((c.tc : Thread nD τ).loc main_v62) = (fun j => ((gradO half (A c) (j 0) (j 1) : ℝ) : EReal))
      ∧ r.2.mem ((c.tc : Thread nD τ).loc main_v28) = (fun j => ((gradShift (A c).dy (j 1) : ℝ) : EReal))
      ∧ r.2.mem ((c.tc : Thread nD τ).loc main_v31) = (fun j => ((gradSc half (A c) (j 1) : ℝ) : EReal))
      ∧ r.2.mem ((c.tc : Thread nD τ).loc main_v36) = (fun j => ((gradNw half (A c) (j 1) : ℝ) : EReal))
      ∧ r.2.mem ((c.tc : Thread nD τ).loc main_v61) = (fun j => ((gradG half (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ?_) (run m ρ)
  obtain ⟨h0, h1, h2, h3, h4, h5, h6⟩ := hr c
  refine ⟨h0.trans (funext fun j => ?_), h1.trans (funext fun j => ?_), h2.trans (funext fun j => ?_),
    h3.trans (funext fun j => ?_), h4.trans (funext fun j => ?_), h5.trans (funext fun j => ?_), h6⟩
  · idx_vars j
    exact total_at h c j0 j1
  · refine (congrFun (fold_o c) j).trans ?_
    rw [h.g]
    idx_vars j
    pointwise []
    simp only [total_at h c, ofBits_half, ← EReal.coe_mul]
    refine congrArg _ ?_
    simp only [gradO, half]
    show _ = total _ _ j0 j1 * _
    ring
  · rw [h.dy]
    idx_vars j
    pointwise []
    simp only [coe_sum]
    rfl
  · rw [h.res, h.o, h.g, h.nw, h.dy]
    idx_vars j
    pointwise []
    simp only [ofBits_width, ofBits_eps, ofBits_half, ← EReal.coe_one, ← EReal.coe_mul, coe_sum, div_width,
      ← EReal.coe_add, hid_at, rsqrt_row (row (hid half (A c)) _)]
    rfl
  · rw [h.res, h.o, h.g, h.sc, h.dy]
    idx_vars j
    pointwise []
    simp only [ofBits_width, ofBits_eps, ofBits_half, ← EReal.coe_one, ← EReal.coe_mul, coe_sum, div_width,
      ← EReal.coe_add, hid_at, rsqrt_row (row (hid half (A c)) _)]
    rfl
  · refine (congrFun (fold_g c) j).trans ?_
    rw [h.o]
    idx_vars j
    pointwise []
    simp only [total_at h c, ofBits_half, ← EReal.coe_mul, coe_sum]
    refine congrArg _ ?_
    simp only [gradG, half]
    show _ = ∑ a, total _ _ a j1 * _ * _
    simp only [mul_one, ← Finset.sum_mul]
    exact mul_comm _ _

end Cert.Norm2RefIdeal.Eqn

end
-- ==== Proof.Norm2Kernel.lean ====
/- What the kernel of the second norm's gradient computes on finite arguments: a tile of rows at a time, the four
   column sums carried from tile to tile. -/
module

public import proofs.«01_k».proof.Proof.BelowMath
public import proofs.«01_k».proof.Proof.Gen.Norm2Ideal.Value

@[expose] public section

set_option maxRecDepth 16384

noncomputable section

namespace Cert.Norm2Ideal.Eqn

open Cert.Norm2Ideal Cert.Norm2Ideal.Gen
open Idealize.ShloMosaic Idealize.ShloMosaic.TcCoe Idealize.SL.Sem
open Cert.NormMath Cert.BelowMath Cert.RealLift

variable (m : (ℓ : Loc nD τ sig) → Buf (Elt Ideal) ℓ) (A : Dev nD → Args)

/-- The factor on the branch's gate. -/
def half : ℝ := (1 / 2)

/-- The arguments hold the named real arrays. -/
structure Holds : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  sc : ∀ c : Dev nD, m ((c.tc : Thread nD τ).loc main_arg4) = fun i => (((A c).sc i : ℝ) : EReal)
  dh : ∀ c : Dev nD, m ((c.tc : Thread nD τ).loc main_arg6) = fun i => (((A c).dh i : ℝ) : EReal)
  dy : ∀ c : Dev nD, m ((c.tc : Thread nD τ).loc main_arg7) = fun i => (((A c).dy i : ℝ) : EReal)

/-- The residual sum the kernel is handed. -/
theorem entry_h (c : Dev nD) : (V m c main_v4 : S4096x2048.Idx → EReal) =
    addf (F := Ideal) (φ := .f32) (m ((c.tc : Thread nD τ).loc main_arg0)) (mulf (broadcastInDim S4096x2048 ![0, 1] bcast_S1x2048_S4096x2048_0_1 (mulf (broadcastInDim S1x2048 ![] bcast_S_S1x2048 (constant S_ .f32 0x3F000000#32)) (m ((c.tc : Thread nD τ).loc main_arg2)))) (m ((c.tc : Thread nD τ).loc main_arg1))) := by
  unfold_abbrev_sides
  try simp only [List.flatten_cons, List.flatten_nil, List.append_nil, List.cons_append, List.nil_append]
  after_results_simp

theorem entry_o (c : Dev nD) : (V m c main_v5 : S4096x2048.Idx → EReal)
    = truncf (F := Ideal) .bf16 (m ((c.tc : Thread nD τ).loc main_arg1)) bitsLt_bf16_f32 := by
  unfold_abbrev_sides
  try simp only [List.flatten_cons, List.flatten_nil, List.append_nil, List.cons_append, List.nil_append]
  after_results_simp

/-- Every window's block index at a point of the grid. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![0, 0] :=
  (by decide +kernel : ∀ t : Fin grid0.N, _)

/-- One tile's rows of the residual sum's gradient. -/
theorem pay_dx (x dy dh : S256x2048.Idx → EReal) (nw sc : S1x2048.Idx → EReal) (j0 : Fin 256) (j1 : Fin 2048)
    (x' g : Fin 2048 → ℝ) (hx : ∀ k, x (ix2 j0 k) = ((x' k : ℝ) : EReal))
    (hg : ∀ k, dy (ix2 j0 k) * (nw (ix2 0 k) * (1 + sc (ix2 0 k))) = ((g k : ℝ) : EReal)) :
    k0_pay7 (F := Ideal) dy x dh nw sc (ix2 j0 j1) = dh (ix2 j0 j1) + ((dxKernel x' g j1 : ℝ) : EReal) := by
  pointwise [k0_pay7, k0_pay6, k0_pay5, k0_pay3]
  simp only [hg, hx, ofBits_width, ofBits_eps, ← EReal.coe_mul, coe_sum, div_width, ← EReal.coe_add, rsqrt_row x',
    ← EReal.coe_sub]
  rfl

/-- A row of the normalised tile. -/
theorem pay_xhat (x : S256x2048.Idx → EReal) (j0 : Fin 256) (j1 : Fin 2048)
    (x' : Fin 2048 → ℝ) (hx : ∀ k, x (ix2 j0 k) = ((x' k : ℝ) : EReal)) :
    k0_pay6 (F := Ideal) x (ix2 j0 j1) = ((x' j1 * rinv x' : ℝ) : EReal) := by
  pointwise [k0_pay6, k0_pay5, k0_pay3]
  simp only [hx, ofBits_width, ofBits_eps, ← EReal.coe_mul, coe_sum, div_width, ← EReal.coe_add, rsqrt_row x']

variable {m A}

/-- The array's row that is row `a` of tile `t`. -/
def rowOf (t : Fin cfg0.N) (a : Fin 256) : Fin 4096 :=
  ⟨t.val * 256 + a.val, by
    have : t.val < 16 := lt_of_lt_of_eq t.isLt N_0
    omega⟩

theorem blk_dy (h : Holds m A) (c : Dev nD) (t : Fin cfg0.N) (a : Fin 256) (k : Fin 2048) :
    iblk m c 0 t (ix2 a k) = (((A c).dy (ix2 (rowOf t a) k) : ℝ) : EReal) := by
  refine Eq.trans ?_ (congrFun (h.dy c) (ix2 (rowOf t a) k))
  blk_point [iblk, V, idx_val t]; rfl

theorem blk_h (h : Holds m A) (c : Dev nD) (t : Fin cfg0.N) (a : Fin 256) (k : Fin 2048) :
    iblk m c 1 t (ix2 a k) = ((row (hid half (A c)) (rowOf t a) k : ℝ) : EReal) := by
  have e : (V m c main_v4 : S4096x2048.Idx → EReal) (ix2 (rowOf t a) k) = ((hid half (A c) (ix2 (rowOf t a) k) : ℝ) : EReal) := by
    rw [entry_h, h.res, h.o, h.g]
    pointwise []
    simp only [ofBits_half, ← EReal.coe_mul, ← EReal.coe_add]
    refine congrArg _ ?_
    simp [hid, half]
  refine Eq.trans ?_ e
  blk_point [iblk, idx_val t]; rfl

theorem blk_dh (h : Holds m A) (c : Dev nD) (t : Fin cfg0.N) (a : Fin 256) (k : Fin 2048) :
    iblk m c 2 t (ix2 a k) = (((A c).dh (ix2 (rowOf t a) k) : ℝ) : EReal) := by
  refine Eq.trans ?_ (congrFun (h.dh c) (ix2 (rowOf t a) k))
  blk_point [iblk, V, idx_val t]; rfl

theorem blk_o (h : Holds m A) (c : Dev nD) (t : Fin cfg0.N) (a : Fin 256) (k : Fin 2048) :
    iblk m c 3 t (ix2 a k) = (((A c).o (ix2 (rowOf t a) k) : ℝ) : EReal) := by
  have e : (V m c main_v5 : S4096x2048.Idx → EReal) (ix2 (rowOf t a) k) = (((A c).o (ix2 (rowOf t a) k) : ℝ) : EReal) := by
    rw [entry_o, h.o]
    pointwise []
  refine Eq.trans ?_ e
  blk_point [iblk, idx_val t]; rfl

theorem blk_nw (h : Holds m A) (c : Dev nD) (t : Fin cfg0.N) (k : Fin 2048) :
    iblk m c 4 t (ix2 0 k) = (((A c).nw (ix2 0 k) : ℝ) : EReal) := by
  refine Eq.trans ?_ (congrFun (h.nw c) (ix2 0 k))
  blk_point [iblk, V, idx_val t]

theorem blk_sc (h : Holds m A) (c : Dev nD) (t : Fin cfg0.N) (k : Fin 2048) :
    iblk m c 5 t (ix2 0 k) = (((A c).sc (ix2 0 k) : ℝ) : EReal) := by
  refine Eq.trans ?_ (congrFun (h.sc c) (ix2 0 k))
  blk_point [iblk, V, idx_val t]

theorem blk_g (h : Holds m A) (c : Dev nD) (t : Fin cfg0.N) (k : Fin 2048) :
    iblk m c 6 t (ix2 0 k) = (((A c).g (ix2 0 k) : ℝ) : EReal) := by
  refine Eq.trans ?_ (congrFun (h.g c) (ix2 0 k))
  blk_point [iblk, V, idx_val t]

/-- The residual sum's gradient, as tile `t` computes it. -/
abbrev tile (m : (ℓ : Loc nD τ sig) → Buf (Elt Ideal) ℓ) (c : Dev nD) (t : Fin cfg0.N) : S256x2048.Idx → EReal :=
  k0_pay7 (F := Ideal) (iblk m c 0 t) (iblk m c 1 t) (iblk m c 2 t) (iblk m c 4 t) (iblk m c 5 t)

/-- Each of its rows is the chain rule's. -/
theorem tile_at (h : Holds m A) (c : Dev nD) (t : Fin cfg0.N) (a : Fin 256) (k : Fin 2048) :
    tile m c t (ix2 a k) = ((total half (A c) (rowOf t a) k : ℝ) : EReal) := by
  rw [tile, pay_dx _ _ _ _ _ _ _ (row (hid half (A c)) (rowOf t a)) (gRow (A c).dy (A c).nw (A c).sc (rowOf t a))
      (blk_h h c t a) (fun k => ?_), blk_dh h, dx_eq, ← EReal.coe_add]
  · rfl
  · rw [blk_dy h, blk_nw h, blk_sc h]
    simp only [← EReal.coe_one, ← EReal.coe_mul, ← EReal.coe_add, gRow]
    congr 1; ring

theorem emb_dh (t : Fin cfg0.N) (a : Fin 256) (k : Fin 2048) :
    ((View.whole main_v6_0).slice (win0_7.rect t)).emb (ix2 a k) = ix2 (rowOf t a) k := by
  blk_ext! [idx_val t]; rfl

theorem emb_do (t : Fin cfg0.N) (a : Fin 256) (k : Fin 2048) :
    ((View.whole main_v6_1).slice (win0_8.rect t)).emb (ix2 a k) = ix2 (rowOf t a) k := by
  blk_ext! [idx_val t]; rfl

theorem tile_dh (h : Holds m A) (c : Dev nD) (t : Fin cfg0.N) (y : S256x2048.Idx) :
    tile m c t y = ((total half (A c) (((View.whole main_v6_0).slice (win0_7.rect t)).emb y 0)
          (((View.whole main_v6_0).slice (win0_7.rect t)).emb y 1) : ℝ) : EReal) := by
  idx_vars y
  rw [tile_at h, emb_dh]; rfl

theorem tile_do (h : Holds m A) (c : Dev nD) (t : Fin cfg0.N) (y : S256x2048.Idx) :
    k0_pay12 (F := Ideal) (iblk m c 6 t) (tile m c t) y =
      ((gradO half (A c) (((View.whole main_v6_1).slice (win0_8.rect t)).emb y 0)
          (((View.whole main_v6_1).slice (win0_8.rect t)).emb y 1) : ℝ) : EReal) := by
  idx_vars y
  rw [emb_do]
  pointwise [k0_pay12]
  rw [tile_at h, blk_g h]
  simp only [ofBits_half, ← EReal.coe_mul, gradO]
  refine congrArg _ ?_
  simp [half, rowOf]

/-- The residual sum's gradient after the last tile. -/
theorem final_7 (h : Holds m A) (c : Dev nD) : (dats m 0 c).arrAt 7 (cfgs 0).N =
    fun j => ((total half (A c) (j 0) (j 1) : ℝ) : EReal) := by
  refine (dats m 0 c).arrAt_eq_of_covers 7 _ (by decide +kernel) fun t hf y => ?_
  blk_simp; rw [after0_7]
  by_cases h0 : t.val % 16 = 0
  · rw [outsAt0_A m c t h0]; dsimp only; frame_out; exact tile_dh h c t y
  · rw [outsAt0_B m c t h0]; dsimp only; frame_out; exact tile_dh h c t y

/-- The branch output's gradient after the last tile. -/
theorem final_8 (h : Holds m A) (c : Dev nD) : (dats m 0 c).arrAt 8 (cfgs 0).N =
    fun j => ((gradO half (A c) (j 0) (j 1) : ℝ) : EReal) := by
  refine (dats m 0 c).arrAt_eq_of_covers 8 _ (by decide +kernel) fun t hf y => ?_
  blk_simp; rw [after0_8]
  by_cases h0 : t.val % 16 = 0
  · rw [outsAt0_A m c t h0]; dsimp only; frame_out; exact tile_do h c t y
  · rw [outsAt0_B m c t h0]; dsimp only; frame_out; exact tile_do h c t y

/-! A carried sum starts at zero … -/

theorem zero_9 (j : S1x2048.Idx) : k0_pay13 (F := Ideal) j = 0 := by pointwise! [k0_pay13]
theorem zero_10 (j : S1x2048.Idx) : k0_pay14 (F := Ideal) j = 0 := by pointwise! [k0_pay14]
theorem zero_11 (j : S1x2048.Idx) : k0_pay15 (F := Ideal) j = 0 := by pointwise! [k0_pay15]
theorem zero_12 (j : S1x2048.Idx) : k0_pay16 (F := Ideal) j = 0 := by pointwise! [k0_pay16]

/-! … and each tile adds its own part. -/

theorem step_9 (p v : FVec Ideal S1x2048 .f32) (j : S1x2048.Idx) : k0_pay17 p v j = v j + p j := by pointwise [k0_pay17]
theorem step_10 (nw : FVec Ideal S1x2048 .f32) (q : FVec Ideal S256x2048 .f32) (v : FVec Ideal S1x2048 .f32)
    (j : S1x2048.Idx) : k0_pay18 nw q v j = v j + k0_pay18 nw q (fun _ => 0) j := by pointwise [k0_pay18]
theorem step_11 (p v : FVec Ideal S1x2048 .f32) (j : S1x2048.Idx) : k0_pay1 p v j = v j + p j := by pointwise [k0_pay1]
theorem step_12 (p v : FVec Ideal S1x2048 .f32) (j : S1x2048.Idx) : k0_pay2 p v j = v j + p j := by pointwise [k0_pay2]

/-- The shift's gradient after the last tile. -/
theorem final_9 (h : Holds m A) (c : Dev nD) : (dats m 0 c).arrAt 9 (cfgs 0).N =
    fun j => ((gradShift (A c).dy (j 1) : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0) _
    (fun t h j => by rw [outsAt0_A m c t h]; frame_out; rw [step_9, zero_9])
    (fun t h j => by rw [outsAt0_B m c t h]; frame_out; rw [step_9])
    (le_of_eq N_0) t0_15 rfl j, zero_add]
  idx_vars j
  pointwise [k0_pay8]
  rw [gradShift, ← coe_sum]
  exact Fin.sum_mul_add_congr fun s k hl => blk_dy h c s k j1

/-- The scale's gradient after the last tile. -/
theorem final_10 (h : Holds m A) (c : Dev nD) : (dats m 0 c).arrAt 10 (cfgs 0).N =
    fun j => ((gradSc half (A c) (j 1) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) _
    (fun t h j => by rw [outsAt0_A m c t h]; frame_out; rw [step_10, zero_10])
    (fun t h j => by rw [outsAt0_B m c t h]; frame_out; rw [step_10])
    (le_of_eq N_0) t0_15 rfl j, zero_add]
  idx_vars j
  pointwise [k0_pay18, k0_pay9]
  rw [gradSc, gradScale, ← coe_sum]
  refine Fin.sum_mul_add_congr fun s k hl => ?_
  rw [pay_xhat _ _ _ _ (blk_h h c s k), blk_dy h, blk_nw h, ← EReal.coe_mul, ← EReal.coe_mul]
  refine congrArg _ (?_ : _ = row (hid half (A c)) (rowOf s k) j1 * rinv (row (hid half (A c)) (rowOf s k))
    * (A c).nw (ix2 0 j1) * (A c).dy (ix2 (rowOf s k) j1))
  ring

/-- The weight's gradient after the last tile. -/
theorem final_11 (h : Holds m A) (c : Dev nD) : (dats m 0 c).arrAt 11 (cfgs 0).N =
    fun j => ((gradNw half (A c) (j 1) : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0) _
    (fun t h j => by rw [outsAt0_A m c t h]; frame_out; rw [step_11, zero_11])
    (fun t h j => by rw [outsAt0_B m c t h]; frame_out; rw [step_11])
    (le_of_eq N_0) t0_15 rfl j, zero_add]
  idx_vars j
  pointwise [k0_pay10]
  rw [gradNw, gradWeight, ← coe_sum]
  refine Fin.sum_mul_add_congr fun s k hl => ?_
  rw [pay_xhat _ _ _ _ (blk_h h c s k), blk_dy h, blk_sc h, ← EReal.coe_one, ← EReal.coe_add, ← EReal.coe_mul,
    ← EReal.coe_mul]
  refine congrArg _ (?_ : _ = row (hid half (A c)) (rowOf s k) j1 * rinv (row (hid half (A c)) (rowOf s k))
    * ((A c).dy (ix2 (rowOf s k) j1) * (1 + (A c).sc (ix2 0 j1))))
  ring

/-- The gate's gradient after the last tile. -/
theorem final_12 (h : Holds m A) (c : Dev nD) : (dats m 0 c).arrAt 12 (cfgs 0).N =
    fun j => ((gradG half (A c) (j 1) : ℝ) : EReal) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0) _
    (fun t h j => by rw [outsAt0_A m c t h]; frame_out; rw [step_12, zero_12])
    (fun t h j => by rw [outsAt0_B m c t h]; frame_out; rw [step_12])
    (le_of_eq N_0) t0_15 rfl j, zero_add]
  idx_vars j
  pointwise [k0_pay11, k0_pay4]
  rw [gradG, ← coe_sum]
  refine Fin.sum_mul_add_congr fun s k hl => ?_
  have e := tile_at h c s k j1
  rw [tile] at e
  rw [e, blk_o h]
  simp only [ofBits_half, ← EReal.coe_one, ← EReal.coe_mul]
  refine congrArg _ ?_
  simp [half, rowOf]

/-- The kernel's six results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v6_0) = (fun j => ((total half (A c) (j 0) (j 1) : ℝ) : EReal))
      ∧ r.2.mem ((c.tc : Thread nD τ).loc main_v6_1) = (fun j => ((gradO half (A c) (j 0) (j 1) : ℝ) : EReal))
      ∧ r.2.mem ((c.tc : Thread nD τ).loc main_v6_2) = (fun j => ((gradShift (A c).dy (j 1) : ℝ) : EReal))
      ∧ r.2.mem ((c.tc : Thread nD τ).loc main_v6_3) = (fun j => ((gradSc half (A c) (j 1) : ℝ) : EReal))
      ∧ r.2.mem ((c.tc : Thread nD τ).loc main_v6_4) = (fun j => ((gradNw half (A c) (j 1) : ℝ) : EReal))
      ∧ r.2.mem ((c.tc : Thread nD τ).loc main_v6_5) = (fun j => ((gradG half (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r hr c => ?_) (Cert.Norm2Ideal.Value.run_blocks m ρ)
  have := hr c
  rw [final_7 h, final_8 h, final_9 h, final_10 h, final_11 h, final_12 h] at this
  exact this

end Cert.Norm2Ideal.Eqn

end
-- ==== Proof.Norm2Claim.lean ====
/- The second norm's gradient: the kernel and the reference compute one function of finite arguments. -/
module

public import proofs.«01_k».proof.Defs
public import proofs.«01_k».proof.Proof.Norm2Ref
public import proofs.«01_k».proof.Proof.Norm2Kernel
public import proofs.«01_k».proof.Proof.Gen.Pre_norm2_finite
public import Idealize.ShloMosaic.Adequacy

@[expose] public section

noncomputable section

namespace Cert.Norm2Claim

open Idealize.ShloMosaic Idealize.ShloMosaic.TcCoe Idealize.SL.Sem
open Cert.Norm2Ideal Cert.RealLift Cert.BelowMath

/-- The reference runs, faults nowhere and leaves its arguments alone. -/
theorem frame_ref : Cert.quiescent_Norm2RefIdeal := by
  intro m ρ _
  exact (θ_run _ _ _).mono (fun r h => ⟨fun c => (h c).2.2.2.2.2.2, sem_eq_zero_of_no_sems (by decide) r.2⟩)
    (Cert.Norm2RefIdeal.Value.run (F := Ideal) m ρ)

/-- Finite arguments are real arrays. -/
theorem holds_of_finite (m : (ℓ : Loc nD τ sig) → Buf (Elt Ideal) ℓ) (h : Cert.Pre_Norm2Ideal_norm2_finite m) :
    ∃ A, Cert.Norm2Ideal.Eqn.Holds m A := by
  choose RES h_res using fun c : Dev nD => exists_real (m ((c.tc : Thread nD τ).loc main_arg0)) _ ofBits_inf fun i => congrFun (h c).1 i
  choose O h_o using fun c : Dev nD => exists_real (m ((c.tc : Thread nD τ).loc main_arg1)) _ ofBits_inf fun i => congrFun (h c).2.1 i
  choose G h_g using fun c : Dev nD => exists_real (m ((c.tc : Thread nD τ).loc main_arg2)) _ ofBits_inf fun i => congrFun (h c).2.2.1 i
  choose NW h_nw using fun c : Dev nD => exists_real (m ((c.tc : Thread nD τ).loc main_arg3)) _ ofBits_inf fun i => congrFun (h c).2.2.2.1 i
  choose SC h_sc using fun c : Dev nD => exists_real (m ((c.tc : Thread nD τ).loc main_arg4)) _ ofBits_inf fun i => congrFun (h c).2.2.2.2.1 i
  choose DH h_dh using fun c : Dev nD => exists_real (m ((c.tc : Thread nD τ).loc main_arg6)) _ ofBits_inf fun i => congrFun (h c).2.2.2.2.2.1 i
  choose DY h_dy using fun c : Dev nD => exists_real (m ((c.tc : Thread nD τ).loc main_arg7)) _ ofBits_inf fun i => congrFun (h c).2.2.2.2.2.2 i
  exact ⟨fun c => ⟨RES c, O c, DH c, DY c, NW c, SC c, G c⟩, h_res, h_o, h_g, h_nw, h_sc, h_dh, h_dy⟩

/-- The value claim. -/
theorem algebraic : Cert.algebraic_Norm2Ideal_Norm2RefIdeal_pre_norm2_finite := by
  intro m g m' g' hpre heq
  obtain ⟨A, h⟩ := holds_of_finite m hpre
  exact ⟨_, _, _, _, _, _, Eqn.run_real g h, Cert.Norm2RefIdeal.Eqn.run_real (A := A) g'
    { res := fun c => (heq c).1.trans (h.res c), o := fun c => (heq c).2.1.trans (h.o c), g := fun c => (heq c).2.2.1.trans (h.g c), nw := fun c => (heq c).2.2.2.1.trans (h.nw c), sc := fun c => (heq c).2.2.2.2.1.trans (h.sc c), dh := fun c => (heq c).2.2.2.2.2.2.1.trans (h.dh c), dy := fun c => (heq c).2.2.2.2.2.2.2.trans (h.dy c) }⟩

end Cert.Norm2Claim

end
-- ==== Proof.Norm3Ref.lean ====
/- What the reference of the third norm's gradient computes on finite arguments. -/
module

public import proofs.«01_k».proof.Proof.BelowMath
public import proofs.«01_k».proof.Proof.Gen.Norm3RefIdeal.Run

@[expose] public section

set_option maxRecDepth 16384

noncomputable section

namespace Cert.Norm3RefIdeal.Eqn

open Cert.Norm3RefIdeal Cert.Norm3RefIdeal.Gen Cert.Norm3RefIdeal.Value
open Idealize.ShloMosaic Idealize.ShloMosaic.TcCoe Idealize.SL.Sem
open Cert.NormMath Cert.BelowMath Cert.RealLift

variable (m : (ℓ : Loc nD τ sig) → Buf (Elt Ideal) ℓ) (ρ : Dev nD → PrngReg)

/-- The factor on the branch's gate. -/
def half : ℝ := 1

/-- The residual sum at one place, as the reference spells it. -/
theorem hid_at (A : Args) (a : Fin 4096) (k : Fin 2048) :
    A.res (ix2 a k) + A.g (ix2 0 k) * A.o (ix2 a k) = row (hid half A) a k := by
  simp [row, hid, half]

/-- The arguments hold the named real arrays. -/
structure Holds (A : Dev nD → Args) : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  sc : ∀ c : Dev nD, m ((c.tc : Thread nD τ).loc main_arg4) = fun i => (((A c).sc i : ℝ) : EReal)
  dh : ∀ c : Dev nD, m ((c.tc : Thread nD τ).loc main_arg6) = fun i => (((A c).dh i : ℝ) : EReal)
  dy : ∀ c : Dev nD, m ((c.tc : Thread nD τ).loc main_arg7) = fun i => (((A c).dy i : ℝ) : EReal)

variable {m} {A : Dev nD → Args}

/-- The gradient that reaches the residual sum. -/
theorem total_at (h : Holds m A) (c : Dev nD) (a : Fin 4096) (b : Fin 2048) :
    (res_main_v51 m c : S4096x2048.Idx → EReal) (ix2 a b) = ((total half (A c) a b : ℝ) : EReal) := by
  unfold res_main_v51
  rw [h.res, h.o, h.g, h.nw, h.sc, h.dh, h.dy]
  pointwise []
  simp only [ofBits_width, ofBits_eps, ofBits_neg_half, ofBits_half, ← EReal.coe_one, ← EReal.coe_mul, coe_sum, div_width,
    ← EReal.coe_add, hid_at, rsqrt_row (row (hid half (A c)) a), div_row (row (hid half (A c)) a), Fin.sum_univ_one]
  refine congrArg _ ?_
  simp only [total, gradX, add_assoc]
  rfl

/-- The branch output's and the gate's gradients, folded back over the residual sum's. -/
theorem fold_o (c : Dev nD) : (res_main_v58 m c : S4096x2048.Idx → EReal) = truncf (F := Ideal) .bf16 (mulf (φ := .f32)
    (broadcastInDim S4096x2048 ![0, 1] bcast_S1x2048_S4096x2048_0_1 (m ((c.tc : Thread nD τ).loc main_arg2)))
    (shapeCast S4096x2048 (res_main_v51 m c : S4096x2048.Idx → EReal) shapeCasts_S4096x2048_S4096x2048)) bitsLt_bf16_f32 := by
  unfold res_main_v58 res_main_v51; rfl

theorem fold_g (c : Dev nD) : (res_main_v57 m c : S1x2048.Idx → EReal) = (shapeCast S1x2048 (Host.reduceAdd (F := Ideal)
    (mulf (φ := .f32) (shapeCast S4096x2048 (res_main_v51 m c : S4096x2048.Idx → EReal) shapeCasts_S4096x2048_S4096x2048)
      (m ((c.tc : Thread nD τ).loc main_arg1)))
    (constant S_ .f32 0x00000000#32) reducesTo_S4096x2048_S2048_d0 h_S_) shapeCasts_S2048_S1x2048) := by
  unfold res_main_v57 res_main_v51; rfl

/-- The reference's six results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v51) = (fun j => ((total half (A c) (j 0) (j 1) : ℝ) : EReal))
      ∧ r.2.mem ((c.tc : Thread nD τ).loc main_v58) = (fun j => ((gradO half (A c) (j 0) (j 1) : ℝ) : EReal))
      ∧ r.2.mem ((c.tc : Thread nD τ).loc main_v26) = (fun j => ((gradShift (A c).dy (j 1) : ℝ) : EReal))
      ∧ r.2.mem ((c.tc : Thread nD τ).loc main_v29) = (fun j => ((gradSc half (A c) (j 1) : ℝ) : EReal))
      ∧ r.2.mem ((c.tc : Thread nD τ).loc main_v34) = (fun j => ((gradNw half (A c) (j 1) : ℝ) : EReal))
      ∧ r.2.mem ((c.tc : Thread nD τ).loc main_v57) = (fun j => ((gradG half (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ?_) (run m ρ)
  obtain ⟨h0, h1, h2, h3, h4, h5, h6⟩ := hr c
  refine ⟨h0.trans (funext fun j => ?_), h1.trans (funext fun j => ?_), h2.trans (funext fun j => ?_),
    h3.trans (funext fun j => ?_), h4.trans (funext fun j => ?_), h5.trans (funext fun j => ?_), h6⟩
  · idx_vars j
    exact total_at h c j0 j1
  · refine (congrFun (fold_o c) j).trans ?_
    rw [h.g]
    idx_vars j
    pointwise []
    simp only [total_at h c, ofBits_half, ← EReal.coe_mul]
    refine congrArg _ ?_
    simp only [gradO, half]
    show _ = total _ _ j0 j1 * _
    ring
  · rw [h.dy]
    idx_vars j
    pointwise []
    simp only [coe_sum]
    rfl
  · rw [h.res, h.o, h.g, h.nw, h.dy]
    idx_vars j
    pointwise []
    simp only [ofBits_width, ofBits_eps, ofBits_half, ← EReal.coe_one, ← EReal.coe_mul, coe_sum, div_width,
      ← EReal.coe_add, hid_at, rsqrt_row (row (hid half (A c)) _)]
    rfl
  · rw [h.res, h.o, h.g, h.sc, h.dy]
    idx_vars j
    pointwise []
    simp only [ofBits_width, ofBits_eps, ofBits_half, ← EReal.coe_one, ← EReal.coe_mul, coe_sum, div_width,
      ← EReal.coe_add, hid_at, rsqrt_row (row (hid half (A c)) _)]
    rfl
  · refine (congrFun (fold_g c) j).trans ?_
    rw [h.o]
    idx_vars j
    pointwise []
    simp only [total_at h c, ofBits_half, ← EReal.coe_mul, coe_sum]
    refine congrArg _ ?_
    simp only [gradG, half]
    show _ = ∑ a, total _ _ a j1 * _ * _
    simp only [mul_one, ← Finset.sum_mul]
    skip

end Cert.Norm3RefIdeal.Eqn

end
-- ==== Proof.Norm3Kernel.lean ====
/- What the kernel of the third norm's gradient computes on finite arguments: a tile of rows at a time, the four
   column sums carried from tile to tile. -/
module

public import proofs.«01_k».proof.Proof.BelowMath
public import proofs.«01_k».proof.Proof.Gen.Norm3Ideal.Value

@[expose] public section

set_option maxRecDepth 16384

noncomputable section

namespace Cert.Norm3Ideal.Eqn

open Cert.Norm3Ideal Cert.Norm3Ideal.Gen
open Idealize.ShloMosaic Idealize.ShloMosaic.TcCoe Idealize.SL.Sem
open Cert.NormMath Cert.BelowMath Cert.RealLift

variable (m : (ℓ : Loc nD τ sig) → Buf (Elt Ideal) ℓ) (A : Dev nD → Args)

/-- The factor on the branch's gate. -/
def half : ℝ := 1

/-- The arguments hold the named real arrays. -/
structure Holds : Prop where
  res : ∀ c : Dev nD, m ((c.tc : Thread nD τ).loc main_arg0) = fun i => (((A c).res i : ℝ) : EReal)
  o : ∀ c : Dev nD, m ((c.tc : Thread nD τ).loc main_arg1) = fun i => (((A c).o i : ℝ) : EReal)
  g : ∀ c : Dev nD, m ((c.tc : Thread nD τ).loc main_arg2) = fun i => (((A c).g i : ℝ) : EReal)
  nw : ∀ c : Dev nD, m ((c.tc : Thread nD τ).loc main_arg3) = fun i => (((A c).nw i : ℝ) : EReal)
  sc : ∀ c : Dev nD, m ((c.tc : Thread nD τ).loc main_arg4) = fun i => (((A c).sc i : ℝ) : EReal)
  dh : ∀ c : Dev nD, m ((c.tc : Thread nD τ).loc main_arg6) = fun i => (((A c).dh i : ℝ) : EReal)
  dy : ∀ c : Dev nD, m ((c.tc : Thread nD τ).loc main_arg7) = fun i => (((A c).dy i : ℝ) : EReal)

/-- The residual sum the kernel is handed. -/
theorem entry_h (c : Dev nD) : (V m c main_v2 : S4096x2048.Idx → EReal) =
    addf (F := Ideal) (φ := .f32) (m ((c.tc : Thread nD τ).loc main_arg0)) (mulf (broadcastInDim S4096x2048 ![0, 1] bcast_S1x2048_S4096x2048_0_1 (m ((c.tc : Thread nD τ).loc main_arg2))) (m ((c.tc : Thread nD τ).loc main_arg1))) := by
  unfold_abbrev_sides
  try simp only [List.flatten_cons, List.flatten_nil, List.append_nil, List.cons_append, List.nil_append]
  after_results_simp

theorem entry_o (c : Dev nD) : (V m c main_v3 : S4096x2048.Idx → EReal)
    = truncf (F := Ideal) .bf16 (m ((c.tc : Thread nD τ).loc main_arg1)) bitsLt_bf16_f32 := by
  unfold_abbrev_sides
  try simp only [List.flatten_cons, List.flatten_nil, List.append_nil, List.cons_append, List.nil_append]
  after_results_simp

/-- Every window's block index at a point of the grid. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![0, 0] :=
  (by decide +kernel : ∀ t : Fin grid0.N, _)

/-- One tile's rows of the residual sum's gradient. -/
theorem pay_dx (x dy dh : S256x2048.Idx → EReal) (nw sc : S1x2048.Idx → EReal) (j0 : Fin 256) (j1 : Fin 2048)
    (x' g : Fin 2048 → ℝ) (hx : ∀ k, x (ix2 j0 k) = ((x' k : ℝ) : EReal))
    (hg : ∀ k, dy (ix2 j0 k) * (nw (ix2 0 k) * (1 + sc (ix2 0 k))) = ((g k : ℝ) : EReal)) :
    k0_pay7 (F := Ideal) dy x dh nw sc (ix2 j0 j1) = dh (ix2 j0 j1) + ((dxKernel x' g j1 : ℝ) : EReal) := by
  pointwise [k0_pay7, k0_pay6, k0_pay5, k0_pay3]
  simp only [hg, hx, ofBits_width, ofBits_eps, ← EReal.coe_mul, coe_sum, div_width, ← EReal.coe_add, rsqrt_row x',
    ← EReal.coe_sub]
  rfl

/-- A row of the normalised tile. -/
theorem pay_xhat (x : S256x2048.Idx → EReal) (j0 : Fin 256) (j1 : Fin 2048)
    (x' : Fin 2048 → ℝ) (hx : ∀ k, x (ix2 j0 k) = ((x' k : ℝ) : EReal)) :
    k0_pay6 (F := Ideal) x (ix2 j0 j1) = ((x' j1 * rinv x' : ℝ) : EReal) := by
  pointwise [k0_pay6, k0_pay5, k0_pay3]
  simp only [hx, ofBits_width, ofBits_eps, ← EReal.coe_mul, coe_sum, div_width, ← EReal.coe_add, rsqrt_row x']

variable {m A}

/-- The array's row that is row `a` of tile `t`. -/
def rowOf (t : Fin cfg0.N) (a : Fin 256) : Fin 4096 :=
  ⟨t.val * 256 + a.val, by
    have : t.val < 16 := lt_of_lt_of_eq t.isLt N_0
    omega⟩

theorem blk_dy (h : Holds m A) (c : Dev nD) (t : Fin cfg0.N) (a : Fin 256) (k : Fin 2048) :
    iblk m c 0 t (ix2 a k) = (((A c).dy (ix2 (rowOf t a) k) : ℝ) : EReal) := by
  refine Eq.trans ?_ (congrFun (h.dy c) (ix2 (rowOf t a) k))
  blk_point [iblk, V, idx_val t]; rfl

theorem blk_h (h : Holds m A) (c : Dev nD) (t : Fin cfg0.N) (a : Fin 256) (k : Fin 2048) :
    iblk m c 1 t (ix2 a k) = ((row (hid half (A c)) (rowOf t a) k : ℝ) : EReal) := by
  have e : (V m c main_v2 : S4096x2048.Idx → EReal) (ix2 (rowOf t a) k) = ((hid half (A c) (ix2 (rowOf t a) k) : ℝ) : EReal) := by
    rw [entry_h, h.res, h.o, h.g]
    pointwise []
    simp only [ofBits_half, ← EReal.coe_mul, ← EReal.coe_add]
    refine congrArg _ ?_
    simp [hid, half]
  refine Eq.trans ?_ e
  blk_point [iblk, idx_val t]; rfl

theorem blk_dh (h : Holds m A) (c : Dev nD) (t : Fin cfg0.N) (a : Fin 256) (k : Fin 2048) :
    iblk m c 2 t (ix2 a k) = (((A c).dh (ix2 (rowOf t a) k) : ℝ) : EReal) := by
  refine Eq.trans ?_ (congrFun (h.dh c) (ix2 (rowOf t a) k))
  blk_point [iblk, V, idx_val t]; rfl

theorem blk_o (h : Holds m A) (c : Dev nD) (t : Fin cfg0.N) (a : Fin 256) (k : Fin 2048) :
    iblk m c 3 t (ix2 a k) = (((A c).o (ix2 (rowOf t a) k) : ℝ) : EReal) := by
  have e : (V m c main_v3 : S4096x2048.Idx → EReal) (ix2 (rowOf t a) k) = (((A c).o (ix2 (rowOf t a) k) : ℝ) : EReal) := by
    rw [entry_o, h.o]
    pointwise []
  refine Eq.trans ?_ e
  blk_point [iblk, idx_val t]; rfl

theorem blk_nw (h : Holds m A) (c : Dev nD) (t : Fin cfg0.N) (k : Fin 2048) :
    iblk m c 4 t (ix2 0 k) = (((A c).nw (ix2 0 k) : ℝ) : EReal) := by
  refine Eq.trans ?_ (congrFun (h.nw c) (ix2 0 k))
  blk_point [iblk, V, idx_val t]

theorem blk_sc (h : Holds m A) (c : Dev nD) (t : Fin cfg0.N) (k : Fin 2048) :
    iblk m c 5 t (ix2 0 k) = (((A c).sc (ix2 0 k) : ℝ) : EReal) := by
  refine Eq.trans ?_ (congrFun (h.sc c) (ix2 0 k))
  blk_point [iblk, V, idx_val t]

theorem blk_g (h : Holds m A) (c : Dev nD) (t : Fin cfg0.N) (k : Fin 2048) :
    iblk m c 6 t (ix2 0 k) = (((A c).g (ix2 0 k) : ℝ) : EReal) := by
  refine Eq.trans ?_ (congrFun (h.g c) (ix2 0 k))
  blk_point [iblk, V, idx_val t]

/-- The residual sum's gradient, as tile `t` computes it. -/
abbrev tile (m : (ℓ : Loc nD τ sig) → Buf (Elt Ideal) ℓ) (c : Dev nD) (t : Fin cfg0.N) : S256x2048.Idx → EReal :=
  k0_pay7 (F := Ideal) (iblk m c 0 t) (iblk m c 1 t) (iblk m c 2 t) (iblk m c 4 t) (iblk m c 5 t)

/-- Each of its rows is the chain rule's. -/
theorem tile_at (h : Holds m A) (c : Dev nD) (t : Fin cfg0.N) (a : Fin 256) (k : Fin 2048) :
    tile m c t (ix2 a k) = ((total half (A c) (rowOf t a) k : ℝ) : EReal) := by
  rw [tile, pay_dx _ _ _ _ _ _ _ (row (hid half (A c)) (rowOf t a)) (gRow (A c).dy (A c).nw (A c).sc (rowOf t a))
      (blk_h h c t a) (fun k => ?_), blk_dh h, dx_eq, ← EReal.coe_add]
  · rfl
  · rw [blk_dy h, blk_nw h, blk_sc h]
    simp only [← EReal.coe_one, ← EReal.coe_mul, ← EReal.coe_add, gRow]
    congr 1; ring

theorem emb_dh (t : Fin cfg0.N) (a : Fin 256) (k : Fin 2048) :
    ((View.whole main_v4_0).slice (win0_7.rect t)).emb (ix2 a k) = ix2 (rowOf t a) k := by
  blk_ext! [idx_val t]; rfl

theorem emb_do (t : Fin cfg0.N) (a : Fin 256) (k : Fin 2048) :
    ((View.whole main_v4_1).slice (win0_8.rect t)).emb (ix2 a k) = ix2 (rowOf t a) k := by
  blk_ext! [idx_val t]; rfl

theorem tile_dh (h : Holds m A) (c : Dev nD) (t : Fin cfg0.N) (y : S256x2048.Idx) :
    tile m c t y = ((total half (A c) (((View.whole main_v4_0).slice (win0_7.rect t)).emb y 0)
          (((View.whole main_v4_0).slice (win0_7.rect t)).emb y 1) : ℝ) : EReal) := by
  idx_vars y
  rw [tile_at h, emb_dh]; rfl

theorem tile_do (h : Holds m A) (c : Dev nD) (t : Fin cfg0.N) (y : S256x2048.Idx) :
    k0_pay12 (F := Ideal) (iblk m c 6 t) (tile m c t) y =
      ((gradO half (A c) (((View.whole main_v4_1).slice (win0_8.rect t)).emb y 0)
          (((View.whole main_v4_1).slice (win0_8.rect t)).emb y 1) : ℝ) : EReal) := by
  idx_vars y
  rw [emb_do]
  pointwise [k0_pay12]
  rw [tile_at h, blk_g h]
  simp only [ofBits_half, ← EReal.coe_mul, gradO]
  refine congrArg _ ?_
  simp [half, rowOf]

/-- The residual sum's gradient after the last tile. -/
theorem final_7 (h : Holds m A) (c : Dev nD) : (dats m 0 c).arrAt 7 (cfgs 0).N =
    fun j => ((total half (A c) (j 0) (j 1) : ℝ) : EReal) := by
  refine (dats m 0 c).arrAt_eq_of_covers 7 _ (by decide +kernel) fun t hf y => ?_
  blk_simp; rw [after0_7]
  by_cases h0 : t.val % 16 = 0
  · rw [outsAt0_A m c t h0]; dsimp only; frame_out; exact tile_dh h c t y
  · rw [outsAt0_B m c t h0]; dsimp only; frame_out; exact tile_dh h c t y

/-- The branch output's gradient after the last tile. -/
theorem final_8 (h : Holds m A) (c : Dev nD) : (dats m 0 c).arrAt 8 (cfgs 0).N =
    fun j => ((gradO half (A c) (j 0) (j 1) : ℝ) : EReal) := by
  refine (dats m 0 c).arrAt_eq_of_covers 8 _ (by decide +kernel) fun t hf y => ?_
  blk_simp; rw [after0_8]
  by_cases h0 : t.val % 16 = 0
  · rw [outsAt0_A m c t h0]; dsimp only; frame_out; exact tile_do h c t y
  · rw [outsAt0_B m c t h0]; dsimp only; frame_out; exact tile_do h c t y

/-! A carried sum starts at zero … -/

theorem zero_9 (j : S1x2048.Idx) : k0_pay13 (F := Ideal) j = 0 := by pointwise! [k0_pay13]
theorem zero_10 (j : S1x2048.Idx) : k0_pay14 (F := Ideal) j = 0 := by pointwise! [k0_pay14]
theorem zero_11 (j : S1x2048.Idx) : k0_pay15 (F := Ideal) j = 0 := by pointwise! [k0_pay15]
theorem zero_12 (j : S1x2048.Idx) : k0_pay16 (F := Ideal) j = 0 := by pointwise! [k0_pay16]

/-! … and each tile adds its own part. -/

theorem step_9 (p v : FVec Ideal S1x2048 .f32) (j : S1x2048.Idx) : k0_pay17 p v j = v j + p j := by pointwise [k0_pay17]
theorem step_10 (nw : FVec Ideal S1x2048 .f32) (q : FVec Ideal S256x2048 .f32) (v : FVec Ideal S1x2048 .f32)
    (j : S1x2048.Idx) : k0_pay18 nw q v j = v j + k0_pay18 nw q (fun _ => 0) j := by pointwise [k0_pay18]
theorem step_11 (p v : FVec Ideal S1x2048 .f32) (j : S1x2048.Idx) : k0_pay1 p v j = v j + p j := by pointwise [k0_pay1]
theorem step_12 (p v : FVec Ideal S1x2048 .f32) (j : S1x2048.Idx) : k0_pay2 p v j = v j + p j := by pointwise [k0_pay2]

/-- The shift's gradient after the last tile. -/
theorem final_9 (h : Holds m A) (c : Dev nD) : (dats m 0 c).arrAt 9 (cfgs 0).N =
    fun j => ((gradShift (A c).dy (j 1) : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0) _
    (fun t h j => by rw [outsAt0_A m c t h]; frame_out; rw [step_9, zero_9])
    (fun t h j => by rw [outsAt0_B m c t h]; frame_out; rw [step_9])
    (le_of_eq N_0) t0_15 rfl j, zero_add]
  idx_vars j
  pointwise [k0_pay8]
  rw [gradShift, ← coe_sum]
  exact Fin.sum_mul_add_congr fun s k hl => blk_dy h c s k j1

/-- The scale's gradient after the last tile. -/
theorem final_10 (h : Holds m A) (c : Dev nD) : (dats m 0 c).arrAt 10 (cfgs 0).N =
    fun j => ((gradSc half (A c) (j 1) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) _
    (fun t h j => by rw [outsAt0_A m c t h]; frame_out; rw [step_10, zero_10])
    (fun t h j => by rw [outsAt0_B m c t h]; frame_out; rw [step_10])
    (le_of_eq N_0) t0_15 rfl j, zero_add]
  idx_vars j
  pointwise [k0_pay18, k0_pay9]
  rw [gradSc, gradScale, ← coe_sum]
  refine Fin.sum_mul_add_congr fun s k hl => ?_
  rw [pay_xhat _ _ _ _ (blk_h h c s k), blk_dy h, blk_nw h, ← EReal.coe_mul, ← EReal.coe_mul]
  refine congrArg _ (?_ : _ = row (hid half (A c)) (rowOf s k) j1 * rinv (row (hid half (A c)) (rowOf s k))
    * (A c).nw (ix2 0 j1) * (A c).dy (ix2 (rowOf s k) j1))
  ring

/-- The weight's gradient after the last tile. -/
theorem final_11 (h : Holds m A) (c : Dev nD) : (dats m 0 c).arrAt 11 (cfgs 0).N =
    fun j => ((gradNw half (A c) (j 1) : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0) _
    (fun t h j => by rw [outsAt0_A m c t h]; frame_out; rw [step_11, zero_11])
    (fun t h j => by rw [outsAt0_B m c t h]; frame_out; rw [step_11])
    (le_of_eq N_0) t0_15 rfl j, zero_add]
  idx_vars j
  pointwise [k0_pay10]
  rw [gradNw, gradWeight, ← coe_sum]
  refine Fin.sum_mul_add_congr fun s k hl => ?_
  rw [pay_xhat _ _ _ _ (blk_h h c s k), blk_dy h, blk_sc h, ← EReal.coe_one, ← EReal.coe_add, ← EReal.coe_mul,
    ← EReal.coe_mul]
  refine congrArg _ (?_ : _ = row (hid half (A c)) (rowOf s k) j1 * rinv (row (hid half (A c)) (rowOf s k))
    * ((A c).dy (ix2 (rowOf s k) j1) * (1 + (A c).sc (ix2 0 j1))))
  ring

/-- The gate's gradient after the last tile. -/
theorem final_12 (h : Holds m A) (c : Dev nD) : (dats m 0 c).arrAt 12 (cfgs 0).N =
    fun j => ((gradG half (A c) (j 1) : ℝ) : EReal) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0) _
    (fun t h j => by rw [outsAt0_A m c t h]; frame_out; rw [step_12, zero_12])
    (fun t h j => by rw [outsAt0_B m c t h]; frame_out; rw [step_12])
    (le_of_eq N_0) t0_15 rfl j, zero_add]
  idx_vars j
  pointwise [k0_pay11, k0_pay4]
  rw [gradG, ← coe_sum]
  refine Fin.sum_mul_add_congr fun s k hl => ?_
  have e := tile_at h c s k j1
  rw [tile] at e
  rw [e, blk_o h]
  simp only [ofBits_half, ← EReal.coe_one, ← EReal.coe_mul]
  refine congrArg _ ?_
  simp [half, rowOf]

/-- The kernel's six results, in reals. -/
theorem run_real (ρ : Dev nD → PrngReg) (h : Holds m A) :
    θ_run defs (onTc (τ := τ) (main (F := Ideal))) ⟨m, fun _ => 0, ρ⟩ fun r => ∀ c : Dev nD,
      r.2.mem ((c.tc : Thread nD τ).loc main_v4_0) = (fun j => ((total half (A c) (j 0) (j 1) : ℝ) : EReal))
      ∧ r.2.mem ((c.tc : Thread nD τ).loc main_v4_1) = (fun j => ((gradO half (A c) (j 0) (j 1) : ℝ) : EReal))
      ∧ r.2.mem ((c.tc : Thread nD τ).loc main_v4_2) = (fun j => ((gradShift (A c).dy (j 1) : ℝ) : EReal))
      ∧ r.2.mem ((c.tc : Thread nD τ).loc main_v4_3) = (fun j => ((gradSc half (A c) (j 1) : ℝ) : EReal))
      ∧ r.2.mem ((c.tc : Thread nD τ).loc main_v4_4) = (fun j => ((gradNw half (A c) (j 1) : ℝ) : EReal))
      ∧ r.2.mem ((c.tc : Thread nD τ).loc main_v4_5) = (fun j => ((gradG half (A c) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r hr c => ?_) (Cert.Norm3Ideal.Value.run_blocks m ρ)
  have := hr c
  rw [final_7 h, final_8 h, final_9 h, final_10 h, final_11 h, final_12 h] at this
  exact this

end Cert.Norm3Ideal.Eqn

end
-- ==== Proof.Norm3Claim.lean ====
/- The third norm's gradient: the kernel and the reference compute one function of finite arguments. -/
module

public import proofs.«01_k».proof.Defs
public import proofs.«01_k».proof.Proof.Norm3Ref
public import proofs.«01_k».proof.Proof.Norm3Kernel
public import proofs.«01_k».proof.Proof.Gen.Pre_norm3_finite
public import Idealize.ShloMosaic.Adequacy

@[expose] public section

noncomputable section

namespace Cert.Norm3Claim

open Idealize.ShloMosaic Idealize.ShloMosaic.TcCoe Idealize.SL.Sem
open Cert.Norm3Ideal Cert.RealLift Cert.BelowMath

/-- The reference runs, faults nowhere and leaves its arguments alone. -/
theorem frame_ref : Cert.quiescent_Norm3RefIdeal := by
  intro m ρ _
  exact (θ_run _ _ _).mono (fun r h => ⟨fun c => (h c).2.2.2.2.2.2, sem_eq_zero_of_no_sems (by decide) r.2⟩)
    (Cert.Norm3RefIdeal.Value.run (F := Ideal) m ρ)

/-- Finite arguments are real arrays. -/
theorem holds_of_finite (m : (ℓ : Loc nD τ sig) → Buf (Elt Ideal) ℓ) (h : Cert.Pre_Norm3Ideal_norm3_finite m) :
    ∃ A, Cert.Norm3Ideal.Eqn.Holds m A := by
  choose RES h_res using fun c : Dev nD => exists_real (m ((c.tc : Thread nD τ).loc main_arg0)) _ ofBits_inf fun i => congrFun (h c).1 i
  choose O h_o using fun c : Dev nD => exists_real (m ((c.tc : Thread nD τ).loc main_arg1)) _ ofBits_inf fun i => congrFun (h c).2.1 i
  choose G h_g using fun c : Dev nD => exists_real (m ((c.tc : Thread nD τ).loc main_arg2)) _ ofBits_inf fun i => congrFun (h c).2.2.1 i
  choose NW h_nw using fun c : Dev nD => exists_real (m ((c.tc : Thread nD τ).loc main_arg3)) _ ofBits_inf fun i => congrFun (h c).2.2.2.1 i
  choose SC h_sc using fun c : Dev nD => exists_real (m ((c.tc : Thread nD τ).loc main_arg4)) _ ofBits_inf fun i => congrFun (h c).2.2.2.2.1 i
  choose DH h_dh using fun c : Dev nD => exists_real (m ((c.tc : Thread nD τ).loc main_arg6)) _ ofBits_inf fun i => congrFun (h c).2.2.2.2.2.1 i
  choose DY h_dy using fun c : Dev nD => exists_real (m ((c.tc : Thread nD τ).loc main_arg7)) _ ofBits_inf fun i => congrFun (h c).2.2.2.2.2.2 i
  exact ⟨fun c => ⟨RES c, O c, DH c, DY c, NW c, SC c, G c⟩, h_res, h_o, h_g, h_nw, h_sc, h_dh, h_dy⟩

/-- The value claim. -/
theorem algebraic : Cert.algebraic_Norm3Ideal_Norm3RefIdeal_pre_norm3_finite := by
  intro m g m' g' hpre heq
  obtain ⟨A, h⟩ := holds_of_finite m hpre
  exact ⟨_, _, _, _, _, _, Eqn.run_real g h, Cert.Norm3RefIdeal.Eqn.run_real (A := A) g'
    { res := fun c => (heq c).1.trans (h.res c), o := fun c => (heq c).2.1.trans (h.o c), g := fun c => (heq c).2.2.1.trans (h.g c), nw := fun c => (heq c).2.2.2.1.trans (h.nw c), sc := fun c => (heq c).2.2.2.2.1.trans (h.sc c), dh := fun c => (heq c).2.2.2.2.2.2.1.trans (h.dh c), dy := fun c => (heq c).2.2.2.2.2.2.2.trans (h.dy c) }⟩

end Cert.Norm3Claim

end
-- ==== Proof.NormRef.lean ====
/- What the reference of the modulated norm computes. -/
module

public import proofs.«01_k».proof.Proof.FwdMath
public import proofs.«01_k».proof.Proof.Gen.NormRefIdeal.Run

@[expose] public section

set_option maxRecDepth 16384

noncomputable section

namespace Cert.NormRefIdeal.Eqn

open Cert.NormRefIdeal Cert.NormRefIdeal.Gen Cert.NormRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v18) = (fun j => modulated (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run m ρ)
  obtain ⟨h0, hk⟩ := hr c
  refine ⟨h0.trans (funext fun j => ?_), hk⟩
  idx_vars j
  pointwise []
  rfl

end Cert.NormRefIdeal.Eqn

end
-- ==== Proof.NormKernel.lean ====
/- What the kernel of the modulated norm computes: a tile of rows at a time. -/
module

public import proofs.«01_k».proof.Proof.FwdMath
public import proofs.«01_k».proof.Proof.Gen.NormIdeal.Value

@[expose] public section

set_option maxRecDepth 16384

noncomputable section

namespace Cert.NormIdeal.Eqn

open Cert.NormIdeal Cert.NormIdeal.Gen
open Idealize.ShloMosaic Idealize.ShloMosaic.TcCoe Idealize.SL.Sem
open Cert.FwdMath

variable (m : (ℓ : Loc nD τ sig) → Buf (Elt Ideal) ℓ)

/-- Every window's block index at a point of the grid. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The array's row that is row `a` of tile `t`. -/
def rowOf (t : Fin cfg0.N) (a : Fin 256) : Fin 4096 :=
  ⟨t.val * 256 + a.val, by
    have : t.val < 16 := lt_of_lt_of_eq t.isLt N_0
    omega⟩

/-- The blocks at coordinates. -/
theorem blk_x (c : Dev nD) (t : Fin cfg0.N) (a : Fin 256) (k : Fin 2048) :
    iblk m c 0 t (ix2 a k) = m ((c.tc : Thread nD τ).loc main_arg0) (ix2 (rowOf t a) k) := by
  blk_point [iblk, V, idx_val t]; rfl
theorem blk_nw (c : Dev nD) (t : Fin cfg0.N) (k : Fin 2048) :
    iblk m c 1 t (ix2 0 k) = m ((c.tc : Thread nD τ).loc main_arg1) (ix2 0 k) := by
  blk_point [iblk, V, idx_val t]
theorem blk_sc (c : Dev nD) (t : Fin cfg0.N) (k : Fin 2048) :
    iblk m c 2 t (ix2 0 k) = m ((c.tc : Thread nD τ).loc main_arg2) (ix2 0 k) := by
  blk_point [iblk, V, idx_val t]
theorem blk_sh (c : Dev nD) (t : Fin cfg0.N) (k : Fin 2048) :
    iblk m c 3 t (ix2 0 k) = m ((c.tc : Thread nD τ).loc main_arg3) (ix2 0 k) := by
  blk_point [iblk, V, idx_val t]

/-- The result after the last tile. -/
theorem final_4 (c : Dev nD) : (dats m 0 c).arrAt 4 (cfgs 0).N =
    fun j => modulated (m ((c.tc : Thread nD τ).loc main_arg0)) (m ((c.tc : Thread nD τ).loc main_arg1)) (m ((c.tc : Thread nD τ).loc main_arg2)) (m ((c.tc : Thread nD τ).loc main_arg3)) (j 0) (j 1) := by
  refine (dats m 0 c).arrAt_eq_of_covers 4 _ (by decide +kernel) fun t hf y => ?_
  blk_simp; rw [after0_4]; frame_out
  have e : ((View.whole main_v0).slice (win0_4.rect t)).emb y = ix2 (rowOf t (y 0)) (y 1) := by
    blk_ext! [idx_val t]
    all_goals rfl
  rw [e]
  idx_vars y
  pointwise [k0_pay1]
  simp only [blk_x, blk_nw, blk_sc, blk_sh]
  rfl

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = (fun j => modulated (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.NormIdeal.Value.run_blocks m ρ)
  have := hr c
  rw [final_4] at this
  exact this

end Cert.NormIdeal.Eqn

end
-- ==== Proof.NormClaim.lean ====
/- The modulated norm: the kernel and the reference compute one function of any arguments. -/
module

public import proofs.«01_k».proof.Defs
public import proofs.«01_k».proof.Proof.NormRef
public import proofs.«01_k».proof.Proof.NormKernel
public import Idealize.ShloMosaic.Adequacy

@[expose] public section

noncomputable section

namespace Cert.NormClaim

open Idealize.ShloMosaic Idealize.ShloMosaic.TcCoe Idealize.SL.Sem
open Cert.NormIdeal

/-- The reference runs, faults nowhere and leaves its arguments alone. -/
theorem frame_ref : Cert.quiescent_NormRefIdeal := by
  intro m ρ _
  exact (θ_run _ _ _).mono (fun r h => ⟨fun c => (h c).2, sem_eq_zero_of_no_sems (by decide) r.2⟩)
    (Cert.NormRefIdeal.Value.run (F := Ideal) m ρ)

/-- The value claim. -/
theorem algebraic : Cert.algebraic_NormIdeal_NormRefIdeal := by
  intro m g m' g' hpre heq
  refine ⟨_, Eqn.run_value m g, (θ_run _ _ _).mono (fun r hr c => ?_) (Cert.NormRefIdeal.Eqn.run_value m' g')⟩
  obtain ⟨h0, hk⟩ := hr c
  refine ⟨h0.trans ?_, hk⟩
  · rw [(heq c).1, (heq c).2.1, (heq c).2.2.1, (heq c).2.2.2]
    rfl

end Cert.NormClaim

end
-- ==== Proof.ResidRef.lean ====
/- What the reference of the residual sum computes. -/
module

public import proofs.«01_k».proof.Proof.FwdMath
public import proofs.«01_k».proof.Proof.Gen.ResidRefIdeal.Run

@[expose] public section

set_option maxRecDepth 16384

noncomputable section

namespace Cert.ResidRefIdeal.Eqn

open Cert.ResidRefIdeal Cert.ResidRefIdeal.Gen Cert.ResidRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v2) = (fun j => prod (m ((c.tc : Thread nD τ).loc main_arg0)) (m ((c.tc : Thread nD τ).loc main_arg1)) (j 1) (j 2))
      ∧ r.2.mem ((c.tc : Thread nD τ).loc main_v8) = (fun j => residual (m ((c.tc : Thread nD τ).loc main_arg0)) (m ((c.tc : Thread nD τ).loc main_arg1)) (m ((c.tc : Thread nD τ).loc main_arg2)) (m ((c.tc : Thread nD τ).loc main_arg3)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run m ρ)
  obtain ⟨h0, h1, hk⟩ := hr c
  refine ⟨h0.trans (funext fun j => ?_), h1.trans (funext fun j => ?_), hk⟩
  all_goals
    idx_vars j
    pointwise []
    rfl

end Cert.ResidRefIdeal.Eqn

end
-- ==== Proof.ResidKernel.lean ====
/- What the kernel of the residual sum computes: the product with the output weight, then the sum, one tile at a time. -/
module

public import proofs.«01_k».proof.Proof.FwdMath
public import proofs.«01_k».proof.Proof.Gen.ResidIdeal.Value

@[expose] public section

set_option maxRecDepth 16384

noncomputable section

namespace Cert.ResidIdeal.Eqn

open Cert.ResidIdeal Cert.ResidIdeal.Gen
open Idealize.ShloMosaic Idealize.ShloMosaic.TcCoe Idealize.SL.Sem
open Cert.FwdMath

variable (m : (ℓ : Loc nD τ sig) → Buf (Elt Ideal) ℓ)

/-- The rows, the weight and the residual the kernel is handed. -/
theorem entry_act (c : Dev nD) : (V m c main_v1 : S1x4096x5632.Idx → EReal) =
    broadcastInDim S1x4096x5632 ![1, 2] bcast_S4096x5632_S1x4096x5632_1_2 (truncf (F := Ideal) .bf16 (m ((c.tc : Thread nD τ).loc main_arg0)) bitsLt_bf16_f32) := by
  unfold_abbrev_sides
  try simp only [List.flatten_cons, List.flatten_nil, List.append_nil, List.cons_append, List.nil_append]
  after_results_simp
  try rfl

theorem entry_w (c : Dev nD) : (V m c main_v4 : S1x5632x2048.Idx → EReal) =
    shapeCast S1x5632x2048 (shapeCast S8x704x2048 (truncf (F := Ideal) .bf16 (m ((c.tc : Thread nD τ).loc main_arg1)) bitsLt_bf16_f32) shapeCasts_S5632x2048_S8x704x2048)
      shapeCasts_S8x704x2048_S1x5632x2048 := by
  unfold_abbrev_sides
  try simp only [List.flatten_cons, List.flatten_nil, List.append_nil, List.cons_append, List.nil_append]
  after_results_simp
  try rfl

theorem entry_res (c : Dev nD) : (V m c main_v5 : S1x4096x2048.Idx → EReal) =
    broadcastInDim S1x4096x2048 ![1, 2] bcast_S4096x2048_S1x4096x2048_1_2 (m ((c.tc : Thread nD τ).loc main_arg2)) := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, t.val % 8, 0]
    ∧ win0_1.index t = ![0, 0, t.val / 8]
    ∧ win0_2.index t = ![0, t.val % 8, t.val / 8]
    ∧ win0_3.index t = ![0, t.val / 8]
    ∧ win0_4.index t = ![0, t.val % 8, t.val / 8]
    ∧ win0_5.index t = ![0, t.val % 8, t.val / 8] :=
  (by decide +kernel : ∀ t : Fin grid0.N, _)

/-- The array's row and column that are row `a` and column `n` of tile `t`. -/
def rowOf (t : Fin cfg0.N) (a : Fin 512) : Fin 4096 := ⟨t.val % 8 * 512 + a.val, by omega⟩
def colOf (t : Fin cfg0.N) (n : Fin 1024) : Fin 2048 :=
  ⟨t.val / 8 * 1024 + n.val, by
    have : t.val < 16 := lt_of_lt_of_eq t.isLt N_0
    omega⟩

/-- The weight at coordinates. -/
theorem w_at (c : Dev nD) (k : Fin 5632) (n : Fin 2048) :
    (V m c main_v4 : S1x5632x2048.Idx → EReal) (ix3 0 k n) = m ((c.tc : Thread nD τ).loc main_arg1) (ix2 k n) := by
  rw [entry_w, shapeCast_comp, shapeCast_addUnit_apply]
  refine congrArg (m ((c.tc : Thread nD τ).loc main_arg1)) (funext fun q => ?_)
  fin_cases q <;> rfl

/-- The blocks at coordinates: a tile of rows. -/
theorem blk_act (c : Dev nD) (t : Fin cfg0.N) (a : Fin 512) (k : Fin 5632) :
    iblk m c 0 t (ix3 0 a k) = m ((c.tc : Thread nD τ).loc main_arg0) (ix2 (rowOf t a) k) := by
  have e : (V m c main_v1 : S1x4096x5632.Idx → EReal) (ix3 0 (rowOf t a) k) = m ((c.tc : Thread nD τ).loc main_arg0) (ix2 (rowOf t a) k) := by
    rw [entry_act]
    pointwise []
  refine Eq.trans ?_ e
  blk_point [iblk, idx_val t]
  all_goals first | rfl | (simp only [rowOf, colOf]; omega)

/-- Any weight's block at coordinates. -/
theorem read_w (f : S1x5632x2048.Idx → EReal) (t : Fin cfg0.N) (k : Fin 5632) (n : Fin 1024) :
    ((cfg0.win 1).blk t).view.read (Elt Ideal) f (ix3 0 k n) = f (ix3 0 k (colOf t n)) := by
  refine congrArg f ?_
  blk_ext! [idx_val t]
  all_goals rfl

/-- The weight's. -/
theorem blk_w (c : Dev nD) (t : Fin cfg0.N) (k : Fin 5632) (n : Fin 1024) :
    iblk m c 1 t (ix3 0 k n) = m ((c.tc : Thread nD τ).loc main_arg1) (ix2 k (colOf t n)) := by
  refine Eq.trans ?_ (w_at m c k (colOf t n))
  unfold iblk
  exact read_w (V m c main_v4) t k n

/-- The residual's. -/
theorem blk_res (c : Dev nD) (t : Fin cfg0.N) (a : Fin 512) (n : Fin 1024) :
    iblk m c 2 t (ix3 0 a n) = m ((c.tc : Thread nD τ).loc main_arg2) (ix2 (rowOf t a) (colOf t n)) := by
  have e : (V m c main_v5 : S1x4096x2048.Idx → EReal) (ix3 0 (rowOf t a) (colOf t n)) = m ((c.tc : Thread nD τ).loc main_arg2) (ix2 (rowOf t a) (colOf t n)) := by
    rw [entry_res]
    pointwise []
  refine Eq.trans ?_ e
  blk_point [iblk, idx_val t]
  all_goals first | rfl | (simp only [rowOf, colOf]; omega)

/-- The gate's. -/
theorem blk_g (c : Dev nD) (t : Fin cfg0.N) (n : Fin 1024) :
    iblk m c 3 t (ix2 0 n) = m ((c.tc : Thread nD τ).loc main_arg3) (ix2 0 (colOf t n)) := by
  blk_point [iblk, V, idx_val t]
  all_goals first | rfl | (simp only [rowOf, colOf]; omega)

/-- The product after the last tile. -/
theorem final_4 (c : Dev nD) : (dats m 0 c).arrAt 4 (cfgs 0).N =
    (fun j => prod (m ((c.tc : Thread nD τ).loc main_arg0)) (m ((c.tc : Thread nD τ).loc main_arg1)) (j 1) (j 2)) := by
  refine (dats m 0 c).arrAt_eq_of_covers 4 _ (by decide +kernel) fun t hf y => ?_
  blk_simp; rw [after0_4]; frame_out
  have e : ((View.whole main_v6_0).slice (win0_4.rect t)).emb y = ix3 0 (rowOf t (y 1)) (colOf t (y 2)) := by
    blk_ext! [idx_val t]
    all_goals rfl
  rw [e]
  idx_vars y
  pointwise [k0_pay2, k0_pay1]
  simp only [blk_act, blk_w, blk_res, blk_g]
  rfl

/-- The sum after the last tile. -/
theorem final_5 (c : Dev nD) : (dats m 0 c).arrAt 5 (cfgs 0).N =
    (fun j => residual (m ((c.tc : Thread nD τ).loc main_arg0)) (m ((c.tc : Thread nD τ).loc main_arg1)) (m ((c.tc : Thread nD τ).loc main_arg2)) (m ((c.tc : Thread nD τ).loc main_arg3)) (j 1) (j 2)) := by
  refine (dats m 0 c).arrAt_eq_of_covers 5 _ (by decide +kernel) fun t hf y => ?_
  blk_simp; rw [after0_5]; frame_out
  have e : ((View.whole main_v6_1).slice (win0_5.rect t)).emb y = ix3 0 (rowOf t (y 1)) (colOf t (y 2)) := by
    blk_ext! [idx_val t]
    all_goals rfl
  rw [e]
  idx_vars y
  pointwise [k0_pay3, k0_pay1]
  simp only [blk_act, blk_w, blk_res, blk_g]
  rfl

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v6_0) = (fun j => prod (m ((c.tc : Thread nD τ).loc main_arg0)) (m ((c.tc : Thread nD τ).loc main_arg1)) (j 1) (j 2))
      ∧ r.2.mem ((c.tc : Thread nD τ).loc main_v6_1) = (fun j => residual (m ((c.tc : Thread nD τ).loc main_arg0)) (m ((c.tc : Thread nD τ).loc main_arg1)) (m ((c.tc : Thread nD τ).loc main_arg2)) (m ((c.tc : Thread nD τ).loc main_arg3)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (Cert.ResidIdeal.Value.run_blocks m ρ)
  have := hr c
  rw [final_4, final_5] at this
  exact this

end Cert.ResidIdeal.Eqn

end
-- ==== Proof.ResidClaim.lean ====
/- The residual sum of the feed-forward: the kernel and the reference compute one function of any arguments. -/
module

public import proofs.«01_k».proof.Defs
public import proofs.«01_k».proof.Proof.ResidRef
public import proofs.«01_k».proof.Proof.ResidKernel
public import Idealize.ShloMosaic.Adequacy

@[expose] public section

noncomputable section

namespace Cert.ResidClaim

open Idealize.ShloMosaic Idealize.ShloMosaic.TcCoe Idealize.SL.Sem
open Cert.ResidIdeal

/-- The reference runs, faults nowhere and leaves its arguments alone. -/
theorem frame_ref : Cert.quiescent_ResidRefIdeal := by
  intro m ρ _
  exact (θ_run _ _ _).mono (fun r h => ⟨fun c => (h c).2.2, sem_eq_zero_of_no_sems (by decide) r.2⟩)
    (Cert.ResidRefIdeal.Value.run (F := Ideal) m ρ)

/-- The value claim. -/
theorem algebraic : Cert.algebraic_ResidIdeal_ResidRefIdeal := by
  intro m g m' g' hpre heq
  refine ⟨_, _, Eqn.run_value m g, (θ_run _ _ _).mono (fun r hr c => ?_) (Cert.ResidRefIdeal.Eqn.run_value m' g')⟩
  obtain ⟨h0, h1, hk⟩ := hr c
  refine ⟨h0.trans ?_, h1.trans ?_, hk⟩
  · rw [(heq c).1, (heq c).2.1]
    rfl
  · rw [(heq c).1, (heq c).2.1, (heq c).2.2.1, (heq c).2.2.2]
    rfl

end Cert.ResidClaim

end
-- ==== Proof.GatesSum.lean ====
/- The sum of the eight devices' parts of the two gates' gradients, over the extended reals. -/
module

public import Idealize.ShloMosaic.Lib.Pipeline.ValueKit
public import Idealize.ShloMosaic.Lib.Pointwise
public import Idealize.ShloMosaic.PureOps.Ideal.Laws

@[expose] public section

noncomputable section

namespace Cert.GatesSum

open Idealize.ShloMosaic

/-- The sum over the devices at a row and a lane. -/
def total (p : Shape.Idx ⟨3, ![8, 2048, 128]⟩ → EReal) (a : Fin 2048) (n : Fin 128) : EReal := ∑ d : Fin 8, p (ix3 d a n)

end Cert.GatesSum

end
-- ==== Proof.SumgatesRef.lean ====
/- What the reference of the sum of the gates' parts computes. -/
module

public import proofs.«01_k».proof.Proof.GatesSum
public import proofs.«01_k».proof.Proof.Gen.SumgatesRefIdeal.Run

@[expose] public section

set_option maxRecDepth 16384

noncomputable section

namespace Cert.SumgatesRefIdeal.Eqn

open Cert.SumgatesRefIdeal Cert.SumgatesRefIdeal.Gen Cert.SumgatesRefIdeal.Value
open Idealize.ShloMosaic Idealize.ShloMosaic.TcCoe Idealize.SL.Sem
open Cert.GatesSum

variable (m : (ℓ : Loc nD τ sig) → Buf (Elt Ideal) ℓ)

/-- The reference's result. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = (fun j => total (m ((c.tc : Thread nD τ).loc main_arg0)) (j 0) (j 1))
      ∧ r.2.mem ((c.tc : Thread nD τ).loc main_arg0) = m ((c.tc : Thread nD τ).loc main_arg0) := by
  refine (θ_run defs _ _).mono (fun r hr c => ?_) (run m ρ)
  obtain ⟨h0, hk⟩ := hr c
  refine ⟨h0.trans (funext fun j => ?_), hk⟩
  idx_vars j
  pointwise []
  rfl

end Cert.SumgatesRefIdeal.Eqn

end
-- ==== Proof.SumgatesKernel.lean ====
/- What the kernel of the sum of the gates' parts computes: the parts added one after another. -/
module

public import proofs.«01_k».proof.Proof.GatesSum
public import proofs.«01_k».proof.Proof.Gen.SumgatesIdeal.Value

@[expose] public section

set_option maxRecDepth 16384

noncomputable section

namespace Cert.SumgatesIdeal.Eqn

open Cert.SumgatesIdeal Cert.SumgatesIdeal.Gen
open Idealize.ShloMosaic Idealize.ShloMosaic.TcCoe Idealize.SL.Sem
open Cert.GatesSum

variable (m : (ℓ : Loc nD τ sig) → Buf (Elt Ideal) ℓ)

/-- Both windows are the whole array: the grid has one point. -/
theorem idx_val : ∀ t : Fin cfg0.N, win0_0.index t = ![0, 0, 0]
    ∧ win0_1.index t = ![0, 0] :=
  (by decide +kernel : ∀ t : Fin grid0.N, _)

/-- The parts at coordinates. -/
theorem blk_p (c : Dev nD) (t : Fin cfg0.N) (d : Fin 8) (a : Fin 2048) (n : Fin 128) :
    iblk m c 0 t (ix3 d a n) = m ((c.tc : Thread nD τ).loc main_arg0) (ix3 d a n) := by
  blk_point [iblk, V, idx_val t]

/-- The result. -/
theorem final_1 (c : Dev nD) : (dats m 0 c).arrAt 1 (cfgs 0).N =
    fun j => total (m ((c.tc : Thread nD τ).loc main_arg0)) (j 0) (j 1) := by
  refine (dats m 0 c).arrAt_eq_of_covers 1 _ (by decide +kernel) fun t hf y => ?_
  blk_simp; rw [after0_1]; frame_out
  have e : ((View.whole main_v0).slice (win0_1.rect t)).emb y = ix2 (y 0) (y 1) := by
    blk_ext! [idx_val t]
  rw [e]
  idx_vars y
  pointwise [k0_pay1]
  simp only [blk_p]
  simp only [total, Fin.sum_univ_eight]

/-- The kernel's result. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = (fun j => total (m ((c.tc : Thread nD τ).loc main_arg0)) (j 0) (j 1))
      ∧ r.2.mem ((c.tc : Thread nD τ).loc main_arg0) = m ((c.tc : Thread nD τ).loc main_arg0) := by
  refine (θ_run _ _ _).mono (fun r hr c => ?_) (Cert.SumgatesIdeal.Value.run_blocks m ρ)
  have := hr c
  rw [final_1] at this
  exact this

end Cert.SumgatesIdeal.Eqn

end
-- ==== Proof.SumgatesClaim.lean ====
/- The sum of the gates' parts: the kernel and the reference compute one function of any arguments. -/
module

public import proofs.«01_k».proof.Defs
public import proofs.«01_k».proof.Proof.SumgatesRef
public import proofs.«01_k».proof.Proof.SumgatesKernel
public import Idealize.ShloMosaic.Adequacy

@[expose] public section

noncomputable section

namespace Cert.SumgatesClaim

open Idealize.ShloMosaic Idealize.ShloMosaic.TcCoe Idealize.SL.Sem
open Cert.SumgatesIdeal

/-- The reference runs, faults nowhere and leaves its arguments alone. -/
theorem frame_ref : Cert.quiescent_SumgatesRefIdeal := by
  intro m ρ _
  exact (θ_run _ _ _).mono (fun r h => ⟨fun c => (h c).2, sem_eq_zero_of_no_sems (by decide) r.2⟩)
    (Cert.SumgatesRefIdeal.Value.run (F := Ideal) m ρ)

/-- The value claim. -/
theorem algebraic : Cert.algebraic_SumgatesIdeal_SumgatesRefIdeal := by
  intro m g m' g' hpre heq
  refine ⟨_, Eqn.run_value m g, (θ_run _ _ _).mono (fun r hr c => ?_) (Cert.SumgatesRefIdeal.Eqn.run_value m' g')⟩
  obtain ⟨h0, hk⟩ := hr c
  refine ⟨h0.trans ?_, hk⟩
  · rw [heq c]
    rfl

end Cert.SumgatesClaim

end
-- ==== Proof.SwigluRef.lean ====
/- What the reference of the swiglu computes. -/
module

public import proofs.«01_k».proof.Proof.FwdMath
public import proofs.«01_k».proof.Proof.Gen.SwigluRefIdeal.Run

@[expose] public section

set_option maxRecDepth 16384

noncomputable section

namespace Cert.SwigluRefIdeal.Eqn

open Cert.SwigluRefIdeal Cert.SwigluRefIdeal.Gen Cert.SwigluRefIdeal.Value
open Idealize.ShloMosaic Idealize.ShloMosaic.TcCoe Idealize.SL.Sem
open Cert.FwdMath

variable (m : (ℓ : Loc nD τ sig) → Buf (Elt Ideal) ℓ)

/-- The reference's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v7) = (fun j => halves (m ((c.tc : Thread nD τ).loc main_arg0)) (m ((c.tc : Thread nD τ).loc main_arg1)) (j 0) (j 2) (j 3))
      ∧ r.2.mem ((c.tc : Thread nD τ).loc main_v11) = (fun j => swiglu (m ((c.tc : Thread nD τ).loc main_arg0)) (m ((c.tc : Thread nD τ).loc main_arg1)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (run m ρ)
  obtain ⟨h0, h1, hk⟩ := hr c
  refine ⟨h0.trans (funext fun j => ?_), h1.trans (funext fun j => ?_), hk⟩
  all_goals
    idx_vars j
    pointwise []
    try simp only [zero_sub]
    rfl

end Cert.SwigluRefIdeal.Eqn

end
-- ==== Proof.SwigluKernel.lean ====
/- What the kernel of the swiglu computes: the gate's and the gated value's weights packed side by side once for each tile of columns, one product, then the gate. -/
module

public import proofs.«01_k».proof.Proof.FwdMath
public import Idealize.ShloMosaic.Lib.Pipeline.ReadBack
public import proofs.«01_k».proof.Proof.Gen.SwigluIdeal.Value

@[expose] public section

set_option maxRecDepth 16384

noncomputable section

namespace Cert.SwigluIdeal.Eqn

open Cert.SwigluIdeal Cert.SwigluIdeal.Gen
open Idealize.ShloMosaic Idealize.ShloMosaic.TcCoe Idealize.SL.Sem
open Cert.FwdMath

variable (m : (ℓ : Loc nD τ sig) → Buf (Elt Ideal) ℓ)

/-- The rows and the weight the kernel is handed: the weight a block of columns at a time, the gate's four before the gated
    value's. -/
theorem entry_x (c : Dev nD) : (V m c main_v4 : S1x4096x2048.Idx → EReal) =
    broadcastInDim S1x4096x2048 ![1, 2] bcast_S4096x2048_S1x4096x2048_1_2 (truncf (F := Ideal) .bf16 (m ((c.tc : Thread nD τ).loc main_arg0)) bitsLt_bf16_f32) := by
  unfold_abbrev_sides
  try simp only [List.flatten_cons, List.flatten_nil, List.append_nil, List.cons_append, List.nil_append]
  after_results_simp
  try rfl

theorem entry_w (c : Dev nD) : (V m c main_v5 : S2x4x2048x1408.Idx → EReal) =
    shapeCast S2x4x2048x1408 (transpose S8x2048x1408 [1, 0, 2] (shapeCast S2048x8x1408 (truncf (F := Ideal) .bf16 (m ((c.tc : Thread nD τ).loc main_arg1)) bitsLt_bf16_f32)
      shapeCasts_S2048x11264_S2048x8x1408) transposes_S2048x8x1408_S8x2048x1408_1_0_2) shapeCasts_S8x2048x1408_S2x4x2048x1408 := by
  unfold_abbrev_sides
  try simp only [List.flatten_cons, List.flatten_nil, List.append_nil, List.cons_append, List.nil_append]
  after_results_simp
  try rfl

/-- Every window's block index at a point of the grid. -/
theorem idx_val : ∀ t : Fin cfg0.N, win0_0.index t = ![0, t.val % 8, 0]
    ∧ win0_1.index t = ![0, t.val / 8, 0, 0]
    ∧ win0_2.index t = ![0, 0, t.val % 8, t.val / 8]
    ∧ win0_3.index t = ![0, t.val % 8, t.val / 8] :=
  (by decide +kernel : ∀ t : Fin grid0.N, _)

/-- The array's row and column that are row `a` and column `n` of tile `t`. -/
def rowOf (t : Fin cfg0.N) (a : Fin 512) : Fin 4096 := ⟨t.val % 8 * 512 + a.val, by omega⟩
def colOf (t : Fin cfg0.N) (n : Fin 1408) : Fin 5632 :=
  ⟨t.val / 8 * 1408 + n.val, by
    have : t.val < 32 := lt_of_lt_of_eq t.isLt N_0
    omega⟩

/-- The product's column that is column `n` of the packed tile of weights: a column of the gate, then one of the gated value. -/
def packOf (t : Fin cfg0.N) (n : Fin 2816) : Fin 11264 :=
  ⟨n.val / 1408 * 5632 + t.val / 8 * 1408 + n.val % 1408, by
    have : t.val < 32 := lt_of_lt_of_eq t.isLt N_0
    omega⟩

/-- The blocks at coordinates: a tile of rows. -/
theorem blk_x (c : Dev nD) (t : Fin cfg0.N) (a : Fin 512) (k : Fin 2048) :
    iblk m c 0 t (ix3 0 a k) = m ((c.tc : Thread nD τ).loc main_arg0) (ix2 (rowOf t a) k) := by
  have e : (V m c main_v4 : S1x4096x2048.Idx → EReal) (ix3 0 (rowOf t a) k) = m ((c.tc : Thread nD τ).loc main_arg0) (ix2 (rowOf t a) k) := by
    rw [entry_x]
    pointwise []
  refine Eq.trans ?_ e
  blk_point [iblk, idx_val t]
  all_goals first | rfl | (simp only [rowOf, colOf]; omega)

/-- The weight at coordinates. -/
theorem w_at (c : Dev nD) (e : Fin 2) (q : Fin 4) (k : Fin 2048) (n : Fin 1408) (p : (e.val * 4 + q.val) * 1408 + n.val < 11264) :
    (V m c main_v5 : S2x4x2048x1408.Idx → EReal) (ix4 e q k n) = m ((c.tc : Thread nD τ).loc main_arg1) (ix2 k ⟨(e.val * 4 + q.val) * 1408 + n.val, p⟩) := by
  rw [entry_w]
  pointwise []

/-- Any weight's block at coordinates. -/
theorem read_w (f : S2x4x2048x1408.Idx → EReal) (t : Fin cfg0.N) (e : Fin 2) (k : Fin 2048) (n : Fin 1408) (p : t.val / 8 < 4) :
    ((cfg0.win 1).blk t).view.read (Elt Ideal) f (ix4 e 0 k n) = f (ix4 e ⟨t.val / 8, p⟩ k n) := by
  refine congrArg f ?_
  blk_ext! [idx_val t]
  all_goals rfl

/-- The weight's block at coordinates. -/
theorem blk_w (c : Dev nD) (t : Fin cfg0.N) (e : Fin 2) (k : Fin 2048) (n : Fin 1408) :
    iblk m c 1 t (ix4 e 0 k n) = m ((c.tc : Thread nD τ).loc main_arg1) (ix2 k ⟨(e.val * 4 + t.val / 8) * 1408 + n.val, by
      have : t.val < 32 := lt_of_lt_of_eq t.isLt N_0
      omega⟩) := by
  have p : t.val / 8 < 4 := by
    have : t.val < 32 := lt_of_lt_of_eq t.isLt N_0
    omega
  unfold iblk
  exact (read_w (V m c main_v5) t e k n p).trans (w_at m c e ⟨t.val / 8, p⟩ k n _)

/-- What the pack holds at a column tile: the tile's columns of the gate's weight, then of the gated value's. -/
def Packed (c : Dev nD) (t : Fin cfg0.N) (s : S2048x2816.Idx → EReal) : Prop :=
  ∀ (k : Fin 2048) (n : Fin 2816), s (ix2 k n) = m ((c.tc : Thread nD τ).loc main_arg1) (ix2 k (packOf t n))

/-- The two stores' payloads. -/
theorem pay_gate (c : Dev nD) (t : Fin cfg0.N) (k : Fin 2048) (n : Fin 1408) :
    k0_pay1 (View.ld (iblk m c 1 t) (Rect.unit ![0, 0, 0, 0] ![1, 1, 2048, 1408] inb_S2x1x2048x1408_S1x1x2048x1408_0_0_0_0)) (ix2 k n) =
      m ((c.tc : Thread nD τ).loc main_arg1) (ix2 k (packOf t ⟨n.val, by omega⟩)) := by
  pointwise [k0_pay1]
  refine (blk_w m c t 0 k n).trans (congrArg (fun q => m ((c.tc : Thread nD τ).loc main_arg1) (ix2 k q)) (Fin.ext ?_))
  simp only [packOf]
  omega

theorem pay_up (c : Dev nD) (t : Fin cfg0.N) (k : Fin 2048) (n : Fin 1408) :
    k0_pay2 (View.ld (iblk m c 1 t) (Rect.unit ![1, 0, 0, 0] ![1, 1, 2048, 1408] inb_S2x1x2048x1408_S1x1x2048x1408_1_0_0_0)) (ix2 k n) =
      m ((c.tc : Thread nD τ).loc main_arg1) (ix2 k (packOf t ⟨1408 + n.val, by omega⟩)) := by
  pointwise [k0_pay2]
  refine (blk_w m c t 1 k n).trans (congrArg (fun q => m ((c.tc : Thread nD τ).loc main_arg1) (ix2 k q)) (Fin.ext ?_))
  simp only [packOf]
  omega

/-- The two stores pack the tile. -/
theorem pieces (c : Dev nD) (t : Fin cfg0.N) : Packed m c t (View.canon (Val := Elt Ideal) (s := S2048x2816) (e := .bf16)
    [⟨Rect.unit ![0, 1408] ![2048, 1408] inb_S2048x2816_S2048x1408_0_1408,
        k0_pay2 (View.ld (iblk m c 1 t) (Rect.unit ![1, 0, 0, 0] ![1, 1, 2048, 1408] inb_S2x1x2048x1408_S1x1x2048x1408_1_0_0_0))⟩,
      ⟨Rect.unit ![0, 0] ![2048, 1408] inb_S2048x2816_S2048x1408_0_0,
        k0_pay1 (View.ld (iblk m c 1 t) (Rect.unit ![0, 0, 0, 0] ![1, 1, 2048, 1408] inb_S2x1x2048x1408_S1x1x2048x1408_0_0_0_0))⟩]) := by
  intro k n
  canon_tiles x hh
  all_goals
    idx_vars x
    obtain rfl : x0 = k := Fin.ext hh0.symm
  · exact (pay_up m c t x0 x1).trans (congrArg (fun q => m ((c.tc : Thread nD τ).loc main_arg1) (ix2 x0 (packOf t q))) (Fin.ext hh1.symm))
  · exact (pay_gate m c t x0 x1).trans (congrArg (fun q => m ((c.tc : Thread nD τ).loc main_arg1) (ix2 x0 (packOf t q))) (Fin.ext hh1.symm))

/-- Read back whole, stores that pack the tile give the pack. -/
theorem packed_back (c : Dev nD) (t : Fin cfg0.N) (L : List (View.Piece (Elt Ideal) S2048x2816 .bf16)) (h : Packed m c t (View.canon L)) :
    Packed m c t ((View.whole cc0_scratch0).readCov L (Rect.unit (s := S2048x2816) ![0, 0] ![2048, 2816] inb_S2048x2816_S2048x2816_0_0).toLoadRect) := by
  intro k n
  rw [View.readCov_eq_canon']
  refine Eq.trans (congrArg (View.canon L) ?_) (h k n)
  funext q
  fin_cases q <;> exact Fin.ext (by simp [ix2])

/-- The pack holds at every point: the first of a column tile stores it, the others find it. -/
theorem packed (c : Dev nD) (n : ℕ) (hn : n < cfg0.N) : Packed m c ⟨n, hn⟩ (outsAt0 m c n hn).2.2 := by
  induction n with
  | zero =>
    rw [outsAt0_A m c ⟨0, hn⟩ (Nat.zero_mod _)]; dsimp only; frame_out
    exact pieces m c _
  | succ n ih =>
    by_cases h0 : (n + 1) % 8 = 0
    · rw [outsAt0_A m c ⟨n + 1, hn⟩ h0]; dsimp only; frame_out
      exact pieces m c _
    · rw [outsAt0_B m c ⟨n + 1, hn⟩ h0]; dsimp only
      intro k j
      refine (ih (Nat.lt_of_succ_lt hn) k j).trans (congrArg (fun q => m ((c.tc : Thread nD τ).loc main_arg1) (ix2 k q)) (Fin.ext ?_))
      simp only [packOf]
      omega

/-- The pack at the other points. -/
theorem packed_before (c : Dev nD) (t : Fin cfg0.N) (h0 : ¬ t.val % 8 = 0) (h : t.val - 1 < cfg0.N) :
    Packed m c t (outsAt0 m c (t.val - 1) h).2.2 := by
  intro k j
  refine (packed m c (t.val - 1) h k j).trans (congrArg (fun q => m ((c.tc : Thread nD τ).loc main_arg1) (ix2 k q)) (Fin.ext ?_))
  simp only [packOf]
  omega

/-- The product of a tile of rows and the pack: the gate's columns, then the gated value's. -/
theorem gate_at (c : Dev nD) (t : Fin cfg0.N) {s : S2048x2816.Idx → EReal} (hs : Packed m c t s) (a : Fin 512) (n : Fin 1408) :
    k0_pay4 (iblk m c 0 t) s (ix2 a n) = gateOf (m ((c.tc : Thread nD τ).loc main_arg0)) (m ((c.tc : Thread nD τ).loc main_arg1)) (rowOf t a) (colOf t n) := by
  pointwise [k0_pay4, k0_pay3]
  simp only [blk_x, hs _ _]
  refine Finset.sum_congr rfl fun k _ => congrArg₂ (fun u v : EReal => u * v) rfl (congrArg (fun q => m ((c.tc : Thread nD τ).loc main_arg1) (ix2 k q)) (Fin.ext ?_))
  simp only [packOf, colOf]
  omega

theorem up_at (c : Dev nD) (t : Fin cfg0.N) {s : S2048x2816.Idx → EReal} (hs : Packed m c t s) (a : Fin 512) (n : Fin 1408) :
    k0_pay5 (iblk m c 0 t) s (ix2 a n) = upOf (m ((c.tc : Thread nD τ).loc main_arg0)) (m ((c.tc : Thread nD τ).loc main_arg1)) (rowOf t a) (colOf t n) := by
  pointwise [k0_pay5, k0_pay3]
  simp only [blk_x, hs _ _]
  refine Finset.sum_congr rfl fun k _ => congrArg₂ (fun u v : EReal => u * v) rfl (congrArg (fun q => m ((c.tc : Thread nD τ).loc main_arg1) (ix2 k q)) (Fin.ext ?_))
  simp only [packOf, colOf]
  omega

/-- The swiglu's payload. -/
theorem swiglu_at (c : Dev nD) (t : Fin cfg0.N) {s : S2048x2816.Idx → EReal} (hs : Packed m c t s) (a : Fin 512) (n : Fin 1408) :
    k0_pay8 (iblk m c 0 t) s (ix3 0 a n) = swiglu (m ((c.tc : Thread nD τ).loc main_arg0)) (m ((c.tc : Thread nD τ).loc main_arg1)) (rowOf t a) (colOf t n) := by
  pointwise [k0_pay8]
  simp only [gate_at m c t hs, up_at m c t hs, zero_sub]
  rfl

/-- The gate's payload and the gated value's. -/
theorem store_gate (c : Dev nD) (t : Fin cfg0.N) {s : S2048x2816.Idx → EReal} (hs : Packed m c t s) (a : Fin 512) (n : Fin 1408) :
    k0_pay6 (iblk m c 0 t) s (ix4 0 0 a n) = gateOf (m ((c.tc : Thread nD τ).loc main_arg0)) (m ((c.tc : Thread nD τ).loc main_arg1)) (rowOf t a) (colOf t n) := by
  pointwise [k0_pay6]
  exact gate_at m c t hs a n

theorem store_up (c : Dev nD) (t : Fin cfg0.N) {s : S2048x2816.Idx → EReal} (hs : Packed m c t s) (a : Fin 512) (n : Fin 1408) :
    k0_pay7 (iblk m c 0 t) s (ix4 0 0 a n) = upOf (m ((c.tc : Thread nD τ).loc main_arg0)) (m ((c.tc : Thread nD τ).loc main_arg1)) (rowOf t a) (colOf t n) := by
  pointwise [k0_pay7]
  exact up_at m c t hs a n

/-- The swiglu at a point of the grid. -/
theorem out_3 (c : Dev nD) (t : Fin cfg0.N) (a : Fin 512) (n : Fin 1408) :
    (outsAt0 m c t.val t.isLt).2.1 (ix3 0 a n) = swiglu (m ((c.tc : Thread nD τ).loc main_arg0)) (m ((c.tc : Thread nD τ).loc main_arg1)) (rowOf t a) (colOf t n) := by
  by_cases h0 : t.val % 8 = 0
  · rw [outsAt0_A m c t h0]; dsimp only; frame_out
    exact swiglu_at m c t (packed_back m c t _ (pieces m c t)) a n
  · rw [outsAt0_B m c t h0]; dsimp only; frame_out
    simp only [read_unread_whole]
    exact swiglu_at m c t (packed_before m c t h0 _) a n

/-- Any pack's two stores into the block. -/
theorem both (c : Dev nD) (t : Fin cfg0.N) {s : S2048x2816.Idx → EReal} (hs : Packed m c t s) (y : S2x1x512x1408.Idx) :
    View.canon (Val := Elt Ideal) (s := S2x1x512x1408) (e := .bf16)
      [⟨Rect.unit ![1, 0, 0, 0] ![1, 1, 512, 1408] inb_S2x1x512x1408_S1x1x512x1408_1_0_0_0, k0_pay7 (iblk m c 0 t) s⟩,
        ⟨Rect.unit ![0, 0, 0, 0] ![1, 1, 512, 1408] inb_S2x1x512x1408_S1x1x512x1408_0_0_0_0, k0_pay6 (iblk m c 0 t) s⟩] y =
      halves (m ((c.tc : Thread nD τ).loc main_arg0)) (m ((c.tc : Thread nD τ).loc main_arg1)) (y 0) (rowOf t (y 2)) (colOf t (y 3)) := by
  canon_tiles x hh
  all_goals
    idx_vars x
    obtain rfl : x0 = 0 := by omega
    obtain rfl : x1 = 0 := by omega
  · refine (store_up m c t hs x2 x3).trans (Eq.symm ((if_neg (by simp [hh0])).trans ?_))
    exact congrArg₂ (upOf (m ((c.tc : Thread nD τ).loc main_arg0)) (m ((c.tc : Thread nD τ).loc main_arg1))) (congrArg (rowOf t) (Fin.ext hh2)) (congrArg (colOf t) (Fin.ext hh3))
  · refine (store_gate m c t hs x2 x3).trans (Eq.symm ((if_pos (by simp [hh0])).trans ?_))
    exact congrArg₂ (gateOf (m ((c.tc : Thread nD τ).loc main_arg0)) (m ((c.tc : Thread nD τ).loc main_arg1))) (congrArg (rowOf t) (Fin.ext hh2)) (congrArg (colOf t) (Fin.ext hh3))

/-- The gate and the gated value at a point of the grid. -/
theorem out_2 (c : Dev nD) (t : Fin cfg0.N) (y : S2x1x512x1408.Idx) :
    (outsAt0 m c t.val t.isLt).1 y = halves (m ((c.tc : Thread nD τ).loc main_arg0)) (m ((c.tc : Thread nD τ).loc main_arg1)) (y 0) (rowOf t (y 2)) (colOf t (y 3)) := by
  by_cases h0 : t.val % 8 = 0
  · rw [outsAt0_A m c t h0]; dsimp only; frame_out
    exact both m c t (packed_back m c t _ (pieces m c t)) y
  · rw [outsAt0_B m c t h0]; dsimp only; frame_out
    simp only [read_unread_whole]
    exact both m c t (packed_before m c t h0 _) y

/-- The products after the last tile. -/
theorem final_2 (c : Dev nD) : (dats m 0 c).arrAt 2 (cfgs 0).N =
    (fun j => halves (m ((c.tc : Thread nD τ).loc main_arg0)) (m ((c.tc : Thread nD τ).loc main_arg1)) (j 0) (j 2) (j 3)) := by
  refine (dats m 0 c).arrAt_eq_of_covers 2 _ (by decide +kernel) fun t hf y => ?_
  blk_simp; rw [after0_2]
  refine (out_2 m c t y).trans ?_
  have e : ((View.whole main_v6_0).slice (win0_2.rect t)).emb y = ix4 (y 0) 0 (rowOf t (y 2)) (colOf t (y 3)) := by
    blk_ext! [idx_val t]
    all_goals rfl
  rw [e]
  rfl

/-- The swiglu after the last tile. -/
theorem final_3 (c : Dev nD) : (dats m 0 c).arrAt 3 (cfgs 0).N =
    (fun j => swiglu (m ((c.tc : Thread nD τ).loc main_arg0)) (m ((c.tc : Thread nD τ).loc main_arg1)) (j 1) (j 2)) := by
  refine (dats m 0 c).arrAt_eq_of_covers 3 _ (by decide +kernel) fun t hf y => ?_
  blk_simp; rw [after0_3]
  have e : ((View.whole main_v6_1).slice (win0_3.rect t)).emb y = ix3 0 (rowOf t (y 1)) (colOf t (y 2)) := by
    blk_ext! [idx_val t]
    all_goals rfl
  rw [e]
  idx_vars y
  obtain rfl : y0 = 0 := by omega
  exact out_3 m c t y1 y2

/-- The kernel's results. -/
theorem run_value (ρ : Dev nD → PrngReg) :
    θ_run defs (onTc (τ := τ) (main (F := Ideal))) ⟨m, fun _ => 0, ρ⟩ fun r => ∀ c : Dev nD,
      r.2.mem ((c.tc : Thread nD τ).loc main_v6_0) = (fun j => halves (m ((c.tc : Thread nD τ).loc main_arg0)) (m ((c.tc : Thread nD τ).loc main_arg1)) (j 0) (j 2) (j 3))
      ∧ r.2.mem ((c.tc : Thread nD τ).loc main_v6_1) = (fun j => swiglu (m ((c.tc : Thread nD τ).loc main_arg0)) (m ((c.tc : Thread nD τ).loc main_arg1)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r hr c => ?_) (Cert.SwigluIdeal.Value.run_blocks m ρ)
  have := hr c
  rw [final_2, final_3] at this
  exact this

end Cert.SwigluIdeal.Eqn

end
-- ==== Proof.SwigluClaim.lean ====
/- The swiglu: the kernel and the reference compute one function of any arguments. -/
module

public import proofs.«01_k».proof.Defs
public import proofs.«01_k».proof.Proof.SwigluRef
public import proofs.«01_k».proof.Proof.SwigluKernel
public import Idealize.ShloMosaic.Adequacy

@[expose] public section

noncomputable section

namespace Cert.SwigluClaim

open Idealize.ShloMosaic Idealize.ShloMosaic.TcCoe Idealize.SL.Sem
open Cert.SwigluIdeal

/-- The reference runs, faults nowhere and leaves its arguments alone. -/
theorem frame_ref : Cert.quiescent_SwigluRefIdeal := by
  intro m ρ _
  exact (θ_run _ _ _).mono (fun r h => ⟨fun c => (h c).2.2, sem_eq_zero_of_no_sems (by decide) r.2⟩)
    (Cert.SwigluRefIdeal.Value.run (F := Ideal) m ρ)

/-- The value claim. -/
theorem algebraic : Cert.algebraic_SwigluIdeal_SwigluRefIdeal := by
  intro m g m' g' hpre heq
  refine ⟨_, _, Eqn.run_value m g, (θ_run _ _ _).mono (fun r hr c => ?_) (Cert.SwigluRefIdeal.Eqn.run_value m' g')⟩
  obtain ⟨h0, h1, hk⟩ := hr c
  refine ⟨h0.trans ?_, h1.trans ?_, hk⟩
  · rw [(heq c).1, (heq c).2]
    rfl
  · rw [(heq c).1, (heq c).2]
    rfl

end Cert.SwigluClaim

end
-- ==== Proof.lean ====
module

public import proofs.«01_k».proof.Defs
public import proofs.«01_k».proof.Proof.AdamwClaim
public import proofs.«01_k».proof.Proof.AttnClaim
public import proofs.«01_k».proof.Proof.AttnFwdClaim
public import proofs.«01_k».proof.Proof.ConvClaim
public import proofs.«01_k».proof.Proof.DactClaim
public import proofs.«01_k».proof.Proof.DwinClaim
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.Attn
public import proofs.«01_k».proof.Proof.Gen.Attn.Frame
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Conv
public import proofs.«01_k».proof.Proof.Gen.ConvIdeal
public import proofs.«01_k».proof.Proof.Gen.ConvIdeal.Frame.Runs
public import proofs.«01_k».proof.Proof.Gen.ConvRefIdeal
public import proofs.«01_k».proof.Proof.Gen.ConvRefIdeal.Run
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.Dwin
public import proofs.«01_k».proof.Proof.Gen.Dwin.Frame
public import proofs.«01_k».proof.Proof.Gen.DwinIdeal
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.Join
public import proofs.«01_k».proof.Proof.Gen.Join.Frame
public import proofs.«01_k».proof.Proof.Gen.JoinIdeal
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Lru
public import proofs.«01_k».proof.Proof.Gen.LruIdeal
public import proofs.«01_k».proof.Proof.Gen.LruIdeal.Points
public import proofs.«01_k».proof.Proof.Gen.LruIdeal.Regions
public import proofs.«01_k».proof.Proof.Gen.LruIdeal.Skeleton
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Mixout
public import proofs.«01_k».proof.Proof.Gen.Mixout.Frame
public import proofs.«01_k».proof.Proof.Gen.MixoutIdeal
public import proofs.«01_k».proof.Proof.Gen.MixoutIdeal.Frame
public import proofs.«01_k».proof.Proof.Gen.MixoutIdeal.Value
public import proofs.«01_k».proof.Proof.Gen.MixoutRefIdeal
public import proofs.«01_k».proof.Proof.Gen.MixoutRefIdeal.Run
public import proofs.«01_k».proof.Proof.Gen.Norm
public import proofs.«01_k».proof.Proof.Gen.Norm.Frame
public import proofs.«01_k».proof.Proof.Gen.Norm1
public import proofs.«01_k».proof.Proof.Gen.Norm1.Frame
public import proofs.«01_k».proof.Proof.Gen.Norm1Ideal
public import proofs.«01_k».proof.Proof.Gen.Norm1Ideal.Frame
public import proofs.«01_k».proof.Proof.Gen.Norm1Ideal.Value
public import proofs.«01_k».proof.Proof.Gen.Norm1RefIdeal
public import proofs.«01_k».proof.Proof.Gen.Norm1RefIdeal.Run
public import proofs.«01_k».proof.Proof.Gen.Norm2
public import proofs.«01_k».proof.Proof.Gen.Norm2.Frame
public import proofs.«01_k».proof.Proof.Gen.Norm2Ideal
public import proofs.«01_k».proof.Proof.Gen.Norm2Ideal.Frame
public import proofs.«01_k».proof.Proof.Gen.Norm2Ideal.Value
public import proofs.«01_k».proof.Proof.Gen.Norm2RefIdeal
public import proofs.«01_k».proof.Proof.Gen.Norm2RefIdeal.Run
public import proofs.«01_k».proof.Proof.Gen.Norm3
public import proofs.«01_k».proof.Proof.Gen.Norm3.Frame
public import proofs.«01_k».proof.Proof.Gen.Norm3Ideal
public import proofs.«01_k».proof.Proof.Gen.Norm3Ideal.Frame
public import proofs.«01_k».proof.Proof.Gen.Norm3Ideal.Value
public import proofs.«01_k».proof.Proof.Gen.Norm3RefIdeal
public import proofs.«01_k».proof.Proof.Gen.Norm3RefIdeal.Run
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Pre_attn_finite
public import proofs.«01_k».proof.Proof.Gen.Pre_attnfwd_finite
public import proofs.«01_k».proof.Proof.Gen.Pre_dact_finite
public import proofs.«01_k».proof.Proof.Gen.Pre_loss_finite
public import proofs.«01_k».proof.Proof.Gen.Pre_merge_finite
public import proofs.«01_k».proof.Proof.Gen.Pre_norm1_finite
public import proofs.«01_k».proof.Proof.Gen.Pre_norm2_finite
public import proofs.«01_k».proof.Proof.Gen.Pre_norm3_finite
public import proofs.«01_k».proof.Proof.Gen.Resid
public import proofs.«01_k».proof.Proof.Gen.Resid.Frame
public import proofs.«01_k».proof.Proof.Gen.ResidIdeal
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.Sumgates
public import proofs.«01_k».proof.Proof.Gen.Sumgates.Frame
public import proofs.«01_k».proof.Proof.Gen.SumgatesIdeal
public import proofs.«01_k».proof.Proof.Gen.SumgatesIdeal.Frame
public import proofs.«01_k».proof.Proof.Gen.SumgatesIdeal.Value
public import proofs.«01_k».proof.Proof.Gen.SumgatesRefIdeal
public import proofs.«01_k».proof.Proof.Gen.SumgatesRefIdeal.Run
public import proofs.«01_k».proof.Proof.Gen.Swiglu
public import proofs.«01_k».proof.Proof.Gen.Swiglu.Frame
public import proofs.«01_k».proof.Proof.Gen.SwigluIdeal
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.JoinClaim
public import proofs.«01_k».proof.Proof.LossClaim
public import proofs.«01_k».proof.Proof.LruClaim
public import proofs.«01_k».proof.Proof.MergeClaim
public import proofs.«01_k».proof.Proof.MixoutClaim
public import proofs.«01_k».proof.Proof.Norm1Claim
public import proofs.«01_k».proof.Proof.Norm2Claim
public import proofs.«01_k».proof.Proof.Norm3Claim
public import proofs.«01_k».proof.Proof.NormClaim
public import proofs.«01_k».proof.Proof.ResidClaim
public import proofs.«01_k».proof.Proof.SumgatesClaim
public import proofs.«01_k».proof.Proof.SwigluClaim

@[expose] public section

noncomputable section

namespace Cert.Proof

open Idealize.ShloMosaic Idealize.SL.Sem

/-- Every claim of the certificate. -/
theorem claim : Cert.Claim := ⟨Cert.Norm1.Gen.facts, Cert.Norm1Ideal.Gen.facts, Cert.Norm1RefIdeal.Gen.facts, Cert.Norm3.Gen.facts, Cert.Norm3Ideal.Gen.facts, Cert.Norm3RefIdeal.Gen.facts, Cert.Norm2.Gen.facts, Cert.Norm2Ideal.Gen.facts, Cert.Norm2RefIdeal.Gen.facts, Cert.Loss.Gen.facts, Cert.LossIdeal.Gen.facts, Cert.LossRefIdeal.Gen.facts, Cert.Conv.Gen.facts, Cert.ConvIdeal.Gen.facts, Cert.ConvRefIdeal.Gen.facts, Cert.Attn.Gen.facts, Cert.AttnIdeal.Gen.facts, Cert.AttnRefIdeal.Gen.facts, Cert.Dact.Gen.facts, Cert.DactIdeal.Gen.facts, Cert.DactRefIdeal.Gen.facts, Cert.Merge.Gen.facts, Cert.MergeIdeal.Gen.facts, Cert.MergeRefIdeal.Gen.facts, Cert.AttnFwd.Gen.facts, Cert.AttnFwdIdeal.Gen.facts, Cert.AttnFwdRefIdeal.Gen.facts, Cert.Norm.Gen.facts, Cert.NormIdeal.Gen.facts, Cert.NormRefIdeal.Gen.facts, Cert.Swiglu.Gen.facts, Cert.SwigluIdeal.Gen.facts, Cert.SwigluRefIdeal.Gen.facts, Cert.Resid.Gen.facts, Cert.ResidIdeal.Gen.facts, Cert.ResidRefIdeal.Gen.facts, Cert.Mixout.Gen.facts, Cert.MixoutIdeal.Gen.facts, Cert.MixoutRefIdeal.Gen.facts, Cert.Dwin.Gen.facts, Cert.DwinIdeal.Gen.facts, Cert.DwinRefIdeal.Gen.facts, Cert.Adamw.Gen.facts, Cert.AdamwIdeal.Gen.facts, Cert.AdamwRefIdeal.Gen.facts, Cert.Sumgates.Gen.facts, Cert.SumgatesIdeal.Gen.facts, Cert.SumgatesRefIdeal.Gen.facts, Cert.Join.Gen.facts, Cert.JoinIdeal.Gen.facts, Cert.JoinRefIdeal.Gen.facts, Cert.Lru.Gen.facts, Cert.LruIdeal.Gen.facts, Cert.Pre_norm1_finite.Gen.facts, Cert.Pre_norm3_finite.Gen.facts, Cert.Pre_norm2_finite.Gen.facts, Cert.Pre_loss_finite.Gen.facts, Cert.Pre_attn_finite.Gen.facts, Cert.Pre_dact_finite.Gen.facts, Cert.Pre_merge_finite.Gen.facts, Cert.Pre_attnfwd_finite.Gen.facts,
  fun m ρ _ => Cert.Norm1.Gen.frame m ρ,
  fun m ρ _ => Cert.Norm1Ideal.Gen.frame m ρ,
  fun m ρ _ => Cert.Norm1Ideal.Gen.frame m ρ,
  fun m ρ _ => Cert.Norm1Claim.frame_ref m ρ trivial,
  fun m ρ _ => Cert.Norm1Claim.frame_ref m ρ trivial,
  fun m ρ _ => Cert.Norm3.Gen.frame m ρ,
  fun m ρ _ => Cert.Norm3Ideal.Gen.frame m ρ,
  fun m ρ _ => Cert.Norm3Ideal.Gen.frame m ρ,
  fun m ρ _ => Cert.Norm3Claim.frame_ref m ρ trivial,
  fun m ρ _ => Cert.Norm3Claim.frame_ref m ρ trivial,
  fun m ρ _ => Cert.Norm2.Gen.frame m ρ,
  fun m ρ _ => Cert.Norm2Ideal.Gen.frame m ρ,
  fun m ρ _ => Cert.Norm2Ideal.Gen.frame m ρ,
  fun m ρ _ => Cert.Norm2Claim.frame_ref m ρ trivial,
  fun m ρ _ => Cert.Norm2Claim.frame_ref m ρ trivial,
  fun m ρ _ => Cert.Loss.Gen.frame m ρ,
  fun m ρ _ => Cert.LossIdeal.Gen.frame m ρ,
  fun m ρ _ => Cert.LossIdeal.Gen.frame m ρ,
  fun m ρ _ => Cert.LossClaim.frame_ref m ρ trivial,
  fun m ρ _ => Cert.LossClaim.frame_ref m ρ trivial,
  fun m ρ _ => Cert.ConvClaim.frame_kernel m ρ trivial,
  fun m ρ _ => Cert.ConvClaim.frame_ideal m ρ trivial,
  fun m ρ _ => Cert.ConvClaim.frame_ref m ρ trivial,
  fun m ρ _ => Cert.Attn.Gen.frame m ρ,
  fun m ρ _ => Cert.AttnIdeal.Gen.frame m ρ,
  fun m ρ _ => Cert.AttnIdeal.Gen.frame m ρ,
  fun m ρ _ => Cert.AttnClaim.frame_ref m ρ trivial,
  fun m ρ _ => Cert.AttnClaim.frame_ref m ρ trivial,
  fun m ρ _ => Cert.Dact.Gen.frame m ρ,
  fun m ρ _ => Cert.DactIdeal.Gen.frame m ρ,
  fun m ρ _ => Cert.DactIdeal.Gen.frame m ρ,
  fun m ρ _ => Cert.DactClaim.frame_ref m ρ trivial,
  fun m ρ _ => Cert.DactClaim.frame_ref m ρ trivial,
  fun m ρ _ => Cert.Merge.Gen.frame m ρ,
  fun m ρ _ => Cert.MergeIdeal.Gen.frame m ρ,
  fun m ρ _ => Cert.MergeIdeal.Gen.frame m ρ,
  fun m ρ _ => Cert.MergeClaim.frame_ref m ρ trivial,
  fun m ρ _ => Cert.MergeClaim.frame_ref m ρ trivial,
  fun m ρ _ => Cert.AttnFwd.Gen.frame m ρ,
  fun m ρ _ => Cert.AttnFwdIdeal.Gen.frame m ρ,
  fun m ρ _ => Cert.AttnFwdIdeal.Gen.frame m ρ,
  fun m ρ _ => Cert.AttnFwdClaim.frame_ref m ρ trivial,
  fun m ρ _ => Cert.AttnFwdClaim.frame_ref m ρ trivial,
  fun m ρ _ => Cert.Norm.Gen.frame m ρ,
  fun m ρ _ => Cert.NormIdeal.Gen.frame m ρ,
  fun m ρ _ => Cert.NormClaim.frame_ref m ρ trivial,
  fun m ρ _ => Cert.Swiglu.Gen.frame m ρ,
  fun m ρ _ => Cert.SwigluIdeal.Gen.frame m ρ,
  fun m ρ _ => Cert.SwigluClaim.frame_ref m ρ trivial,
  fun m ρ _ => Cert.Resid.Gen.frame m ρ,
  fun m ρ _ => Cert.ResidIdeal.Gen.frame m ρ,
  fun m ρ _ => Cert.ResidClaim.frame_ref m ρ trivial,
  fun m ρ _ => Cert.Mixout.Gen.frame m ρ,
  fun m ρ _ => Cert.MixoutIdeal.Gen.frame m ρ,
  fun m ρ _ => Cert.MixoutClaim.frame_ref m ρ trivial,
  fun m ρ _ => Cert.Dwin.Gen.frame m ρ,
  fun m ρ _ => Cert.DwinIdeal.Gen.frame m ρ,
  fun m ρ _ => Cert.DwinClaim.frame_ref m ρ trivial,
  fun m ρ _ => Cert.Adamw.Gen.frame m ρ,
  fun m ρ _ => Cert.AdamwIdeal.Gen.frame m ρ,
  fun m ρ _ => Cert.AdamwClaim.frame_ref m ρ trivial,
  fun m ρ _ => Cert.Sumgates.Gen.frame m ρ,
  fun m ρ _ => Cert.SumgatesIdeal.Gen.frame m ρ,
  fun m ρ _ => Cert.SumgatesClaim.frame_ref m ρ trivial,
  fun m ρ _ => Cert.Join.Gen.frame m ρ,
  fun m ρ _ => Cert.JoinIdeal.Gen.frame m ρ,
  fun m ρ _ => Cert.JoinClaim.frame_ref m ρ trivial,
  fun m ρ _ => Cert.LruClaim.frame_kernel m ρ trivial,
  fun m ρ _ => Cert.LruClaim.frame_ideal m ρ trivial,
  trivial,
  Cert.Norm1Claim.algebraic,
  trivial,
  Cert.Norm3Claim.algebraic,
  trivial,
  Cert.Norm2Claim.algebraic,
  trivial,
  Cert.LossClaim.algebraic,
  trivial,
  Cert.ConvClaim.algebraic,
  trivial,
  Cert.AttnClaim.algebraic,
  trivial,
  Cert.DactClaim.algebraic,
  trivial,
  Cert.MergeClaim.algebraic,
  trivial,
  Cert.AttnFwdClaim.algebraic,
  trivial,
  Cert.NormClaim.algebraic,
  trivial,
  Cert.SwigluClaim.algebraic,
  trivial,
  Cert.ResidClaim.algebraic,
  trivial,
  Cert.MixoutClaim.algebraic,
  trivial,
  Cert.DwinClaim.algebraic,
  trivial,
  Cert.AdamwClaim.algebraic,
  trivial,
  Cert.SumgatesClaim.algebraic,
  trivial,
  Cert.JoinClaim.algebraic,
  trivial⟩

end Cert.Proof

end
